-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelDfIn (m : (ℓ : Loc Cert.KernelDfIn.nD Cert.KernelDfIn.τ Cert.KernelDfIn.sig) → Buf (Elt Bits) ℓ) : Prop :=
  True

def Pre_KernelDfInIdeal (m : (ℓ : Loc Cert.KernelDfInIdeal.nD Cert.KernelDfInIdeal.τ Cert.KernelDfInIdeal.sig) → Buf (Elt Ideal) ℓ) : Prop :=
  True

def Pre_ReferenceDfInIdeal (m : (ℓ : Loc Cert.ReferenceDfInIdeal.nD Cert.ReferenceDfInIdeal.τ Cert.ReferenceDfInIdeal.sig) → Buf (Elt Ideal) ℓ) : Prop :=
  True

def Pre_KernelOutN (m : (ℓ : Loc Cert.KernelOutN.nD Cert.KernelOutN.τ Cert.KernelOutN.sig) → Buf (Elt Bits) ℓ) : Prop :=
  True

def Pre_KernelOutNIdeal (m : (ℓ : Loc Cert.KernelOutNIdeal.nD Cert.KernelOutNIdeal.τ Cert.KernelOutNIdeal.sig) → Buf (Elt Ideal) ℓ) : Prop :=
  True

def Pre_ReferenceOutNIdeal (m : (ℓ : Loc Cert.ReferenceOutNIdeal.nD Cert.ReferenceOutNIdeal.τ Cert.ReferenceOutNIdeal.sig) → Buf (Elt Ideal) ℓ) : Prop :=
  True

def Pre_KernelInP (m : (ℓ : Loc Cert.KernelInP.nD Cert.KernelInP.τ Cert.KernelInP.sig) → Buf (Elt Bits) ℓ) : Prop :=
  True

def Pre_KernelInPIdeal (m : (ℓ : Loc Cert.KernelInPIdeal.nD Cert.KernelInPIdeal.τ Cert.KernelInPIdeal.sig) → Buf (Elt Ideal) ℓ) : Prop :=
  True

def Pre_ReferenceInPIdeal (m : (ℓ : Loc Cert.ReferenceInPIdeal.nD Cert.ReferenceInPIdeal.τ Cert.ReferenceInPIdeal.sig) → Buf (Elt Ideal) ℓ) : Prop :=
  True

def Pre_KernelDf (m : (ℓ : Loc Cert.KernelDf.nD Cert.KernelDf.τ Cert.KernelDf.sig) → Buf (Elt Bits) ℓ) : Prop :=
  True

def Pre_KernelDfIdeal (m : (ℓ : Loc Cert.KernelDfIdeal.nD Cert.KernelDfIdeal.τ Cert.KernelDfIdeal.sig) → Buf (Elt Ideal) ℓ) : Prop :=
  True

def Pre_ReferenceDfIdeal (m : (ℓ : Loc Cert.ReferenceDfIdeal.nD Cert.ReferenceDfIdeal.τ Cert.ReferenceDfIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelDfIn [hKernelDfIn : Cert.KernelDfIn.Facts] : Prop :=
  ∀ (m : (ℓ : Loc Cert.KernelDfIn.nD Cert.KernelDfIn.τ Cert.KernelDfIn.sig) → Buf (Elt Bits) ℓ) (g : Dev Cert.KernelDfIn.nD → PrngReg), Pre_KernelDfIn m →
    θ_run (Cert.KernelDfIn.defs (F := Bits)) (onTc (τ := Cert.KernelDfIn.τ) (Cert.KernelDfIn.main (F := Bits))) ⟨m, fun _ => 0, g⟩ (fun r => (∀ c : Dev Cert.KernelDfIn.nD,
      r.2.mem ((c.tc : Thread Cert.KernelDfIn.nD Cert.KernelDfIn.τ).loc Cert.KernelDfIn.main_arg0) = m ((c.tc : Thread Cert.KernelDfIn.nD Cert.KernelDfIn.τ).loc Cert.KernelDfIn.main_arg0)
      ∧ r.2.mem ((c.tc : Thread Cert.KernelDfIn.nD Cert.KernelDfIn.τ).loc Cert.KernelDfIn.main_arg1) = m ((c.tc : Thread Cert.KernelDfIn.nD Cert.KernelDfIn.τ).loc Cert.KernelDfIn.main_arg1)
      ∧ r.2.mem ((c.tc : Thread Cert.KernelDfIn.nD Cert.KernelDfIn.τ).loc Cert.KernelDfIn.main_arg2) = m ((c.tc : Thread Cert.KernelDfIn.nD Cert.KernelDfIn.τ).loc Cert.KernelDfIn.main_arg2)
      ∧ r.2.mem ((c.tc : Thread Cert.KernelDfIn.nD Cert.KernelDfIn.τ).loc Cert.KernelDfIn.main_arg3) = m ((c.tc : Thread Cert.KernelDfIn.nD Cert.KernelDfIn.τ).loc Cert.KernelDfIn.main_arg3)
      ∧ r.2.mem ((c.tc : Thread Cert.KernelDfIn.nD Cert.KernelDfIn.τ).loc Cert.KernelDfIn.main_arg4) = m ((c.tc : Thread Cert.KernelDfIn.nD Cert.KernelDfIn.τ).loc Cert.KernelDfIn.main_arg4))
      ∧ r.2.sem = fun _ => 0)

def quiescent_KernelDfInIdeal [hKernelDfInIdeal : Cert.KernelDfInIdeal.Facts] : Prop :=
  ∀ (m : (ℓ : Loc Cert.KernelDfInIdeal.nD Cert.KernelDfInIdeal.τ Cert.KernelDfInIdeal.sig) → Buf (Elt Ideal) ℓ) (g : Dev Cert.KernelDfInIdeal.nD → PrngReg), Pre_KernelDfInIdeal m →
    θ_run (Cert.KernelDfInIdeal.defs (F := Ideal)) (onTc (τ := Cert.KernelDfInIdeal.τ) (Cert.KernelDfInIdeal.main (F := Ideal))) ⟨m, fun _ => 0, g⟩ (fun r => (∀ c : Dev Cert.KernelDfInIdeal.nD,
      r.2.mem ((c.tc : Thread Cert.KernelDfInIdeal.nD Cert.KernelDfInIdeal.τ).loc Cert.KernelDfInIdeal.main_arg0) = m ((c.tc : Thread Cert.KernelDfInIdeal.nD Cert.KernelDfInIdeal.τ).loc Cert.KernelDfInIdeal.main_arg0)
      ∧ r.2.mem ((c.tc : Thread Cert.KernelDfInIdeal.nD Cert.KernelDfInIdeal.τ).loc Cert.KernelDfInIdeal.main_arg1) = m ((c.tc : Thread Cert.KernelDfInIdeal.nD Cert.KernelDfInIdeal.τ).loc Cert.KernelDfInIdeal.main_arg1)
      ∧ r.2.mem ((c.tc : Thread Cert.KernelDfInIdeal.nD Cert.KernelDfInIdeal.τ).loc Cert.KernelDfInIdeal.main_arg2) = m ((c.tc : Thread Cert.KernelDfInIdeal.nD Cert.KernelDfInIdeal.τ).loc Cert.KernelDfInIdeal.main_arg2)
      ∧ r.2.mem ((c.tc : Thread Cert.KernelDfInIdeal.nD Cert.KernelDfInIdeal.τ).loc Cert.KernelDfInIdeal.main_arg3) = m ((c.tc : Thread Cert.KernelDfInIdeal.nD Cert.KernelDfInIdeal.τ).loc Cert.KernelDfInIdeal.main_arg3)
      ∧ r.2.mem ((c.tc : Thread Cert.KernelDfInIdeal.nD Cert.KernelDfInIdeal.τ).loc Cert.KernelDfInIdeal.main_arg4) = m ((c.tc : Thread Cert.KernelDfInIdeal.nD Cert.KernelDfInIdeal.τ).loc Cert.KernelDfInIdeal.main_arg4))
      ∧ r.2.sem = fun _ => 0)

def quiescent_ReferenceDfInIdeal [hReferenceDfInIdeal : Cert.ReferenceDfInIdeal.Facts] : Prop :=
  ∀ (m : (ℓ : Loc Cert.ReferenceDfInIdeal.nD Cert.ReferenceDfInIdeal.τ Cert.ReferenceDfInIdeal.sig) → Buf (Elt Ideal) ℓ) (g : Dev Cert.ReferenceDfInIdeal.nD → PrngReg), Pre_ReferenceDfInIdeal m →
    θ_run (Cert.ReferenceDfInIdeal.defs (F := Ideal)) (onTc (τ := Cert.ReferenceDfInIdeal.τ) (Cert.ReferenceDfInIdeal.main (F := Ideal))) ⟨m, fun _ => 0, g⟩ (fun r => (∀ c : Dev Cert.ReferenceDfInIdeal.nD,
      r.2.mem ((c.tc : Thread Cert.ReferenceDfInIdeal.nD Cert.ReferenceDfInIdeal.τ).loc Cert.ReferenceDfInIdeal.main_arg0) = m ((c.tc : Thread Cert.ReferenceDfInIdeal.nD Cert.ReferenceDfInIdeal.τ).loc Cert.ReferenceDfInIdeal.main_arg0)
      ∧ r.2.mem ((c.tc : Thread Cert.ReferenceDfInIdeal.nD Cert.ReferenceDfInIdeal.τ).loc Cert.ReferenceDfInIdeal.main_arg1) = m ((c.tc : Thread Cert.ReferenceDfInIdeal.nD Cert.ReferenceDfInIdeal.τ).loc Cert.ReferenceDfInIdeal.main_arg1)
      ∧ r.2.mem ((c.tc : Thread Cert.ReferenceDfInIdeal.nD Cert.ReferenceDfInIdeal.τ).loc Cert.ReferenceDfInIdeal.main_arg2) = m ((c.tc : Thread Cert.ReferenceDfInIdeal.nD Cert.ReferenceDfInIdeal.τ).loc Cert.ReferenceDfInIdeal.main_arg2)
      ∧ r.2.mem ((c.tc : Thread Cert.ReferenceDfInIdeal.nD Cert.ReferenceDfInIdeal.τ).loc Cert.ReferenceDfInIdeal.main_arg3) = m ((c.tc : Thread Cert.ReferenceDfInIdeal.nD Cert.ReferenceDfInIdeal.τ).loc Cert.ReferenceDfInIdeal.main_arg3)
      ∧ r.2.mem ((c.tc : Thread Cert.ReferenceDfInIdeal.nD Cert.ReferenceDfInIdeal.τ).loc Cert.ReferenceDfInIdeal.main_arg4) = m ((c.tc : Thread Cert.ReferenceDfInIdeal.nD Cert.ReferenceDfInIdeal.τ).loc Cert.ReferenceDfInIdeal.main_arg4))
      ∧ r.2.sem = fun _ => 0)

def quiescent_KernelOutN [hKernelOutN : Cert.KernelOutN.Facts] : Prop :=
  ∀ (m : (ℓ : Loc Cert.KernelOutN.nD Cert.KernelOutN.τ Cert.KernelOutN.sig) → Buf (Elt Bits) ℓ) (g : Dev Cert.KernelOutN.nD → PrngReg), Pre_KernelOutN m →
    θ_run (Cert.KernelOutN.defs (F := Bits)) (onTc (τ := Cert.KernelOutN.τ) (Cert.KernelOutN.main (F := Bits))) ⟨m, fun _ => 0, g⟩ (fun r => (∀ c : Dev Cert.KernelOutN.nD,
      r.2.mem ((c.tc : Thread Cert.KernelOutN.nD Cert.KernelOutN.τ).loc Cert.KernelOutN.main_arg0) = m ((c.tc : Thread Cert.KernelOutN.nD Cert.KernelOutN.τ).loc Cert.KernelOutN.main_arg0)
      ∧ r.2.mem ((c.tc : Thread Cert.KernelOutN.nD Cert.KernelOutN.τ).loc Cert.KernelOutN.main_arg1) = m ((c.tc : Thread Cert.KernelOutN.nD Cert.KernelOutN.τ).loc Cert.KernelOutN.main_arg1)
      ∧ r.2.mem ((c.tc : Thread Cert.KernelOutN.nD Cert.KernelOutN.τ).loc Cert.KernelOutN.main_arg2) = m ((c.tc : Thread Cert.KernelOutN.nD Cert.KernelOutN.τ).loc Cert.KernelOutN.main_arg2)
      ∧ r.2.mem ((c.tc : Thread Cert.KernelOutN.nD Cert.KernelOutN.τ).loc Cert.KernelOutN.main_arg3) = m ((c.tc : Thread Cert.KernelOutN.nD Cert.KernelOutN.τ).loc Cert.KernelOutN.main_arg3))
      ∧ r.2.sem = fun _ => 0)

def quiescent_KernelOutNIdeal [hKernelOutNIdeal : Cert.KernelOutNIdeal.Facts] : Prop :=
  ∀ (m : (ℓ : Loc Cert.KernelOutNIdeal.nD Cert.KernelOutNIdeal.τ Cert.KernelOutNIdeal.sig) → Buf (Elt Ideal) ℓ) (g : Dev Cert.KernelOutNIdeal.nD → PrngReg), Pre_KernelOutNIdeal m →
    θ_run (Cert.KernelOutNIdeal.defs (F := Ideal)) (onTc (τ := Cert.KernelOutNIdeal.τ) (Cert.KernelOutNIdeal.main (F := Ideal))) ⟨m, fun _ => 0, g⟩ (fun r => (∀ c : Dev Cert.KernelOutNIdeal.nD,
      r.2.mem ((c.tc : Thread Cert.KernelOutNIdeal.nD Cert.KernelOutNIdeal.τ).loc Cert.KernelOutNIdeal.main_arg0) = m ((c.tc : Thread Cert.KernelOutNIdeal.nD Cert.KernelOutNIdeal.τ).loc Cert.KernelOutNIdeal.main_arg0)
      ∧ r.2.mem ((c.tc : Thread Cert.KernelOutNIdeal.nD Cert.KernelOutNIdeal.τ).loc Cert.KernelOutNIdeal.main_arg1) = m ((c.tc : Thread Cert.KernelOutNIdeal.nD Cert.KernelOutNIdeal.τ).loc Cert.KernelOutNIdeal.main_arg1)
      ∧ r.2.mem ((c.tc : Thread Cert.KernelOutNIdeal.nD Cert.KernelOutNIdeal.τ).loc Cert.KernelOutNIdeal.main_arg2) = m ((c.tc : Thread Cert.KernelOutNIdeal.nD Cert.KernelOutNIdeal.τ).loc Cert.KernelOutNIdeal.main_arg2)
      ∧ r.2.mem ((c.tc : Thread Cert.KernelOutNIdeal.nD Cert.KernelOutNIdeal.τ).loc Cert.KernelOutNIdeal.main_arg3) = m ((c.tc : Thread Cert.KernelOutNIdeal.nD Cert.KernelOutNIdeal.τ).loc Cert.KernelOutNIdeal.main_arg3))
      ∧ r.2.sem = fun _ => 0)

def quiescent_ReferenceOutNIdeal [hReferenceOutNIdeal : Cert.ReferenceOutNIdeal.Facts] : Prop :=
  ∀ (m : (ℓ : Loc Cert.ReferenceOutNIdeal.nD Cert.ReferenceOutNIdeal.τ Cert.ReferenceOutNIdeal.sig) → Buf (Elt Ideal) ℓ) (g : Dev Cert.ReferenceOutNIdeal.nD → PrngReg), Pre_ReferenceOutNIdeal m →
    θ_run (Cert.ReferenceOutNIdeal.defs (F := Ideal)) (onTc (τ := Cert.ReferenceOutNIdeal.τ) (Cert.ReferenceOutNIdeal.main (F := Ideal))) ⟨m, fun _ => 0, g⟩ (fun r => (∀ c : Dev Cert.ReferenceOutNIdeal.nD,
      r.2.mem ((c.tc : Thread Cert.ReferenceOutNIdeal.nD Cert.ReferenceOutNIdeal.τ).loc Cert.ReferenceOutNIdeal.main_arg0) = m ((c.tc : Thread Cert.ReferenceOutNIdeal.nD Cert.ReferenceOutNIdeal.τ).loc Cert.ReferenceOutNIdeal.main_arg0)
      ∧ r.2.mem ((c.tc : Thread Cert.ReferenceOutNIdeal.nD Cert.ReferenceOutNIdeal.τ).loc Cert.ReferenceOutNIdeal.main_arg1) = m ((c.tc : Thread Cert.ReferenceOutNIdeal.nD Cert.ReferenceOutNIdeal.τ).loc Cert.ReferenceOutNIdeal.main_arg1)
      ∧ r.2.mem ((c.tc : Thread Cert.ReferenceOutNIdeal.nD Cert.ReferenceOutNIdeal.τ).loc Cert.ReferenceOutNIdeal.main_arg2) = m ((c.tc : Thread Cert.ReferenceOutNIdeal.nD Cert.ReferenceOutNIdeal.τ).loc Cert.ReferenceOutNIdeal.main_arg2)
      ∧ r.2.mem ((c.tc : Thread Cert.ReferenceOutNIdeal.nD Cert.ReferenceOutNIdeal.τ).loc Cert.ReferenceOutNIdeal.main_arg3) = m ((c.tc : Thread Cert.ReferenceOutNIdeal.nD Cert.ReferenceOutNIdeal.τ).loc Cert.ReferenceOutNIdeal.main_arg3))
      ∧ r.2.sem = fun _ => 0)

def quiescent_KernelInP [hKernelInP : Cert.KernelInP.Facts] : Prop :=
  ∀ (m : (ℓ : Loc Cert.KernelInP.nD Cert.KernelInP.τ Cert.KernelInP.sig) → Buf (Elt Bits) ℓ) (g : Dev Cert.KernelInP.nD → PrngReg), Pre_KernelInP m →
    θ_run (Cert.KernelInP.defs (F := Bits)) (onTc (τ := Cert.KernelInP.τ) (Cert.KernelInP.main (F := Bits))) ⟨m, fun _ => 0, g⟩ (fun r => (∀ c : Dev Cert.KernelInP.nD,
      r.2.mem ((c.tc : Thread Cert.KernelInP.nD Cert.KernelInP.τ).loc Cert.KernelInP.main_arg0) = m ((c.tc : Thread Cert.KernelInP.nD Cert.KernelInP.τ).loc Cert.KernelInP.main_arg0)
      ∧ r.2.mem ((c.tc : Thread Cert.KernelInP.nD Cert.KernelInP.τ).loc Cert.KernelInP.main_arg1) = m ((c.tc : Thread Cert.KernelInP.nD Cert.KernelInP.τ).loc Cert.KernelInP.main_arg1)
      ∧ r.2.mem ((c.tc : Thread Cert.KernelInP.nD Cert.KernelInP.τ).loc Cert.KernelInP.main_arg2) = m ((c.tc : Thread Cert.KernelInP.nD Cert.KernelInP.τ).loc Cert.KernelInP.main_arg2))
      ∧ r.2.sem = fun _ => 0)

def quiescent_KernelInPIdeal [hKernelInPIdeal : Cert.KernelInPIdeal.Facts] : Prop :=
  ∀ (m : (ℓ : Loc Cert.KernelInPIdeal.nD Cert.KernelInPIdeal.τ Cert.KernelInPIdeal.sig) → Buf (Elt Ideal) ℓ) (g : Dev Cert.KernelInPIdeal.nD → PrngReg), Pre_KernelInPIdeal m →
    θ_run (Cert.KernelInPIdeal.defs (F := Ideal)) (onTc (τ := Cert.KernelInPIdeal.τ) (Cert.KernelInPIdeal.main (F := Ideal))) ⟨m, fun _ => 0, g⟩ (fun r => (∀ c : Dev Cert.KernelInPIdeal.nD,
      r.2.mem ((c.tc : Thread Cert.KernelInPIdeal.nD Cert.KernelInPIdeal.τ).loc Cert.KernelInPIdeal.main_arg0) = m ((c.tc : Thread Cert.KernelInPIdeal.nD Cert.KernelInPIdeal.τ).loc Cert.KernelInPIdeal.main_arg0)
      ∧ r.2.mem ((c.tc : Thread Cert.KernelInPIdeal.nD Cert.KernelInPIdeal.τ).loc Cert.KernelInPIdeal.main_arg1) = m ((c.tc : Thread Cert.KernelInPIdeal.nD Cert.KernelInPIdeal.τ).loc Cert.KernelInPIdeal.main_arg1)
      ∧ r.2.mem ((c.tc : Thread Cert.KernelInPIdeal.nD Cert.KernelInPIdeal.τ).loc Cert.KernelInPIdeal.main_arg2) = m ((c.tc : Thread Cert.KernelInPIdeal.nD Cert.KernelInPIdeal.τ).loc Cert.KernelInPIdeal.main_arg2))
      ∧ r.2.sem = fun _ => 0)

def quiescent_ReferenceInPIdeal [hReferenceInPIdeal : Cert.ReferenceInPIdeal.Facts] : Prop :=
  ∀ (m : (ℓ : Loc Cert.ReferenceInPIdeal.nD Cert.ReferenceInPIdeal.τ Cert.ReferenceInPIdeal.sig) → Buf (Elt Ideal) ℓ) (g : Dev Cert.ReferenceInPIdeal.nD → PrngReg), Pre_ReferenceInPIdeal m →
    θ_run (Cert.ReferenceInPIdeal.defs (F := Ideal)) (onTc (τ := Cert.ReferenceInPIdeal.τ) (Cert.ReferenceInPIdeal.main (F := Ideal))) ⟨m, fun _ => 0, g⟩ (fun r => (∀ c : Dev Cert.ReferenceInPIdeal.nD,
      r.2.mem ((c.tc : Thread Cert.ReferenceInPIdeal.nD Cert.ReferenceInPIdeal.τ).loc Cert.ReferenceInPIdeal.main_arg0) = m ((c.tc : Thread Cert.ReferenceInPIdeal.nD Cert.ReferenceInPIdeal.τ).loc Cert.ReferenceInPIdeal.main_arg0)
      ∧ r.2.mem ((c.tc : Thread Cert.ReferenceInPIdeal.nD Cert.ReferenceInPIdeal.τ).loc Cert.ReferenceInPIdeal.main_arg1) = m ((c.tc : Thread Cert.ReferenceInPIdeal.nD Cert.ReferenceInPIdeal.τ).loc Cert.ReferenceInPIdeal.main_arg1)
      ∧ r.2.mem ((c.tc : Thread Cert.ReferenceInPIdeal.nD Cert.ReferenceInPIdeal.τ).loc Cert.ReferenceInPIdeal.main_arg2) = m ((c.tc : Thread Cert.ReferenceInPIdeal.nD Cert.ReferenceInPIdeal.τ).loc Cert.ReferenceInPIdeal.main_arg2))
      ∧ r.2.sem = fun _ => 0)

def quiescent_KernelDf [hKernelDf : Cert.KernelDf.Facts] : Prop :=
  ∀ (m : (ℓ : Loc Cert.KernelDf.nD Cert.KernelDf.τ Cert.KernelDf.sig) → Buf (Elt Bits) ℓ) (g : Dev Cert.KernelDf.nD → PrngReg), Pre_KernelDf m →
    θ_run (Cert.KernelDf.defs (F := Bits)) (onTc (τ := Cert.KernelDf.τ) (Cert.KernelDf.main (F := Bits))) ⟨m, fun _ => 0, g⟩ (fun r => (∀ c : Dev Cert.KernelDf.nD,
      r.2.mem ((c.tc : Thread Cert.KernelDf.nD Cert.KernelDf.τ).loc Cert.KernelDf.main_arg0) = m ((c.tc : Thread Cert.KernelDf.nD Cert.KernelDf.τ).loc Cert.KernelDf.main_arg0)
      ∧ r.2.mem ((c.tc : Thread Cert.KernelDf.nD Cert.KernelDf.τ).loc Cert.KernelDf.main_arg1) = m ((c.tc : Thread Cert.KernelDf.nD Cert.KernelDf.τ).loc Cert.KernelDf.main_arg1)
      ∧ r.2.mem ((c.tc : Thread Cert.KernelDf.nD Cert.KernelDf.τ).loc Cert.KernelDf.main_arg2) = m ((c.tc : Thread Cert.KernelDf.nD Cert.KernelDf.τ).loc Cert.KernelDf.main_arg2)
      ∧ r.2.mem ((c.tc : Thread Cert.KernelDf.nD Cert.KernelDf.τ).loc Cert.KernelDf.main_arg3) = m ((c.tc : Thread Cert.KernelDf.nD Cert.KernelDf.τ).loc Cert.KernelDf.main_arg3)
      ∧ r.2.mem ((c.tc : Thread Cert.KernelDf.nD Cert.KernelDf.τ).loc Cert.KernelDf.main_arg4) = m ((c.tc : Thread Cert.KernelDf.nD Cert.KernelDf.τ).loc Cert.KernelDf.main_arg4)
      ∧ r.2.mem ((c.tc : Thread Cert.KernelDf.nD Cert.KernelDf.τ).loc Cert.KernelDf.main_arg5) = m ((c.tc : Thread Cert.KernelDf.nD Cert.KernelDf.τ).loc Cert.KernelDf.main_arg5)
      ∧ r.2.mem ((c.tc : Thread Cert.KernelDf.nD Cert.KernelDf.τ).loc Cert.KernelDf.main_arg6) = m ((c.tc : Thread Cert.KernelDf.nD Cert.KernelDf.τ).loc Cert.KernelDf.main_arg6)
      ∧ r.2.mem ((c.tc : Thread Cert.KernelDf.nD Cert.KernelDf.τ).loc Cert.KernelDf.main_arg7) = m ((c.tc : Thread Cert.KernelDf.nD Cert.KernelDf.τ).loc Cert.KernelDf.main_arg7))
      ∧ r.2.sem = fun _ => 0)

def quiescent_KernelDfIdeal [hKernelDfIdeal : Cert.KernelDfIdeal.Facts] : Prop :=
  ∀ (m : (ℓ : Loc Cert.KernelDfIdeal.nD Cert.KernelDfIdeal.τ Cert.KernelDfIdeal.sig) → Buf (Elt Ideal) ℓ) (g : Dev Cert.KernelDfIdeal.nD → PrngReg), Pre_KernelDfIdeal m →
    θ_run (Cert.KernelDfIdeal.defs (F := Ideal)) (onTc (τ := Cert.KernelDfIdeal.τ) (Cert.KernelDfIdeal.main (F := Ideal))) ⟨m, fun _ => 0, g⟩ (fun r => (∀ c : Dev Cert.KernelDfIdeal.nD,
      r.2.mem ((c.tc : Thread Cert.KernelDfIdeal.nD Cert.KernelDfIdeal.τ).loc Cert.KernelDfIdeal.main_arg0) = m ((c.tc : Thread Cert.KernelDfIdeal.nD Cert.KernelDfIdeal.τ).loc Cert.KernelDfIdeal.main_arg0)
      ∧ r.2.mem ((c.tc : Thread Cert.KernelDfIdeal.nD Cert.KernelDfIdeal.τ).loc Cert.KernelDfIdeal.main_arg1) = m ((c.tc : Thread Cert.KernelDfIdeal.nD Cert.KernelDfIdeal.τ).loc Cert.KernelDfIdeal.main_arg1)
      ∧ r.2.mem ((c.tc : Thread Cert.KernelDfIdeal.nD Cert.KernelDfIdeal.τ).loc Cert.KernelDfIdeal.main_arg2) = m ((c.tc : Thread Cert.KernelDfIdeal.nD Cert.KernelDfIdeal.τ).loc Cert.KernelDfIdeal.main_arg2)
      ∧ r.2.mem ((c.tc : Thread Cert.KernelDfIdeal.nD Cert.KernelDfIdeal.τ).loc Cert.KernelDfIdeal.main_arg3) = m ((c.tc : Thread Cert.KernelDfIdeal.nD Cert.KernelDfIdeal.τ).loc Cert.KernelDfIdeal.main_arg3)
      ∧ r.2.mem ((c.tc : Thread Cert.KernelDfIdeal.nD Cert.KernelDfIdeal.τ).loc Cert.KernelDfIdeal.main_arg4) = m ((c.tc : Thread Cert.KernelDfIdeal.nD Cert.KernelDfIdeal.τ).loc Cert.KernelDfIdeal.main_arg4)
      ∧ r.2.mem ((c.tc : Thread Cert.KernelDfIdeal.nD Cert.KernelDfIdeal.τ).loc Cert.KernelDfIdeal.main_arg5) = m ((c.tc : Thread Cert.KernelDfIdeal.nD Cert.KernelDfIdeal.τ).loc Cert.KernelDfIdeal.main_arg5)
      ∧ r.2.mem ((c.tc : Thread Cert.KernelDfIdeal.nD Cert.KernelDfIdeal.τ).loc Cert.KernelDfIdeal.main_arg6) = m ((c.tc : Thread Cert.KernelDfIdeal.nD Cert.KernelDfIdeal.τ).loc Cert.KernelDfIdeal.main_arg6)
      ∧ r.2.mem ((c.tc : Thread Cert.KernelDfIdeal.nD Cert.KernelDfIdeal.τ).loc Cert.KernelDfIdeal.main_arg7) = m ((c.tc : Thread Cert.KernelDfIdeal.nD Cert.KernelDfIdeal.τ).loc Cert.KernelDfIdeal.main_arg7))
      ∧ r.2.sem = fun _ => 0)

def quiescent_ReferenceDfIdeal [hReferenceDfIdeal : Cert.ReferenceDfIdeal.Facts] : Prop :=
  ∀ (m : (ℓ : Loc Cert.ReferenceDfIdeal.nD Cert.ReferenceDfIdeal.τ Cert.ReferenceDfIdeal.sig) → Buf (Elt Ideal) ℓ) (g : Dev Cert.ReferenceDfIdeal.nD → PrngReg), Pre_ReferenceDfIdeal m →
    θ_run (Cert.ReferenceDfIdeal.defs (F := Ideal)) (onTc (τ := Cert.ReferenceDfIdeal.τ) (Cert.ReferenceDfIdeal.main (F := Ideal))) ⟨m, fun _ => 0, g⟩ (fun r => (∀ c : Dev Cert.ReferenceDfIdeal.nD,
      r.2.mem ((c.tc : Thread Cert.ReferenceDfIdeal.nD Cert.ReferenceDfIdeal.τ).loc Cert.ReferenceDfIdeal.main_arg0) = m ((c.tc : Thread Cert.ReferenceDfIdeal.nD Cert.ReferenceDfIdeal.τ).loc Cert.ReferenceDfIdeal.main_arg0)
      ∧ r.2.mem ((c.tc : Thread Cert.ReferenceDfIdeal.nD Cert.ReferenceDfIdeal.τ).loc Cert.ReferenceDfIdeal.main_arg1) = m ((c.tc : Thread Cert.ReferenceDfIdeal.nD Cert.ReferenceDfIdeal.τ).loc Cert.ReferenceDfIdeal.main_arg1)
      ∧ r.2.mem ((c.tc : Thread Cert.ReferenceDfIdeal.nD Cert.ReferenceDfIdeal.τ).loc Cert.ReferenceDfIdeal.main_arg2) = m ((c.tc : Thread Cert.ReferenceDfIdeal.nD Cert.ReferenceDfIdeal.τ).loc Cert.ReferenceDfIdeal.main_arg2)
      ∧ r.2.mem ((c.tc : Thread Cert.ReferenceDfIdeal.nD Cert.ReferenceDfIdeal.τ).loc Cert.ReferenceDfIdeal.main_arg3) = m ((c.tc : Thread Cert.ReferenceDfIdeal.nD Cert.ReferenceDfIdeal.τ).loc Cert.ReferenceDfIdeal.main_arg3)
      ∧ r.2.mem ((c.tc : Thread Cert.ReferenceDfIdeal.nD Cert.ReferenceDfIdeal.τ).loc Cert.ReferenceDfIdeal.main_arg4) = m ((c.tc : Thread Cert.ReferenceDfIdeal.nD Cert.ReferenceDfIdeal.τ).loc Cert.ReferenceDfIdeal.main_arg4)
      ∧ r.2.mem ((c.tc : Thread Cert.ReferenceDfIdeal.nD Cert.ReferenceDfIdeal.τ).loc Cert.ReferenceDfIdeal.main_arg5) = m ((c.tc : Thread Cert.ReferenceDfIdeal.nD Cert.ReferenceDfIdeal.τ).loc Cert.ReferenceDfIdeal.main_arg5)
      ∧ r.2.mem ((c.tc : Thread Cert.ReferenceDfIdeal.nD Cert.ReferenceDfIdeal.τ).loc Cert.ReferenceDfIdeal.main_arg6) = m ((c.tc : Thread Cert.ReferenceDfIdeal.nD Cert.ReferenceDfIdeal.τ).loc Cert.ReferenceDfIdeal.main_arg6)
      ∧ r.2.mem ((c.tc : Thread Cert.ReferenceDfIdeal.nD Cert.ReferenceDfIdeal.τ).loc Cert.ReferenceDfIdeal.main_arg7) = m ((c.tc : Thread Cert.ReferenceDfIdeal.nD Cert.ReferenceDfIdeal.τ).loc Cert.ReferenceDfIdeal.main_arg7))
      ∧ r.2.sem = fun _ => 0)

def preserves_Kernel_KernelIdeal : Prop :=
  IdealRules.named_const.Statement Cert.KernelIdeal.κ "rln2" .f32 0x3FB8AA3B#32 (((Real.log 2)⁻¹ : ℝ) : EReal)
  ∧ IdealRules.named_const.Statement Cert.KernelIdeal.κ "vanish" .f32 0xC3200000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v7)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v7) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v42)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v42) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v35) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelDfIn_KernelDfInIdeal : Prop :=
  True

def algebraic_KernelDfInIdeal_ReferenceDfInIdeal [hKernelDfInIdeal : Cert.KernelDfInIdeal.Facts] [hReferenceDfInIdeal : Cert.ReferenceDfInIdeal.Facts] : Prop :=
  ∀ (m : (ℓ : Loc Cert.KernelDfInIdeal.nD Cert.KernelDfInIdeal.τ Cert.KernelDfInIdeal.sig) → Buf (Elt Ideal) ℓ) (g : Dev Cert.KernelDfInIdeal.nD → PrngReg)
    (m' : (ℓ : Loc Cert.ReferenceDfInIdeal.nD Cert.ReferenceDfInIdeal.τ Cert.ReferenceDfInIdeal.sig) → Buf (Elt Ideal) ℓ) (g' : Dev Cert.ReferenceDfInIdeal.nD → PrngReg), Pre_KernelDfInIdeal m →
    (∀ c : Dev Cert.KernelDfInIdeal.nD,
      m' ((c.tc : Thread Cert.ReferenceDfInIdeal.nD Cert.ReferenceDfInIdeal.τ).loc Cert.ReferenceDfInIdeal.main_arg0) = m ((c.tc : Thread Cert.KernelDfInIdeal.nD Cert.KernelDfInIdeal.τ).loc Cert.KernelDfInIdeal.main_arg0)
      ∧ m' ((c.tc : Thread Cert.ReferenceDfInIdeal.nD Cert.ReferenceDfInIdeal.τ).loc Cert.ReferenceDfInIdeal.main_arg1) = m ((c.tc : Thread Cert.KernelDfInIdeal.nD Cert.KernelDfInIdeal.τ).loc Cert.KernelDfInIdeal.main_arg1)
      ∧ m' ((c.tc : Thread Cert.ReferenceDfInIdeal.nD Cert.ReferenceDfInIdeal.τ).loc Cert.ReferenceDfInIdeal.main_arg2) = m ((c.tc : Thread Cert.KernelDfInIdeal.nD Cert.KernelDfInIdeal.τ).loc Cert.KernelDfInIdeal.main_arg2)
      ∧ m' ((c.tc : Thread Cert.ReferenceDfInIdeal.nD Cert.ReferenceDfInIdeal.τ).loc Cert.ReferenceDfInIdeal.main_arg3) = m ((c.tc : Thread Cert.KernelDfInIdeal.nD Cert.KernelDfInIdeal.τ).loc Cert.KernelDfInIdeal.main_arg3)
      ∧ m' ((c.tc : Thread Cert.ReferenceDfInIdeal.nD Cert.ReferenceDfInIdeal.τ).loc Cert.ReferenceDfInIdeal.main_arg4) = m ((c.tc : Thread Cert.KernelDfInIdeal.nD Cert.KernelDfInIdeal.τ).loc Cert.KernelDfInIdeal.main_arg4)) →
    ∃ (v0 : (c : Dev Cert.KernelDfInIdeal.nD) → Buf (Elt Ideal) ((c.tc : Thread Cert.KernelDfInIdeal.nD Cert.KernelDfInIdeal.τ).loc Cert.KernelDfInIdeal.main_v53)),
      θ_run (Cert.KernelDfInIdeal.defs (F := Ideal)) (onTc (τ := Cert.KernelDfInIdeal.τ) (Cert.KernelDfInIdeal.main (F := Ideal))) ⟨m, fun _ => 0, g⟩ (fun r => ∀ c : Dev Cert.KernelDfInIdeal.nD,
          r.2.mem ((c.tc : Thread Cert.KernelDfInIdeal.nD Cert.KernelDfInIdeal.τ).loc Cert.KernelDfInIdeal.main_v53) = v0 c
          ∧ r.2.mem ((c.tc : Thread Cert.KernelDfInIdeal.nD Cert.KernelDfInIdeal.τ).loc Cert.KernelDfInIdeal.main_arg0) = m ((c.tc : Thread Cert.KernelDfInIdeal.nD Cert.KernelDfInIdeal.τ).loc Cert.KernelDfInIdeal.main_arg0)
          ∧ r.2.mem ((c.tc : Thread Cert.KernelDfInIdeal.nD Cert.KernelDfInIdeal.τ).loc Cert.KernelDfInIdeal.main_arg1) = m ((c.tc : Thread Cert.KernelDfInIdeal.nD Cert.KernelDfInIdeal.τ).loc Cert.KernelDfInIdeal.main_arg1)
          ∧ r.2.mem ((c.tc : Thread Cert.KernelDfInIdeal.nD Cert.KernelDfInIdeal.τ).loc Cert.KernelDfInIdeal.main_arg2) = m ((c.tc : Thread Cert.KernelDfInIdeal.nD Cert.KernelDfInIdeal.τ).loc Cert.KernelDfInIdeal.main_arg2)
          ∧ r.2.mem ((c.tc : Thread Cert.KernelDfInIdeal.nD Cert.KernelDfInIdeal.τ).loc Cert.KernelDfInIdeal.main_arg3) = m ((c.tc : Thread Cert.KernelDfInIdeal.nD Cert.KernelDfInIdeal.τ).loc Cert.KernelDfInIdeal.main_arg3)
          ∧ r.2.mem ((c.tc : Thread Cert.KernelDfInIdeal.nD Cert.KernelDfInIdeal.τ).loc Cert.KernelDfInIdeal.main_arg4) = m ((c.tc : Thread Cert.KernelDfInIdeal.nD Cert.KernelDfInIdeal.τ).loc Cert.KernelDfInIdeal.main_arg4))
      ∧ θ_run (Cert.ReferenceDfInIdeal.defs (F := Ideal)) (onTc (τ := Cert.ReferenceDfInIdeal.τ) (Cert.ReferenceDfInIdeal.main (F := Ideal))) ⟨m', fun _ => 0, g'⟩ (fun r => ∀ c : Dev Cert.ReferenceDfInIdeal.nD,
          r.2.mem ((c.tc : Thread Cert.ReferenceDfInIdeal.nD Cert.ReferenceDfInIdeal.τ).loc Cert.ReferenceDfInIdeal.main_v103) = v0 c
          ∧ r.2.mem ((c.tc : Thread Cert.ReferenceDfInIdeal.nD Cert.ReferenceDfInIdeal.τ).loc Cert.ReferenceDfInIdeal.main_arg0) = m' ((c.tc : Thread Cert.ReferenceDfInIdeal.nD Cert.ReferenceDfInIdeal.τ).loc Cert.ReferenceDfInIdeal.main_arg0)
          ∧ r.2.mem ((c.tc : Thread Cert.ReferenceDfInIdeal.nD Cert.ReferenceDfInIdeal.τ).loc Cert.ReferenceDfInIdeal.main_arg1) = m' ((c.tc : Thread Cert.ReferenceDfInIdeal.nD Cert.ReferenceDfInIdeal.τ).loc Cert.ReferenceDfInIdeal.main_arg1)
          ∧ r.2.mem ((c.tc : Thread Cert.ReferenceDfInIdeal.nD Cert.ReferenceDfInIdeal.τ).loc Cert.ReferenceDfInIdeal.main_arg2) = m' ((c.tc : Thread Cert.ReferenceDfInIdeal.nD Cert.ReferenceDfInIdeal.τ).loc Cert.ReferenceDfInIdeal.main_arg2)
          ∧ r.2.mem ((c.tc : Thread Cert.ReferenceDfInIdeal.nD Cert.ReferenceDfInIdeal.τ).loc Cert.ReferenceDfInIdeal.main_arg3) = m' ((c.tc : Thread Cert.ReferenceDfInIdeal.nD Cert.ReferenceDfInIdeal.τ).loc Cert.ReferenceDfInIdeal.main_arg3)
          ∧ r.2.mem ((c.tc : Thread Cert.ReferenceDfInIdeal.nD Cert.ReferenceDfInIdeal.τ).loc Cert.ReferenceDfInIdeal.main_arg4) = m' ((c.tc : Thread Cert.ReferenceDfInIdeal.nD Cert.ReferenceDfInIdeal.τ).loc Cert.ReferenceDfInIdeal.main_arg4))

def preserves_KernelOutN_KernelOutNIdeal : Prop :=
  True

def algebraic_KernelOutNIdeal_ReferenceOutNIdeal [hKernelOutNIdeal : Cert.KernelOutNIdeal.Facts] [hReferenceOutNIdeal : Cert.ReferenceOutNIdeal.Facts] : Prop :=
  ∀ (m : (ℓ : Loc Cert.KernelOutNIdeal.nD Cert.KernelOutNIdeal.τ Cert.KernelOutNIdeal.sig) → Buf (Elt Ideal) ℓ) (g : Dev Cert.KernelOutNIdeal.nD → PrngReg)
    (m' : (ℓ : Loc Cert.ReferenceOutNIdeal.nD Cert.ReferenceOutNIdeal.τ Cert.ReferenceOutNIdeal.sig) → Buf (Elt Ideal) ℓ) (g' : Dev Cert.ReferenceOutNIdeal.nD → PrngReg), Pre_KernelOutNIdeal m →
    (∀ c : Dev Cert.KernelOutNIdeal.nD,
      m' ((c.tc : Thread Cert.ReferenceOutNIdeal.nD Cert.ReferenceOutNIdeal.τ).loc Cert.ReferenceOutNIdeal.main_arg0) = m ((c.tc : Thread Cert.KernelOutNIdeal.nD Cert.KernelOutNIdeal.τ).loc Cert.KernelOutNIdeal.main_arg0)
      ∧ m' ((c.tc : Thread Cert.ReferenceOutNIdeal.nD Cert.ReferenceOutNIdeal.τ).loc Cert.ReferenceOutNIdeal.main_arg1) = m ((c.tc : Thread Cert.KernelOutNIdeal.nD Cert.KernelOutNIdeal.τ).loc Cert.KernelOutNIdeal.main_arg1)
      ∧ m' ((c.tc : Thread Cert.ReferenceOutNIdeal.nD Cert.ReferenceOutNIdeal.τ).loc Cert.ReferenceOutNIdeal.main_arg2) = m ((c.tc : Thread Cert.KernelOutNIdeal.nD Cert.KernelOutNIdeal.τ).loc Cert.KernelOutNIdeal.main_arg2)
      ∧ m' ((c.tc : Thread Cert.ReferenceOutNIdeal.nD Cert.ReferenceOutNIdeal.τ).loc Cert.ReferenceOutNIdeal.main_arg3) = m ((c.tc : Thread Cert.KernelOutNIdeal.nD Cert.KernelOutNIdeal.τ).loc Cert.KernelOutNIdeal.main_arg3)) →
    ∃ (v0 : (c : Dev Cert.KernelOutNIdeal.nD) → Buf (Elt Ideal) ((c.tc : Thread Cert.KernelOutNIdeal.nD Cert.KernelOutNIdeal.τ).loc Cert.KernelOutNIdeal.main_v7_0)) (v1 : (c : Dev Cert.KernelOutNIdeal.nD) → Buf (Elt Ideal) ((c.tc : Thread Cert.KernelOutNIdeal.nD Cert.KernelOutNIdeal.τ).loc Cert.KernelOutNIdeal.main_v7_1)),
      θ_run (Cert.KernelOutNIdeal.defs (F := Ideal)) (onTc (τ := Cert.KernelOutNIdeal.τ) (Cert.KernelOutNIdeal.main (F := Ideal))) ⟨m, fun _ => 0, g⟩ (fun r => ∀ c : Dev Cert.KernelOutNIdeal.nD,
          r.2.mem ((c.tc : Thread Cert.KernelOutNIdeal.nD Cert.KernelOutNIdeal.τ).loc Cert.KernelOutNIdeal.main_v7_0) = v0 c
          ∧ r.2.mem ((c.tc : Thread Cert.KernelOutNIdeal.nD Cert.KernelOutNIdeal.τ).loc Cert.KernelOutNIdeal.main_v7_1) = v1 c
          ∧ r.2.mem ((c.tc : Thread Cert.KernelOutNIdeal.nD Cert.KernelOutNIdeal.τ).loc Cert.KernelOutNIdeal.main_arg0) = m ((c.tc : Thread Cert.KernelOutNIdeal.nD Cert.KernelOutNIdeal.τ).loc Cert.KernelOutNIdeal.main_arg0)
          ∧ r.2.mem ((c.tc : Thread Cert.KernelOutNIdeal.nD Cert.KernelOutNIdeal.τ).loc Cert.KernelOutNIdeal.main_arg1) = m ((c.tc : Thread Cert.KernelOutNIdeal.nD Cert.KernelOutNIdeal.τ).loc Cert.KernelOutNIdeal.main_arg1)
          ∧ r.2.mem ((c.tc : Thread Cert.KernelOutNIdeal.nD Cert.KernelOutNIdeal.τ).loc Cert.KernelOutNIdeal.main_arg2) = m ((c.tc : Thread Cert.KernelOutNIdeal.nD Cert.KernelOutNIdeal.τ).loc Cert.KernelOutNIdeal.main_arg2)
          ∧ r.2.mem ((c.tc : Thread Cert.KernelOutNIdeal.nD Cert.KernelOutNIdeal.τ).loc Cert.KernelOutNIdeal.main_arg3) = m ((c.tc : Thread Cert.KernelOutNIdeal.nD Cert.KernelOutNIdeal.τ).loc Cert.KernelOutNIdeal.main_arg3))
      ∧ θ_run (Cert.ReferenceOutNIdeal.defs (F := Ideal)) (onTc (τ := Cert.ReferenceOutNIdeal.τ) (Cert.ReferenceOutNIdeal.main (F := Ideal))) ⟨m', fun _ => 0, g'⟩ (fun r => ∀ c : Dev Cert.ReferenceOutNIdeal.nD,
          r.2.mem ((c.tc : Thread Cert.ReferenceOutNIdeal.nD Cert.ReferenceOutNIdeal.τ).loc Cert.ReferenceOutNIdeal.main_v19) = v0 c
          ∧ r.2.mem ((c.tc : Thread Cert.ReferenceOutNIdeal.nD Cert.ReferenceOutNIdeal.τ).loc Cert.ReferenceOutNIdeal.main_v21) = v1 c
          ∧ r.2.mem ((c.tc : Thread Cert.ReferenceOutNIdeal.nD Cert.ReferenceOutNIdeal.τ).loc Cert.ReferenceOutNIdeal.main_arg0) = m' ((c.tc : Thread Cert.ReferenceOutNIdeal.nD Cert.ReferenceOutNIdeal.τ).loc Cert.ReferenceOutNIdeal.main_arg0)
          ∧ r.2.mem ((c.tc : Thread Cert.ReferenceOutNIdeal.nD Cert.ReferenceOutNIdeal.τ).loc Cert.ReferenceOutNIdeal.main_arg1) = m' ((c.tc : Thread Cert.ReferenceOutNIdeal.nD Cert.ReferenceOutNIdeal.τ).loc Cert.ReferenceOutNIdeal.main_arg1)
          ∧ r.2.mem ((c.tc : Thread Cert.ReferenceOutNIdeal.nD Cert.ReferenceOutNIdeal.τ).loc Cert.ReferenceOutNIdeal.main_arg2) = m' ((c.tc : Thread Cert.ReferenceOutNIdeal.nD Cert.ReferenceOutNIdeal.τ).loc Cert.ReferenceOutNIdeal.main_arg2)
          ∧ r.2.mem ((c.tc : Thread Cert.ReferenceOutNIdeal.nD Cert.ReferenceOutNIdeal.τ).loc Cert.ReferenceOutNIdeal.main_arg3) = m' ((c.tc : Thread Cert.ReferenceOutNIdeal.nD Cert.ReferenceOutNIdeal.τ).loc Cert.ReferenceOutNIdeal.main_arg3))

def preserves_KernelInP_KernelInPIdeal : Prop :=
  True

def algebraic_KernelInPIdeal_ReferenceInPIdeal [hKernelInPIdeal : Cert.KernelInPIdeal.Facts] [hReferenceInPIdeal : Cert.ReferenceInPIdeal.Facts] : Prop :=
  ∀ (m : (ℓ : Loc Cert.KernelInPIdeal.nD Cert.KernelInPIdeal.τ Cert.KernelInPIdeal.sig) → Buf (Elt Ideal) ℓ) (g : Dev Cert.KernelInPIdeal.nD → PrngReg)
    (m' : (ℓ : Loc Cert.ReferenceInPIdeal.nD Cert.ReferenceInPIdeal.τ Cert.ReferenceInPIdeal.sig) → Buf (Elt Ideal) ℓ) (g' : Dev Cert.ReferenceInPIdeal.nD → PrngReg), Pre_KernelInPIdeal m →
    (∀ c : Dev Cert.KernelInPIdeal.nD,
      m' ((c.tc : Thread Cert.ReferenceInPIdeal.nD Cert.ReferenceInPIdeal.τ).loc Cert.ReferenceInPIdeal.main_arg0) = m ((c.tc : Thread Cert.KernelInPIdeal.nD Cert.KernelInPIdeal.τ).loc Cert.KernelInPIdeal.main_arg0)
      ∧ m' ((c.tc : Thread Cert.ReferenceInPIdeal.nD Cert.ReferenceInPIdeal.τ).loc Cert.ReferenceInPIdeal.main_arg1) = m ((c.tc : Thread Cert.KernelInPIdeal.nD Cert.KernelInPIdeal.τ).loc Cert.KernelInPIdeal.main_arg1)
      ∧ m' ((c.tc : Thread Cert.ReferenceInPIdeal.nD Cert.ReferenceInPIdeal.τ).loc Cert.ReferenceInPIdeal.main_arg2) = m ((c.tc : Thread Cert.KernelInPIdeal.nD Cert.KernelInPIdeal.τ).loc Cert.KernelInPIdeal.main_arg2)) →
    ∃ (v0 : (c : Dev Cert.KernelInPIdeal.nD) → Buf (Elt Ideal) ((c.tc : Thread Cert.KernelInPIdeal.nD Cert.KernelInPIdeal.τ).loc Cert.KernelInPIdeal.main_v43)),
      θ_run (Cert.KernelInPIdeal.defs (F := Ideal)) (onTc (τ := Cert.KernelInPIdeal.τ) (Cert.KernelInPIdeal.main (F := Ideal))) ⟨m, fun _ => 0, g⟩ (fun r => ∀ c : Dev Cert.KernelInPIdeal.nD,
          r.2.mem ((c.tc : Thread Cert.KernelInPIdeal.nD Cert.KernelInPIdeal.τ).loc Cert.KernelInPIdeal.main_v43) = v0 c
          ∧ r.2.mem ((c.tc : Thread Cert.KernelInPIdeal.nD Cert.KernelInPIdeal.τ).loc Cert.KernelInPIdeal.main_arg0) = m ((c.tc : Thread Cert.KernelInPIdeal.nD Cert.KernelInPIdeal.τ).loc Cert.KernelInPIdeal.main_arg0)
          ∧ r.2.mem ((c.tc : Thread Cert.KernelInPIdeal.nD Cert.KernelInPIdeal.τ).loc Cert.KernelInPIdeal.main_arg1) = m ((c.tc : Thread Cert.KernelInPIdeal.nD Cert.KernelInPIdeal.τ).loc Cert.KernelInPIdeal.main_arg1)
          ∧ r.2.mem ((c.tc : Thread Cert.KernelInPIdeal.nD Cert.KernelInPIdeal.τ).loc Cert.KernelInPIdeal.main_arg2) = m ((c.tc : Thread Cert.KernelInPIdeal.nD Cert.KernelInPIdeal.τ).loc Cert.KernelInPIdeal.main_arg2))
      ∧ θ_run (Cert.ReferenceInPIdeal.defs (F := Ideal)) (onTc (τ := Cert.ReferenceInPIdeal.τ) (Cert.ReferenceInPIdeal.main (F := Ideal))) ⟨m', fun _ => 0, g'⟩ (fun r => ∀ c : Dev Cert.ReferenceInPIdeal.nD,
          r.2.mem ((c.tc : Thread Cert.ReferenceInPIdeal.nD Cert.ReferenceInPIdeal.τ).loc Cert.ReferenceInPIdeal.main_v20) = v0 c
          ∧ r.2.mem ((c.tc : Thread Cert.ReferenceInPIdeal.nD Cert.ReferenceInPIdeal.τ).loc Cert.ReferenceInPIdeal.main_arg0) = m' ((c.tc : Thread Cert.ReferenceInPIdeal.nD Cert.ReferenceInPIdeal.τ).loc Cert.ReferenceInPIdeal.main_arg0)
          ∧ r.2.mem ((c.tc : Thread Cert.ReferenceInPIdeal.nD Cert.ReferenceInPIdeal.τ).loc Cert.ReferenceInPIdeal.main_arg1) = m' ((c.tc : Thread Cert.ReferenceInPIdeal.nD Cert.ReferenceInPIdeal.τ).loc Cert.ReferenceInPIdeal.main_arg1)
          ∧ r.2.mem ((c.tc : Thread Cert.ReferenceInPIdeal.nD Cert.ReferenceInPIdeal.τ).loc Cert.ReferenceInPIdeal.main_arg2) = m' ((c.tc : Thread Cert.ReferenceInPIdeal.nD Cert.ReferenceInPIdeal.τ).loc Cert.ReferenceInPIdeal.main_arg2))

def preserves_KernelDf_KernelDfIdeal : Prop :=
  IdealRules.named_const.Statement Cert.KernelDfIdeal.κ "vanish" .f32 0xF149F2CA#32 ⊥

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelDfIn : Cert.KernelDfIn.Facts) (hKernelDfInIdeal : Cert.KernelDfInIdeal.Facts) (hReferenceDfInIdeal : Cert.ReferenceDfInIdeal.Facts) (hKernelOutN : Cert.KernelOutN.Facts) (hKernelOutNIdeal : Cert.KernelOutNIdeal.Facts) (hReferenceOutNIdeal : Cert.ReferenceOutNIdeal.Facts) (hKernelInP : Cert.KernelInP.Facts) (hKernelInPIdeal : Cert.KernelInPIdeal.Facts) (hReferenceInPIdeal : Cert.ReferenceInPIdeal.Facts) (hKernelDf : Cert.KernelDf.Facts) (hKernelDfIdeal : Cert.KernelDfIdeal.Facts) (hReferenceDfIdeal : Cert.ReferenceDfIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelDfIn (hKernelDfIn := hKernelDfIn)
    ∧ quiescent_KernelDfInIdeal (hKernelDfInIdeal := hKernelDfInIdeal)
    ∧ quiescent_ReferenceDfInIdeal (hReferenceDfInIdeal := hReferenceDfInIdeal)
    ∧ quiescent_KernelOutN (hKernelOutN := hKernelOutN)
    ∧ quiescent_KernelOutNIdeal (hKernelOutNIdeal := hKernelOutNIdeal)
    ∧ quiescent_ReferenceOutNIdeal (hReferenceOutNIdeal := hReferenceOutNIdeal)
    ∧ quiescent_KernelInP (hKernelInP := hKernelInP)
    ∧ quiescent_KernelInPIdeal (hKernelInPIdeal := hKernelInPIdeal)
    ∧ quiescent_ReferenceInPIdeal (hReferenceInPIdeal := hReferenceInPIdeal)
    ∧ quiescent_KernelDf (hKernelDf := hKernelDf)
    ∧ quiescent_KernelDfIdeal (hKernelDfIdeal := hKernelDfIdeal)
    ∧ quiescent_ReferenceDfIdeal (hReferenceDfIdeal := hReferenceDfIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelDfIn_KernelDfInIdeal
    ∧ algebraic_KernelDfInIdeal_ReferenceDfInIdeal (hKernelDfInIdeal := hKernelDfInIdeal) (hReferenceDfInIdeal := hReferenceDfInIdeal)
    ∧ preserves_KernelOutN_KernelOutNIdeal
    ∧ algebraic_KernelOutNIdeal_ReferenceOutNIdeal (hKernelOutNIdeal := hKernelOutNIdeal) (hReferenceOutNIdeal := hReferenceOutNIdeal)
    ∧ preserves_KernelInP_KernelInPIdeal
    ∧ algebraic_KernelInPIdeal_ReferenceInPIdeal (hKernelInPIdeal := hKernelInPIdeal) (hReferenceInPIdeal := hReferenceInPIdeal)
    ∧ preserves_KernelDf_KernelDfIdeal
-- ==== Pre_finite.lean ====
abbrev S8x2048x8192 : Shape := ⟨3, ![8, 2048, 8192]⟩
abbrev S_ : Shape := ⟨0, ![]⟩

class Facts : Prop where
  bcast_S_S8x2048x8192 : S_.BroadcastsInDim S8x2048x8192 (![] : Fin 0 → Fin S8x2048x8192.rank)

variable [Facts]

def fn {F : FTy → Type} [FloatOps F] (main_arg0 : FVec F S8x2048x8192 .f32) : IVec S8x2048x8192 1 :=
  let main_v0 : FVec F S8x2048x8192 .f32 := Host.absf main_arg0
  let main_cst : FVec F S_ .f32 := constant S_ .f32 0x7F800000#32
  let main_v1 : FVec F S8x2048x8192 .f32 := broadcastInDim S8x2048x8192 ![] bcast_S_S8x2048x8192 main_cst
  let main_v2 : IVec S8x2048x8192 1 := cmpf .olt main_v0 main_v1
  main_v2
-- ==== Kernel.lean ====
abbrev S8x2048x8192 : Shape := ⟨3, ![8, 2048, 8192]⟩
abbrev S_ : Shape := ⟨0, ![]⟩
abbrev S2048 : Shape := ⟨1, ![2048]⟩
abbrev S8192 : Shape := ⟨1, ![8192]⟩
abbrev S1x1x8192 : Shape := ⟨3, ![1, 1, 8192]⟩
abbrev S8x2048x64x128 : Shape := ⟨4, ![8, 2048, 64, 128]⟩
abbrev S8x64x2048x128 : Shape := ⟨4, ![8, 64, 2048, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x16x2048x128 : Shape := ⟨4, ![8, 16, 2048, 128]⟩
abbrev S1x8x512x128 : Shape := ⟨4, ![1, 8, 512, 128]⟩
abbrev S1x8x2048x128 : Shape := ⟨4, ![1, 8, 2048, 128]⟩
abbrev S8x512x128 : Shape := ⟨3, ![8, 512, 128]⟩
abbrev S1x1x256x128 : Shape := ⟨4, ![1, 1, 256, 128]⟩
abbrev S256x128 : Shape := ⟨2, ![256, 128]⟩
abbrev S1x256x128 : Shape := ⟨3, ![1, 256, 128]⟩
abbrev S1x1x512x128 : Shape := ⟨4, ![1, 1, 512, 128]⟩
abbrev S512x128 : Shape := ⟨2, ![512, 128]⟩
abbrev S512x256 : Shape := ⟨2, ![512, 256]⟩
abbrev S1x512x128 : Shape := ⟨3, ![1, 512, 128]⟩
abbrev S512 : Shape := ⟨1, ![512]⟩
abbrev S512x1 : Shape := ⟨2, ![512, 1]⟩
abbrev S8x256x128 : Shape := ⟨3, ![8, 256, 128]⟩
abbrev S1x8x256x128 : Shape := ⟨4, ![1, 8, 256, 128]⟩
abbrev S1 : Shape := ⟨1, ![1]⟩
abbrev S1x1x1x1 : Shape := ⟨4, ![1, 1, 1, 1]⟩

abbrev nBuf : Space → Nat
  | .hbm => 25
  | .vmem => 13
  | .smem => 0
  | _ => 0

abbrev bufTy : (tb : Table) → Fin (tcTables nBuf tb) → BufTy
  | .hbm, ⟨0, _⟩ => ⟨S8x2048x8192, .f32⟩
  | .hbm, ⟨1, _⟩ => ⟨S_, .f32⟩
  | .hbm, ⟨2, _⟩ => ⟨S2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S8192, .f32⟩
  | .hbm, ⟨10, _⟩ => ⟨S1x1x8192, .f32⟩
  | .hbm, ⟨11, _⟩ => ⟨S8x2048x8192, .f32⟩
  | .hbm, ⟨12, _⟩ => ⟨S8x2048x8192, .f32⟩
  | .hbm, ⟨13, _⟩ => ⟨S8x2048x64x128, .f32⟩
  | .hbm, ⟨14, _⟩ => ⟨S8x64x2048x128, .f32⟩
  | .hbm, ⟨15, _⟩ => ⟨S8x64x2048x128, .bf16⟩
  | .hbm, ⟨16, _⟩ => ⟨S256, .i32⟩
  | .hbm, ⟨17, _⟩ => ⟨S256x1, .i32⟩
  | .hbm, ⟨18, _⟩ => ⟨S256, .i32⟩
  | .hbm, ⟨19, _⟩ => ⟨S1x256, .i32⟩
  | .hbm, ⟨20, _⟩ => ⟨S256x256, .i32⟩
  | .hbm, ⟨21, _⟩ => ⟨S256x256, .i32⟩
  | .hbm, ⟨22, _⟩ => ⟨S256x256, .i1⟩
  | .hbm, ⟨23, _⟩ => ⟨S256x256, .bf16⟩
  | .hbm, ⟨24, _⟩ => ⟨S8x16x2048x128, .bf16⟩
  | .local _ .vmem, ⟨0, _⟩ => ⟨S1x8x512x128, .bf16⟩
  | .local _ .vmem, ⟨1, _⟩ => ⟨S1x8x512x128, .bf16⟩
  | .local _ .vmem, ⟨2, _⟩ => ⟨S1x8x2048x128, .bf16⟩
  | .local _ .vmem, ⟨3, _⟩ => ⟨S1x8x2048x128, .bf16⟩
  | .local _ .vmem, ⟨4, _⟩ => ⟨S1x8x2048x128, .bf16⟩
  | .local _ .vmem, ⟨5, _⟩ => ⟨S1x8x2048x128, .bf16⟩
  | .local _ .vmem, ⟨6, _⟩ => ⟨S1x8x512x128, .bf16⟩
  | .local _ .vmem, ⟨7, _⟩ => ⟨S1x8x512x128, .bf16⟩
  | .local _ .vmem, ⟨8, _⟩ => ⟨S256x256, .bf16⟩
  | .local _ .vmem, ⟨9, _⟩ => ⟨S1x8x512x128, .bf16⟩
  | .local _ .vmem, ⟨10, _⟩ => ⟨S1x8x512x128, .bf16⟩
  | .local _ .vmem, ⟨11, _⟩ => ⟨S8x512x128, .f32⟩
  | .local _ .vmem, ⟨12, _⟩ => ⟨S8x512x128, .f32⟩
  | _, _ => ⟨S8x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let arg2 : BitVec 32 := BitVec.ofNat 32 (i 2).val
  let c512_i32 : BitVec 32 := 512#32
  let v8 : BitVec 32 := Scalar.muli arg2 c512_i32
  let c256_i32 : BitVec 32 := 256#32
  let v9 : BitVec 32 := Scalar.addi v8 c256_i32
  v9
def k0_off1 (i : grid0.Coords) (c256_i32 : BitVec 32) : Fin 4 → Nat :=
  let c0_9 : Index := 0#32
  let c0_10 : Index := 0#32
  let arg2 : BitVec 32 := BitVec.ofNat 32 (i 2).val
  let c512_i32 : BitVec 32 := 512#32
  let v8 : BitVec 32 := Scalar.muli arg2 c512_i32
  let v9 : BitVec 32 := Scalar.addi v8 c256_i32
  let v10 : BitVec 32 := v9
  let v13 : Index := Scalar.indexCast v10
  let c0_11 : Index := 0#32
  ![0, 0, v13.toNat, 0]
def k0_off2 (i : grid0.Coords) (c256_i32 : BitVec 32) : Fin 4 → Nat :=
  let c0_41 : Index := 0#32
  let c1_42 : Index := 1#32
  let arg2 : BitVec 32 := BitVec.ofNat 32 (i 2).val
  let c512_i32 : BitVec 32 := 512#32
  let v8 : BitVec 32 := Scalar.muli arg2 c512_i32
  let v9 : BitVec 32 := Scalar.addi v8 c256_i32
  let v10 : BitVec 32 := v9
  let v66 : Index := Scalar.indexCast v10
  let c0_43 : Index := 0#32
  ![0, 1, v66.toNat, 0]
def k0_off3 (i : grid0.Coords) (c256_i32 : BitVec 32) : Fin 4 → Nat :=
  let c0_73 : Index := 0#32
  let c2_74 : Index := 2#32
  let arg2 : BitVec 32 := BitVec.ofNat 32 (i 2).val
  let c512_i32 : BitVec 32 := 512#32
  let v8 : BitVec 32 := Scalar.muli arg2 c512_i32
  let v9 : BitVec 32 := Scalar.addi v8 c256_i32
  let v10 : BitVec 32 := v9
  let v119 : Index := Scalar.indexCast v10
  let c0_75 : Index := 0#32
  ![0, 2, v119.toNat, 0]
def k0_off4 (i : grid0.Coords) (c256_i32 : BitVec 32) : Fin 4 → Nat :=
  let c0_105 : Index := 0#32
  let c3_106 : Index := 3#32
  let arg2 : BitVec 32 := BitVec.ofNat 32 (i 2).val
  let c512_i32 : BitVec 32 := 512#32
  let v8 : BitVec 32 := Scalar.muli arg2 c512_i32
  let v9 : BitVec 32 := Scalar.addi v8 c256_i32
  let v10 : BitVec 32 := v9
  let v172 : Index := Scalar.indexCast v10
  let c0_107 : Index := 0#32
  ![0, 3, v172.toNat, 0]
def k0_off5 (i : grid0.Coords) (c256_i32 : BitVec 32) : Fin 4 → Nat :=
  let c0_137 : Index := 0#32
  let c4_138 : Index := 4#32
  let arg2 : BitVec 32 := BitVec.ofNat 32 (i 2).val
  let c512_i32 : BitVec 32 := 512#32
  let v8 : BitVec 32 := Scalar.muli arg2 c512_i32
  let v9 : BitVec 32 := Scalar.addi v8 c256_i32
  let v10 : BitVec 32 := v9
  let v225 : Index := Scalar.indexCast v10
  let c0_139 : Index := 0#32
  ![0, 4, v225.toNat, 0]
def k0_off6 (i : grid0.Coords) (c256_i32 : BitVec 32) : Fin 4 → Nat :=
  let c0_169 : Index := 0#32
  let c5_170 : Index := 5#32
  let arg2 : BitVec 32 := BitVec.ofNat 32 (i 2).val
  let c512_i32 : BitVec 32 := 512#32
  let v8 : BitVec 32 := Scalar.muli arg2 c512_i32
  let v9 : BitVec 32 := Scalar.addi v8 c256_i32
  let v10 : BitVec 32 := v9
  let v278 : Index := Scalar.indexCast v10
  let c0_171 : Index := 0#32
  ![0, 5, v278.toNat, 0]
def k0_off7 (i : grid0.Coords) (c256_i32 : BitVec 32) : Fin 4 → Nat :=
  let c0_201 : Index := 0#32
  let c6_202 : Index := 6#32
  let arg2 : BitVec 32 := BitVec.ofNat 32 (i 2).val
  let c512_i32 : BitVec 32 := 512#32
  let v8 : BitVec 32 := Scalar.muli arg2 c512_i32
  let v9 : BitVec 32 := Scalar.addi v8 c256_i32
  let v10 : BitVec 32 := v9
  let v331 : Index := Scalar.indexCast v10
  let c0_203 : Index := 0#32
  ![0, 6, v331.toNat, 0]
def k0_off8 (i : grid0.Coords) (c256_i32 : BitVec 32) : Fin 4 → Nat :=
  let c0_233 : Index := 0#32
  let c7_234 : Index := 7#32
  let arg2 : BitVec 32 := BitVec.ofNat 32 (i 2).val
  let c512_i32 : BitVec 32 := 512#32
  let v8 : BitVec 32 := Scalar.muli arg2 c512_i32
  let v9 : BitVec 32 := Scalar.addi v8 c256_i32
  let v10 : BitVec 32 := v9
  let v384 : Index := Scalar.indexCast v10
  let c0_235 : Index := 0#32
  ![0, 7, v384.toNat, 0]
def k0_mult2 (i : grid0.Coords) : BitVec 32 :=
  let arg2 : BitVec 32 := BitVec.ofNat 32 (i 2).val
  let c512_i32_262 : BitVec 32 := 512#32
  let v435 : BitVec 32 := Scalar.muli arg2 c512_i32_262
  let c0_i32 : BitVec 32 := 0#32
  let v436 : BitVec 32 := Scalar.addi v435 c0_i32
  v436
def k0_mult3 (i : grid0.Coords) (arg11 : BitVec 32) : BitVec 32 :=
  let arg2 : BitVec 32 := BitVec.ofNat 32 (i 2).val
  let c2_i32 : BitVec 32 := 2#32
  let v862 : BitVec 32 := Scalar.muli arg2 c2_i32
  let c1_i32 : BitVec 32 := 1#32
  let v998 : BitVec 32 := Scalar.subi v862 c1_i32
  let v999 : BitVec 32 := Scalar.subi v998 arg11
  let c256_i32_636 : BitVec 32 := 256#32
  let v1000 : BitVec 32 := Scalar.muli v999 c256_i32_636
  v1000

def k0_off9 (i : grid0.Coords) (arg11 : BitVec 32) : Fin 4 → Nat :=
  let c0_641 : Index := 0#32
  let c0_642 : Index := 0#32
  let arg2 : BitVec 32 := BitVec.ofNat 32 (i 2).val
  let c2_i32 : BitVec 32 := 2#32
  let v862 : BitVec 32 := Scalar.muli arg2 c2_i32
  let c1_i32 : BitVec 32 := 1#32
  let v998 : BitVec 32 := Scalar.subi v862 c1_i32
  let v999 : BitVec 32 := Scalar.subi v998 arg11
  let c256_i32_636 : BitVec 32 := 256#32
  let v1000 : BitVec 32 := Scalar.muli v999 c256_i32_636
  let v1001 : BitVec 32 := v1000
  let v1004 : Index := Scalar.indexCast v1001
  let c0_643 : Index := 0#32
  ![0, 0, v1004.toNat, 0]
def k0_off10 (i : grid0.Coords) (arg11 : BitVec 32) : Fin 4 → Nat :=
  let c0_672 : Index := 0#32
  let c1_673 : Index := 1#32
  let arg2 : BitVec 32 := BitVec.ofNat 32 (i 2).val
  let c2_i32 : BitVec 32 := 2#32
  let v862 : BitVec 32 := Scalar.muli arg2 c2_i32
  let c1_i32 : BitVec 32 := 1#32
  let v998 : BitVec 32 := Scalar.subi v862 c1_i32
  let v999 : BitVec 32 := Scalar.subi v998 arg11
  let c256_i32_636 : BitVec 32 := 256#32
  let v1000 : BitVec 32 := Scalar.muli v999 c256_i32_636
  let v1001 : BitVec 32 := v1000
  let v1050 : Index := Scalar.indexCast v1001
  let c0_674 : Index := 0#32
  ![0, 1, v1050.toNat, 0]
def k0_off11 (i : grid0.Coords) (arg11 : BitVec 32) : Fin 4 → Nat :=
  let c0_703 : Index := 0#32
  let c2_704 : Index := 2#32
  let arg2 : BitVec 32 := BitVec.ofNat 32 (i 2).val
  let c2_i32 : BitVec 32 := 2#32
  let v862 : BitVec 32 := Scalar.muli arg2 c2_i32
  let c1_i32 : BitVec 32 := 1#32
  let v998 : BitVec 32 := Scalar.subi v862 c1_i32
  let v999 : BitVec 32 := Scalar.subi v998 arg11
  let c256_i32_636 : BitVec 32 := 256#32
  let v1000 : BitVec 32 := Scalar.muli v999 c256_i32_636
  let v1001 : BitVec 32 := v1000
  let v1096 : Index := Scalar.indexCast v1001
  let c0_705 : Index := 0#32
  ![0, 2, v1096.toNat, 0]
def k0_off12 (i : grid0.Coords) (arg11 : BitVec 32) : Fin 4 → Nat :=
  let c0_734 : Index := 0#32
  let c3_735 : Index := 3#32
  let arg2 : BitVec 32 := BitVec.ofNat 32 (i 2).val
  let c2_i32 : BitVec 32 := 2#32
  let v862 : BitVec 32 := Scalar.muli arg2 c2_i32
  let c1_i32 : BitVec 32 := 1#32
  let v998 : BitVec 32 := Scalar.subi v862 c1_i32
  let v999 : BitVec 32 := Scalar.subi v998 arg11
  let c256_i32_636 : BitVec 32 := 256#32
  let v1000 : BitVec 32 := Scalar.muli v999 c256_i32_636
  let v1001 : BitVec 32 := v1000
  let v1142 : Index := Scalar.indexCast v1001
  let c0_736 : Index := 0#32
  ![0, 3, v1142.toNat, 0]
def k0_off13 (i : grid0.Coords) (arg11 : BitVec 32) : Fin 4 → Nat :=
  let c0_765 : Index := 0#32
  let c4_766 : Index := 4#32
  let arg2 : BitVec 32 := BitVec.ofNat 32 (i 2).val
  let c2_i32 : BitVec 32 := 2#32
  let v862 : BitVec 32 := Scalar.muli arg2 c2_i32
  let c1_i32 : BitVec 32 := 1#32
  let v998 : BitVec 32 := Scalar.subi v862 c1_i32
  let v999 : BitVec 32 := Scalar.subi v998 arg11
  let c256_i32_636 : BitVec 32 := 256#32
  let v1000 : BitVec 32 := Scalar.muli v999 c256_i32_636
  let v1001 : BitVec 32 := v1000
  let v1188 : Index := Scalar.indexCast v1001
  let c0_767 : Index := 0#32
  ![0, 4, v1188.toNat, 0]
def k0_off14 (i : grid0.Coords) (arg11 : BitVec 32) : Fin 4 → Nat :=
  let c0_796 : Index := 0#32
  let c5_797 : Index := 5#32
  let arg2 : BitVec 32 := BitVec.ofNat 32 (i 2).val
  let c2_i32 : BitVec 32 := 2#32
  let v862 : BitVec 32 := Scalar.muli arg2 c2_i32
  let c1_i32 : BitVec 32 := 1#32
  let v998 : BitVec 32 := Scalar.subi v862 c1_i32
  let v999 : BitVec 32 := Scalar.subi v998 arg11
  let c256_i32_636 : BitVec 32 := 256#32
  let v1000 : BitVec 32 := Scalar.muli v999 c256_i32_636
  let v1001 : BitVec 32 := v1000
  let v1234 : Index := Scalar.indexCast v1001
  let c0_798 : Index := 0#32
  ![0, 5, v1234.toNat, 0]
def k0_off15 (i : grid0.Coords) (arg11 : BitVec 32) : Fin 4 → Nat :=
  let c0_827 : Index := 0#32
  let c6_828 : Index := 6#32
  let arg2 : BitVec 32 := BitVec.ofNat 32 (i 2).val
  let c2_i32 : BitVec 32 := 2#32
  let v862 : BitVec 32 := Scalar.muli arg2 c2_i32
  let c1_i32 : BitVec 32 := 1#32
  let v998 : BitVec 32 := Scalar.subi v862 c1_i32
  let v999 : BitVec 32 := Scalar.subi v998 arg11
  let c256_i32_636 : BitVec 32 := 256#32
  let v1000 : BitVec 32 := Scalar.muli v999 c256_i32_636
  let v1001 : BitVec 32 := v1000
  let v1280 : Index := Scalar.indexCast v1001
  let c0_829 : Index := 0#32
  ![0, 6, v1280.toNat, 0]
def k0_off16 (i : grid0.Coords) (arg11 : BitVec 32) : Fin 4 → Nat :=
  let c0_858 : Index := 0#32
  let c7_859 : Index := 7#32
  let arg2 : BitVec 32 := BitVec.ofNat 32 (i 2).val
  let c2_i32 : BitVec 32 := 2#32
  let v862 : BitVec 32 := Scalar.muli arg2 c2_i32
  let c1_i32 : BitVec 32 := 1#32
  let v998 : BitVec 32 := Scalar.subi v862 c1_i32
  let v999 : BitVec 32 := Scalar.subi v998 arg11
  let c256_i32_636 : BitVec 32 := 256#32
  let v1000 : BitVec 32 := Scalar.muli v999 c256_i32_636
  let v1001 : BitVec 32 := v1000
  let v1326 : Index := Scalar.indexCast v1001
  let c0_860 : Index := 0#32
  ![0, 7, v1326.toNat, 0]

def k0_chk1 (i : grid0.Coords) (arg11 : BitVec 32) : Prop :=
  (256 ∣ (k0_mult3 i arg11).toNat) ∧
  (∀ a, (k0_off9 i arg11) a + S1x1x256x128.size a ≤ S1x8x2048x128.size a) ∧
  (∀ a, (k0_off10 i arg11) a + S1x1x256x128.size a ≤ S1x8x2048x128.size a) ∧
  (∀ a, (k0_off11 i arg11) a + S1x1x256x128.size a ≤ S1x8x2048x128.size a) ∧
  (∀ a, (k0_off12 i arg11) a + S1x1x256x128.size a ≤ S1x8x2048x128.size a) ∧
  (∀ a, (k0_off13 i arg11) a + S1x1x256x128.size a ≤ S1x8x2048x128.size a) ∧
  (∀ a, (k0_off14 i arg11) a + S1x1x256x128.size a ≤ S1x8x2048x128.size a) ∧
  (∀ a, (k0_off15 i arg11) a + S1x1x256x128.size a ≤ S1x8x2048x128.size a) ∧
  (∀ a, (k0_off16 i arg11) a + S1x1x256x128.size a ≤ S1x8x2048x128.size a)
theorem k0_mult3_dvd : ∀ (i : grid0.Coords) (arg11 : BitVec 32) (k0_hw1 : k0_chk1 i arg11), 256 ∣ (k0_mult3 i arg11).toNat := fun i arg11 k0_hw1 => k0_hw1.1
theorem k0_off9_inb : ∀ (i : grid0.Coords) (arg11 : BitVec 32) (k0_hw1 : k0_chk1 i arg11), ∀ a, (k0_off9 i arg11) a + S1x1x256x128.size a ≤ S1x8x2048x128.size a := fun i arg11 k0_hw1 => k0_hw1.2.1
theorem k0_off10_inb : ∀ (i : grid0.Coords) (arg11 : BitVec 32) (k0_hw1 : k0_chk1 i arg11), ∀ a, (k0_off10 i arg11) a + S1x1x256x128.size a ≤ S1x8x2048x128.size a := fun i arg11 k0_hw1 => k0_hw1.2.2.1
theorem k0_off11_inb : ∀ (i : grid0.Coords) (arg11 : BitVec 32) (k0_hw1 : k0_chk1 i arg11), ∀ a, (k0_off11 i arg11) a + S1x1x256x128.size a ≤ S1x8x2048x128.size a := fun i arg11 k0_hw1 => k0_hw1.2.2.2.1
theorem k0_off12_inb : ∀ (i : grid0.Coords) (arg11 : BitVec 32) (k0_hw1 : k0_chk1 i arg11), ∀ a, (k0_off12 i arg11) a + S1x1x256x128.size a ≤ S1x8x2048x128.size a := fun i arg11 k0_hw1 => k0_hw1.2.2.2.2.1
theorem k0_off13_inb : ∀ (i : grid0.Coords) (arg11 : BitVec 32) (k0_hw1 : k0_chk1 i arg11), ∀ a, (k0_off13 i arg11) a + S1x1x256x128.size a ≤ S1x8x2048x128.size a := fun i arg11 k0_hw1 => k0_hw1.2.2.2.2.2.1
theorem k0_off14_inb : ∀ (i : grid0.Coords) (arg11 : BitVec 32) (k0_hw1 : k0_chk1 i arg11), ∀ a, (k0_off14 i arg11) a + S1x1x256x128.size a ≤ S1x8x2048x128.size a := fun i arg11 k0_hw1 => k0_hw1.2.2.2.2.2.2.1
theorem k0_off15_inb : ∀ (i : grid0.Coords) (arg11 : BitVec 32) (k0_hw1 : k0_chk1 i arg11), ∀ a, (k0_off15 i arg11) a + S1x1x256x128.size a ≤ S1x8x2048x128.size a := fun i arg11 k0_hw1 => k0_hw1.2.2.2.2.2.2.2.1
theorem k0_off16_inb : ∀ (i : grid0.Coords) (arg11 : BitVec 32) (k0_hw1 : k0_chk1 i arg11), ∀ a, (k0_off16 i arg11) a + S1x1x256x128.size a ≤ S1x8x2048x128.size a := fun i arg11 k0_hw1 => k0_hw1.2.2.2.2.2.2.2.2

def k0_mult4 (i : grid0.Coords) (arg11 : BitVec 32) : BitVec 32 :=
  let arg2 : BitVec 32 := BitVec.ofNat 32 (i 2).val
  let c2_i32_533 : BitVec 32 := 2#32
  let v870 : BitVec 32 := Scalar.muli arg2 c2_i32_533
  let c1_i32 : BitVec 32 := 1#32
  let v998 : BitVec 32 := Scalar.subi v870 c1_i32
  let v999 : BitVec 32 := Scalar.subi v998 arg11
  let c256_i32_636 : BitVec 32 := 256#32
  let v1000 : BitVec 32 := Scalar.muli v999 c256_i32_636
  v1000

def k0_off17 (i : grid0.Coords) (arg11 : BitVec 32) : Fin 4 → Nat :=
  let c0_641 : Index := 0#32
  let c0_642 : Index := 0#32
  let arg2 : BitVec 32 := BitVec.ofNat 32 (i 2).val
  let c2_i32_533 : BitVec 32 := 2#32
  let v870 : BitVec 32 := Scalar.muli arg2 c2_i32_533
  let c1_i32 : BitVec 32 := 1#32
  let v998 : BitVec 32 := Scalar.subi v870 c1_i32
  let v999 : BitVec 32 := Scalar.subi v998 arg11
  let c256_i32_636 : BitVec 32 := 256#32
  let v1000 : BitVec 32 := Scalar.muli v999 c256_i32_636
  let v1001 : BitVec 32 := v1000
  let v1004 : Index := Scalar.indexCast v1001
  let c0_643 : Index := 0#32
  ![0, 0, v1004.toNat, 0]
def k0_off18 (i : grid0.Coords) (arg11 : BitVec 32) : Fin 4 → Nat :=
  let c0_672 : Index := 0#32
  let c1_673 : Index := 1#32
  let arg2 : BitVec 32 := BitVec.ofNat 32 (i 2).val
  let c2_i32_533 : BitVec 32 := 2#32
  let v870 : BitVec 32 := Scalar.muli arg2 c2_i32_533
  let c1_i32 : BitVec 32 := 1#32
  let v998 : BitVec 32 := Scalar.subi v870 c1_i32
  let v999 : BitVec 32 := Scalar.subi v998 arg11
  let c256_i32_636 : BitVec 32 := 256#32
  let v1000 : BitVec 32 := Scalar.muli v999 c256_i32_636
  let v1001 : BitVec 32 := v1000
  let v1050 : Index := Scalar.indexCast v1001
  let c0_674 : Index := 0#32
  ![0, 1, v1050.toNat, 0]
def k0_off19 (i : grid0.Coords) (arg11 : BitVec 32) : Fin 4 → Nat :=
  let c0_703 : Index := 0#32
  let c2_704 : Index := 2#32
  let arg2 : BitVec 32 := BitVec.ofNat 32 (i 2).val
  let c2_i32_533 : BitVec 32 := 2#32
  let v870 : BitVec 32 := Scalar.muli arg2 c2_i32_533
  let c1_i32 : BitVec 32 := 1#32
  let v998 : BitVec 32 := Scalar.subi v870 c1_i32
  let v999 : BitVec 32 := Scalar.subi v998 arg11
  let c256_i32_636 : BitVec 32 := 256#32
  let v1000 : BitVec 32 := Scalar.muli v999 c256_i32_636
  let v1001 : BitVec 32 := v1000
  let v1096 : Index := Scalar.indexCast v1001
  let c0_705 : Index := 0#32
  ![0, 2, v1096.toNat, 0]
def k0_off20 (i : grid0.Coords) (arg11 : BitVec 32) : Fin 4 → Nat :=
  let c0_734 : Index := 0#32
  let c3_735 : Index := 3#32
  let arg2 : BitVec 32 := BitVec.ofNat 32 (i 2).val
  let c2_i32_533 : BitVec 32 := 2#32
  let v870 : BitVec 32 := Scalar.muli arg2 c2_i32_533
  let c1_i32 : BitVec 32 := 1#32
  let v998 : BitVec 32 := Scalar.subi v870 c1_i32
  let v999 : BitVec 32 := Scalar.subi v998 arg11
  let c256_i32_636 : BitVec 32 := 256#32
  let v1000 : BitVec 32 := Scalar.muli v999 c256_i32_636
  let v1001 : BitVec 32 := v1000
  let v1142 : Index := Scalar.indexCast v1001
  let c0_736 : Index := 0#32
  ![0, 3, v1142.toNat, 0]
def k0_off21 (i : grid0.Coords) (arg11 : BitVec 32) : Fin 4 → Nat :=
  let c0_765 : Index := 0#32
  let c4_766 : Index := 4#32
  let arg2 : BitVec 32 := BitVec.ofNat 32 (i 2).val
  let c2_i32_533 : BitVec 32 := 2#32
  let v870 : BitVec 32 := Scalar.muli arg2 c2_i32_533
  let c1_i32 : BitVec 32 := 1#32
  let v998 : BitVec 32 := Scalar.subi v870 c1_i32
  let v999 : BitVec 32 := Scalar.subi v998 arg11
  let c256_i32_636 : BitVec 32 := 256#32
  let v1000 : BitVec 32 := Scalar.muli v999 c256_i32_636
  let v1001 : BitVec 32 := v1000
  let v1188 : Index := Scalar.indexCast v1001
  let c0_767 : Index := 0#32
  ![0, 4, v1188.toNat, 0]
def k0_off22 (i : grid0.Coords) (arg11 : BitVec 32) : Fin 4 → Nat :=
  let c0_796 : Index := 0#32
  let c5_797 : Index := 5#32
  let arg2 : BitVec 32 := BitVec.ofNat 32 (i 2).val
  let c2_i32_533 : BitVec 32 := 2#32
  let v870 : BitVec 32 := Scalar.muli arg2 c2_i32_533
  let c1_i32 : BitVec 32 := 1#32
  let v998 : BitVec 32 := Scalar.subi v870 c1_i32
  let v999 : BitVec 32 := Scalar.subi v998 arg11
  let c256_i32_636 : BitVec 32 := 256#32
  let v1000 : BitVec 32 := Scalar.muli v999 c256_i32_636
  let v1001 : BitVec 32 := v1000
  let v1234 : Index := Scalar.indexCast v1001
  let c0_798 : Index := 0#32
  ![0, 5, v1234.toNat, 0]
def k0_off23 (i : grid0.Coords) (arg11 : BitVec 32) : Fin 4 → Nat :=
  let c0_827 : Index := 0#32
  let c6_828 : Index := 6#32
  let arg2 : BitVec 32 := BitVec.ofNat 32 (i 2).val
  let c2_i32_533 : BitVec 32 := 2#32
  let v870 : BitVec 32 := Scalar.muli arg2 c2_i32_533
  let c1_i32 : BitVec 32 := 1#32
  let v998 : BitVec 32 := Scalar.subi v870 c1_i32
  let v999 : BitVec 32 := Scalar.subi v998 arg11
  let c256_i32_636 : BitVec 32 := 256#32
  let v1000 : BitVec 32 := Scalar.muli v999 c256_i32_636
  let v1001 : BitVec 32 := v1000
  let v1280 : Index := Scalar.indexCast v1001
  let c0_829 : Index := 0#32
  ![0, 6, v1280.toNat, 0]
def k0_off24 (i : grid0.Coords) (arg11 : BitVec 32) : Fin 4 → Nat :=
  let c0_858 : Index := 0#32
  let c7_859 : Index := 7#32
  let arg2 : BitVec 32 := BitVec.ofNat 32 (i 2).val
  let c2_i32_533 : BitVec 32 := 2#32
  let v870 : BitVec 32 := Scalar.muli arg2 c2_i32_533
  let c1_i32 : BitVec 32 := 1#32
  let v998 : BitVec 32 := Scalar.subi v870 c1_i32
  let v999 : BitVec 32 := Scalar.subi v998 arg11
  let c256_i32_636 : BitVec 32 := 256#32
  let v1000 : BitVec 32 := Scalar.muli v999 c256_i32_636
  let v1001 : BitVec 32 := v1000
  let v1326 : Index := Scalar.indexCast v1001
  let c0_860 : Index := 0#32
  ![0, 7, v1326.toNat, 0]

def k0_chk2 (i : grid0.Coords) (arg11 : BitVec 32) : Prop :=
  (256 ∣ (k0_mult4 i arg11).toNat) ∧
  (∀ a, (k0_off17 i arg11) a + S1x1x256x128.size a ≤ S1x8x2048x128.size a) ∧
  (∀ a, (k0_off18 i arg11) a + S1x1x256x128.size a ≤ S1x8x2048x128.size a) ∧
  (∀ a, (k0_off19 i arg11) a + S1x1x256x128.size a ≤ S1x8x2048x128.size a) ∧
  (∀ a, (k0_off20 i arg11) a + S1x1x256x128.size a ≤ S1x8x2048x128.size a) ∧
  (∀ a, (k0_off21 i arg11) a + S1x1x256x128.size a ≤ S1x8x2048x128.size a) ∧
  (∀ a, (k0_off22 i arg11) a + S1x1x256x128.size a ≤ S1x8x2048x128.size a) ∧
  (∀ a, (k0_off23 i arg11) a + S1x1x256x128.size a ≤ S1x8x2048x128.size a) ∧
  (∀ a, (k0_off24 i arg11) a + S1x1x256x128.size a ≤ S1x8x2048x128.size a)
theorem k0_mult4_dvd : ∀ (i : grid0.Coords) (arg11 : BitVec 32) (k0_hw2 : k0_chk2 i arg11), 256 ∣ (k0_mult4 i arg11).toNat := fun i arg11 k0_hw2 => k0_hw2.1
theorem k0_off17_inb : ∀ (i : grid0.Coords) (arg11 : BitVec 32) (k0_hw2 : k0_chk2 i arg11), ∀ a, (k0_off17 i arg11) a + S1x1x256x128.size a ≤ S1x8x2048x128.size a := fun i arg11 k0_hw2 => k0_hw2.2.1
theorem k0_off18_inb : ∀ (i : grid0.Coords) (arg11 : BitVec 32) (k0_hw2 : k0_chk2 i arg11), ∀ a, (k0_off18 i arg11) a + S1x1x256x128.size a ≤ S1x8x2048x128.size a := fun i arg11 k0_hw2 => k0_hw2.2.2.1
theorem k0_off19_inb : ∀ (i : grid0.Coords) (arg11 : BitVec 32) (k0_hw2 : k0_chk2 i arg11), ∀ a, (k0_off19 i arg11) a + S1x1x256x128.size a ≤ S1x8x2048x128.size a := fun i arg11 k0_hw2 => k0_hw2.2.2.2.1
theorem k0_off20_inb : ∀ (i : grid0.Coords) (arg11 : BitVec 32) (k0_hw2 : k0_chk2 i arg11), ∀ a, (k0_off20 i arg11) a + S1x1x256x128.size a ≤ S1x8x2048x128.size a := fun i arg11 k0_hw2 => k0_hw2.2.2.2.2.1
theorem k0_off21_inb : ∀ (i : grid0.Coords) (arg11 : BitVec 32) (k0_hw2 : k0_chk2 i arg11), ∀ a, (k0_off21 i arg11) a + S1x1x256x128.size a ≤ S1x8x2048x128.size a := fun i arg11 k0_hw2 => k0_hw2.2.2.2.2.2.1
theorem k0_off22_inb : ∀ (i : grid0.Coords) (arg11 : BitVec 32) (k0_hw2 : k0_chk2 i arg11), ∀ a, (k0_off22 i arg11) a + S1x1x256x128.size a ≤ S1x8x2048x128.size a := fun i arg11 k0_hw2 => k0_hw2.2.2.2.2.2.2.1
theorem k0_off23_inb : ∀ (i : grid0.Coords) (arg11 : BitVec 32) (k0_hw2 : k0_chk2 i arg11), ∀ a, (k0_off23 i arg11) a + S1x1x256x128.size a ≤ S1x8x2048x128.size a := fun i arg11 k0_hw2 => k0_hw2.2.2.2.2.2.2.2.1
theorem k0_off24_inb : ∀ (i : grid0.Coords) (arg11 : BitVec 32) (k0_hw2 : k0_chk2 i arg11), ∀ a, (k0_off24 i arg11) a + S1x1x256x128.size a ≤ S1x8x2048x128.size a := fun i arg11 k0_hw2 => k0_hw2.2.2.2.2.2.2.2.2

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, v0.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "rln2" => some (((Real.log 2)⁻¹ : ℝ) : EReal)
  | "vanish" => some ⊥
  | _ => none
-- ==== ReferenceIdeal.lean ====
abbrev S8x2048x8192 : Shape := ⟨3, ![8, 2048, 8192]⟩
abbrev S8x2048x2048 : Shape := ⟨3, ![8, 2048, 2048]⟩
abbrev S8x2048x16x128 : Shape := ⟨4, ![8, 2048, 16, 128]⟩
abbrev S8x16x2048x128 : Shape := ⟨4, ![8, 16, 2048, 128]⟩
abbrev S8x16x2048x2048 : Shape := ⟨4, ![8, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 85
  | .vmem => 0
  | .smem => 0
  | _ => 0

abbrev bufTy : (tb : Table) → Fin (tcTables nBuf tb) → BufTy
  | .hbm, ⟨0, _⟩ => ⟨S8x2048x8192, .f32⟩
  | .hbm, ⟨1, _⟩ => ⟨S8x2048x2048, .f32⟩
  | .hbm, ⟨2, _⟩ => ⟨S8x2048x2048, .f32⟩
  | .hbm, ⟨3, _⟩ => ⟨S8x2048x2048, .f32⟩
  | .hbm, ⟨4, _⟩ => ⟨S8x2048x2048, .f32⟩
  | .hbm, ⟨5, _⟩ => ⟨S8x2048x16x128, .f32⟩
  | .hbm, ⟨6, _⟩ => ⟨S8x16x2048x128, .f32⟩
  | .hbm, ⟨7, _⟩ => ⟨S8x2048x16x128, .f32⟩
  | .hbm, ⟨8, _⟩ => ⟨S8x16x2048x128, .f32⟩
  | .hbm, ⟨9, _⟩ => ⟨S8x2048x16x128, .f32⟩
  | .hbm, ⟨10, _⟩ => ⟨S8x16x2048x128, .f32⟩
  | .hbm, ⟨11, _⟩ => ⟨S8x16x2048x2048, .f32⟩
  | .hbm, ⟨12, _⟩ => ⟨S_, .f32⟩
  | .hbm, ⟨13, _⟩ => ⟨S8x16x2048x2048, .f32⟩
  | .hbm, ⟨14, _⟩ => ⟨S8x16x2048x2048, .f32⟩
  | .hbm, ⟨15, _⟩ => ⟨S2048, .i32⟩
  | .hbm, ⟨16, _⟩ => ⟨S1x2048, .i32⟩
  | .hbm, ⟨17, _⟩ => ⟨S2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S8x16x2048x2048, .f32⟩
  | .hbm, ⟨23, _⟩ => ⟨S_, .f32⟩
  | .hbm, ⟨24, _⟩ => ⟨S8x16x2048x2048, .f32⟩
  | .hbm, ⟨25, _⟩ => ⟨S8x16x2048x2048, .f32⟩
  | .hbm, ⟨26, _⟩ => ⟨S8x16x2048x2048, .f32⟩
  | .hbm, ⟨27, _⟩ => ⟨S8x16x2048x2048, .f32⟩
  | .hbm, ⟨28, _⟩ => ⟨S8x16x2048x2048, .i1⟩
  | .hbm, ⟨29, _⟩ => ⟨S8x16x2048x2048, .f32⟩
  | .hbm, ⟨30, _⟩ => ⟨S8x16x2048x2048, .f32⟩
  | .hbm, ⟨31, _⟩ => ⟨S8x16x2048x2048, .f32⟩
  | .hbm, ⟨32, _⟩ => ⟨S8x16x2048x2048, .f32⟩
  | .hbm, ⟨33, _⟩ => ⟨S8x16x2048x2048, .f32⟩
  | .hbm, ⟨34, _⟩ => ⟨S8x16x2048x2048, .f32⟩
  | .hbm, ⟨35, _⟩ => ⟨S8x16x2048x2048, .f32⟩
  | .hbm, ⟨36, _⟩ => ⟨S8x16x2048x2048, .f32⟩
  | .hbm, ⟨37, _⟩ => ⟨S8x16x2048x2048, .f32⟩
  | .hbm, ⟨38, _⟩ => ⟨S8x16x2048x2048, .f32⟩
  | .hbm, ⟨39, _⟩ => ⟨S8x16x2048x2048, .f32⟩
  | .hbm, ⟨40, _⟩ => ⟨S_, .f32⟩
  | .hbm, ⟨41, _⟩ => ⟨S8x16x2048x2048, .f32⟩
  | .hbm, ⟨42, _⟩ => ⟨S8x16x2048x2048, .f32⟩
  | .hbm, ⟨43, _⟩ => ⟨S8x16x2048x2048, .f32⟩
  | .hbm, ⟨44, _⟩ => ⟨S8x16x2048x2048, .f32⟩
  | .hbm, ⟨45, _⟩ => ⟨S8x16x2048x2048, .i1⟩
  | .hbm, ⟨46, _⟩ => ⟨S8x16x2048x2048, .f32⟩
  | .hbm, ⟨47, _⟩ => ⟨S8x16x2048x2048, .f32⟩
  | .hbm, ⟨48, _⟩ => ⟨S8x16x2048x2048, .f32⟩
  | .hbm, ⟨49, _⟩ => ⟨S8x16x2048x2048, .f32⟩
  | .hbm, ⟨50, _⟩ => ⟨S8x16x2048x2048, .f32⟩
  | .hbm, ⟨51, _⟩ => ⟨S8x16x2048x2048, .f32⟩
  | .hbm, ⟨52, _⟩ => ⟨S8x16x2048x2048, .f32⟩
  | .hbm, ⟨53, _⟩ => ⟨S8x16x2048x2048, .f32⟩
  | .hbm, ⟨54, _⟩ => ⟨S8x16x2048x2048, .f32⟩
  | .hbm, ⟨55, _⟩ => ⟨S_, .f32⟩
  | .hbm, ⟨56, _⟩ => ⟨S_, .f32⟩
  | .hbm, ⟨57, _⟩ => ⟨S8x16x2048x2048, .i1⟩
  | .hbm, ⟨58, _⟩ => ⟨S8x16x2048x2048, .f32⟩
  | .hbm, ⟨59, _⟩ => ⟨S8x16x2048x2048, .f32⟩
  | .hbm, ⟨60, _⟩ => ⟨S_, .f32⟩
  | .hbm, ⟨61, _⟩ => ⟨S_, .f32⟩
  | .hbm, ⟨62, _⟩ => ⟨S8x16x2048x2048, .f32⟩
  | .hbm, ⟨63, _⟩ => ⟨S8x16x2048x2048, .f32⟩
  | .hbm, ⟨64, _⟩ => ⟨S8x16x2048x2048, .f32⟩
  | .hbm, ⟨65, _⟩ => ⟨S8x16x2048x2048, .f32⟩
  | .hbm, ⟨66, _⟩ => ⟨S_, .f32⟩
  | .hbm, ⟨67, _⟩ => ⟨S_, .f32⟩
  | .hbm, ⟨68, _⟩ => ⟨S8x16x2048x2048, .i1⟩
  | .hbm, ⟨69, _⟩ => ⟨S8x16x2048x2048, .f32⟩
  | .hbm, ⟨70, _⟩ => ⟨S8x16x2048x2048, .f32⟩
  | .hbm, ⟨71, _⟩ => ⟨S8x16x2048x128, .f32⟩
  | .hbm, ⟨72, _⟩ => ⟨S8x2048x16x128, .f32⟩
  | .hbm, ⟨73, _⟩ => ⟨S8x16x2048x128, .f32⟩
  | .hbm, ⟨74, _⟩ => ⟨S8x16x2048x128, .f32⟩
  | .hbm, ⟨75, _⟩ => ⟨S8x16x2048x128, .f32⟩
  | .hbm, ⟨76, _⟩ => ⟨S_, .f32⟩
  | .hbm, ⟨77, _⟩ => ⟨S8x16x2048x128, .f32⟩
  | .hbm, ⟨78, _⟩ => ⟨S8x16x2048x128, .f32⟩
  | .hbm, ⟨79, _⟩ => ⟨S_, .f32⟩
  | .hbm, ⟨80, _⟩ => ⟨S8x16x2048x128, .f32⟩
  | .hbm, ⟨81, _⟩ => ⟨S8x16x2048x128, .f32⟩
  | .hbm, ⟨82, _⟩ => ⟨S8x16x2048x128, .f32⟩
  | .hbm, ⟨83, _⟩ => ⟨S8x16x2048x128, .f32⟩
  | .hbm, ⟨84, _⟩ => ⟨S8x16x2048x128, .bf16⟩
  | _, _ => ⟨S8x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v22 : Ref sig .tc := ⟨.hbm, 54, rfl⟩
abbrev main_cst_0 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v23 : Ref sig .tc := ⟨.hbm, 59, rfl⟩
abbrev main_call3_cst : Ref sig .tc := ⟨.hbm, 60, rfl⟩
abbrev main_call3_v0 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_call5_v0 : Ref sig .tc := ⟨.hbm, 74, rfl⟩
abbrev main_call5_v1 : Ref sig .tc := ⟨.hbm, 75, rfl⟩
abbrev main_call5_cst : Ref sig .tc := ⟨.hbm, 76, rfl⟩
abbrev main_call5_v2 : Ref sig .tc := ⟨.hbm, 77, rfl⟩
abbrev main_call5_v3 : Ref sig .tc := ⟨.hbm, 78, rfl⟩
abbrev main_call5_cst_0 : Ref sig .tc := ⟨.hbm, 79, rfl⟩
abbrev main_call5_v4 : Ref sig .tc := ⟨.hbm, 80, rfl⟩
abbrev main_call5_v5 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩

abbrev nD : Nat := 1
abbrev τ : Topo := Topo.v7x

variable {F : FTy → Type} [FloatOps F]
-- ==== KernelOut.lean ====
abbrev S8x2048x1024 : Shape := ⟨3, ![8, 2048, 1024]⟩
abbrev S8x2048x2048 : Shape := ⟨3, ![8, 2048, 2048]⟩
abbrev S2x2048x1024 : Shape := ⟨3, ![2, 2048, 1024]⟩
abbrev S2x1024 : Shape := ⟨2, ![2, 1024]⟩
abbrev S8x2048x16x128 : Shape := ⟨4, ![8, 2048, 16, 128]⟩
abbrev S8x16x2048x128 : Shape := ⟨4, ![8, 16, 2048, 128]⟩
abbrev S16384x1024 : Shape := ⟨2, ![16384, 1024]⟩
abbrev S1x1024 : Shape := ⟨2, ![1, 1024]⟩
abbrev S1024 : Shape := ⟨1, ![1024]⟩
abbrev S1x16x1024x128 : Shape := ⟨4, ![1, 16, 1024, 128]⟩
abbrev S1x2048x1024 : Shape := ⟨3, ![1, 2048, 1024]⟩
abbrev S1024x1024 : Shape := ⟨2, ![1024, 1024]⟩
abbrev S2048x1024 : Shape := ⟨2, ![2048, 1024]⟩
abbrev S1x1x1024x128 : Shape := ⟨4, ![1, 1, 1024, 128]⟩
abbrev S1024x128 : Shape := ⟨2, ![1024, 128]⟩
abbrev S1024x2048 : Shape := ⟨2, ![1024, 2048]⟩

abbrev nBuf : Space → Nat
  | .hbm => 12
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .f32⟩
  | .hbm, ⟨2, _⟩ => ⟨S2x2048x1024, .f32⟩
  | .hbm, ⟨3, _⟩ => ⟨S2x1024, .f32⟩
  | .hbm, ⟨4, _⟩ => ⟨S8x2048x16x128, .f32⟩
  | .hbm, ⟨5, _⟩ => ⟨S8x16x2048x128, .f32⟩
  | .hbm, ⟨6, _⟩ => ⟨S8x16x2048x128, .bf16⟩
  | .hbm, ⟨7, _⟩ => ⟨S16384x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S16384x1024, .f32⟩
  | .local _ .vmem, ⟨0, _⟩ => ⟨S1x16x1024x128, .bf16⟩
  | .local _ .vmem, ⟨1, _⟩ => ⟨S1x16x1024x128, .bf16⟩
  | .local _ .vmem, ⟨2, _⟩ => ⟨S1x2048x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x16x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceOutIdeal.lean ====
abbrev S8x2048x1024 : Shape := ⟨3, ![8, 2048, 1024]⟩
abbrev S8x2048x2048 : Shape := ⟨3, ![8, 2048, 2048]⟩
abbrev S2x2048x1024 : Shape := ⟨3, ![2, 2048, 1024]⟩
abbrev S2x1024 : Shape := ⟨2, ![2, 1024]⟩
abbrev S1x2048x1024 : Shape := ⟨3, ![1, 2048, 1024]⟩
abbrev S2048x1024 : Shape := ⟨2, ![2048, 1024]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .f32⟩
  | .hbm, ⟨2, _⟩ => ⟨S2x2048x1024, .f32⟩
  | .hbm, ⟨3, _⟩ => ⟨S2x1024, .f32⟩
  | .hbm, ⟨4, _⟩ => ⟨S1x2048x1024, .f32⟩
  | .hbm, ⟨5, _⟩ => ⟨S2048x1024, .f32⟩
  | .hbm, ⟨6, _⟩ => ⟨S8x2048x1024, .f32⟩
  | .hbm, ⟨7, _⟩ => ⟨S8x2048x1024, .f32⟩
  | .hbm, ⟨8, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelIn.lean ====
abbrev S8x2048x1024 : Shape := ⟨3, ![8, 2048, 1024]⟩
abbrev S2x1024 : Shape := ⟨2, ![2, 1024]⟩
abbrev S2x1024x8192 : Shape := ⟨3, ![2, 1024, 8192]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8192 : Shape := ⟨1, ![8192]⟩
abbrev S1x8192 : Shape := ⟨2, ![1, 8192]⟩
abbrev S16384x1024 : Shape := ⟨2, ![16384, 1024]⟩
abbrev S1x1024 : Shape := ⟨2, ![1, 1024]⟩
abbrev S1024 : Shape := ⟨1, ![1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x64x2048x128 : Shape := ⟨4, ![8, 64, 2048, 128]⟩
abbrev S2048x1024 : Shape := ⟨2, ![2048, 1024]⟩
abbrev S1x1024x1024 : Shape := ⟨3, ![1, 1024, 1024]⟩
abbrev S1x8x2048x128 : Shape := ⟨4, ![1, 8, 2048, 128]⟩
abbrev S1024x1024 : Shape := ⟨2, ![1024, 1024]⟩
abbrev S1x128 : Shape := ⟨2, ![1, 128]⟩
abbrev S1x1x2048x128 : Shape := ⟨4, ![1, 1, 2048, 128]⟩

abbrev nBuf : Space → Nat
  | .hbm => 75
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x8192, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S2048, .f32⟩
  | .hbm, ⟨20, _⟩ => ⟨S2048x1, .f32⟩
  | .hbm, ⟨21, _⟩ => ⟨S1x64, .f32⟩
  | .hbm, ⟨22, _⟩ => ⟨S2048x64, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x128, .f32⟩
  | .hbm, ⟨28, _⟩ => ⟨S2048x64, .f32⟩
  | .hbm, ⟨29, _⟩ => ⟨S2048x128, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S8192, .f32⟩
  | .hbm, ⟨39, _⟩ => ⟨S1x8192, .f32⟩
  | .hbm, ⟨40, _⟩ => ⟨S16384x1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S256, .i32⟩
  | .hbm, ⟨45, _⟩ => ⟨S_, .i32⟩
  | .hbm, ⟨46, _⟩ => ⟨S_, .i32⟩
  | .hbm, ⟨47, _⟩ => ⟨S256, .i32⟩
  | .hbm, ⟨48, _⟩ => ⟨S256, .i32⟩
  | .hbm, ⟨49, _⟩ => ⟨S256, .i32⟩
  | .hbm, ⟨50, _⟩ => ⟨S_, .i32⟩
  | .hbm, ⟨51, _⟩ => ⟨S256, .i32⟩
  | .hbm, ⟨52, _⟩ => ⟨S256, .i1⟩
  | .hbm, ⟨53, _⟩ => ⟨S256, .i32⟩
  | .hbm, ⟨54, _⟩ => ⟨S256, .i32⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S256, .i1⟩
  | .hbm, ⟨59, _⟩ => ⟨S_, .i32⟩
  | .hbm, ⟨60, _⟩ => ⟨S256, .i32⟩
  | .hbm, ⟨61, _⟩ => ⟨S256, .i32⟩
  | .hbm, ⟨62, _⟩ => ⟨S256, .i32⟩
  | .hbm, ⟨63, _⟩ => ⟨S256x1, .i32⟩
  | .hbm, ⟨64, _⟩ => ⟨S1x256, .i32⟩
  | .hbm, ⟨65, _⟩ => ⟨S256x256, .i32⟩
  | .hbm, ⟨66, _⟩ => ⟨S256x256, .i32⟩
  | .hbm, ⟨67, _⟩ => ⟨S256x256, .i1⟩
  | .hbm, ⟨68, _⟩ => ⟨S_, .f32⟩
  | .hbm, ⟨69, _⟩ => ⟨S_, .f32⟩
  | .hbm, ⟨70, _⟩ => ⟨S256x256, .f32⟩
  | .hbm, ⟨71, _⟩ => ⟨S256x256, .f32⟩
  | .hbm, ⟨72, _⟩ => ⟨S256x256, .f32⟩
  | .hbm, ⟨73, _⟩ => ⟨S256x256, .bf16⟩
  | .hbm, ⟨74, _⟩ => ⟨S8x64x2048x128, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024, .f32⟩
  | .local _ .vmem, ⟨6, _⟩ => ⟨S1x1024, .f32⟩
  | .local _ .vmem, ⟨7, _⟩ => ⟨S2048x128, .f32⟩
  | .local _ .vmem, ⟨8, _⟩ => ⟨S2048x128, .f32⟩
  | .local _ .vmem, ⟨9, _⟩ => ⟨S256x256, .bf16⟩
  | .local _ .vmem, ⟨10, _⟩ => ⟨S1x8x2048x128, .bf16⟩
  | .local _ .vmem, ⟨11, _⟩ => ⟨S1x8x2048x128, .bf16⟩
  | .local _ .vmem, ⟨12, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_c : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_0 : Ref sig .tc := ⟨.hbm, 59, rfl⟩
abbrev main_call0_v12 : Ref sig .tc := ⟨.hbm, 60, rfl⟩
abbrev main_call0_v13 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_cst_8 : Ref sig .tc := ⟨.hbm, 69, rfl⟩
abbrev main_call1_v0 : Ref sig .tc := ⟨.hbm, 70, rfl⟩
abbrev main_call1_v1 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceInIdeal.lean ====
abbrev S8x2048x1024 : Shape := ⟨3, ![8, 2048, 1024]⟩
abbrev S2x1024 : Shape := ⟨2, ![2, 1024]⟩
abbrev S2x1024x8192 : Shape := ⟨3, ![2, 1024, 8192]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1x1024x8192 : Shape := ⟨3, ![1, 1024, 8192]⟩
abbrev S1024x8192 : Shape := ⟨2, ![1024, 8192]⟩
abbrev S8x2048x8192 : Shape := ⟨3, ![8, 2048, 8192]⟩
abbrev S8x2048x2048 : Shape := ⟨3, ![8, 2048, 2048]⟩
abbrev S8x2048x16x128 : Shape := ⟨4, ![8, 2048, 16, 128]⟩
abbrev S8x16x2048x128 : Shape := ⟨4, ![8, 16, 2048, 128]⟩
abbrev S8x64x2048x128 : Shape := ⟨4, ![8, 64, 2048, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x8192, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1x1024x8192, .f32⟩
  | .hbm, ⟨22, _⟩ => ⟨S1024x8192, .f32⟩
  | .hbm, ⟨23, _⟩ => ⟨S8x2048x8192, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x2048x2048, .f32⟩
  | .hbm, ⟨33, _⟩ => ⟨S8x2048x2048, .f32⟩
  | .hbm, ⟨34, _⟩ => ⟨S8x2048x16x128, .f32⟩
  | .hbm, ⟨35, _⟩ => ⟨S8x16x2048x128, .f32⟩
  | .hbm, ⟨36, _⟩ => ⟨S8x2048x16x128, .f32⟩
  | .hbm, ⟨37, _⟩ => ⟨S8x16x2048x128, .f32⟩
  | .hbm, ⟨38, _⟩ => ⟨S8x2048x16x128, .f32⟩
  | .hbm, ⟨39, _⟩ => ⟨S8x16x2048x128, .f32⟩
  | .hbm, ⟨40, _⟩ => ⟨S8x2048x16x128, .f32⟩
  | .hbm, ⟨41, _⟩ => ⟨S8x16x2048x128, .f32⟩
  | .hbm, ⟨42, _⟩ => ⟨S8x64x2048x128, .f32⟩
  | .hbm, ⟨43, _⟩ => ⟨S8x64x2048x128, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== KernelDfIn.lean ====
abbrev S8x2048x1024 : Shape := ⟨3, ![8, 2048, 1024]⟩
abbrev S2x1024 : Shape := ⟨2, ![2, 1024]⟩
abbrev S2x1024x8192 : Shape := ⟨3, ![2, 1024, 8192]⟩
abbrev S2x128 : Shape := ⟨2, ![2, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x128 : Shape := ⟨2, ![1, 128]⟩
abbrev S128 : Shape := ⟨1, ![128]⟩
abbrev S16x128 : Shape := ⟨2, ![16, 128]⟩
abbrev S8192 : Shape := ⟨1, ![8192]⟩
abbrev S1x8192 : Shape := ⟨2, ![1, 8192]⟩
abbrev S16384x1024 : Shape := ⟨2, ![16384, 1024]⟩
abbrev S1x1024 : Shape := ⟨2, ![1, 1024]⟩
abbrev S1024 : Shape := ⟨1, ![1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x64x2048x128 : Shape := ⟨4, ![8, 64, 2048, 128]⟩
abbrev S2048x1024 : Shape := ⟨2, ![2048, 1024]⟩
abbrev S1x1024x1024 : Shape := ⟨3, ![1, 1024, 1024]⟩
abbrev S1x8x2048x128 : Shape := ⟨4, ![1, 8, 2048, 128]⟩
abbrev S1024x1024 : Shape := ⟨2, ![1024, 1024]⟩
abbrev S2048x256 : Shape := ⟨2, ![2048, 256]⟩
abbrev S1x1x2048x128 : Shape := ⟨4, ![1, 1, 2048, 128]⟩

abbrev nBuf : Space → Nat
  | .hbm => 88
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x8192, .f32⟩
  | .hbm, ⟨3, _⟩ => ⟨S2x128, .f32⟩
  | .hbm, ⟨4, _⟩ => ⟨S2x128, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S2048, .f32⟩
  | .hbm, ⟨22, _⟩ => ⟨S2048x1, .f32⟩
  | .hbm, ⟨23, _⟩ => ⟨S1x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S2048x64, .f32⟩
  | .hbm, ⟨29, _⟩ => ⟨S2048x128, .f32⟩
  | .hbm, ⟨30, _⟩ => ⟨S2048x64, .f32⟩
  | .hbm, ⟨31, _⟩ => ⟨S2048x128, .f32⟩
  | .hbm, ⟨32, _⟩ => ⟨S_, .f32⟩
  | .hbm, ⟨33, _⟩ => ⟨S2048, .f32⟩
  | .hbm, ⟨34, _⟩ => ⟨S1x128, .f32⟩
  | .hbm, ⟨35, _⟩ => ⟨S128, .f32⟩
  | .hbm, ⟨36, _⟩ => ⟨S1x128, .f32⟩
  | .hbm, ⟨37, _⟩ => ⟨S16x128, .f32⟩
  | .hbm, ⟨38, _⟩ => ⟨S2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S16x128, .f32⟩
  | .hbm, ⟨49, _⟩ => ⟨S2048, .f32⟩
  | .hbm, ⟨50, _⟩ => ⟨S8192, .f32⟩
  | .hbm, ⟨51, _⟩ => ⟨S1x8192, .f32⟩
  | .hbm, ⟨52, _⟩ => ⟨S16384x1024, .f32⟩
  | .hbm, ⟨53, _⟩ => ⟨S16384x1024, .bf16⟩
  | .hbm, ⟨54, _⟩ => ⟨S1x1024, .f32⟩
  | .hbm, ⟨55, _⟩ => ⟨S1024, .f32⟩
  | .hbm, ⟨56, _⟩ => ⟨S1x1024, .f32⟩
  | .hbm, ⟨57, _⟩ => ⟨S256, .i32⟩
  | .hbm, ⟨58, _⟩ => ⟨S_, .i32⟩
  | .hbm, ⟨59, _⟩ => ⟨S_, .i32⟩
  | .hbm, ⟨60, _⟩ => ⟨S256, .i32⟩
  | .hbm, ⟨61, _⟩ => ⟨S256, .i32⟩
  | .hbm, ⟨62, _⟩ => ⟨S256, .i32⟩
  | .hbm, ⟨63, _⟩ => ⟨S_, .i32⟩
  | .hbm, ⟨64, _⟩ => ⟨S256, .i32⟩
  | .hbm, ⟨65, _⟩ => ⟨S256, .i1⟩
  | .hbm, ⟨66, _⟩ => ⟨S256, .i32⟩
  | .hbm, ⟨67, _⟩ => ⟨S256, .i32⟩
  | .hbm, ⟨68, _⟩ => ⟨S_, .i32⟩
  | .hbm, ⟨69, _⟩ => ⟨S256, .i32⟩
  | .hbm, ⟨70, _⟩ => ⟨S256, .i1⟩
  | .hbm, ⟨71, _⟩ => ⟨S256, .i1⟩
  | .hbm, ⟨72, _⟩ => ⟨S_, .i32⟩
  | .hbm, ⟨73, _⟩ => ⟨S256, .i32⟩
  | .hbm, ⟨74, _⟩ => ⟨S256, .i32⟩
  | .hbm, ⟨75, _⟩ => ⟨S256, .i32⟩
  | .hbm, ⟨76, _⟩ => ⟨S256x1, .i32⟩
  | .hbm, ⟨77, _⟩ => ⟨S1x256, .i32⟩
  | .hbm, ⟨78, _⟩ => ⟨S256x256, .i32⟩
  | .hbm, ⟨79, _⟩ => ⟨S256x256, .i32⟩
  | .hbm, ⟨80, _⟩ => ⟨S256x256, .i1⟩
  | .hbm, ⟨81, _⟩ => ⟨S_, .f32⟩
  | .hbm, ⟨82, _⟩ => ⟨S_, .f32⟩
  | .hbm, ⟨83, _⟩ => ⟨S256x256, .f32⟩
  | .hbm, ⟨84, _⟩ => ⟨S256x256, .f32⟩
  | .hbm, ⟨85, _⟩ => ⟨S256x256, .f32⟩
  | .hbm, ⟨86, _⟩ => ⟨S256x256, .bf16⟩
  | .hbm, ⟨87, _⟩ => ⟨S8x64x2048x128, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024, .f32⟩
  | .local _ .vmem, ⟨6, _⟩ => ⟨S1x1024, .f32⟩
  | .local _ .vmem, ⟨7, _⟩ => ⟨S2048x128, .f32⟩
  | .local _ .vmem, ⟨8, _⟩ => ⟨S2048x128, .f32⟩
  | .local _ .vmem, ⟨9, _⟩ => ⟨S256x256, .bf16⟩
  | .local _ .vmem, ⟨10, _⟩ => ⟨S1x8x2048x128, .bf16⟩
  | .local _ .vmem, ⟨11, _⟩ => ⟨S1x8x2048x128, .bf16⟩
  | .local _ .vmem, ⟨12, _⟩ => ⟨S16x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_c : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_0 : Ref sig .tc := ⟨.hbm, 72, rfl⟩
abbrev main_call0_v12 : Ref sig .tc := ⟨.hbm, 73, rfl⟩
abbrev main_call0_v13 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_7 : Ref sig .tc := ⟨.hbm, 81, rfl⟩
abbrev main_cst_8 : Ref sig .tc := ⟨.hbm, 82, rfl⟩
abbrev main_call1_v0 : Ref sig .tc := ⟨.hbm, 83, rfl⟩
abbrev main_call1_v1 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c4_i32 : BitVec 32 := 4#32
  let v6 : BitVec 1 := Scalar.cmpi .slt arg1 c4_i32
  let v7 : BitVec 32 := Scalar.extui v6
  let c0_i32 : BitVec 32 := 0#32
  let v8 : BitVec 1 := Scalar.cmpi .ne v7 c0_i32
  v8

def k0_cond2 (i : grid0.Coords) : BitVec 1 :=
  let arg1 : BitVec 32 := BitVec.ofNat 32 (i 1).val
  let c4_i32_4 : BitVec 32 := 4#32
  let v9 : BitVec 1 := Scalar.cmpi .sge arg1 c4_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceDfInIdeal.lean ====
abbrev S8x2048x1024 : Shape := ⟨3, ![8, 2048, 1024]⟩
abbrev S2x1024 : Shape := ⟨2, ![2, 1024]⟩
abbrev S2x1024x8192 : Shape := ⟨3, ![2, 1024, 8192]⟩
abbrev S2x128 : Shape := ⟨2, ![2, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S1x1024x8192 : Shape := ⟨3, ![1, 1024, 8192]⟩
abbrev S1024x8192 : Shape := ⟨2, ![1024, 8192]⟩
abbrev S8x2048x8192 : Shape := ⟨3, ![8, 2048, 8192]⟩
abbrev S8x2048x2048 : Shape := ⟨3, ![8, 2048, 2048]⟩
abbrev S8x2048x16x128 : Shape := ⟨4, ![8, 2048, 16, 128]⟩
abbrev S8x16x2048x128 : Shape := ⟨4, ![8, 16, 2048, 128]⟩
abbrev S1x128 : Shape := ⟨2, ![1, 128]⟩
abbrev S128 : Shape := ⟨1, ![128]⟩
abbrev S8x16x2048 : Shape := ⟨3, ![8, 16, 2048]⟩
abbrev S8x16x2048x1 : Shape := ⟨4, ![8, 16, 2048, 1]⟩
abbrev S1x1x1x128 : Shape := ⟨4, ![1, 1, 1, 128]⟩
abbrev S8x16x2048x64 : Shape := ⟨4, ![8, 16, 2048, 64]⟩
abbrev S1x1x2048x64 : Shape := ⟨4, ![1, 1, 2048, 64]⟩
abbrev S8x64x2048x128 : Shape := ⟨4, ![8, 64, 2048, 128]⟩

abbrev nBuf : Space → Nat
  | .hbm => 122
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x8192, .f32⟩
  | .hbm, ⟨3, _⟩ => ⟨S2x128, .f32⟩
  | .hbm, ⟨4, _⟩ => ⟨S2x128, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S2048, .f32⟩
  | .hbm, ⟨22, _⟩ => ⟨S2048x1, .f32⟩
  | .hbm, ⟨23, _⟩ => ⟨S1x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S2048x64, .f32⟩
  | .hbm, ⟨29, _⟩ => ⟨S1x1024x8192, .f32⟩
  | .hbm, ⟨30, _⟩ => ⟨S1024x8192, .f32⟩
  | .hbm, ⟨31, _⟩ => ⟨S8x2048x8192, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x16x128, .f32⟩
  | .hbm, ⟨37, _⟩ => ⟨S8x16x2048x128, .f32⟩
  | .hbm, ⟨38, _⟩ => ⟨S1x128, .f32⟩
  | .hbm, ⟨39, _⟩ => ⟨S128, .f32⟩
  | .hbm, ⟨40, _⟩ => ⟨S8x16x2048x128, .f32⟩
  | .hbm, ⟨41, _⟩ => ⟨S_, .f32⟩
  | .hbm, ⟨42, _⟩ => ⟨S8x16x2048, .f32⟩
  | .hbm, ⟨43, _⟩ => ⟨S8x16x2048x1, .f32⟩
  | .hbm, ⟨44, _⟩ => ⟨S_, .f32⟩
  | .hbm, ⟨45, _⟩ => ⟨S8x16x2048x1, .f32⟩
  | .hbm, ⟨46, _⟩ => ⟨S8x16x2048x1, .f32⟩
  | .hbm, ⟨47, _⟩ => ⟨S_, .f32⟩
  | .hbm, ⟨48, _⟩ => ⟨S8x16x2048x1, .f32⟩
  | .hbm, ⟨49, _⟩ => ⟨S8x16x2048x1, .f32⟩
  | .hbm, ⟨50, _⟩ => ⟨S8x16x2048x1, .f32⟩
  | .hbm, ⟨51, _⟩ => ⟨S8x16x2048x128, .f32⟩
  | .hbm, ⟨52, _⟩ => ⟨S8x16x2048x128, .f32⟩
  | .hbm, ⟨53, _⟩ => ⟨S1x1x1x128, .f32⟩
  | .hbm, ⟨54, _⟩ => ⟨S8x16x2048x128, .f32⟩
  | .hbm, ⟨55, _⟩ => ⟨S8x16x2048x128, .f32⟩
  | .hbm, ⟨56, _⟩ => ⟨S8x16x2048x64, .f32⟩
  | .hbm, ⟨57, _⟩ => ⟨S8x16x2048x64, .f32⟩
  | .hbm, ⟨58, _⟩ => ⟨S1x1x2048x64, .f32⟩
  | .hbm, ⟨59, _⟩ => ⟨S8x16x2048x64, .f32⟩
  | .hbm, ⟨60, _⟩ => ⟨S8x16x2048x64, .f32⟩
  | .hbm, ⟨61, _⟩ => ⟨S1x1x2048x64, .f32⟩
  | .hbm, ⟨62, _⟩ => ⟨S8x16x2048x64, .f32⟩
  | .hbm, ⟨63, _⟩ => ⟨S8x16x2048x64, .f32⟩
  | .hbm, ⟨64, _⟩ => ⟨S8x16x2048x64, .f32⟩
  | .hbm, ⟨65, _⟩ => ⟨S1x1x2048x64, .f32⟩
  | .hbm, ⟨66, _⟩ => ⟨S8x16x2048x64, .f32⟩
  | .hbm, ⟨67, _⟩ => ⟨S8x16x2048x64, .f32⟩
  | .hbm, ⟨68, _⟩ => ⟨S1x1x2048x64, .f32⟩
  | .hbm, ⟨69, _⟩ => ⟨S8x16x2048x64, .f32⟩
  | .hbm, ⟨70, _⟩ => ⟨S8x16x2048x64, .f32⟩
  | .hbm, ⟨71, _⟩ => ⟨S8x16x2048x64, .f32⟩
  | .hbm, ⟨72, _⟩ => ⟨S8x16x2048x128, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S8x16x2048x128, .f32⟩
  | .hbm, ⟨78, _⟩ => ⟨S8x16x2048x128, .f32⟩
  | .hbm, ⟨79, _⟩ => ⟨S8x2048x16x128, .f32⟩
  | .hbm, ⟨80, _⟩ => ⟨S8x16x2048x128, .f32⟩
  | .hbm, ⟨81, _⟩ => ⟨S1x128, .f32⟩
  | .hbm, ⟨82, _⟩ => ⟨S128, .f32⟩
  | .hbm, ⟨83, _⟩ => ⟨S8x16x2048x128, .f32⟩
  | .hbm, ⟨84, _⟩ => ⟨S_, .f32⟩
  | .hbm, ⟨85, _⟩ => ⟨S8x16x2048, .f32⟩
  | .hbm, ⟨86, _⟩ => ⟨S8x16x2048x1, .f32⟩
  | .hbm, ⟨87, _⟩ => ⟨S_, .f32⟩
  | .hbm, ⟨88, _⟩ => ⟨S8x16x2048x1, .f32⟩
  | .hbm, ⟨89, _⟩ => ⟨S8x16x2048x1, .f32⟩
  | .hbm, ⟨90, _⟩ => ⟨S_, .f32⟩
  | .hbm, ⟨91, _⟩ => ⟨S8x16x2048x1, .f32⟩
  | .hbm, ⟨92, _⟩ => ⟨S8x16x2048x1, .f32⟩
  | .hbm, ⟨93, _⟩ => ⟨S8x16x2048x1, .f32⟩
  | .hbm, ⟨94, _⟩ => ⟨S8x16x2048x128, .f32⟩
  | .hbm, ⟨95, _⟩ => ⟨S8x16x2048x128, .f32⟩
  | .hbm, ⟨96, _⟩ => ⟨S1x1x1x128, .f32⟩
  | .hbm, ⟨97, _⟩ => ⟨S8x16x2048x128, .f32⟩
  | .hbm, ⟨98, _⟩ => ⟨S8x16x2048x128, .f32⟩
  | .hbm, ⟨99, _⟩ => ⟨S8x16x2048x64, .f32⟩
  | .hbm, ⟨100, _⟩ => ⟨S8x16x2048x64, .f32⟩
  | .hbm, ⟨101, _⟩ => ⟨S1x1x2048x64, .f32⟩
  | .hbm, ⟨102, _⟩ => ⟨S8x16x2048x64, .f32⟩
  | .hbm, ⟨103, _⟩ => ⟨S8x16x2048x64, .f32⟩
  | .hbm, ⟨104, _⟩ => ⟨S1x1x2048x64, .f32⟩
  | .hbm, ⟨105, _⟩ => ⟨S8x16x2048x64, .f32⟩
  | .hbm, ⟨106, _⟩ => ⟨S8x16x2048x64, .f32⟩
  | .hbm, ⟨107, _⟩ => ⟨S8x16x2048x64, .f32⟩
  | .hbm, ⟨108, _⟩ => ⟨S1x1x2048x64, .f32⟩
  | .hbm, ⟨109, _⟩ => ⟨S8x16x2048x64, .f32⟩
  | .hbm, ⟨110, _⟩ => ⟨S8x16x2048x64, .f32⟩
  | .hbm, ⟨111, _⟩ => ⟨S1x1x2048x64, .f32⟩
  | .hbm, ⟨112, _⟩ => ⟨S8x16x2048x64, .f32⟩
  | .hbm, ⟨113, _⟩ => ⟨S8x16x2048x64, .f32⟩
  | .hbm, ⟨114, _⟩ => ⟨S8x16x2048x64, .f32⟩
  | .hbm, ⟨115, _⟩ => ⟨S8x16x2048x128, .f32⟩
  | .hbm, ⟨116, _⟩ => ⟨S8x2048x16x128, .f32⟩
  | .hbm, ⟨117, _⟩ => ⟨S8x16x2048x128, .f32⟩
  | .hbm, ⟨118, _⟩ => ⟨S8x2048x16x128, .f32⟩
  | .hbm, ⟨119, _⟩ => ⟨S8x16x2048x128, .f32⟩
  | .hbm, ⟨120, _⟩ => ⟨S8x64x2048x128, .f32⟩
  | .hbm, ⟨121, _⟩ => ⟨S8x64x2048x128, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_9 : Ref sig .tc := ⟨.hbm, 84, rfl⟩
abbrev main_v69 : Ref sig .tc := ⟨.hbm, 85, rfl⟩
abbrev main_v70 : Ref sig .tc := ⟨.hbm, 86, rfl⟩
abbrev main_cst_10 : Ref sig .tc := ⟨.hbm, 87, rfl⟩
abbrev main_v71 : Ref sig .tc := ⟨.hbm, 88, rfl⟩
abbrev main_v72 : Ref sig .tc := ⟨.hbm, 89, rfl⟩
abbrev main_cst_11 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩

abbrev nD : Nat := 1
abbrev τ : Topo := Topo.v7x

variable {F : FTy → Type} [FloatOps F]
-- ==== KernelOutN.lean ====
abbrev S8x2048x1024 : Shape := ⟨3, ![8, 2048, 1024]⟩
abbrev S8x2048x2048 : Shape := ⟨3, ![8, 2048, 2048]⟩
abbrev S2x2048x1024 : Shape := ⟨3, ![2, 2048, 1024]⟩
abbrev S2x1024 : Shape := ⟨2, ![2, 1024]⟩
abbrev S8x2048x16x128 : Shape := ⟨4, ![8, 2048, 16, 128]⟩
abbrev S8x16x2048x128 : Shape := ⟨4, ![8, 16, 2048, 128]⟩
abbrev S16384x1024 : Shape := ⟨2, ![16384, 1024]⟩
abbrev S1x1024 : Shape := ⟨2, ![1, 1024]⟩
abbrev S1024 : Shape := ⟨1, ![1024]⟩
abbrev S1x16x1024x128 : Shape := ⟨4, ![1, 16, 1024, 128]⟩
abbrev S1x2048x1024 : Shape := ⟨3, ![1, 2048, 1024]⟩
abbrev S1024x1024 : Shape := ⟨2, ![1024, 1024]⟩
abbrev S2048x1024 : Shape := ⟨2, ![2048, 1024]⟩
abbrev S1x1x1024x128 : Shape := ⟨4, ![1, 1, 1024, 128]⟩
abbrev S1024x128 : Shape := ⟨2, ![1024, 128]⟩
abbrev S1024x2048 : Shape := ⟨2, ![1024, 2048]⟩
abbrev S1024x1 : Shape := ⟨2, ![1024, 1]⟩

abbrev nBuf : Space → Nat
  | .hbm => 13
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .f32⟩
  | .hbm, ⟨2, _⟩ => ⟨S2x2048x1024, .f32⟩
  | .hbm, ⟨3, _⟩ => ⟨S2x1024, .f32⟩
  | .hbm, ⟨4, _⟩ => ⟨S8x2048x16x128, .f32⟩
  | .hbm, ⟨5, _⟩ => ⟨S8x16x2048x128, .f32⟩
  | .hbm, ⟨6, _⟩ => ⟨S8x16x2048x128, .bf16⟩
  | .hbm, ⟨7, _⟩ => ⟨S16384x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .bf16⟩
  | .local _ .vmem, ⟨0, _⟩ => ⟨S1x16x1024x128, .bf16⟩
  | .local _ .vmem, ⟨1, _⟩ => ⟨S1x16x1024x128, .bf16⟩
  | .local _ .vmem, ⟨2, _⟩ => ⟨S1x2048x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x16x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceOutNIdeal.lean ====
abbrev S8x2048x1024 : Shape := ⟨3, ![8, 2048, 1024]⟩
abbrev S8x2048x2048 : Shape := ⟨3, ![8, 2048, 2048]⟩
abbrev S2x2048x1024 : Shape := ⟨3, ![2, 2048, 1024]⟩
abbrev S2x1024 : Shape := ⟨2, ![2, 1024]⟩
abbrev S1x2048x1024 : Shape := ⟨3, ![1, 2048, 1024]⟩
abbrev S2048x1024 : Shape := ⟨2, ![2048, 1024]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .f32⟩
  | .hbm, ⟨2, _⟩ => ⟨S2x2048x1024, .f32⟩
  | .hbm, ⟨3, _⟩ => ⟨S2x1024, .f32⟩
  | .hbm, ⟨4, _⟩ => ⟨S1x2048x1024, .f32⟩
  | .hbm, ⟨5, _⟩ => ⟨S2048x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1024, .f32⟩
  | .hbm, ⟨22, _⟩ => ⟨S1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S16384x1024, .f32⟩
  | .hbm, ⟨27, _⟩ => ⟨S16384x1024, .f32⟩
  | .hbm, ⟨28, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== KernelInP.lean ====
abbrev S8x2048x1024 : Shape := ⟨3, ![8, 2048, 1024]⟩
abbrev S2x1024 : Shape := ⟨2, ![2, 1024]⟩
abbrev S2x1024x8192 : Shape := ⟨3, ![2, 1024, 8192]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8192 : Shape := ⟨1, ![8192]⟩
abbrev S1x8192 : Shape := ⟨2, ![1, 8192]⟩
abbrev S16384x1024 : Shape := ⟨2, ![16384, 1024]⟩
abbrev S1x1024 : Shape := ⟨2, ![1, 1024]⟩
abbrev S1024 : Shape := ⟨1, ![1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x64x2048x128 : Shape := ⟨4, ![8, 64, 2048, 128]⟩
abbrev S2048x1024 : Shape := ⟨2, ![2048, 1024]⟩
abbrev S1x1024x1024 : Shape := ⟨3, ![1, 1024, 1024]⟩
abbrev S1x8x2048x128 : Shape := ⟨4, ![1, 8, 2048, 128]⟩
abbrev S16x128 : Shape := ⟨2, ![16, 128]⟩
abbrev S1024x1024 : Shape := ⟨2, ![1024, 1024]⟩
abbrev S1x128 : Shape := ⟨2, ![1, 128]⟩
abbrev S1x1x2048x128 : Shape := ⟨4, ![1, 1, 2048, 128]⟩

abbrev nBuf : Space → Nat
  | .hbm => 76
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x8192, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S2048, .f32⟩
  | .hbm, ⟨20, _⟩ => ⟨S2048x1, .f32⟩
  | .hbm, ⟨21, _⟩ => ⟨S1x64, .f32⟩
  | .hbm, ⟨22, _⟩ => ⟨S2048x64, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x128, .f32⟩
  | .hbm, ⟨28, _⟩ => ⟨S2048x64, .f32⟩
  | .hbm, ⟨29, _⟩ => ⟨S2048x128, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S8192, .f32⟩
  | .hbm, ⟨39, _⟩ => ⟨S1x8192, .f32⟩
  | .hbm, ⟨40, _⟩ => ⟨S16384x1024, .f32⟩
  | .hbm, ⟨41, _⟩ => ⟨S16384x1024, .bf16⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S256, .i32⟩
  | .hbm, ⟨46, _⟩ => ⟨S_, .i32⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S_, .i32⟩
  | .hbm, ⟨52, _⟩ => ⟨S256, .i32⟩
  | .hbm, ⟨53, _⟩ => ⟨S256, .i1⟩
  | .hbm, ⟨54, _⟩ => ⟨S256, .i32⟩
  | .hbm, ⟨55, _⟩ => ⟨S256, .i32⟩
  | .hbm, ⟨56, _⟩ => ⟨S_, .i32⟩
  | .hbm, ⟨57, _⟩ => ⟨S256, .i32⟩
  | .hbm, ⟨58, _⟩ => ⟨S256, .i1⟩
  | .hbm, ⟨59, _⟩ => ⟨S256, .i1⟩
  | .hbm, ⟨60, _⟩ => ⟨S_, .i32⟩
  | .hbm, ⟨61, _⟩ => ⟨S256, .i32⟩
  | .hbm, ⟨62, _⟩ => ⟨S256, .i32⟩
  | .hbm, ⟨63, _⟩ => ⟨S256, .i32⟩
  | .hbm, ⟨64, _⟩ => ⟨S256x1, .i32⟩
  | .hbm, ⟨65, _⟩ => ⟨S1x256, .i32⟩
  | .hbm, ⟨66, _⟩ => ⟨S256x256, .i32⟩
  | .hbm, ⟨67, _⟩ => ⟨S256x256, .i32⟩
  | .hbm, ⟨68, _⟩ => ⟨S256x256, .i1⟩
  | .hbm, ⟨69, _⟩ => ⟨S_, .f32⟩
  | .hbm, ⟨70, _⟩ => ⟨S_, .f32⟩
  | .hbm, ⟨71, _⟩ => ⟨S256x256, .f32⟩
  | .hbm, ⟨72, _⟩ => ⟨S256x256, .f32⟩
  | .hbm, ⟨73, _⟩ => ⟨S256x256, .f32⟩
  | .hbm, ⟨74, _⟩ => ⟨S256x256, .bf16⟩
  | .hbm, ⟨75, _⟩ => ⟨S8x64x2048x128, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024, .f32⟩
  | .local _ .vmem, ⟨6, _⟩ => ⟨S1x1024, .f32⟩
  | .local _ .vmem, ⟨7, _⟩ => ⟨S2048x128, .f32⟩
  | .local _ .vmem, ⟨8, _⟩ => ⟨S2048x128, .f32⟩
  | .local _ .vmem, ⟨9, _⟩ => ⟨S256x256, .bf16⟩
  | .local _ .vmem, ⟨10, _⟩ => ⟨S1x8x2048x128, .bf16⟩
  | .local _ .vmem, ⟨11, _⟩ => ⟨S1x8x2048x128, .bf16⟩
  | .local _ .vmem, ⟨12, _⟩ => ⟨S16x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_c : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_0 : Ref sig .tc := ⟨.hbm, 60, rfl⟩
abbrev main_call0_v12 : Ref sig .tc := ⟨.hbm, 61, rfl⟩
abbrev main_call0_v13 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_cst_8 : Ref sig .tc := ⟨.hbm, 70, rfl⟩
abbrev main_call1_v0 : Ref sig .tc := ⟨.hbm, 71, rfl⟩
abbrev main_call1_v1 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceInPIdeal.lean ====
abbrev S8x2048x1024 : Shape := ⟨3, ![8, 2048, 1024]⟩
abbrev S2x1024 : Shape := ⟨2, ![2, 1024]⟩
abbrev S2x1024x8192 : Shape := ⟨3, ![2, 1024, 8192]⟩
abbrev S1x1024x8192 : Shape := ⟨3, ![1, 1024, 8192]⟩
abbrev S1024x8192 : Shape := ⟨2, ![1024, 8192]⟩
abbrev S8x2048x8192 : Shape := ⟨3, ![8, 2048, 8192]⟩
abbrev S8x2048x2048 : Shape := ⟨3, ![8, 2048, 2048]⟩
abbrev S_ : Shape := ⟨0, ![]⟩
abbrev S8x2048x16x128 : Shape := ⟨4, ![8, 2048, 16, 128]⟩
abbrev S8x16x2048x128 : Shape := ⟨4, ![8, 16, 2048, 128]⟩
abbrev S8x64x2048x128 : Shape := ⟨4, ![8, 64, 2048, 128]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x8192, .f32⟩
  | .hbm, ⟨3, _⟩ => ⟨S1x1024x8192, .f32⟩
  | .hbm, ⟨4, _⟩ => ⟨S1024x8192, .f32⟩
  | .hbm, ⟨5, _⟩ => ⟨S8x2048x8192, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048x16x128, .f32⟩
  | .hbm, ⟨17, _⟩ => ⟨S8x16x2048x128, .f32⟩
  | .hbm, ⟨18, _⟩ => ⟨S8x2048x16x128, .f32⟩
  | .hbm, ⟨19, _⟩ => ⟨S8x16x2048x128, .f32⟩
  | .hbm, ⟨20, _⟩ => ⟨S8x2048x16x128, .f32⟩
  | .hbm, ⟨21, _⟩ => ⟨S8x16x2048x128, .f32⟩
  | .hbm, ⟨22, _⟩ => ⟨S8x2048x16x128, .f32⟩
  | .hbm, ⟨23, _⟩ => ⟨S8x16x2048x128, .f32⟩
  | .hbm, ⟨24, _⟩ => ⟨S8x64x2048x128, .f32⟩
  | .hbm, ⟨25, _⟩ => ⟨S8x64x2048x128, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== KernelDf.lean ====
abbrev S8x64x2048x128 : Shape := ⟨4, ![8, 64, 2048, 128]⟩
abbrev S2x128 : Shape := ⟨2, ![2, 128]⟩
abbrev S2x256 : Shape := ⟨2, ![2, 256]⟩
abbrev S_ : Shape := ⟨0, ![]⟩
abbrev S16 : Shape := ⟨1, ![16]⟩
abbrev S64 : Shape := ⟨1, ![64]⟩
abbrev S1x128 : Shape := ⟨2, ![1, 128]⟩
abbrev S128 : Shape := ⟨1, ![128]⟩
abbrev S4x128 : Shape := ⟨2, ![4, 128]⟩
abbrev S1x64x1x1 : Shape := ⟨4, ![1, 64, 1, 1]⟩
abbrev S1x256 : Shape := ⟨2, ![1, 256]⟩
abbrev S256 : Shape := ⟨1, ![256]⟩
abbrev S8x16x2048x128 : Shape := ⟨4, ![8, 16, 2048, 128]⟩
abbrev S1x8x512x128 : Shape := ⟨4, ![1, 8, 512, 128]⟩
abbrev S1x8x2048x128 : Shape := ⟨4, ![1, 8, 2048, 128]⟩
abbrev S8x512x128 : Shape := ⟨3, ![8, 512, 128]⟩
abbrev S8x512x256 : Shape := ⟨3, ![8, 512, 256]⟩
abbrev S1 : Shape := ⟨1, ![1]⟩
abbrev S1x1 : Shape := ⟨2, ![1, 1]⟩
abbrev S1x1x1 : Shape := ⟨3, ![1, 1, 1]⟩
abbrev S256x256 : Shape := ⟨2, ![256, 256]⟩
abbrev S1x1x256x128 : Shape := ⟨4, ![1, 1, 256, 128]⟩
abbrev S256x128 : Shape := ⟨2, ![256, 128]⟩
abbrev S256x1 : Shape := ⟨2, ![256, 1]⟩
abbrev S1x256x128 : Shape := ⟨3, ![1, 256, 128]⟩
abbrev S1x256x256 : Shape := ⟨3, ![1, 256, 256]⟩
abbrev S256x512 : Shape := ⟨2, ![256, 512]⟩
abbrev S1x1x512x128 : Shape := ⟨4, ![1, 1, 512, 128]⟩
abbrev S512x128 : Shape := ⟨2, ![512, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩
abbrev S1x512x256 : Shape := ⟨3, ![1, 512, 256]⟩

abbrev nBuf : Space → Nat
  | .hbm => 51
  | .vmem => 16
  | .smem => 0
  | _ => 0

abbrev bufTy : (tb : Table) → Fin (tcTables nBuf tb) → BufTy
  | .hbm, ⟨0, _⟩ => ⟨S8x64x2048x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .hbm, ⟨7, _⟩ => ⟨S2x256, .f32⟩
  | .hbm, ⟨8, _⟩ => ⟨S_, .f32⟩
  | .hbm, ⟨9, _⟩ => ⟨S16, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S64, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S4x128, .f32⟩
  | .hbm, ⟨30, _⟩ => ⟨S1x128, .f32⟩
  | .hbm, ⟨31, _⟩ => ⟨S128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S1x128, .f32⟩
  | .hbm, ⟨42, _⟩ => ⟨S2x128, .f32⟩
  | .hbm, ⟨43, _⟩ => ⟨S1x64x1x1, .f32⟩
  | .hbm, ⟨44, _⟩ => ⟨S8x64x2048x128, .f32⟩
  | .hbm, ⟨45, _⟩ => ⟨S8x64x2048x128, .f32⟩
  | .hbm, ⟨46, _⟩ => ⟨S8x64x2048x128, .bf16⟩
  | .hbm, ⟨47, _⟩ => ⟨S1x256, .f32⟩
  | .hbm, ⟨48, _⟩ => ⟨S256, .f32⟩
  | .hbm, ⟨49, _⟩ => ⟨S1x256, .f32⟩
  | .hbm, ⟨50, _⟩ => ⟨S8x16x2048x128, .bf16⟩
  | .local _ .vmem, ⟨0, _⟩ => ⟨S4x128, .f32⟩
  | .local _ .vmem, ⟨1, _⟩ => ⟨S2x128, .f32⟩
  | .local _ .vmem, ⟨2, _⟩ => ⟨S1x8x512x128, .bf16⟩
  | .local _ .vmem, ⟨3, _⟩ => ⟨S1x8x512x128, .bf16⟩
  | .local _ .vmem, ⟨4, _⟩ => ⟨S1x8x2048x128, .bf16⟩
  | .local _ .vmem, ⟨5, _⟩ => ⟨S1x8x2048x128, .bf16⟩
  | .local _ .vmem, ⟨6, _⟩ => ⟨S1x8x2048x128, .bf16⟩
  | .local _ .vmem, ⟨7, _⟩ => ⟨S1x8x2048x128, .bf16⟩
  | .local _ .vmem, ⟨8, _⟩ => ⟨S1x8x512x128, .bf16⟩
  | .local _ .vmem, ⟨9, _⟩ => ⟨S1x8x512x128, .bf16⟩
  | .local _ .vmem, ⟨10, _⟩ => ⟨S1x256, .f32⟩
  | .local _ .vmem, ⟨11, _⟩ => ⟨S1x8x512x128, .bf16⟩
  | .local _ .vmem, ⟨12, _⟩ => ⟨S1x8x512x128, .bf16⟩
  | .local _ .vmem, ⟨13, _⟩ => ⟨S8x512x128, .f32⟩
  | .local _ .vmem, ⟨14, _⟩ => ⟨S8x512x128, .f32⟩
  | .local _ .vmem, ⟨15, _⟩ => ⟨S8x512x256, .f32⟩
  | _, _ => ⟨S8x64x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let arg2 : BitVec 32 := BitVec.ofNat 32 (i 2).val
  let c512_i32 : BitVec 32 := 512#32
  let v247 : BitVec 32 := Scalar.muli arg2 c512_i32
  v247
def k0_off1 (i : grid0.Coords) : Fin 4 → Nat :=
  let c0_144 : Index := 0#32
  let c0_145 : Index := 0#32
  let arg2 : BitVec 32 := BitVec.ofNat 32 (i 2).val
  let c512_i32 : BitVec 32 := 512#32
  let v247 : BitVec 32 := Scalar.muli arg2 c512_i32
  let v248 : BitVec 32 := v247
  let v256 : Index := Scalar.indexCast v248
  let c0_146 : Index := 0#32
  ![0, 0, v256.toNat, 0]
def k0_off2 (i : grid0.Coords) : Fin 4 → Nat :=
  let c0_153 : Index := 0#32
  let c1_154 : Index := 1#32
  let arg2 : BitVec 32 := BitVec.ofNat 32 (i 2).val
  let c512_i32 : BitVec 32 := 512#32
  let v247 : BitVec 32 := Scalar.muli arg2 c512_i32
  let v248 : BitVec 32 := v247
  let v269 : Index := Scalar.indexCast v248
  let c0_155 : Index := 0#32
  ![0, 1, v269.toNat, 0]
def k0_off3 (i : grid0.Coords) : Fin 4 → Nat :=
  let c0_190 : Index := 0#32
  let c2_191 : Index := 2#32
  let arg2 : BitVec 32 := BitVec.ofNat 32 (i 2).val
  let c512_i32 : BitVec 32 := 512#32
  let v247 : BitVec 32 := Scalar.muli arg2 c512_i32
  let v248 : BitVec 32 := v247
  let v312 : Index := Scalar.indexCast v248
  let c0_192 : Index := 0#32
  ![0, 2, v312.toNat, 0]
def k0_off4 (i : grid0.Coords) : Fin 4 → Nat :=
  let c0_199 : Index := 0#32
  let c3_200 : Index := 3#32
  let arg2 : BitVec 32 := BitVec.ofNat 32 (i 2).val
  let c512_i32 : BitVec 32 := 512#32
  let v247 : BitVec 32 := Scalar.muli arg2 c512_i32
  let v248 : BitVec 32 := v247
  let v325 : Index := Scalar.indexCast v248
  let c0_201 : Index := 0#32
  ![0, 3, v325.toNat, 0]
def k0_off5 (i : grid0.Coords) : Fin 4 → Nat :=
  let c0_236 : Index := 0#32
  let c4_237 : Index := 4#32
  let arg2 : BitVec 32 := BitVec.ofNat 32 (i 2).val
  let c512_i32 : BitVec 32 := 512#32
  let v247 : BitVec 32 := Scalar.muli arg2 c512_i32
  let v248 : BitVec 32 := v247
  let v368 : Index := Scalar.indexCast v248
  let c0_238 : Index := 0#32
  ![0, 4, v368.toNat, 0]
def k0_off6 (i : grid0.Coords) : Fin 4 → Nat :=
  let c0_245 : Index := 0#32
  let c5_246 : Index := 5#32
  let arg2 : BitVec 32 := BitVec.ofNat 32 (i 2).val
  let c512_i32 : BitVec 32 := 512#32
  let v247 : BitVec 32 := Scalar.muli arg2 c512_i32
  let v248 : BitVec 32 := v247
  let v381 : Index := Scalar.indexCast v248
  let c0_247 : Index := 0#32
  ![0, 5, v381.toNat, 0]
def k0_off7 (i : grid0.Coords) : Fin 4 → Nat :=
  let c0_282 : Index := 0#32
  let c6_283 : Index := 6#32
  let arg2 : BitVec 32 := BitVec.ofNat 32 (i 2).val
  let c512_i32 : BitVec 32 := 512#32
  let v247 : BitVec 32 := Scalar.muli arg2 c512_i32
  let v248 : BitVec 32 := v247
  let v424 : Index := Scalar.indexCast v248
  let c0_284 : Index := 0#32
  ![0, 6, v424.toNat, 0]
def k0_off8 (i : grid0.Coords) : Fin 4 → Nat :=
  let c0_291 : Index := 0#32
  let c7_292 : Index := 7#32
  let arg2 : BitVec 32 := BitVec.ofNat 32 (i 2).val
  let c512_i32 : BitVec 32 := 512#32
  let v247 : BitVec 32 := Scalar.muli arg2 c512_i32
  let v248 : BitVec 32 := v247
  let v437 : Index := Scalar.indexCast v248
  let c0_293 : Index := 0#32
  ![0, 7, v437.toNat, 0]
def k0_off9 (i : grid0.Coords) : Fin 4 → Nat :=
  let c0_327 : Index := 0#32
  let c0_328 : Index := 0#32
  let arg2 : BitVec 32 := BitVec.ofNat 32 (i 2).val
  let c512_i32 : BitVec 32 := 512#32
  let v247 : BitVec 32 := Scalar.muli arg2 c512_i32
  let v248 : BitVec 32 := v247
  let v485 : Index := Scalar.indexCast v248
  let c0_329 : Index := 0#32
  ![0, 0, v485.toNat, 0]
def k0_off10 (i : grid0.Coords) : Fin 4 → Nat :=
  let c0_336 : Index := 0#32
  let c1_337 : Index := 1#32
  let arg2 : BitVec 32 := BitVec.ofNat 32 (i 2).val
  let c512_i32 : BitVec 32 := 512#32
  let v247 : BitVec 32 := Scalar.muli arg2 c512_i32
  let v248 : BitVec 32 := v247
  let v498 : Index := Scalar.indexCast v248
  let c0_338 : Index := 0#32
  ![0, 1, v498.toNat, 0]
def k0_off11 (i : grid0.Coords) : Fin 4 → Nat :=
  let c0_373 : Index := 0#32
  let c2_374 : Index := 2#32
  let arg2 : BitVec 32 := BitVec.ofNat 32 (i 2).val
  let c512_i32 : BitVec 32 := 512#32
  let v247 : BitVec 32 := Scalar.muli arg2 c512_i32
  let v248 : BitVec 32 := v247
  let v541 : Index := Scalar.indexCast v248
  let c0_375 : Index := 0#32
  ![0, 2, v541.toNat, 0]
def k0_off12 (i : grid0.Coords) : Fin 4 → Nat :=
  let c0_382 : Index := 0#32
  let c3_383 : Index := 3#32
  let arg2 : BitVec 32 := BitVec.ofNat 32 (i 2).val
  let c512_i32 : BitVec 32 := 512#32
  let v247 : BitVec 32 := Scalar.muli arg2 c512_i32
  let v248 : BitVec 32 := v247
  let v554 : Index := Scalar.indexCast v248
  let c0_384 : Index := 0#32
  ![0, 3, v554.toNat, 0]
def k0_off13 (i : grid0.Coords) : Fin 4 → Nat :=
  let c0_419 : Index := 0#32
  let c4_420 : Index := 4#32
  let arg2 : BitVec 32 := BitVec.ofNat 32 (i 2).val
  let c512_i32 : BitVec 32 := 512#32
  let v247 : BitVec 32 := Scalar.muli arg2 c512_i32
  let v248 : BitVec 32 := v247
  let v597 : Index := Scalar.indexCast v248
  let c0_421 : Index := 0#32
  ![0, 4, v597.toNat, 0]
def k0_off14 (i : grid0.Coords) : Fin 4 → Nat :=
  let c0_428 : Index := 0#32
  let c5_429 : Index := 5#32
  let arg2 : BitVec 32 := BitVec.ofNat 32 (i 2).val
  let c512_i32 : BitVec 32 := 512#32
  let v247 : BitVec 32 := Scalar.muli arg2 c512_i32
  let v248 : BitVec 32 := v247
  let v610 : Index := Scalar.indexCast v248
  let c0_430 : Index := 0#32
  ![0, 5, v610.toNat, 0]
def k0_off15 (i : grid0.Coords) : Fin 4 → Nat :=
  let c0_465 : Index := 0#32
  let c6_466 : Index := 6#32
  let arg2 : BitVec 32 := BitVec.ofNat 32 (i 2).val
  let c512_i32 : BitVec 32 := 512#32
  let v247 : BitVec 32 := Scalar.muli arg2 c512_i32
  let v248 : BitVec 32 := v247
  let v653 : Index := Scalar.indexCast v248
  let c0_467 : Index := 0#32
  ![0, 6, v653.toNat, 0]
def k0_off16 (i : grid0.Coords) : Fin 4 → Nat :=
  let c0_474 : Index := 0#32
  let c7_475 : Index := 7#32
  let arg2 : BitVec 32 := BitVec.ofNat 32 (i 2).val
  let c512_i32 : BitVec 32 := 512#32
  let v247 : BitVec 32 := Scalar.muli arg2 c512_i32
  let v248 : BitVec 32 := v247
  let v666 : Index := Scalar.indexCast v248
  let c0_476 : Index := 0#32
  ![0, 7, v666.toNat, 0]
@[reducible] def k0_t1_loop (i : grid0.Coords) : Scf.Loop 32 :=
  let c0_i32_508 : BitVec 32 := 0#32
  let arg2 : BitVec 32 := BitVec.ofNat 32 (i 2).val
  let v707 : BitVec 32 := Scalar.subi arg2 c0_i32_508
  let c1_i32 : BitVec 32 := 1#32
  let v709 : BitVec 32 := Scalar.divsi v707 c1_i32
  let v710 : BitVec 32 := Scalar.muli v709 c1_i32
  let v711 : BitVec 32 := Scalar.addi c0_i32_508 v710
  let c1_i32_509 : BitVec 32 := 1#32
  ⟨c0_i32_508, v711, c1_i32_509⟩
def k0_mult2 (i : grid0.Coords) (k0_t1 : Fin (k0_t1_loop i).trips) : BitVec 32 :=
  let c0_i32_508 : BitVec 32 := 0#32
  let c1_i32_509 : BitVec 32 := 1#32
  let arg14 : BitVec 32 := Scf.iv c0_i32_508 c1_i32_509 k0_t1
  let c512_i32_511 : BitVec 32 := 512#32
  let v712 : BitVec 32 := Scalar.muli arg14 c512_i32_511
  v712
def k0_off17 (i : grid0.Coords) (k0_t1 : Fin (k0_t1_loop i).trips) : Fin 4 → Nat :=
  let c0_516 : Index := 0#32
  let c0_517 : Index := 0#32
  let c0_i32_508 : BitVec 32 := 0#32
  let c1_i32_509 : BitVec 32 := 1#32
  let arg14 : BitVec 32 := Scf.iv c0_i32_508 c1_i32_509 k0_t1
  let c512_i32_511 : BitVec 32 := 512#32
  let v712 : BitVec 32 := Scalar.muli arg14 c512_i32_511
  let v713 : BitVec 32 := v712
  let v716 : Index := Scalar.indexCast v713
  let c0_518 : Index := 0#32
  ![0, 0, v716.toNat, 0]
def k0_off18 (i : grid0.Coords) (k0_t1 : Fin (k0_t1_loop i).trips) : Fin 4 → Nat :=
  let c0_524 : Index := 0#32
  let c1_525 : Index := 1#32
  let c0_i32_508 : BitVec 32 := 0#32
  let c1_i32_509 : BitVec 32 := 1#32
  let arg14 : BitVec 32 := Scf.iv c0_i32_508 c1_i32_509 k0_t1
  let c512_i32_511 : BitVec 32 := 512#32
  let v712 : BitVec 32 := Scalar.muli arg14 c512_i32_511
  let v713 : BitVec 32 := v712
  let v727 : Index := Scalar.indexCast v713
  let c0_526 : Index := 0#32
  ![0, 1, v727.toNat, 0]
def k0_off19 (i : grid0.Coords) (k0_t1 : Fin (k0_t1_loop i).trips) : Fin 4 → Nat :=
  let c0_572 : Index := 0#32
  let c2_573 : Index := 2#32
  let c0_i32_508 : BitVec 32 := 0#32
  let c1_i32_509 : BitVec 32 := 1#32
  let arg14 : BitVec 32 := Scf.iv c0_i32_508 c1_i32_509 k0_t1
  let c512_i32_511 : BitVec 32 := 512#32
  let v712 : BitVec 32 := Scalar.muli arg14 c512_i32_511
  let v713 : BitVec 32 := v712
  let v778 : Index := Scalar.indexCast v713
  let c0_574 : Index := 0#32
  ![0, 2, v778.toNat, 0]
def k0_off20 (i : grid0.Coords) (k0_t1 : Fin (k0_t1_loop i).trips) : Fin 4 → Nat :=
  let c0_580 : Index := 0#32
  let c3_581 : Index := 3#32
  let c0_i32_508 : BitVec 32 := 0#32
  let c1_i32_509 : BitVec 32 := 1#32
  let arg14 : BitVec 32 := Scf.iv c0_i32_508 c1_i32_509 k0_t1
  let c512_i32_511 : BitVec 32 := 512#32
  let v712 : BitVec 32 := Scalar.muli arg14 c512_i32_511
  let v713 : BitVec 32 := v712
  let v789 : Index := Scalar.indexCast v713
  let c0_582 : Index := 0#32
  ![0, 3, v789.toNat, 0]
def k0_off21 (i : grid0.Coords) (k0_t1 : Fin (k0_t1_loop i).trips) : Fin 4 → Nat :=
  let c0_628 : Index := 0#32
  let c4_629 : Index := 4#32
  let c0_i32_508 : BitVec 32 := 0#32
  let c1_i32_509 : BitVec 32 := 1#32
  let arg14 : BitVec 32 := Scf.iv c0_i32_508 c1_i32_509 k0_t1
  let c512_i32_511 : BitVec 32 := 512#32
  let v712 : BitVec 32 := Scalar.muli arg14 c512_i32_511
  let v713 : BitVec 32 := v712
  let v840 : Index := Scalar.indexCast v713
  let c0_630 : Index := 0#32
  ![0, 4, v840.toNat, 0]
def k0_off22 (i : grid0.Coords) (k0_t1 : Fin (k0_t1_loop i).trips) : Fin 4 → Nat :=
  let c0_636 : Index := 0#32
  let c5_637 : Index := 5#32
  let c0_i32_508 : BitVec 32 := 0#32
  let c1_i32_509 : BitVec 32 := 1#32
  let arg14 : BitVec 32 := Scf.iv c0_i32_508 c1_i32_509 k0_t1
  let c512_i32_511 : BitVec 32 := 512#32
  let v712 : BitVec 32 := Scalar.muli arg14 c512_i32_511
  let v713 : BitVec 32 := v712
  let v851 : Index := Scalar.indexCast v713
  let c0_638 : Index := 0#32
  ![0, 5, v851.toNat, 0]
def k0_off23 (i : grid0.Coords) (k0_t1 : Fin (k0_t1_loop i).trips) : Fin 4 → Nat :=
  let c0_684 : Index := 0#32
  let c6_685 : Index := 6#32
  let c0_i32_508 : BitVec 32 := 0#32
  let c1_i32_509 : BitVec 32 := 1#32
  let arg14 : BitVec 32 := Scf.iv c0_i32_508 c1_i32_509 k0_t1
  let c512_i32_511 : BitVec 32 := 512#32
  let v712 : BitVec 32 := Scalar.muli arg14 c512_i32_511
  let v713 : BitVec 32 := v712
  let v902 : Index := Scalar.indexCast v713
  let c0_686 : Index := 0#32
  ![0, 6, v902.toNat, 0]
def k0_off24 (i : grid0.Coords) (k0_t1 : Fin (k0_t1_loop i).trips) : Fin 4 → Nat :=
  let c0_692 : Index := 0#32
  let c7_693 : Index := 7#32
  let c0_i32_508 : BitVec 32 := 0#32
  let c1_i32_509 : BitVec 32 := 1#32
  let arg14 : BitVec 32 := Scf.iv c0_i32_508 c1_i32_509 k0_t1
  let c512_i32_511 : BitVec 32 := 512#32
  let v712 : BitVec 32 := Scalar.muli arg14 c512_i32_511
  let v713 : BitVec 32 := v712
  let v913 : Index := Scalar.indexCast v713
  let c0_694 : Index := 0#32
  ![0, 7, v913.toNat, 0]
@[reducible] def k0_t2_loop (i : grid0.Coords) : Scf.Loop 32 :=
  let c0_i32_508 : BitVec 32 := 0#32
  let arg2 : BitVec 32 := BitVec.ofNat 32 (i 2).val
  let v707 : BitVec 32 := Scalar.subi arg2 c0_i32_508
  let c1_i32 : BitVec 32 := 1#32
  let v709 : BitVec 32 := Scalar.divsi v707 c1_i32
  let v710 : BitVec 32 := Scalar.muli v709 c1_i32
  let v711 : BitVec 32 := Scalar.addi c0_i32_508 v710
  let v708 : BitVec 32 := Scalar.addi c0_i32_508 v707
  let c1_i32_510 : BitVec 32 := 1#32
  ⟨v711, v708, c1_i32_510⟩
def k0_mult3 (i : grid0.Coords) (k0_t2 : Fin (k0_t2_loop i).trips) : BitVec 32 :=
  let c0_i32_508 : BitVec 32 := 0#32
  let arg2 : BitVec 32 := BitVec.ofNat 32 (i 2).val
  let v707 : BitVec 32 := Scalar.subi arg2 c0_i32_508
  let c1_i32 : BitVec 32 := 1#32
  let v709 : BitVec 32 := Scalar.divsi v707 c1_i32
  let v710 : BitVec 32 := Scalar.muli v709 c1_i32
  let v711 : BitVec 32 := Scalar.addi c0_i32_508 v710
  let c1_i32_510 : BitVec 32 := 1#32
  let arg14 : BitVec 32 := Scf.iv v711 c1_i32_510 k0_t2
  let c512_i32_511 : BitVec 32 := 512#32
  let v712 : BitVec 32 := Scalar.muli arg14 c512_i32_511
  v712
def k0_off25 (i : grid0.Coords) (k0_t2 : Fin (k0_t2_loop i).trips) : Fin 4 → Nat :=
  let c0_516 : Index := 0#32
  let c0_517 : Index := 0#32
  let c0_i32_508 : BitVec 32 := 0#32
  let arg2 : BitVec 32 := BitVec.ofNat 32 (i 2).val
  let v707 : BitVec 32 := Scalar.subi arg2 c0_i32_508
  let c1_i32 : BitVec 32 := 1#32
  let v709 : BitVec 32 := Scalar.divsi v707 c1_i32
  let v710 : BitVec 32 := Scalar.muli v709 c1_i32
  let v711 : BitVec 32 := Scalar.addi c0_i32_508 v710
  let c1_i32_510 : BitVec 32 := 1#32
  let arg14 : BitVec 32 := Scf.iv v711 c1_i32_510 k0_t2
  let c512_i32_511 : BitVec 32 := 512#32
  let v712 : BitVec 32 := Scalar.muli arg14 c512_i32_511
  let v713 : BitVec 32 := v712
  let v716 : Index := Scalar.indexCast v713
  let c0_518 : Index := 0#32
  ![0, 0, v716.toNat, 0]
def k0_off26 (i : grid0.Coords) (k0_t2 : Fin (k0_t2_loop i).trips) : Fin 4 → Nat :=
  let c0_524 : Index := 0#32
  let c1_525 : Index := 1#32
  let c0_i32_508 : BitVec 32 := 0#32
  let arg2 : BitVec 32 := BitVec.ofNat 32 (i 2).val
  let v707 : BitVec 32 := Scalar.subi arg2 c0_i32_508
  let c1_i32 : BitVec 32 := 1#32
  let v709 : BitVec 32 := Scalar.divsi v707 c1_i32
  let v710 : BitVec 32 := Scalar.muli v709 c1_i32
  let v711 : BitVec 32 := Scalar.addi c0_i32_508 v710
  let c1_i32_510 : BitVec 32 := 1#32
  let arg14 : BitVec 32 := Scf.iv v711 c1_i32_510 k0_t2
  let c512_i32_511 : BitVec 32 := 512#32
  let v712 : BitVec 32 := Scalar.muli arg14 c512_i32_511
  let v713 : BitVec 32 := v712
  let v727 : Index := Scalar.indexCast v713
  let c0_526 : Index := 0#32
  ![0, 1, v727.toNat, 0]
def k0_off27 (i : grid0.Coords) (k0_t2 : Fin (k0_t2_loop i).trips) : Fin 4 → Nat :=
  let c0_572 : Index := 0#32
  let c2_573 : Index := 2#32
  let c0_i32_508 : BitVec 32 := 0#32
  let arg2 : BitVec 32 := BitVec.ofNat 32 (i 2).val
  let v707 : BitVec 32 := Scalar.subi arg2 c0_i32_508
  let c1_i32 : BitVec 32 := 1#32
  let v709 : BitVec 32 := Scalar.divsi v707 c1_i32
  let v710 : BitVec 32 := Scalar.muli v709 c1_i32
  let v711 : BitVec 32 := Scalar.addi c0_i32_508 v710
  let c1_i32_510 : BitVec 32 := 1#32
  let arg14 : BitVec 32 := Scf.iv v711 c1_i32_510 k0_t2
  let c512_i32_511 : BitVec 32 := 512#32
  let v712 : BitVec 32 := Scalar.muli arg14 c512_i32_511
  let v713 : BitVec 32 := v712
  let v778 : Index := Scalar.indexCast v713
  let c0_574 : Index := 0#32
  ![0, 2, v778.toNat, 0]
def k0_off28 (i : grid0.Coords) (k0_t2 : Fin (k0_t2_loop i).trips) : Fin 4 → Nat :=
  let c0_580 : Index := 0#32
  let c3_581 : Index := 3#32
  let c0_i32_508 : BitVec 32 := 0#32
  let arg2 : BitVec 32 := BitVec.ofNat 32 (i 2).val
  let v707 : BitVec 32 := Scalar.subi arg2 c0_i32_508
  let c1_i32 : BitVec 32 := 1#32
  let v709 : BitVec 32 := Scalar.divsi v707 c1_i32
  let v710 : BitVec 32 := Scalar.muli v709 c1_i32
  let v711 : BitVec 32 := Scalar.addi c0_i32_508 v710
  let c1_i32_510 : BitVec 32 := 1#32
  let arg14 : BitVec 32 := Scf.iv v711 c1_i32_510 k0_t2
  let c512_i32_511 : BitVec 32 := 512#32
  let v712 : BitVec 32 := Scalar.muli arg14 c512_i32_511
  let v713 : BitVec 32 := v712
  let v789 : Index := Scalar.indexCast v713
  let c0_582 : Index := 0#32
  ![0, 3, v789.toNat, 0]
def k0_off29 (i : grid0.Coords) (k0_t2 : Fin (k0_t2_loop i).trips) : Fin 4 → Nat :=
  let c0_628 : Index := 0#32
  let c4_629 : Index := 4#32
  let c0_i32_508 : BitVec 32 := 0#32
  let arg2 : BitVec 32 := BitVec.ofNat 32 (i 2).val
  let v707 : BitVec 32 := Scalar.subi arg2 c0_i32_508
  let c1_i32 : BitVec 32 := 1#32
  let v709 : BitVec 32 := Scalar.divsi v707 c1_i32
  let v710 : BitVec 32 := Scalar.muli v709 c1_i32
  let v711 : BitVec 32 := Scalar.addi c0_i32_508 v710
  let c1_i32_510 : BitVec 32 := 1#32
  let arg14 : BitVec 32 := Scf.iv v711 c1_i32_510 k0_t2
  let c512_i32_511 : BitVec 32 := 512#32
  let v712 : BitVec 32 := Scalar.muli arg14 c512_i32_511
  let v713 : BitVec 32 := v712
  let v840 : Index := Scalar.indexCast v713
  let c0_630 : Index := 0#32
  ![0, 4, v840.toNat, 0]
def k0_off30 (i : grid0.Coords) (k0_t2 : Fin (k0_t2_loop i).trips) : Fin 4 → Nat :=
  let c0_636 : Index := 0#32
  let c5_637 : Index := 5#32
  let c0_i32_508 : BitVec 32 := 0#32
  let arg2 : BitVec 32 := BitVec.ofNat 32 (i 2).val
  let v707 : BitVec 32 := Scalar.subi arg2 c0_i32_508
  let c1_i32 : BitVec 32 := 1#32
  let v709 : BitVec 32 := Scalar.divsi v707 c1_i32
  let v710 : BitVec 32 := Scalar.muli v709 c1_i32
  let v711 : BitVec 32 := Scalar.addi c0_i32_508 v710
  let c1_i32_510 : BitVec 32 := 1#32
  let arg14 : BitVec 32 := Scf.iv v711 c1_i32_510 k0_t2
  let c512_i32_511 : BitVec 32 := 512#32
  let v712 : BitVec 32 := Scalar.muli arg14 c512_i32_511
  let v713 : BitVec 32 := v712
  let v851 : Index := Scalar.indexCast v713
  let c0_638 : Index := 0#32
  ![0, 5, v851.toNat, 0]
def k0_off31 (i : grid0.Coords) (k0_t2 : Fin (k0_t2_loop i).trips) : Fin 4 → Nat :=
  let c0_684 : Index := 0#32
  let c6_685 : Index := 6#32
  let c0_i32_508 : BitVec 32 := 0#32
  let arg2 : BitVec 32 := BitVec.ofNat 32 (i 2).val
  let v707 : BitVec 32 := Scalar.subi arg2 c0_i32_508
  let c1_i32 : BitVec 32 := 1#32
  let v709 : BitVec 32 := Scalar.divsi v707 c1_i32
  let v710 : BitVec 32 := Scalar.muli v709 c1_i32
  let v711 : BitVec 32 := Scalar.addi c0_i32_508 v710
  let c1_i32_510 : BitVec 32 := 1#32
  let arg14 : BitVec 32 := Scf.iv v711 c1_i32_510 k0_t2
  let c512_i32_511 : BitVec 32 := 512#32
  let v712 : BitVec 32 := Scalar.muli arg14 c512_i32_511
  let v713 : BitVec 32 := v712
  let v902 : Index := Scalar.indexCast v713
  let c0_686 : Index := 0#32
  ![0, 6, v902.toNat, 0]
def k0_off32 (i : grid0.Coords) (k0_t2 : Fin (k0_t2_loop i).trips) : Fin 4 → Nat :=
  let c0_692 : Index := 0#32
  let c7_693 : Index := 7#32
  let c0_i32_508 : BitVec 32 := 0#32
  let arg2 : BitVec 32 := BitVec.ofNat 32 (i 2).val
  let v707 : BitVec 32 := Scalar.subi arg2 c0_i32_508
  let c1_i32 : BitVec 32 := 1#32
  let v709 : BitVec 32 := Scalar.divsi v707 c1_i32
  let v710 : BitVec 32 := Scalar.muli v709 c1_i32
  let v711 : BitVec 32 := Scalar.addi c0_i32_508 v710
  let c1_i32_510 : BitVec 32 := 1#32
  let arg14 : BitVec 32 := Scf.iv v711 c1_i32_510 k0_t2
  let c512_i32_511 : BitVec 32 := 512#32
  let v712 : BitVec 32 := Scalar.muli arg14 c512_i32_511
  let v713 : BitVec 32 := v712
  let v913 : Index := Scalar.indexCast v713
  let c0_694 : Index := 0#32
  ![0, 7, v913.toNat, 0]
def k0_mult4 (i : grid0.Coords) : BitVec 32 :=
  let arg2 : BitVec 32 := BitVec.ofNat 32 (i 2).val
  let c512_i32 : BitVec 32 := 512#32
  let v259 : BitVec 32 := Scalar.muli arg2 c512_i32
  v259
def k0_off33 (i : grid0.Coords) : Fin 4 → Nat :=
  let c0_156 : Index := 0#32
  let c0_157 : Index := 0#32
  let arg2 : BitVec 32 := BitVec.ofNat 32 (i 2).val
  let c512_i32 : BitVec 32 := 512#32
  let v259 : BitVec 32 := Scalar.muli arg2 c512_i32
  let v260 : BitVec 32 := v259
  let v268 : Index := Scalar.indexCast v260
  let c0_158 : Index := 0#32
  ![0, 0, v268.toNat, 0]
def k0_off34 (i : grid0.Coords) : Fin 4 → Nat :=
  let c0_181 : Index := 0#32
  let c1_182 : Index := 1#32
  let arg2 : BitVec 32 := BitVec.ofNat 32 (i 2).val
  let c512_i32 : BitVec 32 := 512#32
  let v259 : BitVec 32 := Scalar.muli arg2 c512_i32
  let v260 : BitVec 32 := v259
  let v306 : Index := Scalar.indexCast v260
  let c0_183 : Index := 0#32
  ![0, 1, v306.toNat, 0]
def k0_off35 (i : grid0.Coords) : Fin 4 → Nat :=
  let c0_228 : Index := 0#32
  let c2_229 : Index := 2#32
  let arg2 : BitVec 32 := BitVec.ofNat 32 (i 2).val
  let c512_i32 : BitVec 32 := 512#32
  let v259 : BitVec 32 := Scalar.muli arg2 c512_i32
  let v260 : BitVec 32 := v259
  let v366 : Index := Scalar.indexCast v260
  let c0_230 : Index := 0#32
  ![0, 2, v366.toNat, 0]
def k0_off36 (i : grid0.Coords) : Fin 4 → Nat :=
  let c0_253 : Index := 0#32
  let c3_254 : Index := 3#32
  let arg2 : BitVec 32 := BitVec.ofNat 32 (i 2).val
  let c512_i32 : BitVec 32 := 512#32
  let v259 : BitVec 32 := Scalar.muli arg2 c512_i32
  let v260 : BitVec 32 := v259
  let v404 : Index := Scalar.indexCast v260
  let c0_255 : Index := 0#32
  ![0, 3, v404.toNat, 0]
def k0_off37 (i : grid0.Coords) : Fin 4 → Nat :=
  let c0_300 : Index := 0#32
  let c4_301 : Index := 4#32
  let arg2 : BitVec 32 := BitVec.ofNat 32 (i 2).val
  let c512_i32 : BitVec 32 := 512#32
  let v259 : BitVec 32 := Scalar.muli arg2 c512_i32
  let v260 : BitVec 32 := v259
  let v464 : Index := Scalar.indexCast v260
  let c0_302 : Index := 0#32
  ![0, 4, v464.toNat, 0]
def k0_off38 (i : grid0.Coords) : Fin 4 → Nat :=
  let c0_325 : Index := 0#32
  let c5_326 : Index := 5#32
  let arg2 : BitVec 32 := BitVec.ofNat 32 (i 2).val
  let c512_i32 : BitVec 32 := 512#32
  let v259 : BitVec 32 := Scalar.muli arg2 c512_i32
  let v260 : BitVec 32 := v259
  let v502 : Index := Scalar.indexCast v260
  let c0_327 : Index := 0#32
  ![0, 5, v502.toNat, 0]
def k0_off39 (i : grid0.Coords) : Fin 4 → Nat :=
  let c0_372 : Index := 0#32
  let c6_373 : Index := 6#32
  let arg2 : BitVec 32 := BitVec.ofNat 32 (i 2).val
  let c512_i32 : BitVec 32 := 512#32
  let v259 : BitVec 32 := Scalar.muli arg2 c512_i32
  let v260 : BitVec 32 := v259
  let v562 : Index := Scalar.indexCast v260
  let c0_374 : Index := 0#32
  ![0, 6, v562.toNat, 0]
def k0_off40 (i : grid0.Coords) : Fin 4 → Nat :=
  let c0_397 : Index := 0#32
  let c7_398 : Index := 7#32
  let arg2 : BitVec 32 := BitVec.ofNat 32 (i 2).val
  let c512_i32 : BitVec 32 := 512#32
  let v259 : BitVec 32 := Scalar.muli arg2 c512_i32
  let v260 : BitVec 32 := v259
  let v600 : Index := Scalar.indexCast v260
  let c0_399 : Index := 0#32
  ![0, 7, v600.toNat, 0]
def k0_off41 (i : grid0.Coords) : Fin 4 → Nat :=
  let c0_443 : Index := 0#32
  let c0_444 : Index := 0#32
  let arg2 : BitVec 32 := BitVec.ofNat 32 (i 2).val
  let c512_i32 : BitVec 32 := 512#32
  let v259 : BitVec 32 := Scalar.muli arg2 c512_i32
  let v260 : BitVec 32 := v259
  let v665 : Index := Scalar.indexCast v260
  let c0_445 : Index := 0#32
  ![0, 0, v665.toNat, 0]
def k0_off42 (i : grid0.Coords) : Fin 4 → Nat :=
  let c0_468 : Index := 0#32
  let c1_469 : Index := 1#32
  let arg2 : BitVec 32 := BitVec.ofNat 32 (i 2).val
  let c512_i32 : BitVec 32 := 512#32
  let v259 : BitVec 32 := Scalar.muli arg2 c512_i32
  let v260 : BitVec 32 := v259
  let v703 : Index := Scalar.indexCast v260
  let c0_470 : Index := 0#32
  ![0, 1, v703.toNat, 0]
def k0_off43 (i : grid0.Coords) : Fin 4 → Nat :=
  let c0_515 : Index := 0#32
  let c2_516 : Index := 2#32
  let arg2 : BitVec 32 := BitVec.ofNat 32 (i 2).val
  let c512_i32 : BitVec 32 := 512#32
  let v259 : BitVec 32 := Scalar.muli arg2 c512_i32
  let v260 : BitVec 32 := v259
  let v763 : Index := Scalar.indexCast v260
  let c0_517 : Index := 0#32
  ![0, 2, v763.toNat, 0]
def k0_off44 (i : grid0.Coords) : Fin 4 → Nat :=
  let c0_540 : Index := 0#32
  let c3_541 : Index := 3#32
  let arg2 : BitVec 32 := BitVec.ofNat 32 (i 2).val
  let c512_i32 : BitVec 32 := 512#32
  let v259 : BitVec 32 := Scalar.muli arg2 c512_i32
  let v260 : BitVec 32 := v259
  let v801 : Index := Scalar.indexCast v260
  let c0_542 : Index := 0#32
  ![0, 3, v801.toNat, 0]
def k0_off45 (i : grid0.Coords) : Fin 4 → Nat :=
  let c0_587 : Index := 0#32
  let c4_588 : Index := 4#32
  let arg2 : BitVec 32 := BitVec.ofNat 32 (i 2).val
  let c512_i32 : BitVec 32 := 512#32
  let v259 : BitVec 32 := Scalar.muli arg2 c512_i32
  let v260 : BitVec 32 := v259
  let v861 : Index := Scalar.indexCast v260
  let c0_589 : Index := 0#32
  ![0, 4, v861.toNat, 0]
def k0_off46 (i : grid0.Coords) : Fin 4 → Nat :=
  let c0_612 : Index := 0#32
  let c5_613 : Index := 5#32
  let arg2 : BitVec 32 := BitVec.ofNat 32 (i 2).val
  let c512_i32 : BitVec 32 := 512#32
  let v259 : BitVec 32 := Scalar.muli arg2 c512_i32
  let v260 : BitVec 32 := v259
  let v899 : Index := Scalar.indexCast v260
  let c0_614 : Index := 0#32
  ![0, 5, v899.toNat, 0]
def k0_off47 (i : grid0.Coords) : Fin 4 → Nat :=
  let c0_659 : Index := 0#32
  let c6_660 : Index := 6#32
  let arg2 : BitVec 32 := BitVec.ofNat 32 (i 2).val
  let c512_i32 : BitVec 32 := 512#32
  let v259 : BitVec 32 := Scalar.muli arg2 c512_i32
  let v260 : BitVec 32 := v259
  let v959 : Index := Scalar.indexCast v260
  let c0_661 : Index := 0#32
  ![0, 6, v959.toNat, 0]
def k0_off48 (i : grid0.Coords) : Fin 4 → Nat :=
  let c0_684 : Index := 0#32
  let c7_685 : Index := 7#32
  let arg2 : BitVec 32 := BitVec.ofNat 32 (i 2).val
  let c512_i32 : BitVec 32 := 512#32
  let v259 : BitVec 32 := Scalar.muli arg2 c512_i32
  let v260 : BitVec 32 := v259
  let v997 : Index := Scalar.indexCast v260
  let c0_686 : Index := 0#32
  ![0, 7, v997.toNat, 0]
@[reducible] def k0_t3_loop (i : grid0.Coords) : Scf.Loop 32 :=
  let c0_i32_728 : BitVec 32 := 0#32
  let arg2 : BitVec 32 := BitVec.ofNat 32 (i 2).val
  let v1055 : BitVec 32 := Scalar.subi arg2 c0_i32_728
  let c1_i32 : BitVec 32 := 1#32
  let v1057 : BitVec 32 := Scalar.divsi v1055 c1_i32
  let v1058 : BitVec 32 := Scalar.muli v1057 c1_i32
  let v1059 : BitVec 32 := Scalar.addi c0_i32_728 v1058
  let c1_i32_729 : BitVec 32 := 1#32
  ⟨c0_i32_728, v1059, c1_i32_729⟩
def k0_mult5 (i : grid0.Coords) (k0_t3 : Fin (k0_t3_loop i).trips) : BitVec 32 :=
  let c0_i32_728 : BitVec 32 := 0#32
  let c1_i32_729 : BitVec 32 := 1#32
  let arg14 : BitVec 32 := Scf.iv c0_i32_728 c1_i32_729 k0_t3
  let c512_i32_731 : BitVec 32 := 512#32
  let v1060 : BitVec 32 := Scalar.muli arg14 c512_i32_731
  v1060
def k0_off49 (i : grid0.Coords) (k0_t3 : Fin (k0_t3_loop i).trips) : Fin 4 → Nat :=
  let c0_736 : Index := 0#32
  let c0_737 : Index := 0#32
  let c0_i32_728 : BitVec 32 := 0#32
  let c1_i32_729 : BitVec 32 := 1#32
  let arg14 : BitVec 32 := Scf.iv c0_i32_728 c1_i32_729 k0_t3
  let c512_i32_731 : BitVec 32 := 512#32
  let v1060 : BitVec 32 := Scalar.muli arg14 c512_i32_731
  let v1061 : BitVec 32 := v1060
  let v1064 : Index := Scalar.indexCast v1061
  let c0_738 : Index := 0#32
  ![0, 0, v1064.toNat, 0]
def k0_off50 (i : grid0.Coords) (k0_t3 : Fin (k0_t3_loop i).trips) : Fin 4 → Nat :=
  let c0_760 : Index := 0#32
  let c1_761 : Index := 1#32
  let c0_i32_728 : BitVec 32 := 0#32
  let c1_i32_729 : BitVec 32 := 1#32
  let arg14 : BitVec 32 := Scf.iv c0_i32_728 c1_i32_729 k0_t3
  let c512_i32_731 : BitVec 32 := 512#32
  let v1060 : BitVec 32 := Scalar.muli arg14 c512_i32_731
  let v1061 : BitVec 32 := v1060
  let v1100 : Index := Scalar.indexCast v1061
  let c0_762 : Index := 0#32
  ![0, 1, v1100.toNat, 0]
def k0_off51 (i : grid0.Coords) (k0_t3 : Fin (k0_t3_loop i).trips) : Fin 4 → Nat :=
  let c0_806 : Index := 0#32
  let c2_807 : Index := 2#32
  let c0_i32_728 : BitVec 32 := 0#32
  let c1_i32_729 : BitVec 32 := 1#32
  let arg14 : BitVec 32 := Scf.iv c0_i32_728 c1_i32_729 k0_t3
  let c512_i32_731 : BitVec 32 := 512#32
  let v1060 : BitVec 32 := Scalar.muli arg14 c512_i32_731
  let v1061 : BitVec 32 := v1060
  let v1158 : Index := Scalar.indexCast v1061
  let c0_808 : Index := 0#32
  ![0, 2, v1158.toNat, 0]
def k0_off52 (i : grid0.Coords) (k0_t3 : Fin (k0_t3_loop i).trips) : Fin 4 → Nat :=
  let c0_830 : Index := 0#32
  let c3_831 : Index := 3#32
  let c0_i32_728 : BitVec 32 := 0#32
  let c1_i32_729 : BitVec 32 := 1#32
  let arg14 : BitVec 32 := Scf.iv c0_i32_728 c1_i32_729 k0_t3
  let c512_i32_731 : BitVec 32 := 512#32
  let v1060 : BitVec 32 := Scalar.muli arg14 c512_i32_731
  let v1061 : BitVec 32 := v1060
  let v1194 : Index := Scalar.indexCast v1061
  let c0_832 : Index := 0#32
  ![0, 3, v1194.toNat, 0]
def k0_off53 (i : grid0.Coords) (k0_t3 : Fin (k0_t3_loop i).trips) : Fin 4 → Nat :=
  let c0_876 : Index := 0#32
  let c4_877 : Index := 4#32
  let c0_i32_728 : BitVec 32 := 0#32
  let c1_i32_729 : BitVec 32 := 1#32
  let arg14 : BitVec 32 := Scf.iv c0_i32_728 c1_i32_729 k0_t3
  let c512_i32_731 : BitVec 32 := 512#32
  let v1060 : BitVec 32 := Scalar.muli arg14 c512_i32_731
  let v1061 : BitVec 32 := v1060
  let v1252 : Index := Scalar.indexCast v1061
  let c0_878 : Index := 0#32
  ![0, 4, v1252.toNat, 0]
def k0_off54 (i : grid0.Coords) (k0_t3 : Fin (k0_t3_loop i).trips) : Fin 4 → Nat :=
  let c0_900 : Index := 0#32
  let c5_901 : Index := 5#32
  let c0_i32_728 : BitVec 32 := 0#32
  let c1_i32_729 : BitVec 32 := 1#32
  let arg14 : BitVec 32 := Scf.iv c0_i32_728 c1_i32_729 k0_t3
  let c512_i32_731 : BitVec 32 := 512#32
  let v1060 : BitVec 32 := Scalar.muli arg14 c512_i32_731
  let v1061 : BitVec 32 := v1060
  let v1288 : Index := Scalar.indexCast v1061
  let c0_902 : Index := 0#32
  ![0, 5, v1288.toNat, 0]
def k0_off55 (i : grid0.Coords) (k0_t3 : Fin (k0_t3_loop i).trips) : Fin 4 → Nat :=
  let c0_946 : Index := 0#32
  let c6_947 : Index := 6#32
  let c0_i32_728 : BitVec 32 := 0#32
  let c1_i32_729 : BitVec 32 := 1#32
  let arg14 : BitVec 32 := Scf.iv c0_i32_728 c1_i32_729 k0_t3
  let c512_i32_731 : BitVec 32 := 512#32
  let v1060 : BitVec 32 := Scalar.muli arg14 c512_i32_731
  let v1061 : BitVec 32 := v1060
  let v1346 : Index := Scalar.indexCast v1061
  let c0_948 : Index := 0#32
  ![0, 6, v1346.toNat, 0]
def k0_off56 (i : grid0.Coords) (k0_t3 : Fin (k0_t3_loop i).trips) : Fin 4 → Nat :=
  let c0_970 : Index := 0#32
  let c7_971 : Index := 7#32
  let c0_i32_728 : BitVec 32 := 0#32
  let c1_i32_729 : BitVec 32 := 1#32
  let arg14 : BitVec 32 := Scf.iv c0_i32_728 c1_i32_729 k0_t3
  let c512_i32_731 : BitVec 32 := 512#32
  let v1060 : BitVec 32 := Scalar.muli arg14 c512_i32_731
  let v1061 : BitVec 32 := v1060
  let v1382 : Index := Scalar.indexCast v1061
  let c0_972 : Index := 0#32
  ![0, 7, v1382.toNat, 0]
@[reducible] def k0_t4_loop (i : grid0.Coords) : Scf.Loop 32 :=
  let c0_i32_728 : BitVec 32 := 0#32
  let arg2 : BitVec 32 := BitVec.ofNat 32 (i 2).val
  let v1055 : BitVec 32 := Scalar.subi arg2 c0_i32_728
  let c1_i32 : BitVec 32 := 1#32
  let v1057 : BitVec 32 := Scalar.divsi v1055 c1_i32
  let v1058 : BitVec 32 := Scalar.muli v1057 c1_i32
  let v1059 : BitVec 32 := Scalar.addi c0_i32_728 v1058
  let v1056 : BitVec 32 := Scalar.addi c0_i32_728 v1055
  let c1_i32_730 : BitVec 32 := 1#32
  ⟨v1059, v1056, c1_i32_730⟩
def k0_mult6 (i : grid0.Coords) (k0_t4 : Fin (k0_t4_loop i).trips) : BitVec 32 :=
  let c0_i32_728 : BitVec 32 := 0#32
  let arg2 : BitVec 32 := BitVec.ofNat 32 (i 2).val
  let v1055 : BitVec 32 := Scalar.subi arg2 c0_i32_728
  let c1_i32 : BitVec 32 := 1#32
  let v1057 : BitVec 32 := Scalar.divsi v1055 c1_i32
  let v1058 : BitVec 32 := Scalar.muli v1057 c1_i32
  let v1059 : BitVec 32 := Scalar.addi c0_i32_728 v1058
  let c1_i32_730 : BitVec 32 := 1#32
  let arg14 : BitVec 32 := Scf.iv v1059 c1_i32_730 k0_t4
  let c512_i32_731 : BitVec 32 := 512#32
  let v1060 : BitVec 32 := Scalar.muli arg14 c512_i32_731
  v1060
def k0_off57 (i : grid0.Coords) (k0_t4 : Fin (k0_t4_loop i).trips) : Fin 4 → Nat :=
  let c0_736 : Index := 0#32
  let c0_737 : Index := 0#32
  let c0_i32_728 : BitVec 32 := 0#32
  let arg2 : BitVec 32 := BitVec.ofNat 32 (i 2).val
  let v1055 : BitVec 32 := Scalar.subi arg2 c0_i32_728
  let c1_i32 : BitVec 32 := 1#32
  let v1057 : BitVec 32 := Scalar.divsi v1055 c1_i32
  let v1058 : BitVec 32 := Scalar.muli v1057 c1_i32
  let v1059 : BitVec 32 := Scalar.addi c0_i32_728 v1058
  let c1_i32_730 : BitVec 32 := 1#32
  let arg14 : BitVec 32 := Scf.iv v1059 c1_i32_730 k0_t4
  let c512_i32_731 : BitVec 32 := 512#32
  let v1060 : BitVec 32 := Scalar.muli arg14 c512_i32_731
  let v1061 : BitVec 32 := v1060
  let v1064 : Index := Scalar.indexCast v1061
  let c0_738 : Index := 0#32
  ![0, 0, v1064.toNat, 0]
def k0_off58 (i : grid0.Coords) (k0_t4 : Fin (k0_t4_loop i).trips) : Fin 4 → Nat :=
  let c0_760 : Index := 0#32
  let c1_761 : Index := 1#32
  let c0_i32_728 : BitVec 32 := 0#32
  let arg2 : BitVec 32 := BitVec.ofNat 32 (i 2).val
  let v1055 : BitVec 32 := Scalar.subi arg2 c0_i32_728
  let c1_i32 : BitVec 32 := 1#32
  let v1057 : BitVec 32 := Scalar.divsi v1055 c1_i32
  let v1058 : BitVec 32 := Scalar.muli v1057 c1_i32
  let v1059 : BitVec 32 := Scalar.addi c0_i32_728 v1058
  let c1_i32_730 : BitVec 32 := 1#32
  let arg14 : BitVec 32 := Scf.iv v1059 c1_i32_730 k0_t4
  let c512_i32_731 : BitVec 32 := 512#32
  let v1060 : BitVec 32 := Scalar.muli arg14 c512_i32_731
  let v1061 : BitVec 32 := v1060
  let v1100 : Index := Scalar.indexCast v1061
  let c0_762 : Index := 0#32
  ![0, 1, v1100.toNat, 0]
def k0_off59 (i : grid0.Coords) (k0_t4 : Fin (k0_t4_loop i).trips) : Fin 4 → Nat :=
  let c0_806 : Index := 0#32
  let c2_807 : Index := 2#32
  let c0_i32_728 : BitVec 32 := 0#32
  let arg2 : BitVec 32 := BitVec.ofNat 32 (i 2).val
  let v1055 : BitVec 32 := Scalar.subi arg2 c0_i32_728
  let c1_i32 : BitVec 32 := 1#32
  let v1057 : BitVec 32 := Scalar.divsi v1055 c1_i32
  let v1058 : BitVec 32 := Scalar.muli v1057 c1_i32
  let v1059 : BitVec 32 := Scalar.addi c0_i32_728 v1058
  let c1_i32_730 : BitVec 32 := 1#32
  let arg14 : BitVec 32 := Scf.iv v1059 c1_i32_730 k0_t4
  let c512_i32_731 : BitVec 32 := 512#32
  let v1060 : BitVec 32 := Scalar.muli arg14 c512_i32_731
  let v1061 : BitVec 32 := v1060
  let v1158 : Index := Scalar.indexCast v1061
  let c0_808 : Index := 0#32
  ![0, 2, v1158.toNat, 0]
def k0_off60 (i : grid0.Coords) (k0_t4 : Fin (k0_t4_loop i).trips) : Fin 4 → Nat :=
  let c0_830 : Index := 0#32
  let c3_831 : Index := 3#32
  let c0_i32_728 : BitVec 32 := 0#32
  let arg2 : BitVec 32 := BitVec.ofNat 32 (i 2).val
  let v1055 : BitVec 32 := Scalar.subi arg2 c0_i32_728
  let c1_i32 : BitVec 32 := 1#32
  let v1057 : BitVec 32 := Scalar.divsi v1055 c1_i32
  let v1058 : BitVec 32 := Scalar.muli v1057 c1_i32
  let v1059 : BitVec 32 := Scalar.addi c0_i32_728 v1058
  let c1_i32_730 : BitVec 32 := 1#32
  let arg14 : BitVec 32 := Scf.iv v1059 c1_i32_730 k0_t4
  let c512_i32_731 : BitVec 32 := 512#32
  let v1060 : BitVec 32 := Scalar.muli arg14 c512_i32_731
  let v1061 : BitVec 32 := v1060
  let v1194 : Index := Scalar.indexCast v1061
  let c0_832 : Index := 0#32
  ![0, 3, v1194.toNat, 0]
def k0_off61 (i : grid0.Coords) (k0_t4 : Fin (k0_t4_loop i).trips) : Fin 4 → Nat :=
  let c0_876 : Index := 0#32
  let c4_877 : Index := 4#32
  let c0_i32_728 : BitVec 32 := 0#32
  let arg2 : BitVec 32 := BitVec.ofNat 32 (i 2).val
  let v1055 : BitVec 32 := Scalar.subi arg2 c0_i32_728
  let c1_i32 : BitVec 32 := 1#32
  let v1057 : BitVec 32 := Scalar.divsi v1055 c1_i32
  let v1058 : BitVec 32 := Scalar.muli v1057 c1_i32
  let v1059 : BitVec 32 := Scalar.addi c0_i32_728 v1058
  let c1_i32_730 : BitVec 32 := 1#32
  let arg14 : BitVec 32 := Scf.iv v1059 c1_i32_730 k0_t4
  let c512_i32_731 : BitVec 32 := 512#32
  let v1060 : BitVec 32 := Scalar.muli arg14 c512_i32_731
  let v1061 : BitVec 32 := v1060
  let v1252 : Index := Scalar.indexCast v1061
  let c0_878 : Index := 0#32
  ![0, 4, v1252.toNat, 0]
def k0_off62 (i : grid0.Coords) (k0_t4 : Fin (k0_t4_loop i).trips) : Fin 4 → Nat :=
  let c0_900 : Index := 0#32
  let c5_901 : Index := 5#32
  let c0_i32_728 : BitVec 32 := 0#32
  let arg2 : BitVec 32 := BitVec.ofNat 32 (i 2).val
  let v1055 : BitVec 32 := Scalar.subi arg2 c0_i32_728
  let c1_i32 : BitVec 32 := 1#32
  let v1057 : BitVec 32 := Scalar.divsi v1055 c1_i32
  let v1058 : BitVec 32 := Scalar.muli v1057 c1_i32
  let v1059 : BitVec 32 := Scalar.addi c0_i32_728 v1058
  let c1_i32_730 : BitVec 32 := 1#32
  let arg14 : BitVec 32 := Scf.iv v1059 c1_i32_730 k0_t4
  let c512_i32_731 : BitVec 32 := 512#32
  let v1060 : BitVec 32 := Scalar.muli arg14 c512_i32_731
  let v1061 : BitVec 32 := v1060
  let v1288 : Index := Scalar.indexCast v1061
  let c0_902 : Index := 0#32
  ![0, 5, v1288.toNat, 0]
def k0_off63 (i : grid0.Coords) (k0_t4 : Fin (k0_t4_loop i).trips) : Fin 4 → Nat :=
  let c0_946 : Index := 0#32
  let c6_947 : Index := 6#32
  let c0_i32_728 : BitVec 32 := 0#32
  let arg2 : BitVec 32 := BitVec.ofNat 32 (i 2).val
  let v1055 : BitVec 32 := Scalar.subi arg2 c0_i32_728
  let c1_i32 : BitVec 32 := 1#32
  let v1057 : BitVec 32 := Scalar.divsi v1055 c1_i32
  let v1058 : BitVec 32 := Scalar.muli v1057 c1_i32
  let v1059 : BitVec 32 := Scalar.addi c0_i32_728 v1058
  let c1_i32_730 : BitVec 32 := 1#32
  let arg14 : BitVec 32 := Scf.iv v1059 c1_i32_730 k0_t4
  let c512_i32_731 : BitVec 32 := 512#32
  let v1060 : BitVec 32 := Scalar.muli arg14 c512_i32_731
  let v1061 : BitVec 32 := v1060
  let v1346 : Index := Scalar.indexCast v1061
  let c0_948 : Index := 0#32
  ![0, 6, v1346.toNat, 0]
def k0_off64 (i : grid0.Coords) (k0_t4 : Fin (k0_t4_loop i).trips) : Fin 4 → Nat :=
  let c0_970 : Index := 0#32
  let c7_971 : Index := 7#32
  let c0_i32_728 : BitVec 32 := 0#32
  let arg2 : BitVec 32 := BitVec.ofNat 32 (i 2).val
  let v1055 : BitVec 32 := Scalar.subi arg2 c0_i32_728
  let c1_i32 : BitVec 32 := 1#32
  let v1057 : BitVec 32 := Scalar.divsi v1055 c1_i32
  let v1058 : BitVec 32 := Scalar.muli v1057 c1_i32
  let v1059 : BitVec 32 := Scalar.addi c0_i32_728 v1058
  let c1_i32_730 : BitVec 32 := 1#32
  let arg14 : BitVec 32 := Scf.iv v1059 c1_i32_730 k0_t4
  let c512_i32_731 : BitVec 32 := 512#32
  let v1060 : BitVec 32 := Scalar.muli arg14 c512_i32_731
  let v1061 : BitVec 32 := v1060
  let v1382 : Index := Scalar.indexCast v1061
  let c0_972 : Index := 0#32
  ![0, 7, v1382.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, v0.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelDfIdeal.lean ====
variable {F : FTy → Type} [FloatOps F] [Named F]
def κ : String → Option EReal := fun
  | "vanish" => some ⊥
  | _ => none
-- ==== ReferenceDfIdeal.lean ====
abbrev S8x64x2048x128 : Shape := ⟨4, ![8, 64, 2048, 128]⟩
abbrev S2x128 : Shape := ⟨2, ![2, 128]⟩
abbrev S2x256 : Shape := ⟨2, ![2, 256]⟩
abbrev S8x16x2048x128 : Shape := ⟨4, ![8, 16, 2048, 128]⟩
abbrev S1x128 : Shape := ⟨2, ![1, 128]⟩
abbrev S128 : Shape := ⟨1, ![128]⟩
abbrev S_ : Shape := ⟨0, ![]⟩
abbrev S8x16x2048x2048 : Shape := ⟨4, ![8, 16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x16x2048 : Shape := ⟨3, ![8, 16, 2048]⟩
abbrev S8x16x2048x1 : Shape := ⟨4, ![8, 16, 2048, 1]⟩
abbrev S8x8x2x2048x2048 : Shape := ⟨5, ![8, 8, 2, 2048, 2048]⟩
abbrev S8x8x1x2048x2048 : Shape := ⟨5, ![8, 8, 1, 2048, 2048]⟩
abbrev S8x8x2048x2048 : Shape := ⟨4, ![8, 8, 2048, 2048]⟩
abbrev S8x8x2x2048x128 : Shape := ⟨5, ![8, 8, 2, 2048, 128]⟩
abbrev S8x8x2048x2x128 : Shape := ⟨5, ![8, 8, 2048, 2, 128]⟩
abbrev S8x8x2048x256 : Shape := ⟨4, ![8, 8, 2048, 256]⟩
abbrev S8x8x2048 : Shape := ⟨3, ![8, 8, 2048]⟩
abbrev S8x8x2048x1 : Shape := ⟨4, ![8, 8, 2048, 1]⟩
abbrev S1x256 : Shape := ⟨2, ![1, 256]⟩
abbrev S256 : Shape := ⟨1, ![256]⟩
abbrev S1x1x1x256 : Shape := ⟨4, ![1, 1, 1, 256]⟩

abbrev nBuf : Space → Nat
  | .hbm => 111
  | .vmem => 0
  | .smem => 0
  | _ => 0

abbrev bufTy : (tb : Table) → Fin (tcTables nBuf tb) → BufTy
  | .hbm, ⟨0, _⟩ => ⟨S8x64x2048x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .hbm, ⟨7, _⟩ => ⟨S2x256, .f32⟩
  | .hbm, ⟨8, _⟩ => ⟨S8x16x2048x128, .f32⟩
  | .hbm, ⟨9, _⟩ => ⟨S8x16x2048x128, .f32⟩
  | .hbm, ⟨10, _⟩ => ⟨S8x16x2048x128, .f32⟩
  | .hbm, ⟨11, _⟩ => ⟨S8x16x2048x128, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x128, .f32⟩
  | .hbm, ⟨21, _⟩ => ⟨S128, .f32⟩
  | .hbm, ⟨22, _⟩ => ⟨S1x128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x16x2048x2048, .f32⟩
  | .hbm, ⟨32, _⟩ => ⟨S_, .f32⟩
  | .hbm, ⟨33, _⟩ => ⟨S8x16x2048x2048, .f32⟩
  | .hbm, ⟨34, _⟩ => ⟨S8x16x2048x2048, .f32⟩
  | .hbm, ⟨35, _⟩ => ⟨S2048, .i32⟩
  | .hbm, ⟨36, _⟩ => ⟨S1x2048, .i32⟩
  | .hbm, ⟨37, _⟩ => ⟨S2048, .i32⟩
  | .hbm, ⟨38, _⟩ => ⟨S2048x1, .i32⟩
  | .hbm, ⟨39, _⟩ => ⟨S2048x2048, .i32⟩
  | .hbm, ⟨40, _⟩ => ⟨S2048x2048, .i32⟩
  | .hbm, ⟨41, _⟩ => ⟨S2048x2048, .i1⟩
  | .hbm, ⟨42, _⟩ => ⟨S_, .f32⟩
  | .hbm, ⟨43, _⟩ => ⟨S_, .f32⟩
  | .hbm, ⟨44, _⟩ => ⟨S8x16x2048x2048, .i1⟩
  | .hbm, ⟨45, _⟩ => ⟨S8x16x2048x2048, .f32⟩
  | .hbm, ⟨46, _⟩ => ⟨S8x16x2048x2048, .f32⟩
  | .hbm, ⟨47, _⟩ => ⟨S_, .f32⟩
  | .hbm, ⟨48, _⟩ => ⟨S8x16x2048, .f32⟩
  | .hbm, ⟨49, _⟩ => ⟨S_, .f32⟩
  | .hbm, ⟨50, _⟩ => ⟨S8x16x2048, .f32⟩
  | .hbm, ⟨51, _⟩ => ⟨S8x16x2048, .f32⟩
  | .hbm, ⟨52, _⟩ => ⟨S8x16x2048x1, .f32⟩
  | .hbm, ⟨53, _⟩ => ⟨S8x16x2048x2048, .f32⟩
  | .hbm, ⟨54, _⟩ => ⟨S8x16x2048x2048, .f32⟩
  | .hbm, ⟨55, _⟩ => ⟨S8x16x2048x2048, .f32⟩
  | .hbm, ⟨56, _⟩ => ⟨S_, .f32⟩
  | .hbm, ⟨57, _⟩ => ⟨S8x16x2048, .f32⟩
  | .hbm, ⟨58, _⟩ => ⟨S8x16x2048x1, .f32⟩
  | .hbm, ⟨59, _⟩ => ⟨S8x16x2048x2048, .f32⟩
  | .hbm, ⟨60, _⟩ => ⟨S8x16x2048x2048, .f32⟩
  | .hbm, ⟨61, _⟩ => ⟨S8x8x2x2048x2048, .f32⟩
  | .hbm, ⟨62, _⟩ => ⟨S8x8x1x2048x2048, .f32⟩
  | .hbm, ⟨63, _⟩ => ⟨S8x8x2048x2048, .f32⟩
  | .hbm, ⟨64, _⟩ => ⟨S8x8x1x2048x2048, .f32⟩
  | .hbm, ⟨65, _⟩ => ⟨S8x8x2048x2048, .f32⟩
  | .hbm, ⟨66, _⟩ => ⟨S8x8x2048x2048, .f32⟩
  | .hbm, ⟨67, _⟩ => ⟨S8x8x2048x2048, .f32⟩
  | .hbm, ⟨68, _⟩ => ⟨S8x8x2048x2048, .f32⟩
  | .hbm, ⟨69, _⟩ => ⟨S8x8x2x2048x128, .f32⟩
  | .hbm, ⟨70, _⟩ => ⟨S8x8x2048x2x128, .f32⟩
  | .hbm, ⟨71, _⟩ => ⟨S8x8x2048x256, .f32⟩
  | .hbm, ⟨72, _⟩ => ⟨S8x8x2048x256, .f32⟩
  | .hbm, ⟨73, _⟩ => ⟨S8x8x2048x256, .f32⟩
  | .hbm, ⟨74, _⟩ => ⟨S_, .f32⟩
  | .hbm, ⟨75, _⟩ => ⟨S8x8x2048, .f32⟩
  | .hbm, ⟨76, _⟩ => ⟨S8x8x2048x1, .f32⟩
  | .hbm, ⟨77, _⟩ => ⟨S_, .f32⟩
  | .hbm, ⟨78, _⟩ => ⟨S8x8x2048x1, .f32⟩
  | .hbm, ⟨79, _⟩ => ⟨S8x8x2048x1, .f32⟩
  | .hbm, ⟨80, _⟩ => ⟨S_, .f32⟩
  | .hbm, ⟨81, _⟩ => ⟨S8x8x2048x1, .f32⟩
  | .hbm, ⟨82, _⟩ => ⟨S8x8x2048x1, .f32⟩
  | .hbm, ⟨83, _⟩ => ⟨S8x8x2048x1, .f32⟩
  | .hbm, ⟨84, _⟩ => ⟨S8x8x2048x256, .f32⟩
  | .hbm, ⟨85, _⟩ => ⟨S8x8x2048x256, .f32⟩
  | .hbm, ⟨86, _⟩ => ⟨S1x256, .f32⟩
  | .hbm, ⟨87, _⟩ => ⟨S256, .f32⟩
  | .hbm, ⟨88, _⟩ => ⟨S1x1x1x256, .f32⟩
  | .hbm, ⟨89, _⟩ => ⟨S8x8x2048x256, .f32⟩
  | .hbm, ⟨90, _⟩ => ⟨S8x8x2048x256, .f32⟩
  | .hbm, ⟨91, _⟩ => ⟨S_, .f32⟩
  | .hbm, ⟨92, _⟩ => ⟨S8x8x2048x256, .f32⟩
  | .hbm, ⟨93, _⟩ => ⟨S8x8x2048x256, .f32⟩
  | .hbm, ⟨94, _⟩ => ⟨S8x8x2x2048x128, .f32⟩
  | .hbm, ⟨95, _⟩ => ⟨S8x8x2048x2x128, .f32⟩
  | .hbm, ⟨96, _⟩ => ⟨S8x8x2048x256, .f32⟩
  | .hbm, ⟨97, _⟩ => ⟨S8x8x2048x256, .f32⟩
  | .hbm, ⟨98, _⟩ => ⟨S8x8x2048x256, .f32⟩
  | .hbm, ⟨99, _⟩ => ⟨S_, .f32⟩
  | .hbm, ⟨100, _⟩ => ⟨S8x8x2048x256, .f32⟩
  | .hbm, ⟨101, _⟩ => ⟨S8x8x2048x256, .f32⟩
  | .hbm, ⟨102, _⟩ => ⟨S_, .f32⟩
  | .hbm, ⟨103, _⟩ => ⟨S8x8x2048x256, .f32⟩
  | .hbm, ⟨104, _⟩ => ⟨S8x8x2048x256, .f32⟩
  | .hbm, ⟨105, _⟩ => ⟨S8x8x2048x256, .f32⟩
  | .hbm, ⟨106, _⟩ => ⟨S8x8x2048x256, .f32⟩
  | .hbm, ⟨107, _⟩ => ⟨S8x8x2048x2x128, .f32⟩
  | .hbm, ⟨108, _⟩ => ⟨S8x8x2x2048x128, .f32⟩
  | .hbm, ⟨109, _⟩ => ⟨S8x16x2048x128, .f32⟩
  | .hbm, ⟨110, _⟩ => ⟨S8x16x2048x128, .bf16⟩
  | _, _ => ⟨S8x64x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_10 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_call1_v5 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== Proof.DfIdeal.Logic.lean ====
/- Running the differential attention's program from a state of its buffers: one rule per kind of step. -/
module

public import proofs.«01_k».proof.Proof.Gen.KernelDfIdeal.Launch
public import proofs.«01_k».proof.Proof.Gen.KernelDfIdeal.Skeleton
public import proofs.«01_k».proof.Proof.Gen.KernelDfIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Writes
public import Idealize.ShloMosaic.Lib.WholeRead

@[expose] public section

set_option maxRecDepth 16384

noncomputable section

namespace Cert.KernelDfIdeal.Own

open Cert.KernelDfIdeal Cert.KernelDfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The variants the loops' labels decrease: natural numbers. -/
abbrev 𝒱n : Variants := Variants.nat

/-- The buffers a body is called with, each a whole one, and what the seven inputs hold. -/
structure Env (F : FTy → Type) where
  a3 : Memref sig .tc .vmem S4x128 .f32
  h3 : a3.IsWhole
  x3 : Vec F S4x128 .f32
  a4 : Memref sig .tc .vmem S2x128 .f32
  h4 : a4.IsWhole
  x4 : Vec F S2x128 .f32
  a5 : Memref sig .tc .vmem S1x8x512x128 .bf16
  h5 : a5.IsWhole
  x5 : Vec F S1x8x512x128 .bf16
  a6 : Memref sig .tc .vmem S1x8x2048x128 .bf16
  h6 : a6.IsWhole
  x6 : Vec F S1x8x2048x128 .bf16
  a7 : Memref sig .tc .vmem S1x8x2048x128 .bf16
  h7 : a7.IsWhole
  x7 : Vec F S1x8x2048x128 .bf16
  a8 : Memref sig .tc .vmem S1x8x512x128 .bf16
  h8 : a8.IsWhole
  x8 : Vec F S1x8x512x128 .bf16
  a9 : Memref sig .tc .vmem S1x256 .f32
  h9 : a9.IsWhole
  x9 : Vec F S1x256 .f32
  a10 : Memref sig .tc .vmem S1x8x512x128 .bf16
  h10 : a10.IsWhole
  a11 : Memref sig .tc .vmem S8x512x128 .f32
  h11 : a11.IsWhole
  a12 : Memref sig .tc .vmem S8x512x128 .f32
  h12 : a12.IsWhole
  a13 : Memref sig .tc .vmem S8x512x256 .f32
  h13 : a13.IsWhole

/-- What the output and the three scratch buffers hold: the running maxima, the sums of weights and the sums of weighted values. -/
structure St (F : FTy → Type) where
  m : Vec F S8x512x128 .f32
  l : Vec F S8x512x128 .f32
  a : Vec F S8x512x256 .f32
  o : Vec F S1x8x512x128 .bf16

variable (c : Dev nD) (V : Env F)

/-- The buffers held, with the inputs as they were and the others in state `s`. -/
def held (s : St F) : sProp 𝕄 := iprop(owns (c : Thread nD τ) V.a3 fullShare V.x3 ∗ owns (c : Thread nD τ) V.a4 fullShare V.x4 ∗ owns (c : Thread nD τ) V.a5 fullShare V.x5 ∗ owns (c : Thread nD τ) V.a6 fullShare V.x6 ∗ owns (c : Thread nD τ) V.a7 fullShare V.x7 ∗ owns (c : Thread nD τ) V.a8 fullShare V.x8 ∗ owns (c : Thread nD τ) V.a9 fullShare V.x9 ∗ owns (c : Thread nD τ) V.a10 fullShare s.o ∗ owns (c : Thread nD τ) V.a11 fullShare s.m ∗ owns (c : Thread nD τ) V.a12 fullShare s.l ∗ owns (c : Thread nD τ) V.a13 fullShare s.a)

/-- From state `s` the program ends, with a result and in a state that satisfy `Q`. -/
def Runs {α : Type} (p : Prog (TpuEff nD τ sig (Elt F) Λ₀ .tc) α) (s : St F) (Q : α → St F → Prop) : Prop :=
  ∀ E : Set ℕ, held c V s ⊢ wp frame (wpE (defs₀ (F := F)) 𝒱n (c : Thread nD τ) none) E p (fun v => iprop(∃ s' : St F, ⌜Q v s'⌝ ∗ held c V s'))

variable {c V}

theorem Runs.pure {α : Type} {v : α} {s : St F} {Q : α → St F → Prop} (h : Q v s) : Runs c V (Pure.pure v) s Q := fun E => by
  show _ ⊢ wp _ _ _ (Prog.ret v) _
  rw [wp_ret]
  iintro H
  imodintro
  iexists s
  isplitr; · ipureintro; exact h
  iexact H

theorem Runs.mono {α : Type} {p : Prog (TpuEff nD τ sig (Elt F) Λ₀ .tc) α} {s : St F} {Q Q' : α → St F → Prop} (h : Runs c V p s Q)
    (hQ : ∀ v s', Q v s' → Q' v s') : Runs c V p s Q' := fun E => (h E).trans (wp_mono _ _ _ fun v => by
  iintro ⟨%s', %hq, H⟩
  iexists s'
  isplitr; · ipureintro; exact hQ _ _ hq
  iexact H)

theorem Runs.bind {α β : Type} {p : Prog (TpuEff nD τ sig (Elt F) Λ₀ .tc) α} {f : α → Prog (TpuEff nD τ sig (Elt F) Λ₀ .tc) β} {s : St F} {Q : β → St F → Prop}
    (h : Runs c V p s (fun v s' => Runs c V (f v) s' Q)) : Runs c V (p >>= f) s Q := fun E => by
  rw [wp_bind]
  refine (h E).trans (wp_mono _ _ _ fun v => ?_)
  iintro ⟨%s', %hq, H⟩
  iapply (hq E)
  iexact H

/-- A counted loop, by what holds before each trip. -/
theorem Runs.for {w : ℕ} (L : Scf.Loop w) (hok : L.OK) (body : Fin L.trips → Unit → Prog (TpuEff nD τ sig (Elt F) Λ₀ .tc) Unit) {s : St F}
    {Q : Unit → St F → Prop} (J : ℕ → St F → Prop) (h0 : J 0 s) (hb : ∀ (k : Fin L.trips) s, J k.val s → Runs c V (body k ⟨⟩) s (fun _ s' => J (k.val + 1) s'))
    (hQ : ∀ s', J L.trips s' → Q ⟨⟩ s') : Runs c V (Scf.Loop.for L hok ⟨⟩ body) s Q := fun E => by
  refine BIBase.Entails.trans ?_ (Scf.wp_for _ _ E L.lb L.ub L.st hok ⟨⟩ body (fun k _ => iprop(∃ s' : St F, ⌜J k s'⌝ ∗ held c V s')) ?_)
  · iintro H
    isplitl [H]
    · iexists s
      isplitr; · ipureintro; exact h0
      iexact H
    iintro %acc ⟨%s', %hj, H⟩
    iexists s'
    isplitr; · ipureintro; exact hQ s' hj
    iexact H
  · intro k acc
    iintro ⟨%s', %hj, H⟩
    iapply (hb k s' hj E)
    iexact H

section
variable {sh : Shape} {e : EltTy} {M : Memref sig .tc .vmem sh e} {X : Vec F sh e} {s : St F} (R : Rect sh)

/-- A load reads what the buffer holds. -/
theorem Runs.load (hM : M.IsWhole) (hl : M.view.LoadsAt R.toLoadRect)
    (ho : held c V s ⊢ iprop(owns (c : Thread nD τ) M fullShare X ∗ (owns (c : Thread nD τ) M fullShare X -∗ held c V s)))
    {Q : (R.toLoadRect.shape.Idx → Elt F e) → St F → Prop} (h : Q (fun x => X (R.toLoadRect.idx x)) s) : Runs c V (Prog.lift (.load M R.toLoadRect hl)) s Q := fun E => by
  refine ho.trans ?_
  unfold owns
  iintro ⟨⟨%f, %hf, H⟩, Hk⟩
  iapply (wp_load 𝒱n (c : Thread nD τ) none E (S := M.view.set) (q := fullShare) (f := f) (hS := by rw [hM.set_eq_univ]; exact Finset.subset_univ _)) $$ [H]; · iexact H
  iintro H
  rw [wp_ret]
  imodintro
  iexists s
  isplitr
  · ipureintro
    obtain rfl := hM.eq_unread hf
    rw [show M.view.readAt (Elt F) R.toLoadRect (hM.unread X) = fun x => X (R.toLoadRect.idx x) from funext fun x => hM.readAt_unread X _ x]
    exact h
  iapply Hk
  iexists f
  isplitr; · ipureintro; exact hf
  iexact H

/-- A store leaves the buffer with the written rows replaced. -/
theorem Runs.store (hM : M.IsWhole) (w : R.shape.Idx → Elt F e) (hx : (M.access R).Stores Finset.univ) (hm : Finset.univ = Finset.univ ∨ ∀ a, R.stride a = 1)
    {s' : St F} {Y : Vec F sh e}
    (ho : held c V s ⊢ iprop(owns (c : Thread nD τ) M fullShare X ∗ (owns (c : Thread nD τ) M fullShare Y -∗ held c V s')))
    (hY : ∀ f, M.view.read (Elt F) f = X → M.view.read (Elt F) (M.view.writes (Elt F) f [⟨R, w⟩]) = Y)
    {Q : PUnit → St F → Prop} (h : Q ⟨⟩ s') : Runs c V (Prog.lift (.store M R w Finset.univ hx hm)) s Q := fun E => by
  refine ho.trans ?_
  unfold owns
  iintro ⟨⟨%f, %hf, H⟩, Hk⟩
  rw [hM.set_eq_univ]
  iapply (wp_store 𝒱n (c : Thread nD τ) none E (S := Finset.univ) (f := f) (hS := Finset.subset_univ _)) $$ [H]; · iexact H
  iintro H
  rw [wp_ret]
  imodintro
  iexists s'
  isplitr; · ipureintro; exact h
  iapply Hk
  iexists _
  isplitr; · ipureintro; exact hY f hf
  iexact H

/-- What a store leaves is something. -/
theorem Runs.exists_store (hM : M.IsWhole) (X : Vec F sh e) (w : R.shape.Idx → Elt F e) :
    ∃ Y, ∀ f, M.view.read (Elt F) f = X → M.view.read (Elt F) (M.view.writes (Elt F) f [⟨R, w⟩]) = Y :=
  ⟨_, fun f hf => by obtain rfl := hM.eq_unread hf; rfl⟩

end

/-! ## Each buffer taken out and put back -/

theorem take3 (s : St F) : held c V s ⊢ iprop(owns (c : Thread nD τ) V.a3 fullShare V.x3 ∗ (owns (c : Thread nD τ) V.a3 fullShare V.x3 -∗ held c V s)) := by
  unfold held
  iintro ⟨H3, H4, H5, H6, H7, H8, H9, H10, H11, H12, H13⟩
  isplitl [H3]; · iexact H3
  iintro H3
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem take4 (s : St F) : held c V s ⊢ iprop(owns (c : Thread nD τ) V.a4 fullShare V.x4 ∗ (owns (c : Thread nD τ) V.a4 fullShare V.x4 -∗ held c V s)) := by
  unfold held
  iintro ⟨H3, H4, H5, H6, H7, H8, H9, H10, H11, H12, H13⟩
  isplitl [H4]; · iexact H4
  iintro H4
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem take5 (s : St F) : held c V s ⊢ iprop(owns (c : Thread nD τ) V.a5 fullShare V.x5 ∗ (owns (c : Thread nD τ) V.a5 fullShare V.x5 -∗ held c V s)) := by
  unfold held
  iintro ⟨H3, H4, H5, H6, H7, H8, H9, H10, H11, H12, H13⟩
  isplitl [H5]; · iexact H5
  iintro H5
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem take6 (s : St F) : held c V s ⊢ iprop(owns (c : Thread nD τ) V.a6 fullShare V.x6 ∗ (owns (c : Thread nD τ) V.a6 fullShare V.x6 -∗ held c V s)) := by
  unfold held
  iintro ⟨H3, H4, H5, H6, H7, H8, H9, H10, H11, H12, H13⟩
  isplitl [H6]; · iexact H6
  iintro H6
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem take7 (s : St F) : held c V s ⊢ iprop(owns (c : Thread nD τ) V.a7 fullShare V.x7 ∗ (owns (c : Thread nD τ) V.a7 fullShare V.x7 -∗ held c V s)) := by
  unfold held
  iintro ⟨H3, H4, H5, H6, H7, H8, H9, H10, H11, H12, H13⟩
  isplitl [H7]; · iexact H7
  iintro H7
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem take8 (s : St F) : held c V s ⊢ iprop(owns (c : Thread nD τ) V.a8 fullShare V.x8 ∗ (owns (c : Thread nD τ) V.a8 fullShare V.x8 -∗ held c V s)) := by
  unfold held
  iintro ⟨H3, H4, H5, H6, H7, H8, H9, H10, H11, H12, H13⟩
  isplitl [H8]; · iexact H8
  iintro H8
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem take9 (s : St F) : held c V s ⊢ iprop(owns (c : Thread nD τ) V.a9 fullShare V.x9 ∗ (owns (c : Thread nD τ) V.a9 fullShare V.x9 -∗ held c V s)) := by
  unfold held
  iintro ⟨H3, H4, H5, H6, H7, H8, H9, H10, H11, H12, H13⟩
  isplitl [H9]; · iexact H9
  iintro H9
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem take10 (s : St F) : held c V s ⊢ iprop(owns (c : Thread nD τ) V.a10 fullShare s.o ∗ (owns (c : Thread nD τ) V.a10 fullShare s.o -∗ held c V s)) := by
  unfold held
  iintro ⟨H3, H4, H5, H6, H7, H8, H9, H10, H11, H12, H13⟩
  isplitl [H10]; · iexact H10
  iintro H10
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem take11 (s : St F) : held c V s ⊢ iprop(owns (c : Thread nD τ) V.a11 fullShare s.m ∗ (owns (c : Thread nD τ) V.a11 fullShare s.m -∗ held c V s)) := by
  unfold held
  iintro ⟨H3, H4, H5, H6, H7, H8, H9, H10, H11, H12, H13⟩
  isplitl [H11]; · iexact H11
  iintro H11
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem take12 (s : St F) : held c V s ⊢ iprop(owns (c : Thread nD τ) V.a12 fullShare s.l ∗ (owns (c : Thread nD τ) V.a12 fullShare s.l -∗ held c V s)) := by
  unfold held
  iintro ⟨H3, H4, H5, H6, H7, H8, H9, H10, H11, H12, H13⟩
  isplitl [H12]; · iexact H12
  iintro H12
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem take13 (s : St F) : held c V s ⊢ iprop(owns (c : Thread nD τ) V.a13 fullShare s.a ∗ (owns (c : Thread nD τ) V.a13 fullShare s.a -∗ held c V s)) := by
  unfold held
  iintro ⟨H3, H4, H5, H6, H7, H8, H9, H10, H11, H12, H13⟩
  isplitl [H13]; · iexact H13
  iintro H13
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem put10 (s : St F) (Y : Vec F S1x8x512x128 .bf16) : held c V s ⊢ iprop(owns (c : Thread nD τ) V.a10 fullShare s.o ∗ (owns (c : Thread nD τ) V.a10 fullShare Y -∗ held c V { s with o := Y })) := by
  unfold held
  iintro ⟨H3, H4, H5, H6, H7, H8, H9, H10, H11, H12, H13⟩
  isplitl [H10]; · iexact H10
  iintro H10
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem put11 (s : St F) (Y : Vec F S8x512x128 .f32) : held c V s ⊢ iprop(owns (c : Thread nD τ) V.a11 fullShare s.m ∗ (owns (c : Thread nD τ) V.a11 fullShare Y -∗ held c V { s with m := Y })) := by
  unfold held
  iintro ⟨H3, H4, H5, H6, H7, H8, H9, H10, H11, H12, H13⟩
  isplitl [H11]; · iexact H11
  iintro H11
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem put12 (s : St F) (Y : Vec F S8x512x128 .f32) : held c V s ⊢ iprop(owns (c : Thread nD τ) V.a12 fullShare s.l ∗ (owns (c : Thread nD τ) V.a12 fullShare Y -∗ held c V { s with l := Y })) := by
  unfold held
  iintro ⟨H3, H4, H5, H6, H7, H8, H9, H10, H11, H12, H13⟩
  isplitl [H12]; · iexact H12
  iintro H12
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem put13 (s : St F) (Y : Vec F S8x512x256 .f32) : held c V s ⊢ iprop(owns (c : Thread nD τ) V.a13 fullShare s.a ∗ (owns (c : Thread nD τ) V.a13 fullShare Y -∗ held c V { s with a := Y })) := by
  unfold held
  iintro ⟨H3, H4, H5, H6, H7, H8, H9, H10, H11, H12, H13⟩
  isplitl [H13]; · iexact H13
  iintro H13
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The program ends from any state. -/
def Ends (c : Dev nD) (V : Env F) {α : Type} (p : Prog (TpuEff nD τ sig (Elt F) Λ₀ .tc) α) : Prop := ∀ s, Runs c V p s (fun _ _ => True)

theorem Ends.pure {α : Type} (v : α) : Ends c V (Pure.pure v) := fun _ => Runs.pure trivial
theorem Ends.bind {α β : Type} {p : Prog (TpuEff nD τ sig (Elt F) Λ₀ .tc) α} {f : α → Prog (TpuEff nD τ sig (Elt F) Λ₀ .tc) β}
    (h : Ends c V p) (hf : ∀ v, Ends c V (f v)) : Ends c V (p >>= f) := fun s => Runs.bind ((h s).mono fun v s' _ => hf v s')
theorem Ends.ite {α : Type} {P : Prop} [Decidable P] {p q : Prog (TpuEff nD τ sig (Elt F) Λ₀ .tc) α} (hp : Ends c V p) (hq : Ends c V q) :
    Ends c V (if P then p else q) := by split <;> assumption
theorem Ends.for {w : ℕ} (L : Scf.Loop w) (hok : L.OK) (body : Fin L.trips → Unit → Prog (TpuEff nD τ sig (Elt F) Λ₀ .tc) Unit)
    (hb : ∀ k, Ends c V (body k ⟨⟩)) : Ends c V (Scf.Loop.for L hok ⟨⟩ body) := fun s =>
  Runs.for L hok body (fun _ _ => True) trivial (fun k s _ => hb k s) fun _ _ => trivial
theorem Ends.load3 (R : Rect S4x128) (hl : V.a3.view.LoadsAt R.toLoadRect) : Ends c V (Prog.lift (.load V.a3 R.toLoadRect hl)) := fun s =>
  Runs.load R V.h3 hl (take3 s) trivial
theorem Ends.load4 (R : Rect S2x128) (hl : V.a4.view.LoadsAt R.toLoadRect) : Ends c V (Prog.lift (.load V.a4 R.toLoadRect hl)) := fun s =>
  Runs.load R V.h4 hl (take4 s) trivial
theorem Ends.load5 (R : Rect S1x8x512x128) (hl : V.a5.view.LoadsAt R.toLoadRect) : Ends c V (Prog.lift (.load V.a5 R.toLoadRect hl)) := fun s =>
  Runs.load R V.h5 hl (take5 s) trivial
theorem Ends.load6 (R : Rect S1x8x2048x128) (hl : V.a6.view.LoadsAt R.toLoadRect) : Ends c V (Prog.lift (.load V.a6 R.toLoadRect hl)) := fun s =>
  Runs.load R V.h6 hl (take6 s) trivial
theorem Ends.load7 (R : Rect S1x8x2048x128) (hl : V.a7.view.LoadsAt R.toLoadRect) : Ends c V (Prog.lift (.load V.a7 R.toLoadRect hl)) := fun s =>
  Runs.load R V.h7 hl (take7 s) trivial
theorem Ends.load8 (R : Rect S1x8x512x128) (hl : V.a8.view.LoadsAt R.toLoadRect) : Ends c V (Prog.lift (.load V.a8 R.toLoadRect hl)) := fun s =>
  Runs.load R V.h8 hl (take8 s) trivial
theorem Ends.load9 (R : Rect S1x256) (hl : V.a9.view.LoadsAt R.toLoadRect) : Ends c V (Prog.lift (.load V.a9 R.toLoadRect hl)) := fun s =>
  Runs.load R V.h9 hl (take9 s) trivial
theorem Ends.load10 (R : Rect S1x8x512x128) (hl : V.a10.view.LoadsAt R.toLoadRect) : Ends c V (Prog.lift (.load V.a10 R.toLoadRect hl)) := fun s =>
  Runs.load R V.h10 hl (take10 s) trivial
theorem Ends.load11 (R : Rect S8x512x128) (hl : V.a11.view.LoadsAt R.toLoadRect) : Ends c V (Prog.lift (.load V.a11 R.toLoadRect hl)) := fun s =>
  Runs.load R V.h11 hl (take11 s) trivial
theorem Ends.load12 (R : Rect S8x512x128) (hl : V.a12.view.LoadsAt R.toLoadRect) : Ends c V (Prog.lift (.load V.a12 R.toLoadRect hl)) := fun s =>
  Runs.load R V.h12 hl (take12 s) trivial
theorem Ends.load13 (R : Rect S8x512x256) (hl : V.a13.view.LoadsAt R.toLoadRect) : Ends c V (Prog.lift (.load V.a13 R.toLoadRect hl)) := fun s =>
  Runs.load R V.h13 hl (take13 s) trivial
theorem Ends.store10 (R : Rect S1x8x512x128) (w : R.shape.Idx → Elt F .bf16) (hx : (V.a10.access R).Stores Finset.univ) (hm : Finset.univ = Finset.univ ∨ ∀ a, R.stride a = 1) :
    Ends c V (Prog.lift (.store V.a10 R w Finset.univ hx hm)) := fun s => by
  obtain ⟨Y, hY⟩ := Runs.exists_store R V.h10 s.o w
  exact Runs.store R V.h10 w hx hm (put10 s Y) hY trivial
theorem Ends.store11 (R : Rect S8x512x128) (w : R.shape.Idx → Elt F .f32) (hx : (V.a11.access R).Stores Finset.univ) (hm : Finset.univ = Finset.univ ∨ ∀ a, R.stride a = 1) :
    Ends c V (Prog.lift (.store V.a11 R w Finset.univ hx hm)) := fun s => by
  obtain ⟨Y, hY⟩ := Runs.exists_store R V.h11 s.m w
  exact Runs.store R V.h11 w hx hm (put11 s Y) hY trivial
theorem Ends.store12 (R : Rect S8x512x128) (w : R.shape.Idx → Elt F .f32) (hx : (V.a12.access R).Stores Finset.univ) (hm : Finset.univ = Finset.univ ∨ ∀ a, R.stride a = 1) :
    Ends c V (Prog.lift (.store V.a12 R w Finset.univ hx hm)) := fun s => by
  obtain ⟨Y, hY⟩ := Runs.exists_store R V.h12 s.l w
  exact Runs.store R V.h12 w hx hm (put12 s Y) hY trivial
theorem Ends.store13 (R : Rect S8x512x256) (w : R.shape.Idx → Elt F .f32) (hx : (V.a13.access R).Stores Finset.univ) (hm : Finset.univ = Finset.univ ∨ ∀ a, R.stride a = 1) :
    Ends c V (Prog.lift (.store V.a13 R w Finset.univ hx hm)) := fun s => by
  obtain ⟨Y, hY⟩ := Runs.exists_store R V.h13 s.a w
  exact Runs.store R V.h13 w hx hm (put13 s Y) hY trivial

end Cert.KernelDfIdeal.Own

end
-- ==== Proof.DfIdeal.Whole.lean ====
/- The whole body ends from any state of its buffers. -/
module

public import proofs.«01_k».proof.Proof.DfIdeal.Logic

@[expose] public section

set_option maxRecDepth 16384

noncomputable section

namespace Cert.KernelDfIdeal.Own

open Cert.KernelDfIdeal Cert.KernelDfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {V : Env F} (i : grid0.Coords)

set_option maxHeartbeats 4000000 in
/-- A trip of loop 1 ends. -/
theorem ends_body1  (t : Fin (k0_t1_loop i).trips) : Ends c V (k0_t1_body i V.a3 V.h3 V.a4 V.h4 V.a5 V.h5 V.a6 V.h6 V.a7 V.h7 V.a8 V.h8 V.a9 V.h9 V.a10 V.h10 V.a11 V.h11 V.a12 V.h12 V.a13 V.h13  t ⟨⟩) := by
  unfold k0_t1_body
  repeat' first
    | with_reducible exact Ends.pure _
    | with_reducible exact Ends.load5 _ _
    | with_reducible exact Ends.load6 _ _
    | with_reducible exact Ends.load7 _ _
    | with_reducible exact Ends.load11 _ _
    | with_reducible exact Ends.load12 _ _
    | with_reducible exact Ends.load13 _ _
    | with_reducible exact Ends.load8 _ _
    | with_reducible exact Ends.load10 _ _
    | with_reducible exact Ends.load9 _ _
    | with_reducible exact Ends.load3 _ _
    | with_reducible exact Ends.load4 _ _
    | with_reducible exact Ends.store11 _ _ _ _
    | with_reducible exact Ends.store12 _ _ _ _
    | with_reducible exact Ends.store13 _ _ _ _
    | with_reducible exact Ends.store10 _ _ _ _
    | with_reducible refine Ends.bind ?_ fun v => ?_
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rcases v with ⟨_, _, _, _, _⟩; dsimp only)
    | (rcases v with ⟨_, _, _, _⟩; dsimp only)
    | (rcases v with ⟨_, _, _⟩; dsimp only)
    | (rcases v with ⟨_, _⟩; dsimp only)

set_option maxHeartbeats 4000000 in
/-- A trip of loop 2 ends. -/
theorem ends_body2 (v711 : BitVec 32) (t : Fin (k0_t2_loop i).trips) : Ends c V (k0_t2_body i V.a3 V.h3 V.a4 V.h4 V.a5 V.h5 V.a6 V.h6 V.a7 V.h7 V.a8 V.h8 V.a9 V.h9 V.a10 V.h10 V.a11 V.h11 V.a12 V.h12 V.a13 V.h13 v711 t ⟨⟩) := by
  unfold k0_t2_body
  repeat' first
    | with_reducible exact Ends.pure _
    | with_reducible exact Ends.load5 _ _
    | with_reducible exact Ends.load6 _ _
    | with_reducible exact Ends.load7 _ _
    | with_reducible exact Ends.load11 _ _
    | with_reducible exact Ends.load12 _ _
    | with_reducible exact Ends.load13 _ _
    | with_reducible exact Ends.load8 _ _
    | with_reducible exact Ends.load10 _ _
    | with_reducible exact Ends.load9 _ _
    | with_reducible exact Ends.load3 _ _
    | with_reducible exact Ends.load4 _ _
    | with_reducible exact Ends.store11 _ _ _ _
    | with_reducible exact Ends.store12 _ _ _ _
    | with_reducible exact Ends.store13 _ _ _ _
    | with_reducible exact Ends.store10 _ _ _ _
    | with_reducible refine Ends.bind ?_ fun v => ?_
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rcases v with ⟨_, _, _, _, _⟩; dsimp only)
    | (rcases v with ⟨_, _, _, _⟩; dsimp only)
    | (rcases v with ⟨_, _, _⟩; dsimp only)
    | (rcases v with ⟨_, _⟩; dsimp only)

set_option maxHeartbeats 4000000 in
/-- A trip of loop 3 ends. -/
theorem ends_body3  (t : Fin (k0_t3_loop i).trips) : Ends c V (k0_t3_body i V.a3 V.h3 V.a4 V.h4 V.a5 V.h5 V.a6 V.h6 V.a7 V.h7 V.a8 V.h8 V.a9 V.h9 V.a10 V.h10 V.a11 V.h11 V.a12 V.h12 V.a13 V.h13  t ⟨⟩) := by
  unfold k0_t3_body
  repeat' first
    | with_reducible exact Ends.pure _
    | with_reducible exact Ends.load5 _ _
    | with_reducible exact Ends.load6 _ _
    | with_reducible exact Ends.load7 _ _
    | with_reducible exact Ends.load11 _ _
    | with_reducible exact Ends.load12 _ _
    | with_reducible exact Ends.load13 _ _
    | with_reducible exact Ends.load8 _ _
    | with_reducible exact Ends.load10 _ _
    | with_reducible exact Ends.load9 _ _
    | with_reducible exact Ends.load3 _ _
    | with_reducible exact Ends.load4 _ _
    | with_reducible exact Ends.store11 _ _ _ _
    | with_reducible exact Ends.store12 _ _ _ _
    | with_reducible exact Ends.store13 _ _ _ _
    | with_reducible exact Ends.store10 _ _ _ _
    | with_reducible refine Ends.bind ?_ fun v => ?_
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)
    | (rw [k0_part39_eq_skeleton]; unfold k0_part39_skel)
    | (rw [k0_part40_eq_skeleton]; unfold k0_part40_skel)
    | (rw [k0_part41_eq_skeleton]; unfold k0_part41_skel)
    | (rcases v with ⟨_, _, _, _, _⟩; dsimp only)
    | (rcases v with ⟨_, _, _, _⟩; dsimp only)
    | (rcases v with ⟨_, _, _⟩; dsimp only)
    | (rcases v with ⟨_, _⟩; dsimp only)

set_option maxHeartbeats 4000000 in
/-- A trip of loop 4 ends. -/
theorem ends_body4 (v1059 : BitVec 32) (t : Fin (k0_t4_loop i).trips) : Ends c V (k0_t4_body i V.a3 V.h3 V.a4 V.h4 V.a5 V.h5 V.a6 V.h6 V.a7 V.h7 V.a8 V.h8 V.a9 V.h9 V.a10 V.h10 V.a11 V.h11 V.a12 V.h12 V.a13 V.h13 v1059 t ⟨⟩) := by
  unfold k0_t4_body
  repeat' first
    | with_reducible exact Ends.pure _
    | with_reducible exact Ends.load5 _ _
    | with_reducible exact Ends.load6 _ _
    | with_reducible exact Ends.load7 _ _
    | with_reducible exact Ends.load11 _ _
    | with_reducible exact Ends.load12 _ _
    | with_reducible exact Ends.load13 _ _
    | with_reducible exact Ends.load8 _ _
    | with_reducible exact Ends.load10 _ _
    | with_reducible exact Ends.load9 _ _
    | with_reducible exact Ends.load3 _ _
    | with_reducible exact Ends.load4 _ _
    | with_reducible exact Ends.store11 _ _ _ _
    | with_reducible exact Ends.store12 _ _ _ _
    | with_reducible exact Ends.store13 _ _ _ _
    | with_reducible exact Ends.store10 _ _ _ _
    | with_reducible refine Ends.bind ?_ fun v => ?_
    | (rw [k0_part42_eq_skeleton]; unfold k0_part42_skel)
    | (rw [k0_part43_eq_skeleton]; unfold k0_part43_skel)
    | (rw [k0_part44_eq_skeleton]; unfold k0_part44_skel)
    | (rw [k0_part45_eq_skeleton]; unfold k0_part45_skel)
    | (rw [k0_part46_eq_skeleton]; unfold k0_part46_skel)
    | (rw [k0_part47_eq_skeleton]; unfold k0_part47_skel)
    | (rw [k0_part48_eq_skeleton]; unfold k0_part48_skel)
    | (rw [k0_part49_eq_skeleton]; unfold k0_part49_skel)
    | (rw [k0_part50_eq_skeleton]; unfold k0_part50_skel)
    | (rw [k0_part51_eq_skeleton]; unfold k0_part51_skel)
    | (rw [k0_part52_eq_skeleton]; unfold k0_part52_skel)
    | (rcases v with ⟨_, _, _, _, _⟩; dsimp only)
    | (rcases v with ⟨_, _, _, _⟩; dsimp only)
    | (rcases v with ⟨_, _, _⟩; dsimp only)
    | (rcases v with ⟨_, _⟩; dsimp only)

set_option maxHeartbeats 8000000 in
/-- The branch on the bound, its loops, and what follows it. -/
theorem ends_part77 : Ends c V (k0_part77 i V.a3 V.h3 V.a4 V.h4 V.a5 V.h5 V.a6 V.h6 V.a7 V.h7 V.a8 V.h8 V.a9 V.h9 V.a10 V.h10 V.a11 V.h11 V.a12 V.h12 V.a13 V.h13) := by
  rw [k0_part77_eq_skeleton]; unfold k0_part77_skel
  repeat' first
    | with_reducible exact Ends.pure _
    | with_reducible exact Ends.load5 _ _
    | with_reducible exact Ends.load6 _ _
    | with_reducible exact Ends.load7 _ _
    | with_reducible exact Ends.load11 _ _
    | with_reducible exact Ends.load12 _ _
    | with_reducible exact Ends.load13 _ _
    | with_reducible exact Ends.load8 _ _
    | with_reducible exact Ends.load10 _ _
    | with_reducible exact Ends.load9 _ _
    | with_reducible exact Ends.load3 _ _
    | with_reducible exact Ends.load4 _ _
    | with_reducible exact Ends.store11 _ _ _ _
    | with_reducible exact Ends.store12 _ _ _ _
    | with_reducible exact Ends.store13 _ _ _ _
    | with_reducible exact Ends.store10 _ _ _ _
    | with_reducible refine Ends.bind ?_ fun v => ?_
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part53_eq_skeleton]; unfold k0_part53_skel)
    | (rw [k0_part54_eq_skeleton]; unfold k0_part54_skel)
    | (rw [k0_part55_eq_skeleton]; unfold k0_part55_skel)
    | (rw [k0_part56_eq_skeleton]; unfold k0_part56_skel)
    | (rw [k0_part57_eq_skeleton]; unfold k0_part57_skel)
    | (rw [k0_part58_eq_skeleton]; unfold k0_part58_skel)
    | (rw [k0_part59_eq_skeleton]; unfold k0_part59_skel)
    | (rw [k0_part60_eq_skeleton]; unfold k0_part60_skel)
    | (rw [k0_part61_eq_skeleton]; unfold k0_part61_skel)
    | (rw [k0_part62_eq_skeleton]; unfold k0_part62_skel)
    | (rw [k0_part63_eq_skeleton]; unfold k0_part63_skel)
    | (rw [k0_part64_eq_skeleton]; unfold k0_part64_skel)
    | (rw [k0_part65_eq_skeleton]; unfold k0_part65_skel)
    | (rw [k0_part66_eq_skeleton]; unfold k0_part66_skel)
    | (rw [k0_part67_eq_skeleton]; unfold k0_part67_skel)
    | (rw [k0_part68_eq_skeleton]; unfold k0_part68_skel)
    | (rw [k0_part69_eq_skeleton]; unfold k0_part69_skel)
    | (rw [k0_part70_eq_skeleton]; unfold k0_part70_skel)
    | (rw [k0_part71_eq_skeleton]; unfold k0_part71_skel)
    | (rw [k0_part72_eq_skeleton]; unfold k0_part72_skel)
    | (rw [k0_part73_eq_skeleton]; unfold k0_part73_skel)
    | (rw [k0_part74_eq_skeleton]; unfold k0_part74_skel)
    | (rw [k0_part75_eq_skeleton]; unfold k0_part75_skel)
    | (rw [k0_part76_eq_skeleton]; unfold k0_part76_skel)
    | with_reducible refine Ends.for _ _ _ fun k => ?_
    | with_reducible exact ends_body1 i k
    | with_reducible exact ends_body2 i _ k
    | with_reducible exact ends_body3 i k
    | with_reducible exact ends_body4 i _ k
    | with_reducible refine Ends.ite ?_ ?_
    | (rcases v with ⟨_, _, _, _, _⟩; dsimp only)
    | (rcases v with ⟨_, _, _, _⟩; dsimp only)
    | (rcases v with ⟨_, _, _⟩; dsimp only)
    | (rcases v with ⟨_, _⟩; dsimp only)

set_option maxHeartbeats 4000000 in
/-- The whole body ends. -/
theorem ends_all : Ends c V (cc0_df_attention i V.a3 V.h3 V.a4 V.h4 V.a5 V.h5 V.a6 V.h6 V.a7 V.h7 V.a8 V.h8 V.a9 V.h9 V.a10 V.h10 V.a11 V.h11 V.a12 V.h12 V.a13 V.h13) := by
  rw [cc0_df_attention_eq_skeleton]; unfold cc0_df_attention_skel
  repeat' first
    | with_reducible exact Ends.pure _
    | with_reducible exact Ends.load5 _ _
    | with_reducible exact Ends.load6 _ _
    | with_reducible exact Ends.load7 _ _
    | with_reducible exact Ends.load11 _ _
    | with_reducible exact Ends.load12 _ _
    | with_reducible exact Ends.load13 _ _
    | with_reducible exact Ends.load8 _ _
    | with_reducible exact Ends.load10 _ _
    | with_reducible exact Ends.load9 _ _
    | with_reducible exact Ends.load3 _ _
    | with_reducible exact Ends.load4 _ _
    | with_reducible exact Ends.store11 _ _ _ _
    | with_reducible exact Ends.store12 _ _ _ _
    | with_reducible exact Ends.store13 _ _ _ _
    | with_reducible exact Ends.store10 _ _ _ _
    | with_reducible refine Ends.bind ?_ fun v => ?_
    | with_reducible exact ends_part77 i
    | (rw [k0_part78_eq_skeleton]; unfold k0_part78_skel)
    | (rw [k0_part79_eq_skeleton]; unfold k0_part79_skel)
    | (rw [k0_part80_eq_skeleton]; unfold k0_part80_skel)
    | (rw [k0_part81_eq_skeleton]; unfold k0_part81_skel)
    | (rw [k0_part82_eq_skeleton]; unfold k0_part82_skel)
    | (rcases v with ⟨_, _, _, _, _⟩; dsimp only)
    | (rcases v with ⟨_, _, _, _⟩; dsimp only)
    | (rcases v with ⟨_, _, _⟩; dsimp only)
    | (rcases v with ⟨_, _⟩; dsimp only)

end Cert.KernelDfIdeal.Own

end
-- ==== Proof.DfIdeal.Frame.lean ====
/- The launch with its output not named: every run ends, with the arguments as they were and every semaphore at zero. -/
module

public import proofs.«01_k».proof.Proof.DfIdeal.Whole

@[expose] public section

set_option maxRecDepth 16384

noncomputable section

namespace Cert.KernelDfIdeal.Own

open Cert.KernelDfIdeal Cert.KernelDfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Buffer `b` of core `c` when the launch begins: what the host operations before it left there. -/
abbrev entry (c : Dev nD) (b : Ref sig .tc) : Buf (Elt F) ((c : Thread nD τ).loc b) :=
  StableHlo.after hostOps0 (fun b => m (c, b)) b

/-- No host operation brings a fresh buffer into being. -/
theorem host_fresh : (hostOps0 : List (HloOp τ sig (Elt F))).Forall fun op => op.fresh = ∅ := by
  simp only [List.Forall]; repeat' constructor

set_option maxHeartbeats 3200000 in
/-- The entry function is its host operations and then the launch. -/
theorem host_main : Pipeline.HMain (Ix := Unit) (Name := ℕ) (U := UR sig nD τ) (Lvl := ℕ) cfgs 0 defs₀ 𝒱n m (main (F := F)) (entry m) :=
  Pipeline.hmain_prefix cfgs 0 defs₀ 𝒱n m main hostOps0 hostOps0_sub host_fresh main_chain

/-! ## The arguments are as they were when the launch begins -/

set_option maxHeartbeats 1600000 in
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1600000 in
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1600000 in
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1600000 in
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1600000 in
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1600000 in
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1600000 in
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 1600000 in
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- Window `w`'s block at point `t`, cut from its array as the launch finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The staging buffer of each window at point `t`, and that it is a whole buffer. -/
abbrev st0 (t : Fin cfg0.N) : Memref sig .tc .vmem S4x128 .f32 := win0_0.stage (cfg0.slots t 0)
abbrev wh0 (t : Fin cfg0.N) : (st0 t).IsWhole := hstage0_0 ((cfg0.slots t 0).cast nbuf0_0)
abbrev st1 (t : Fin cfg0.N) : Memref sig .tc .vmem S2x128 .f32 := win0_1.stage (cfg0.slots t 1)
abbrev wh1 (t : Fin cfg0.N) : (st1 t).IsWhole := hstage0_1 ((cfg0.slots t 1).cast nbuf0_1)
abbrev st2 (t : Fin cfg0.N) : Memref sig .tc .vmem S1x8x512x128 .bf16 := win0_2.stage (cfg0.slots t 2)
abbrev wh2 (t : Fin cfg0.N) : (st2 t).IsWhole := hstage0_2 ((cfg0.slots t 2).cast nbuf0_2)
abbrev st3 (t : Fin cfg0.N) : Memref sig .tc .vmem S1x8x2048x128 .bf16 := win0_3.stage (cfg0.slots t 3)
abbrev wh3 (t : Fin cfg0.N) : (st3 t).IsWhole := hstage0_3 ((cfg0.slots t 3).cast nbuf0_3)
abbrev st4 (t : Fin cfg0.N) : Memref sig .tc .vmem S1x8x2048x128 .bf16 := win0_4.stage (cfg0.slots t 4)
abbrev wh4 (t : Fin cfg0.N) : (st4 t).IsWhole := hstage0_4 ((cfg0.slots t 4).cast nbuf0_4)
abbrev st5 (t : Fin cfg0.N) : Memref sig .tc .vmem S1x8x512x128 .bf16 := win0_5.stage (cfg0.slots t 5)
abbrev wh5 (t : Fin cfg0.N) : (st5 t).IsWhole := hstage0_5 ((cfg0.slots t 5).cast nbuf0_5)
abbrev st6 (t : Fin cfg0.N) : Memref sig .tc .vmem S1x256 .f32 := win0_6.stage (cfg0.slots t 6)
abbrev wh6 (t : Fin cfg0.N) : (st6 t).IsWhole := hstage0_6 ((cfg0.slots t 6).cast nbuf0_6)
abbrev st7 (t : Fin cfg0.N) : Memref sig .tc .vmem S1x8x512x128 .bf16 := win0_7.stage (cfg0.slots t 7)
abbrev wh7 (t : Fin cfg0.N) : (st7 t).IsWhole := hstage0_7 ((cfg0.slots t 7).cast nbuf0_7)
/-- The three scratch buffers. -/
abbrev sc0 : Memref sig .tc .vmem S8x512x128 .f32 := Memref.whole cc0_scratch0
abbrev sc1 : Memref sig .tc .vmem S8x512x128 .f32 := Memref.whole cc0_scratch1
abbrev sc2 : Memref sig .tc .vmem S8x512x256 .f32 := Memref.whole cc0_scratch2

/-- Between points the core owns the scratch buffers, at some contents, and the generator's register. -/
theorem between_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- What the body is called with at point `t`. -/
def envAt (c : Dev nD) (t : Fin cfg0.N) : Env F where
  a3 := st0 t
  h3 := wh0 t
  x3 := blk m c 0 t
  a4 := st1 t
  h4 := wh1 t
  x4 := blk m c 1 t
  a5 := st2 t
  h5 := wh2 t
  x5 := blk m c 2 t
  a6 := st3 t
  h6 := wh3 t
  x6 := blk m c 3 t
  a7 := st4 t
  h7 := wh4 t
  x7 := blk m c 4 t
  a8 := st5 t
  h8 := wh5 t
  x8 := blk m c 5 t
  a9 := st6 t
  h9 := wh6 t
  x9 := blk m c 6 t
  a10 := st7 t
  h10 := wh7 t
  a11 := sc0
  h11 := Memref.isWhole_whole _
  a12 := sc1
  h12 := Memref.isWhole_whole _
  a13 := sc2
  h13 := Memref.isWhole_whole _

/-- The window whose contents are not named: the output's. -/
def unnamedW : Fin 8 → Bool := fun w => w.val == 7

/-- The launch's data on core `c`: the arrays as the launch finds them, the inputs' blocks left in place, the output not named. -/
def pdat (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, h⟩ => Pipeline.Dat.unnamed (cfg := cfg0) ⟨7, h⟩ t
  Φ _ := Pipeline.ΦA spec0 c
  q w := Pipeline.shareOf spec0 w
  owed _ := 0

/-- Its arrays are the launch's. -/
theorem pdat_A (c : Dev nD) (w : Fin cfg0.W) : (pdat m 0 c).A w = entry m c (Pipeline.arrRef spec0 w) := by
  dsimp only [pdat]

/-- The inputs' blocks are left in place. -/
theorem after_0 (c : Dev nD) (t : Fin cfg0.N) : (pdat m 0 c).after 0 t = blk m c 0 t := rfl
theorem after_1 (c : Dev nD) (t : Fin cfg0.N) : (pdat m 0 c).after 1 t = blk m c 1 t := rfl
theorem after_2 (c : Dev nD) (t : Fin cfg0.N) : (pdat m 0 c).after 2 t = blk m c 2 t := rfl
theorem after_3 (c : Dev nD) (t : Fin cfg0.N) : (pdat m 0 c).after 3 t = blk m c 3 t := rfl
theorem after_4 (c : Dev nD) (t : Fin cfg0.N) : (pdat m 0 c).after 4 t = blk m c 4 t := rfl
theorem after_5 (c : Dev nD) (t : Fin cfg0.N) : (pdat m 0 c).after 5 t = blk m c 5 t := rfl
theorem after_6 (c : Dev nD) (t : Fin cfg0.N) : (pdat m 0 c).after 6 t = blk m c 6 t := rfl

/-- Each input window is at its block when the body is called, fetched at this point or before. -/
theorem before_0 (c : Dev nD) (t : Fin cfg0.N) (d) : (pdat m 0 c).before 0 t d = blk m c 0 t :=
  ((pdat m 0 c).before_in_eq_fetched 0 rfl (fun _ => rfl) (fun _ _ _ => rfl) (fun t => by rw [after_0]; unfold Dat.blockOf blk; rw [pdat_A]; try rfl) t d).trans
    (by unfold Dat.fetched Dat.blockOf blk; rw [pdat_A]; try rfl)
theorem before_1 (c : Dev nD) (t : Fin cfg0.N) (d) : (pdat m 0 c).before 1 t d = blk m c 1 t :=
  ((pdat m 0 c).before_in_eq_fetched 1 rfl (fun _ => rfl) (fun _ _ _ => rfl) (fun t => by rw [after_1]; unfold Dat.blockOf blk; rw [pdat_A]; try rfl) t d).trans
    (by unfold Dat.fetched Dat.blockOf blk; rw [pdat_A]; try rfl)
theorem before_2 (c : Dev nD) (t : Fin cfg0.N) (d) : (pdat m 0 c).before 2 t d = blk m c 2 t :=
  ((pdat m 0 c).before_in_eq_fetched 2 rfl (fun _ => rfl) (fun _ _ _ => rfl) (fun t => by rw [after_2]; unfold Dat.blockOf blk; rw [pdat_A]; try rfl) t d).trans
    (by unfold Dat.fetched Dat.blockOf blk; rw [pdat_A]; try rfl)
theorem before_3 (c : Dev nD) (t : Fin cfg0.N) (d) : (pdat m 0 c).before 3 t d = blk m c 3 t :=
  ((pdat m 0 c).before_in_eq_fetched 3 rfl (fun _ => rfl) (fun _ _ _ => rfl) (fun t => by rw [after_3]; unfold Dat.blockOf blk; rw [pdat_A]; try rfl) t d).trans
    (by unfold Dat.fetched Dat.blockOf blk; rw [pdat_A]; try rfl)
theorem before_4 (c : Dev nD) (t : Fin cfg0.N) (d) : (pdat m 0 c).before 4 t d = blk m c 4 t :=
  ((pdat m 0 c).before_in_eq_fetched 4 rfl (fun _ => rfl) (fun _ _ _ => rfl) (fun t => by rw [after_4]; unfold Dat.blockOf blk; rw [pdat_A]; try rfl) t d).trans
    (by unfold Dat.fetched Dat.blockOf blk; rw [pdat_A]; try rfl)
theorem before_5 (c : Dev nD) (t : Fin cfg0.N) (d) : (pdat m 0 c).before 5 t d = blk m c 5 t :=
  ((pdat m 0 c).before_in_eq_fetched 5 rfl (fun _ => rfl) (fun _ _ _ => rfl) (fun t => by rw [after_5]; unfold Dat.blockOf blk; rw [pdat_A]; try rfl) t d).trans
    (by unfold Dat.fetched Dat.blockOf blk; rw [pdat_A]; try rfl)
theorem before_6 (c : Dev nD) (t : Fin cfg0.N) (d) : (pdat m 0 c).before 6 t d = blk m c 6 t :=
  ((pdat m 0 c).before_in_eq_fetched 6 rfl (fun _ => rfl) (fun _ _ _ => rfl) (fun t => by rw [after_6]; unfold Dat.blockOf blk; rw [pdat_A]; try rfl) t d).trans
    (by unfold Dat.fetched Dat.blockOf blk; rw [pdat_A]; try rfl)

/-- What the body is called with at point `t`, -/
def atCall (c : Dev nD) (t : Fin cfg0.N) : sProp 𝕄 :=
  iprop((pdat m 0 c).Φ t.castSucc ∗ (pdat m 0 c).owesAt () t.castSucc
    ∗ (∃ d, owns (c : Thread nD τ) (st0 t) fullShare ((pdat m 0 c).before 0 t d))
    ∗ (∃ d, owns (c : Thread nD τ) (st1 t) fullShare ((pdat m 0 c).before 1 t d))
    ∗ (∃ d, owns (c : Thread nD τ) (st2 t) fullShare ((pdat m 0 c).before 2 t d))
    ∗ (∃ d, owns (c : Thread nD τ) (st3 t) fullShare ((pdat m 0 c).before 3 t d))
    ∗ (∃ d, owns (c : Thread nD τ) (st4 t) fullShare ((pdat m 0 c).before 4 t d))
    ∗ (∃ d, owns (c : Thread nD τ) (st5 t) fullShare ((pdat m 0 c).before 5 t d))
    ∗ (∃ d, owns (c : Thread nD τ) (st6 t) fullShare ((pdat m 0 c).before 6 t d))
    ∗ (∃ d, owns (c : Thread nD τ) (st7 t) fullShare d))

/-- and what it returns. -/
def atReturn (c : Dev nD) (t : Fin cfg0.N) : sProp 𝕄 :=
  iprop((pdat m 0 c).Φ t.succ ∗ (pdat m 0 c).owesAt () t.succ
    ∗ owns (c : Thread nD τ) (st0 t) fullShare ((pdat m 0 c).after 0 t)
    ∗ owns (c : Thread nD τ) (st1 t) fullShare ((pdat m 0 c).after 1 t)
    ∗ owns (c : Thread nD τ) (st2 t) fullShare ((pdat m 0 c).after 2 t)
    ∗ owns (c : Thread nD τ) (st3 t) fullShare ((pdat m 0 c).after 3 t)
    ∗ owns (c : Thread nD τ) (st4 t) fullShare ((pdat m 0 c).after 4 t)
    ∗ owns (c : Thread nD τ) (st5 t) fullShare ((pdat m 0 c).after 5 t)
    ∗ owns (c : Thread nD τ) (st6 t) fullShare ((pdat m 0 c).after 6 t)
    ∗ (∃ d, owns (c : Thread nD τ) (st7 t) fullShare d))

/-- The table's row at a point's buffers is the body. -/
theorem row_eq (t : Fin cfg0.N) :
    defs₀ (F := F) .tc cfg0.body (cfg0.bodyArgs t (cfg0.slots t)) = bodyAt0 t := by
  unfold defs₀; rw [Defs.onTc_tc]

set_option maxHeartbeats 800000 in
/-- The body at a point takes the one to the other. -/
theorem body_point (c : Dev nD) (t : Fin cfg0.N) :
    atCall m c t ⊢ wp frame (wpE (defs₀ (F := F)) 𝒱n c none) Set.univ (bodyAt0 t) (fun _ => atReturn m c t) := by
  unfold atCall atReturn bodyAt0
  simp only [before_0, before_1, before_2, before_3, before_4, before_5, before_6]
  rw [show (pdat m 0 c).Φ t.succ = (pdat m 0 c).Φ t.castSucc from rfl,
    show (pdat m 0 c).owesAt () t.succ = (pdat m 0 c).owesAt () t.castSucc from rfl,
    after_0, after_1, after_2, after_3, after_4, after_5, after_6]
  rw [show (pdat m 0 c).Φ t.castSucc = Pipeline.ΦA spec0 c from rfl, between_eq]
  iintro ⟨⟨⟨⟨%e0, H11⟩, ⟨%e1, H12⟩, ⟨%e2, H13⟩⟩, Hg⟩, Ho, ⟨%d0, H3⟩, ⟨%d1, H4⟩, ⟨%d2, H5⟩, ⟨%d3, H6⟩, ⟨%d4, H7⟩, ⟨%d5, H8⟩, ⟨%d6, H9⟩, ⟨%d7, H10⟩⟩
  iapply (wp_wand_r _ _ _)
  isplitl [H3 H4 H5 H6 H7 H8 H9 H10 H11 H12 H13]
  · iapply (ends_all (c := c) (V := envAt m c t) (grid0.coords t) ⟨e0, e1, e2, d7⟩ Set.univ)
    unfold held envAt
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

  iintro %v ⟨%s', -, Hh⟩
  unfold held envAt
  icases Hh with ⟨H3, H4, H5, H6, H7, H8, H9, H10, H11, H12, H13⟩
  isplitl [H11 H12 H13 Hg]
  · isplitl [H11 H12 H13]
    · isplitl [H11]
      · iexists _; iexact H11
      isplitl [H12]
      · iexists _; iexact H12
      iexists _; iexact H13
    iexact Hg
  isplitl [Ho]; · iexact Ho
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

/-- The launch's obligation on the body holds at every point. -/
theorem obligation (c : Dev nD) : BodyObligation (pdat (F := F) m 0 c) (defs₀ (F := F)) 𝒱n () Set.univ unnamedW := fun t => by
  rw [bigSep_W0, bigSep_W0, row_eq]
  exact triple_restated (body_point m c t) rfl .rfl fun _ => .rfl

set_option backward.isDefEq.respectTransparency.types false in
/-- Every run of the program ends, with the arrays the launch reads as it found them and every semaphore at zero. -/
theorem run_ends : θ_run defs (onTc (τ := τ) (main (F := F))) (s₀ m ρ)
    (fun r => (Pipeline.RDat.FramePost (cfgs 0) (fun c => (pdat m 0 c).toRForget unnamedW) (entry m)) r ∧ r.2.sem = fun _ => 0) :=
  Pipeline.θ_run_frame_forget_shared (Q' := _) cfgs (pdat m) (0 : Fin 1) launch₀0 defs₀ 𝒱n unnamedW m ρ main
    (hbody := fun c => (obligation m c).loose) (hq := fun _ _ _ => rfl)
    (howed := fun _ _ => rfl) (V := entry m) (hmain := host_main m) (hA := pdat_A m) (hΦ := fun _ _ => rfl)

/-- Every run of the program ends with the arguments as they were and every semaphore at zero. -/
theorem quiet : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (fun w => (by decide : ∀ w : Fin 8, (spec0 w).arr.view.ref ≠ main_arg0) w))).trans (entry_arg0 m c),
    ((h.1 c).2 main_arg1 (Pipeline.mem_restRefs_of main_arg1 (by decide) (fun w => (by decide : ∀ w : Fin 8, (spec0 w).arr.view.ref ≠ main_arg1) w))).trans (entry_arg1 m c),
    ((h.1 c).2 main_arg2 (Pipeline.mem_restRefs_of main_arg2 (by decide) (fun w => (by decide : ∀ w : Fin 8, (spec0 w).arr.view.ref ≠ main_arg2) w))).trans (entry_arg2 m c),
    ((h.1 c).2 main_arg3 (Pipeline.mem_restRefs_of main_arg3 (by decide) (fun w => (by decide : ∀ w : Fin 8, (spec0 w).arr.view.ref ≠ main_arg3) w))).trans (entry_arg3 m c),
    ((h.1 c).2 main_arg4 (Pipeline.mem_restRefs_of main_arg4 (by decide) (fun w => (by decide : ∀ w : Fin 8, (spec0 w).arr.view.ref ≠ main_arg4) w))).trans (entry_arg4 m c),
    ((h.1 c).2 main_arg5 (Pipeline.mem_restRefs_of main_arg5 (by decide) (fun w => (by decide : ∀ w : Fin 8, (spec0 w).arr.view.ref ≠ main_arg5) w))).trans (entry_arg5 m c),
    ((h.1 c).2 main_arg6 (Pipeline.mem_restRefs_of main_arg6 (by decide) (fun w => (by decide : ∀ w : Fin 8, (spec0 w).arr.view.ref ≠ main_arg6) w))).trans (entry_arg6 m c),
    ((h.1 c).2 main_arg7 (Pipeline.mem_restRefs_of main_arg7 (by decide) (fun w => (by decide : ∀ w : Fin 8, (spec0 w).arr.view.ref ≠ main_arg7) w))).trans (entry_arg7 m c)⟩, h.2⟩) (run_ends m ρ)

end Cert.KernelDfIdeal.Own

end
-- ==== Proof.Ideal.Base.lean ====
/- What every run of the attention kernel's program shares: the memory the launch finds after the host operations, each
   input window's block at a grid point, and the buffers the body is called with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The variants the loops' labels decrease: natural numbers. -/
abbrev 𝒱n : Variants := Variants.nat

/-- Buffer `b` of core `c` when the launch begins: what the host operations before it left there. -/
abbrev entry (c : Dev nD) (b : Ref sig .tc) : Buf (Elt F) ((c : Thread nD τ).loc b) :=
  StableHlo.after hostOps0 (fun b => m (c, b)) b

/-- No host operation brings a fresh buffer into being. -/
theorem host_fresh : (hostOps0 : List (HloOp τ sig (Elt F))).Forall fun op => op.fresh = ∅ := by
  simp only [List.Forall]; repeat' constructor

set_option maxHeartbeats 800000 in
/-- The entry function is its host operations and then the launch. -/
theorem host_main : Pipeline.HMain (Ix := Unit) (Name := ℕ) (U := UR sig nD τ) (Lvl := ℕ) cfgs 0 defs₀ 𝒱n m (main (F := F)) (entry m) :=
  Pipeline.hmain_prefix cfgs 0 defs₀ 𝒱n m main hostOps0 hostOps0_sub host_fresh main_chain

/-- The argument is as it was when the launch begins. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- Window `w`'s block at point `t`, cut from its array as the launch finds it. -/
def blk (c : Dev nD) (w : Fin (cfg0 (F := F)).W) (t : Fin (cfg0 (F := F)).N) : (((cfg0 (F := F)).win w).xblock ((cfg0 (F := F)).grid.coords t)).Idx → Elt F ((cfg0 (F := F)).win w).elt :=
  ((cfg0.win w).blk t).view.read (Elt F) (entry m c (Pipeline.arrRef spec0 w))

/-- The staging buffer of each window at point `t`, and that it is a whole buffer. -/
abbrev st0 (t : Fin (cfg0 (F := F)).N) : Memref sig .tc .vmem S1x8x512x128 .bf16 := win0_0.stage (cfg0.slots t 0)
abbrev wh0 (t : Fin (cfg0 (F := F)).N) : (st0 t).IsWhole := hstage0_0 ((cfg0.slots t 0).cast nbuf0_0)
abbrev st1 (t : Fin (cfg0 (F := F)).N) : Memref sig .tc .vmem S1x8x2048x128 .bf16 := win0_1.stage (cfg0.slots t 1)
abbrev wh1 (t : Fin (cfg0 (F := F)).N) : (st1 t).IsWhole := hstage0_1 ((cfg0.slots t 1).cast nbuf0_1)
abbrev st2 (t : Fin (cfg0 (F := F)).N) : Memref sig .tc .vmem S1x8x2048x128 .bf16 := win0_2.stage (cfg0.slots t 2)
abbrev wh2 (t : Fin (cfg0 (F := F)).N) : (st2 t).IsWhole := hstage0_2 ((cfg0.slots t 2).cast nbuf0_2)
abbrev st3 (t : Fin (cfg0 (F := F)).N) : Memref sig .tc .vmem S1x8x512x128 .bf16 := win0_3.stage (cfg0.slots t 3)
abbrev wh3 (t : Fin (cfg0 (F := F)).N) : (st3 t).IsWhole := hstage0_3 ((cfg0.slots t 3).cast nbuf0_3)
abbrev st4 (t : Fin (cfg0 (F := F)).N) : Memref sig .tc .vmem S256x256 .bf16 := win0_4.stage (cfg0.slots t 4)
abbrev wh4 (t : Fin (cfg0 (F := F)).N) : (st4 t).IsWhole := hstage0_4 ((cfg0.slots t 4).cast nbuf0_4)
abbrev st5 (t : Fin (cfg0 (F := F)).N) : Memref sig .tc .vmem S1x8x512x128 .bf16 := win0_5.stage (cfg0.slots t 5)
abbrev wh5 (t : Fin (cfg0 (F := F)).N) : (st5 t).IsWhole := hstage0_5 ((cfg0.slots t 5).cast nbuf0_5)
/-- The two scratch buffers: the accumulators and the running sums. -/
abbrev accM : Memref sig .tc .vmem S8x512x128 .f32 := Memref.whole cc0_scratch0
abbrev carM : Memref sig .tc .vmem S8x512x128 .f32 := Memref.whole cc0_scratch1

/-- Between points the core owns the two scratch buffers, at some contents, and the generator's register. -/
theorem between_eq (c : Dev nD) :
    (Pipeline.ΦA spec0 c : sProp 𝕄)
      = iprop(iprop((∃ d, owns (c : Thread nD τ) accM fullShare d) ∗ (∃ d, owns (c : Thread nD τ) carM fullShare d)) ∗ (∃ r, prngReg c r)) := by
  unfold Pipeline.ΦA; rw [scopedRest0_eq]; simp only [accM, carM, owns_whole]; try rfl

/-! ## The counters of the two sweeps -/

/-- The number of key blocks left of a block of queries, as a word: twice the block's number. -/
theorem sweeps_eq : ∀ n < 4, Scalar.muli (BitVec.ofNat 32 n) 2#32 = BitVec.ofNat 32 (2 * n) := by decide

/-- A counter below the number of sweeps passes the test, -/
theorem slt_lt : ∀ T < 8, ∀ j < T, Scalar.cmpi .slt (BitVec.ofNat 32 j) (BitVec.ofNat 32 T) = 1#1 := by decide

/-- and one that has reached it does not. -/
theorem slt_end : ∀ T < 8, Scalar.cmpi .slt (BitVec.ofNat 32 T) (BitVec.ofNat 32 T) = 0#1 := by decide

/-- The counter's step. -/
theorem step_eq : ∀ j < 8, Scalar.addi (BitVec.ofNat 32 j) 1#32 = BitVec.ofNat 32 (j + 1) := by decide

/-- Where the keys of a sweep start, as the kernel computes it: with `j` sweeps done, block `2 * n - 1 - j`. -/
theorem key_word : ∀ n < 4, ∀ j < 2 * n,
    (Scalar.indexCast (Scalar.muli (Scalar.subi (Scalar.subi (Scalar.muli (BitVec.ofNat 32 n) 2#32) 1#32) (BitVec.ofNat 32 j)) 256#32)).toNat
      = 256 * (2 * n - 1 - j) := by decide

/-- A block of 256 keys of one head lies inside the keys. -/
theorem key_inb (g x : ℕ) (hg : g < 8) (hx : x + 256 ≤ 2048) :
    ∀ a, (![0, g, x, 0] : Fin 4 → ℕ) a + S1x1x256x128.size a ≤ S1x8x2048x128.size a := by
  intro a
  fin_cases a
  · exact (by decide : 0 + 1 ≤ 1)
  · show g + 1 ≤ 8; omega
  · show x + 256 ≤ 2048; omega
  · exact (by decide : 0 + 128 ≤ 128)

end Cert.KernelIdeal.Own

end
-- ==== Proof.Ideal.Sweep1.lean ====
/- The sweep of rows 0 to 255: from any state its loop ends, the input buffers as they were and the two scratch buffers at some contents. -/
module

public import proofs.«01_k».proof.Proof.Ideal.Base

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Sweep `j` reads the keys of head 0 from key `256 * (2 * n - 1 - j)` on, of query block `n`. -/
theorem off1_0 (i : grid0.Coords) (j : ℕ) (hj : j < 2 * (i 2).val) :
    k0_off9 i (BitVec.ofNat 32 j) = ![0, 0, 256 * (2 * (i 2).val - 1 - j), 0] :=
  congrArg (fun x : ℕ => (![0, 0, x, 0] : Fin 4 → ℕ)) (key_word (i 2).val (i 2).isLt j hj)

/-- Sweep `j` reads the keys of head 1 from key `256 * (2 * n - 1 - j)` on, of query block `n`. -/
theorem off1_1 (i : grid0.Coords) (j : ℕ) (hj : j < 2 * (i 2).val) :
    k0_off10 i (BitVec.ofNat 32 j) = ![0, 1, 256 * (2 * (i 2).val - 1 - j), 0] :=
  congrArg (fun x : ℕ => (![0, 1, x, 0] : Fin 4 → ℕ)) (key_word (i 2).val (i 2).isLt j hj)

/-- Sweep `j` reads the keys of head 2 from key `256 * (2 * n - 1 - j)` on, of query block `n`. -/
theorem off1_2 (i : grid0.Coords) (j : ℕ) (hj : j < 2 * (i 2).val) :
    k0_off11 i (BitVec.ofNat 32 j) = ![0, 2, 256 * (2 * (i 2).val - 1 - j), 0] :=
  congrArg (fun x : ℕ => (![0, 2, x, 0] : Fin 4 → ℕ)) (key_word (i 2).val (i 2).isLt j hj)

/-- Sweep `j` reads the keys of head 3 from key `256 * (2 * n - 1 - j)` on, of query block `n`. -/
theorem off1_3 (i : grid0.Coords) (j : ℕ) (hj : j < 2 * (i 2).val) :
    k0_off12 i (BitVec.ofNat 32 j) = ![0, 3, 256 * (2 * (i 2).val - 1 - j), 0] :=
  congrArg (fun x : ℕ => (![0, 3, x, 0] : Fin 4 → ℕ)) (key_word (i 2).val (i 2).isLt j hj)

/-- Sweep `j` reads the keys of head 4 from key `256 * (2 * n - 1 - j)` on, of query block `n`. -/
theorem off1_4 (i : grid0.Coords) (j : ℕ) (hj : j < 2 * (i 2).val) :
    k0_off13 i (BitVec.ofNat 32 j) = ![0, 4, 256 * (2 * (i 2).val - 1 - j), 0] :=
  congrArg (fun x : ℕ => (![0, 4, x, 0] : Fin 4 → ℕ)) (key_word (i 2).val (i 2).isLt j hj)

/-- Sweep `j` reads the keys of head 5 from key `256 * (2 * n - 1 - j)` on, of query block `n`. -/
theorem off1_5 (i : grid0.Coords) (j : ℕ) (hj : j < 2 * (i 2).val) :
    k0_off14 i (BitVec.ofNat 32 j) = ![0, 5, 256 * (2 * (i 2).val - 1 - j), 0] :=
  congrArg (fun x : ℕ => (![0, 5, x, 0] : Fin 4 → ℕ)) (key_word (i 2).val (i 2).isLt j hj)

/-- Sweep `j` reads the keys of head 6 from key `256 * (2 * n - 1 - j)` on, of query block `n`. -/
theorem off1_6 (i : grid0.Coords) (j : ℕ) (hj : j < 2 * (i 2).val) :
    k0_off15 i (BitVec.ofNat 32 j) = ![0, 6, 256 * (2 * (i 2).val - 1 - j), 0] :=
  congrArg (fun x : ℕ => (![0, 6, x, 0] : Fin 4 → ℕ)) (key_word (i 2).val (i 2).isLt j hj)

/-- Sweep `j` reads the keys of head 7 from key `256 * (2 * n - 1 - j)` on, of query block `n`. -/
theorem off1_7 (i : grid0.Coords) (j : ℕ) (hj : j < 2 * (i 2).val) :
    k0_off16 i (BitVec.ofNat 32 j) = ![0, 7, 256 * (2 * (i 2).val - 1 - j), 0] :=
  congrArg (fun x : ℕ => (![0, 7, x, 0] : Fin 4 → ℕ)) (key_word (i 2).val (i 2).isLt j hj)

/-- A block of keys starts at a multiple of 256. -/
theorem mult_key1 (i : grid0.Coords) (j : ℕ) (hj : j < 2 * (i 2).val) : 256 ∣ (k0_mult3 i (BitVec.ofNat 32 j)).toNat :=
  (key_word (i 2).val (i 2).isLt j hj ▸ Dvd.intro _ rfl : 256 ∣ (Scalar.indexCast (Scalar.muli (Scalar.subi (Scalar.subi (Scalar.muli (BitVec.ofNat 32 (i 2).val) 2#32) 1#32) (BitVec.ofNat 32 j)) 256#32)).toNat)

/-- The counter of a sweep still to run names a block of keys inside the keys. -/
theorem chk1_lt (i : grid0.Coords) (j : ℕ) (hj : j < 2 * (i 2).val) : k0_chk1 i (BitVec.ofNat 32 j) := by
  have h4 : (i 2).val < 4 := (i 2).isLt
  refine ⟨mult_key1 i j hj, ?_, ?_, ?_, ?_, ?_, ?_, ?_, ?_⟩
  · rw [off1_0 i j hj]; exact key_inb 0 _ (by omega) (by omega)
  · rw [off1_1 i j hj]; exact key_inb 1 _ (by omega) (by omega)
  · rw [off1_2 i j hj]; exact key_inb 2 _ (by omega) (by omega)
  · rw [off1_3 i j hj]; exact key_inb 3 _ (by omega) (by omega)
  · rw [off1_4 i j hj]; exact key_inb 4 _ (by omega) (by omega)
  · rw [off1_5 i j hj]; exact key_inb 5 _ (by omega) (by omega)
  · rw [off1_6 i j hj]; exact key_inb 6 _ (by omega) (by omega)
  · rw [off1_7 i j hj]; exact key_inb 7 _ (by omega) (by omega)

section
variable (c : Dev nD) (i : grid0.Coords) (arg3 : Memref sig .tc .vmem S1x8x512x128 .bf16) (harg3 : arg3.IsWhole) (arg4 : Memref sig .tc .vmem S1x8x2048x128 .bf16) (harg4 : arg4.IsWhole) (arg10 : Memref sig .tc .vmem S8x512x128 .f32) (harg10 : arg10.IsWhole) (arg7 : Memref sig .tc .vmem S256x256 .bf16) (harg7 : arg7.IsWhole) (arg9 : Memref sig .tc .vmem S8x512x128 .f32) (harg9 : arg9.IsWhole) (arg5 : Memref sig .tc .vmem S1x8x2048x128 .bf16) (harg5 : arg5.IsWhole)
  (x0 : Vec F S1x8x512x128 .bf16) (x1 : Vec F S1x8x2048x128 .bf16) (x2 : Vec F S1x8x2048x128 .bf16) (x4 : Vec F S256x256 .bf16)

/-- What the loop reads, at its contents, and the scratch it writes. -/
def held1 : sProp 𝕄 :=
  iprop(owns (c : Thread nD τ) arg3 fullShare x0 ∗ owns (c : Thread nD τ) arg4 fullShare x1 ∗ owns (c : Thread nD τ) arg5 fullShare x2
    ∗ owns (c : Thread nD τ) arg7 fullShare x4 ∗ (∃ d, owns (c : Thread nD τ) arg9 fullShare d) ∗ (∃ d, owns (c : Thread nD τ) arg10 fullShare d))

/-- The loop's label gives back what it took, whatever pair it returns. -/
def back1 : sWPT 𝕄 (BitVec 32 × BitVec 1) := do
  sWPT.consume (held1 c arg3 arg4 arg10 arg7 arg9 arg5 x0 x1 x2 x4)
  let r ← sWPT.arbitrary
  sWPT.produce (held1 c arg3 arg4 arg10 arg7 arg9 arg5 x0 x1 x2 x4)
  pure r

theorem back1_apply (K : BitVec 32 × BitVec 1 → sProp 𝕄) :
    back1 c arg3 arg4 arg10 arg7 arg9 arg5 x0 x1 x2 x4 K
      = iprop(held1 c arg3 arg4 arg10 arg7 arg9 arg5 x0 x1 x2 x4 ∗ ∀ r : BitVec 32 × BitVec 1, held1 c arg3 arg4 arg10 arg7 arg9 arg5 x0 x1 x2 x4 -∗ K r) := rfl

set_option maxHeartbeats 4000000 in
/-- With `k` sweeps to run at most, the loop's body gives back what it took. -/
theorem back1_le (E : Set ℕ) :
    ∀ k j, j + k = 2 * (i 2).val → ∀ (go : BitVec 1) K, back1 c arg3 arg4 arg10 arg7 arg9 arg5 x0 x1 x2 x4 K
      ⊢ wp frame (wpE (defs₀ (F := F)) 𝒱n (c : Thread nD τ) (some k)) E
          (defs₀ (F := F) .tc 1 ⟨i, arg3, harg3, arg4, harg4, arg10, harg10, arg7, harg7, arg9, harg9, arg5, harg5, BitVec.ofNat 32 j, go⟩) K := by
  have h4 : (i 2).val < 4 := (i 2).isLt
  intro k
  induction k with
  | zero =>
    intro j hj go K
    rw [back1_apply]
    show _ ⊢ wp frame (wpE (defs₀ (F := F)) 𝒱n (c : Thread nD τ) (some 0)) E
      (cc0_while1 i arg3 harg3 arg4 harg4 arg10 harg10 arg7 harg7 arg9 harg9 arg5 harg5 (BitVec.ofNat 32 j) go) K
    simp only [cc0_while1_eq_skeleton]; unfold cc0_while1_skel
    have htest : ¬Scalar.andi (Scalar.cmpi .slt (BitVec.ofNat 32 j) (Scalar.muli (BitVec.ofNat 32 (i 2).val) 2#32)) go = 1#1 := by
      rw [sweeps_eq _ h4, show j = 2 * (i 2).val by omega, slt_end _ (by omega)]
      revert go; decide
    simp only [htest, ↓reduceIte, Prog.pure_eq_ret]
    iintro ⟨H, Hk⟩
    rw [wp_ret]; imodintro
    iapply Hk; iexact H
  | succ k ih =>
    intro j hj go K
    rw [back1_apply]
    show _ ⊢ wp frame (wpE (defs₀ (F := F)) 𝒱n (c : Thread nD τ) (some (k + 1))) E
      (cc0_while1 i arg3 harg3 arg4 harg4 arg10 harg10 arg7 harg7 arg9 harg9 arg5 harg5 (BitVec.ofNat 32 j) go) K
    simp only [cc0_while1_eq_skeleton]; unfold cc0_while1_skel
    have hslt : Scalar.cmpi .slt (BitVec.ofNat 32 j) (Scalar.muli (BitVec.ofNat 32 (i 2).val) 2#32) = 1#1 := by
      rw [sweeps_eq _ h4]; exact slt_lt _ (by omega) j (by omega)
    by_cases hgo : go = 1#1
    · subst hgo
      have htest : Scalar.andi (Scalar.cmpi .slt (BitVec.ofNat 32 j) (Scalar.muli (BitVec.ofNat 32 (i 2).val) 2#32)) 1#1 = 1#1 := by
        rw [hslt]; decide
      simp only [htest, ↓reduceIte]
      have hchk : k0_chk1 i (BitVec.ofNat 32 j) := chk1_lt i j (by omega)
      simp only [k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
      unfold held1 owns
      iintro ⟨⟨⟨%f0, %hf0, H0⟩, ⟨%f1, %hf1, H1⟩, ⟨%f2, %hf2, H2⟩, ⟨%f4, %hf4, H4⟩, ⟨%d9, %f9, -, H9⟩, ⟨%d10, %f10, -, H10⟩⟩, Hk⟩
      obtain rfl := harg3.eq_unread hf0; obtain rfl := harg4.eq_unread hf1; obtain rfl := harg5.eq_unread hf2; obtain rfl := harg7.eq_unread hf4
      sl_exec
      rw [show back1_le.sl.v1370 j = BitVec.ofNat 32 (j + 1) from step_eq j (by omega)]
      iapply (wp_call_spec 𝒱n (c : Thread nD τ) (some (k + 1)) E (back1 c arg3 arg4 arg10 arg7 arg9 arg5 x0 x1 x2 x4) k
        (fun u hu => by cases hu; exact Nat.lt_succ_self k) (ih (j + 1) (by omega) _))
      rw [back1_apply]; unfold held1 owns
      isplitl [H0 H1 H2 H4 H9 H10]
      · isplitl [H0]
        · iexists _; isplitr; · ipureintro; exact harg3.read_unread _
          iexact H0
        isplitl [H1]
        · iexists _; isplitr; · ipureintro; exact harg4.read_unread _
          iexact H1
        isplitl [H2]
        · iexists _; isplitr; · ipureintro; exact harg5.read_unread _
          iexact H2
        isplitl [H4]
        · iexists _; isplitr; · ipureintro; exact harg7.read_unread _
          iexact H4
        isplitl [H9]
        · iexists _, _; isplitr; swap; · iexact H9
          ipureintro; rfl
        iexists _, _; isplitr; swap; · iexact H10
        ipureintro; rfl
      iintro %r ⟨H0, H1, H2, H4, H9, H10⟩
      rw [wp_ret]; imodintro
      iapply Hk
      isplitl [H0]; · iexact H0
      isplitl [H1]; · iexact H1
      isplitl [H2]; · iexact H2
      isplitl [H4]; · iexact H4
      isplitl [H9]; · iexact H9
      iexact H10
    · have htest : ¬Scalar.andi (Scalar.cmpi .slt (BitVec.ofNat 32 j) (Scalar.muli (BitVec.ofNat 32 (i 2).val) 2#32)) go = 1#1 := by
        rw [hslt]; revert go; decide
      simp only [htest, ↓reduceIte, Prog.pure_eq_ret]
      iintro ⟨H, Hk⟩
      rw [wp_ret]; imodintro
      iapply Hk; iexact H

end

end Cert.KernelIdeal.Own

end
-- ==== Proof.Ideal.Sweep2.lean ====
/- The sweep of rows 256 to 511: from any state its loop ends, the input buffers as they were and the two scratch buffers at some contents. -/
module

public import proofs.«01_k».proof.Proof.Ideal.Sweep1

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Sweep `j` reads the keys of head 0 from key `256 * (2 * n - 1 - j)` on, of query block `n`. -/
theorem off2_0 (i : grid0.Coords) (j : ℕ) (hj : j < 2 * (i 2).val) :
    k0_off17 i (BitVec.ofNat 32 j) = ![0, 0, 256 * (2 * (i 2).val - 1 - j), 0] :=
  congrArg (fun x : ℕ => (![0, 0, x, 0] : Fin 4 → ℕ)) (key_word (i 2).val (i 2).isLt j hj)

/-- Sweep `j` reads the keys of head 1 from key `256 * (2 * n - 1 - j)` on, of query block `n`. -/
theorem off2_1 (i : grid0.Coords) (j : ℕ) (hj : j < 2 * (i 2).val) :
    k0_off18 i (BitVec.ofNat 32 j) = ![0, 1, 256 * (2 * (i 2).val - 1 - j), 0] :=
  congrArg (fun x : ℕ => (![0, 1, x, 0] : Fin 4 → ℕ)) (key_word (i 2).val (i 2).isLt j hj)

/-- Sweep `j` reads the keys of head 2 from key `256 * (2 * n - 1 - j)` on, of query block `n`. -/
theorem off2_2 (i : grid0.Coords) (j : ℕ) (hj : j < 2 * (i 2).val) :
    k0_off19 i (BitVec.ofNat 32 j) = ![0, 2, 256 * (2 * (i 2).val - 1 - j), 0] :=
  congrArg (fun x : ℕ => (![0, 2, x, 0] : Fin 4 → ℕ)) (key_word (i 2).val (i 2).isLt j hj)

/-- Sweep `j` reads the keys of head 3 from key `256 * (2 * n - 1 - j)` on, of query block `n`. -/
theorem off2_3 (i : grid0.Coords) (j : ℕ) (hj : j < 2 * (i 2).val) :
    k0_off20 i (BitVec.ofNat 32 j) = ![0, 3, 256 * (2 * (i 2).val - 1 - j), 0] :=
  congrArg (fun x : ℕ => (![0, 3, x, 0] : Fin 4 → ℕ)) (key_word (i 2).val (i 2).isLt j hj)

/-- Sweep `j` reads the keys of head 4 from key `256 * (2 * n - 1 - j)` on, of query block `n`. -/
theorem off2_4 (i : grid0.Coords) (j : ℕ) (hj : j < 2 * (i 2).val) :
    k0_off21 i (BitVec.ofNat 32 j) = ![0, 4, 256 * (2 * (i 2).val - 1 - j), 0] :=
  congrArg (fun x : ℕ => (![0, 4, x, 0] : Fin 4 → ℕ)) (key_word (i 2).val (i 2).isLt j hj)

/-- Sweep `j` reads the keys of head 5 from key `256 * (2 * n - 1 - j)` on, of query block `n`. -/
theorem off2_5 (i : grid0.Coords) (j : ℕ) (hj : j < 2 * (i 2).val) :
    k0_off22 i (BitVec.ofNat 32 j) = ![0, 5, 256 * (2 * (i 2).val - 1 - j), 0] :=
  congrArg (fun x : ℕ => (![0, 5, x, 0] : Fin 4 → ℕ)) (key_word (i 2).val (i 2).isLt j hj)

/-- Sweep `j` reads the keys of head 6 from key `256 * (2 * n - 1 - j)` on, of query block `n`. -/
theorem off2_6 (i : grid0.Coords) (j : ℕ) (hj : j < 2 * (i 2).val) :
    k0_off23 i (BitVec.ofNat 32 j) = ![0, 6, 256 * (2 * (i 2).val - 1 - j), 0] :=
  congrArg (fun x : ℕ => (![0, 6, x, 0] : Fin 4 → ℕ)) (key_word (i 2).val (i 2).isLt j hj)

/-- Sweep `j` reads the keys of head 7 from key `256 * (2 * n - 1 - j)` on, of query block `n`. -/
theorem off2_7 (i : grid0.Coords) (j : ℕ) (hj : j < 2 * (i 2).val) :
    k0_off24 i (BitVec.ofNat 32 j) = ![0, 7, 256 * (2 * (i 2).val - 1 - j), 0] :=
  congrArg (fun x : ℕ => (![0, 7, x, 0] : Fin 4 → ℕ)) (key_word (i 2).val (i 2).isLt j hj)

/-- A block of keys starts at a multiple of 256. -/
theorem mult_key2 (i : grid0.Coords) (j : ℕ) (hj : j < 2 * (i 2).val) : 256 ∣ (k0_mult4 i (BitVec.ofNat 32 j)).toNat :=
  (key_word (i 2).val (i 2).isLt j hj ▸ Dvd.intro _ rfl : 256 ∣ (Scalar.indexCast (Scalar.muli (Scalar.subi (Scalar.subi (Scalar.muli (BitVec.ofNat 32 (i 2).val) 2#32) 1#32) (BitVec.ofNat 32 j)) 256#32)).toNat)

/-- The counter of a sweep still to run names a block of keys inside the keys. -/
theorem chk2_lt (i : grid0.Coords) (j : ℕ) (hj : j < 2 * (i 2).val) : k0_chk2 i (BitVec.ofNat 32 j) := by
  have h4 : (i 2).val < 4 := (i 2).isLt
  refine ⟨mult_key2 i j hj, ?_, ?_, ?_, ?_, ?_, ?_, ?_, ?_⟩
  · rw [off2_0 i j hj]; exact key_inb 0 _ (by omega) (by omega)
  · rw [off2_1 i j hj]; exact key_inb 1 _ (by omega) (by omega)
  · rw [off2_2 i j hj]; exact key_inb 2 _ (by omega) (by omega)
  · rw [off2_3 i j hj]; exact key_inb 3 _ (by omega) (by omega)
  · rw [off2_4 i j hj]; exact key_inb 4 _ (by omega) (by omega)
  · rw [off2_5 i j hj]; exact key_inb 5 _ (by omega) (by omega)
  · rw [off2_6 i j hj]; exact key_inb 6 _ (by omega) (by omega)
  · rw [off2_7 i j hj]; exact key_inb 7 _ (by omega) (by omega)

section
variable (c : Dev nD) (i : grid0.Coords) (arg3 : Memref sig .tc .vmem S1x8x512x128 .bf16) (harg3 : arg3.IsWhole) (arg4 : Memref sig .tc .vmem S1x8x2048x128 .bf16) (harg4 : arg4.IsWhole) (arg10 : Memref sig .tc .vmem S8x512x128 .f32) (harg10 : arg10.IsWhole) (arg7 : Memref sig .tc .vmem S256x256 .bf16) (harg7 : arg7.IsWhole) (arg9 : Memref sig .tc .vmem S8x512x128 .f32) (harg9 : arg9.IsWhole) (arg5 : Memref sig .tc .vmem S1x8x2048x128 .bf16) (harg5 : arg5.IsWhole)
  (x0 : Vec F S1x8x512x128 .bf16) (x1 : Vec F S1x8x2048x128 .bf16) (x2 : Vec F S1x8x2048x128 .bf16) (x4 : Vec F S256x256 .bf16)

/-- What the loop reads, at its contents, and the scratch it writes. -/
def held2 : sProp 𝕄 :=
  iprop(owns (c : Thread nD τ) arg3 fullShare x0 ∗ owns (c : Thread nD τ) arg4 fullShare x1 ∗ owns (c : Thread nD τ) arg5 fullShare x2
    ∗ owns (c : Thread nD τ) arg7 fullShare x4 ∗ (∃ d, owns (c : Thread nD τ) arg9 fullShare d) ∗ (∃ d, owns (c : Thread nD τ) arg10 fullShare d))

/-- The loop's label gives back what it took, whatever pair it returns. -/
def back2 : sWPT 𝕄 (BitVec 32 × BitVec 1) := do
  sWPT.consume (held2 c arg3 arg4 arg10 arg7 arg9 arg5 x0 x1 x2 x4)
  let r ← sWPT.arbitrary
  sWPT.produce (held2 c arg3 arg4 arg10 arg7 arg9 arg5 x0 x1 x2 x4)
  pure r

theorem back2_apply (K : BitVec 32 × BitVec 1 → sProp 𝕄) :
    back2 c arg3 arg4 arg10 arg7 arg9 arg5 x0 x1 x2 x4 K
      = iprop(held2 c arg3 arg4 arg10 arg7 arg9 arg5 x0 x1 x2 x4 ∗ ∀ r : BitVec 32 × BitVec 1, held2 c arg3 arg4 arg10 arg7 arg9 arg5 x0 x1 x2 x4 -∗ K r) := rfl

set_option maxHeartbeats 4000000 in
/-- With `k` sweeps to run at most, the loop's body gives back what it took. -/
theorem back2_le (E : Set ℕ) :
    ∀ k j, j + k = 2 * (i 2).val → ∀ (go : BitVec 1) K, back2 c arg3 arg4 arg10 arg7 arg9 arg5 x0 x1 x2 x4 K
      ⊢ wp frame (wpE (defs₀ (F := F)) 𝒱n (c : Thread nD τ) (some k)) E
          (defs₀ (F := F) .tc 2 ⟨i, arg3, harg3, arg4, harg4, arg10, harg10, arg7, harg7, arg9, harg9, arg5, harg5, BitVec.ofNat 32 j, go⟩) K := by
  have h4 : (i 2).val < 4 := (i 2).isLt
  intro k
  induction k with
  | zero =>
    intro j hj go K
    rw [back2_apply]
    show _ ⊢ wp frame (wpE (defs₀ (F := F)) 𝒱n (c : Thread nD τ) (some 0)) E
      (cc0_while2 i arg3 harg3 arg4 harg4 arg10 harg10 arg7 harg7 arg9 harg9 arg5 harg5 (BitVec.ofNat 32 j) go) K
    simp only [cc0_while2_eq_skeleton]; unfold cc0_while2_skel
    have htest : ¬Scalar.andi (Scalar.cmpi .slt (BitVec.ofNat 32 j) (Scalar.muli (BitVec.ofNat 32 (i 2).val) 2#32)) go = 1#1 := by
      rw [sweeps_eq _ h4, show j = 2 * (i 2).val by omega, slt_end _ (by omega)]
      revert go; decide
    simp only [htest, ↓reduceIte, Prog.pure_eq_ret]
    iintro ⟨H, Hk⟩
    rw [wp_ret]; imodintro
    iapply Hk; iexact H
  | succ k ih =>
    intro j hj go K
    rw [back2_apply]
    show _ ⊢ wp frame (wpE (defs₀ (F := F)) 𝒱n (c : Thread nD τ) (some (k + 1))) E
      (cc0_while2 i arg3 harg3 arg4 harg4 arg10 harg10 arg7 harg7 arg9 harg9 arg5 harg5 (BitVec.ofNat 32 j) go) K
    simp only [cc0_while2_eq_skeleton]; unfold cc0_while2_skel
    have hslt : Scalar.cmpi .slt (BitVec.ofNat 32 j) (Scalar.muli (BitVec.ofNat 32 (i 2).val) 2#32) = 1#1 := by
      rw [sweeps_eq _ h4]; exact slt_lt _ (by omega) j (by omega)
    by_cases hgo : go = 1#1
    · subst hgo
      have htest : Scalar.andi (Scalar.cmpi .slt (BitVec.ofNat 32 j) (Scalar.muli (BitVec.ofNat 32 (i 2).val) 2#32)) 1#1 = 1#1 := by
        rw [hslt]; decide
      simp only [htest, ↓reduceIte]
      have hchk : k0_chk2 i (BitVec.ofNat 32 j) := chk2_lt i j (by omega)
      simp only [k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
      unfold held2 owns
      iintro ⟨⟨⟨%f0, %hf0, H0⟩, ⟨%f1, %hf1, H1⟩, ⟨%f2, %hf2, H2⟩, ⟨%f4, %hf4, H4⟩, ⟨%d9, %f9, -, H9⟩, ⟨%d10, %f10, -, H10⟩⟩, Hk⟩
      obtain rfl := harg3.eq_unread hf0; obtain rfl := harg4.eq_unread hf1; obtain rfl := harg5.eq_unread hf2; obtain rfl := harg7.eq_unread hf4
      sl_exec
      rw [show back2_le.sl.v1370 j = BitVec.ofNat 32 (j + 1) from step_eq j (by omega)]
      iapply (wp_call_spec 𝒱n (c : Thread nD τ) (some (k + 1)) E (back2 c arg3 arg4 arg10 arg7 arg9 arg5 x0 x1 x2 x4) k
        (fun u hu => by cases hu; exact Nat.lt_succ_self k) (ih (j + 1) (by omega) _))
      rw [back2_apply]; unfold held2 owns
      isplitl [H0 H1 H2 H4 H9 H10]
      · isplitl [H0]
        · iexists _; isplitr; · ipureintro; exact harg3.read_unread _
          iexact H0
        isplitl [H1]
        · iexists _; isplitr; · ipureintro; exact harg4.read_unread _
          iexact H1
        isplitl [H2]
        · iexists _; isplitr; · ipureintro; exact harg5.read_unread _
          iexact H2
        isplitl [H4]
        · iexists _; isplitr; · ipureintro; exact harg7.read_unread _
          iexact H4
        isplitl [H9]
        · iexists _, _; isplitr; swap; · iexact H9
          ipureintro; rfl
        iexists _, _; isplitr; swap; · iexact H10
        ipureintro; rfl
      iintro %r ⟨H0, H1, H2, H4, H9, H10⟩
      rw [wp_ret]; imodintro
      iapply Hk
      isplitl [H0]; · iexact H0
      isplitl [H1]; · iexact H1
      isplitl [H2]; · iexact H2
      isplitl [H4]; · iexact H4
      isplitl [H9]; · iexact H9
      iexact H10
    · have htest : ¬Scalar.andi (Scalar.cmpi .slt (BitVec.ofNat 32 j) (Scalar.muli (BitVec.ofNat 32 (i 2).val) 2#32)) go = 1#1 := by
        rw [hslt]; revert go; decide
      simp only [htest, ↓reduceIte, Prog.pure_eq_ret]
      iintro ⟨H, Hk⟩
      rw [wp_ret]; imodintro
      iapply Hk; iexact H

end

end Cert.KernelIdeal.Own

end
-- ==== Proof.Ideal.Body.lean ====
/- The body at any grid point, whatever the buffers hold: it ends, and gives the input buffers back as they were. -/
module

public import proofs.«01_k».proof.Proof.Ideal.Sweep2

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 8000000 in
/-- On whole buffers the body ends with the inputs as they were, and the output and the two scratch buffers at some contents. -/
theorem body_ends (c : Dev nD) (i : grid0.Coords) (arg3 : Memref sig .tc .vmem S1x8x512x128 .bf16) (harg3 : arg3.IsWhole) (arg4 : Memref sig .tc .vmem S1x8x2048x128 .bf16) (harg4 : arg4.IsWhole) (arg5 : Memref sig .tc .vmem S1x8x2048x128 .bf16) (harg5 : arg5.IsWhole) (arg6 : Memref sig .tc .vmem S1x8x512x128 .bf16) (harg6 : arg6.IsWhole) (arg7 : Memref sig .tc .vmem S256x256 .bf16) (harg7 : arg7.IsWhole) (arg8 : Memref sig .tc .vmem S1x8x512x128 .bf16) (harg8 : arg8.IsWhole) (arg9 : Memref sig .tc .vmem S8x512x128 .f32) (harg9 : arg9.IsWhole) (arg10 : Memref sig .tc .vmem S8x512x128 .f32) (harg10 : arg10.IsWhole)
    (x0 : Vec F S1x8x512x128 .bf16) (x1 : Vec F S1x8x2048x128 .bf16) (x2 : Vec F S1x8x2048x128 .bf16) (x3 : Vec F S1x8x512x128 .bf16) (x4 : Vec F S256x256 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) 𝒱n c none) E (cc0_sb_attention i arg3 harg3 arg4 harg4 arg5 harg5 arg6 harg6 arg7 harg7 arg8 harg8 arg9 harg9 arg10 harg10) K := by
    simp only [cc0_sb_attention_eq_skeleton]; unfold cc0_sb_attention_skel
    simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4
    sl_exec
    iapply (wp_call_spec 𝒱n (c : Thread nD τ) none E (back1 c arg3 arg4 arg10 arg7 arg9 arg5 x0 x1 x2 x4) (2 * (i 2).val)
      (fun u hu => nomatch hu) (back1_le c i arg3 harg3 arg4 harg4 arg10 harg10 arg7 harg7 arg9 harg9 arg5 harg5 x0 x1 x2 x4 E (2 * (i 2).val) 0 (by omega) _))
    rw [back1_apply]; unfold held1 owns
    isplitl [H0 H1 H2 H4 H9 H10]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H4]
      · iexists _; isplitr; · ipureintro; exact harg7.read_unread _
        iexact H4
      isplitl [H9]
      · iexists _, _; isplitr; swap; · iexact H9
        ipureintro; rfl
      iexists _, _; isplitr; swap; · iexact H10
      ipureintro; rfl
    iintro %r1 ⟨⟨%f01, %hf01, H0⟩, ⟨%f11, %hf11, H1⟩, ⟨%f21, %hf21, H2⟩, ⟨%f41, %hf41, H4⟩, ⟨%d91, %f91, -, H9⟩, ⟨%d101, %f101, -, H10⟩⟩
    obtain rfl := harg3.eq_unread hf01; obtain rfl := harg4.eq_unread hf11; obtain rfl := harg5.eq_unread hf21; obtain rfl := harg7.eq_unread hf41
    sl_exec
    iapply (wp_call_spec 𝒱n (c : Thread nD τ) none E (back2 c arg3 arg4 arg10 arg7 arg9 arg5 x0 x1 x2 x4) (2 * (i 2).val)
      (fun u hu => nomatch hu) (back2_le c i arg3 harg3 arg4 harg4 arg10 harg10 arg7 harg7 arg9 harg9 arg5 harg5 x0 x1 x2 x4 E (2 * (i 2).val) 0 (by omega) _))
    rw [back2_apply]; unfold held2 owns
    isplitl [H0 H1 H2 H4 H9 H10]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H4]
      · iexists _; isplitr; · ipureintro; exact harg7.read_unread _
        iexact H4
      isplitl [H9]
      · iexists _, _; isplitr; swap; · iexact H9
        ipureintro; rfl
      iexists _, _; isplitr; swap; · iexact H10
      ipureintro; rfl
    iintro %r2 ⟨⟨%f02, %hf02, H0⟩, ⟨%f12, %hf12, H1⟩, ⟨%f22, %hf22, H2⟩, ⟨%f42, %hf42, H4⟩, ⟨%d92, %f92, -, H9⟩, ⟨%d102, %f102, -, H10⟩⟩
    obtain rfl := harg3.eq_unread hf02; obtain rfl := harg4.eq_unread hf12; obtain rfl := harg5.eq_unread hf22; obtain rfl := harg7.eq_unread hf42
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [H9]
    · iexists _, _; isplitr; swap; · iexact H9
      ipureintro; rfl
    iexists _, _; isplitr; swap; · iexact H10
    ipureintro; rfl

end Cert.KernelIdeal.Own

end
-- ==== Proof.Ideal.Frame.lean ====
/- The launch with its output not named: every run ends, with the argument as it was and every semaphore at zero. -/
module

public import proofs.«01_k».proof.Proof.Ideal.Body

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The window whose contents are not named: the output's. -/
def unnamedW : Fin 6 → Bool := fun w => w.val == 5

/-- The launch's data on core `c`: the arrays as the launch finds them, the inputs' blocks left in place, the output not named. -/
def pdat (_ : Fin 1) (c : Dev nD) : Dat τ (Elt F) Unit ℕ (UR sig nD τ) ℕ (cfg0 (F := F)) c where
  A w := entry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, h⟩ => Pipeline.Dat.unnamed (cfg := cfg0) ⟨5, h⟩ t
  Φ _ := Pipeline.ΦA spec0 c
  q w := Pipeline.shareOf spec0 w
  owed _ := 0

/-- Its arrays are the launch's. -/
theorem pdat_A (c : Dev nD) (w : Fin (cfg0 (F := F)).W) : (pdat m 0 c).A w = entry m c (Pipeline.arrRef spec0 w) := by
  dsimp only [pdat]

/-- The inputs' blocks are left in place. -/
theorem after_0 (c : Dev nD) (t : Fin (cfg0 (F := F)).N) : (pdat m 0 c).after 0 t = blk m c 0 t := rfl
theorem after_1 (c : Dev nD) (t : Fin (cfg0 (F := F)).N) : (pdat m 0 c).after 1 t = blk m c 1 t := rfl
theorem after_2 (c : Dev nD) (t : Fin (cfg0 (F := F)).N) : (pdat m 0 c).after 2 t = blk m c 2 t := rfl
theorem after_3 (c : Dev nD) (t : Fin (cfg0 (F := F)).N) : (pdat m 0 c).after 3 t = blk m c 3 t := rfl
theorem after_4 (c : Dev nD) (t : Fin (cfg0 (F := F)).N) : (pdat m 0 c).after 4 t = blk m c 4 t := rfl

/-- Window 0 is at its block when the body is called, fetched at this point or before. -/
theorem before_0 (c : Dev nD) (t : Fin (cfg0 (F := F)).N) (d) : (pdat m 0 c).before 0 t d = blk m c 0 t :=
  ((pdat m 0 c).before_in_eq_fetched 0 rfl (fun _ => rfl) (fun _ _ _ => rfl) (fun t => by rw [after_0]; unfold Dat.blockOf blk; rw [pdat_A]; try rfl) t d).trans
    (by unfold Dat.fetched Dat.blockOf blk; rw [pdat_A]; try rfl)

/-- Window 1 is at its block when the body is called, fetched at this point or before. -/
theorem before_1 (c : Dev nD) (t : Fin (cfg0 (F := F)).N) (d) : (pdat m 0 c).before 1 t d = blk m c 1 t :=
  ((pdat m 0 c).before_in_eq_fetched 1 rfl (fun _ => rfl) (fun _ _ _ => rfl) (fun t => by rw [after_1]; unfold Dat.blockOf blk; rw [pdat_A]; try rfl) t d).trans
    (by unfold Dat.fetched Dat.blockOf blk; rw [pdat_A]; try rfl)

/-- Window 2 is at its block when the body is called, fetched at this point or before. -/
theorem before_2 (c : Dev nD) (t : Fin (cfg0 (F := F)).N) (d) : (pdat m 0 c).before 2 t d = blk m c 2 t :=
  ((pdat m 0 c).before_in_eq_fetched 2 rfl (fun _ => rfl) (fun _ _ _ => rfl) (fun t => by rw [after_2]; unfold Dat.blockOf blk; rw [pdat_A]; try rfl) t d).trans
    (by unfold Dat.fetched Dat.blockOf blk; rw [pdat_A]; try rfl)

/-- Window 3 is at its block when the body is called, fetched at this point or before. -/
theorem before_3 (c : Dev nD) (t : Fin (cfg0 (F := F)).N) (d) : (pdat m 0 c).before 3 t d = blk m c 3 t :=
  ((pdat m 0 c).before_in_eq_fetched 3 rfl (fun _ => rfl) (fun _ _ _ => rfl) (fun t => by rw [after_3]; unfold Dat.blockOf blk; rw [pdat_A]; try rfl) t d).trans
    (by unfold Dat.fetched Dat.blockOf blk; rw [pdat_A]; try rfl)

/-- Window 4 is at its block when the body is called, fetched at this point or before. -/
theorem before_4 (c : Dev nD) (t : Fin (cfg0 (F := F)).N) (d) : (pdat m 0 c).before 4 t d = blk m c 4 t :=
  ((pdat m 0 c).before_in_eq_fetched 4 rfl (fun _ => rfl) (fun _ _ _ => rfl) (fun t => by rw [after_4]; unfold Dat.blockOf blk; rw [pdat_A]; try rfl) t d).trans
    (by unfold Dat.fetched Dat.blockOf blk; rw [pdat_A]; try rfl)

/-- What the body is called with at point `t`, -/
def atCall (c : Dev nD) (t : Fin (cfg0 (F := F)).N) : sProp 𝕄 :=
  iprop((pdat m 0 c).Φ t.castSucc ∗ (pdat m 0 c).owesAt () t.castSucc
    ∗ (∃ d, owns (c : Thread nD τ) (st0 t) fullShare ((pdat m 0 c).before 0 t d))
    ∗ (∃ d, owns (c : Thread nD τ) (st1 t) fullShare ((pdat m 0 c).before 1 t d))
    ∗ (∃ d, owns (c : Thread nD τ) (st2 t) fullShare ((pdat m 0 c).before 2 t d))
    ∗ (∃ d, owns (c : Thread nD τ) (st3 t) fullShare ((pdat m 0 c).before 3 t d))
    ∗ (∃ d, owns (c : Thread nD τ) (st4 t) fullShare ((pdat m 0 c).before 4 t d))
    ∗ (∃ d, owns (c : Thread nD τ) (st5 t) fullShare d))

/-- and what it returns. -/
def atReturn (c : Dev nD) (t : Fin (cfg0 (F := F)).N) : sProp 𝕄 :=
  iprop((pdat m 0 c).Φ t.succ ∗ (pdat m 0 c).owesAt () t.succ
    ∗ owns (c : Thread nD τ) (st0 t) fullShare ((pdat m 0 c).after 0 t)
    ∗ owns (c : Thread nD τ) (st1 t) fullShare ((pdat m 0 c).after 1 t)
    ∗ owns (c : Thread nD τ) (st2 t) fullShare ((pdat m 0 c).after 2 t)
    ∗ owns (c : Thread nD τ) (st3 t) fullShare ((pdat m 0 c).after 3 t)
    ∗ owns (c : Thread nD τ) (st4 t) fullShare ((pdat m 0 c).after 4 t)
    ∗ (∃ d, owns (c : Thread nD τ) (st5 t) fullShare d))

set_option maxHeartbeats 800000 in
/-- The body at a point takes the one to the other. -/
theorem body_point (c : Dev nD) (t : Fin (cfg0 (F := F)).N) :
    atCall m c t ⊢ wp frame (wpE (defs₀ (F := F)) 𝒱n c none) Set.univ (bodyAt0 t) (fun _ => atReturn m c t) := by
  unfold atCall atReturn bodyAt0
  simp only [before_0, before_1, before_2, before_3, before_4]
  rw [show (pdat m 0 c).Φ t.succ = (pdat m 0 c).Φ t.castSucc from rfl,
    show (pdat m 0 c).owesAt () t.succ = (pdat m 0 c).owesAt () t.castSucc from rfl,
    after_0, after_1, after_2, after_3, after_4]
  rw [show (pdat m 0 c).Φ t.castSucc = Pipeline.ΦA spec0 c from rfl, between_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (body_ends c (grid0.coords t) _ _ _ _ _ _ _ _ _ _ _ _ _ _ _ _ (blk m c 0 t) (blk m c 1 t) (blk m c 2 t) (blk m c 3 t) (blk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The table's row at a point's buffers is the body. -/
theorem row_eq (t : Fin (cfg0 (F := F)).N) :
    defs₀ (F := F) .tc (cfg0 (F := F)).body (cfg0.bodyArgs t (cfg0.slots t)) = bodyAt0 t := by
  unfold defs₀; rw [Defs.onTc_tc]

/-- The launch's obligation on the body holds at every point. -/
theorem obligation (c : Dev nD) : BodyObligation (pdat (F := F) m 0 c) (defs₀ (F := F)) 𝒱n () Set.univ unnamedW := fun t => by
  rw [bigSep_W0, bigSep_W0, row_eq]
  exact triple_restated (body_point m c t) rfl .rfl fun _ => .rfl

set_option backward.isDefEq.respectTransparency.types false in
/-- Every run of the program ends, with the arrays the launch reads as it found them and every semaphore at zero. -/
theorem run_ends : θ_run defs (onTc (τ := τ) (main (F := F))) (s₀ m ρ)
    (fun r => (Pipeline.RDat.FramePost (cfgs 0) (fun c => (pdat m 0 c).toRForget unnamedW) (entry m)) r ∧ r.2.sem = fun _ => 0) :=
  Pipeline.θ_run_frame_forget_shared (Q' := _) cfgs (pdat m) (0 : Fin 1) launch₀0 defs₀ 𝒱n unnamedW m ρ main
    (hbody := fun c => (obligation m c).loose) (hq := fun _ _ _ => rfl)
    (howed := fun _ _ => rfl) (V := entry m) (hmain := host_main m) (hA := pdat_A m) (hΦ := fun _ _ => rfl)

/-- Every run of the program ends with the argument as it was and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0 (Pipeline.mem_restRefs_of main_arg0 (by decide) (fun w => (by decide : ∀ w : Fin 6, (spec0 w).arr.view.ref ≠ main_arg0) w))).trans (entry_arg0 m c), h.2⟩) (run_ends m ρ)

end Cert.KernelIdeal.Own

end
-- ==== Proof.Value.Stick.lean ====
/- Stick breaking over the real numbers: the weights of one row, summed block by block from the last key down. -/
module

public import Mathlib.Analysis.SpecialFunctions.Pow.Real
public import Mathlib.Algebra.BigOperators.Intervals
public import Mathlib.Algebra.BigOperators.Fin

@[expose] public section

noncomputable section

namespace Cert.Stick

open Finset

/-- The correction of both logarithms in base two: the logarithm of one plus two to minus the absolute value. -/
def soft (z : ℝ) : ℝ := Real.log (1 + (2 : ℝ) ^ (min z 0 + (min z 0 - z))) * (Real.log 2)⁻¹
/-- The logarithm in base two of the probability of stopping at a key of logit `z`, -/
def stop (z : ℝ) : ℝ := min z 0 - soft z
/-- and of passing it. -/
def pass (z : ℝ) : ℝ := min z 0 - z - soft z

variable (f V : ℕ → ℝ) (R : ℕ)

/-- What the row `R` has passed, with every key from `s` on met: the sum over the keys from `s` to `R`, `R` excluded. -/
def passed (s : ℕ) : ℝ := ∑ j ∈ Ico s R, pass (f j)
/-- What it has collected of the values `V`. -/
def taken (s : ℕ) : ℝ := ∑ j ∈ Ico s R, (2 : ℝ) ^ (stop (f j) + passed f R (j + 1)) * V j

/-- A sum up to `R` is the sum over the first `n` places, those from `R` on left out, and the rest. -/
theorem sum_split (g : ℕ → ℝ) (s n : ℕ) :
    ∑ j ∈ Ico s R, g j = ∑ j ∈ Ico (s + n) R, g j + ∑ u ∈ range n, (if s + u < R then g (s + u) else 0) := by
  induction n with
  | zero => simp
  | succ n ih =>
    rw [ih, sum_range_succ]
    by_cases h : s + n < R
    · rw [if_pos h, sum_eq_sum_Ico_succ_bot h, show s + (n + 1) = s + n + 1 by omega]; ring
    · rw [if_neg h, Ico_eq_empty (by omega), Ico_eq_empty (by omega)]; simp

/-- Meeting a block of 256 keys adds what they pass. -/
theorem passed_block (s : ℕ) :
    passed f R s = passed f R (s + 256) + ∑ u : Fin 256, (if s + u.val < R then pass (f (s + u.val)) else 0) := by
  unfold passed
  rw [sum_split R _ s 256, Finset.sum_range (fun u => if s + u < R then pass (f (s + u)) else 0)]

/-- What is passed after key `u` of a block: the part inside the block, a sum against the strictly lower triangle of ones, and what was
    passed before it. -/
theorem passed_inside (s : ℕ) (u : Fin 256) :
    passed f R (s + u.val + 1)
      = ∑ j : Fin 256, (if s + j.val < R then pass (f (s + j.val)) else 0) * (if u.val < j.val then 1 else 0) + passed f R (s + 256) := by
  unfold passed
  have hu := u.isLt
  rw [sum_split R _ (s + u.val + 1) (255 - u.val), show s + u.val + 1 + (255 - u.val) = s + 256 by omega, add_comm]
  congr 1
  rw [Fin.sum_univ_eq_sum_range (fun j => (if s + j < R then pass (f (s + j)) else 0) * (if u.val < j then (1 : ℝ) else 0)) 256,
    show range 256 = Ico 0 256 from range_eq_Ico 256, ← sum_Ico_consecutive _ (Nat.zero_le (u.val + 1)) (show u.val + 1 ≤ 256 by omega)]
  rw [sum_eq_zero (s := Ico 0 (u.val + 1)) (fun j hj => by rw [if_neg (show ¬u.val < j by have := (mem_Ico.mp hj).2; omega), mul_zero]), zero_add,
    sum_Ico_eq_sum_range, show 256 - (u.val + 1) = 255 - u.val by omega]
  refine sum_congr rfl fun j _ => ?_
  rw [if_pos (show u.val < u.val + 1 + j by omega), mul_one]
  simp only [show s + u.val + 1 + j = s + (u.val + 1 + j) by omega]

/-- Meeting a block of 256 keys collects from each of them that lies before the row. -/
theorem taken_block (s : ℕ) :
    taken f V R s = taken f V R (s + 256) + ∑ u : Fin 256, (if s + u.val < R then
        (2 : ℝ) ^ (stop (f (s + u.val))
          + (∑ j : Fin 256, (if s + j.val < R then pass (f (s + j.val)) else 0) * (if u.val < j.val then 1 else 0))
          + passed f R (s + 256)) else 0) * V (s + u.val) := by
  conv_lhs => unfold taken
  rw [sum_split R _ s 256, Finset.sum_range (fun u => if s + u < R then (2 : ℝ) ^ (stop (f (s + u)) + passed f R (s + u + 1)) * V (s + u) else 0)]
  unfold taken
  congr 1
  refine sum_congr rfl fun u _ => ?_
  rw [passed_inside, ← add_assoc, ite_mul, zero_mul]

/-- Before any key is met nothing is passed or collected. -/
theorem passed_end (s : ℕ) (h : R ≤ s) : passed f R s = 0 := by
  unfold passed; rw [Ico_eq_empty (by omega), sum_empty]
theorem taken_end (s : ℕ) (h : R ≤ s) : taken f V R s = 0 := by
  unfold taken; rw [Ico_eq_empty (by omega), sum_empty]

/-- A block all of whose keys lie before the row. -/
theorem passed_whole (s : ℕ) (h : s + 256 ≤ R) :
    passed f R s = passed f R (s + 256) + ∑ u : Fin 256, pass (f (s + u.val)) := by
  rw [passed_block]
  congr 1
  exact sum_congr rfl fun u _ => if_pos (by have := u.isLt; omega)
theorem taken_whole (s : ℕ) (h : s + 256 ≤ R) :
    taken f V R s = taken f V R (s + 256) + ∑ u : Fin 256, (2 : ℝ) ^ (stop (f (s + u.val))
          + (∑ j : Fin 256, pass (f (s + j.val)) * (if u.val < j.val then 1 else 0))
          + passed f R (s + 256)) * V (s + u.val) := by
  rw [taken_block]
  congr 1
  refine sum_congr rfl fun u _ => ?_
  rw [if_pos (by have := u.isLt; omega)]
  congr 3
  congr 1
  exact sum_congr rfl fun j _ => by rw [if_pos (by have := j.isLt; omega)]

end Cert.Stick

end
-- ==== Proof.Value.Head.lean ====
/- One head's step over one block of keys, as the body computes it, read at an index over the real numbers. -/
module

public import proofs.«01_k».proof.Proof.Gen.KernelIdeal.Skeleton
public import proofs.«01_k».proof.Proof.Value.Stick
public import Idealize.ShloMosaic.Lib.Pointwise
public import Idealize.ShloMosaic.Lib.WordCmp

@[expose] public section

set_option maxRecDepth 16384

noncomputable section

namespace Cert.KernelIdeal.Own

open Cert.KernelIdeal Cert.KernelIdeal.Gen
open Idealize.ShloMosaic

variable {F : FTy → Type} [FloatOps F] [Named F]

/-- A sweep's step for one head: the accumulator's rows, from the head's queries, keys, values, the triangle of ones, the passed sums and
    the accumulator; and the passed sums. -/
def accS (q k v : Vec F S1x1x256x128 .bf16) (t : Vec F S256x256 .bf16) (c a : Vec F S1x256x128 .f32) : Vec F S1x256x128 .f32 :=
  k0_pay201 (k0_pay198 q k c t) a v
def carS (q k : Vec F S1x1x256x128 .bf16) (c : Vec F S1x256x128 .f32) : Vec F S1x256x128 .f32 :=
  k0_pay200 (k0_pay199 q k c)

/-- The diagonal block's step for one head's last 256 rows. -/
def acc1 (q k v : Vec F S1x1x256x128 .bf16) (t : Vec F S256x256 .bf16) (c a : Vec F S1x256x128 .f32) : Vec F S1x256x128 .f32 :=
  k0_pay14 (k0_pay8 q k) (k0_pay9 q k) k0_pay10 k0_pay11 c t a v
def car1 (q k : Vec F S1x1x256x128 .bf16) (c : Vec F S1x256x128 .f32) : Vec F S1x256x128 .f32 :=
  k0_pay15 (k0_pay9 q k) k0_pay10 k0_pay11 c

/-- The diagonal block's step for all of one head's rows. -/
def acc0 (q : Vec F S1x1x512x128 .bf16) (k v : Vec F S1x1x256x128 .bf16) (t : Vec F S256x256 .bf16) (c a : Vec F S1x512x128 .f32) : Vec F S1x512x128 .f32 :=
  k0_pay103 (k0_pay97 q k) k0_pay98 (k0_pay100 c) (k0_pay101 q k) (k0_pay102 t) a v
def car0 (q : Vec F S1x1x512x128 .bf16) (k : Vec F S1x1x256x128 .bf16) (c : Vec F S1x512x128 .f32) : Vec F S1x512x128 .f32 :=
  k0_pay104 (k0_pay99 q k) (k0_pay100 c)

open Cert.Stick

/-- A sum of real numbers, read among the extended ones. -/
theorem sum_real {n : ℕ} (g : Fin n → ℝ) : ∑ i, ((g i : ℝ) : EReal) = ((∑ i, g i : ℝ) : EReal) :=
  (map_sum (⟨⟨fun x : ℝ => (x : EReal), rfl⟩, EReal.coe_add⟩ : ℝ →+ EReal) g Finset.univ).symm

/-- The named reciprocal is that of the logarithm of two. -/
theorem named_rln2 : Named.named (F := Ideal) (φ := .f32) κ "rln2" 0x3FB8AA3B#32 = (((Real.log 2)⁻¹ : ℝ) : EReal) :=
  IdealRules.named_const.ideal_named_scalar _ _ _ _ rfl

theorem min_real (z : ℝ) : min (z : EReal) 0 = ((min z 0 : ℝ) : EReal) := by
  rw [← EReal.coe_zero]; exact (EReal.coe_strictMono.monotone.map_min).symm

/-- The correction, as the body computes it. -/
theorem soft_real (z : ℝ) :
    Ideal.log (1 + FloatOps.exp2 (F := Ideal) (φ := .f32) (min (z : EReal) 0 + (min (z : EReal) 0 - (z : EReal)))) * Named.named (F := Ideal) (φ := .f32) κ "rln2" 0x3FB8AA3B#32
      = ((soft z : ℝ) : EReal) := by
  rw [min_real, ← EReal.coe_sub, ← EReal.coe_add, named_rln2,
    show FloatOps.exp2 (F := Ideal) (φ := .f32) ((min z 0 + (min z 0 - z) : ℝ) : EReal) = (((2 : ℝ) ^ (min z 0 + (min z 0 - z)) : ℝ) : EReal) from rfl,
    ← EReal.coe_one, ← EReal.coe_add, Ideal.log_coe, if_neg (not_le.mpr (by positivity)), ← EReal.coe_mul]
  rfl
theorem stop_real (z : ℝ) : min (z : EReal) 0
    - Ideal.log (1 + FloatOps.exp2 (F := Ideal) (φ := .f32) (min (z : EReal) 0 + (min (z : EReal) 0 - (z : EReal)))) * Named.named (F := Ideal) (φ := .f32) κ "rln2" 0x3FB8AA3B#32
      = ((stop z : ℝ) : EReal) := by
  rw [soft_real, min_real, ← EReal.coe_sub]; rfl
theorem pass_real (z : ℝ) : min (z : EReal) 0 - (z : EReal)
    - Ideal.log (1 + FloatOps.exp2 (F := Ideal) (φ := .f32) (min (z : EReal) 0 + (min (z : EReal) 0 - (z : EReal)))) * Named.named (F := Ideal) (φ := .f32) κ "rln2" 0x3FB8AA3B#32
      = ((pass z : ℝ) : EReal) := by
  rw [soft_real, min_real, ← EReal.coe_sub, ← EReal.coe_sub]; rfl
theorem exp2_real (z : ℝ) : FloatOps.exp2 (F := Ideal) (φ := .f32) (z : EReal) = (((2 : ℝ) ^ z : ℝ) : EReal) := rfl

/-- The mask of the keys before the row, over the first and the last 128 keys of a block. -/
theorem sel_lt {n m : ℕ} (x : Fin n) (r : Fin m) (hn : n ≤ 512) (hm : m ≤ 512) (a b : EReal) :
    Scalar.select (IntOp.cmpi CmpIPredicate.slt (BitVec.ofNat 32 x.val) (BitVec.ofNat 32 r.val)) a b = if x.val < r.val then a else b := by
  rw [WordCmp.cmpi_slt_ofNat (by have := x.isLt; omega) (by have := r.isLt; omega), WordCmp.select_ofBool]; simp
theorem sel_lt' {n m : ℕ} (x : Fin n) (r : Fin m) (hn : n ≤ 512) (hm : m ≤ 512) (a b : EReal) :
    Scalar.select (IntOp.cmpi CmpIPredicate.slt (BitVec.ofNat 32 (128 + x.val)) (BitVec.ofNat 32 r.val)) a b = if 128 + x.val < r.val then a else b := by
  rw [WordCmp.cmpi_slt_ofNat (by have := x.isLt; omega) (by have := r.isLt; omega), WordCmp.select_ofBool]; simp
theorem ite_real (p : Prop) [Decidable p] (a : ℝ) : (if p then (a : EReal) else 0) = ((if p then a else 0 : ℝ) : EReal) := by
  split <;> rfl

/-- A sweep's step at row `r` and lane `l`. -/
theorem accS_at (Q K V : Fin 256 → Fin 128 → ℝ) (C : Fin 256 → ℝ) (A : Fin 256 → Fin 128 → ℝ)
    (q k v : Vec Ideal S1x1x256x128 .bf16) (t : Vec Ideal S256x256 .bf16) (c a : Vec Ideal S1x256x128 .f32)
    (hq : ∀ r d, q (ix4 0 0 r d) = ((Q r d : ℝ) : EReal)) (hk : ∀ r d, k (ix4 0 0 r d) = ((K r d : ℝ) : EReal))
    (hv : ∀ r d, v (ix4 0 0 r d) = ((V r d : ℝ) : EReal)) (ht : ∀ j s, t (ix2 j s) = (((if s.val < j.val then 1 else 0 : ℝ)) : EReal))
    (hc : ∀ r d, c (ix3 0 r d) = ((C r : ℝ) : EReal)) (ha : ∀ r d, a (ix3 0 r d) = ((A r d : ℝ) : EReal)) (r : Fin 256) (l : Fin 128) :
    accS q k v t c a (ix3 0 r l) = ((A r l + ∑ u : Fin 256, (2 : ℝ) ^ (stop (∑ d, Q r d * K u d)
          + (∑ j : Fin 256, pass (∑ d, Q r d * K j d) * (if u.val < j.val then 1 else 0)) + C r) * V u l : ℝ) : EReal) := by
  unfold accS
  unfold_payloads
  pointwise
  simp only [hq, hk, hv, ht, hc, ha, ← EReal.coe_mul, sum_real, stop_real, pass_real, ← EReal.coe_add, exp2_real]
  rw [Fin.sum_univ_two_halves 128 128 rfl]

theorem carS_at (Q K : Fin 256 → Fin 128 → ℝ) (C : Fin 256 → ℝ)
    (q k : Vec Ideal S1x1x256x128 .bf16) (c : Vec Ideal S1x256x128 .f32)
    (hq : ∀ r d, q (ix4 0 0 r d) = ((Q r d : ℝ) : EReal)) (hk : ∀ r d, k (ix4 0 0 r d) = ((K r d : ℝ) : EReal))
    (hc : ∀ r d, c (ix3 0 r d) = ((C r : ℝ) : EReal)) (r : Fin 256) (l : Fin 128) :
    carS q k c (ix3 0 r l) = ((C r + ∑ u : Fin 256, pass (∑ d, Q r d * K u d) : ℝ) : EReal) := by
  unfold carS
  unfold_payloads
  pointwise
  simp only [hq, hk, hc, ← EReal.coe_mul, sum_real, pass_real, ← EReal.coe_add]

/-- The diagonal block's step for the last 256 rows. -/
theorem acc1_at (Q : Fin 256 → Fin 128 → ℝ) (K V : Fin 256 → Fin 128 → ℝ) (C : Fin 256 → ℝ) (A : Fin 256 → Fin 128 → ℝ)
    (q : Vec Ideal S1x1x256x128 .bf16) (k v : Vec Ideal S1x1x256x128 .bf16) (t : Vec Ideal S256x256 .bf16) (c a : Vec Ideal S1x256x128 .f32)
    (hq : ∀ r d, q (ix4 0 0 r d) = ((Q r d : ℝ) : EReal)) (hk : ∀ r d, k (ix4 0 0 r d) = ((K r d : ℝ) : EReal))
    (hv : ∀ r d, v (ix4 0 0 r d) = ((V r d : ℝ) : EReal)) (ht : ∀ j s, t (ix2 j s) = (((if s.val < j.val then 1 else 0 : ℝ)) : EReal))
    (hc : ∀ r d, c (ix3 0 r d) = ((C r : ℝ) : EReal)) (ha : ∀ r d, a (ix3 0 r d) = ((A r d : ℝ) : EReal)) (r : Fin 256) (l : Fin 128) :
    acc1 q k v t c a (ix3 0 r l) = ((A r l + ∑ u : Fin 256, (if u.val < r.val then (2 : ℝ) ^ (stop (∑ d, Q r d * K u d)
          + (∑ j : Fin 256, (if j.val < r.val then pass (∑ d, Q r d * K j d) else 0) * (if u.val < j.val then 1 else 0)) + C r) else 0) * V u l : ℝ) : EReal) := by
  unfold acc1
  unfold_payloads
  pointwise
  simp only [sel_lt _ _ (show 128 ≤ 512 by decide) (show 256 ≤ 512 by decide), sel_lt _ _ (show 256 ≤ 512 by decide) (show 256 ≤ 512 by decide), sel_lt' _ _ (show 128 ≤ 512 by decide) (show 256 ≤ 512 by decide),
    hq, hk, hv, ht, hc, ha, ← EReal.coe_mul, sum_real, stop_real, pass_real, ← EReal.coe_add, exp2_real, ite_real]
  rw [Fin.sum_univ_two_halves 128 128 rfl]
  simp only [ite_mul, zero_mul]

theorem car1_at (Q : Fin 256 → Fin 128 → ℝ) (K : Fin 256 → Fin 128 → ℝ) (C : Fin 256 → ℝ)
    (q : Vec Ideal S1x1x256x128 .bf16) (k : Vec Ideal S1x1x256x128 .bf16) (c : Vec Ideal S1x256x128 .f32)
    (hq : ∀ r d, q (ix4 0 0 r d) = ((Q r d : ℝ) : EReal)) (hk : ∀ r d, k (ix4 0 0 r d) = ((K r d : ℝ) : EReal))
    (hc : ∀ r d, c (ix3 0 r d) = ((C r : ℝ) : EReal)) (r : Fin 256) (l : Fin 128) :
    car1 q k c (ix3 0 r l) = ((C r + ∑ u : Fin 256, (if u.val < r.val then pass (∑ d, Q r d * K u d) else 0) : ℝ) : EReal) := by
  unfold car1
  unfold_payloads
  pointwise
  simp only [sel_lt _ _ (show 256 ≤ 512 by decide) (show 256 ≤ 512 by decide), hq, hk, hc, ← EReal.coe_mul, sum_real, pass_real, ← EReal.coe_add, ite_real]

/-- The diagonal block's step for all rows. -/
theorem acc0_at (Q : Fin 512 → Fin 128 → ℝ) (K V : Fin 256 → Fin 128 → ℝ) (C : Fin 512 → ℝ) (A : Fin 512 → Fin 128 → ℝ)
    (q : Vec Ideal S1x1x512x128 .bf16) (k v : Vec Ideal S1x1x256x128 .bf16) (t : Vec Ideal S256x256 .bf16) (c a : Vec Ideal S1x512x128 .f32)
    (hq : ∀ r d, q (ix4 0 0 r d) = ((Q r d : ℝ) : EReal)) (hk : ∀ r d, k (ix4 0 0 r d) = ((K r d : ℝ) : EReal))
    (hv : ∀ r d, v (ix4 0 0 r d) = ((V r d : ℝ) : EReal)) (ht : ∀ j s, t (ix2 j s) = (((if s.val < j.val then 1 else 0 : ℝ)) : EReal))
    (hc : ∀ r d, c (ix3 0 r d) = ((C r : ℝ) : EReal)) (ha : ∀ r d, a (ix3 0 r d) = ((A r d : ℝ) : EReal)) (r : Fin 512) (l : Fin 128) :
    acc0 q k v t c a (ix3 0 r l) = ((A r l + ∑ u : Fin 256, (if u.val < r.val then (2 : ℝ) ^ (stop (∑ d, Q r d * K u d)
          + (∑ j : Fin 256, (if j.val < r.val then pass (∑ d, Q r d * K j d) else 0) * (if u.val < j.val then 1 else 0)) + C r) else 0) * V u l : ℝ) : EReal) := by
  unfold acc0
  unfold_payloads
  pointwise
  simp only [sel_lt _ _ (show 128 ≤ 512 by decide) (show 512 ≤ 512 by decide), sel_lt _ _ (show 256 ≤ 512 by decide) (show 512 ≤ 512 by decide), sel_lt' _ _ (show 128 ≤ 512 by decide) (show 512 ≤ 512 by decide),
    hq, hk, hv, ht, hc, ha, ← EReal.coe_mul, sum_real, stop_real, pass_real, ← EReal.coe_add, exp2_real, ite_real]
  rw [Fin.sum_univ_two_halves 128 128 rfl]
  simp only [ite_mul, zero_mul]

theorem car0_at (Q : Fin 512 → Fin 128 → ℝ) (K : Fin 256 → Fin 128 → ℝ) (C : Fin 512 → ℝ)
    (q : Vec Ideal S1x1x512x128 .bf16) (k : Vec Ideal S1x1x256x128 .bf16) (c : Vec Ideal S1x512x128 .f32)
    (hq : ∀ r d, q (ix4 0 0 r d) = ((Q r d : ℝ) : EReal)) (hk : ∀ r d, k (ix4 0 0 r d) = ((K r d : ℝ) : EReal))
    (hc : ∀ r d, c (ix3 0 r d) = ((C r : ℝ) : EReal)) (r : Fin 512) (l : Fin 128) :
    car0 q k c (ix3 0 r l) = ((C r + ∑ u : Fin 256, (if u.val < r.val then pass (∑ d, Q r d * K u d) else 0) : ℝ) : EReal) := by
  unfold car0
  unfold_payloads
  pointwise
  simp only [sel_lt _ _ (show 256 ≤ 512 by decide) (show 512 ≤ 512 by decide), hq, hk, hc, ← EReal.coe_mul, sum_real, pass_real, ← EReal.coe_add, ite_real]

end Cert.KernelIdeal.Own

end
-- ==== Proof.Value.State.lean ====
/- What the two scratch buffers hold, in closed form over the real numbers, and how one head's step takes one state to the next. -/
module

public import proofs.«01_k».proof.Proof.Ideal.Base
public import proofs.«01_k».proof.Proof.Value.Head
public import Idealize.ShloMosaic.Lib.WritesUnit
public import Idealize.ShloMosaic.Lib.WholeRead
public import Mathlib.Data.Finset.Fold

@[expose] public section

set_option maxRecDepth 16384

noncomputable section

namespace Cert.KernelIdeal.Own

open Cert.KernelIdeal Cert.KernelIdeal.Gen Cert.Stick
open Idealize.ShloMosaic

/-- Place `r` of a block of `nr` places that starts at `o`. -/
def sh {N o nr : ℕ} (h : o + nr ≤ N) (r : Fin nr) : Fin N := ⟨o + r.val, Nat.lt_of_lt_of_le (Nat.add_lt_add_left r.isLt o) h⟩
theorem sh_val {N o nr : ℕ} (h : o + nr ≤ N) (r : Fin nr) : (sh h r).val = o + r.val := rfl

/-! ## Head by head -/

section
variable (M : Memref sig .tc .vmem S8x512x128 .f32) (f : M.view.ty.Contents (Elt Ideal)) (x y : Vec Ideal S8x512x128 .f32) (o nr : ℕ)

/-- After the writes `L` the buffer reads as `y` on the rows from `o` on of the first `k` heads, `nr` of them, and as `x` elsewhere. -/
def Sofar (k : ℕ) (L : List (View.Piece (Elt Ideal) S8x512x128 .f32)) : Prop :=
  ∀ (g : Fin 8) (r : Fin 512) (l : Fin 128), M.view.read (Elt Ideal) (M.view.writes (Elt Ideal) f L) (ix3 g r l)
    = if g.val < k ∧ o ≤ r.val ∧ r.val < o + nr then y (ix3 g r l) else x (ix3 g r l)

theorem sofar_nil (h : M.view.read (Elt Ideal) f = x) : Sofar M f x y o nr 0 [] := fun g r l => by
  rw [if_neg (by omega)]; exact congrFun h _

variable {M f x y o nr}

/-- Writing the next head's rows brings that head up to `y`. -/
theorem sofar_cons {k : ℕ} {L : List (View.Piece (Elt Ideal) S8x512x128 .f32)} (hk : k < 8) (ho : o + nr ≤ 512)
    (inb : ∀ a, (![k, o, 0] : Fin 3 → ℕ) a + (![1, nr, 128] : Fin 3 → ℕ) a ≤ S8x512x128.size a)
    (w : (⟨3, ![1, nr, 128]⟩ : Shape).Idx → EReal) (h : Sofar M f x y o nr k L)
    (hw : ∀ (r : Fin nr) (l : Fin 128), w (ix3 0 r l) = y (ix3 ⟨k, hk⟩ (sh ho r) l)) :
    Sofar M f x y o nr (k + 1) (⟨Rect.unit (s := S8x512x128) ![k, o, 0] ![1, nr, 128] inb, w⟩ :: L) := fun g r l => by
  by_cases hr : o ≤ r.val ∧ r.val < o + nr
  · by_cases hg : g.val = k
    · rw [if_pos ⟨by omega, hr⟩]
      obtain ⟨rr, hrr⟩ : ∃ rr : Fin nr, r.val = o + rr.val := ⟨⟨r.val - o, by omega⟩, by dsimp only; omega⟩
      rw [View.read_writes_cons_unit_of_mem M.view f inb w L (ix3 g r l) (ix3 (0 : Fin 1) rr l) rfl
        (fun a => by fin_cases a <;> simp [ix3, hg, hrr]), hw]
      congr 2
      · exact Fin.ext hg.symm
      · exact Fin.ext hrr.symm
    · rw [View.read_writes_cons_unit_of_not_mem M.view f inb w L (ix3 g r l) rfl 0 (by simp [ix3]; omega), h g r l]
      refine if_congr ?_ rfl rfl
      omega
  · rw [View.read_writes_cons_unit_of_not_mem M.view f inb w L (ix3 g r l) rfl 1 (by simp [ix3]; omega), h g r l,
      if_neg (by omega), if_neg (by omega)]

/-- With all eight heads done the whole buffer is read as one state. -/
theorem sofar_done {L : List (View.Piece (Elt Ideal) S8x512x128 .f32)} (h : Sofar M f x y o nr 8 L) (z : Vec Ideal S8x512x128 .f32)
    (h1 : ∀ (g : Fin 8) (r : Fin 512) (l : Fin 128), o ≤ r.val → r.val < o + nr → y (ix3 g r l) = z (ix3 g r l))
    (h2 : ∀ (g : Fin 8) (r : Fin 512) (l : Fin 128), (r.val < o ∨ o + nr ≤ r.val) → x (ix3 g r l) = z (ix3 g r l)) :
    M.view.read (Elt Ideal) (M.view.writes (Elt Ideal) f L) = z := by
  have key : ∀ (g : Fin 8) (r : Fin 512) (l : Fin 128), M.view.read (Elt Ideal) (M.view.writes (Elt Ideal) f L) (ix3 g r l) = z (ix3 g r l) := fun g r l => by
    have := g.isLt
    rw [h]
    split
    · exact h1 _ _ _ (by omega) (by omega)
    · exact h2 _ _ _ (by omega)
  funext i
  exact (congrArg _ (eq_ix3 i)).trans ((key _ _ _).trans (congrArg z (eq_ix3 i)).symm)

/-- And from there on the next block's step begins. -/
theorem sofar_start {L : List (View.Piece (Elt Ideal) S8x512x128 .f32)} (h : M.view.read (Elt Ideal) (M.view.writes (Elt Ideal) f L) = x) :
    Sofar M f x y o nr 0 L := fun g r l => by
  rw [if_neg (by omega), h]

/-- A head not yet written still reads as it did. -/
theorem sofar_load {k : ℕ} {L : List (View.Piece (Elt Ideal) S8x512x128 .f32)} (hk : k < 8) (h : Sofar M f x y o nr k L) {o' nr' : ℕ} (ho : o' + nr' ≤ 512)
    (inb : ∀ a, (![k, o', 0] : Fin 3 → ℕ) a + (![1, nr', 128] : Fin 3 → ℕ) a ≤ S8x512x128.size a) (r : Fin nr') (l : Fin 128) :
    M.view.readAt (Elt Ideal) (Rect.unit (s := S8x512x128) ![k, o', 0] ![1, nr', 128] inb).toLoadRect (M.view.writes (Elt Ideal) f L) (ix3 (0 : Fin 1) r l)
      = x (ix3 ⟨k, hk⟩ (sh ho r) l) := by
  rw [View.readAt_apply]
  have e : (Rect.unit (s := S8x512x128) ![k, o', 0] ![1, nr', 128] inb).toLoadRect.idx (ix3 (0 : Fin 1) r l)
      = ix3 (⟨k, hk⟩ : Fin 8) (sh ho r) l := by
    funext a; apply Fin.ext; fin_cases a <;> simp [ix3, LoadRect.idx, Rect.unit, sh]
  rw [e, h, if_neg (by dsimp only; omega)]

end

/-- A load of one head's rows from a whole buffer of the inputs. -/
theorem load4 {N : ℕ} (M : Memref sig .tc .vmem ⟨4, ![1, 8, N, 128]⟩ .bf16) (h : M.IsWhole) (x : Vec Ideal ⟨4, ![1, 8, N, 128]⟩ .bf16) (g : Fin 8) (o nr : ℕ)
    (ho : o + nr ≤ N) (off : Fin 4 → ℕ) (hoff : off = ![0, g.val, o, 0]) (inb : ∀ a, off a + (![1, 1, nr, 128] : Fin 4 → ℕ) a ≤ (⟨4, ![1, 8, N, 128]⟩ : Shape).size a)
    (r : Fin nr) (l : Fin 128) :
    M.view.readAt (Elt Ideal) (Rect.unit (s := ⟨4, ![1, 8, N, 128]⟩) off ![1, 1, nr, 128] inb).toLoadRect (h.unread x) (ix4 (0 : Fin 1) (0 : Fin 1) r l)
      = x (ix4 (0 : Fin 1) g (sh ho r) l) := by
  subst hoff
  rw [h.readAt_unread]
  congr 1
  funext a; apply Fin.ext; fin_cases a <;> simp [ix4, LoadRect.idx, Rect.unit, sh]

/-- A load of the whole triangle of ones. -/
theorem load2 (M : Memref sig .tc .vmem S256x256 .bf16) (h : M.IsWhole) (x : Vec Ideal S256x256 .bf16)
    (inb : ∀ a, (![0, 0] : Fin 2 → ℕ) a + S256x256.size a ≤ S256x256.size a) (j s : Fin 256) :
    M.view.readAt (Elt Ideal) (Rect.unit (s := S256x256) ![0, 0] S256x256.size inb).toLoadRect (h.unread x) (ix2 j s) = x (ix2 j s) := by
  rw [h.readAt_unread]
  congr 1
  funext a; apply Fin.ext; fin_cases a <;> simp [ix2, LoadRect.idx, Rect.unit]

/-! ## The states -/

section
variable (Q : Fin 8 → Fin 512 → Fin 128 → ℝ) (K V : Fin 8 → ℕ → Fin 128 → ℝ) (n : ℕ)

/-- The logit of row `r` of head `g` against a key. -/
def lg (g : Fin 8) (r : Fin 512) (key : ℕ) : ℝ := ∑ d, Q g r d * K g key d
/-- What the row has passed, and what it has collected in lane `l`, with every key from `s` on met. -/
def ps (g : Fin 8) (r : Fin 512) (s : ℕ) : ℝ := passed (lg Q K g r) (512 * n + r.val) s
def tk (g : Fin 8) (r : Fin 512) (l : Fin 128) (s : ℕ) : ℝ := taken (lg Q K g r) (fun key => V g key l) (512 * n + r.val) s
/-- The running sums and the accumulators, with row `r` of every head having met every key from `s r` on. -/
def carSt (s : ℕ → ℕ) : Vec Ideal S8x512x128 .f32 := fun i => ((ps Q K n (i 0) (i 1) (s (i 1).val) : ℝ) : EReal)
def accSt (s : ℕ → ℕ) : Vec Ideal S8x512x128 .f32 := fun i => ((tk Q K V n (i 0) (i 1) (i 2) (s (i 1).val) : ℝ) : EReal)

theorem carSt_at (s : ℕ → ℕ) (g : Fin 8) (r : Fin 512) (l : Fin 128) : carSt Q K n s (ix3 g r l) = ((ps Q K n g r (s r.val) : ℝ) : EReal) := rfl
theorem accSt_at (s : ℕ → ℕ) (g : Fin 8) (r : Fin 512) (l : Fin 128) : accSt Q K V n s (ix3 g r l) = ((tk Q K V n g r l (s r.val) : ℝ) : EReal) := rfl

variable (g : Fin 8) (S : ℕ) (t : Vec Ideal S256x256 .bf16) (ht : ∀ j s, t (ix2 j s) = (((if s.val < j.val then 1 else 0 : ℝ)) : EReal))
  (k v : Vec Ideal S1x1x256x128 .bf16)
  (hk : ∀ u d, k (ix4 (0 : Fin 1) (0 : Fin 1) u d) = ((K g (S + u.val) d : ℝ) : EReal)) (hv : ∀ u d, v (ix4 (0 : Fin 1) (0 : Fin 1) u d) = ((V g (S + u.val) d : ℝ) : EReal))

section
variable (o : ℕ) (ho : o + 256 ≤ 512) (q : Vec Ideal S1x1x256x128 .bf16) (c a : Vec Ideal S1x256x128 .f32)
  (hq : ∀ (r : Fin 256) d, q (ix4 (0 : Fin 1) (0 : Fin 1) r d) = ((Q g (sh ho r) d : ℝ) : EReal))
  (hc : ∀ (r : Fin 256) (l : Fin 128), c (ix3 (0 : Fin 1) r l) = ((ps Q K n g (sh ho r) (S + 256) : ℝ) : EReal))
  (ha : ∀ (r : Fin 256) (l : Fin 128), a (ix3 (0 : Fin 1) r l) = ((tk Q K V n g (sh ho r) l (S + 256) : ℝ) : EReal))
include ho hq hk hc

/-- A sweep's step meets the block of keys from `S` on. -/
theorem carS_step (hS : S + 256 ≤ 512 * n + o) (r : Fin 256) (l : Fin 128) :
    carS q k c (ix3 (0 : Fin 1) r l) = ((ps Q K n g (sh ho r) S : ℝ) : EReal) := by
  rw [carS_at (fun r d => Q g (sh ho r) d) (fun u d => K g (S + u.val) d) _ q k c hq hk hc]
  congr 1
  unfold ps
  rw [passed_whole _ _ S (by rw [sh_val]; omega)]
  rfl

include ht hv ha in
theorem accS_step (hS : S + 256 ≤ 512 * n + o) (r : Fin 256) (l : Fin 128) :
    accS q k v t c a (ix3 (0 : Fin 1) r l) = ((tk Q K V n g (sh ho r) l S : ℝ) : EReal) := by
  rw [accS_at (fun r d => Q g (sh ho r) d) (fun u d => K g (S + u.val) d) (fun u d => V g (S + u.val) d)
    (fun r => ps Q K n g (sh ho r) (S + 256)) (fun r l => tk Q K V n g (sh ho r) l (S + 256))
    q k v t c a hq hk hv ht hc ha]
  congr 1
  unfold tk
  rw [taken_whole _ _ _ S (by rw [sh_val]; omega)]
  rfl

/-- The diagonal block's step for the last 256 rows. -/
theorem car1_step (hS : S = 512 * n + o) (r : Fin 256) (l : Fin 128) :
    car1 q k c (ix3 (0 : Fin 1) r l) = ((ps Q K n g (sh ho r) S : ℝ) : EReal) := by
  rw [car1_at (fun r d => Q g (sh ho r) d) (fun u d => K g (S + u.val) d) _ q k c hq hk hc]
  congr 1
  unfold ps
  rw [passed_block _ _ S]
  subst hS
  simp only [sh_val, ← add_assoc, add_lt_add_iff_left]
  rfl

include ht hv ha in
theorem acc1_step (hS : S = 512 * n + o) (r : Fin 256) (l : Fin 128) :
    acc1 q k v t c a (ix3 (0 : Fin 1) r l) = ((tk Q K V n g (sh ho r) l S : ℝ) : EReal) := by
  rw [acc1_at (fun r d => Q g (sh ho r) d) (fun u d => K g (S + u.val) d) (fun u d => V g (S + u.val) d)
    (fun r => ps Q K n g (sh ho r) (S + 256)) (fun r l => tk Q K V n g (sh ho r) l (S + 256))
    q k v t c a hq hk hv ht hc ha]
  congr 1
  unfold tk ps
  rw [taken_block _ _ _ S]
  subst hS
  simp only [sh_val, ← add_assoc, add_lt_add_iff_left]
  rfl
end

section
variable (q : Vec Ideal S1x1x512x128 .bf16) (c a : Vec Ideal S1x512x128 .f32)
  (hq : ∀ (r : Fin 512) d, q (ix4 (0 : Fin 1) (0 : Fin 1) r d) = ((Q g r d : ℝ) : EReal))
  (hc : ∀ (r : Fin 512) (l : Fin 128), c (ix3 (0 : Fin 1) r l) = ((ps Q K n g r (S + 256) : ℝ) : EReal))
  (ha : ∀ (r : Fin 512) (l : Fin 128), a (ix3 (0 : Fin 1) r l) = ((tk Q K V n g r l (S + 256) : ℝ) : EReal))
include hq hk hc

/-- The diagonal block's step for all rows. -/
theorem car0_step (hS : S = 512 * n) (r : Fin 512) (l : Fin 128) :
    car0 q k c (ix3 (0 : Fin 1) r l) = ((ps Q K n g r S : ℝ) : EReal) := by
  rw [car0_at (fun r d => Q g r d) (fun u d => K g (S + u.val) d) _ q k c hq hk hc]
  congr 1
  unfold ps
  rw [passed_block _ _ S]
  subst hS
  simp only [add_lt_add_iff_left]
  rfl

include ht hv ha in
theorem acc0_step (hS : S = 512 * n) (r : Fin 512) (l : Fin 128) :
    acc0 q k v t c a (ix3 (0 : Fin 1) r l) = ((tk Q K V n g r l S : ℝ) : EReal) := by
  rw [acc0_at (fun r d => Q g r d) (fun u d => K g (S + u.val) d) (fun u d => V g (S + u.val) d)
    (fun r => ps Q K n g r (S + 256)) (fun r l => tk Q K V n g r l (S + 256))
    q k v t c a hq hk hv ht hc ha]
  congr 1
  unfold tk
  rw [taken_block _ _ _ S]
  subst hS
  simp only [add_lt_add_iff_left]
  rfl
end

end

/-! ## The steps, from the buffers' contents -/

theorem row0 : 0 + 512 ≤ 512 := by decide
/-- Rows counted from the first. -/
theorem zero_row (r : Fin 512) : (sh row0 r) = r := Fin.ext (Nat.zero_add _)

/-- A row that has met no key stands as well where every key still lies ahead. -/
theorem ps_same (Q : Fin 8 → Fin 512 → Fin 128 → ℝ) (K : Fin 8 → ℕ → Fin 128 → ℝ) (n : ℕ) (g : Fin 8) (S : ℕ) (s : ℕ → ℕ)
    (h1 : ∀ r : Fin 512, s r.val = S + 256 ∨ (512 * n + r.val ≤ s r.val ∧ 512 * n + r.val ≤ S + 256)) (r : Fin 512) :
    ps Q K n g r (s r.val) = ps Q K n g r (S + 256) := by
  rcases h1 r with h | ⟨h, h'⟩
  · rw [h]
  · unfold ps; rw [passed_end _ _ _ h, passed_end _ _ _ h']
theorem tk_same (Q : Fin 8 → Fin 512 → Fin 128 → ℝ) (K V : Fin 8 → ℕ → Fin 128 → ℝ) (n : ℕ) (g : Fin 8) (S : ℕ) (s : ℕ → ℕ)
    (h1 : ∀ r : Fin 512, s r.val = S + 256 ∨ (512 * n + r.val ≤ s r.val ∧ 512 * n + r.val ≤ S + 256)) (r : Fin 512) (l : Fin 128) :
    tk Q K V n g r l (s r.val) = tk Q K V n g r l (S + 256) := by
  rcases h1 r with h | ⟨h, h'⟩
  · rw [h]
  · unfold tk; rw [taken_end _ _ _ _ h, taken_end _ _ _ _ h']

/-- A load of one head's rows from a whole buffer of the scratch. -/
theorem load3 (M : Memref sig .tc .vmem S8x512x128 .f32) (f : M.view.ty.Contents (Elt Ideal)) (x : Vec Ideal S8x512x128 .f32) (hx : M.view.read (Elt Ideal) f = x)
    (g : Fin 8) (o nr : ℕ) (ho : o + nr ≤ 512) (inb : ∀ a, (![g.val, o, 0] : Fin 3 → ℕ) a + (![1, nr, 128] : Fin 3 → ℕ) a ≤ S8x512x128.size a) (r : Fin nr) (l : Fin 128) :
    M.view.readAt (Elt Ideal) (Rect.unit (s := S8x512x128) ![g.val, o, 0] ![1, nr, 128] inb).toLoadRect f (ix3 (0 : Fin 1) r l)
      = x (ix3 g (sh ho r) l) := by
  subst hx
  rw [View.readAt_apply]
  congr 1
  funext a; apply Fin.ext; fin_cases a <;> simp [ix3, LoadRect.idx, Rect.unit, sh]

/-- The inputs hold real numbers: a query block, keys, values, and the triangle of ones. -/
structure Reals (x0 : Vec Ideal S1x8x512x128 .bf16) (x1 x2 : Vec Ideal S1x8x2048x128 .bf16) (x4 : Vec Ideal S256x256 .bf16)
    (Q : Fin 8 → Fin 512 → Fin 128 → ℝ) (K V : Fin 8 → ℕ → Fin 128 → ℝ) : Prop where
  q : ∀ (g : Fin 8) (r : Fin 512) (d : Fin 128), x0 (ix4 (0 : Fin 1) g r d) = ((Q g r d : ℝ) : EReal)
  k : ∀ (g : Fin 8) (u : Fin 2048) (d : Fin 128), x1 (ix4 (0 : Fin 1) g u d) = ((K g u.val d : ℝ) : EReal)
  v : ∀ (g : Fin 8) (u : Fin 2048) (d : Fin 128), x2 (ix4 (0 : Fin 1) g u d) = ((V g u.val d : ℝ) : EReal)
  t : ∀ (j s : Fin 256), x4 (ix2 j s) = (((if s.val < j.val then 1 else 0 : ℝ)) : EReal)

section
variable {x0 : Vec Ideal S1x8x512x128 .bf16} {x1 x2 : Vec Ideal S1x8x2048x128 .bf16} {x4 : Vec Ideal S256x256 .bf16}
  {Q : Fin 8 → Fin 512 → Fin 128 → ℝ} {K V : Fin 8 → ℕ → Fin 128 → ℝ} (hR : Reals x0 x1 x2 x4 Q K V) (n : ℕ)
  (g : Fin 8) (S : ℕ) (hS2 : S + 256 ≤ 2048) (s s' : ℕ → ℕ) (k v : Vec Ideal S1x1x256x128 .bf16) (t : Vec Ideal S256x256 .bf16)
  (hk : ∀ (u : Fin 256) (d : Fin 128), k (ix4 (0 : Fin 1) (0 : Fin 1) u d) = x1 (ix4 (0 : Fin 1) g (sh hS2 u) d))
  (hv : ∀ (u : Fin 256) (d : Fin 128), v (ix4 (0 : Fin 1) (0 : Fin 1) u d) = x2 (ix4 (0 : Fin 1) g (sh hS2 u) d))
  (ht : ∀ j s : Fin 256, t (ix2 j s) = x4 (ix2 j s))
include hR

section
variable (o : ℕ) (ho : o + 256 ≤ 512) (q : Vec Ideal S1x1x256x128 .bf16) (c a : Vec Ideal S1x256x128 .f32)
  (hq : ∀ (r : Fin 256) (d : Fin 128), q (ix4 (0 : Fin 1) (0 : Fin 1) r d) = x0 (ix4 (0 : Fin 1) g (sh ho r) d))
  (hc : ∀ (r : Fin 256) (l : Fin 128), c (ix3 (0 : Fin 1) r l) = carSt Q K n s (ix3 g (sh ho r) l))
  (ha : ∀ (r : Fin 256) (l : Fin 128), a (ix3 (0 : Fin 1) r l) = accSt Q K V n s (ix3 g (sh ho r) l))
  (h1 : ∀ r : Fin 256, s (o + r.val) = S + 256) (h2 : ∀ r : Fin 256, s' (o + r.val) = S)
include hq hk hc h1 h2

/-- A sweep's step takes a head's rows from the one state to the next. -/
theorem sweep_car (hS : S + 256 ≤ 512 * n + o) (r : Fin 256) (l : Fin 128) :
    carS q k c (ix3 (0 : Fin 1) r l) = carSt Q K n s' (ix3 g (sh ho r) l) := by
  rw [carS_step Q K n g S k (fun u d => by rw [hk, hR.k, sh_val]) o ho q c (fun r d => by rw [hq, hR.q]) (fun r l => by rw [hc, carSt_at]; rw [sh_val, h1]) hS r l,
    carSt_at]
  rw [sh_val, h2]
include ht hv ha in
theorem sweep_acc (hS : S + 256 ≤ 512 * n + o) (r : Fin 256) (l : Fin 128) :
    accS q k v t c a (ix3 (0 : Fin 1) r l) = accSt Q K V n s' (ix3 g (sh ho r) l) := by
  rw [accS_step Q K V n g S t (fun j s => by rw [ht, hR.t]) k v (fun u d => by rw [hk, hR.k, sh_val]) (fun u d => by rw [hv, hR.v, sh_val]) o ho q c a
    (fun r d => by rw [hq, hR.q]) (fun r l => by rw [hc, carSt_at]; rw [sh_val, h1]) (fun r l => by rw [ha, accSt_at]; rw [sh_val, h1]) hS r l,
    accSt_at]
  rw [sh_val, h2]

/-- The diagonal block's step for the last 256 rows does. -/
theorem diag1_car (hS : S = 512 * n + o) (r : Fin 256) (l : Fin 128) :
    car1 q k c (ix3 (0 : Fin 1) r l) = carSt Q K n s' (ix3 g (sh ho r) l) := by
  rw [car1_step Q K n g S k (fun u d => by rw [hk, hR.k, sh_val]) o ho q c (fun r d => by rw [hq, hR.q]) (fun r l => by rw [hc, carSt_at]; rw [sh_val, h1]) hS r l,
    carSt_at]
  rw [sh_val, h2]
include ht hv ha in
theorem diag1_acc (hS : S = 512 * n + o) (r : Fin 256) (l : Fin 128) :
    acc1 q k v t c a (ix3 (0 : Fin 1) r l) = accSt Q K V n s' (ix3 g (sh ho r) l) := by
  rw [acc1_step Q K V n g S t (fun j s => by rw [ht, hR.t]) k v (fun u d => by rw [hk, hR.k, sh_val]) (fun u d => by rw [hv, hR.v, sh_val]) o ho q c a
    (fun r d => by rw [hq, hR.q]) (fun r l => by rw [hc, carSt_at]; rw [sh_val, h1]) (fun r l => by rw [ha, accSt_at]; rw [sh_val, h1]) hS r l,
    accSt_at]
  rw [sh_val, h2]
end

section
variable (q : Vec Ideal S1x1x512x128 .bf16) (c a : Vec Ideal S1x512x128 .f32)
  (hq : ∀ (r : Fin 512) (d : Fin 128), q (ix4 (0 : Fin 1) (0 : Fin 1) r d) = x0 (ix4 (0 : Fin 1) g (sh row0 r) d))
  (hc : ∀ (r : Fin 512) (l : Fin 128), c (ix3 (0 : Fin 1) r l) = carSt Q K n s (ix3 g (sh row0 r) l))
  (ha : ∀ (r : Fin 512) (l : Fin 128), a (ix3 (0 : Fin 1) r l) = accSt Q K V n s (ix3 g (sh row0 r) l))
  (h1 : ∀ r : Fin 512, s r.val = S + 256 ∨ (512 * n + r.val ≤ s r.val ∧ 512 * n + r.val ≤ S + 256)) (h2 : ∀ r : Fin 512, s' r.val = S)
include hq hk hc h1 h2

/-- The diagonal block's step for all rows does. -/
theorem diag0_car (hS : S = 512 * n) (r : Fin 512) (l : Fin 128) :
    car0 q k c (ix3 (0 : Fin 1) r l) = carSt Q K n s' (ix3 g (sh row0 r) l) := by
  rw [car0_step Q K n g S k (fun u d => by rw [hk, hR.k, sh_val]) q c (fun r d => by rw [hq, hR.q, zero_row]) (fun r l => by rw [hc, zero_row, carSt_at, ps_same _ _ n g S s h1]) hS r l,
    zero_row, carSt_at, h2]
include ht hv ha in
theorem diag0_acc (hS : S = 512 * n) (r : Fin 512) (l : Fin 128) :
    acc0 q k v t c a (ix3 (0 : Fin 1) r l) = accSt Q K V n s' (ix3 g (sh row0 r) l) := by
  rw [acc0_step Q K V n g S t (fun j s => by rw [ht, hR.t]) k v (fun u d => by rw [hk, hR.k, sh_val]) (fun u d => by rw [hv, hR.v, sh_val]) q c a
    (fun r d => by rw [hq, hR.q, zero_row]) (fun r l => by rw [hc, zero_row, carSt_at, ps_same _ _ n g S s h1]) (fun r l => by rw [ha, zero_row, accSt_at, tk_same _ _ _ n g S s h1]) hS r l,
    zero_row, accSt_at, h2]
end

end

/-! ## The loops go on -/

/-- The bound the running sums are tested against lies below every real number. -/
theorem named_vanish : Named.named (F := Ideal) (φ := .f32) κ "vanish" 3273654272#32 = (⊥ : EReal) :=
  IdealRules.named_const.ideal_named_scalar _ _ _ _ rfl

/-- So running sums that are real numbers let a loop go on. -/
theorem goes (v : Vec Ideal S8x256x128 .f32) (hv : ∀ i, ⊥ < v i) :
    Scalar.cmpf .ogt (k0_pay268 v) (Named.named (F := Ideal) (φ := .f32) κ "vanish" 3273654272#32) = 1#1 := by
  unfold_payloads
  pointwise
  rw [named_vanish, decide_eq_true]
  · rfl
  · exact (Finset.lt_fold_max _).mpr (.inr ⟨ix4 (0 : Fin 1) (0 : Fin 8) (0 : Fin 256) (0 : Fin 128), Finset.mem_filter.mpr ⟨Finset.mem_univ _, by
      funext a; apply Fin.ext; have h1 := (reduces_S1x8x256x128_S1.drop (ix4 (0 : Fin 1) (0 : Fin 8) (0 : Fin 256) (0 : Fin 128)) a).isLt
      have h2 : S1.size a = 1 := by fin_cases a; rfl
      have h3 := (ix1 (0 : Fin 1) a).isLt
      have h4 : (⟨1, ![1]⟩ : Shape).size a = 1 := by fin_cases a; rfl
      omega⟩, hv _⟩)

/-- The rows a loop tests are real numbers when the whole buffer holds them. -/
theorem load_real (M : Memref sig .tc .vmem S8x512x128 .f32) (f : M.view.ty.Contents (Elt Ideal)) (Q : Fin 8 → Fin 512 → Fin 128 → ℝ) (K : Fin 8 → ℕ → Fin 128 → ℝ) (n : ℕ) (s : ℕ → ℕ)
    (o : ℕ) (ho : o + 256 ≤ 512) (inb : ∀ a, (![0, o, 0] : Fin 3 → ℕ) a + S8x256x128.size a ≤ S8x512x128.size a)
    (hx : ∀ (g : Fin 8) (r : Fin 256) (l : Fin 128), M.view.read (Elt Ideal) f (ix3 g (sh ho r) l) = carSt Q K n s (ix3 g (sh ho r) l))
    (i : S8x256x128.Idx) :
    (⊥ : EReal) < M.view.readAt (Elt Ideal) (Rect.unit (s := S8x512x128) ![0, o, 0] S8x256x128.size inb).toLoadRect f i := by
  have key : ∀ (g : Fin 8) (r : Fin 256) (l : Fin 128), (⊥ : EReal) < M.view.readAt (Elt Ideal) (Rect.unit (s := S8x512x128) ![0, o, 0] S8x256x128.size inb).toLoadRect f (ix3 g r l) := fun g r l => by
    rw [View.readAt_apply]
    have e : (Rect.unit (s := S8x512x128) ![0, o, 0] S8x256x128.size inb).toLoadRect.idx (ix3 g r l)
        = ix3 g (sh ho r) l := by
      funext a; apply Fin.ext; fin_cases a <;> simp [ix3, LoadRect.idx, Rect.unit, sh]
    rw [e, hx, carSt_at]
    exact EReal.bot_lt_coe _
  exact (eq_ix3 i) ▸ key (i 0) (i 1) (i 2)

/-- Where the rows stand with `a` sweeps of the first 256 rows done and `b` of the last. -/
def pos (n a b : ℕ) (r : ℕ) : ℕ := if r < 256 then 256 * (2 * n - a) else 256 * (2 * n - b)

theorem pos_lo (n j b : ℕ) (hj : j < 2 * n) (r : Fin 256) : pos n j b (0 + r.val) = 256 * (2 * n - 1 - j) + 256 := by
  have := r.isLt; unfold pos; rw [if_pos (by omega)]; omega
theorem pos_lo' (n j b : ℕ) (hj : j < 2 * n) (r : Fin 256) : pos n (j + 1) b (0 + r.val) = 256 * (2 * n - 1 - j) := by
  have := r.isLt; unfold pos; rw [if_pos (by omega)]; omega
theorem pos_hi (n a j : ℕ) (hj : j < 2 * n) (r : Fin 256) : pos n a j (256 + r.val) = 256 * (2 * n - 1 - j) + 256 := by
  unfold pos; rw [if_neg (by omega)]; omega
theorem pos_hi' (n a j : ℕ) (hj : j < 2 * n) (r : Fin 256) : pos n a (j + 1) (256 + r.val) = 256 * (2 * n - 1 - j) := by
  unfold pos; rw [if_neg (by omega)]; omega

end Cert.KernelIdeal.Own

end
-- ==== Proof.Value.Diag.lean ====
/- The diagonal block of keys, head by head, and the last step of the body. -/
module

public import proofs.«01_k».proof.Proof.Value.State

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem keys_inb (n d : ℕ) (hn : n < 4) (hd : d ≤ 256) : 512 * n + d + 256 ≤ 2048 := by omega

/-- Where the rows stand before any key is met, -/
def st0s (n : ℕ) : ℕ → ℕ := fun _ => 512 * n + 512
/-- and with the diagonal block's last 256 keys met by the last 256 rows. -/
def st1s (n : ℕ) (r : ℕ) : ℕ := if r < 256 then 512 * n + 512 else 512 * n + 256

theorem st0s_hi (n : ℕ) (r : Fin 256) : st0s n (256 + r.val) = 512 * n + 256 + 256 := by unfold st0s; omega
theorem st1s_hi (n : ℕ) (r : Fin 256) : st1s n (256 + r.val) = 512 * n + 256 := by unfold st1s; rw [if_neg (by omega)]
theorem st1s_row (n : ℕ) (r : Fin 512) : st1s n r.val = 512 * n + 256 ∨ (512 * n + r.val ≤ st1s n r.val ∧ 512 * n + r.val ≤ 512 * n + 256) := by
  unfold st1s; by_cases h : r.val < 256
  · rw [if_pos h]; right; omega
  · rw [if_neg h]; left; rfl
theorem pos_zero (n : ℕ) (r : Fin 512) : pos n 0 0 r.val = 512 * n := by unfold pos; split <;> omega

section
variable {Q : Fin 8 → Fin 512 → Fin 128 → ℝ} {K V : Fin 8 → ℕ → Fin 128 → ℝ} (n : ℕ)

/-- The zero fill sets every row to the state before any key. -/
theorem fill_acc (M : Memref sig .tc .vmem S8x512x128 .f32) (f : M.view.ty.Contents (Elt Ideal)) (inb : ∀ a, (![0, 0, 0] : Fin 3 → ℕ) a + S8x512x128.size a ≤ S8x512x128.size a) :
    M.view.read (Elt Ideal) (M.view.writes (Elt Ideal) f [⟨Rect.unit (s := S8x512x128) ![0, 0, 0] S8x512x128.size inb, k0_pay2 (F := Ideal)⟩]) = accSt Q K V n (st0s n) := by
  funext y
  rw [View.read_writes_cons_unit_of_mem M.view f inb _ [] y y rfl (fun a => by fin_cases a <;> simp)]
  show _ = ((tk Q K V n (y 0) (y 1) (y 2) (512 * n + 512) : ℝ) : EReal)
  unfold tk
  rw [Cert.Stick.taken_end _ _ _ _ (by have : (y 1).val < 512 := (y 1).isLt; omega)]
  unfold_payloads
  pointwise
  try rfl
theorem fill_car (M : Memref sig .tc .vmem S8x512x128 .f32) (f : M.view.ty.Contents (Elt Ideal)) (inb : ∀ a, (![0, 0, 0] : Fin 3 → ℕ) a + S8x512x128.size a ≤ S8x512x128.size a) :
    M.view.read (Elt Ideal) (M.view.writes (Elt Ideal) f [⟨Rect.unit (s := S8x512x128) ![0, 0, 0] S8x512x128.size inb, k0_pay3 (F := Ideal)⟩]) = carSt Q K n (st0s n) := by
  funext y
  rw [View.read_writes_cons_unit_of_mem M.view f inb _ [] y y rfl (fun a => by fin_cases a <;> simp)]
  show _ = ((ps Q K n (y 0) (y 1) (512 * n + 512) : ℝ) : EReal)
  unfold ps
  rw [Cert.Stick.passed_end _ _ _ (by have : (y 1).val < 512 := (y 1).isLt; omega)]
  unfold_payloads
  pointwise
  try rfl
/-- The first 256 rows stand the same. -/
theorem st01_car (g : Fin 8) (r : Fin 512) (l : Fin 128) (h : r.val < 256) : carSt Q K n (st0s n) (ix3 g r l) = carSt Q K n (st1s n) (ix3 g r l) := by
  rw [carSt_at, carSt_at, show st0s n r.val = st1s n r.val from by unfold st0s st1s; rw [if_pos h]]
/-- The first 256 rows stand the same. -/
theorem st01_acc (g : Fin 8) (r : Fin 512) (l : Fin 128) (h : r.val < 256) : accSt Q K V n (st0s n) (ix3 g r l) = accSt Q K V n (st1s n) (ix3 g r l) := by
  rw [accSt_at, accSt_at, show st0s n r.val = st1s n r.val from by unfold st0s st1s; rw [if_pos h]]
end

/-! ## The last step -/

/-- The gate: a number times its logistic, in its half-angle form. -/
def gate (z : ℝ) : ℝ := 1 / 2 * z + 1 / 2 * z * Real.tanh (1 / 2 * z)

/-- What the body leaves in the output: the accumulators with every key met, gated. -/
def outSt (Q : Fin 8 → Fin 512 → Fin 128 → ℝ) (K V : Fin 8 → ℕ → Fin 128 → ℝ) (Z : Fin 8 → Fin 512 → Fin 128 → ℝ) (n : ℕ) : Vec Ideal S1x8x512x128 .bf16 :=
  fun i => ((tk Q K V n (i 1) (i 2) (i 3) 0 * gate (Z (i 1) (i 2) (i 3)) : ℝ) : EReal)

/-- The constant one half. -/
theorem half_f32 : Ideal.ofBits FTy.f32 0x3F000000#32 = (((1 / 2 : ℝ)) : EReal) := by
  simp [Ideal.ofBits, Ideal.ieee, -EReal.coe_mul]; norm_num

/-- One head's last step, at row `r` and lane `l`. -/
theorem epi_at (Z A : Fin 512 → Fin 128 → ℝ) (z : Vec Ideal S1x1x512x128 .bf16) (a : Vec Ideal S1x512x128 .f32)
    (hz : ∀ r d, z (ix4 0 0 r d) = ((Z r d : ℝ) : EReal)) (ha : ∀ r d, a (ix3 0 r d) = ((A r d : ℝ) : EReal)) (r : Fin 512) (l : Fin 128) :
    k0_pay181 z a (ix4 0 0 r l) = ((A r l * gate (Z r l) : ℝ) : EReal) := by
  unfold_payloads
  pointwise
  simp only [hz, ha]
  rw [half_f32]
  simp only [← EReal.coe_mul, Ideal.tanh_coe, ← EReal.coe_add]
  rfl

section
variable (M : Memref sig .tc .vmem S1x8x512x128 .bf16) (f : M.view.ty.Contents (Elt Ideal)) (y : Vec Ideal S1x8x512x128 .bf16)

/-- After the writes `L` the first `k` heads of the output read as `y`. -/
def Outs (k : ℕ) (L : List (View.Piece (Elt Ideal) S1x8x512x128 .bf16)) : Prop :=
  ∀ (g : Fin 8) (r : Fin 512) (l : Fin 128), g.val < k → M.view.read (Elt Ideal) (M.view.writes (Elt Ideal) f L) (ix4 0 g r l) = y (ix4 0 g r l)

theorem outs_nil : Outs M f y 0 [] := fun g r l h => absurd h (Nat.not_lt_zero _)

variable {M f y}
/-- Writing the next head's rows brings that head up to `y`. -/
theorem outs_cons {k : ℕ} {L : List (View.Piece (Elt Ideal) S1x8x512x128 .bf16)} (hk : k < 8)
    (inb : ∀ a, (![0, k, 0, 0] : Fin 4 → ℕ) a + (![1, 1, 512, 128] : Fin 4 → ℕ) a ≤ S1x8x512x128.size a)
    (w : (⟨4, ![1, 1, 512, 128]⟩ : Shape).Idx → EReal) (h : Outs M f y k L)
    (hw : ∀ (r : Fin 512) (l : Fin 128), w (ix4 0 0 r l) = y (ix4 0 ⟨k, hk⟩ r l)) :
    Outs M f y (k + 1) (⟨Rect.unit (s := S1x8x512x128) ![0, k, 0, 0] ![1, 1, 512, 128] inb, w⟩ :: L) := fun g r l hg => by
  by_cases he : g.val = k
  · rw [View.read_writes_cons_unit_of_mem M.view f inb w L (ix4 0 g r l) (ix4 (0 : Fin 1) (0 : Fin 1) r l) rfl
      (fun a => by fin_cases a <;> simp [ix4, he]), hw]
    congr 2
    exact Fin.ext he.symm
  · rw [View.read_writes_cons_unit_of_not_mem M.view f inb w L (ix4 0 g r l) rfl 1 (by simp [ix4]; omega)]
    exact h g r l (by omega)

/-- With all eight heads written the whole output reads as `y`. -/
theorem outs_done {L : List (View.Piece (Elt Ideal) S1x8x512x128 .bf16)} (h : Outs M f y 8 L) :
    M.view.read (Elt Ideal) (M.view.writes (Elt Ideal) f L) = y := by
  have key : ∀ (g : Fin 8) (r : Fin 512) (l : Fin 128), M.view.read (Elt Ideal) (M.view.writes (Elt Ideal) f L) (ix4 (0 : Fin 1) g r l) = y (ix4 (0 : Fin 1) g r l) := fun g r l => h g r l g.isLt
  funext i
  have e : i = ix4 (0 : Fin 1) (i 1) (i 2) (i 3) := (eq_ix4 i).trans (by rw [show i 0 = (0 : Fin 1) from Subsingleton.elim (α := Fin 1) _ _]; rfl)
  exact (congrArg _ e).trans ((key _ _ _).trans (congrArg y e).symm)
end

section
variable {Q : Fin 8 → Fin 512 → Fin 128 → ℝ} {K V : Fin 8 → ℕ → Fin 128 → ℝ} {Z : Fin 8 → Fin 512 → Fin 128 → ℝ} (n : ℕ)

/-- The last step, from the buffers: a head's block of the gate's argument, and its accumulators. -/
theorem last_step (x3 : Vec Ideal S1x8x512x128 .bf16) (hZ : ∀ (g : Fin 8) (r : Fin 512) (d : Fin 128), x3 (ix4 (0 : Fin 1) g r d) = ((Z g r d : ℝ) : EReal)) (g : Fin 8) (z : Vec Ideal S1x1x512x128 .bf16) (a : Vec Ideal S1x512x128 .f32)
    (hz : ∀ (r : Fin 512) (d : Fin 128), z (ix4 (0 : Fin 1) (0 : Fin 1) r d) = x3 (ix4 (0 : Fin 1) g (sh row0 r) d))
    (ha : ∀ (r : Fin 512) (l : Fin 128), a (ix3 (0 : Fin 1) r l) = accSt Q K V n (pos n (2 * n) (2 * n)) (ix3 g (sh row0 r) l)) (r : Fin 512) (l : Fin 128) :
    k0_pay181 z a (ix4 0 0 r l) = outSt Q K V Z n (ix4 0 g r l) := by
  rw [epi_at (Z g) (fun r l => tk Q K V n g r l 0) z a (fun r d => by rw [hz, zero_row, hZ]) (fun r d => by
    rw [ha, zero_row, accSt_at, show pos n (2 * n) (2 * n) r.val = 0 from by unfold pos; rw [Nat.sub_self, Nat.mul_zero, ite_self]])]
  rfl
end

section
variable {Q : Fin 8 → Fin 512 → Fin 128 → ℝ} {K V : Fin 8 → ℕ → Fin 128 → ℝ}
  {x0 : Vec Ideal S1x8x512x128 .bf16} {x1 x2 : Vec Ideal S1x8x2048x128 .bf16} {x4 : Vec Ideal S256x256 .bf16}
  (arg3 : Memref sig .tc .vmem S1x8x512x128 .bf16) (harg3 : arg3.IsWhole) (arg4 : Memref sig .tc .vmem S1x8x2048x128 .bf16) (harg4 : arg4.IsWhole) (arg5 : Memref sig .tc .vmem S1x8x2048x128 .bf16) (harg5 : arg5.IsWhole) (arg7 : Memref sig .tc .vmem S256x256 .bf16) (harg7 : arg7.IsWhole) (arg9 : Memref sig .tc .vmem S8x512x128 .f32) (arg10 : Memref sig .tc .vmem S8x512x128 .f32)
  (hR : Reals x0 x1 x2 x4 Q K V) (i : grid0.Coords)
  {L9 L10 : List (View.Piece (Elt Ideal) S8x512x128 .f32)}
include hR

/-- What the diagonal block leaves of head 0's accumulators, in the last 256 rows. -/
theorem diag1_acc0 (h9 : Sofar arg9 arg9.view.junk (accSt Q K V (i 2).val (st0s (i 2).val)) (accSt Q K V (i 2).val (st1s (i 2).val)) 256 256 0 L9)
    (h10 : Sofar arg10 arg10.view.junk (carSt Q K (i 2).val (st0s (i 2).val)) (carSt Q K (i 2).val (st1s (i 2).val)) 256 256 0 L10) (r : Fin 256) (l : Fin 128) :
    acc1 (View.readAt (Elt Ideal) arg3.view (Rect.unit (s := S1x8x512x128) ![0, 0, 256, 0] S1x1x256x128.size (by decide)).toLoadRect (harg3.unread x0))
      (View.readAt (Elt Ideal) arg4.view (Rect.unit (s := S1x8x2048x128) (k0_off1 i 256#32) S1x1x256x128.size (k0_off1_inb i 1)).toLoadRect (harg4.unread x1))
      (View.readAt (Elt Ideal) arg5.view (Rect.unit (s := S1x8x2048x128) (k0_off1 i 256#32) S1x1x256x128.size (k0_off1_inb i 1)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![0, 256, 0] S1x256x128.size (by decide)).toLoadRect (arg10.view.writes (Elt Ideal) arg10.view.junk L10))
      (View.readAt (Elt Ideal) arg9.view (Rect.unit (s := S8x512x128) ![0, 256, 0] S1x256x128.size (by decide)).toLoadRect (arg9.view.writes (Elt Ideal) arg9.view.junk L9))
      (ix3 0 r l) = accSt Q K V (i 2).val (st1s (i 2).val) (ix3 0 (sh (show 256 + 256 ≤ 512 by decide) r) l) :=
  diag1_acc hR (i 2).val 0 (512 * (i 2).val + 256) (keys_inb (i 2).val 256 (i 2).isLt (by decide)) (st0s (i 2).val) (st1s (i 2).val) _ _ _ (load4 arg4 harg4 x1 0 (512 * (i 2).val + 256) 256 (keys_inb (i 2).val 256 (i 2).isLt (by decide)) _ (k0_off1_eq i 1) _)
    (load4 arg5 harg5 x2 0 (512 * (i 2).val + 256) 256 (keys_inb (i 2).val 256 (i 2).isLt (by decide)) _ (k0_off1_eq i 1) _) (load2 arg7 harg7 x4 _) 256 (by decide) _ _ _ (load4 arg3 harg3 x0 0 256 256 (by decide) _ rfl _)
    (sofar_load (by decide) h10 (by decide) (by decide)) (sofar_load (by decide) h9 (by decide) (by decide)) (st0s_hi (i 2).val) (st1s_hi (i 2).val) rfl r l

/-- What the diagonal block leaves of head 1's accumulators, in the last 256 rows. -/
theorem diag1_acc1 (h9 : Sofar arg9 arg9.view.junk (accSt Q K V (i 2).val (st0s (i 2).val)) (accSt Q K V (i 2).val (st1s (i 2).val)) 256 256 1 L9)
    (h10 : Sofar arg10 arg10.view.junk (carSt Q K (i 2).val (st0s (i 2).val)) (carSt Q K (i 2).val (st1s (i 2).val)) 256 256 1 L10) (r : Fin 256) (l : Fin 128) :
    acc1 (View.readAt (Elt Ideal) arg3.view (Rect.unit (s := S1x8x512x128) ![0, 1, 256, 0] S1x1x256x128.size (by decide)).toLoadRect (harg3.unread x0))
      (View.readAt (Elt Ideal) arg4.view (Rect.unit (s := S1x8x2048x128) (k0_off2 i 256#32) S1x1x256x128.size (k0_off2_inb i 1)).toLoadRect (harg4.unread x1))
      (View.readAt (Elt Ideal) arg5.view (Rect.unit (s := S1x8x2048x128) (k0_off2 i 256#32) S1x1x256x128.size (k0_off2_inb i 1)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![1, 256, 0] S1x256x128.size (by decide)).toLoadRect (arg10.view.writes (Elt Ideal) arg10.view.junk L10))
      (View.readAt (Elt Ideal) arg9.view (Rect.unit (s := S8x512x128) ![1, 256, 0] S1x256x128.size (by decide)).toLoadRect (arg9.view.writes (Elt Ideal) arg9.view.junk L9))
      (ix3 0 r l) = accSt Q K V (i 2).val (st1s (i 2).val) (ix3 1 (sh (show 256 + 256 ≤ 512 by decide) r) l) :=
  diag1_acc hR (i 2).val 1 (512 * (i 2).val + 256) (keys_inb (i 2).val 256 (i 2).isLt (by decide)) (st0s (i 2).val) (st1s (i 2).val) _ _ _ (load4 arg4 harg4 x1 1 (512 * (i 2).val + 256) 256 (keys_inb (i 2).val 256 (i 2).isLt (by decide)) _ (k0_off2_eq i 1) _)
    (load4 arg5 harg5 x2 1 (512 * (i 2).val + 256) 256 (keys_inb (i 2).val 256 (i 2).isLt (by decide)) _ (k0_off2_eq i 1) _) (load2 arg7 harg7 x4 _) 256 (by decide) _ _ _ (load4 arg3 harg3 x0 1 256 256 (by decide) _ rfl _)
    (sofar_load (by decide) h10 (by decide) (by decide)) (sofar_load (by decide) h9 (by decide) (by decide)) (st0s_hi (i 2).val) (st1s_hi (i 2).val) rfl r l

/-- What the diagonal block leaves of head 2's accumulators, in the last 256 rows. -/
theorem diag1_acc2 (h9 : Sofar arg9 arg9.view.junk (accSt Q K V (i 2).val (st0s (i 2).val)) (accSt Q K V (i 2).val (st1s (i 2).val)) 256 256 2 L9)
    (h10 : Sofar arg10 arg10.view.junk (carSt Q K (i 2).val (st0s (i 2).val)) (carSt Q K (i 2).val (st1s (i 2).val)) 256 256 2 L10) (r : Fin 256) (l : Fin 128) :
    acc1 (View.readAt (Elt Ideal) arg3.view (Rect.unit (s := S1x8x512x128) ![0, 2, 256, 0] S1x1x256x128.size (by decide)).toLoadRect (harg3.unread x0))
      (View.readAt (Elt Ideal) arg4.view (Rect.unit (s := S1x8x2048x128) (k0_off3 i 256#32) S1x1x256x128.size (k0_off3_inb i 1)).toLoadRect (harg4.unread x1))
      (View.readAt (Elt Ideal) arg5.view (Rect.unit (s := S1x8x2048x128) (k0_off3 i 256#32) S1x1x256x128.size (k0_off3_inb i 1)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![2, 256, 0] S1x256x128.size (by decide)).toLoadRect (arg10.view.writes (Elt Ideal) arg10.view.junk L10))
      (View.readAt (Elt Ideal) arg9.view (Rect.unit (s := S8x512x128) ![2, 256, 0] S1x256x128.size (by decide)).toLoadRect (arg9.view.writes (Elt Ideal) arg9.view.junk L9))
      (ix3 0 r l) = accSt Q K V (i 2).val (st1s (i 2).val) (ix3 2 (sh (show 256 + 256 ≤ 512 by decide) r) l) :=
  diag1_acc hR (i 2).val 2 (512 * (i 2).val + 256) (keys_inb (i 2).val 256 (i 2).isLt (by decide)) (st0s (i 2).val) (st1s (i 2).val) _ _ _ (load4 arg4 harg4 x1 2 (512 * (i 2).val + 256) 256 (keys_inb (i 2).val 256 (i 2).isLt (by decide)) _ (k0_off3_eq i 1) _)
    (load4 arg5 harg5 x2 2 (512 * (i 2).val + 256) 256 (keys_inb (i 2).val 256 (i 2).isLt (by decide)) _ (k0_off3_eq i 1) _) (load2 arg7 harg7 x4 _) 256 (by decide) _ _ _ (load4 arg3 harg3 x0 2 256 256 (by decide) _ rfl _)
    (sofar_load (by decide) h10 (by decide) (by decide)) (sofar_load (by decide) h9 (by decide) (by decide)) (st0s_hi (i 2).val) (st1s_hi (i 2).val) rfl r l

/-- What the diagonal block leaves of head 3's accumulators, in the last 256 rows. -/
theorem diag1_acc3 (h9 : Sofar arg9 arg9.view.junk (accSt Q K V (i 2).val (st0s (i 2).val)) (accSt Q K V (i 2).val (st1s (i 2).val)) 256 256 3 L9)
    (h10 : Sofar arg10 arg10.view.junk (carSt Q K (i 2).val (st0s (i 2).val)) (carSt Q K (i 2).val (st1s (i 2).val)) 256 256 3 L10) (r : Fin 256) (l : Fin 128) :
    acc1 (View.readAt (Elt Ideal) arg3.view (Rect.unit (s := S1x8x512x128) ![0, 3, 256, 0] S1x1x256x128.size (by decide)).toLoadRect (harg3.unread x0))
      (View.readAt (Elt Ideal) arg4.view (Rect.unit (s := S1x8x2048x128) (k0_off4 i 256#32) S1x1x256x128.size (k0_off4_inb i 1)).toLoadRect (harg4.unread x1))
      (View.readAt (Elt Ideal) arg5.view (Rect.unit (s := S1x8x2048x128) (k0_off4 i 256#32) S1x1x256x128.size (k0_off4_inb i 1)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![3, 256, 0] S1x256x128.size (by decide)).toLoadRect (arg10.view.writes (Elt Ideal) arg10.view.junk L10))
      (View.readAt (Elt Ideal) arg9.view (Rect.unit (s := S8x512x128) ![3, 256, 0] S1x256x128.size (by decide)).toLoadRect (arg9.view.writes (Elt Ideal) arg9.view.junk L9))
      (ix3 0 r l) = accSt Q K V (i 2).val (st1s (i 2).val) (ix3 3 (sh (show 256 + 256 ≤ 512 by decide) r) l) :=
  diag1_acc hR (i 2).val 3 (512 * (i 2).val + 256) (keys_inb (i 2).val 256 (i 2).isLt (by decide)) (st0s (i 2).val) (st1s (i 2).val) _ _ _ (load4 arg4 harg4 x1 3 (512 * (i 2).val + 256) 256 (keys_inb (i 2).val 256 (i 2).isLt (by decide)) _ (k0_off4_eq i 1) _)
    (load4 arg5 harg5 x2 3 (512 * (i 2).val + 256) 256 (keys_inb (i 2).val 256 (i 2).isLt (by decide)) _ (k0_off4_eq i 1) _) (load2 arg7 harg7 x4 _) 256 (by decide) _ _ _ (load4 arg3 harg3 x0 3 256 256 (by decide) _ rfl _)
    (sofar_load (by decide) h10 (by decide) (by decide)) (sofar_load (by decide) h9 (by decide) (by decide)) (st0s_hi (i 2).val) (st1s_hi (i 2).val) rfl r l

/-- What the diagonal block leaves of head 4's accumulators, in the last 256 rows. -/
theorem diag1_acc4 (h9 : Sofar arg9 arg9.view.junk (accSt Q K V (i 2).val (st0s (i 2).val)) (accSt Q K V (i 2).val (st1s (i 2).val)) 256 256 4 L9)
    (h10 : Sofar arg10 arg10.view.junk (carSt Q K (i 2).val (st0s (i 2).val)) (carSt Q K (i 2).val (st1s (i 2).val)) 256 256 4 L10) (r : Fin 256) (l : Fin 128) :
    acc1 (View.readAt (Elt Ideal) arg3.view (Rect.unit (s := S1x8x512x128) ![0, 4, 256, 0] S1x1x256x128.size (by decide)).toLoadRect (harg3.unread x0))
      (View.readAt (Elt Ideal) arg4.view (Rect.unit (s := S1x8x2048x128) (k0_off5 i 256#32) S1x1x256x128.size (k0_off5_inb i 1)).toLoadRect (harg4.unread x1))
      (View.readAt (Elt Ideal) arg5.view (Rect.unit (s := S1x8x2048x128) (k0_off5 i 256#32) S1x1x256x128.size (k0_off5_inb i 1)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![4, 256, 0] S1x256x128.size (by decide)).toLoadRect (arg10.view.writes (Elt Ideal) arg10.view.junk L10))
      (View.readAt (Elt Ideal) arg9.view (Rect.unit (s := S8x512x128) ![4, 256, 0] S1x256x128.size (by decide)).toLoadRect (arg9.view.writes (Elt Ideal) arg9.view.junk L9))
      (ix3 0 r l) = accSt Q K V (i 2).val (st1s (i 2).val) (ix3 4 (sh (show 256 + 256 ≤ 512 by decide) r) l) :=
  diag1_acc hR (i 2).val 4 (512 * (i 2).val + 256) (keys_inb (i 2).val 256 (i 2).isLt (by decide)) (st0s (i 2).val) (st1s (i 2).val) _ _ _ (load4 arg4 harg4 x1 4 (512 * (i 2).val + 256) 256 (keys_inb (i 2).val 256 (i 2).isLt (by decide)) _ (k0_off5_eq i 1) _)
    (load4 arg5 harg5 x2 4 (512 * (i 2).val + 256) 256 (keys_inb (i 2).val 256 (i 2).isLt (by decide)) _ (k0_off5_eq i 1) _) (load2 arg7 harg7 x4 _) 256 (by decide) _ _ _ (load4 arg3 harg3 x0 4 256 256 (by decide) _ rfl _)
    (sofar_load (by decide) h10 (by decide) (by decide)) (sofar_load (by decide) h9 (by decide) (by decide)) (st0s_hi (i 2).val) (st1s_hi (i 2).val) rfl r l

/-- What the diagonal block leaves of head 5's accumulators, in the last 256 rows. -/
theorem diag1_acc5 (h9 : Sofar arg9 arg9.view.junk (accSt Q K V (i 2).val (st0s (i 2).val)) (accSt Q K V (i 2).val (st1s (i 2).val)) 256 256 5 L9)
    (h10 : Sofar arg10 arg10.view.junk (carSt Q K (i 2).val (st0s (i 2).val)) (carSt Q K (i 2).val (st1s (i 2).val)) 256 256 5 L10) (r : Fin 256) (l : Fin 128) :
    acc1 (View.readAt (Elt Ideal) arg3.view (Rect.unit (s := S1x8x512x128) ![0, 5, 256, 0] S1x1x256x128.size (by decide)).toLoadRect (harg3.unread x0))
      (View.readAt (Elt Ideal) arg4.view (Rect.unit (s := S1x8x2048x128) (k0_off6 i 256#32) S1x1x256x128.size (k0_off6_inb i 1)).toLoadRect (harg4.unread x1))
      (View.readAt (Elt Ideal) arg5.view (Rect.unit (s := S1x8x2048x128) (k0_off6 i 256#32) S1x1x256x128.size (k0_off6_inb i 1)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![5, 256, 0] S1x256x128.size (by decide)).toLoadRect (arg10.view.writes (Elt Ideal) arg10.view.junk L10))
      (View.readAt (Elt Ideal) arg9.view (Rect.unit (s := S8x512x128) ![5, 256, 0] S1x256x128.size (by decide)).toLoadRect (arg9.view.writes (Elt Ideal) arg9.view.junk L9))
      (ix3 0 r l) = accSt Q K V (i 2).val (st1s (i 2).val) (ix3 5 (sh (show 256 + 256 ≤ 512 by decide) r) l) :=
  diag1_acc hR (i 2).val 5 (512 * (i 2).val + 256) (keys_inb (i 2).val 256 (i 2).isLt (by decide)) (st0s (i 2).val) (st1s (i 2).val) _ _ _ (load4 arg4 harg4 x1 5 (512 * (i 2).val + 256) 256 (keys_inb (i 2).val 256 (i 2).isLt (by decide)) _ (k0_off6_eq i 1) _)
    (load4 arg5 harg5 x2 5 (512 * (i 2).val + 256) 256 (keys_inb (i 2).val 256 (i 2).isLt (by decide)) _ (k0_off6_eq i 1) _) (load2 arg7 harg7 x4 _) 256 (by decide) _ _ _ (load4 arg3 harg3 x0 5 256 256 (by decide) _ rfl _)
    (sofar_load (by decide) h10 (by decide) (by decide)) (sofar_load (by decide) h9 (by decide) (by decide)) (st0s_hi (i 2).val) (st1s_hi (i 2).val) rfl r l

/-- What the diagonal block leaves of head 6's accumulators, in the last 256 rows. -/
theorem diag1_acc6 (h9 : Sofar arg9 arg9.view.junk (accSt Q K V (i 2).val (st0s (i 2).val)) (accSt Q K V (i 2).val (st1s (i 2).val)) 256 256 6 L9)
    (h10 : Sofar arg10 arg10.view.junk (carSt Q K (i 2).val (st0s (i 2).val)) (carSt Q K (i 2).val (st1s (i 2).val)) 256 256 6 L10) (r : Fin 256) (l : Fin 128) :
    acc1 (View.readAt (Elt Ideal) arg3.view (Rect.unit (s := S1x8x512x128) ![0, 6, 256, 0] S1x1x256x128.size (by decide)).toLoadRect (harg3.unread x0))
      (View.readAt (Elt Ideal) arg4.view (Rect.unit (s := S1x8x2048x128) (k0_off7 i 256#32) S1x1x256x128.size (k0_off7_inb i 1)).toLoadRect (harg4.unread x1))
      (View.readAt (Elt Ideal) arg5.view (Rect.unit (s := S1x8x2048x128) (k0_off7 i 256#32) S1x1x256x128.size (k0_off7_inb i 1)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![6, 256, 0] S1x256x128.size (by decide)).toLoadRect (arg10.view.writes (Elt Ideal) arg10.view.junk L10))
      (View.readAt (Elt Ideal) arg9.view (Rect.unit (s := S8x512x128) ![6, 256, 0] S1x256x128.size (by decide)).toLoadRect (arg9.view.writes (Elt Ideal) arg9.view.junk L9))
      (ix3 0 r l) = accSt Q K V (i 2).val (st1s (i 2).val) (ix3 6 (sh (show 256 + 256 ≤ 512 by decide) r) l) :=
  diag1_acc hR (i 2).val 6 (512 * (i 2).val + 256) (keys_inb (i 2).val 256 (i 2).isLt (by decide)) (st0s (i 2).val) (st1s (i 2).val) _ _ _ (load4 arg4 harg4 x1 6 (512 * (i 2).val + 256) 256 (keys_inb (i 2).val 256 (i 2).isLt (by decide)) _ (k0_off7_eq i 1) _)
    (load4 arg5 harg5 x2 6 (512 * (i 2).val + 256) 256 (keys_inb (i 2).val 256 (i 2).isLt (by decide)) _ (k0_off7_eq i 1) _) (load2 arg7 harg7 x4 _) 256 (by decide) _ _ _ (load4 arg3 harg3 x0 6 256 256 (by decide) _ rfl _)
    (sofar_load (by decide) h10 (by decide) (by decide)) (sofar_load (by decide) h9 (by decide) (by decide)) (st0s_hi (i 2).val) (st1s_hi (i 2).val) rfl r l

/-- What the diagonal block leaves of head 7's accumulators, in the last 256 rows. -/
theorem diag1_acc7 (h9 : Sofar arg9 arg9.view.junk (accSt Q K V (i 2).val (st0s (i 2).val)) (accSt Q K V (i 2).val (st1s (i 2).val)) 256 256 7 L9)
    (h10 : Sofar arg10 arg10.view.junk (carSt Q K (i 2).val (st0s (i 2).val)) (carSt Q K (i 2).val (st1s (i 2).val)) 256 256 7 L10) (r : Fin 256) (l : Fin 128) :
    acc1 (View.readAt (Elt Ideal) arg3.view (Rect.unit (s := S1x8x512x128) ![0, 7, 256, 0] S1x1x256x128.size (by decide)).toLoadRect (harg3.unread x0))
      (View.readAt (Elt Ideal) arg4.view (Rect.unit (s := S1x8x2048x128) (k0_off8 i 256#32) S1x1x256x128.size (k0_off8_inb i 1)).toLoadRect (harg4.unread x1))
      (View.readAt (Elt Ideal) arg5.view (Rect.unit (s := S1x8x2048x128) (k0_off8 i 256#32) S1x1x256x128.size (k0_off8_inb i 1)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![7, 256, 0] S1x256x128.size (by decide)).toLoadRect (arg10.view.writes (Elt Ideal) arg10.view.junk L10))
      (View.readAt (Elt Ideal) arg9.view (Rect.unit (s := S8x512x128) ![7, 256, 0] S1x256x128.size (by decide)).toLoadRect (arg9.view.writes (Elt Ideal) arg9.view.junk L9))
      (ix3 0 r l) = accSt Q K V (i 2).val (st1s (i 2).val) (ix3 7 (sh (show 256 + 256 ≤ 512 by decide) r) l) :=
  diag1_acc hR (i 2).val 7 (512 * (i 2).val + 256) (keys_inb (i 2).val 256 (i 2).isLt (by decide)) (st0s (i 2).val) (st1s (i 2).val) _ _ _ (load4 arg4 harg4 x1 7 (512 * (i 2).val + 256) 256 (keys_inb (i 2).val 256 (i 2).isLt (by decide)) _ (k0_off8_eq i 1) _)
    (load4 arg5 harg5 x2 7 (512 * (i 2).val + 256) 256 (keys_inb (i 2).val 256 (i 2).isLt (by decide)) _ (k0_off8_eq i 1) _) (load2 arg7 harg7 x4 _) 256 (by decide) _ _ _ (load4 arg3 harg3 x0 7 256 256 (by decide) _ rfl _)
    (sofar_load (by decide) h10 (by decide) (by decide)) (sofar_load (by decide) h9 (by decide) (by decide)) (st0s_hi (i 2).val) (st1s_hi (i 2).val) rfl r l

/-- And of its running sums. -/
theorem diag1_car0 (h10 : Sofar arg10 arg10.view.junk (carSt Q K (i 2).val (st0s (i 2).val)) (carSt Q K (i 2).val (st1s (i 2).val)) 256 256 0 L10) (r : Fin 256) (l : Fin 128) :
    car1 (View.readAt (Elt Ideal) arg3.view (Rect.unit (s := S1x8x512x128) ![0, 0, 256, 0] S1x1x256x128.size (by decide)).toLoadRect (harg3.unread x0))
      (View.readAt (Elt Ideal) arg4.view (Rect.unit (s := S1x8x2048x128) (k0_off1 i 256#32) S1x1x256x128.size (k0_off1_inb i 1)).toLoadRect (harg4.unread x1))
      (View.readAt (Elt Ideal) arg10.view (Rect.unit (s := S8x512x128) ![0, 256, 0] S1x256x128.size (by decide)).toLoadRect (arg10.view.writes (Elt Ideal) arg10.view.junk L10))
      (ix3 0 r l) = carSt Q K (i 2).val (st1s (i 2).val) (ix3 0 (sh (show 256 + 256 ≤ 512 by decide) r) l) :=
  diag1_car hR (i 2).val 0 (512 * (i 2).val + 256) (keys_inb (i 2).val 256 (i 2).isLt (by decide)) (st0s (i 2).val) (st1s (i 2).val) _ (load4 arg4 harg4 x1 0 (512 * (i 2).val + 256) 256 (keys_inb (i 2).val 256 (i 2).isLt (by decide)) _ (k0_off1_eq i 1) _)
    256 (by decide) _ _ (load4 arg3 harg3 x0 0 256 256 (by decide) _ rfl _)
    (sofar_load (by decide) h10 (by decide) (by decide)) (st0s_hi (i 2).val) (st1s_hi (i 2).val) rfl r l

/-- And of its running sums. -/
theorem diag1_car1 (h10 : Sofar arg10 arg10.view.junk (carSt Q K (i 2).val (st0s (i 2).val)) (carSt Q K (i 2).val (st1s (i 2).val)) 256 256 1 L10) (r : Fin 256) (l : Fin 128) :
    car1 (View.readAt (Elt Ideal) arg3.view (Rect.unit (s := S1x8x512x128) ![0, 1, 256, 0] S1x1x256x128.size (by decide)).toLoadRect (harg3.unread x0))
      (View.readAt (Elt Ideal) arg4.view (Rect.unit (s := S1x8x2048x128) (k0_off2 i 256#32) S1x1x256x128.size (k0_off2_inb i 1)).toLoadRect (harg4.unread x1))
      (View.readAt (Elt Ideal) arg10.view (Rect.unit (s := S8x512x128) ![1, 256, 0] S1x256x128.size (by decide)).toLoadRect (arg10.view.writes (Elt Ideal) arg10.view.junk L10))
      (ix3 0 r l) = carSt Q K (i 2).val (st1s (i 2).val) (ix3 1 (sh (show 256 + 256 ≤ 512 by decide) r) l) :=
  diag1_car hR (i 2).val 1 (512 * (i 2).val + 256) (keys_inb (i 2).val 256 (i 2).isLt (by decide)) (st0s (i 2).val) (st1s (i 2).val) _ (load4 arg4 harg4 x1 1 (512 * (i 2).val + 256) 256 (keys_inb (i 2).val 256 (i 2).isLt (by decide)) _ (k0_off2_eq i 1) _)
    256 (by decide) _ _ (load4 arg3 harg3 x0 1 256 256 (by decide) _ rfl _)
    (sofar_load (by decide) h10 (by decide) (by decide)) (st0s_hi (i 2).val) (st1s_hi (i 2).val) rfl r l

/-- And of its running sums. -/
theorem diag1_car2 (h10 : Sofar arg10 arg10.view.junk (carSt Q K (i 2).val (st0s (i 2).val)) (carSt Q K (i 2).val (st1s (i 2).val)) 256 256 2 L10) (r : Fin 256) (l : Fin 128) :
    car1 (View.readAt (Elt Ideal) arg3.view (Rect.unit (s := S1x8x512x128) ![0, 2, 256, 0] S1x1x256x128.size (by decide)).toLoadRect (harg3.unread x0))
      (View.readAt (Elt Ideal) arg4.view (Rect.unit (s := S1x8x2048x128) (k0_off3 i 256#32) S1x1x256x128.size (k0_off3_inb i 1)).toLoadRect (harg4.unread x1))
      (View.readAt (Elt Ideal) arg10.view (Rect.unit (s := S8x512x128) ![2, 256, 0] S1x256x128.size (by decide)).toLoadRect (arg10.view.writes (Elt Ideal) arg10.view.junk L10))
      (ix3 0 r l) = carSt Q K (i 2).val (st1s (i 2).val) (ix3 2 (sh (show 256 + 256 ≤ 512 by decide) r) l) :=
  diag1_car hR (i 2).val 2 (512 * (i 2).val + 256) (keys_inb (i 2).val 256 (i 2).isLt (by decide)) (st0s (i 2).val) (st1s (i 2).val) _ (load4 arg4 harg4 x1 2 (512 * (i 2).val + 256) 256 (keys_inb (i 2).val 256 (i 2).isLt (by decide)) _ (k0_off3_eq i 1) _)
    256 (by decide) _ _ (load4 arg3 harg3 x0 2 256 256 (by decide) _ rfl _)
    (sofar_load (by decide) h10 (by decide) (by decide)) (st0s_hi (i 2).val) (st1s_hi (i 2).val) rfl r l

/-- And of its running sums. -/
theorem diag1_car3 (h10 : Sofar arg10 arg10.view.junk (carSt Q K (i 2).val (st0s (i 2).val)) (carSt Q K (i 2).val (st1s (i 2).val)) 256 256 3 L10) (r : Fin 256) (l : Fin 128) :
    car1 (View.readAt (Elt Ideal) arg3.view (Rect.unit (s := S1x8x512x128) ![0, 3, 256, 0] S1x1x256x128.size (by decide)).toLoadRect (harg3.unread x0))
      (View.readAt (Elt Ideal) arg4.view (Rect.unit (s := S1x8x2048x128) (k0_off4 i 256#32) S1x1x256x128.size (k0_off4_inb i 1)).toLoadRect (harg4.unread x1))
      (View.readAt (Elt Ideal) arg10.view (Rect.unit (s := S8x512x128) ![3, 256, 0] S1x256x128.size (by decide)).toLoadRect (arg10.view.writes (Elt Ideal) arg10.view.junk L10))
      (ix3 0 r l) = carSt Q K (i 2).val (st1s (i 2).val) (ix3 3 (sh (show 256 + 256 ≤ 512 by decide) r) l) :=
  diag1_car hR (i 2).val 3 (512 * (i 2).val + 256) (keys_inb (i 2).val 256 (i 2).isLt (by decide)) (st0s (i 2).val) (st1s (i 2).val) _ (load4 arg4 harg4 x1 3 (512 * (i 2).val + 256) 256 (keys_inb (i 2).val 256 (i 2).isLt (by decide)) _ (k0_off4_eq i 1) _)
    256 (by decide) _ _ (load4 arg3 harg3 x0 3 256 256 (by decide) _ rfl _)
    (sofar_load (by decide) h10 (by decide) (by decide)) (st0s_hi (i 2).val) (st1s_hi (i 2).val) rfl r l

/-- And of its running sums. -/
theorem diag1_car4 (h10 : Sofar arg10 arg10.view.junk (carSt Q K (i 2).val (st0s (i 2).val)) (carSt Q K (i 2).val (st1s (i 2).val)) 256 256 4 L10) (r : Fin 256) (l : Fin 128) :
    car1 (View.readAt (Elt Ideal) arg3.view (Rect.unit (s := S1x8x512x128) ![0, 4, 256, 0] S1x1x256x128.size (by decide)).toLoadRect (harg3.unread x0))
      (View.readAt (Elt Ideal) arg4.view (Rect.unit (s := S1x8x2048x128) (k0_off5 i 256#32) S1x1x256x128.size (k0_off5_inb i 1)).toLoadRect (harg4.unread x1))
      (View.readAt (Elt Ideal) arg10.view (Rect.unit (s := S8x512x128) ![4, 256, 0] S1x256x128.size (by decide)).toLoadRect (arg10.view.writes (Elt Ideal) arg10.view.junk L10))
      (ix3 0 r l) = carSt Q K (i 2).val (st1s (i 2).val) (ix3 4 (sh (show 256 + 256 ≤ 512 by decide) r) l) :=
  diag1_car hR (i 2).val 4 (512 * (i 2).val + 256) (keys_inb (i 2).val 256 (i 2).isLt (by decide)) (st0s (i 2).val) (st1s (i 2).val) _ (load4 arg4 harg4 x1 4 (512 * (i 2).val + 256) 256 (keys_inb (i 2).val 256 (i 2).isLt (by decide)) _ (k0_off5_eq i 1) _)
    256 (by decide) _ _ (load4 arg3 harg3 x0 4 256 256 (by decide) _ rfl _)
    (sofar_load (by decide) h10 (by decide) (by decide)) (st0s_hi (i 2).val) (st1s_hi (i 2).val) rfl r l

/-- And of its running sums. -/
theorem diag1_car5 (h10 : Sofar arg10 arg10.view.junk (carSt Q K (i 2).val (st0s (i 2).val)) (carSt Q K (i 2).val (st1s (i 2).val)) 256 256 5 L10) (r : Fin 256) (l : Fin 128) :
    car1 (View.readAt (Elt Ideal) arg3.view (Rect.unit (s := S1x8x512x128) ![0, 5, 256, 0] S1x1x256x128.size (by decide)).toLoadRect (harg3.unread x0))
      (View.readAt (Elt Ideal) arg4.view (Rect.unit (s := S1x8x2048x128) (k0_off6 i 256#32) S1x1x256x128.size (k0_off6_inb i 1)).toLoadRect (harg4.unread x1))
      (View.readAt (Elt Ideal) arg10.view (Rect.unit (s := S8x512x128) ![5, 256, 0] S1x256x128.size (by decide)).toLoadRect (arg10.view.writes (Elt Ideal) arg10.view.junk L10))
      (ix3 0 r l) = carSt Q K (i 2).val (st1s (i 2).val) (ix3 5 (sh (show 256 + 256 ≤ 512 by decide) r) l) :=
  diag1_car hR (i 2).val 5 (512 * (i 2).val + 256) (keys_inb (i 2).val 256 (i 2).isLt (by decide)) (st0s (i 2).val) (st1s (i 2).val) _ (load4 arg4 harg4 x1 5 (512 * (i 2).val + 256) 256 (keys_inb (i 2).val 256 (i 2).isLt (by decide)) _ (k0_off6_eq i 1) _)
    256 (by decide) _ _ (load4 arg3 harg3 x0 5 256 256 (by decide) _ rfl _)
    (sofar_load (by decide) h10 (by decide) (by decide)) (st0s_hi (i 2).val) (st1s_hi (i 2).val) rfl r l

/-- And of its running sums. -/
theorem diag1_car6 (h10 : Sofar arg10 arg10.view.junk (carSt Q K (i 2).val (st0s (i 2).val)) (carSt Q K (i 2).val (st1s (i 2).val)) 256 256 6 L10) (r : Fin 256) (l : Fin 128) :
    car1 (View.readAt (Elt Ideal) arg3.view (Rect.unit (s := S1x8x512x128) ![0, 6, 256, 0] S1x1x256x128.size (by decide)).toLoadRect (harg3.unread x0))
      (View.readAt (Elt Ideal) arg4.view (Rect.unit (s := S1x8x2048x128) (k0_off7 i 256#32) S1x1x256x128.size (k0_off7_inb i 1)).toLoadRect (harg4.unread x1))
      (View.readAt (Elt Ideal) arg10.view (Rect.unit (s := S8x512x128) ![6, 256, 0] S1x256x128.size (by decide)).toLoadRect (arg10.view.writes (Elt Ideal) arg10.view.junk L10))
      (ix3 0 r l) = carSt Q K (i 2).val (st1s (i 2).val) (ix3 6 (sh (show 256 + 256 ≤ 512 by decide) r) l) :=
  diag1_car hR (i 2).val 6 (512 * (i 2).val + 256) (keys_inb (i 2).val 256 (i 2).isLt (by decide)) (st0s (i 2).val) (st1s (i 2).val) _ (load4 arg4 harg4 x1 6 (512 * (i 2).val + 256) 256 (keys_inb (i 2).val 256 (i 2).isLt (by decide)) _ (k0_off7_eq i 1) _)
    256 (by decide) _ _ (load4 arg3 harg3 x0 6 256 256 (by decide) _ rfl _)
    (sofar_load (by decide) h10 (by decide) (by decide)) (st0s_hi (i 2).val) (st1s_hi (i 2).val) rfl r l

/-- And of its running sums. -/
theorem diag1_car7 (h10 : Sofar arg10 arg10.view.junk (carSt Q K (i 2).val (st0s (i 2).val)) (carSt Q K (i 2).val (st1s (i 2).val)) 256 256 7 L10) (r : Fin 256) (l : Fin 128) :
    car1 (View.readAt (Elt Ideal) arg3.view (Rect.unit (s := S1x8x512x128) ![0, 7, 256, 0] S1x1x256x128.size (by decide)).toLoadRect (harg3.unread x0))
      (View.readAt (Elt Ideal) arg4.view (Rect.unit (s := S1x8x2048x128) (k0_off8 i 256#32) S1x1x256x128.size (k0_off8_inb i 1)).toLoadRect (harg4.unread x1))
      (View.readAt (Elt Ideal) arg10.view (Rect.unit (s := S8x512x128) ![7, 256, 0] S1x256x128.size (by decide)).toLoadRect (arg10.view.writes (Elt Ideal) arg10.view.junk L10))
      (ix3 0 r l) = carSt Q K (i 2).val (st1s (i 2).val) (ix3 7 (sh (show 256 + 256 ≤ 512 by decide) r) l) :=
  diag1_car hR (i 2).val 7 (512 * (i 2).val + 256) (keys_inb (i 2).val 256 (i 2).isLt (by decide)) (st0s (i 2).val) (st1s (i 2).val) _ (load4 arg4 harg4 x1 7 (512 * (i 2).val + 256) 256 (keys_inb (i 2).val 256 (i 2).isLt (by decide)) _ (k0_off8_eq i 1) _)
    256 (by decide) _ _ (load4 arg3 harg3 x0 7 256 256 (by decide) _ rfl _)
    (sofar_load (by decide) h10 (by decide) (by decide)) (st0s_hi (i 2).val) (st1s_hi (i 2).val) rfl r l

/-- What the diagonal block leaves of head 0's accumulators. -/
theorem diag0_acc0 (h9 : Sofar arg9 arg9.view.junk (accSt Q K V (i 2).val (st1s (i 2).val)) (accSt Q K V (i 2).val (pos (i 2).val 0 0)) 0 512 0 L9)
    (h10 : Sofar arg10 arg10.view.junk (carSt Q K (i 2).val (st1s (i 2).val)) (carSt Q K (i 2).val (pos (i 2).val 0 0)) 0 512 0 L10) (r : Fin 512) (l : Fin 128) :
    acc0 (View.readAt (Elt Ideal) arg3.view (Rect.unit (s := S1x8x512x128) ![0, 0, 0, 0] S1x1x512x128.size (by decide)).toLoadRect (harg3.unread x0))
      (View.readAt (Elt Ideal) arg4.view (Rect.unit (s := S1x8x2048x128) (k0_off1 i 0#32) S1x1x256x128.size (k0_off1_inb i 0)).toLoadRect (harg4.unread x1))
      (View.readAt (Elt Ideal) arg5.view (Rect.unit (s := S1x8x2048x128) (k0_off1 i 0#32) S1x1x256x128.size (k0_off1_inb i 0)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![0, 0, 0] S1x512x128.size (by decide)).toLoadRect (arg10.view.writes (Elt Ideal) arg10.view.junk L10))
      (View.readAt (Elt Ideal) arg9.view (Rect.unit (s := S8x512x128) ![0, 0, 0] S1x512x128.size (by decide)).toLoadRect (arg9.view.writes (Elt Ideal) arg9.view.junk L9))
      (ix3 0 r l) = accSt Q K V (i 2).val (pos (i 2).val 0 0) (ix3 0 (sh row0 r) l) :=
  diag0_acc hR (i 2).val 0 (512 * (i 2).val) (keys_inb (i 2).val 0 (i 2).isLt (by decide)) (st1s (i 2).val) (pos (i 2).val 0 0) _ _ _ (load4 arg4 harg4 x1 0 (512 * (i 2).val) 256 (keys_inb (i 2).val 0 (i 2).isLt (by decide)) _ (k0_off1_eq i 0) _)
    (load4 arg5 harg5 x2 0 (512 * (i 2).val) 256 (keys_inb (i 2).val 0 (i 2).isLt (by decide)) _ (k0_off1_eq i 0) _) (load2 arg7 harg7 x4 _) _ _ _ (load4 arg3 harg3 x0 0 0 512 (by decide) _ rfl _)
    (sofar_load (by decide) h10 (by decide) (by decide)) (sofar_load (by decide) h9 (by decide) (by decide)) (st1s_row (i 2).val) (pos_zero (i 2).val) rfl r l

/-- What the diagonal block leaves of head 1's accumulators. -/
theorem diag0_acc1 (h9 : Sofar arg9 arg9.view.junk (accSt Q K V (i 2).val (st1s (i 2).val)) (accSt Q K V (i 2).val (pos (i 2).val 0 0)) 0 512 1 L9)
    (h10 : Sofar arg10 arg10.view.junk (carSt Q K (i 2).val (st1s (i 2).val)) (carSt Q K (i 2).val (pos (i 2).val 0 0)) 0 512 1 L10) (r : Fin 512) (l : Fin 128) :
    acc0 (View.readAt (Elt Ideal) arg3.view (Rect.unit (s := S1x8x512x128) ![0, 1, 0, 0] S1x1x512x128.size (by decide)).toLoadRect (harg3.unread x0))
      (View.readAt (Elt Ideal) arg4.view (Rect.unit (s := S1x8x2048x128) (k0_off2 i 0#32) S1x1x256x128.size (k0_off2_inb i 0)).toLoadRect (harg4.unread x1))
      (View.readAt (Elt Ideal) arg5.view (Rect.unit (s := S1x8x2048x128) (k0_off2 i 0#32) S1x1x256x128.size (k0_off2_inb i 0)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![1, 0, 0] S1x512x128.size (by decide)).toLoadRect (arg10.view.writes (Elt Ideal) arg10.view.junk L10))
      (View.readAt (Elt Ideal) arg9.view (Rect.unit (s := S8x512x128) ![1, 0, 0] S1x512x128.size (by decide)).toLoadRect (arg9.view.writes (Elt Ideal) arg9.view.junk L9))
      (ix3 0 r l) = accSt Q K V (i 2).val (pos (i 2).val 0 0) (ix3 1 (sh row0 r) l) :=
  diag0_acc hR (i 2).val 1 (512 * (i 2).val) (keys_inb (i 2).val 0 (i 2).isLt (by decide)) (st1s (i 2).val) (pos (i 2).val 0 0) _ _ _ (load4 arg4 harg4 x1 1 (512 * (i 2).val) 256 (keys_inb (i 2).val 0 (i 2).isLt (by decide)) _ (k0_off2_eq i 0) _)
    (load4 arg5 harg5 x2 1 (512 * (i 2).val) 256 (keys_inb (i 2).val 0 (i 2).isLt (by decide)) _ (k0_off2_eq i 0) _) (load2 arg7 harg7 x4 _) _ _ _ (load4 arg3 harg3 x0 1 0 512 (by decide) _ rfl _)
    (sofar_load (by decide) h10 (by decide) (by decide)) (sofar_load (by decide) h9 (by decide) (by decide)) (st1s_row (i 2).val) (pos_zero (i 2).val) rfl r l

/-- What the diagonal block leaves of head 2's accumulators. -/
theorem diag0_acc2 (h9 : Sofar arg9 arg9.view.junk (accSt Q K V (i 2).val (st1s (i 2).val)) (accSt Q K V (i 2).val (pos (i 2).val 0 0)) 0 512 2 L9)
    (h10 : Sofar arg10 arg10.view.junk (carSt Q K (i 2).val (st1s (i 2).val)) (carSt Q K (i 2).val (pos (i 2).val 0 0)) 0 512 2 L10) (r : Fin 512) (l : Fin 128) :
    acc0 (View.readAt (Elt Ideal) arg3.view (Rect.unit (s := S1x8x512x128) ![0, 2, 0, 0] S1x1x512x128.size (by decide)).toLoadRect (harg3.unread x0))
      (View.readAt (Elt Ideal) arg4.view (Rect.unit (s := S1x8x2048x128) (k0_off3 i 0#32) S1x1x256x128.size (k0_off3_inb i 0)).toLoadRect (harg4.unread x1))
      (View.readAt (Elt Ideal) arg5.view (Rect.unit (s := S1x8x2048x128) (k0_off3 i 0#32) S1x1x256x128.size (k0_off3_inb i 0)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![2, 0, 0] S1x512x128.size (by decide)).toLoadRect (arg10.view.writes (Elt Ideal) arg10.view.junk L10))
      (View.readAt (Elt Ideal) arg9.view (Rect.unit (s := S8x512x128) ![2, 0, 0] S1x512x128.size (by decide)).toLoadRect (arg9.view.writes (Elt Ideal) arg9.view.junk L9))
      (ix3 0 r l) = accSt Q K V (i 2).val (pos (i 2).val 0 0) (ix3 2 (sh row0 r) l) :=
  diag0_acc hR (i 2).val 2 (512 * (i 2).val) (keys_inb (i 2).val 0 (i 2).isLt (by decide)) (st1s (i 2).val) (pos (i 2).val 0 0) _ _ _ (load4 arg4 harg4 x1 2 (512 * (i 2).val) 256 (keys_inb (i 2).val 0 (i 2).isLt (by decide)) _ (k0_off3_eq i 0) _)
    (load4 arg5 harg5 x2 2 (512 * (i 2).val) 256 (keys_inb (i 2).val 0 (i 2).isLt (by decide)) _ (k0_off3_eq i 0) _) (load2 arg7 harg7 x4 _) _ _ _ (load4 arg3 harg3 x0 2 0 512 (by decide) _ rfl _)
    (sofar_load (by decide) h10 (by decide) (by decide)) (sofar_load (by decide) h9 (by decide) (by decide)) (st1s_row (i 2).val) (pos_zero (i 2).val) rfl r l

/-- What the diagonal block leaves of head 3's accumulators. -/
theorem diag0_acc3 (h9 : Sofar arg9 arg9.view.junk (accSt Q K V (i 2).val (st1s (i 2).val)) (accSt Q K V (i 2).val (pos (i 2).val 0 0)) 0 512 3 L9)
    (h10 : Sofar arg10 arg10.view.junk (carSt Q K (i 2).val (st1s (i 2).val)) (carSt Q K (i 2).val (pos (i 2).val 0 0)) 0 512 3 L10) (r : Fin 512) (l : Fin 128) :
    acc0 (View.readAt (Elt Ideal) arg3.view (Rect.unit (s := S1x8x512x128) ![0, 3, 0, 0] S1x1x512x128.size (by decide)).toLoadRect (harg3.unread x0))
      (View.readAt (Elt Ideal) arg4.view (Rect.unit (s := S1x8x2048x128) (k0_off4 i 0#32) S1x1x256x128.size (k0_off4_inb i 0)).toLoadRect (harg4.unread x1))
      (View.readAt (Elt Ideal) arg5.view (Rect.unit (s := S1x8x2048x128) (k0_off4 i 0#32) S1x1x256x128.size (k0_off4_inb i 0)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![3, 0, 0] S1x512x128.size (by decide)).toLoadRect (arg10.view.writes (Elt Ideal) arg10.view.junk L10))
      (View.readAt (Elt Ideal) arg9.view (Rect.unit (s := S8x512x128) ![3, 0, 0] S1x512x128.size (by decide)).toLoadRect (arg9.view.writes (Elt Ideal) arg9.view.junk L9))
      (ix3 0 r l) = accSt Q K V (i 2).val (pos (i 2).val 0 0) (ix3 3 (sh row0 r) l) :=
  diag0_acc hR (i 2).val 3 (512 * (i 2).val) (keys_inb (i 2).val 0 (i 2).isLt (by decide)) (st1s (i 2).val) (pos (i 2).val 0 0) _ _ _ (load4 arg4 harg4 x1 3 (512 * (i 2).val) 256 (keys_inb (i 2).val 0 (i 2).isLt (by decide)) _ (k0_off4_eq i 0) _)
    (load4 arg5 harg5 x2 3 (512 * (i 2).val) 256 (keys_inb (i 2).val 0 (i 2).isLt (by decide)) _ (k0_off4_eq i 0) _) (load2 arg7 harg7 x4 _) _ _ _ (load4 arg3 harg3 x0 3 0 512 (by decide) _ rfl _)
    (sofar_load (by decide) h10 (by decide) (by decide)) (sofar_load (by decide) h9 (by decide) (by decide)) (st1s_row (i 2).val) (pos_zero (i 2).val) rfl r l

/-- What the diagonal block leaves of head 4's accumulators. -/
theorem diag0_acc4 (h9 : Sofar arg9 arg9.view.junk (accSt Q K V (i 2).val (st1s (i 2).val)) (accSt Q K V (i 2).val (pos (i 2).val 0 0)) 0 512 4 L9)
    (h10 : Sofar arg10 arg10.view.junk (carSt Q K (i 2).val (st1s (i 2).val)) (carSt Q K (i 2).val (pos (i 2).val 0 0)) 0 512 4 L10) (r : Fin 512) (l : Fin 128) :
    acc0 (View.readAt (Elt Ideal) arg3.view (Rect.unit (s := S1x8x512x128) ![0, 4, 0, 0] S1x1x512x128.size (by decide)).toLoadRect (harg3.unread x0))
      (View.readAt (Elt Ideal) arg4.view (Rect.unit (s := S1x8x2048x128) (k0_off5 i 0#32) S1x1x256x128.size (k0_off5_inb i 0)).toLoadRect (harg4.unread x1))
      (View.readAt (Elt Ideal) arg5.view (Rect.unit (s := S1x8x2048x128) (k0_off5 i 0#32) S1x1x256x128.size (k0_off5_inb i 0)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![4, 0, 0] S1x512x128.size (by decide)).toLoadRect (arg10.view.writes (Elt Ideal) arg10.view.junk L10))
      (View.readAt (Elt Ideal) arg9.view (Rect.unit (s := S8x512x128) ![4, 0, 0] S1x512x128.size (by decide)).toLoadRect (arg9.view.writes (Elt Ideal) arg9.view.junk L9))
      (ix3 0 r l) = accSt Q K V (i 2).val (pos (i 2).val 0 0) (ix3 4 (sh row0 r) l) :=
  diag0_acc hR (i 2).val 4 (512 * (i 2).val) (keys_inb (i 2).val 0 (i 2).isLt (by decide)) (st1s (i 2).val) (pos (i 2).val 0 0) _ _ _ (load4 arg4 harg4 x1 4 (512 * (i 2).val) 256 (keys_inb (i 2).val 0 (i 2).isLt (by decide)) _ (k0_off5_eq i 0) _)
    (load4 arg5 harg5 x2 4 (512 * (i 2).val) 256 (keys_inb (i 2).val 0 (i 2).isLt (by decide)) _ (k0_off5_eq i 0) _) (load2 arg7 harg7 x4 _) _ _ _ (load4 arg3 harg3 x0 4 0 512 (by decide) _ rfl _)
    (sofar_load (by decide) h10 (by decide) (by decide)) (sofar_load (by decide) h9 (by decide) (by decide)) (st1s_row (i 2).val) (pos_zero (i 2).val) rfl r l

/-- What the diagonal block leaves of head 5's accumulators. -/
theorem diag0_acc5 (h9 : Sofar arg9 arg9.view.junk (accSt Q K V (i 2).val (st1s (i 2).val)) (accSt Q K V (i 2).val (pos (i 2).val 0 0)) 0 512 5 L9)
    (h10 : Sofar arg10 arg10.view.junk (carSt Q K (i 2).val (st1s (i 2).val)) (carSt Q K (i 2).val (pos (i 2).val 0 0)) 0 512 5 L10) (r : Fin 512) (l : Fin 128) :
    acc0 (View.readAt (Elt Ideal) arg3.view (Rect.unit (s := S1x8x512x128) ![0, 5, 0, 0] S1x1x512x128.size (by decide)).toLoadRect (harg3.unread x0))
      (View.readAt (Elt Ideal) arg4.view (Rect.unit (s := S1x8x2048x128) (k0_off6 i 0#32) S1x1x256x128.size (k0_off6_inb i 0)).toLoadRect (harg4.unread x1))
      (View.readAt (Elt Ideal) arg5.view (Rect.unit (s := S1x8x2048x128) (k0_off6 i 0#32) S1x1x256x128.size (k0_off6_inb i 0)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![5, 0, 0] S1x512x128.size (by decide)).toLoadRect (arg10.view.writes (Elt Ideal) arg10.view.junk L10))
      (View.readAt (Elt Ideal) arg9.view (Rect.unit (s := S8x512x128) ![5, 0, 0] S1x512x128.size (by decide)).toLoadRect (arg9.view.writes (Elt Ideal) arg9.view.junk L9))
      (ix3 0 r l) = accSt Q K V (i 2).val (pos (i 2).val 0 0) (ix3 5 (sh row0 r) l) :=
  diag0_acc hR (i 2).val 5 (512 * (i 2).val) (keys_inb (i 2).val 0 (i 2).isLt (by decide)) (st1s (i 2).val) (pos (i 2).val 0 0) _ _ _ (load4 arg4 harg4 x1 5 (512 * (i 2).val) 256 (keys_inb (i 2).val 0 (i 2).isLt (by decide)) _ (k0_off6_eq i 0) _)
    (load4 arg5 harg5 x2 5 (512 * (i 2).val) 256 (keys_inb (i 2).val 0 (i 2).isLt (by decide)) _ (k0_off6_eq i 0) _) (load2 arg7 harg7 x4 _) _ _ _ (load4 arg3 harg3 x0 5 0 512 (by decide) _ rfl _)
    (sofar_load (by decide) h10 (by decide) (by decide)) (sofar_load (by decide) h9 (by decide) (by decide)) (st1s_row (i 2).val) (pos_zero (i 2).val) rfl r l

/-- What the diagonal block leaves of head 6's accumulators. -/
theorem diag0_acc6 (h9 : Sofar arg9 arg9.view.junk (accSt Q K V (i 2).val (st1s (i 2).val)) (accSt Q K V (i 2).val (pos (i 2).val 0 0)) 0 512 6 L9)
    (h10 : Sofar arg10 arg10.view.junk (carSt Q K (i 2).val (st1s (i 2).val)) (carSt Q K (i 2).val (pos (i 2).val 0 0)) 0 512 6 L10) (r : Fin 512) (l : Fin 128) :
    acc0 (View.readAt (Elt Ideal) arg3.view (Rect.unit (s := S1x8x512x128) ![0, 6, 0, 0] S1x1x512x128.size (by decide)).toLoadRect (harg3.unread x0))
      (View.readAt (Elt Ideal) arg4.view (Rect.unit (s := S1x8x2048x128) (k0_off7 i 0#32) S1x1x256x128.size (k0_off7_inb i 0)).toLoadRect (harg4.unread x1))
      (View.readAt (Elt Ideal) arg5.view (Rect.unit (s := S1x8x2048x128) (k0_off7 i 0#32) S1x1x256x128.size (k0_off7_inb i 0)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![6, 0, 0] S1x512x128.size (by decide)).toLoadRect (arg10.view.writes (Elt Ideal) arg10.view.junk L10))
      (View.readAt (Elt Ideal) arg9.view (Rect.unit (s := S8x512x128) ![6, 0, 0] S1x512x128.size (by decide)).toLoadRect (arg9.view.writes (Elt Ideal) arg9.view.junk L9))
      (ix3 0 r l) = accSt Q K V (i 2).val (pos (i 2).val 0 0) (ix3 6 (sh row0 r) l) :=
  diag0_acc hR (i 2).val 6 (512 * (i 2).val) (keys_inb (i 2).val 0 (i 2).isLt (by decide)) (st1s (i 2).val) (pos (i 2).val 0 0) _ _ _ (load4 arg4 harg4 x1 6 (512 * (i 2).val) 256 (keys_inb (i 2).val 0 (i 2).isLt (by decide)) _ (k0_off7_eq i 0) _)
    (load4 arg5 harg5 x2 6 (512 * (i 2).val) 256 (keys_inb (i 2).val 0 (i 2).isLt (by decide)) _ (k0_off7_eq i 0) _) (load2 arg7 harg7 x4 _) _ _ _ (load4 arg3 harg3 x0 6 0 512 (by decide) _ rfl _)
    (sofar_load (by decide) h10 (by decide) (by decide)) (sofar_load (by decide) h9 (by decide) (by decide)) (st1s_row (i 2).val) (pos_zero (i 2).val) rfl r l

/-- What the diagonal block leaves of head 7's accumulators. -/
theorem diag0_acc7 (h9 : Sofar arg9 arg9.view.junk (accSt Q K V (i 2).val (st1s (i 2).val)) (accSt Q K V (i 2).val (pos (i 2).val 0 0)) 0 512 7 L9)
    (h10 : Sofar arg10 arg10.view.junk (carSt Q K (i 2).val (st1s (i 2).val)) (carSt Q K (i 2).val (pos (i 2).val 0 0)) 0 512 7 L10) (r : Fin 512) (l : Fin 128) :
    acc0 (View.readAt (Elt Ideal) arg3.view (Rect.unit (s := S1x8x512x128) ![0, 7, 0, 0] S1x1x512x128.size (by decide)).toLoadRect (harg3.unread x0))
      (View.readAt (Elt Ideal) arg4.view (Rect.unit (s := S1x8x2048x128) (k0_off8 i 0#32) S1x1x256x128.size (k0_off8_inb i 0)).toLoadRect (harg4.unread x1))
      (View.readAt (Elt Ideal) arg5.view (Rect.unit (s := S1x8x2048x128) (k0_off8 i 0#32) S1x1x256x128.size (k0_off8_inb i 0)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![7, 0, 0] S1x512x128.size (by decide)).toLoadRect (arg10.view.writes (Elt Ideal) arg10.view.junk L10))
      (View.readAt (Elt Ideal) arg9.view (Rect.unit (s := S8x512x128) ![7, 0, 0] S1x512x128.size (by decide)).toLoadRect (arg9.view.writes (Elt Ideal) arg9.view.junk L9))
      (ix3 0 r l) = accSt Q K V (i 2).val (pos (i 2).val 0 0) (ix3 7 (sh row0 r) l) :=
  diag0_acc hR (i 2).val 7 (512 * (i 2).val) (keys_inb (i 2).val 0 (i 2).isLt (by decide)) (st1s (i 2).val) (pos (i 2).val 0 0) _ _ _ (load4 arg4 harg4 x1 7 (512 * (i 2).val) 256 (keys_inb (i 2).val 0 (i 2).isLt (by decide)) _ (k0_off8_eq i 0) _)
    (load4 arg5 harg5 x2 7 (512 * (i 2).val) 256 (keys_inb (i 2).val 0 (i 2).isLt (by decide)) _ (k0_off8_eq i 0) _) (load2 arg7 harg7 x4 _) _ _ _ (load4 arg3 harg3 x0 7 0 512 (by decide) _ rfl _)
    (sofar_load (by decide) h10 (by decide) (by decide)) (sofar_load (by decide) h9 (by decide) (by decide)) (st1s_row (i 2).val) (pos_zero (i 2).val) rfl r l

/-- And of its running sums. -/
theorem diag0_car0 (h10 : Sofar arg10 arg10.view.junk (carSt Q K (i 2).val (st1s (i 2).val)) (carSt Q K (i 2).val (pos (i 2).val 0 0)) 0 512 0 L10) (r : Fin 512) (l : Fin 128) :
    car0 (View.readAt (Elt Ideal) arg3.view (Rect.unit (s := S1x8x512x128) ![0, 0, 0, 0] S1x1x512x128.size (by decide)).toLoadRect (harg3.unread x0))
      (View.readAt (Elt Ideal) arg4.view (Rect.unit (s := S1x8x2048x128) (k0_off1 i 0#32) S1x1x256x128.size (k0_off1_inb i 0)).toLoadRect (harg4.unread x1))
      (View.readAt (Elt Ideal) arg10.view (Rect.unit (s := S8x512x128) ![0, 0, 0] S1x512x128.size (by decide)).toLoadRect (arg10.view.writes (Elt Ideal) arg10.view.junk L10))
      (ix3 0 r l) = carSt Q K (i 2).val (pos (i 2).val 0 0) (ix3 0 (sh row0 r) l) :=
  diag0_car hR (i 2).val 0 (512 * (i 2).val) (keys_inb (i 2).val 0 (i 2).isLt (by decide)) (st1s (i 2).val) (pos (i 2).val 0 0) _ (load4 arg4 harg4 x1 0 (512 * (i 2).val) 256 (keys_inb (i 2).val 0 (i 2).isLt (by decide)) _ (k0_off1_eq i 0) _)
    _ _ (load4 arg3 harg3 x0 0 0 512 (by decide) _ rfl _)
    (sofar_load (by decide) h10 (by decide) (by decide)) (st1s_row (i 2).val) (pos_zero (i 2).val) rfl r l

/-- And of its running sums. -/
theorem diag0_car1 (h10 : Sofar arg10 arg10.view.junk (carSt Q K (i 2).val (st1s (i 2).val)) (carSt Q K (i 2).val (pos (i 2).val 0 0)) 0 512 1 L10) (r : Fin 512) (l : Fin 128) :
    car0 (View.readAt (Elt Ideal) arg3.view (Rect.unit (s := S1x8x512x128) ![0, 1, 0, 0] S1x1x512x128.size (by decide)).toLoadRect (harg3.unread x0))
      (View.readAt (Elt Ideal) arg4.view (Rect.unit (s := S1x8x2048x128) (k0_off2 i 0#32) S1x1x256x128.size (k0_off2_inb i 0)).toLoadRect (harg4.unread x1))
      (View.readAt (Elt Ideal) arg10.view (Rect.unit (s := S8x512x128) ![1, 0, 0] S1x512x128.size (by decide)).toLoadRect (arg10.view.writes (Elt Ideal) arg10.view.junk L10))
      (ix3 0 r l) = carSt Q K (i 2).val (pos (i 2).val 0 0) (ix3 1 (sh row0 r) l) :=
  diag0_car hR (i 2).val 1 (512 * (i 2).val) (keys_inb (i 2).val 0 (i 2).isLt (by decide)) (st1s (i 2).val) (pos (i 2).val 0 0) _ (load4 arg4 harg4 x1 1 (512 * (i 2).val) 256 (keys_inb (i 2).val 0 (i 2).isLt (by decide)) _ (k0_off2_eq i 0) _)
    _ _ (load4 arg3 harg3 x0 1 0 512 (by decide) _ rfl _)
    (sofar_load (by decide) h10 (by decide) (by decide)) (st1s_row (i 2).val) (pos_zero (i 2).val) rfl r l

/-- And of its running sums. -/
theorem diag0_car2 (h10 : Sofar arg10 arg10.view.junk (carSt Q K (i 2).val (st1s (i 2).val)) (carSt Q K (i 2).val (pos (i 2).val 0 0)) 0 512 2 L10) (r : Fin 512) (l : Fin 128) :
    car0 (View.readAt (Elt Ideal) arg3.view (Rect.unit (s := S1x8x512x128) ![0, 2, 0, 0] S1x1x512x128.size (by decide)).toLoadRect (harg3.unread x0))
      (View.readAt (Elt Ideal) arg4.view (Rect.unit (s := S1x8x2048x128) (k0_off3 i 0#32) S1x1x256x128.size (k0_off3_inb i 0)).toLoadRect (harg4.unread x1))
      (View.readAt (Elt Ideal) arg10.view (Rect.unit (s := S8x512x128) ![2, 0, 0] S1x512x128.size (by decide)).toLoadRect (arg10.view.writes (Elt Ideal) arg10.view.junk L10))
      (ix3 0 r l) = carSt Q K (i 2).val (pos (i 2).val 0 0) (ix3 2 (sh row0 r) l) :=
  diag0_car hR (i 2).val 2 (512 * (i 2).val) (keys_inb (i 2).val 0 (i 2).isLt (by decide)) (st1s (i 2).val) (pos (i 2).val 0 0) _ (load4 arg4 harg4 x1 2 (512 * (i 2).val) 256 (keys_inb (i 2).val 0 (i 2).isLt (by decide)) _ (k0_off3_eq i 0) _)
    _ _ (load4 arg3 harg3 x0 2 0 512 (by decide) _ rfl _)
    (sofar_load (by decide) h10 (by decide) (by decide)) (st1s_row (i 2).val) (pos_zero (i 2).val) rfl r l

/-- And of its running sums. -/
theorem diag0_car3 (h10 : Sofar arg10 arg10.view.junk (carSt Q K (i 2).val (st1s (i 2).val)) (carSt Q K (i 2).val (pos (i 2).val 0 0)) 0 512 3 L10) (r : Fin 512) (l : Fin 128) :
    car0 (View.readAt (Elt Ideal) arg3.view (Rect.unit (s := S1x8x512x128) ![0, 3, 0, 0] S1x1x512x128.size (by decide)).toLoadRect (harg3.unread x0))
      (View.readAt (Elt Ideal) arg4.view (Rect.unit (s := S1x8x2048x128) (k0_off4 i 0#32) S1x1x256x128.size (k0_off4_inb i 0)).toLoadRect (harg4.unread x1))
      (View.readAt (Elt Ideal) arg10.view (Rect.unit (s := S8x512x128) ![3, 0, 0] S1x512x128.size (by decide)).toLoadRect (arg10.view.writes (Elt Ideal) arg10.view.junk L10))
      (ix3 0 r l) = carSt Q K (i 2).val (pos (i 2).val 0 0) (ix3 3 (sh row0 r) l) :=
  diag0_car hR (i 2).val 3 (512 * (i 2).val) (keys_inb (i 2).val 0 (i 2).isLt (by decide)) (st1s (i 2).val) (pos (i 2).val 0 0) _ (load4 arg4 harg4 x1 3 (512 * (i 2).val) 256 (keys_inb (i 2).val 0 (i 2).isLt (by decide)) _ (k0_off4_eq i 0) _)
    _ _ (load4 arg3 harg3 x0 3 0 512 (by decide) _ rfl _)
    (sofar_load (by decide) h10 (by decide) (by decide)) (st1s_row (i 2).val) (pos_zero (i 2).val) rfl r l

/-- And of its running sums. -/
theorem diag0_car4 (h10 : Sofar arg10 arg10.view.junk (carSt Q K (i 2).val (st1s (i 2).val)) (carSt Q K (i 2).val (pos (i 2).val 0 0)) 0 512 4 L10) (r : Fin 512) (l : Fin 128) :
    car0 (View.readAt (Elt Ideal) arg3.view (Rect.unit (s := S1x8x512x128) ![0, 4, 0, 0] S1x1x512x128.size (by decide)).toLoadRect (harg3.unread x0))
      (View.readAt (Elt Ideal) arg4.view (Rect.unit (s := S1x8x2048x128) (k0_off5 i 0#32) S1x1x256x128.size (k0_off5_inb i 0)).toLoadRect (harg4.unread x1))
      (View.readAt (Elt Ideal) arg10.view (Rect.unit (s := S8x512x128) ![4, 0, 0] S1x512x128.size (by decide)).toLoadRect (arg10.view.writes (Elt Ideal) arg10.view.junk L10))
      (ix3 0 r l) = carSt Q K (i 2).val (pos (i 2).val 0 0) (ix3 4 (sh row0 r) l) :=
  diag0_car hR (i 2).val 4 (512 * (i 2).val) (keys_inb (i 2).val 0 (i 2).isLt (by decide)) (st1s (i 2).val) (pos (i 2).val 0 0) _ (load4 arg4 harg4 x1 4 (512 * (i 2).val) 256 (keys_inb (i 2).val 0 (i 2).isLt (by decide)) _ (k0_off5_eq i 0) _)
    _ _ (load4 arg3 harg3 x0 4 0 512 (by decide) _ rfl _)
    (sofar_load (by decide) h10 (by decide) (by decide)) (st1s_row (i 2).val) (pos_zero (i 2).val) rfl r l

/-- And of its running sums. -/
theorem diag0_car5 (h10 : Sofar arg10 arg10.view.junk (carSt Q K (i 2).val (st1s (i 2).val)) (carSt Q K (i 2).val (pos (i 2).val 0 0)) 0 512 5 L10) (r : Fin 512) (l : Fin 128) :
    car0 (View.readAt (Elt Ideal) arg3.view (Rect.unit (s := S1x8x512x128) ![0, 5, 0, 0] S1x1x512x128.size (by decide)).toLoadRect (harg3.unread x0))
      (View.readAt (Elt Ideal) arg4.view (Rect.unit (s := S1x8x2048x128) (k0_off6 i 0#32) S1x1x256x128.size (k0_off6_inb i 0)).toLoadRect (harg4.unread x1))
      (View.readAt (Elt Ideal) arg10.view (Rect.unit (s := S8x512x128) ![5, 0, 0] S1x512x128.size (by decide)).toLoadRect (arg10.view.writes (Elt Ideal) arg10.view.junk L10))
      (ix3 0 r l) = carSt Q K (i 2).val (pos (i 2).val 0 0) (ix3 5 (sh row0 r) l) :=
  diag0_car hR (i 2).val 5 (512 * (i 2).val) (keys_inb (i 2).val 0 (i 2).isLt (by decide)) (st1s (i 2).val) (pos (i 2).val 0 0) _ (load4 arg4 harg4 x1 5 (512 * (i 2).val) 256 (keys_inb (i 2).val 0 (i 2).isLt (by decide)) _ (k0_off6_eq i 0) _)
    _ _ (load4 arg3 harg3 x0 5 0 512 (by decide) _ rfl _)
    (sofar_load (by decide) h10 (by decide) (by decide)) (st1s_row (i 2).val) (pos_zero (i 2).val) rfl r l

/-- And of its running sums. -/
theorem diag0_car6 (h10 : Sofar arg10 arg10.view.junk (carSt Q K (i 2).val (st1s (i 2).val)) (carSt Q K (i 2).val (pos (i 2).val 0 0)) 0 512 6 L10) (r : Fin 512) (l : Fin 128) :
    car0 (View.readAt (Elt Ideal) arg3.view (Rect.unit (s := S1x8x512x128) ![0, 6, 0, 0] S1x1x512x128.size (by decide)).toLoadRect (harg3.unread x0))
      (View.readAt (Elt Ideal) arg4.view (Rect.unit (s := S1x8x2048x128) (k0_off7 i 0#32) S1x1x256x128.size (k0_off7_inb i 0)).toLoadRect (harg4.unread x1))
      (View.readAt (Elt Ideal) arg10.view (Rect.unit (s := S8x512x128) ![6, 0, 0] S1x512x128.size (by decide)).toLoadRect (arg10.view.writes (Elt Ideal) arg10.view.junk L10))
      (ix3 0 r l) = carSt Q K (i 2).val (pos (i 2).val 0 0) (ix3 6 (sh row0 r) l) :=
  diag0_car hR (i 2).val 6 (512 * (i 2).val) (keys_inb (i 2).val 0 (i 2).isLt (by decide)) (st1s (i 2).val) (pos (i 2).val 0 0) _ (load4 arg4 harg4 x1 6 (512 * (i 2).val) 256 (keys_inb (i 2).val 0 (i 2).isLt (by decide)) _ (k0_off7_eq i 0) _)
    _ _ (load4 arg3 harg3 x0 6 0 512 (by decide) _ rfl _)
    (sofar_load (by decide) h10 (by decide) (by decide)) (st1s_row (i 2).val) (pos_zero (i 2).val) rfl r l

/-- And of its running sums. -/
theorem diag0_car7 (h10 : Sofar arg10 arg10.view.junk (carSt Q K (i 2).val (st1s (i 2).val)) (carSt Q K (i 2).val (pos (i 2).val 0 0)) 0 512 7 L10) (r : Fin 512) (l : Fin 128) :
    car0 (View.readAt (Elt Ideal) arg3.view (Rect.unit (s := S1x8x512x128) ![0, 7, 0, 0] S1x1x512x128.size (by decide)).toLoadRect (harg3.unread x0))
      (View.readAt (Elt Ideal) arg4.view (Rect.unit (s := S1x8x2048x128) (k0_off8 i 0#32) S1x1x256x128.size (k0_off8_inb i 0)).toLoadRect (harg4.unread x1))
      (View.readAt (Elt Ideal) arg10.view (Rect.unit (s := S8x512x128) ![7, 0, 0] S1x512x128.size (by decide)).toLoadRect (arg10.view.writes (Elt Ideal) arg10.view.junk L10))
      (ix3 0 r l) = carSt Q K (i 2).val (pos (i 2).val 0 0) (ix3 7 (sh row0 r) l) :=
  diag0_car hR (i 2).val 7 (512 * (i 2).val) (keys_inb (i 2).val 0 (i 2).isLt (by decide)) (st1s (i 2).val) (pos (i 2).val 0 0) _ (load4 arg4 harg4 x1 7 (512 * (i 2).val) 256 (keys_inb (i 2).val 0 (i 2).isLt (by decide)) _ (k0_off8_eq i 0) _)
    _ _ (load4 arg3 harg3 x0 7 0 512 (by decide) _ rfl _)
    (sofar_load (by decide) h10 (by decide) (by decide)) (st1s_row (i 2).val) (pos_zero (i 2).val) rfl r l
end

end Cert.KernelIdeal.Own

end
-- ==== Proof.Value.Sweep1.lean ====
/- The sweep of rows 0 to 255, with the contents of the scratch: it meets one block of keys after another. -/
module

public import proofs.«01_k».proof.Proof.Ideal.Sweep1
public import proofs.«01_k».proof.Proof.Value.State

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

section
variable {Q : Fin 8 → Fin 512 → Fin 128 → ℝ} {K V : Fin 8 → ℕ → Fin 128 → ℝ}
  {x0 : Vec Ideal S1x8x512x128 .bf16} {x1 x2 : Vec Ideal S1x8x2048x128 .bf16} {x4 : Vec Ideal S256x256 .bf16}
  (arg3 : Memref sig .tc .vmem S1x8x512x128 .bf16) (harg3 : arg3.IsWhole) (arg4 : Memref sig .tc .vmem S1x8x2048x128 .bf16) (harg4 : arg4.IsWhole) (arg10 : Memref sig .tc .vmem S8x512x128 .f32) (arg7 : Memref sig .tc .vmem S256x256 .bf16) (harg7 : arg7.IsWhole) (arg9 : Memref sig .tc .vmem S8x512x128 .f32) (arg5 : Memref sig .tc .vmem S1x8x2048x128 .bf16) (harg5 : arg5.IsWhole)
  (hR : Reals x0 x1 x2 x4 Q K V) (i : grid0.Coords) (j : ℕ) (hj : j < 2 * (i 2).val) (hS2 : 256 * (2 * (i 2).val - 1 - j) + 256 ≤ 2048)

section
variable (f9 : arg9.view.ty.Contents (Elt Ideal)) (hf9 : arg9.view.read (Elt Ideal) f9 = (accSt Q K V (i 2).val (pos (i 2).val j 0)))
  (f10 : arg10.view.ty.Contents (Elt Ideal)) (hf10 : arg10.view.read (Elt Ideal) f10 = (carSt Q K (i 2).val (pos (i 2).val j 0)))
include hR hj hf9 hf10

/-- What the sweep leaves of head 0's accumulators, -/
theorem acc1_head0 (r : Fin 256) (l : Fin 128) :
    accS (View.readAt (Elt Ideal) arg3.view (Rect.unit (s := S1x8x512x128) ![0, 0, 0, 0] S1x1x256x128.size (by decide)).toLoadRect (harg3.unread x0))
      (View.readAt (Elt Ideal) arg4.view (Rect.unit (s := S1x8x2048x128) (k0_off9 i (BitVec.ofNat 32 j)) S1x1x256x128.size (by rw [off1_0 i j hj]; exact key_inb 0 _ (by decide) hS2)).toLoadRect (harg4.unread x1))
      (View.readAt (Elt Ideal) arg5.view (Rect.unit (s := S1x8x2048x128) (k0_off9 i (BitVec.ofNat 32 j)) S1x1x256x128.size (by rw [off1_0 i j hj]; exact key_inb 0 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![0, 0, 0] S1x256x128.size (by decide)).toLoadRect f10)
      (View.readAt (Elt Ideal) arg9.view (Rect.unit (s := S8x512x128) ![0, 0, 0] S1x256x128.size (by decide)).toLoadRect f9)
      (ix3 0 r l) = accSt Q K V (i 2).val (pos (i 2).val (j + 1) 0) (ix3 0 (sh (show 0 + 256 ≤ 512 by decide) r) l) :=
  sweep_acc hR (i 2).val 0 (256 * (2 * (i 2).val - 1 - j)) hS2 (pos (i 2).val j 0) (pos (i 2).val (j + 1) 0) _ _ _ (load4 arg4 harg4 x1 0 (256 * (2 * (i 2).val - 1 - j)) 256 hS2 _ (off1_0 i j hj) _)
    (load4 arg5 harg5 x2 0 (256 * (2 * (i 2).val - 1 - j)) 256 hS2 _ (off1_0 i j hj) _) (load2 arg7 harg7 x4 _) 0 (by decide) _ _ _ (load4 arg3 harg3 x0 0 0 256 (by decide) _ rfl _)
    (load3 arg10 f10 _ hf10 0 0 256 (by decide) _) (load3 arg9 f9 _ hf9 0 0 256 (by decide) _) (pos_lo (i 2).val j 0 hj) (pos_lo' (i 2).val j 0 hj) (by omega) r l

/-- What the sweep leaves of head 1's accumulators, -/
theorem acc1_head1 (r : Fin 256) (l : Fin 128) :
    accS (View.readAt (Elt Ideal) arg3.view (Rect.unit (s := S1x8x512x128) ![0, 1, 0, 0] S1x1x256x128.size (by decide)).toLoadRect (harg3.unread x0))
      (View.readAt (Elt Ideal) arg4.view (Rect.unit (s := S1x8x2048x128) (k0_off10 i (BitVec.ofNat 32 j)) S1x1x256x128.size (by rw [off1_1 i j hj]; exact key_inb 1 _ (by decide) hS2)).toLoadRect (harg4.unread x1))
      (View.readAt (Elt Ideal) arg5.view (Rect.unit (s := S1x8x2048x128) (k0_off10 i (BitVec.ofNat 32 j)) S1x1x256x128.size (by rw [off1_1 i j hj]; exact key_inb 1 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![1, 0, 0] S1x256x128.size (by decide)).toLoadRect f10)
      (View.readAt (Elt Ideal) arg9.view (Rect.unit (s := S8x512x128) ![1, 0, 0] S1x256x128.size (by decide)).toLoadRect f9)
      (ix3 0 r l) = accSt Q K V (i 2).val (pos (i 2).val (j + 1) 0) (ix3 1 (sh (show 0 + 256 ≤ 512 by decide) r) l) :=
  sweep_acc hR (i 2).val 1 (256 * (2 * (i 2).val - 1 - j)) hS2 (pos (i 2).val j 0) (pos (i 2).val (j + 1) 0) _ _ _ (load4 arg4 harg4 x1 1 (256 * (2 * (i 2).val - 1 - j)) 256 hS2 _ (off1_1 i j hj) _)
    (load4 arg5 harg5 x2 1 (256 * (2 * (i 2).val - 1 - j)) 256 hS2 _ (off1_1 i j hj) _) (load2 arg7 harg7 x4 _) 0 (by decide) _ _ _ (load4 arg3 harg3 x0 1 0 256 (by decide) _ rfl _)
    (load3 arg10 f10 _ hf10 1 0 256 (by decide) _) (load3 arg9 f9 _ hf9 1 0 256 (by decide) _) (pos_lo (i 2).val j 0 hj) (pos_lo' (i 2).val j 0 hj) (by omega) r l

/-- What the sweep leaves of head 2's accumulators, -/
theorem acc1_head2 (r : Fin 256) (l : Fin 128) :
    accS (View.readAt (Elt Ideal) arg3.view (Rect.unit (s := S1x8x512x128) ![0, 2, 0, 0] S1x1x256x128.size (by decide)).toLoadRect (harg3.unread x0))
      (View.readAt (Elt Ideal) arg4.view (Rect.unit (s := S1x8x2048x128) (k0_off11 i (BitVec.ofNat 32 j)) S1x1x256x128.size (by rw [off1_2 i j hj]; exact key_inb 2 _ (by decide) hS2)).toLoadRect (harg4.unread x1))
      (View.readAt (Elt Ideal) arg5.view (Rect.unit (s := S1x8x2048x128) (k0_off11 i (BitVec.ofNat 32 j)) S1x1x256x128.size (by rw [off1_2 i j hj]; exact key_inb 2 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![2, 0, 0] S1x256x128.size (by decide)).toLoadRect f10)
      (View.readAt (Elt Ideal) arg9.view (Rect.unit (s := S8x512x128) ![2, 0, 0] S1x256x128.size (by decide)).toLoadRect f9)
      (ix3 0 r l) = accSt Q K V (i 2).val (pos (i 2).val (j + 1) 0) (ix3 2 (sh (show 0 + 256 ≤ 512 by decide) r) l) :=
  sweep_acc hR (i 2).val 2 (256 * (2 * (i 2).val - 1 - j)) hS2 (pos (i 2).val j 0) (pos (i 2).val (j + 1) 0) _ _ _ (load4 arg4 harg4 x1 2 (256 * (2 * (i 2).val - 1 - j)) 256 hS2 _ (off1_2 i j hj) _)
    (load4 arg5 harg5 x2 2 (256 * (2 * (i 2).val - 1 - j)) 256 hS2 _ (off1_2 i j hj) _) (load2 arg7 harg7 x4 _) 0 (by decide) _ _ _ (load4 arg3 harg3 x0 2 0 256 (by decide) _ rfl _)
    (load3 arg10 f10 _ hf10 2 0 256 (by decide) _) (load3 arg9 f9 _ hf9 2 0 256 (by decide) _) (pos_lo (i 2).val j 0 hj) (pos_lo' (i 2).val j 0 hj) (by omega) r l

/-- What the sweep leaves of head 3's accumulators, -/
theorem acc1_head3 (r : Fin 256) (l : Fin 128) :
    accS (View.readAt (Elt Ideal) arg3.view (Rect.unit (s := S1x8x512x128) ![0, 3, 0, 0] S1x1x256x128.size (by decide)).toLoadRect (harg3.unread x0))
      (View.readAt (Elt Ideal) arg4.view (Rect.unit (s := S1x8x2048x128) (k0_off12 i (BitVec.ofNat 32 j)) S1x1x256x128.size (by rw [off1_3 i j hj]; exact key_inb 3 _ (by decide) hS2)).toLoadRect (harg4.unread x1))
      (View.readAt (Elt Ideal) arg5.view (Rect.unit (s := S1x8x2048x128) (k0_off12 i (BitVec.ofNat 32 j)) S1x1x256x128.size (by rw [off1_3 i j hj]; exact key_inb 3 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![3, 0, 0] S1x256x128.size (by decide)).toLoadRect f10)
      (View.readAt (Elt Ideal) arg9.view (Rect.unit (s := S8x512x128) ![3, 0, 0] S1x256x128.size (by decide)).toLoadRect f9)
      (ix3 0 r l) = accSt Q K V (i 2).val (pos (i 2).val (j + 1) 0) (ix3 3 (sh (show 0 + 256 ≤ 512 by decide) r) l) :=
  sweep_acc hR (i 2).val 3 (256 * (2 * (i 2).val - 1 - j)) hS2 (pos (i 2).val j 0) (pos (i 2).val (j + 1) 0) _ _ _ (load4 arg4 harg4 x1 3 (256 * (2 * (i 2).val - 1 - j)) 256 hS2 _ (off1_3 i j hj) _)
    (load4 arg5 harg5 x2 3 (256 * (2 * (i 2).val - 1 - j)) 256 hS2 _ (off1_3 i j hj) _) (load2 arg7 harg7 x4 _) 0 (by decide) _ _ _ (load4 arg3 harg3 x0 3 0 256 (by decide) _ rfl _)
    (load3 arg10 f10 _ hf10 3 0 256 (by decide) _) (load3 arg9 f9 _ hf9 3 0 256 (by decide) _) (pos_lo (i 2).val j 0 hj) (pos_lo' (i 2).val j 0 hj) (by omega) r l

/-- What the sweep leaves of head 4's accumulators, -/
theorem acc1_head4 (r : Fin 256) (l : Fin 128) :
    accS (View.readAt (Elt Ideal) arg3.view (Rect.unit (s := S1x8x512x128) ![0, 4, 0, 0] S1x1x256x128.size (by decide)).toLoadRect (harg3.unread x0))
      (View.readAt (Elt Ideal) arg4.view (Rect.unit (s := S1x8x2048x128) (k0_off13 i (BitVec.ofNat 32 j)) S1x1x256x128.size (by rw [off1_4 i j hj]; exact key_inb 4 _ (by decide) hS2)).toLoadRect (harg4.unread x1))
      (View.readAt (Elt Ideal) arg5.view (Rect.unit (s := S1x8x2048x128) (k0_off13 i (BitVec.ofNat 32 j)) S1x1x256x128.size (by rw [off1_4 i j hj]; exact key_inb 4 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![4, 0, 0] S1x256x128.size (by decide)).toLoadRect f10)
      (View.readAt (Elt Ideal) arg9.view (Rect.unit (s := S8x512x128) ![4, 0, 0] S1x256x128.size (by decide)).toLoadRect f9)
      (ix3 0 r l) = accSt Q K V (i 2).val (pos (i 2).val (j + 1) 0) (ix3 4 (sh (show 0 + 256 ≤ 512 by decide) r) l) :=
  sweep_acc hR (i 2).val 4 (256 * (2 * (i 2).val - 1 - j)) hS2 (pos (i 2).val j 0) (pos (i 2).val (j + 1) 0) _ _ _ (load4 arg4 harg4 x1 4 (256 * (2 * (i 2).val - 1 - j)) 256 hS2 _ (off1_4 i j hj) _)
    (load4 arg5 harg5 x2 4 (256 * (2 * (i 2).val - 1 - j)) 256 hS2 _ (off1_4 i j hj) _) (load2 arg7 harg7 x4 _) 0 (by decide) _ _ _ (load4 arg3 harg3 x0 4 0 256 (by decide) _ rfl _)
    (load3 arg10 f10 _ hf10 4 0 256 (by decide) _) (load3 arg9 f9 _ hf9 4 0 256 (by decide) _) (pos_lo (i 2).val j 0 hj) (pos_lo' (i 2).val j 0 hj) (by omega) r l

/-- What the sweep leaves of head 5's accumulators, -/
theorem acc1_head5 (r : Fin 256) (l : Fin 128) :
    accS (View.readAt (Elt Ideal) arg3.view (Rect.unit (s := S1x8x512x128) ![0, 5, 0, 0] S1x1x256x128.size (by decide)).toLoadRect (harg3.unread x0))
      (View.readAt (Elt Ideal) arg4.view (Rect.unit (s := S1x8x2048x128) (k0_off14 i (BitVec.ofNat 32 j)) S1x1x256x128.size (by rw [off1_5 i j hj]; exact key_inb 5 _ (by decide) hS2)).toLoadRect (harg4.unread x1))
      (View.readAt (Elt Ideal) arg5.view (Rect.unit (s := S1x8x2048x128) (k0_off14 i (BitVec.ofNat 32 j)) S1x1x256x128.size (by rw [off1_5 i j hj]; exact key_inb 5 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![5, 0, 0] S1x256x128.size (by decide)).toLoadRect f10)
      (View.readAt (Elt Ideal) arg9.view (Rect.unit (s := S8x512x128) ![5, 0, 0] S1x256x128.size (by decide)).toLoadRect f9)
      (ix3 0 r l) = accSt Q K V (i 2).val (pos (i 2).val (j + 1) 0) (ix3 5 (sh (show 0 + 256 ≤ 512 by decide) r) l) :=
  sweep_acc hR (i 2).val 5 (256 * (2 * (i 2).val - 1 - j)) hS2 (pos (i 2).val j 0) (pos (i 2).val (j + 1) 0) _ _ _ (load4 arg4 harg4 x1 5 (256 * (2 * (i 2).val - 1 - j)) 256 hS2 _ (off1_5 i j hj) _)
    (load4 arg5 harg5 x2 5 (256 * (2 * (i 2).val - 1 - j)) 256 hS2 _ (off1_5 i j hj) _) (load2 arg7 harg7 x4 _) 0 (by decide) _ _ _ (load4 arg3 harg3 x0 5 0 256 (by decide) _ rfl _)
    (load3 arg10 f10 _ hf10 5 0 256 (by decide) _) (load3 arg9 f9 _ hf9 5 0 256 (by decide) _) (pos_lo (i 2).val j 0 hj) (pos_lo' (i 2).val j 0 hj) (by omega) r l

/-- What the sweep leaves of head 6's accumulators, -/
theorem acc1_head6 (r : Fin 256) (l : Fin 128) :
    accS (View.readAt (Elt Ideal) arg3.view (Rect.unit (s := S1x8x512x128) ![0, 6, 0, 0] S1x1x256x128.size (by decide)).toLoadRect (harg3.unread x0))
      (View.readAt (Elt Ideal) arg4.view (Rect.unit (s := S1x8x2048x128) (k0_off15 i (BitVec.ofNat 32 j)) S1x1x256x128.size (by rw [off1_6 i j hj]; exact key_inb 6 _ (by decide) hS2)).toLoadRect (harg4.unread x1))
      (View.readAt (Elt Ideal) arg5.view (Rect.unit (s := S1x8x2048x128) (k0_off15 i (BitVec.ofNat 32 j)) S1x1x256x128.size (by rw [off1_6 i j hj]; exact key_inb 6 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![6, 0, 0] S1x256x128.size (by decide)).toLoadRect f10)
      (View.readAt (Elt Ideal) arg9.view (Rect.unit (s := S8x512x128) ![6, 0, 0] S1x256x128.size (by decide)).toLoadRect f9)
      (ix3 0 r l) = accSt Q K V (i 2).val (pos (i 2).val (j + 1) 0) (ix3 6 (sh (show 0 + 256 ≤ 512 by decide) r) l) :=
  sweep_acc hR (i 2).val 6 (256 * (2 * (i 2).val - 1 - j)) hS2 (pos (i 2).val j 0) (pos (i 2).val (j + 1) 0) _ _ _ (load4 arg4 harg4 x1 6 (256 * (2 * (i 2).val - 1 - j)) 256 hS2 _ (off1_6 i j hj) _)
    (load4 arg5 harg5 x2 6 (256 * (2 * (i 2).val - 1 - j)) 256 hS2 _ (off1_6 i j hj) _) (load2 arg7 harg7 x4 _) 0 (by decide) _ _ _ (load4 arg3 harg3 x0 6 0 256 (by decide) _ rfl _)
    (load3 arg10 f10 _ hf10 6 0 256 (by decide) _) (load3 arg9 f9 _ hf9 6 0 256 (by decide) _) (pos_lo (i 2).val j 0 hj) (pos_lo' (i 2).val j 0 hj) (by omega) r l

/-- What the sweep leaves of head 7's accumulators, -/
theorem acc1_head7 (r : Fin 256) (l : Fin 128) :
    accS (View.readAt (Elt Ideal) arg3.view (Rect.unit (s := S1x8x512x128) ![0, 7, 0, 0] S1x1x256x128.size (by decide)).toLoadRect (harg3.unread x0))
      (View.readAt (Elt Ideal) arg4.view (Rect.unit (s := S1x8x2048x128) (k0_off16 i (BitVec.ofNat 32 j)) S1x1x256x128.size (by rw [off1_7 i j hj]; exact key_inb 7 _ (by decide) hS2)).toLoadRect (harg4.unread x1))
      (View.readAt (Elt Ideal) arg5.view (Rect.unit (s := S1x8x2048x128) (k0_off16 i (BitVec.ofNat 32 j)) S1x1x256x128.size (by rw [off1_7 i j hj]; exact key_inb 7 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![7, 0, 0] S1x256x128.size (by decide)).toLoadRect f10)
      (View.readAt (Elt Ideal) arg9.view (Rect.unit (s := S8x512x128) ![7, 0, 0] S1x256x128.size (by decide)).toLoadRect f9)
      (ix3 0 r l) = accSt Q K V (i 2).val (pos (i 2).val (j + 1) 0) (ix3 7 (sh (show 0 + 256 ≤ 512 by decide) r) l) :=
  sweep_acc hR (i 2).val 7 (256 * (2 * (i 2).val - 1 - j)) hS2 (pos (i 2).val j 0) (pos (i 2).val (j + 1) 0) _ _ _ (load4 arg4 harg4 x1 7 (256 * (2 * (i 2).val - 1 - j)) 256 hS2 _ (off1_7 i j hj) _)
    (load4 arg5 harg5 x2 7 (256 * (2 * (i 2).val - 1 - j)) 256 hS2 _ (off1_7 i j hj) _) (load2 arg7 harg7 x4 _) 0 (by decide) _ _ _ (load4 arg3 harg3 x0 7 0 256 (by decide) _ rfl _)
    (load3 arg10 f10 _ hf10 7 0 256 (by decide) _) (load3 arg9 f9 _ hf9 7 0 256 (by decide) _) (pos_lo (i 2).val j 0 hj) (pos_lo' (i 2).val j 0 hj) (by omega) r l

end

section
variable (f10 : arg10.view.ty.Contents (Elt Ideal)) (hf10 : arg10.view.read (Elt Ideal) f10 = (carSt Q K (i 2).val (pos (i 2).val j 0)))
include hR hj hf10

/-- and of its running sums. -/
theorem car1_head0 (r : Fin 256) (l : Fin 128) :
    carS (View.readAt (Elt Ideal) arg3.view (Rect.unit (s := S1x8x512x128) ![0, 0, 0, 0] S1x1x256x128.size (by decide)).toLoadRect (harg3.unread x0))
      (View.readAt (Elt Ideal) arg4.view (Rect.unit (s := S1x8x2048x128) (k0_off9 i (BitVec.ofNat 32 j)) S1x1x256x128.size (by rw [off1_0 i j hj]; exact key_inb 0 _ (by decide) hS2)).toLoadRect (harg4.unread x1))
      (View.readAt (Elt Ideal) arg10.view (Rect.unit (s := S8x512x128) ![0, 0, 0] S1x256x128.size (by decide)).toLoadRect f10)
      (ix3 0 r l) = carSt Q K (i 2).val (pos (i 2).val (j + 1) 0) (ix3 0 (sh (show 0 + 256 ≤ 512 by decide) r) l) :=
  sweep_car hR (i 2).val 0 (256 * (2 * (i 2).val - 1 - j)) hS2 (pos (i 2).val j 0) (pos (i 2).val (j + 1) 0) _ (load4 arg4 harg4 x1 0 (256 * (2 * (i 2).val - 1 - j)) 256 hS2 _ (off1_0 i j hj) _)
    0 (by decide) _ _ (load4 arg3 harg3 x0 0 0 256 (by decide) _ rfl _)
    (load3 arg10 f10 _ hf10 0 0 256 (by decide) _) (pos_lo (i 2).val j 0 hj) (pos_lo' (i 2).val j 0 hj) (by omega) r l

/-- and of its running sums. -/
theorem car1_head1 (r : Fin 256) (l : Fin 128) :
    carS (View.readAt (Elt Ideal) arg3.view (Rect.unit (s := S1x8x512x128) ![0, 1, 0, 0] S1x1x256x128.size (by decide)).toLoadRect (harg3.unread x0))
      (View.readAt (Elt Ideal) arg4.view (Rect.unit (s := S1x8x2048x128) (k0_off10 i (BitVec.ofNat 32 j)) S1x1x256x128.size (by rw [off1_1 i j hj]; exact key_inb 1 _ (by decide) hS2)).toLoadRect (harg4.unread x1))
      (View.readAt (Elt Ideal) arg10.view (Rect.unit (s := S8x512x128) ![1, 0, 0] S1x256x128.size (by decide)).toLoadRect f10)
      (ix3 0 r l) = carSt Q K (i 2).val (pos (i 2).val (j + 1) 0) (ix3 1 (sh (show 0 + 256 ≤ 512 by decide) r) l) :=
  sweep_car hR (i 2).val 1 (256 * (2 * (i 2).val - 1 - j)) hS2 (pos (i 2).val j 0) (pos (i 2).val (j + 1) 0) _ (load4 arg4 harg4 x1 1 (256 * (2 * (i 2).val - 1 - j)) 256 hS2 _ (off1_1 i j hj) _)
    0 (by decide) _ _ (load4 arg3 harg3 x0 1 0 256 (by decide) _ rfl _)
    (load3 arg10 f10 _ hf10 1 0 256 (by decide) _) (pos_lo (i 2).val j 0 hj) (pos_lo' (i 2).val j 0 hj) (by omega) r l

/-- and of its running sums. -/
theorem car1_head2 (r : Fin 256) (l : Fin 128) :
    carS (View.readAt (Elt Ideal) arg3.view (Rect.unit (s := S1x8x512x128) ![0, 2, 0, 0] S1x1x256x128.size (by decide)).toLoadRect (harg3.unread x0))
      (View.readAt (Elt Ideal) arg4.view (Rect.unit (s := S1x8x2048x128) (k0_off11 i (BitVec.ofNat 32 j)) S1x1x256x128.size (by rw [off1_2 i j hj]; exact key_inb 2 _ (by decide) hS2)).toLoadRect (harg4.unread x1))
      (View.readAt (Elt Ideal) arg10.view (Rect.unit (s := S8x512x128) ![2, 0, 0] S1x256x128.size (by decide)).toLoadRect f10)
      (ix3 0 r l) = carSt Q K (i 2).val (pos (i 2).val (j + 1) 0) (ix3 2 (sh (show 0 + 256 ≤ 512 by decide) r) l) :=
  sweep_car hR (i 2).val 2 (256 * (2 * (i 2).val - 1 - j)) hS2 (pos (i 2).val j 0) (pos (i 2).val (j + 1) 0) _ (load4 arg4 harg4 x1 2 (256 * (2 * (i 2).val - 1 - j)) 256 hS2 _ (off1_2 i j hj) _)
    0 (by decide) _ _ (load4 arg3 harg3 x0 2 0 256 (by decide) _ rfl _)
    (load3 arg10 f10 _ hf10 2 0 256 (by decide) _) (pos_lo (i 2).val j 0 hj) (pos_lo' (i 2).val j 0 hj) (by omega) r l

/-- and of its running sums. -/
theorem car1_head3 (r : Fin 256) (l : Fin 128) :
    carS (View.readAt (Elt Ideal) arg3.view (Rect.unit (s := S1x8x512x128) ![0, 3, 0, 0] S1x1x256x128.size (by decide)).toLoadRect (harg3.unread x0))
      (View.readAt (Elt Ideal) arg4.view (Rect.unit (s := S1x8x2048x128) (k0_off12 i (BitVec.ofNat 32 j)) S1x1x256x128.size (by rw [off1_3 i j hj]; exact key_inb 3 _ (by decide) hS2)).toLoadRect (harg4.unread x1))
      (View.readAt (Elt Ideal) arg10.view (Rect.unit (s := S8x512x128) ![3, 0, 0] S1x256x128.size (by decide)).toLoadRect f10)
      (ix3 0 r l) = carSt Q K (i 2).val (pos (i 2).val (j + 1) 0) (ix3 3 (sh (show 0 + 256 ≤ 512 by decide) r) l) :=
  sweep_car hR (i 2).val 3 (256 * (2 * (i 2).val - 1 - j)) hS2 (pos (i 2).val j 0) (pos (i 2).val (j + 1) 0) _ (load4 arg4 harg4 x1 3 (256 * (2 * (i 2).val - 1 - j)) 256 hS2 _ (off1_3 i j hj) _)
    0 (by decide) _ _ (load4 arg3 harg3 x0 3 0 256 (by decide) _ rfl _)
    (load3 arg10 f10 _ hf10 3 0 256 (by decide) _) (pos_lo (i 2).val j 0 hj) (pos_lo' (i 2).val j 0 hj) (by omega) r l

/-- and of its running sums. -/
theorem car1_head4 (r : Fin 256) (l : Fin 128) :
    carS (View.readAt (Elt Ideal) arg3.view (Rect.unit (s := S1x8x512x128) ![0, 4, 0, 0] S1x1x256x128.size (by decide)).toLoadRect (harg3.unread x0))
      (View.readAt (Elt Ideal) arg4.view (Rect.unit (s := S1x8x2048x128) (k0_off13 i (BitVec.ofNat 32 j)) S1x1x256x128.size (by rw [off1_4 i j hj]; exact key_inb 4 _ (by decide) hS2)).toLoadRect (harg4.unread x1))
      (View.readAt (Elt Ideal) arg10.view (Rect.unit (s := S8x512x128) ![4, 0, 0] S1x256x128.size (by decide)).toLoadRect f10)
      (ix3 0 r l) = carSt Q K (i 2).val (pos (i 2).val (j + 1) 0) (ix3 4 (sh (show 0 + 256 ≤ 512 by decide) r) l) :=
  sweep_car hR (i 2).val 4 (256 * (2 * (i 2).val - 1 - j)) hS2 (pos (i 2).val j 0) (pos (i 2).val (j + 1) 0) _ (load4 arg4 harg4 x1 4 (256 * (2 * (i 2).val - 1 - j)) 256 hS2 _ (off1_4 i j hj) _)
    0 (by decide) _ _ (load4 arg3 harg3 x0 4 0 256 (by decide) _ rfl _)
    (load3 arg10 f10 _ hf10 4 0 256 (by decide) _) (pos_lo (i 2).val j 0 hj) (pos_lo' (i 2).val j 0 hj) (by omega) r l

/-- and of its running sums. -/
theorem car1_head5 (r : Fin 256) (l : Fin 128) :
    carS (View.readAt (Elt Ideal) arg3.view (Rect.unit (s := S1x8x512x128) ![0, 5, 0, 0] S1x1x256x128.size (by decide)).toLoadRect (harg3.unread x0))
      (View.readAt (Elt Ideal) arg4.view (Rect.unit (s := S1x8x2048x128) (k0_off14 i (BitVec.ofNat 32 j)) S1x1x256x128.size (by rw [off1_5 i j hj]; exact key_inb 5 _ (by decide) hS2)).toLoadRect (harg4.unread x1))
      (View.readAt (Elt Ideal) arg10.view (Rect.unit (s := S8x512x128) ![5, 0, 0] S1x256x128.size (by decide)).toLoadRect f10)
      (ix3 0 r l) = carSt Q K (i 2).val (pos (i 2).val (j + 1) 0) (ix3 5 (sh (show 0 + 256 ≤ 512 by decide) r) l) :=
  sweep_car hR (i 2).val 5 (256 * (2 * (i 2).val - 1 - j)) hS2 (pos (i 2).val j 0) (pos (i 2).val (j + 1) 0) _ (load4 arg4 harg4 x1 5 (256 * (2 * (i 2).val - 1 - j)) 256 hS2 _ (off1_5 i j hj) _)
    0 (by decide) _ _ (load4 arg3 harg3 x0 5 0 256 (by decide) _ rfl _)
    (load3 arg10 f10 _ hf10 5 0 256 (by decide) _) (pos_lo (i 2).val j 0 hj) (pos_lo' (i 2).val j 0 hj) (by omega) r l

/-- and of its running sums. -/
theorem car1_head6 (r : Fin 256) (l : Fin 128) :
    carS (View.readAt (Elt Ideal) arg3.view (Rect.unit (s := S1x8x512x128) ![0, 6, 0, 0] S1x1x256x128.size (by decide)).toLoadRect (harg3.unread x0))
      (View.readAt (Elt Ideal) arg4.view (Rect.unit (s := S1x8x2048x128) (k0_off15 i (BitVec.ofNat 32 j)) S1x1x256x128.size (by rw [off1_6 i j hj]; exact key_inb 6 _ (by decide) hS2)).toLoadRect (harg4.unread x1))
      (View.readAt (Elt Ideal) arg10.view (Rect.unit (s := S8x512x128) ![6, 0, 0] S1x256x128.size (by decide)).toLoadRect f10)
      (ix3 0 r l) = carSt Q K (i 2).val (pos (i 2).val (j + 1) 0) (ix3 6 (sh (show 0 + 256 ≤ 512 by decide) r) l) :=
  sweep_car hR (i 2).val 6 (256 * (2 * (i 2).val - 1 - j)) hS2 (pos (i 2).val j 0) (pos (i 2).val (j + 1) 0) _ (load4 arg4 harg4 x1 6 (256 * (2 * (i 2).val - 1 - j)) 256 hS2 _ (off1_6 i j hj) _)
    0 (by decide) _ _ (load4 arg3 harg3 x0 6 0 256 (by decide) _ rfl _)
    (load3 arg10 f10 _ hf10 6 0 256 (by decide) _) (pos_lo (i 2).val j 0 hj) (pos_lo' (i 2).val j 0 hj) (by omega) r l

/-- and of its running sums. -/
theorem car1_head7 (r : Fin 256) (l : Fin 128) :
    carS (View.readAt (Elt Ideal) arg3.view (Rect.unit (s := S1x8x512x128) ![0, 7, 0, 0] S1x1x256x128.size (by decide)).toLoadRect (harg3.unread x0))
      (View.readAt (Elt Ideal) arg4.view (Rect.unit (s := S1x8x2048x128) (k0_off16 i (BitVec.ofNat 32 j)) S1x1x256x128.size (by rw [off1_7 i j hj]; exact key_inb 7 _ (by decide) hS2)).toLoadRect (harg4.unread x1))
      (View.readAt (Elt Ideal) arg10.view (Rect.unit (s := S8x512x128) ![7, 0, 0] S1x256x128.size (by decide)).toLoadRect f10)
      (ix3 0 r l) = carSt Q K (i 2).val (pos (i 2).val (j + 1) 0) (ix3 7 (sh (show 0 + 256 ≤ 512 by decide) r) l) :=
  sweep_car hR (i 2).val 7 (256 * (2 * (i 2).val - 1 - j)) hS2 (pos (i 2).val j 0) (pos (i 2).val (j + 1) 0) _ (load4 arg4 harg4 x1 7 (256 * (2 * (i 2).val - 1 - j)) 256 hS2 _ (off1_7 i j hj) _)
    0 (by decide) _ _ (load4 arg3 harg3 x0 7 0 256 (by decide) _ rfl _)
    (load3 arg10 f10 _ hf10 7 0 256 (by decide) _) (pos_lo (i 2).val j 0 hj) (pos_lo' (i 2).val j 0 hj) (by omega) r l

end
end

section
variable (c : Dev nD) (i : grid0.Coords) (arg3 : Memref sig .tc .vmem S1x8x512x128 .bf16) (harg3 : arg3.IsWhole) (arg4 : Memref sig .tc .vmem S1x8x2048x128 .bf16) (harg4 : arg4.IsWhole) (arg10 : Memref sig .tc .vmem S8x512x128 .f32) (harg10 : arg10.IsWhole) (arg7 : Memref sig .tc .vmem S256x256 .bf16) (harg7 : arg7.IsWhole) (arg9 : Memref sig .tc .vmem S8x512x128 .f32) (harg9 : arg9.IsWhole) (arg5 : Memref sig .tc .vmem S1x8x2048x128 .bf16) (harg5 : arg5.IsWhole)
  (x0 : Vec Ideal S1x8x512x128 .bf16) (x1 x2 : Vec Ideal S1x8x2048x128 .bf16) (x4 : Vec Ideal S256x256 .bf16)
    (Q : Fin 8 → Fin 512 → Fin 128 → ℝ) (K V : Fin 8 → ℕ → Fin 128 → ℝ)

/-- With `a` sweeps of the first 256 rows done and `b` of the last, what the loop reads and the scratch in its state. -/
def vheld (a b : ℕ) : sProp 𝕄 :=
  iprop(owns (c : Thread nD τ) arg3 fullShare x0 ∗ owns (c : Thread nD τ) arg4 fullShare x1 ∗ owns (c : Thread nD τ) arg5 fullShare x2
    ∗ owns (c : Thread nD τ) arg7 fullShare x4 ∗ owns (c : Thread nD τ) arg9 fullShare (accSt Q K V (i 2).val (pos (i 2).val a b)) ∗ owns (c : Thread nD τ) arg10 fullShare (carSt Q K (i 2).val (pos (i 2).val a b)))

/-- The loop's label takes the one state to the other, whatever pair it returns. -/
def vback (a b a' b' : ℕ) : sWPT 𝕄 (BitVec 32 × BitVec 1) := do
  sWPT.consume (vheld c i arg3 arg4 arg10 arg7 arg9 arg5 x0 x1 x2 x4 Q K V a b)
  let r ← sWPT.arbitrary
  sWPT.produce (vheld c i arg3 arg4 arg10 arg7 arg9 arg5 x0 x1 x2 x4 Q K V a' b')
  pure r

theorem vback_apply (a b a' b' : ℕ) (Φ : BitVec 32 × BitVec 1 → sProp 𝕄) :
    vback c i arg3 arg4 arg10 arg7 arg9 arg5 x0 x1 x2 x4 Q K V a b a' b' Φ
      = iprop(vheld c i arg3 arg4 arg10 arg7 arg9 arg5 x0 x1 x2 x4 Q K V a b ∗ ∀ r : BitVec 32 × BitVec 1, vheld c i arg3 arg4 arg10 arg7 arg9 arg5 x0 x1 x2 x4 Q K V a' b' -∗ Φ r) := rfl

set_option maxHeartbeats 8000000 in
/-- From the state with `j` sweeps done, the loop runs every sweep left. -/
theorem vback1_le (hR : Reals x0 x1 x2 x4 Q K V) (E : Set ℕ) :
    ∀ k j, j + k = 2 * (i 2).val → ∀ Φ, vback c i arg3 arg4 arg10 arg7 arg9 arg5 x0 x1 x2 x4 Q K V j 0 (2 * (i 2).val) 0 Φ
      ⊢ wp frame (wpE (defs₀ (F := Ideal)) 𝒱n (c : Thread nD τ) (some k)) E
          (defs₀ (F := Ideal) .tc 1 ⟨i, arg3, harg3, arg4, harg4, arg10, harg10, arg7, harg7, arg9, harg9, arg5, harg5, BitVec.ofNat 32 j, 1#1⟩) Φ := by
  have h4 : (i 2).val < 4 := (i 2).isLt
  intro k
  induction k with
  | zero =>
    intro j hj Φ
    rw [vback_apply]
    show _ ⊢ wp frame (wpE (defs₀ (F := Ideal)) 𝒱n (c : Thread nD τ) (some 0)) E
      (cc0_while1 i arg3 harg3 arg4 harg4 arg10 harg10 arg7 harg7 arg9 harg9 arg5 harg5 (BitVec.ofNat 32 j) 1#1) Φ
    simp only [cc0_while1_eq_skeleton]; unfold cc0_while1_skel
    have htest : ¬Scalar.andi (Scalar.cmpi .slt (BitVec.ofNat 32 j) (Scalar.muli (BitVec.ofNat 32 (i 2).val) 2#32)) 1#1 = 1#1 := by
      rw [sweeps_eq _ h4, show j = 2 * (i 2).val by omega, slt_end _ (by omega)]
      decide
    simp only [htest, ↓reduceIte, Prog.pure_eq_ret]
    rw [show j = 2 * (i 2).val by omega]
    iintro ⟨H, Hk⟩
    rw [wp_ret]; imodintro
    iapply Hk; iexact H
  | succ k ih =>
    intro j hj' Φ
    have hj : j < 2 * (i 2).val := by omega
    have hS2 : 256 * (2 * (i 2).val - 1 - j) + 256 ≤ 2048 := by omega
    rw [vback_apply]
    show _ ⊢ wp frame (wpE (defs₀ (F := Ideal)) 𝒱n (c : Thread nD τ) (some (k + 1))) E
      (cc0_while1 i arg3 harg3 arg4 harg4 arg10 harg10 arg7 harg7 arg9 harg9 arg5 harg5 (BitVec.ofNat 32 j) 1#1) Φ
    simp only [cc0_while1_eq_skeleton]; unfold cc0_while1_skel
    have htest : Scalar.andi (Scalar.cmpi .slt (BitVec.ofNat 32 j) (Scalar.muli (BitVec.ofNat 32 (i 2).val) 2#32)) 1#1 = 1#1 := by
      rw [sweeps_eq _ h4, slt_lt _ (by omega) j (by omega)]; decide
    simp only [htest, ↓reduceIte]
    have hchk : k0_chk1 i (BitVec.ofNat 32 j) := chk1_lt i j hj
    simp only [k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold vheld owns
    iintro ⟨⟨⟨%f0, %hf0, H0⟩, ⟨%f1, %hf1, H1⟩, ⟨%f2, %hf2, H2⟩, ⟨%f4, %hf4, H4⟩, ⟨%f9, %hf9, H9⟩, ⟨%f10, %hf10, H10⟩⟩, Hk⟩
    obtain rfl := harg3.eq_unread hf0; obtain rfl := harg4.eq_unread hf1; obtain rfl := harg5.eq_unread hf2; obtain rfl := harg7.eq_unread hf4
    sl_exec
    have hs10 : ∀ f x, arg10.view.read (Elt Ideal) f = x → Sofar arg10 f x (carSt Q K (i 2).val (pos (i 2).val (j + 1) 0)) 0 256 8 (vback1_le.sl.H10_8 c i arg3 harg3 arg4 harg4 arg10 x0 x1 j hchk f10) := fun f x hf =>
      (sofar_cons (k := 7) (by decide) (by decide) _ _ (sofar_cons (k := 6) (by decide) (by decide) _ _ (sofar_cons (k := 5) (by decide) (by decide) _ _ (sofar_cons (k := 4) (by decide) (by decide) _ _ (sofar_cons (k := 3) (by decide) (by decide) _ _ (sofar_cons (k := 2) (by decide) (by decide) _ _ (sofar_cons (k := 1) (by decide) (by decide) _ _ (sofar_cons (k := 0) (by decide) (by decide) _ _ (sofar_nil arg10 f x (carSt Q K (i 2).val (pos (i 2).val (j + 1) 0)) 0 256 hf)
          (fun r l => Eq.trans (b := _) rfl (car1_head0 arg3 harg3 arg4 harg4 arg10 hR i j hj hS2 f10 hf10 r l)))
          (fun r l => Eq.trans (b := _) rfl (car1_head1 arg3 harg3 arg4 harg4 arg10 hR i j hj hS2 f10 hf10 r l)))
          (fun r l => Eq.trans (b := _) rfl (car1_head2 arg3 harg3 arg4 harg4 arg10 hR i j hj hS2 f10 hf10 r l)))
          (fun r l => Eq.trans (b := _) rfl (car1_head3 arg3 harg3 arg4 harg4 arg10 hR i j hj hS2 f10 hf10 r l)))
          (fun r l => Eq.trans (b := _) rfl (car1_head4 arg3 harg3 arg4 harg4 arg10 hR i j hj hS2 f10 hf10 r l)))
          (fun r l => Eq.trans (b := _) rfl (car1_head5 arg3 harg3 arg4 harg4 arg10 hR i j hj hS2 f10 hf10 r l)))
          (fun r l => Eq.trans (b := _) rfl (car1_head6 arg3 harg3 arg4 harg4 arg10 hR i j hj hS2 f10 hf10 r l)))
          (fun r l => Eq.trans (b := _) rfl (car1_head7 arg3 harg3 arg4 harg4 arg10 hR i j hj hS2 f10 hf10 r l)))
    have hgo : Scalar.cmpf CmpFPredicate.ogt (vback1_le.sl.r_19 c i arg3 harg3 arg4 harg4 arg10 x0 x1 j hchk f10) (Named.named κ "vanish" 3273654272#32) = 1#1 :=
      goes (View.readAt (Elt Ideal) arg10.view (Rect.unit (s := S8x512x128) ![0, 0, 0] S8x256x128.size (by decide)).toLoadRect
          (arg10.view.writes (Elt Ideal) arg10.view.junk (vback1_le.sl.H10_8 c i arg3 harg3 arg4 harg4 arg10 x0 x1 j hchk f10)))
        (load_real arg10 _ Q K (i 2).val (pos (i 2).val (j + 1) 0) 0 (by decide) _ fun g r l => by
          rw [hs10 _ _ rfl, if_pos ⟨g.isLt, by rw [sh_val]; omega, by rw [sh_val]; have := r.isLt; omega⟩])
    have hd10 : arg10.view.read (Elt Ideal) (arg10.view.writes (Elt Ideal) f10 (vback1_le.sl.H10_8 c i arg3 harg3 arg4 harg4 arg10 x0 x1 j hchk f10)) = (carSt Q K (i 2).val (pos (i 2).val (j + 1) 0)) := sofar_done (hs10 f10 _ hf10) (carSt Q K (i 2).val (pos (i 2).val (j + 1) 0)) (fun g r l _ _ => rfl) (fun g r l h => by rw [carSt_at, carSt_at]; unfold pos; rw [if_neg (by omega), if_neg (by omega)])
    rw [show vback1_le.sl.v1370 j = BitVec.ofNat 32 (j + 1) from step_eq j (by omega), hgo]
    iapply (wp_call_spec 𝒱n (c : Thread nD τ) (some (k + 1)) E (vback c i arg3 arg4 arg10 arg7 arg9 arg5 x0 x1 x2 x4 Q K V (j + 1) 0 (2 * (i 2).val) 0) k
      (fun u hu => by cases hu; exact Nat.lt_succ_self k) (ih (j + 1) (by omega)))
    rw [vback_apply]; unfold vheld owns
    isplitl [H0 H1 H2 H4 H9 H10]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H4]
      · iexists _; isplitr; · ipureintro; exact harg7.read_unread _
        iexact H4
      isplitl [H9]
      · iexists _; isplitr; swap; · iexact H9
        ipureintro; exact sofar_done (sofar_cons (k := 7) (by decide) (by decide) _ _ (sofar_cons (k := 6) (by decide) (by decide) _ _ (sofar_cons (k := 5) (by decide) (by decide) _ _ (sofar_cons (k := 4) (by decide) (by decide) _ _ (sofar_cons (k := 3) (by decide) (by decide) _ _ (sofar_cons (k := 2) (by decide) (by decide) _ _ (sofar_cons (k := 1) (by decide) (by decide) _ _ (sofar_cons (k := 0) (by decide) (by decide) _ _ (sofar_nil arg9 f9 (accSt Q K V (i 2).val (pos (i 2).val j 0)) (accSt Q K V (i 2).val (pos (i 2).val (j + 1) 0)) 0 256 hf9)
          (fun r l => Eq.trans (b := _) rfl (acc1_head0 arg3 harg3 arg4 harg4 arg10 arg7 harg7 arg9 arg5 harg5 hR i j hj hS2 f9 hf9 f10 hf10 r l)))
          (fun r l => Eq.trans (b := _) rfl (acc1_head1 arg3 harg3 arg4 harg4 arg10 arg7 harg7 arg9 arg5 harg5 hR i j hj hS2 f9 hf9 f10 hf10 r l)))
          (fun r l => Eq.trans (b := _) rfl (acc1_head2 arg3 harg3 arg4 harg4 arg10 arg7 harg7 arg9 arg5 harg5 hR i j hj hS2 f9 hf9 f10 hf10 r l)))
          (fun r l => Eq.trans (b := _) rfl (acc1_head3 arg3 harg3 arg4 harg4 arg10 arg7 harg7 arg9 arg5 harg5 hR i j hj hS2 f9 hf9 f10 hf10 r l)))
          (fun r l => Eq.trans (b := _) rfl (acc1_head4 arg3 harg3 arg4 harg4 arg10 arg7 harg7 arg9 arg5 harg5 hR i j hj hS2 f9 hf9 f10 hf10 r l)))
          (fun r l => Eq.trans (b := _) rfl (acc1_head5 arg3 harg3 arg4 harg4 arg10 arg7 harg7 arg9 arg5 harg5 hR i j hj hS2 f9 hf9 f10 hf10 r l)))
          (fun r l => Eq.trans (b := _) rfl (acc1_head6 arg3 harg3 arg4 harg4 arg10 arg7 harg7 arg9 arg5 harg5 hR i j hj hS2 f9 hf9 f10 hf10 r l)))
          (fun r l => Eq.trans (b := _) rfl (acc1_head7 arg3 harg3 arg4 harg4 arg10 arg7 harg7 arg9 arg5 harg5 hR i j hj hS2 f9 hf9 f10 hf10 r l))) (accSt Q K V (i 2).val (pos (i 2).val (j + 1) 0)) (fun g r l _ _ => rfl) (fun g r l h => by rw [accSt_at, accSt_at]; unfold pos; rw [if_neg (by omega), if_neg (by omega)])
      iexists _; isplitr; swap; · iexact H10
      ipureintro; exact hd10
    iintro %r H
    rw [wp_ret]; imodintro
    iapply Hk
    iexact H

end

end Cert.KernelIdeal.Own

end
-- ==== Proof.Value.Sweep2.lean ====
/- The sweep of rows 256 to 511, with the contents of the scratch: it meets one block of keys after another. -/
module

public import proofs.«01_k».proof.Proof.Ideal.Sweep2
public import proofs.«01_k».proof.Proof.Value.Sweep1

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

section
variable {Q : Fin 8 → Fin 512 → Fin 128 → ℝ} {K V : Fin 8 → ℕ → Fin 128 → ℝ}
  {x0 : Vec Ideal S1x8x512x128 .bf16} {x1 x2 : Vec Ideal S1x8x2048x128 .bf16} {x4 : Vec Ideal S256x256 .bf16}
  (arg3 : Memref sig .tc .vmem S1x8x512x128 .bf16) (harg3 : arg3.IsWhole) (arg4 : Memref sig .tc .vmem S1x8x2048x128 .bf16) (harg4 : arg4.IsWhole) (arg10 : Memref sig .tc .vmem S8x512x128 .f32) (arg7 : Memref sig .tc .vmem S256x256 .bf16) (harg7 : arg7.IsWhole) (arg9 : Memref sig .tc .vmem S8x512x128 .f32) (arg5 : Memref sig .tc .vmem S1x8x2048x128 .bf16) (harg5 : arg5.IsWhole)
  (hR : Reals x0 x1 x2 x4 Q K V) (i : grid0.Coords) (j : ℕ) (hj : j < 2 * (i 2).val) (hS2 : 256 * (2 * (i 2).val - 1 - j) + 256 ≤ 2048)

section
variable (f9 : arg9.view.ty.Contents (Elt Ideal)) (hf9 : arg9.view.read (Elt Ideal) f9 = (accSt Q K V (i 2).val (pos (i 2).val (2 * (i 2).val) j)))
  (f10 : arg10.view.ty.Contents (Elt Ideal)) (hf10 : arg10.view.read (Elt Ideal) f10 = (carSt Q K (i 2).val (pos (i 2).val (2 * (i 2).val) j)))
include hR hj hf9 hf10

/-- What the sweep leaves of head 0's accumulators, -/
theorem acc2_head0 (r : Fin 256) (l : Fin 128) :
    accS (View.readAt (Elt Ideal) arg3.view (Rect.unit (s := S1x8x512x128) ![0, 0, 256, 0] S1x1x256x128.size (by decide)).toLoadRect (harg3.unread x0))
      (View.readAt (Elt Ideal) arg4.view (Rect.unit (s := S1x8x2048x128) (k0_off17 i (BitVec.ofNat 32 j)) S1x1x256x128.size (by rw [off2_0 i j hj]; exact key_inb 0 _ (by decide) hS2)).toLoadRect (harg4.unread x1))
      (View.readAt (Elt Ideal) arg5.view (Rect.unit (s := S1x8x2048x128) (k0_off17 i (BitVec.ofNat 32 j)) S1x1x256x128.size (by rw [off2_0 i j hj]; exact key_inb 0 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![0, 256, 0] S1x256x128.size (by decide)).toLoadRect f10)
      (View.readAt (Elt Ideal) arg9.view (Rect.unit (s := S8x512x128) ![0, 256, 0] S1x256x128.size (by decide)).toLoadRect f9)
      (ix3 0 r l) = accSt Q K V (i 2).val (pos (i 2).val (2 * (i 2).val) (j + 1)) (ix3 0 (sh (show 256 + 256 ≤ 512 by decide) r) l) :=
  sweep_acc hR (i 2).val 0 (256 * (2 * (i 2).val - 1 - j)) hS2 (pos (i 2).val (2 * (i 2).val) j) (pos (i 2).val (2 * (i 2).val) (j + 1)) _ _ _ (load4 arg4 harg4 x1 0 (256 * (2 * (i 2).val - 1 - j)) 256 hS2 _ (off2_0 i j hj) _)
    (load4 arg5 harg5 x2 0 (256 * (2 * (i 2).val - 1 - j)) 256 hS2 _ (off2_0 i j hj) _) (load2 arg7 harg7 x4 _) 256 (by decide) _ _ _ (load4 arg3 harg3 x0 0 256 256 (by decide) _ rfl _)
    (load3 arg10 f10 _ hf10 0 256 256 (by decide) _) (load3 arg9 f9 _ hf9 0 256 256 (by decide) _) (pos_hi (i 2).val (2 * (i 2).val) j hj) (pos_hi' (i 2).val (2 * (i 2).val) j hj) (by omega) r l

/-- What the sweep leaves of head 1's accumulators, -/
theorem acc2_head1 (r : Fin 256) (l : Fin 128) :
    accS (View.readAt (Elt Ideal) arg3.view (Rect.unit (s := S1x8x512x128) ![0, 1, 256, 0] S1x1x256x128.size (by decide)).toLoadRect (harg3.unread x0))
      (View.readAt (Elt Ideal) arg4.view (Rect.unit (s := S1x8x2048x128) (k0_off18 i (BitVec.ofNat 32 j)) S1x1x256x128.size (by rw [off2_1 i j hj]; exact key_inb 1 _ (by decide) hS2)).toLoadRect (harg4.unread x1))
      (View.readAt (Elt Ideal) arg5.view (Rect.unit (s := S1x8x2048x128) (k0_off18 i (BitVec.ofNat 32 j)) S1x1x256x128.size (by rw [off2_1 i j hj]; exact key_inb 1 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![1, 256, 0] S1x256x128.size (by decide)).toLoadRect f10)
      (View.readAt (Elt Ideal) arg9.view (Rect.unit (s := S8x512x128) ![1, 256, 0] S1x256x128.size (by decide)).toLoadRect f9)
      (ix3 0 r l) = accSt Q K V (i 2).val (pos (i 2).val (2 * (i 2).val) (j + 1)) (ix3 1 (sh (show 256 + 256 ≤ 512 by decide) r) l) :=
  sweep_acc hR (i 2).val 1 (256 * (2 * (i 2).val - 1 - j)) hS2 (pos (i 2).val (2 * (i 2).val) j) (pos (i 2).val (2 * (i 2).val) (j + 1)) _ _ _ (load4 arg4 harg4 x1 1 (256 * (2 * (i 2).val - 1 - j)) 256 hS2 _ (off2_1 i j hj) _)
    (load4 arg5 harg5 x2 1 (256 * (2 * (i 2).val - 1 - j)) 256 hS2 _ (off2_1 i j hj) _) (load2 arg7 harg7 x4 _) 256 (by decide) _ _ _ (load4 arg3 harg3 x0 1 256 256 (by decide) _ rfl _)
    (load3 arg10 f10 _ hf10 1 256 256 (by decide) _) (load3 arg9 f9 _ hf9 1 256 256 (by decide) _) (pos_hi (i 2).val (2 * (i 2).val) j hj) (pos_hi' (i 2).val (2 * (i 2).val) j hj) (by omega) r l

/-- What the sweep leaves of head 2's accumulators, -/
theorem acc2_head2 (r : Fin 256) (l : Fin 128) :
    accS (View.readAt (Elt Ideal) arg3.view (Rect.unit (s := S1x8x512x128) ![0, 2, 256, 0] S1x1x256x128.size (by decide)).toLoadRect (harg3.unread x0))
      (View.readAt (Elt Ideal) arg4.view (Rect.unit (s := S1x8x2048x128) (k0_off19 i (BitVec.ofNat 32 j)) S1x1x256x128.size (by rw [off2_2 i j hj]; exact key_inb 2 _ (by decide) hS2)).toLoadRect (harg4.unread x1))
      (View.readAt (Elt Ideal) arg5.view (Rect.unit (s := S1x8x2048x128) (k0_off19 i (BitVec.ofNat 32 j)) S1x1x256x128.size (by rw [off2_2 i j hj]; exact key_inb 2 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![2, 256, 0] S1x256x128.size (by decide)).toLoadRect f10)
      (View.readAt (Elt Ideal) arg9.view (Rect.unit (s := S8x512x128) ![2, 256, 0] S1x256x128.size (by decide)).toLoadRect f9)
      (ix3 0 r l) = accSt Q K V (i 2).val (pos (i 2).val (2 * (i 2).val) (j + 1)) (ix3 2 (sh (show 256 + 256 ≤ 512 by decide) r) l) :=
  sweep_acc hR (i 2).val 2 (256 * (2 * (i 2).val - 1 - j)) hS2 (pos (i 2).val (2 * (i 2).val) j) (pos (i 2).val (2 * (i 2).val) (j + 1)) _ _ _ (load4 arg4 harg4 x1 2 (256 * (2 * (i 2).val - 1 - j)) 256 hS2 _ (off2_2 i j hj) _)
    (load4 arg5 harg5 x2 2 (256 * (2 * (i 2).val - 1 - j)) 256 hS2 _ (off2_2 i j hj) _) (load2 arg7 harg7 x4 _) 256 (by decide) _ _ _ (load4 arg3 harg3 x0 2 256 256 (by decide) _ rfl _)
    (load3 arg10 f10 _ hf10 2 256 256 (by decide) _) (load3 arg9 f9 _ hf9 2 256 256 (by decide) _) (pos_hi (i 2).val (2 * (i 2).val) j hj) (pos_hi' (i 2).val (2 * (i 2).val) j hj) (by omega) r l

/-- What the sweep leaves of head 3's accumulators, -/
theorem acc2_head3 (r : Fin 256) (l : Fin 128) :
    accS (View.readAt (Elt Ideal) arg3.view (Rect.unit (s := S1x8x512x128) ![0, 3, 256, 0] S1x1x256x128.size (by decide)).toLoadRect (harg3.unread x0))
      (View.readAt (Elt Ideal) arg4.view (Rect.unit (s := S1x8x2048x128) (k0_off20 i (BitVec.ofNat 32 j)) S1x1x256x128.size (by rw [off2_3 i j hj]; exact key_inb 3 _ (by decide) hS2)).toLoadRect (harg4.unread x1))
      (View.readAt (Elt Ideal) arg5.view (Rect.unit (s := S1x8x2048x128) (k0_off20 i (BitVec.ofNat 32 j)) S1x1x256x128.size (by rw [off2_3 i j hj]; exact key_inb 3 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![3, 256, 0] S1x256x128.size (by decide)).toLoadRect f10)
      (View.readAt (Elt Ideal) arg9.view (Rect.unit (s := S8x512x128) ![3, 256, 0] S1x256x128.size (by decide)).toLoadRect f9)
      (ix3 0 r l) = accSt Q K V (i 2).val (pos (i 2).val (2 * (i 2).val) (j + 1)) (ix3 3 (sh (show 256 + 256 ≤ 512 by decide) r) l) :=
  sweep_acc hR (i 2).val 3 (256 * (2 * (i 2).val - 1 - j)) hS2 (pos (i 2).val (2 * (i 2).val) j) (pos (i 2).val (2 * (i 2).val) (j + 1)) _ _ _ (load4 arg4 harg4 x1 3 (256 * (2 * (i 2).val - 1 - j)) 256 hS2 _ (off2_3 i j hj) _)
    (load4 arg5 harg5 x2 3 (256 * (2 * (i 2).val - 1 - j)) 256 hS2 _ (off2_3 i j hj) _) (load2 arg7 harg7 x4 _) 256 (by decide) _ _ _ (load4 arg3 harg3 x0 3 256 256 (by decide) _ rfl _)
    (load3 arg10 f10 _ hf10 3 256 256 (by decide) _) (load3 arg9 f9 _ hf9 3 256 256 (by decide) _) (pos_hi (i 2).val (2 * (i 2).val) j hj) (pos_hi' (i 2).val (2 * (i 2).val) j hj) (by omega) r l

/-- What the sweep leaves of head 4's accumulators, -/
theorem acc2_head4 (r : Fin 256) (l : Fin 128) :
    accS (View.readAt (Elt Ideal) arg3.view (Rect.unit (s := S1x8x512x128) ![0, 4, 256, 0] S1x1x256x128.size (by decide)).toLoadRect (harg3.unread x0))
      (View.readAt (Elt Ideal) arg4.view (Rect.unit (s := S1x8x2048x128) (k0_off21 i (BitVec.ofNat 32 j)) S1x1x256x128.size (by rw [off2_4 i j hj]; exact key_inb 4 _ (by decide) hS2)).toLoadRect (harg4.unread x1))
      (View.readAt (Elt Ideal) arg5.view (Rect.unit (s := S1x8x2048x128) (k0_off21 i (BitVec.ofNat 32 j)) S1x1x256x128.size (by rw [off2_4 i j hj]; exact key_inb 4 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![4, 256, 0] S1x256x128.size (by decide)).toLoadRect f10)
      (View.readAt (Elt Ideal) arg9.view (Rect.unit (s := S8x512x128) ![4, 256, 0] S1x256x128.size (by decide)).toLoadRect f9)
      (ix3 0 r l) = accSt Q K V (i 2).val (pos (i 2).val (2 * (i 2).val) (j + 1)) (ix3 4 (sh (show 256 + 256 ≤ 512 by decide) r) l) :=
  sweep_acc hR (i 2).val 4 (256 * (2 * (i 2).val - 1 - j)) hS2 (pos (i 2).val (2 * (i 2).val) j) (pos (i 2).val (2 * (i 2).val) (j + 1)) _ _ _ (load4 arg4 harg4 x1 4 (256 * (2 * (i 2).val - 1 - j)) 256 hS2 _ (off2_4 i j hj) _)
    (load4 arg5 harg5 x2 4 (256 * (2 * (i 2).val - 1 - j)) 256 hS2 _ (off2_4 i j hj) _) (load2 arg7 harg7 x4 _) 256 (by decide) _ _ _ (load4 arg3 harg3 x0 4 256 256 (by decide) _ rfl _)
    (load3 arg10 f10 _ hf10 4 256 256 (by decide) _) (load3 arg9 f9 _ hf9 4 256 256 (by decide) _) (pos_hi (i 2).val (2 * (i 2).val) j hj) (pos_hi' (i 2).val (2 * (i 2).val) j hj) (by omega) r l

/-- What the sweep leaves of head 5's accumulators, -/
theorem acc2_head5 (r : Fin 256) (l : Fin 128) :
    accS (View.readAt (Elt Ideal) arg3.view (Rect.unit (s := S1x8x512x128) ![0, 5, 256, 0] S1x1x256x128.size (by decide)).toLoadRect (harg3.unread x0))
      (View.readAt (Elt Ideal) arg4.view (Rect.unit (s := S1x8x2048x128) (k0_off22 i (BitVec.ofNat 32 j)) S1x1x256x128.size (by rw [off2_5 i j hj]; exact key_inb 5 _ (by decide) hS2)).toLoadRect (harg4.unread x1))
      (View.readAt (Elt Ideal) arg5.view (Rect.unit (s := S1x8x2048x128) (k0_off22 i (BitVec.ofNat 32 j)) S1x1x256x128.size (by rw [off2_5 i j hj]; exact key_inb 5 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![5, 256, 0] S1x256x128.size (by decide)).toLoadRect f10)
      (View.readAt (Elt Ideal) arg9.view (Rect.unit (s := S8x512x128) ![5, 256, 0] S1x256x128.size (by decide)).toLoadRect f9)
      (ix3 0 r l) = accSt Q K V (i 2).val (pos (i 2).val (2 * (i 2).val) (j + 1)) (ix3 5 (sh (show 256 + 256 ≤ 512 by decide) r) l) :=
  sweep_acc hR (i 2).val 5 (256 * (2 * (i 2).val - 1 - j)) hS2 (pos (i 2).val (2 * (i 2).val) j) (pos (i 2).val (2 * (i 2).val) (j + 1)) _ _ _ (load4 arg4 harg4 x1 5 (256 * (2 * (i 2).val - 1 - j)) 256 hS2 _ (off2_5 i j hj) _)
    (load4 arg5 harg5 x2 5 (256 * (2 * (i 2).val - 1 - j)) 256 hS2 _ (off2_5 i j hj) _) (load2 arg7 harg7 x4 _) 256 (by decide) _ _ _ (load4 arg3 harg3 x0 5 256 256 (by decide) _ rfl _)
    (load3 arg10 f10 _ hf10 5 256 256 (by decide) _) (load3 arg9 f9 _ hf9 5 256 256 (by decide) _) (pos_hi (i 2).val (2 * (i 2).val) j hj) (pos_hi' (i 2).val (2 * (i 2).val) j hj) (by omega) r l

/-- What the sweep leaves of head 6's accumulators, -/
theorem acc2_head6 (r : Fin 256) (l : Fin 128) :
    accS (View.readAt (Elt Ideal) arg3.view (Rect.unit (s := S1x8x512x128) ![0, 6, 256, 0] S1x1x256x128.size (by decide)).toLoadRect (harg3.unread x0))
      (View.readAt (Elt Ideal) arg4.view (Rect.unit (s := S1x8x2048x128) (k0_off23 i (BitVec.ofNat 32 j)) S1x1x256x128.size (by rw [off2_6 i j hj]; exact key_inb 6 _ (by decide) hS2)).toLoadRect (harg4.unread x1))
      (View.readAt (Elt Ideal) arg5.view (Rect.unit (s := S1x8x2048x128) (k0_off23 i (BitVec.ofNat 32 j)) S1x1x256x128.size (by rw [off2_6 i j hj]; exact key_inb 6 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![6, 256, 0] S1x256x128.size (by decide)).toLoadRect f10)
      (View.readAt (Elt Ideal) arg9.view (Rect.unit (s := S8x512x128) ![6, 256, 0] S1x256x128.size (by decide)).toLoadRect f9)
      (ix3 0 r l) = accSt Q K V (i 2).val (pos (i 2).val (2 * (i 2).val) (j + 1)) (ix3 6 (sh (show 256 + 256 ≤ 512 by decide) r) l) :=
  sweep_acc hR (i 2).val 6 (256 * (2 * (i 2).val - 1 - j)) hS2 (pos (i 2).val (2 * (i 2).val) j) (pos (i 2).val (2 * (i 2).val) (j + 1)) _ _ _ (load4 arg4 harg4 x1 6 (256 * (2 * (i 2).val - 1 - j)) 256 hS2 _ (off2_6 i j hj) _)
    (load4 arg5 harg5 x2 6 (256 * (2 * (i 2).val - 1 - j)) 256 hS2 _ (off2_6 i j hj) _) (load2 arg7 harg7 x4 _) 256 (by decide) _ _ _ (load4 arg3 harg3 x0 6 256 256 (by decide) _ rfl _)
    (load3 arg10 f10 _ hf10 6 256 256 (by decide) _) (load3 arg9 f9 _ hf9 6 256 256 (by decide) _) (pos_hi (i 2).val (2 * (i 2).val) j hj) (pos_hi' (i 2).val (2 * (i 2).val) j hj) (by omega) r l

/-- What the sweep leaves of head 7's accumulators, -/
theorem acc2_head7 (r : Fin 256) (l : Fin 128) :
    accS (View.readAt (Elt Ideal) arg3.view (Rect.unit (s := S1x8x512x128) ![0, 7, 256, 0] S1x1x256x128.size (by decide)).toLoadRect (harg3.unread x0))
      (View.readAt (Elt Ideal) arg4.view (Rect.unit (s := S1x8x2048x128) (k0_off24 i (BitVec.ofNat 32 j)) S1x1x256x128.size (by rw [off2_7 i j hj]; exact key_inb 7 _ (by decide) hS2)).toLoadRect (harg4.unread x1))
      (View.readAt (Elt Ideal) arg5.view (Rect.unit (s := S1x8x2048x128) (k0_off24 i (BitVec.ofNat 32 j)) S1x1x256x128.size (by rw [off2_7 i j hj]; exact key_inb 7 _ (by decide) hS2)).toLoadRect (harg5.unread x2))
      (View.readAt (Elt Ideal) arg7.view (Rect.unit (s := S256x256) ![0, 0] S256x256.size (by decide)).toLoadRect (harg7.unread x4))
      (View.readAt (Elt Ideal) arg10.view (Rect.unit (s := S8x512x128) ![7, 256, 0] S1x256x128.size (by decide)).toLoadRect f10)
      (View.readAt (Elt Ideal) arg9.view (Rect.unit (s := S8x512x128) ![7, 256, 0] S1x256x128.size (by decide)).toLoadRect f9)
      (ix3 0 r l) = accSt Q K V (i 2).val (pos (i 2).val (2 * (i 2).val) (j + 1)) (ix3 7 (sh (show 256 + 256 ≤ 512 by decide) r) l) :=
  sweep_acc hR (i 2).val 7 (256 * (2 * (i 2).val - 1 - j)) hS2 (pos (i 2).val (2 * (i 2).val) j) (pos (i 2).val (2 * (i 2).val) (j + 1)) _ _ _ (load4 arg4 harg4 x1 7 (256 * (2 * (i 2).val - 1 - j)) 256 hS2 _ (off2_7 i j hj) _)
    (load4 arg5 harg5 x2 7 (256 * (2 * (i 2).val - 1 - j)) 256 hS2 _ (off2_7 i j hj) _) (load2 arg7 harg7 x4 _) 256 (by decide) _ _ _ (load4 arg3 harg3 x0 7 256 256 (by decide) _ rfl _)
    (load3 arg10 f10 _ hf10 7 256 256 (by decide) _) (load3 arg9 f9 _ hf9 7 256 256 (by decide) _) (pos_hi (i 2).val (2 * (i 2).val) j hj) (pos_hi' (i 2).val (2 * (i 2).val) j hj) (by omega) r l

end

section
variable (f10 : arg10.view.ty.Contents (Elt Ideal)) (hf10 : arg10.view.read (Elt Ideal) f10 = (carSt Q K (i 2).val (pos (i 2).val (2 * (i 2).val) j)))
include hR hj hf10

/-- and of its running sums. -/
theorem car2_head0 (r : Fin 256) (l : Fin 128) :
    carS (View.readAt (Elt Ideal) arg3.view (Rect.unit (s := S1x8x512x128) ![0, 0, 256, 0] S1x1x256x128.size (by decide)).toLoadRect (harg3.unread x0))
      (View.readAt (Elt Ideal) arg4.view (Rect.unit (s := S1x8x2048x128) (k0_off17 i (BitVec.ofNat 32 j)) S1x1x256x128.size (by rw [off2_0 i j hj]; exact key_inb 0 _ (by decide) hS2)).toLoadRect (harg4.unread x1))
      (View.readAt (Elt Ideal) arg10.view (Rect.unit (s := S8x512x128) ![0, 256, 0] S1x256x128.size (by decide)).toLoadRect f10)
      (ix3 0 r l) = carSt Q K (i 2).val (pos (i 2).val (2 * (i 2).val) (j + 1)) (ix3 0 (sh (show 256 + 256 ≤ 512 by decide) r) l) :=
  sweep_car hR (i 2).val 0 (256 * (2 * (i 2).val - 1 - j)) hS2 (pos (i 2).val (2 * (i 2).val) j) (pos (i 2).val (2 * (i 2).val) (j + 1)) _ (load4 arg4 harg4 x1 0 (256 * (2 * (i 2).val - 1 - j)) 256 hS2 _ (off2_0 i j hj) _)
    256 (by decide) _ _ (load4 arg3 harg3 x0 0 256 256 (by decide) _ rfl _)
    (load3 arg10 f10 _ hf10 0 256 256 (by decide) _) (pos_hi (i 2).val (2 * (i 2).val) j hj) (pos_hi' (i 2).val (2 * (i 2).val) j hj) (by omega) r l

/-- and of its running sums. -/
theorem car2_head1 (r : Fin 256) (l : Fin 128) :
    carS (View.readAt (Elt Ideal) arg3.view (Rect.unit (s := S1x8x512x128) ![0, 1, 256, 0] S1x1x256x128.size (by decide)).toLoadRect (harg3.unread x0))
      (View.readAt (Elt Ideal) arg4.view (Rect.unit (s := S1x8x2048x128) (k0_off18 i (BitVec.ofNat 32 j)) S1x1x256x128.size (by rw [off2_1 i j hj]; exact key_inb 1 _ (by decide) hS2)).toLoadRect (harg4.unread x1))
      (View.readAt (Elt Ideal) arg10.view (Rect.unit (s := S8x512x128) ![1, 256, 0] S1x256x128.size (by decide)).toLoadRect f10)
      (ix3 0 r l) = carSt Q K (i 2).val (pos (i 2).val (2 * (i 2).val) (j + 1)) (ix3 1 (sh (show 256 + 256 ≤ 512 by decide) r) l) :=
  sweep_car hR (i 2).val 1 (256 * (2 * (i 2).val - 1 - j)) hS2 (pos (i 2).val (2 * (i 2).val) j) (pos (i 2).val (2 * (i 2).val) (j + 1)) _ (load4 arg4 harg4 x1 1 (256 * (2 * (i 2).val - 1 - j)) 256 hS2 _ (off2_1 i j hj) _)
    256 (by decide) _ _ (load4 arg3 harg3 x0 1 256 256 (by decide) _ rfl _)
    (load3 arg10 f10 _ hf10 1 256 256 (by decide) _) (pos_hi (i 2).val (2 * (i 2).val) j hj) (pos_hi' (i 2).val (2 * (i 2).val) j hj) (by omega) r l

/-- and of its running sums. -/
theorem car2_head2 (r : Fin 256) (l : Fin 128) :
    carS (View.readAt (Elt Ideal) arg3.view (Rect.unit (s := S1x8x512x128) ![0, 2, 256, 0] S1x1x256x128.size (by decide)).toLoadRect (harg3.unread x0))
      (View.readAt (Elt Ideal) arg4.view (Rect.unit (s := S1x8x2048x128) (k0_off19 i (BitVec.ofNat 32 j)) S1x1x256x128.size (by rw [off2_2 i j hj]; exact key_inb 2 _ (by decide) hS2)).toLoadRect (harg4.unread x1))
      (View.readAt (Elt Ideal) arg10.view (Rect.unit (s := S8x512x128) ![2, 256, 0] S1x256x128.size (by decide)).toLoadRect f10)
      (ix3 0 r l) = carSt Q K (i 2).val (pos (i 2).val (2 * (i 2).val) (j + 1)) (ix3 2 (sh (show 256 + 256 ≤ 512 by decide) r) l) :=
  sweep_car hR (i 2).val 2 (256 * (2 * (i 2).val - 1 - j)) hS2 (pos (i 2).val (2 * (i 2).val) j) (pos (i 2).val (2 * (i 2).val) (j + 1)) _ (load4 arg4 harg4 x1 2 (256 * (2 * (i 2).val - 1 - j)) 256 hS2 _ (off2_2 i j hj) _)
    256 (by decide) _ _ (load4 arg3 harg3 x0 2 256 256 (by decide) _ rfl _)
    (load3 arg10 f10 _ hf10 2 256 256 (by decide) _) (pos_hi (i 2).val (2 * (i 2).val) j hj) (pos_hi' (i 2).val (2 * (i 2).val) j hj) (by omega) r l

/-- and of its running sums. -/
theorem car2_head3 (r : Fin 256) (l : Fin 128) :
    carS (View.readAt (Elt Ideal) arg3.view (Rect.unit (s := S1x8x512x128) ![0, 3, 256, 0] S1x1x256x128.size (by decide)).toLoadRect (harg3.unread x0))
      (View.readAt (Elt Ideal) arg4.view (Rect.unit (s := S1x8x2048x128) (k0_off20 i (BitVec.ofNat 32 j)) S1x1x256x128.size (by rw [off2_3 i j hj]; exact key_inb 3 _ (by decide) hS2)).toLoadRect (harg4.unread x1))
      (View.readAt (Elt Ideal) arg10.view (Rect.unit (s := S8x512x128) ![3, 256, 0] S1x256x128.size (by decide)).toLoadRect f10)
      (ix3 0 r l) = carSt Q K (i 2).val (pos (i 2).val (2 * (i 2).val) (j + 1)) (ix3 3 (sh (show 256 + 256 ≤ 512 by decide) r) l) :=
  sweep_car hR (i 2).val 3 (256 * (2 * (i 2).val - 1 - j)) hS2 (pos (i 2).val (2 * (i 2).val) j) (pos (i 2).val (2 * (i 2).val) (j + 1)) _ (load4 arg4 harg4 x1 3 (256 * (2 * (i 2).val - 1 - j)) 256 hS2 _ (off2_3 i j hj) _)
    256 (by decide) _ _ (load4 arg3 harg3 x0 3 256 256 (by decide) _ rfl _)
    (load3 arg10 f10 _ hf10 3 256 256 (by decide) _) (pos_hi (i 2).val (2 * (i 2).val) j hj) (pos_hi' (i 2).val (2 * (i 2).val) j hj) (by omega) r l

/-- and of its running sums. -/
theorem car2_head4 (r : Fin 256) (l : Fin 128) :
    carS (View.readAt (Elt Ideal) arg3.view (Rect.unit (s := S1x8x512x128) ![0, 4, 256, 0] S1x1x256x128.size (by decide)).toLoadRect (harg3.unread x0))
      (View.readAt (Elt Ideal) arg4.view (Rect.unit (s := S1x8x2048x128) (k0_off21 i (BitVec.ofNat 32 j)) S1x1x256x128.size (by rw [off2_4 i j hj]; exact key_inb 4 _ (by decide) hS2)).toLoadRect (harg4.unread x1))
      (View.readAt (Elt Ideal) arg10.view (Rect.unit (s := S8x512x128) ![4, 256, 0] S1x256x128.size (by decide)).toLoadRect f10)
      (ix3 0 r l) = carSt Q K (i 2).val (pos (i 2).val (2 * (i 2).val) (j + 1)) (ix3 4 (sh (show 256 + 256 ≤ 512 by decide) r) l) :=
  sweep_car hR (i 2).val 4 (256 * (2 * (i 2).val - 1 - j)) hS2 (pos (i 2).val (2 * (i 2).val) j) (pos (i 2).val (2 * (i 2).val) (j + 1)) _ (load4 arg4 harg4 x1 4 (256 * (2 * (i 2).val - 1 - j)) 256 hS2 _ (off2_4 i j hj) _)
    256 (by decide) _ _ (load4 arg3 harg3 x0 4 256 256 (by decide) _ rfl _)
    (load3 arg10 f10 _ hf10 4 256 256 (by decide) _) (pos_hi (i 2).val (2 * (i 2).val) j hj) (pos_hi' (i 2).val (2 * (i 2).val) j hj) (by omega) r l

/-- and of its running sums. -/
theorem car2_head5 (r : Fin 256) (l : Fin 128) :
    carS (View.readAt (Elt Ideal) arg3.view (Rect.unit (s := S1x8x512x128) ![0, 5, 256, 0] S1x1x256x128.size (by decide)).toLoadRect (harg3.unread x0))
      (View.readAt (Elt Ideal) arg4.view (Rect.unit (s := S1x8x2048x128) (k0_off22 i (BitVec.ofNat 32 j)) S1x1x256x128.size (by rw [off2_5 i j hj]; exact key_inb 5 _ (by decide) hS2)).toLoadRect (harg4.unread x1))
      (View.readAt (Elt Ideal) arg10.view (Rect.unit (s := S8x512x128) ![5, 256, 0] S1x256x128.size (by decide)).toLoadRect f10)
      (ix3 0 r l) = carSt Q K (i 2).val (pos (i 2).val (2 * (i 2).val) (j + 1)) (ix3 5 (sh (show 256 + 256 ≤ 512 by decide) r) l) :=
  sweep_car hR (i 2).val 5 (256 * (2 * (i 2).val - 1 - j)) hS2 (pos (i 2).val (2 * (i 2).val) j) (pos (i 2).val (2 * (i 2).val) (j + 1)) _ (load4 arg4 harg4 x1 5 (256 * (2 * (i 2).val - 1 - j)) 256 hS2 _ (off2_5 i j hj) _)
    256 (by decide) _ _ (load4 arg3 harg3 x0 5 256 256 (by decide) _ rfl _)
    (load3 arg10 f10 _ hf10 5 256 256 (by decide) _) (pos_hi (i 2).val (2 * (i 2).val) j hj) (pos_hi' (i 2).val (2 * (i 2).val) j hj) (by omega) r l

/-- and of its running sums. -/
theorem car2_head6 (r : Fin 256) (l : Fin 128) :
    carS (View.readAt (Elt Ideal) arg3.view (Rect.unit (s := S1x8x512x128) ![0, 6, 256, 0] S1x1x256x128.size (by decide)).toLoadRect (harg3.unread x0))
      (View.readAt (Elt Ideal) arg4.view (Rect.unit (s := S1x8x2048x128) (k0_off23 i (BitVec.ofNat 32 j)) S1x1x256x128.size (by rw [off2_6 i j hj]; exact key_inb 6 _ (by decide) hS2)).toLoadRect (harg4.unread x1))
      (View.readAt (Elt Ideal) arg10.view (Rect.unit (s := S8x512x128) ![6, 256, 0] S1x256x128.size (by decide)).toLoadRect f10)
      (ix3 0 r l) = carSt Q K (i 2).val (pos (i 2).val (2 * (i 2).val) (j + 1)) (ix3 6 (sh (show 256 + 256 ≤ 512 by decide) r) l) :=
  sweep_car hR (i 2).val 6 (256 * (2 * (i 2).val - 1 - j)) hS2 (pos (i 2).val (2 * (i 2).val) j) (pos (i 2).val (2 * (i 2).val) (j + 1)) _ (load4 arg4 harg4 x1 6 (256 * (2 * (i 2).val - 1 - j)) 256 hS2 _ (off2_6 i j hj) _)
    256 (by decide) _ _ (load4 arg3 harg3 x0 6 256 256 (by decide) _ rfl _)
    (load3 arg10 f10 _ hf10 6 256 256 (by decide) _) (pos_hi (i 2).val (2 * (i 2).val) j hj) (pos_hi' (i 2).val (2 * (i 2).val) j hj) (by omega) r l

/-- and of its running sums. -/
theorem car2_head7 (r : Fin 256) (l : Fin 128) :
    carS (View.readAt (Elt Ideal) arg3.view (Rect.unit (s := S1x8x512x128) ![0, 7, 256, 0] S1x1x256x128.size (by decide)).toLoadRect (harg3.unread x0))
      (View.readAt (Elt Ideal) arg4.view (Rect.unit (s := S1x8x2048x128) (k0_off24 i (BitVec.ofNat 32 j)) S1x1x256x128.size (by rw [off2_7 i j hj]; exact key_inb 7 _ (by decide) hS2)).toLoadRect (harg4.unread x1))
      (View.readAt (Elt Ideal) arg10.view (Rect.unit (s := S8x512x128) ![7, 256, 0] S1x256x128.size (by decide)).toLoadRect f10)
      (ix3 0 r l) = carSt Q K (i 2).val (pos (i 2).val (2 * (i 2).val) (j + 1)) (ix3 7 (sh (show 256 + 256 ≤ 512 by decide) r) l) :=
  sweep_car hR (i 2).val 7 (256 * (2 * (i 2).val - 1 - j)) hS2 (pos (i 2).val (2 * (i 2).val) j) (pos (i 2).val (2 * (i 2).val) (j + 1)) _ (load4 arg4 harg4 x1 7 (256 * (2 * (i 2).val - 1 - j)) 256 hS2 _ (off2_7 i j hj) _)
    256 (by decide) _ _ (load4 arg3 harg3 x0 7 256 256 (by decide) _ rfl _)
    (load3 arg10 f10 _ hf10 7 256 256 (by decide) _) (pos_hi (i 2).val (2 * (i 2).val) j hj) (pos_hi' (i 2).val (2 * (i 2).val) j hj) (by omega) r l

end
end

section
variable (c : Dev nD) (i : grid0.Coords) (arg3 : Memref sig .tc .vmem S1x8x512x128 .bf16) (harg3 : arg3.IsWhole) (arg4 : Memref sig .tc .vmem S1x8x2048x128 .bf16) (harg4 : arg4.IsWhole) (arg10 : Memref sig .tc .vmem S8x512x128 .f32) (harg10 : arg10.IsWhole) (arg7 : Memref sig .tc .vmem S256x256 .bf16) (harg7 : arg7.IsWhole) (arg9 : Memref sig .tc .vmem S8x512x128 .f32) (harg9 : arg9.IsWhole) (arg5 : Memref sig .tc .vmem S1x8x2048x128 .bf16) (harg5 : arg5.IsWhole)
  (x0 : Vec Ideal S1x8x512x128 .bf16) (x1 x2 : Vec Ideal S1x8x2048x128 .bf16) (x4 : Vec Ideal S256x256 .bf16)
    (Q : Fin 8 → Fin 512 → Fin 128 → ℝ) (K V : Fin 8 → ℕ → Fin 128 → ℝ)

set_option maxHeartbeats 8000000 in
/-- From the state with `j` sweeps done, the loop runs every sweep left. -/
theorem vback2_le (hR : Reals x0 x1 x2 x4 Q K V) (E : Set ℕ) :
    ∀ k j, j + k = 2 * (i 2).val → ∀ Φ, vback c i arg3 arg4 arg10 arg7 arg9 arg5 x0 x1 x2 x4 Q K V (2 * (i 2).val) j (2 * (i 2).val) (2 * (i 2).val) Φ
      ⊢ wp frame (wpE (defs₀ (F := Ideal)) 𝒱n (c : Thread nD τ) (some k)) E
          (defs₀ (F := Ideal) .tc 2 ⟨i, arg3, harg3, arg4, harg4, arg10, harg10, arg7, harg7, arg9, harg9, arg5, harg5, BitVec.ofNat 32 j, 1#1⟩) Φ := by
  have h4 : (i 2).val < 4 := (i 2).isLt
  intro k
  induction k with
  | zero =>
    intro j hj Φ
    rw [vback_apply]
    show _ ⊢ wp frame (wpE (defs₀ (F := Ideal)) 𝒱n (c : Thread nD τ) (some 0)) E
      (cc0_while2 i arg3 harg3 arg4 harg4 arg10 harg10 arg7 harg7 arg9 harg9 arg5 harg5 (BitVec.ofNat 32 j) 1#1) Φ
    simp only [cc0_while2_eq_skeleton]; unfold cc0_while2_skel
    have htest : ¬Scalar.andi (Scalar.cmpi .slt (BitVec.ofNat 32 j) (Scalar.muli (BitVec.ofNat 32 (i 2).val) 2#32)) 1#1 = 1#1 := by
      rw [sweeps_eq _ h4, show j = 2 * (i 2).val by omega, slt_end _ (by omega)]
      decide
    simp only [htest, ↓reduceIte, Prog.pure_eq_ret]
    rw [show j = 2 * (i 2).val by omega]
    iintro ⟨H, Hk⟩
    rw [wp_ret]; imodintro
    iapply Hk; iexact H
  | succ k ih =>
    intro j hj' Φ
    have hj : j < 2 * (i 2).val := by omega
    have hS2 : 256 * (2 * (i 2).val - 1 - j) + 256 ≤ 2048 := by omega
    rw [vback_apply]
    show _ ⊢ wp frame (wpE (defs₀ (F := Ideal)) 𝒱n (c : Thread nD τ) (some (k + 1))) E
      (cc0_while2 i arg3 harg3 arg4 harg4 arg10 harg10 arg7 harg7 arg9 harg9 arg5 harg5 (BitVec.ofNat 32 j) 1#1) Φ
    simp only [cc0_while2_eq_skeleton]; unfold cc0_while2_skel
    have htest : Scalar.andi (Scalar.cmpi .slt (BitVec.ofNat 32 j) (Scalar.muli (BitVec.ofNat 32 (i 2).val) 2#32)) 1#1 = 1#1 := by
      rw [sweeps_eq _ h4, slt_lt _ (by omega) j (by omega)]; decide
    simp only [htest, ↓reduceIte]
    have hchk : k0_chk2 i (BitVec.ofNat 32 j) := chk2_lt i j hj
    simp only [k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold vheld owns
    iintro ⟨⟨⟨%f0, %hf0, H0⟩, ⟨%f1, %hf1, H1⟩, ⟨%f2, %hf2, H2⟩, ⟨%f4, %hf4, H4⟩, ⟨%f9, %hf9, H9⟩, ⟨%f10, %hf10, H10⟩⟩, Hk⟩
    obtain rfl := harg3.eq_unread hf0; obtain rfl := harg4.eq_unread hf1; obtain rfl := harg5.eq_unread hf2; obtain rfl := harg7.eq_unread hf4
    sl_exec
    have hs10 : ∀ f x, arg10.view.read (Elt Ideal) f = x → Sofar arg10 f x (carSt Q K (i 2).val (pos (i 2).val (2 * (i 2).val) (j + 1))) 256 256 8 (vback2_le.sl.H10_8 c i arg3 harg3 arg4 harg4 arg10 x0 x1 j hchk f10) := fun f x hf =>
      (sofar_cons (k := 7) (by decide) (by decide) _ _ (sofar_cons (k := 6) (by decide) (by decide) _ _ (sofar_cons (k := 5) (by decide) (by decide) _ _ (sofar_cons (k := 4) (by decide) (by decide) _ _ (sofar_cons (k := 3) (by decide) (by decide) _ _ (sofar_cons (k := 2) (by decide) (by decide) _ _ (sofar_cons (k := 1) (by decide) (by decide) _ _ (sofar_cons (k := 0) (by decide) (by decide) _ _ (sofar_nil arg10 f x (carSt Q K (i 2).val (pos (i 2).val (2 * (i 2).val) (j + 1))) 256 256 hf)
          (fun r l => Eq.trans (b := _) rfl (car2_head0 arg3 harg3 arg4 harg4 arg10 hR i j hj hS2 f10 hf10 r l)))
          (fun r l => Eq.trans (b := _) rfl (car2_head1 arg3 harg3 arg4 harg4 arg10 hR i j hj hS2 f10 hf10 r l)))
          (fun r l => Eq.trans (b := _) rfl (car2_head2 arg3 harg3 arg4 harg4 arg10 hR i j hj hS2 f10 hf10 r l)))
          (fun r l => Eq.trans (b := _) rfl (car2_head3 arg3 harg3 arg4 harg4 arg10 hR i j hj hS2 f10 hf10 r l)))
          (fun r l => Eq.trans (b := _) rfl (car2_head4 arg3 harg3 arg4 harg4 arg10 hR i j hj hS2 f10 hf10 r l)))
          (fun r l => Eq.trans (b := _) rfl (car2_head5 arg3 harg3 arg4 harg4 arg10 hR i j hj hS2 f10 hf10 r l)))
          (fun r l => Eq.trans (b := _) rfl (car2_head6 arg3 harg3 arg4 harg4 arg10 hR i j hj hS2 f10 hf10 r l)))
          (fun r l => Eq.trans (b := _) rfl (car2_head7 arg3 harg3 arg4 harg4 arg10 hR i j hj hS2 f10 hf10 r l)))
    have hgo : Scalar.cmpf CmpFPredicate.ogt (vback2_le.sl.r_19 c i arg3 harg3 arg4 harg4 arg10 x0 x1 j hchk f10) (Named.named κ "vanish" 3273654272#32) = 1#1 :=
      goes (View.readAt (Elt Ideal) arg10.view (Rect.unit (s := S8x512x128) ![0, 256, 0] S8x256x128.size (by decide)).toLoadRect
          (arg10.view.writes (Elt Ideal) arg10.view.junk (vback2_le.sl.H10_8 c i arg3 harg3 arg4 harg4 arg10 x0 x1 j hchk f10)))
        (load_real arg10 _ Q K (i 2).val (pos (i 2).val (2 * (i 2).val) (j + 1)) 256 (by decide) _ fun g r l => by
          rw [hs10 _ _ rfl, if_pos ⟨g.isLt, by rw [sh_val]; omega, by rw [sh_val]; have := r.isLt; omega⟩])
    have hd10 : arg10.view.read (Elt Ideal) (arg10.view.writes (Elt Ideal) f10 (vback2_le.sl.H10_8 c i arg3 harg3 arg4 harg4 arg10 x0 x1 j hchk f10)) = (carSt Q K (i 2).val (pos (i 2).val (2 * (i 2).val) (j + 1))) := sofar_done (hs10 f10 _ hf10) (carSt Q K (i 2).val (pos (i 2).val (2 * (i 2).val) (j + 1))) (fun g r l _ _ => rfl) (fun g r l h => by rw [carSt_at, carSt_at]; unfold pos; rw [if_pos (by have := r.isLt; omega), if_pos (by have := r.isLt; omega)])
    rw [show vback2_le.sl.v1370 j = BitVec.ofNat 32 (j + 1) from step_eq j (by omega), hgo]
    iapply (wp_call_spec 𝒱n (c : Thread nD τ) (some (k + 1)) E (vback c i arg3 arg4 arg10 arg7 arg9 arg5 x0 x1 x2 x4 Q K V (2 * (i 2).val) (j + 1) (2 * (i 2).val) (2 * (i 2).val)) k
      (fun u hu => by cases hu; exact Nat.lt_succ_self k) (ih (j + 1) (by omega)))
    rw [vback_apply]; unfold vheld owns
    isplitl [H0 H1 H2 H4 H9 H10]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H4]
      · iexists _; isplitr; · ipureintro; exact harg7.read_unread _
        iexact H4
      isplitl [H9]
      · iexists _; isplitr; swap; · iexact H9
        ipureintro; exact sofar_done (sofar_cons (k := 7) (by decide) (by decide) _ _ (sofar_cons (k := 6) (by decide) (by decide) _ _ (sofar_cons (k := 5) (by decide) (by decide) _ _ (sofar_cons (k := 4) (by decide) (by decide) _ _ (sofar_cons (k := 3) (by decide) (by decide) _ _ (sofar_cons (k := 2) (by decide) (by decide) _ _ (sofar_cons (k := 1) (by decide) (by decide) _ _ (sofar_cons (k := 0) (by decide) (by decide) _ _ (sofar_nil arg9 f9 (accSt Q K V (i 2).val (pos (i 2).val (2 * (i 2).val) j)) (accSt Q K V (i 2).val (pos (i 2).val (2 * (i 2).val) (j + 1))) 256 256 hf9)
          (fun r l => Eq.trans (b := _) rfl (acc2_head0 arg3 harg3 arg4 harg4 arg10 arg7 harg7 arg9 arg5 harg5 hR i j hj hS2 f9 hf9 f10 hf10 r l)))
          (fun r l => Eq.trans (b := _) rfl (acc2_head1 arg3 harg3 arg4 harg4 arg10 arg7 harg7 arg9 arg5 harg5 hR i j hj hS2 f9 hf9 f10 hf10 r l)))
          (fun r l => Eq.trans (b := _) rfl (acc2_head2 arg3 harg3 arg4 harg4 arg10 arg7 harg7 arg9 arg5 harg5 hR i j hj hS2 f9 hf9 f10 hf10 r l)))
          (fun r l => Eq.trans (b := _) rfl (acc2_head3 arg3 harg3 arg4 harg4 arg10 arg7 harg7 arg9 arg5 harg5 hR i j hj hS2 f9 hf9 f10 hf10 r l)))
          (fun r l => Eq.trans (b := _) rfl (acc2_head4 arg3 harg3 arg4 harg4 arg10 arg7 harg7 arg9 arg5 harg5 hR i j hj hS2 f9 hf9 f10 hf10 r l)))
          (fun r l => Eq.trans (b := _) rfl (acc2_head5 arg3 harg3 arg4 harg4 arg10 arg7 harg7 arg9 arg5 harg5 hR i j hj hS2 f9 hf9 f10 hf10 r l)))
          (fun r l => Eq.trans (b := _) rfl (acc2_head6 arg3 harg3 arg4 harg4 arg10 arg7 harg7 arg9 arg5 harg5 hR i j hj hS2 f9 hf9 f10 hf10 r l)))
          (fun r l => Eq.trans (b := _) rfl (acc2_head7 arg3 harg3 arg4 harg4 arg10 arg7 harg7 arg9 arg5 harg5 hR i j hj hS2 f9 hf9 f10 hf10 r l))) (accSt Q K V (i 2).val (pos (i 2).val (2 * (i 2).val) (j + 1))) (fun g r l _ _ => rfl) (fun g r l h => by rw [accSt_at, accSt_at]; unfold pos; rw [if_pos (by have := r.isLt; omega), if_pos (by have := r.isLt; omega)])
      iexists _; isplitr; swap; · iexact H10
      ipureintro; exact hd10
    iintro %r H
    rw [wp_ret]; imodintro
    iapply Hk
    iexact H

end

end Cert.KernelIdeal.Own

end
-- ==== Proof.Value.Body.lean ====
/- What one step of the grid leaves in the output. -/
module

public import proofs.«01_k».proof.Proof.Value.Diag
public import proofs.«01_k».proof.Proof.Value.Sweep1
public import proofs.«01_k».proof.Proof.Value.Sweep2

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- From blocks of real entries the body ends with the output's block at the gated sums over all earlier
    keys of the stick weights. -/
theorem vbody (c : Dev nD) (i : grid0.Coords) (arg3 : Memref sig .tc .vmem S1x8x512x128 .bf16) (harg3 : arg3.IsWhole) (arg4 : Memref sig .tc .vmem S1x8x2048x128 .bf16) (harg4 : arg4.IsWhole) (arg5 : Memref sig .tc .vmem S1x8x2048x128 .bf16) (harg5 : arg5.IsWhole) (arg6 : Memref sig .tc .vmem S1x8x512x128 .bf16) (harg6 : arg6.IsWhole) (arg7 : Memref sig .tc .vmem S256x256 .bf16) (harg7 : arg7.IsWhole) (arg8 : Memref sig .tc .vmem S1x8x512x128 .bf16) (harg8 : arg8.IsWhole) (arg9 : Memref sig .tc .vmem S8x512x128 .f32) (harg9 : arg9.IsWhole) (arg10 : Memref sig .tc .vmem S8x512x128 .f32) (harg10 : arg10.IsWhole)
    (x0 : Vec Ideal S1x8x512x128 .bf16) (x1 : Vec Ideal S1x8x2048x128 .bf16) (x2 : Vec Ideal S1x8x2048x128 .bf16) (x3 : Vec Ideal S1x8x512x128 .bf16) (x4 : Vec Ideal S256x256 .bf16)
    (Q : Fin 8 → Fin 512 → Fin 128 → ℝ) (KK VV : Fin 8 → ℕ → Fin 128 → ℝ) (Z : Fin 8 → Fin 512 → Fin 128 → ℝ) (hR : Reals x0 x1 x2 x4 Q KK VV)
    (hZ : ∀ (g : Fin 8) (r : Fin 512) (d : Fin 128), x3 (ix4 (0 : Fin 1) g r d) = ((Z g r d : ℝ) : EReal)) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outSt Q KK VV Z (i 2).val) ∗ (∃ d, owns (c : Thread nD τ) arg9 fullShare d) ∗ (∃ d, owns (c : Thread nD τ) arg10 fullShare d) -∗ K ⟨⟩))
      ⊢ wp frame (wpE (defs₀ (F := Ideal)) 𝒱n c none) E (cc0_sb_attention i arg3 harg3 arg4 harg4 arg5 harg5 arg6 harg6 arg7 harg7 arg8 harg8 arg9 harg9 arg10 harg10) K := by
    simp only [cc0_sb_attention_eq_skeleton]; unfold cc0_sb_attention_skel
    simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4
    sl_exec
    have c1_0 : ∀ f, Sofar arg10 f (carSt Q KK (i 2).val (st0s (i 2).val)) (carSt Q KK (i 2).val (st1s (i 2).val)) 256 256 0 (vbody.sl.H10_1) := fun f => sofar_start (fill_car (i 2).val arg10 f _)
    have c1_1 : ∀ f, Sofar arg10 f (carSt Q KK (i 2).val (st0s (i 2).val)) (carSt Q KK (i 2).val (st1s (i 2).val)) 256 256 1 (vbody.sl.H10_2 c i arg3 harg3 arg4 harg4 arg10 x0 x1) := fun f =>
      sofar_cons (k := 0) (by decide) (by decide) _ _ (c1_0 f) (fun r l => Eq.trans (b := _) rfl (diag1_car0 arg3 harg3 arg4 harg4 arg10 hR i (c1_0 _) r l))
    have c1_2 : ∀ f, Sofar arg10 f (carSt Q KK (i 2).val (st0s (i 2).val)) (carSt Q KK (i 2).val (st1s (i 2).val)) 256 256 2 (vbody.sl.H10_3 c i arg3 harg3 arg4 harg4 arg10 x0 x1) := fun f =>
      sofar_cons (k := 1) (by decide) (by decide) _ _ (c1_1 f) (fun r l => Eq.trans (b := _) rfl (diag1_car1 arg3 harg3 arg4 harg4 arg10 hR i (c1_1 _) r l))
    have c1_3 : ∀ f, Sofar arg10 f (carSt Q KK (i 2).val (st0s (i 2).val)) (carSt Q KK (i 2).val (st1s (i 2).val)) 256 256 3 (vbody.sl.H10_4 c i arg3 harg3 arg4 harg4 arg10 x0 x1) := fun f =>
      sofar_cons (k := 2) (by decide) (by decide) _ _ (c1_2 f) (fun r l => Eq.trans (b := _) rfl (diag1_car2 arg3 harg3 arg4 harg4 arg10 hR i (c1_2 _) r l))
    have c1_4 : ∀ f, Sofar arg10 f (carSt Q KK (i 2).val (st0s (i 2).val)) (carSt Q KK (i 2).val (st1s (i 2).val)) 256 256 4 (vbody.sl.H10_5 c i arg3 harg3 arg4 harg4 arg10 x0 x1) := fun f =>
      sofar_cons (k := 3) (by decide) (by decide) _ _ (c1_3 f) (fun r l => Eq.trans (b := _) rfl (diag1_car3 arg3 harg3 arg4 harg4 arg10 hR i (c1_3 _) r l))
    have c1_5 : ∀ f, Sofar arg10 f (carSt Q KK (i 2).val (st0s (i 2).val)) (carSt Q KK (i 2).val (st1s (i 2).val)) 256 256 5 (vbody.sl.H10_6 c i arg3 harg3 arg4 harg4 arg10 x0 x1) := fun f =>
      sofar_cons (k := 4) (by decide) (by decide) _ _ (c1_4 f) (fun r l => Eq.trans (b := _) rfl (diag1_car4 arg3 harg3 arg4 harg4 arg10 hR i (c1_4 _) r l))
    have c1_6 : ∀ f, Sofar arg10 f (carSt Q KK (i 2).val (st0s (i 2).val)) (carSt Q KK (i 2).val (st1s (i 2).val)) 256 256 6 (vbody.sl.H10_7 c i arg3 harg3 arg4 harg4 arg10 x0 x1) := fun f =>
      sofar_cons (k := 5) (by decide) (by decide) _ _ (c1_5 f) (fun r l => Eq.trans (b := _) rfl (diag1_car5 arg3 harg3 arg4 harg4 arg10 hR i (c1_5 _) r l))
    have c1_7 : ∀ f, Sofar arg10 f (carSt Q KK (i 2).val (st0s (i 2).val)) (carSt Q KK (i 2).val (st1s (i 2).val)) 256 256 7 (vbody.sl.H10_8 c i arg3 harg3 arg4 harg4 arg10 x0 x1) := fun f =>
      sofar_cons (k := 6) (by decide) (by decide) _ _ (c1_6 f) (fun r l => Eq.trans (b := _) rfl (diag1_car6 arg3 harg3 arg4 harg4 arg10 hR i (c1_6 _) r l))
    have c1_8 : ∀ f, Sofar arg10 f (carSt Q KK (i 2).val (st0s (i 2).val)) (carSt Q KK (i 2).val (st1s (i 2).val)) 256 256 8 (vbody.sl.H10_9 c i arg3 harg3 arg4 harg4 arg10 x0 x1) := fun f =>
      sofar_cons (k := 7) (by decide) (by decide) _ _ (c1_7 f) (fun r l => Eq.trans (b := _) rfl (diag1_car7 arg3 harg3 arg4 harg4 arg10 hR i (c1_7 _) r l))
    have cr1 : ∀ f, arg10.view.read (Elt Ideal) (arg10.view.writes (Elt Ideal) f (vbody.sl.H10_9 c i arg3 harg3 arg4 harg4 arg10 x0 x1)) = carSt Q KK (i 2).val (st1s (i 2).val) := fun f =>
      sofar_done (c1_8 f) _ (fun _ _ _ _ _ => rfl) (fun g r l h => st01_car _ g r l (by omega))
    have c0_0 : ∀ f, Sofar arg10 f (carSt Q KK (i 2).val (st1s (i 2).val)) (carSt Q KK (i 2).val (pos (i 2).val 0 0)) 0 512 0 (vbody.sl.H10_9 c i arg3 harg3 arg4 harg4 arg10 x0 x1) := fun f => sofar_start (cr1 f)
    have c0_1 : ∀ f, Sofar arg10 f (carSt Q KK (i 2).val (st1s (i 2).val)) (carSt Q KK (i 2).val (pos (i 2).val 0 0)) 0 512 1 (vbody.sl.H10_10 c i arg3 harg3 arg4 harg4 arg10 x0 x1) := fun f =>
      sofar_cons (k := 0) (by decide) (by decide) _ _ (c0_0 f) (fun r l => Eq.trans (b := _) rfl (diag0_car0 arg3 harg3 arg4 harg4 arg10 hR i (c0_0 _) r l))
    have c0_2 : ∀ f, Sofar arg10 f (carSt Q KK (i 2).val (st1s (i 2).val)) (carSt Q KK (i 2).val (pos (i 2).val 0 0)) 0 512 2 (vbody.sl.H10_11 c i arg3 harg3 arg4 harg4 arg10 x0 x1) := fun f =>
      sofar_cons (k := 1) (by decide) (by decide) _ _ (c0_1 f) (fun r l => Eq.trans (b := _) rfl (diag0_car1 arg3 harg3 arg4 harg4 arg10 hR i (c0_1 _) r l))
    have c0_3 : ∀ f, Sofar arg10 f (carSt Q KK (i 2).val (st1s (i 2).val)) (carSt Q KK (i 2).val (pos (i 2).val 0 0)) 0 512 3 (vbody.sl.H10_12 c i arg3 harg3 arg4 harg4 arg10 x0 x1) := fun f =>
      sofar_cons (k := 2) (by decide) (by decide) _ _ (c0_2 f) (fun r l => Eq.trans (b := _) rfl (diag0_car2 arg3 harg3 arg4 harg4 arg10 hR i (c0_2 _) r l))
    have c0_4 : ∀ f, Sofar arg10 f (carSt Q KK (i 2).val (st1s (i 2).val)) (carSt Q KK (i 2).val (pos (i 2).val 0 0)) 0 512 4 (vbody.sl.H10_13 c i arg3 harg3 arg4 harg4 arg10 x0 x1) := fun f =>
      sofar_cons (k := 3) (by decide) (by decide) _ _ (c0_3 f) (fun r l => Eq.trans (b := _) rfl (diag0_car3 arg3 harg3 arg4 harg4 arg10 hR i (c0_3 _) r l))
    have c0_5 : ∀ f, Sofar arg10 f (carSt Q KK (i 2).val (st1s (i 2).val)) (carSt Q KK (i 2).val (pos (i 2).val 0 0)) 0 512 5 (vbody.sl.H10_14 c i arg3 harg3 arg4 harg4 arg10 x0 x1) := fun f =>
      sofar_cons (k := 4) (by decide) (by decide) _ _ (c0_4 f) (fun r l => Eq.trans (b := _) rfl (diag0_car4 arg3 harg3 arg4 harg4 arg10 hR i (c0_4 _) r l))
    have c0_6 : ∀ f, Sofar arg10 f (carSt Q KK (i 2).val (st1s (i 2).val)) (carSt Q KK (i 2).val (pos (i 2).val 0 0)) 0 512 6 (vbody.sl.H10_15 c i arg3 harg3 arg4 harg4 arg10 x0 x1) := fun f =>
      sofar_cons (k := 5) (by decide) (by decide) _ _ (c0_5 f) (fun r l => Eq.trans (b := _) rfl (diag0_car5 arg3 harg3 arg4 harg4 arg10 hR i (c0_5 _) r l))
    have c0_7 : ∀ f, Sofar arg10 f (carSt Q KK (i 2).val (st1s (i 2).val)) (carSt Q KK (i 2).val (pos (i 2).val 0 0)) 0 512 7 (vbody.sl.H10_16 c i arg3 harg3 arg4 harg4 arg10 x0 x1) := fun f =>
      sofar_cons (k := 6) (by decide) (by decide) _ _ (c0_6 f) (fun r l => Eq.trans (b := _) rfl (diag0_car6 arg3 harg3 arg4 harg4 arg10 hR i (c0_6 _) r l))
    have c0_8 : ∀ f, Sofar arg10 f (carSt Q KK (i 2).val (st1s (i 2).val)) (carSt Q KK (i 2).val (pos (i 2).val 0 0)) 0 512 8 (vbody.sl.H10_17 c i arg3 harg3 arg4 harg4 arg10 x0 x1) := fun f =>
      sofar_cons (k := 7) (by decide) (by decide) _ _ (c0_7 f) (fun r l => Eq.trans (b := _) rfl (diag0_car7 arg3 harg3 arg4 harg4 arg10 hR i (c0_7 _) r l))
    have a1_0 : ∀ f, Sofar arg9 f (accSt Q KK VV (i 2).val (st0s (i 2).val)) (accSt Q KK VV (i 2).val (st1s (i 2).val)) 256 256 0 (vbody.sl.H9_1) := fun f => sofar_start (fill_acc (i 2).val arg9 f _)
    have a1_1 : ∀ f, Sofar arg9 f (accSt Q KK VV (i 2).val (st0s (i 2).val)) (accSt Q KK VV (i 2).val (st1s (i 2).val)) 256 256 1 (vbody.sl.H9_2 c i arg3 harg3 arg4 harg4 arg5 harg5 arg7 harg7 arg9 arg10 x0 x1 x2 x4) := fun f =>
      sofar_cons (k := 0) (by decide) (by decide) _ _ (a1_0 f) (fun r l => Eq.trans (b := _) rfl (diag1_acc0 arg3 harg3 arg4 harg4 arg5 harg5 arg7 harg7 arg9 arg10 hR i (a1_0 _) (c1_0 _) r l))
    have a1_2 : ∀ f, Sofar arg9 f (accSt Q KK VV (i 2).val (st0s (i 2).val)) (accSt Q KK VV (i 2).val (st1s (i 2).val)) 256 256 2 (vbody.sl.H9_3 c i arg3 harg3 arg4 harg4 arg5 harg5 arg7 harg7 arg9 arg10 x0 x1 x2 x4) := fun f =>
      sofar_cons (k := 1) (by decide) (by decide) _ _ (a1_1 f) (fun r l => Eq.trans (b := _) rfl (diag1_acc1 arg3 harg3 arg4 harg4 arg5 harg5 arg7 harg7 arg9 arg10 hR i (a1_1 _) (c1_1 _) r l))
    have a1_3 : ∀ f, Sofar arg9 f (accSt Q KK VV (i 2).val (st0s (i 2).val)) (accSt Q KK VV (i 2).val (st1s (i 2).val)) 256 256 3 (vbody.sl.H9_4 c i arg3 harg3 arg4 harg4 arg5 harg5 arg7 harg7 arg9 arg10 x0 x1 x2 x4) := fun f =>
      sofar_cons (k := 2) (by decide) (by decide) _ _ (a1_2 f) (fun r l => Eq.trans (b := _) rfl (diag1_acc2 arg3 harg3 arg4 harg4 arg5 harg5 arg7 harg7 arg9 arg10 hR i (a1_2 _) (c1_2 _) r l))
    have a1_4 : ∀ f, Sofar arg9 f (accSt Q KK VV (i 2).val (st0s (i 2).val)) (accSt Q KK VV (i 2).val (st1s (i 2).val)) 256 256 4 (vbody.sl.H9_5 c i arg3 harg3 arg4 harg4 arg5 harg5 arg7 harg7 arg9 arg10 x0 x1 x2 x4) := fun f =>
      sofar_cons (k := 3) (by decide) (by decide) _ _ (a1_3 f) (fun r l => Eq.trans (b := _) rfl (diag1_acc3 arg3 harg3 arg4 harg4 arg5 harg5 arg7 harg7 arg9 arg10 hR i (a1_3 _) (c1_3 _) r l))
    have a1_5 : ∀ f, Sofar arg9 f (accSt Q KK VV (i 2).val (st0s (i 2).val)) (accSt Q KK VV (i 2).val (st1s (i 2).val)) 256 256 5 (vbody.sl.H9_6 c i arg3 harg3 arg4 harg4 arg5 harg5 arg7 harg7 arg9 arg10 x0 x1 x2 x4) := fun f =>
      sofar_cons (k := 4) (by decide) (by decide) _ _ (a1_4 f) (fun r l => Eq.trans (b := _) rfl (diag1_acc4 arg3 harg3 arg4 harg4 arg5 harg5 arg7 harg7 arg9 arg10 hR i (a1_4 _) (c1_4 _) r l))
    have a1_6 : ∀ f, Sofar arg9 f (accSt Q KK VV (i 2).val (st0s (i 2).val)) (accSt Q KK VV (i 2).val (st1s (i 2).val)) 256 256 6 (vbody.sl.H9_7 c i arg3 harg3 arg4 harg4 arg5 harg5 arg7 harg7 arg9 arg10 x0 x1 x2 x4) := fun f =>
      sofar_cons (k := 5) (by decide) (by decide) _ _ (a1_5 f) (fun r l => Eq.trans (b := _) rfl (diag1_acc5 arg3 harg3 arg4 harg4 arg5 harg5 arg7 harg7 arg9 arg10 hR i (a1_5 _) (c1_5 _) r l))
    have a1_7 : ∀ f, Sofar arg9 f (accSt Q KK VV (i 2).val (st0s (i 2).val)) (accSt Q KK VV (i 2).val (st1s (i 2).val)) 256 256 7 (vbody.sl.H9_8 c i arg3 harg3 arg4 harg4 arg5 harg5 arg7 harg7 arg9 arg10 x0 x1 x2 x4) := fun f =>
      sofar_cons (k := 6) (by decide) (by decide) _ _ (a1_6 f) (fun r l => Eq.trans (b := _) rfl (diag1_acc6 arg3 harg3 arg4 harg4 arg5 harg5 arg7 harg7 arg9 arg10 hR i (a1_6 _) (c1_6 _) r l))
    have a1_8 : ∀ f, Sofar arg9 f (accSt Q KK VV (i 2).val (st0s (i 2).val)) (accSt Q KK VV (i 2).val (st1s (i 2).val)) 256 256 8 (vbody.sl.H9_9 c i arg3 harg3 arg4 harg4 arg5 harg5 arg7 harg7 arg9 arg10 x0 x1 x2 x4) := fun f =>
      sofar_cons (k := 7) (by decide) (by decide) _ _ (a1_7 f) (fun r l => Eq.trans (b := _) rfl (diag1_acc7 arg3 harg3 arg4 harg4 arg5 harg5 arg7 harg7 arg9 arg10 hR i (a1_7 _) (c1_7 _) r l))
    have ar1 : ∀ f, arg9.view.read (Elt Ideal) (arg9.view.writes (Elt Ideal) f (vbody.sl.H9_9 c i arg3 harg3 arg4 harg4 arg5 harg5 arg7 harg7 arg9 arg10 x0 x1 x2 x4)) = accSt Q KK VV (i 2).val (st1s (i 2).val) := fun f =>
      sofar_done (a1_8 f) _ (fun _ _ _ _ _ => rfl) (fun g r l h => st01_acc _ g r l (by omega))
    have a0_0 : ∀ f, Sofar arg9 f (accSt Q KK VV (i 2).val (st1s (i 2).val)) (accSt Q KK VV (i 2).val (pos (i 2).val 0 0)) 0 512 0 (vbody.sl.H9_9 c i arg3 harg3 arg4 harg4 arg5 harg5 arg7 harg7 arg9 arg10 x0 x1 x2 x4) := fun f => sofar_start (ar1 f)
    have a0_1 : ∀ f, Sofar arg9 f (accSt Q KK VV (i 2).val (st1s (i 2).val)) (accSt Q KK VV (i 2).val (pos (i 2).val 0 0)) 0 512 1 (vbody.sl.H9_10 c i arg3 harg3 arg4 harg4 arg5 harg5 arg7 harg7 arg9 arg10 x0 x1 x2 x4) := fun f =>
      sofar_cons (k := 0) (by decide) (by decide) _ _ (a0_0 f) (fun r l => Eq.trans (b := _) rfl (diag0_acc0 arg3 harg3 arg4 harg4 arg5 harg5 arg7 harg7 arg9 arg10 hR i (a0_0 _) (c0_0 _) r l))
    have a0_2 : ∀ f, Sofar arg9 f (accSt Q KK VV (i 2).val (st1s (i 2).val)) (accSt Q KK VV (i 2).val (pos (i 2).val 0 0)) 0 512 2 (vbody.sl.H9_11 c i arg3 harg3 arg4 harg4 arg5 harg5 arg7 harg7 arg9 arg10 x0 x1 x2 x4) := fun f =>
      sofar_cons (k := 1) (by decide) (by decide) _ _ (a0_1 f) (fun r l => Eq.trans (b := _) rfl (diag0_acc1 arg3 harg3 arg4 harg4 arg5 harg5 arg7 harg7 arg9 arg10 hR i (a0_1 _) (c0_1 _) r l))
    have a0_3 : ∀ f, Sofar arg9 f (accSt Q KK VV (i 2).val (st1s (i 2).val)) (accSt Q KK VV (i 2).val (pos (i 2).val 0 0)) 0 512 3 (vbody.sl.H9_12 c i arg3 harg3 arg4 harg4 arg5 harg5 arg7 harg7 arg9 arg10 x0 x1 x2 x4) := fun f =>
      sofar_cons (k := 2) (by decide) (by decide) _ _ (a0_2 f) (fun r l => Eq.trans (b := _) rfl (diag0_acc2 arg3 harg3 arg4 harg4 arg5 harg5 arg7 harg7 arg9 arg10 hR i (a0_2 _) (c0_2 _) r l))
    have a0_4 : ∀ f, Sofar arg9 f (accSt Q KK VV (i 2).val (st1s (i 2).val)) (accSt Q KK VV (i 2).val (pos (i 2).val 0 0)) 0 512 4 (vbody.sl.H9_13 c i arg3 harg3 arg4 harg4 arg5 harg5 arg7 harg7 arg9 arg10 x0 x1 x2 x4) := fun f =>
      sofar_cons (k := 3) (by decide) (by decide) _ _ (a0_3 f) (fun r l => Eq.trans (b := _) rfl (diag0_acc3 arg3 harg3 arg4 harg4 arg5 harg5 arg7 harg7 arg9 arg10 hR i (a0_3 _) (c0_3 _) r l))
    have a0_5 : ∀ f, Sofar arg9 f (accSt Q KK VV (i 2).val (st1s (i 2).val)) (accSt Q KK VV (i 2).val (pos (i 2).val 0 0)) 0 512 5 (vbody.sl.H9_14 c i arg3 harg3 arg4 harg4 arg5 harg5 arg7 harg7 arg9 arg10 x0 x1 x2 x4) := fun f =>
      sofar_cons (k := 4) (by decide) (by decide) _ _ (a0_4 f) (fun r l => Eq.trans (b := _) rfl (diag0_acc4 arg3 harg3 arg4 harg4 arg5 harg5 arg7 harg7 arg9 arg10 hR i (a0_4 _) (c0_4 _) r l))
    have a0_6 : ∀ f, Sofar arg9 f (accSt Q KK VV (i 2).val (st1s (i 2).val)) (accSt Q KK VV (i 2).val (pos (i 2).val 0 0)) 0 512 6 (vbody.sl.H9_15 c i arg3 harg3 arg4 harg4 arg5 harg5 arg7 harg7 arg9 arg10 x0 x1 x2 x4) := fun f =>
      sofar_cons (k := 5) (by decide) (by decide) _ _ (a0_5 f) (fun r l => Eq.trans (b := _) rfl (diag0_acc5 arg3 harg3 arg4 harg4 arg5 harg5 arg7 harg7 arg9 arg10 hR i (a0_5 _) (c0_5 _) r l))
    have a0_7 : ∀ f, Sofar arg9 f (accSt Q KK VV (i 2).val (st1s (i 2).val)) (accSt Q KK VV (i 2).val (pos (i 2).val 0 0)) 0 512 7 (vbody.sl.H9_16 c i arg3 harg3 arg4 harg4 arg5 harg5 arg7 harg7 arg9 arg10 x0 x1 x2 x4) := fun f =>
      sofar_cons (k := 6) (by decide) (by decide) _ _ (a0_6 f) (fun r l => Eq.trans (b := _) rfl (diag0_acc6 arg3 harg3 arg4 harg4 arg5 harg5 arg7 harg7 arg9 arg10 hR i (a0_6 _) (c0_6 _) r l))
    have cr0 : ∀ f, arg10.view.read (Elt Ideal) (arg10.view.writes (Elt Ideal) f (vbody.sl.H10_17 c i arg3 harg3 arg4 harg4 arg10 x0 x1)) = carSt Q KK (i 2).val (pos (i 2).val 0 0) := fun f =>
      sofar_done (c0_8 f) _ (fun _ _ _ _ _ => rfl) (fun _ r _ h => absurd h (by omega))
    have t1 : vbody.sl.v868 c i arg3 harg3 arg4 harg4 arg10 x0 x1 = 1#1 := goes _ (load_real arg10 _ Q KK (i 2).val (pos (i 2).val 0 0) 0 (by decide) _ (fun g r l => congrFun (cr0 _) _))
    rw [t1]
    iapply (wp_call_spec 𝒱n (c : Thread nD τ) none E (vback c i arg3 arg4 arg10 arg7 arg9 arg5 x0 x1 x2 x4 Q KK VV 0 0 (2 * (i 2).val) 0) (2 * (i 2).val)
      (fun u hu => nomatch hu) (vback1_le c i arg3 harg3 arg4 harg4 arg10 harg10 arg7 harg7 arg9 harg9 arg5 harg5 x0 x1 x2 x4 Q KK VV hR E (2 * (i 2).val) 0 (by omega)))
    rw [vback_apply]; unfold vheld owns
    isplitl [H0 H1 H2 H4 H9 H10]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H4]
      · iexists _; isplitr; · ipureintro; exact harg7.read_unread _
        iexact H4
      isplitl [H9]
      · iexists _; isplitr; swap; · iexact H9
        ipureintro; exact sofar_done (sofar_cons (k := 7) (by decide) (by decide) _ _ (a0_7 _) (fun r l => Eq.trans (b := _) rfl (diag0_acc7 arg3 harg3 arg4 harg4 arg5 harg5 arg7 harg7 arg9 arg10 hR i (a0_7 _) (c0_7 _) r l))) _ (fun _ _ _ _ _ => rfl) (fun _ r _ h => absurd h (by omega))
      iexists _; isplitr; swap; · iexact H10
      ipureintro; exact cr0 _
    iintro %r1 ⟨⟨%f01, %hf01, H0⟩, ⟨%f11, %hf11, H1⟩, ⟨%f21, %hf21, H2⟩, ⟨%f41, %hf41, H4⟩, ⟨%f91, %hf91, H9⟩, ⟨%f101, %hf101, H10⟩⟩
    obtain rfl := harg3.eq_unread hf01; obtain rfl := harg4.eq_unread hf11; obtain rfl := harg5.eq_unread hf21; obtain rfl := harg7.eq_unread hf41
    sl_exec
    have t2 : vbody.sl.v876 c arg10 f101 = 1#1 := goes _ (load_real arg10 _ Q KK (i 2).val (pos (i 2).val (2 * (i 2).val) 0) 256 (by decide) _ (fun g r l => congrFun hf101 _))
    rw [t2]
    iapply (wp_call_spec 𝒱n (c : Thread nD τ) none E (vback c i arg3 arg4 arg10 arg7 arg9 arg5 x0 x1 x2 x4 Q KK VV (2 * (i 2).val) 0 (2 * (i 2).val) (2 * (i 2).val)) (2 * (i 2).val)
      (fun u hu => nomatch hu) (vback2_le c i arg3 harg3 arg4 harg4 arg10 harg10 arg7 harg7 arg9 harg9 arg5 harg5 x0 x1 x2 x4 Q KK VV hR E (2 * (i 2).val) 0 (by omega)))
    rw [vback_apply]; unfold vheld owns
    isplitl [H0 H1 H2 H4 H9 H10]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H4]
      · iexists _; isplitr; · ipureintro; exact harg7.read_unread _
        iexact H4
      isplitl [H9]
      · iexists _; isplitr; swap; · iexact H9
        ipureintro; exact hf91
      iexists _; isplitr; swap; · iexact H10
      ipureintro; exact hf101
    iintro %r2 ⟨⟨%f02, %hf02, H0⟩, ⟨%f12, %hf12, H1⟩, ⟨%f22, %hf22, H2⟩, ⟨%f42, %hf42, H4⟩, ⟨%f92, %hf92, H9⟩, ⟨%f102, %hf102, H10⟩⟩
    obtain rfl := harg3.eq_unread hf02; obtain rfl := harg4.eq_unread hf12; obtain rfl := harg5.eq_unread hf22; obtain rfl := harg7.eq_unread hf42
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      exact outs_done (outs_cons (k := 7) (by decide) _ _ (outs_cons (k := 6) (by decide) _ _ (outs_cons (k := 5) (by decide) _ _ (outs_cons (k := 4) (by decide) _ _ (outs_cons (k := 3) (by decide) _ _ (outs_cons (k := 2) (by decide) _ _ (outs_cons (k := 1) (by decide) _ _ (outs_cons (k := 0) (by decide) _ _ (outs_nil arg8 f5 (outSt Q KK VV Z (i 2).val)) (fun r l => Eq.trans (b := _) rfl (last_step (i 2).val x3 hZ 0 _ _ (load4 arg6 harg6 x3 0 0 512 row0 _ rfl _) (load3 arg9 _ _ hf92 0 0 512 row0 _) r l))) (fun r l => Eq.trans (b := _) rfl (last_step (i 2).val x3 hZ 1 _ _ (load4 arg6 harg6 x3 1 0 512 row0 _ rfl _) (load3 arg9 _ _ hf92 1 0 512 row0 _) r l))) (fun r l => Eq.trans (b := _) rfl (last_step (i 2).val x3 hZ 2 _ _ (load4 arg6 harg6 x3 2 0 512 row0 _ rfl _) (load3 arg9 _ _ hf92 2 0 512 row0 _) r l))) (fun r l => Eq.trans (b := _) rfl (last_step (i 2).val x3 hZ 3 _ _ (load4 arg6 harg6 x3 3 0 512 row0 _ rfl _) (load3 arg9 _ _ hf92 3 0 512 row0 _) r l))) (fun r l => Eq.trans (b := _) rfl (last_step (i 2).val x3 hZ 4 _ _ (load4 arg6 harg6 x3 4 0 512 row0 _ rfl _) (load3 arg9 _ _ hf92 4 0 512 row0 _) r l))) (fun r l => Eq.trans (b := _) rfl (last_step (i 2).val x3 hZ 5 _ _ (load4 arg6 harg6 x3 5 0 512 row0 _ rfl _) (load3 arg9 _ _ hf92 5 0 512 row0 _) r l))) (fun r l => Eq.trans (b := _) rfl (last_step (i 2).val x3 hZ 6 _ _ (load4 arg6 harg6 x3 6 0 512 row0 _ rfl _) (load3 arg9 _ _ hf92 6 0 512 row0 _) r l))) (fun r l => Eq.trans (b := _) rfl (last_step (i 2).val x3 hZ 7 _ _ (load4 arg6 harg6 x3 7 0 512 row0 _ rfl _) (load3 arg9 _ _ hf92 7 0 512 row0 _) r l)))
    isplitl [H9]
    · iexists _, _; isplitr; swap; · iexact H9
      ipureintro; rfl
    iexists _, _; isplitr; swap; · iexact H10
    ipureintro; rfl

end Cert.KernelIdeal.Own

end
-- ==== Proof.Value.Launch.lean ====
/- The launch with its output named: the gated sums over the earlier keys of the stick weights, head by head. -/
module

public import proofs.«01_k».proof.Proof.Value.Body
public import Idealize.ShloMosaic.Lib.Pipeline.ValueKit
public import Idealize.ShloMosaic.Lib.Pipeline.Covers

@[expose] public section

set_option maxRecDepth 16384

noncomputable section

namespace Cert.KernelIdeal.Named

open Cert.KernelIdeal Cert.KernelIdeal.Gen Cert.KernelIdeal.Own Cert.Stick
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Head `g` of the sixteen served by two groups of eight, in part `o` of the projection's four (queries, keys, values, gate). -/
def hd (o : Fin 4) (x : Fin 2) (g : Fin 8) : Fin 64 := ⟨16 * o.val + 8 * x.val + g.val, by omega⟩
theorem hd_val (o : Fin 4) (x : Fin 2) (g : Fin 8) : (hd o x g).val = 16 * o.val + 8 * x.val + g.val := rfl
/-- Row `r` of query block `n`. -/
def rw' (n : Fin 4) (r : Fin 512) : Fin 2048 := ⟨512 * n.val + r.val, by omega⟩
theorem rw'_val (n : Fin 4) (r : Fin 512) : (rw' n r).val = 512 * n.val + r.val := rfl

section
variable (H : Fin 8 → Fin 64 → Fin 2048 → Fin 128 → ℝ)

/-- The rows of part `o` of one head, by number. -/
def rowsOf (o : Fin 4) (b : Fin 8) (x : Fin 2) (g : Fin 8) (s : ℕ) (d : Fin 128) : ℝ := if h : s < 2048 then H b (hd o x g) ⟨s, h⟩ d else 0
theorem rowsOf_at (o : Fin 4) (b : Fin 8) (x : Fin 2) (g : Fin 8) (s : Fin 2048) (d : Fin 128) : rowsOf H o b x g s.val d = H b (hd o x g) s d := by
  unfold rowsOf; rw [dif_pos s.isLt]
/-- A grid point's coordinates: the batch, the group of heads, the block of queries. -/
def pb (i : grid0.Coords) : Fin 8 := i 0
def px (i : grid0.Coords) : Fin 2 := i 1
def pn (i : grid0.Coords) : Fin 4 := i 2
theorem pb_val (i : grid0.Coords) : (pb i).val = (i 0).val := rfl
theorem px_val (i : grid0.Coords) : (px i).val = (i 1).val := rfl
theorem pn_val (i : grid0.Coords) : (pn i).val = (i 2).val := rfl
/-- The queries, keys, values and gate of one grid point. -/
def Qn (i : grid0.Coords) (g : Fin 8) (r : Fin 512) (d : Fin 128) : ℝ := H (pb i) (hd 0 (px i) g) (rw' (pn i) r) d
def Zn (i : grid0.Coords) (g : Fin 8) (r : Fin 512) (d : Fin 128) : ℝ := H (pb i) (hd 3 (px i) g) (rw' (pn i) r) d
def Kn (i : grid0.Coords) : Fin 8 → ℕ → Fin 128 → ℝ := rowsOf H 1 (pb i) (px i)
def Vn (i : grid0.Coords) : Fin 8 → ℕ → Fin 128 → ℝ := rowsOf H 2 (pb i) (px i)

/-- The kernel's result at batch `b`, head `g` of group `x`, row `s`, lane `l`. -/
def outAt (b : Fin 8) (x : Fin 2) (g : Fin 8) (s : Fin 2048) (l : Fin 128) : ℝ :=
  taken (fun key => ∑ d, H b (hd 0 x g) s d * rowsOf H 1 b x g key d) (fun key => rowsOf H 2 b x g key l) s.val 0 * gate (H b (hd 3 x g) s l)
/-- The group of a head, and its place in the group. -/
def grp (h : Fin 16) : Fin 2 := ⟨h.val / 8, by omega⟩
def inGrp (h : Fin 16) : Fin 8 := ⟨h.val % 8, by omega⟩
/-- Head `g` of group `x` among the sixteen. -/
def hd16 (x : Fin 2) (g : Fin 8) : Fin 16 := ⟨8 * x.val + g.val, by omega⟩
theorem hd16_val (x : Fin 2) (g : Fin 8) : (hd16 x g).val = 8 * x.val + g.val := rfl
theorem grp_hd16 (x : Fin 2) (g : Fin 8) : grp (hd16 x g) = x := Fin.ext (by show (8 * x.val + g.val) / 8 = x.val; omega)
theorem inGrp_hd16 (x : Fin 2) (g : Fin 8) : inGrp (hd16 x g) = g := Fin.ext (by show (8 * x.val + g.val) % 8 = g.val; omega)
/-- The kernel's whole result. -/
def outArr : Vec Ideal S8x16x2048x128 .bf16 := fun i => ((outAt H (i 0) (grp (i 1)) (inGrp (i 1)) (i 2) (i 3) : ℝ) : EReal)
end

variable (H : Dev nD → Fin 8 → Fin 64 → Fin 2048 → Fin 128 → ℝ)

/-- What the launch finds: the four projections' heads real, and the triangle of ones. -/
structure Found (c : Dev nD) : Prop where
  x : ∀ (b : Fin 8) (h : Fin 64) (s : Fin 2048) (d : Fin 128), (entry m c main_v11 : Vec Ideal S8x64x2048x128 .bf16) (ix4 b h s d) = ((H c b h s d : ℝ) : EReal)
  t : ∀ (j s : Fin 256), (entry m c main_v19 : Vec Ideal S256x256 .bf16) (ix2 j s) = (((if s.val < j.val then 1 else 0 : ℝ)) : EReal)

/-- Which block each window is at. -/
theorem idx_0 : ∀ t : Fin (cfg0 (F := Ideal)).N, win0_0.index t = ![(grid0.coords t 0).val, (grid0.coords t 1).val, (grid0.coords t 2).val, 0] := by decide +kernel
theorem idx_1 : ∀ t : Fin (cfg0 (F := Ideal)).N, win0_1.index t = ![(grid0.coords t 0).val, 2 + (grid0.coords t 1).val, 0, 0] := by decide +kernel
theorem idx_2 : ∀ t : Fin (cfg0 (F := Ideal)).N, win0_2.index t = ![(grid0.coords t 0).val, 4 + (grid0.coords t 1).val, 0, 0] := by decide +kernel
theorem idx_3 : ∀ t : Fin (cfg0 (F := Ideal)).N, win0_3.index t = ![(grid0.coords t 0).val, 6 + (grid0.coords t 1).val, (grid0.coords t 2).val, 0] := by decide +kernel
theorem idx_4 : ∀ t : Fin (cfg0 (F := Ideal)).N, win0_4.index t = ![0, 0] := by decide +kernel
theorem idx_5 : ∀ t : Fin (cfg0 (F := Ideal)).N, win0_5.index t = ![(grid0.coords t 0).val, (grid0.coords t 1).val, (grid0.coords t 2).val, 0] := by decide +kernel

/-- The input windows' blocks, at an index. -/
theorem blk_q (c : Dev nD) (hF : Found m H c) (t : Fin (cfg0 (F := Ideal)).N) (g : Fin 8) (r : Fin 512) (d : Fin 128) :
    blk m c 0 t (ix4 (0 : Fin 1) g r d) = ((Qn (H c) (grid0.coords t) g r d : ℝ) : EReal) := by
  refine Eq.trans ?_ (hF.x (pb (grid0.coords t)) (hd 0 (px (grid0.coords t)) g) (rw' (pn (grid0.coords t)) r) d)
  blk_ext [blk, idx_0 t, hd_val, rw'_val, pb_val, px_val, pn_val]
theorem blk_z (c : Dev nD) (hF : Found m H c) (t : Fin (cfg0 (F := Ideal)).N) (g : Fin 8) (r : Fin 512) (d : Fin 128) :
    blk m c 3 t (ix4 (0 : Fin 1) g r d) = ((Zn (H c) (grid0.coords t) g r d : ℝ) : EReal) := by
  refine Eq.trans ?_ (hF.x (pb (grid0.coords t)) (hd 3 (px (grid0.coords t)) g) (rw' (pn (grid0.coords t)) r) d)
  blk_ext [blk, idx_3 t, hd_val, rw'_val, pb_val, px_val, pn_val]
theorem blk_k (c : Dev nD) (hF : Found m H c) (t : Fin (cfg0 (F := Ideal)).N) (g : Fin 8) (u : Fin 2048) (d : Fin 128) :
    blk m c 1 t (ix4 (0 : Fin 1) g u d) = ((Kn (H c) (grid0.coords t) g u.val d : ℝ) : EReal) := by
  rw [show Kn (H c) (grid0.coords t) g u.val d = H c (pb (grid0.coords t)) (hd 1 (px (grid0.coords t)) g) u d from rowsOf_at _ _ _ _ _ _ _]
  refine Eq.trans ?_ (hF.x (pb (grid0.coords t)) (hd 1 (px (grid0.coords t)) g) u d)
  blk_ext [blk, idx_1 t, hd_val, pb_val, px_val]
theorem blk_v (c : Dev nD) (hF : Found m H c) (t : Fin (cfg0 (F := Ideal)).N) (g : Fin 8) (u : Fin 2048) (d : Fin 128) :
    blk m c 2 t (ix4 (0 : Fin 1) g u d) = ((Vn (H c) (grid0.coords t) g u.val d : ℝ) : EReal) := by
  rw [show Vn (H c) (grid0.coords t) g u.val d = H c (pb (grid0.coords t)) (hd 2 (px (grid0.coords t)) g) u d from rowsOf_at _ _ _ _ _ _ _]
  refine Eq.trans ?_ (hF.x (pb (grid0.coords t)) (hd 2 (px (grid0.coords t)) g) u d)
  blk_ext [blk, idx_2 t, hd_val, pb_val, px_val]
theorem blk_t (c : Dev nD) (hF : Found m H c) (t : Fin (cfg0 (F := Ideal)).N) (j s : Fin 256) :
    blk m c 4 t (ix2 j s) = (((if s.val < j.val then 1 else 0 : ℝ)) : EReal) := by
  refine Eq.trans ?_ (hF.t j s)
  blk_ext [blk, idx_4 t]

theorem reals (c : Dev nD) (hF : Found m H c) (t : Fin (cfg0 (F := Ideal)).N) :
    Reals (blk m c 0 t) (blk m c 1 t) (blk m c 2 t) (blk m c 4 t) (Qn (H c) (grid0.coords t)) (Kn (H c) (grid0.coords t)) (Vn (H c) (grid0.coords t)) :=
  ⟨blk_q m H c hF t, blk_k m H c hF t, blk_v m H c hF t, blk_t m H c hF t⟩

/-- The launch's data on core `c`: the arrays as the launch finds them, the inputs' blocks left in place, the output at the gated sums. -/
def pdat (_ : Fin 1) (c : Dev nD) : Dat τ (Elt Ideal) Unit ℕ (UR sig nD τ) ℕ (cfg0 (F := Ideal)) c where
  A w := entry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => outSt (Qn (H c) (grid0.coords t)) (Kn (H c) (grid0.coords t)) (Vn (H c) (grid0.coords t)) (Zn (H c) (grid0.coords t)) (grid0.coords t 2).val
  Φ _ := Pipeline.ΦA spec0 c
  q w := Pipeline.shareOf spec0 w
  owed _ := 0

/-- Its arrays are the launch's. -/
theorem pdat_A (c : Dev nD) (w : Fin (cfg0 (F := Ideal)).W) : (pdat m H 0 c).A w = entry m c (Pipeline.arrRef spec0 w) := by
  dsimp only [pdat]

/-- The inputs' blocks are left in place. -/
theorem after_0 (c : Dev nD) (t : Fin (cfg0 (F := Ideal)).N) : (pdat m H 0 c).after 0 t = blk m c 0 t := rfl
theorem after_1 (c : Dev nD) (t : Fin (cfg0 (F := Ideal)).N) : (pdat m H 0 c).after 1 t = blk m c 1 t := rfl
theorem after_2 (c : Dev nD) (t : Fin (cfg0 (F := Ideal)).N) : (pdat m H 0 c).after 2 t = blk m c 2 t := rfl
theorem after_3 (c : Dev nD) (t : Fin (cfg0 (F := Ideal)).N) : (pdat m H 0 c).after 3 t = blk m c 3 t := rfl
theorem after_5 (c : Dev nD) (t : Fin (cfg0 (F := Ideal)).N) : (pdat m H 0 c).after 5 t = outSt (Qn (H c) (grid0.coords t)) (Kn (H c) (grid0.coords t)) (Vn (H c) (grid0.coords t)) (Zn (H c) (grid0.coords t)) (grid0.coords t 2).val := rfl
theorem after_4 (c : Dev nD) (t : Fin (cfg0 (F := Ideal)).N) : (pdat m H 0 c).after 4 t = blk m c 4 t := rfl

/-- Window 0 is at its block when the body is called, fetched at this point or before. -/
theorem before_0 (c : Dev nD) (t : Fin (cfg0 (F := Ideal)).N) (d) : (pdat m H 0 c).before 0 t d = blk m c 0 t :=
  ((pdat m H 0 c).before_in_eq_fetched 0 rfl (fun _ => rfl) (fun _ _ _ => rfl) (fun t => by rw [after_0]; unfold Dat.blockOf blk; rw [pdat_A]; try rfl) t d).trans
    (by unfold Dat.fetched Dat.blockOf blk; rw [pdat_A]; try rfl)

/-- Window 1 is at its block when the body is called, fetched at this point or before. -/
theorem before_1 (c : Dev nD) (t : Fin (cfg0 (F := Ideal)).N) (d) : (pdat m H 0 c).before 1 t d = blk m c 1 t :=
  ((pdat m H 0 c).before_in_eq_fetched 1 rfl (fun _ => rfl) (fun _ _ _ => rfl) (fun t => by rw [after_1]; unfold Dat.blockOf blk; rw [pdat_A]; try rfl) t d).trans
    (by unfold Dat.fetched Dat.blockOf blk; rw [pdat_A]; try rfl)

/-- Window 2 is at its block when the body is called, fetched at this point or before. -/
theorem before_2 (c : Dev nD) (t : Fin (cfg0 (F := Ideal)).N) (d) : (pdat m H 0 c).before 2 t d = blk m c 2 t :=
  ((pdat m H 0 c).before_in_eq_fetched 2 rfl (fun _ => rfl) (fun _ _ _ => rfl) (fun t => by rw [after_2]; unfold Dat.blockOf blk; rw [pdat_A]; try rfl) t d).trans
    (by unfold Dat.fetched Dat.blockOf blk; rw [pdat_A]; try rfl)

/-- Window 3 is at its block when the body is called, fetched at this point or before. -/
theorem before_3 (c : Dev nD) (t : Fin (cfg0 (F := Ideal)).N) (d) : (pdat m H 0 c).before 3 t d = blk m c 3 t :=
  ((pdat m H 0 c).before_in_eq_fetched 3 rfl (fun _ => rfl) (fun _ _ _ => rfl) (fun t => by rw [after_3]; unfold Dat.blockOf blk; rw [pdat_A]; try rfl) t d).trans
    (by unfold Dat.fetched Dat.blockOf blk; rw [pdat_A]; try rfl)

/-- Window 4 is at its block when the body is called, fetched at this point or before. -/
theorem before_4 (c : Dev nD) (t : Fin (cfg0 (F := Ideal)).N) (d) : (pdat m H 0 c).before 4 t d = blk m c 4 t :=
  ((pdat m H 0 c).before_in_eq_fetched 4 rfl (fun _ => rfl) (fun _ _ _ => rfl) (fun t => by rw [after_4]; unfold Dat.blockOf blk; rw [pdat_A]; try rfl) t d).trans
    (by unfold Dat.fetched Dat.blockOf blk; rw [pdat_A]; try rfl)

/-- What the body is called with at point `t`, -/
def atCall (c : Dev nD) (t : Fin (cfg0 (F := Ideal)).N) : sProp 𝕄 :=
  iprop((pdat m H 0 c).Φ t.castSucc ∗ (pdat m H 0 c).owesAt () t.castSucc
    ∗ (∃ d, owns (c : Thread nD τ) (st0 t) fullShare ((pdat m H 0 c).before 0 t d))
    ∗ (∃ d, owns (c : Thread nD τ) (st1 t) fullShare ((pdat m H 0 c).before 1 t d))
    ∗ (∃ d, owns (c : Thread nD τ) (st2 t) fullShare ((pdat m H 0 c).before 2 t d))
    ∗ (∃ d, owns (c : Thread nD τ) (st3 t) fullShare ((pdat m H 0 c).before 3 t d))
    ∗ (∃ d, owns (c : Thread nD τ) (st4 t) fullShare ((pdat m H 0 c).before 4 t d))
    ∗ (∃ d, owns (c : Thread nD τ) (st5 t) fullShare ((pdat m H 0 c).before 5 t d)))

/-- and what it returns. -/
def atReturn (c : Dev nD) (t : Fin (cfg0 (F := Ideal)).N) : sProp 𝕄 :=
  iprop((pdat m H 0 c).Φ t.succ ∗ (pdat m H 0 c).owesAt () t.succ
    ∗ owns (c : Thread nD τ) (st0 t) fullShare ((pdat m H 0 c).after 0 t)
    ∗ owns (c : Thread nD τ) (st1 t) fullShare ((pdat m H 0 c).after 1 t)
    ∗ owns (c : Thread nD τ) (st2 t) fullShare ((pdat m H 0 c).after 2 t)
    ∗ owns (c : Thread nD τ) (st3 t) fullShare ((pdat m H 0 c).after 3 t)
    ∗ owns (c : Thread nD τ) (st4 t) fullShare ((pdat m H 0 c).after 4 t)
    ∗ owns (c : Thread nD τ) (st5 t) fullShare ((pdat m H 0 c).after 5 t))

set_option maxHeartbeats 800000 in
/-- The body at a point takes the one to the other. -/
theorem body_point (c : Dev nD) (hF : Found m H c) (t : Fin (cfg0 (F := Ideal)).N) :
    atCall m H c t ⊢ wp frame (wpE (defs₀ (F := Ideal)) 𝒱n c none) Set.univ (bodyAt0 t) (fun _ => atReturn m H c t) := by
  unfold atCall atReturn bodyAt0
  simp only [before_0, before_1, before_2, before_3, before_4]
  rw [show (pdat m H 0 c).Φ t.succ = (pdat m H 0 c).Φ t.castSucc from rfl,
    show (pdat m H 0 c).owesAt () t.succ = (pdat m H 0 c).owesAt () t.castSucc from rfl,
    after_0, after_1, after_2, after_3, after_4, after_5]
  rw [show (pdat m H 0 c).Φ t.castSucc = Pipeline.ΦA spec0 c from rfl, between_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (vbody c (grid0.coords t) _ _ _ _ _ _ _ _ _ _ _ _ _ _ _ _ (blk m c 0 t) (blk m c 1 t) (blk m c 2 t) (blk m c 3 t) (blk m c 4 t) _ _ _ _ (reals m H c hF t) (blk_z m H c hF t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The table's row at a point's buffers is the body. -/
theorem row_eq (t : Fin (cfg0 (F := Ideal)).N) :
    defs₀ (F := Ideal) .tc (cfg0 (F := Ideal)).body (cfg0.bodyArgs t (cfg0.slots t)) = bodyAt0 t := by
  unfold defs₀; rw [Defs.onTc_tc]

/-- The launch's obligation on the body holds at every point. -/
theorem obligation (c : Dev nD) (hF : Found m H c) : BodyObligation (pdat m H 0 c) (defs₀ (F := Ideal)) 𝒱n () Set.univ := fun t => by
  rw [bigSep_W0, bigSep_W0, row_eq]
  exact triple_restated (body_point m H c hF t) rfl .rfl fun _ => .rfl

/-- The output's block at a point is the whole result's. -/
theorem out_point (c : Dev nD) (t : Fin (cfg0 (F := Ideal)).N) (g : Fin 8) (r : Fin 512) (l : Fin 128) :
    outSt (Qn (H c) (grid0.coords t)) (Kn (H c) (grid0.coords t)) (Vn (H c) (grid0.coords t)) (Zn (H c) (grid0.coords t)) (grid0.coords t 2).val (ix4 (0 : Fin 1) g r l)
      = outArr (H c) ((win0_5.blk t).view.emb (ix4 (0 : Fin 1) g r l)) := by
  have e : (win0_5.blk t).view.emb (ix4 (0 : Fin 1) g r l) = ix4 (pb (grid0.coords t)) (hd16 (px (grid0.coords t)) g) (rw' (pn (grid0.coords t)) r) l := by
    blk_ext [idx_5 t, hd16_val, rw'_val, pb_val, px_val, pn_val]
  rw [e]
  show _ = ((outAt (H c) (pb (grid0.coords t)) (grp (hd16 (px (grid0.coords t)) g)) (inGrp (hd16 (px (grid0.coords t)) g)) (rw' (pn (grid0.coords t)) r) l : ℝ) : EReal)
  rw [grp_hd16, inGrp_hd16]
  rfl

/-- After the launch the output's array holds the whole result. -/
theorem out_array (c : Dev nD) : (pdat m H 0 c).arrAt 5 (cfg0 (F := Ideal)).N = outArr (H c) := by
  refine (pdat m H 0 c).arrAt_eq_of_covers 5 _ (by decide +kernel) fun t hf y => ?_
  blk_simp
  rw [after_5]
  have e : y = ix4 (0 : Fin 1) (y 1) (y 2) (y 3) := (eq_ix4 y).trans (by rw [show y 0 = (0 : Fin 1) from Subsingleton.elim (α := Fin 1) _ _]; rfl)
  exact (congrArg _ e).trans ((out_point H c t (y 1) (y 2) (y 3)).trans (congrArg (fun z => outArr (H c) ((win0_5.blk t).view.emb z)) e.symm))

set_option backward.isDefEq.respectTransparency.types false in
/-- Every run of the program ends, with the arrays the launch reads as it found them and every semaphore at zero. -/
theorem run_ends (hF : ∀ c, Found m H c) : θ_run defs (onTc (τ := τ) (main (F := Ideal))) (s₀ m ρ)
    (fun r => (Pipeline.FramePost cfgs (pdat m H) 0 (entry m)) r ∧ r.2.sem = fun _ => 0) :=
  Pipeline.θ_run_frame_shared (Q' := _) cfgs (pdat m H) (0 : Fin 1) launch₀0 defs₀ 𝒱n m ρ main
    (hbody := fun c => (obligation m H c (hF c)).loose) (hq := fun _ _ _ => rfl)
    (howed := fun _ _ => rfl) (V := entry m) (hmain := host_main m) (hA := pdat_A m H) (hΦ := fun _ _ => rfl)

/-- Every run of the program ends with the result's buffer at the whole result and the argument as it was. -/
theorem run_named (hF : ∀ c, Found m H c) : θ_run defs (onTc (τ := τ) (main (F := Ideal))) ⟨m, fun _ => 0, ρ⟩ (fun r => ∀ c : Dev nD,
      r.2.mem ((c.tc : Thread nD τ).loc main_v20) = outArr (H c)
      ∧ r.2.mem ((c.tc : Thread nD τ).loc main_arg0) = m ((c.tc : Thread nD τ).loc main_arg0)) :=
  (θ_run defs _ _).mono (fun _ h c => ⟨((h.1 c).1 5).trans (out_array m H c), ((h.1 c).2 main_arg0 (Pipeline.mem_restRefs_of main_arg0 (by decide) (fun w => (by decide : ∀ w : Fin 6, (spec0 w).arr.view.ref ≠ main_arg0) w))).trans (entry_arg0 m c)⟩) (run_ends m ρ H hF)

end Cert.KernelIdeal.Named

end
-- ==== Proof.Value.Host.lean ====
module
public import proofs.«01_k».proof.Proof.Value.Launch
public import Idealize.ShloMosaic.Lib.StableHlo.RunRead
public import proofs.«01_k».proof.Defs
@[expose] public section
set_option maxRecDepth 16384
noncomputable section
namespace Cert.KernelIdeal.Named
open Cert.KernelIdeal Cert.KernelIdeal.Gen Cert.KernelIdeal.Own Cert.Stick
open Idealize.ShloMosaic Idealize.ShloMosaic.TcCoe Idealize.ShloMosaic.Tactic
variable (m : (ℓ : Loc nD τ sig) → Buf (Elt Ideal) ℓ)

/-- The scale of the scores, as 32 bits of a float hold it. -/
def sc : ℝ := 11863283 / 134217728
/-- Column `128 h + d` of the projection: entry `d` of head `h` of all 64. -/
def cx (h : Fin 64) (d : Fin 128) : Fin 8192 := ⟨h.val * 128 + d.val, by omega⟩
theorem cx_val (h : Fin 64) (d : Fin 128) : (cx h d).val = h.val * 128 + d.val := rfl
/-- The real numbers the host hands the call: a head's columns of the projection, the queries' scaled. -/
def headR (X : Fin 8 → Fin 2048 → Fin 8192 → ℝ) (b : Fin 8) (h : Fin 64) (s : Fin 2048) (d : Fin 128) : ℝ :=
  X b s (cx h d) * (if h.val < 16 then sc * (1 / Real.log 2) else 1)

theorem sc_f32 : Ideal.ofBits FTy.f32 0x3DB504F3#32 = (((11863283 / 134217728 : ℝ)) : EReal) := by
  simp [Ideal.ofBits, Ideal.ieee, -EReal.coe_mul]; norm_num
theorem two_f32 : Ideal.ofBits FTy.f32 0x40000000#32 = (((2 : ℝ)) : EReal) := by
  simp [Ideal.ofBits, Ideal.ieee, -EReal.coe_mul]; norm_num
theorem inf_f32 : Ideal.ofBits FTy.f32 0x7F800000#32 = (⊤ : EReal) := by
  simp [Ideal.ofBits, Ideal.ieee]

/-- Ones, 2048 of them. -/
def ones : Vec Ideal S2048 .f32 := broadcastInDim S2048 ![] bcast_S_S2048 (constant (F := Ideal) S_ .f32 0x3F800000#32 : Vec Ideal S_ .f32)
/-- The queries' scale over the logarithm of two, 2048 times. -/
def qscale : Vec Ideal S2048 .f32 := mulf (F := Ideal) (φ := .f32) ones (broadcastInDim S2048 ![] bcast_S_S2048 (Host.divf (F := Ideal) (φ := .f32) (constant (F := Ideal) S_ .f32 0x3DB504F3#32) (Host.log (F := Ideal) (φ := .f32) (constant (F := Ideal) S_ .f32 0x40000000#32)) : Vec Ideal S_ .f32))
/-- The column scales the host lays out: the queries' 2048, then ones. -/
def cols : Vec Ideal S8192 .f32 := concatenate S8192 0 [⟨S2048, qscale⟩, ⟨S2048, ones⟩, ⟨S2048, ones⟩, ⟨S2048, ones⟩] concatenates_S2048_S2048_S2048_S2048_S8192_d0
/-- The scaled projection, by heads. -/
def heads (a : Vec Ideal S8x2048x8192 .f32) : Vec Ideal S8x64x2048x128 .bf16 :=
  truncf (F := Ideal) (φ := .f32) .bf16 (transpose S8x64x2048x128 [0, 2, 1, 3] (shapeCast S8x2048x64x128 (mulf (F := Ideal) (φ := .f32) a (broadcastInDim S8x2048x8192 ![0, 1, 2] bcast_S1x1x8192_S8x2048x8192_0_1_2 (broadcastInDim S1x1x8192 ![2] bcast_S8192_S1x1x8192_2 cols))) shapeCasts_S8x2048x8192_S8x2048x64x128) transposes_S8x2048x64x128_S8x64x2048x128_0_2_1_3) bitsLt_bf16_f32
/-- What the host hands the call as its projection is the argument scaled by columns and laid out by heads. -/
theorem entry_x (c : Dev nD) : (entry m c main_v11 : Vec Ideal S8x64x2048x128 .bf16) = heads (m ((c : Thread nD τ).loc main_arg0)) := by
  have e4 : StableHlo.upto hostOps0 (fun b => m (c, b)) 8 (Proc.tc.devRef main_v4) = qscale := by unfold hostOps0; after_reads_simp; rfl
  have e0 : StableHlo.upto hostOps0 (fun b => m (c, b)) 8 (Proc.tc.devRef main_v0) = ones := by unfold hostOps0; after_reads_simp; rfl
  unfold entry hostOps0
  after_reads_simp
  unfold heads cols
  rw [← e4, ← e0]
  rfl

theorem log_two_pos : 0 < Real.log 2 := Real.log_pos (by norm_num)

theorem ones_at (e : Fin 2048) : ones (ix1 e) = (((1 : ℝ)) : EReal) := by
  unfold ones
  pointwise
  rfl
theorem qscale_at (e : Fin 2048) : qscale (ix1 e) = (((sc * (1 / Real.log 2) : ℝ)) : EReal) := by
  unfold qscale
  pointwise
  rw [ones_at, sc_f32, two_f32, Ideal.log_coe, if_neg (by norm_num), Ideal.div_coe log_two_pos.ne', ← EReal.coe_mul, ← EReal.coe_mul, one_mul]
  rfl
/-- The column scales, read at a column. -/
theorem cols_at (e : Fin 8192) : cols (ix1 e) = (((if e.val < 2048 then sc * (1 / Real.log 2) else 1 : ℝ)) : EReal) := by
  unfold cols
  pointwise
  by_cases h : e.val < 2048
  · simp only [h, dite_true, if_true]
    exact qscale_at _
  · simp only [h, dite_false, if_false, ones_at, ite_self, dite_eq_ite]
/-- The scaled projection by heads, read at an entry. -/
theorem heads_at (a : Vec Ideal S8x2048x8192 .f32) (X : Fin 8 → Fin 2048 → Fin 8192 → ℝ) (ha : ∀ b s e, a (ix3 b s e) = ((X b s e : ℝ) : EReal))
    (b : Fin 8) (h : Fin 64) (s : Fin 2048) (d : Fin 128) : heads a (ix4 b h s d) = ((headR X b h s d : ℝ) : EReal) := by
  unfold heads
  pointwise
  have e : (if h.val < 16 then sc * (1 / Real.log 2) else 1 : ℝ) = (if (cx h d).val < 2048 then sc * (1 / Real.log 2) else 1 : ℝ) := by
    have := d.isLt
    rw [cx_val]
    by_cases h' : h.val < 16
    · rw [if_pos h', if_pos (by omega)]
    · rw [if_neg h', if_neg (by omega)]
  unfold headR
  rw [e, EReal.coe_mul, ← ha, ← cols_at]
  rfl
/-- The triangle the host hands the call, read at an entry. -/
theorem entry_t (c : Dev nD) (j s : Fin 256) : (entry m c main_v19 : Vec Ideal S256x256 .bf16) (ix2 j s) = (((if s.val < j.val then 1 else 0 : ℝ)) : EReal) := by
  unfold entry
  entry_read
  pointwise
  rw [WordCmp.cmpi_sgt_ofNat (by omega) (by omega)]
  by_cases h : s.val < j.val
  · rw [if_pos h, decide_eq_true h]
    exact congrArg (fun r : ℝ => (r : EReal)) (Nat.cast_one (R := ℝ))
  · rw [if_neg h, decide_eq_false h]
    exact congrArg (fun r : ℝ => (r : EReal)) (by norm_num)
/-- Under the precondition every entry of the argument is a real number. -/
theorem fin_at [Cert.Pre_finite.Facts] (a : FVec Ideal Cert.Pre_finite.S8x2048x8192 .f32) (h : Cert.Pre_finite.fn (F := Ideal) a = fun _ => 1#1)
    (i : Cert.Pre_finite.S8x2048x8192.Idx) : a i = ((a i).toReal : EReal) := by
  have h1 := congrFun h i
  unfold Cert.Pre_finite.fn at h1
  pointwise at h1
  rw [inf_f32] at h1
  have h2 : max (a i) (-(a i)) < (⊤ : EReal) := by
    by_contra hn
    have : (decide (FloatOps.absf (F := Ideal) (φ := .f32) (a i) < (⊤ : EReal))) = false := decide_eq_false hn
    rw [this] at h1
    exact absurd h1 (by decide)
  refine (EReal.coe_toReal ?_ ?_).symm
  · exact ne_of_lt (lt_of_le_of_lt (le_max_left _ _) h2)
  · intro hb
    rw [hb] at h2
    simp at h2
/-- Everything the call reads is real: the projection by heads, and the triangle. -/
theorem found (X : Dev nD → Fin 8 → Fin 2048 → Fin 8192 → ℝ) (c : Dev nD)
    (ha : ∀ b s e, (m ((c : Thread nD τ).loc main_arg0) : Vec Ideal S8x2048x8192 .f32) (ix3 b s e) = ((X c b s e : ℝ) : EReal)) :
    Found m (fun c => headR (X c)) c where
  x b h s d := by rw [entry_x]; exact heads_at _ (X c) ha b h s d
  t j s := entry_t m c j s
end Cert.KernelIdeal.Named
end
-- ==== Proof.Value.Ref.lean ====
module
public import proofs.«01_k».proof.Proof.Value.Host
public import proofs.«01_k».proof.Proof.Gen.ReferenceIdeal.Read
public import Idealize.ShloMosaic.Lib.Pipeline.ValueKit
@[expose] public section
set_option maxRecDepth 16384
noncomputable section
/-! The reference's stages, read at real numbers: where every entry of the projection is real, so is every stage,
and each is the expression of real numbers stated here. -/
namespace Cert.ReferenceIdeal.Own
open Cert.ReferenceIdeal Cert.ReferenceIdeal.Gen Cert.ReferenceIdeal.Read Cert.KernelIdeal.Named
open Idealize.ShloMosaic Idealize.ShloMosaic.TcCoe Idealize.ShloMosaic.Tactic

/-- The head among all 64 that is head `h` of the sixteen of kind `o`: queries, keys, values, gates. -/
def of64 (o : Fin 4) (h : Fin 16) : Fin 64 := ⟨16 * o.val + h.val, by omega⟩
theorem of64_val (o : Fin 4) (h : Fin 16) : (of64 o h).val = 16 * o.val + h.val := rfl
/-- The logarithm of the sigmoid, as the reference writes it. -/
def lsg (z : ℝ) : ℝ := -(max (-z) 0 + Real.log (1 + Real.exp (-|-z|)))
/-- The score of a row against a key; nothing past the last key. -/
def score (X : Fin 8 → Fin 2048 → Fin 8192 → ℝ) (b : Fin 8) (h : Fin 16) (s : Fin 2048) (u : ℕ) : ℝ :=
  if hu : u < 2048 then (∑ d : Fin 128, X b s (cx (of64 0 h) d) * X b ⟨u, hu⟩ (cx (of64 1 h) d)) * sc else 0
/-- The logarithm of the part a key lets pass, where the key comes before the row. -/
def lpass (X : Fin 8 → Fin 2048 → Fin 8192 → ℝ) (b : Fin 8) (h : Fin 16) (s : Fin 2048) (u : ℕ) : ℝ :=
  if u < s.val then lsg (-(score X b h s u)) else 0
/-- A key's share of the row. -/
def share (X : Fin 8 → Fin 2048 → Fin 8192 → ℝ) (b : Fin 8) (h : Fin 16) (s : Fin 2048) (t : ℕ) : ℝ :=
  if t < s.val then Real.exp (lsg (score X b h s t) + (∑ u ∈ Finset.Ico t 2048, lpass X b h s u - lpass X b h s t)) else 0
/-- A gate times its sigmoid. -/
def silu (g : ℝ) : ℝ := g * (1 * (1 / (1 + Real.exp (-g))))
/-- The reference's result at an entry. -/
def refAt (X : Fin 8 → Fin 2048 → Fin 8192 → ℝ) (b : Fin 8) (h : Fin 16) (s : Fin 2048) (l : Fin 128) : ℝ :=
  (∑ t : Fin 2048, share X b h s t.val * X b t (cx (of64 2 h) l)) * silu (X b s (cx (of64 3 h) l))

theorem coe_sum {ι : Type*} (s : Finset ι) (f : ι → ℝ) : ((∑ i ∈ s, f i : ℝ) : EReal) = ∑ i ∈ s, ((f i : ℝ) : EReal) :=
  map_sum (⟨⟨Real.toEReal, EReal.coe_zero⟩, EReal.coe_add⟩ : ℝ →+ EReal) f s

theorem coe_max' (a b : ℝ) : max ((a : ℝ) : EReal) ((b : ℝ) : EReal) = ((max a b : ℝ) : EReal) :=
  (EReal.coe_strictMono.monotone.map_max).symm

variable (x : (⟨S8x2048x8192, .f32⟩ : BufTy).Contents (Elt Ideal)) (X : Fin 8 → Fin 2048 → Fin 8192 → ℝ)
variable (hx : ∀ b s e, x (ix3 b s e) = ((X b s e : ℝ) : EReal))

theorem ix_eq (b : Fin 8) (s : Fin 2048) (e : Fin 8192) (i : S8x2048x8192.Idx) (h0 : (i 0).val = b.val) (h1 : (i 1).val = s.val) (h2 : (i 2).val = e.val) : i = ix3 b s e := by
  funext a
  match a with
  | ⟨0, _⟩ => exact Fin.ext h0
  | ⟨1, _⟩ => exact Fin.ext h1
  | ⟨2, _⟩ => exact Fin.ext h2

include hx in
/-- The queries by heads. -/
theorem q_at (b : Fin 8) (h : Fin 16) (s : Fin 2048) (d : Fin 128) : val_main_v5 (F := Ideal) x (ix4 b h s d) = ((X b s (cx (of64 0 h) d) : ℝ) : EReal) := by
  rw [val_main_v5_apply, val_main_v4_apply, val_main_v0_apply, ← hx]
  refine congrArg x (ix_eq b s _ _ ?_ ?_ ?_)
  · show (((b.val * 2048 + s.val) * 16 + h.val) * 128 + d.val) / 4194304 = b.val; omega
  · show (((b.val * 2048 + s.val) * 16 + h.val) * 128 + d.val) / 2048 % 2048 = s.val; omega
  · show (((b.val * 2048 + s.val) * 16 + h.val) * 128 + d.val) % 2048 = (16 * 0 + h.val) * 128 + d.val; omega
include hx in
/-- The keys by heads. -/
theorem k_at (b : Fin 8) (h : Fin 16) (s : Fin 2048) (d : Fin 128) : val_main_v7 (F := Ideal) x (ix4 b h s d) = ((X b s (cx (of64 1 h) d) : ℝ) : EReal) := by
  rw [val_main_v7_apply, val_main_v6_apply, val_main_v1_apply, ← hx]
  refine congrArg x (ix_eq b s _ _ ?_ ?_ ?_)
  · show (((b.val * 2048 + s.val) * 16 + h.val) * 128 + d.val) / 4194304 = b.val; omega
  · show (((b.val * 2048 + s.val) * 16 + h.val) * 128 + d.val) / 2048 % 2048 = s.val; omega
  · show 2048 + (((b.val * 2048 + s.val) * 16 + h.val) * 128 + d.val) % 2048 = (16 * 1 + h.val) * 128 + d.val; omega
include hx in
/-- The values by heads. -/
theorem v_at (b : Fin 8) (h : Fin 16) (s : Fin 2048) (d : Fin 128) : val_main_v9 (F := Ideal) x (ix4 b h s d) = ((X b s (cx (of64 2 h) d) : ℝ) : EReal) := by
  rw [val_main_v9_apply, val_main_v8_apply, val_main_v2_apply, ← hx]
  refine congrArg x (ix_eq b s _ _ ?_ ?_ ?_)
  · show (((b.val * 2048 + s.val) * 16 + h.val) * 128 + d.val) / 4194304 = b.val; omega
  · show (((b.val * 2048 + s.val) * 16 + h.val) * 128 + d.val) / 2048 % 2048 = s.val; omega
  · show 4096 + (((b.val * 2048 + s.val) * 16 + h.val) * 128 + d.val) % 2048 = (16 * 2 + h.val) * 128 + d.val; omega
include hx in
/-- The gates by heads. -/
theorem z_at (b : Fin 8) (h : Fin 16) (s : Fin 2048) (d : Fin 128) : val_main_v31 (F := Ideal) x (ix4 b h s d) = ((X b s (cx (of64 3 h) d) : ℝ) : EReal) := by
  rw [val_main_v31_apply, val_main_v30_apply, val_main_v3_apply, ← hx]
  refine congrArg x (ix_eq b s _ _ ?_ ?_ ?_)
  · show (((b.val * 2048 + s.val) * 16 + h.val) * 128 + d.val) / 4194304 = b.val; omega
  · show (((b.val * 2048 + s.val) * 16 + h.val) * 128 + d.val) / 2048 % 2048 = s.val; omega
  · show 6144 + (((b.val * 2048 + s.val) * 16 + h.val) * 128 + d.val) % 2048 = (16 * 3 + h.val) * 128 + d.val; omega

include hx in
/-- The scores. -/
theorem zz_at (b : Fin 8) (h : Fin 16) (s t : Fin 2048) : val_main_v12 (F := Ideal) x (ix4 b h s t) = ((score X b h s t.val : ℝ) : EReal) := by
  rw [val_main_v12_apply, val_main_v10_apply, val_main_v11_apply, val_main_cst_apply]
  unfold score
  rw [dif_pos t.isLt, EReal.coe_mul, coe_sum]
  refine congrArg₂ (· * ·) (Finset.sum_congr rfl fun d _ => ?_) sc_f32
  rw [EReal.coe_mul, ← q_at x X hx, ← k_at x X hx]
  refine congrArg₂ (· * ·) (congrArg _ ?_) (congrArg _ ?_)
  · exact eq_ix4 _
  · exact eq_ix4 _

theorem abs_coe (r : ℝ) : FloatOps.absf (F := Ideal) (φ := .f32) ((r : ℝ) : EReal) = ((|r| : ℝ) : EReal) := by
  show max ((r : ℝ) : EReal) (-((r : ℝ) : EReal)) = _
  rw [← EReal.coe_neg, coe_max']
  rfl

theorem zero_f32 : Ideal.ofBits FTy.f32 0x00000000#32 = (0 : EReal) := by
  simp [Ideal.ofBits, Ideal.ieee]

/-- The chain of stages of a logarithm of a sigmoid, at a real number. -/
theorem lsg_coe (r : ℝ) : (-(max (-((r : ℝ) : EReal)) 0 + Ideal.log1p (Ideal.exp (-FloatOps.absf (F := Ideal) (φ := .f32) (-((r : ℝ) : EReal)))))) = ((lsg r : ℝ) : EReal) := by
  rw [← EReal.coe_neg, abs_coe, ← EReal.coe_neg, Ideal.exp_coe]
  unfold Ideal.log1p
  rw [← EReal.coe_one, ← EReal.coe_add, Ideal.log_coe, if_neg (by have := Real.exp_pos (-|-r|); linarith), ← EReal.coe_zero, coe_max', ← EReal.coe_add, ← EReal.coe_neg]
  rfl

include hx in
/-- The logarithm of the part a key takes. -/
theorem take_at (b : Fin 8) (h : Fin 16) (s t : Fin 2048) : val_main_v20 (F := Ideal) x (ix4 b h s t) = ((lsg (score X b h s t.val) : ℝ) : EReal) := by
  rw [val_main_v20_apply, val_main_call0_v1_apply, val_main_call0_call0_v11_apply, val_main_call0_call0_v10_apply, val_main_call0_call0_v9_apply, val_main_call0_call0_v8_apply, val_main_call0_call0_v7_apply, val_main_call0_call0_v6_apply, val_main_call0_call0_v5_apply, val_main_call0_call0_v4_apply, val_main_call0_call0_v3_apply, val_main_call0_call0_v2_apply, val_main_call0_call0_v1_apply, val_main_call0_call0_v0_apply, val_main_call0_v0_apply, zz_at x X hx, val_main_call0_call0_cst_apply]
  pointwise
  rw [if_neg (fun hn => hn rfl)]
  exact lsg_coe _
include hx in
/-- The logarithm of the part a key lets pass. -/
theorem let_at (b : Fin 8) (h : Fin 16) (s t : Fin 2048) : val_main_v22 (F := Ideal) x (ix4 b h s t) = ((lsg (-(score X b h s t.val)) : ℝ) : EReal) := by
  rw [val_main_v22_apply, val_main_call1_v1_apply, val_main_call1_call0_v11_apply, val_main_call1_call0_v10_apply, val_main_call1_call0_v9_apply, val_main_call1_call0_v8_apply, val_main_call1_call0_v7_apply, val_main_call1_call0_v6_apply, val_main_call1_call0_v5_apply, val_main_call1_call0_v4_apply, val_main_call1_call0_v3_apply, val_main_call1_call0_v2_apply, val_main_call1_call0_v1_apply, val_main_call1_call0_v0_apply, val_main_call1_v0_apply, val_main_v21_apply, zz_at x X hx, val_main_call1_call0_cst_apply]
  pointwise
  rw [if_neg (fun hn => hn rfl), ← EReal.coe_neg]
  exact lsg_coe _

/-- Which keys come before the row. -/
theorem mask_at (s t : Fin 2048) (i : S2048x2048.Idx) (h0 : (i 0).val = s.val) (h1 : (i 1).val = t.val) : val_main_v19 (F := Ideal) i = BitVec.ofBool (decide (t.val < s.val)) := by
  rw [val_main_v19_apply, val_main_v17_apply, val_main_v18_apply, val_main_v14_apply, val_main_v16_apply, val_main_v13_apply, val_main_v15_apply]
  show IntOp.cmpi .slt (BitVec.ofNat 32 (i 1).val) (BitVec.ofNat 32 (i 0).val) = _
  rw [h0, h1, WordCmp.cmpi_slt_ofNat (by omega) (by omega)]

include hx in
theorem lpass_at (b : Fin 8) (h : Fin 16) (s t : Fin 2048) : val_main_v23 (F := Ideal) x (ix4 b h s t) = ((lpass X b h s t.val : ℝ) : EReal) := by
  rw [val_main_v23_apply, val_main_call2_v1_apply, mask_at s t _ rfl rfl, WordCmp.select_ofBool, let_at x X hx, val_main_call2_v2_apply, val_main_call2_v0_apply, val_main_cst_0_apply]
  unfold lpass
  by_cases h : t.val < s.val
  · rw [if_pos h, if_pos (by simpa using h)]
  · rw [if_neg h, if_neg (by simpa using h)]
    exact zero_f32

/-- The element a window of the running sum adds at an offset: the entry that far on, nothing past the end. -/
def winAt (y : S8x16x2048x2048.Idx → EReal) (b : Fin 8) (h : Fin 16) (s t : Fin 2048) (w : (⟨4, ![1, 1, 1, 2048]⟩ : Shape).Idx) : EReal :=
  if hin : ∀ a : Fin 4, ![0, 0, 0, 0] a ≤ (ix4 b h s t a).val * ![1, 1, 1, 1] a + (w a).val ∧ (ix4 b h s t a).val * ![1, 1, 1, 1] a + (w a).val - ![0, 0, 0, 0] a < ![8, 16, 2048, 2048] a
  then y (fun a => ⟨(ix4 b h s t a).val * ![1, 1, 1, 1] a + (w a).val - ![0, 0, 0, 0] a, (hin a).2⟩) else 0
theorem winAt_eq (y : S8x16x2048x2048.Idx → EReal) (b : Fin 8) (h : Fin 16) (s t n : Fin 2048) (L : ℕ → ℝ) (hL : ∀ u : Fin 2048, y (ix4 b h s u) = ((L u.val : ℝ) : EReal)) :
    winAt y b h s t (ix4 0 0 0 n) = ((if t.val + n.val < 2048 then L (t.val + n.val) else 0 : ℝ) : EReal) := by
  unfold winAt
  by_cases ht : t.val + n.val < 2048
  · rw [if_pos ht, dif_pos]
    · rw [← hL ⟨t.val + n.val, ht⟩]
      refine congrArg y (funext fun a => Fin.ext ?_)
      match a with
      | ⟨0, _⟩ => show b.val * 1 + 0 - 0 = b.val; omega
      | ⟨1, _⟩ => show h.val * 1 + 0 - 0 = h.val; omega
      | ⟨2, _⟩ => show s.val * 1 + 0 - 0 = s.val; omega
      | ⟨3, _⟩ => show t.val * 1 + n.val - 0 = t.val + n.val; omega
    · intro a
      match a with
      | ⟨0, _⟩ => show 0 ≤ b.val * 1 + 0 ∧ b.val * 1 + 0 - 0 < 8; omega
      | ⟨1, _⟩ => show 0 ≤ h.val * 1 + 0 ∧ h.val * 1 + 0 - 0 < 16; omega
      | ⟨2, _⟩ => show 0 ≤ s.val * 1 + 0 ∧ s.val * 1 + 0 - 0 < 2048; omega
      | ⟨3, _⟩ => show 0 ≤ t.val * 1 + n.val ∧ t.val * 1 + n.val - 0 < 2048; omega
  · rw [if_neg ht, dif_neg]
    · rfl
    · intro hin
      have h3 := (hin 3).2
      have : t.val * 1 + n.val - 0 < 2048 := h3
      omega

theorem foldl_sum {α : Type*} (l : List α) (F : α → EReal) (v : EReal) : l.foldl (fun r n => r + F n) v = v + (l.map F).sum := by
  induction l generalizing v with
  | nil => simp
  | cons a l ih => rw [List.foldl_cons, ih, List.map_cons, List.sum_cons, add_assoc]

include hx in
/-- The running sum from the end: at a key, the sum from that key on. -/
theorem run_at (b : Fin 8) (h : Fin 16) (s t : Fin 2048) : val_main_v24 (F := Ideal) x (ix4 b h s t) = ((∑ u ∈ Finset.Ico t.val 2048, lpass X b h s u : ℝ) : EReal) := by
  have hL := lpass_at x X hx b h s
  unfold val_main_v24 Host.reduceWindowAdd
  rw [Ideal.hostReduceWindowAdd_def]
  unfold Ideal.hostReduceWindowAdd Host.reduceWindow
  generalize val_main_v23 (F := Ideal) x = y at hL ⊢
  have e0 : val_main_call3_v0 (F := Ideal) (Shape.Idx.first h_S_) = (0 : EReal) := by
    rw [val_main_call3_v0_apply, val_main_call3_cst_apply]; exact zero_f32
  rw [e0]
  dsimp only
  rw [foldl_sum, zero_add, ← List.ofFn_eq_map, List.sum_ofFn]
  have hW : ∑ w : (⟨4, ![1, 1, 1, 2048]⟩ : Shape).Idx, winAt y b h s t w = ((∑ u ∈ Finset.Ico t.val 2048, lpass X b h s u : ℝ) : EReal) := by
    rw [sum_idx4, Fin.sum_univ_one, Fin.sum_univ_one, Fin.sum_univ_one]
    simp only [winAt_eq y b h s t _ (lpass X b h s) hL]
    rw [← coe_sum, Finset.sum_Ico_eq_sum_range, ← Finset.sum_range (fun n => if t.val + n < 2048 then lpass X b h s (t.val + n) else 0), ← Finset.sum_filter]
    refine congrArg (fun r : ℝ => (r : EReal)) (Finset.sum_congr (Finset.ext fun n => ?_) fun _ _ => rfl)
    rw [Finset.mem_filter, Finset.mem_range, Finset.mem_range]
    omega
  rw [← hW]
  refine Eq.trans (Finset.sum_congr rfl fun n _ => ?_) (Equiv.sum_comp (Shape.rowMajor ⟨4, ![1, 1, 1, 2048]⟩).symm (winAt y b h s t))
  unfold winAt
  exact dite_congr rfl (fun _ => rfl) (fun _ => rfl)

theorem one_f32 : Ideal.ofBits FTy.f32 0x3F800000#32 = (((1 : ℝ)) : EReal) := by
  simp [Ideal.ofBits, Ideal.ieee, -EReal.coe_mul]; norm_num

include hx in
/-- The shares. -/
theorem share_at (b : Fin 8) (h : Fin 16) (s t : Fin 2048) : val_main_v28 (F := Ideal) x (ix4 b h s t) = ((share X b h s t.val : ℝ) : EReal) := by
  rw [val_main_v28_apply, val_main_v27_apply, val_main_v26_apply, val_main_v25_apply, val_main_call4_v1_apply, mask_at s t _ rfl rfl, WordCmp.select_ofBool, take_at x X hx, run_at x X hx, lpass_at x X hx, val_main_call4_v2_apply, val_main_call4_v0_apply, val_main_cst_1_apply]
  unfold share
  by_cases h : t.val < s.val
  · rw [if_pos h, if_pos (by simpa using h)]
    pointwise
    rw [← EReal.coe_sub, ← EReal.coe_add, Ideal.exp_coe]
  · rw [if_neg h, if_neg (by simpa using h)]
    exact zero_f32

include hx in
/-- The reference's result at an entry is the real number `refAt`. -/
theorem ref_at (b : Fin 8) (h : Fin 16) (s : Fin 2048) (l : Fin 128) : val_main_v34 (F := Ideal) x (ix4 b h s l) = ((refAt X b h s l : ℝ) : EReal) := by
  have ev : val_main_v29 (F := Ideal) x (ix4 b h s l) = ((∑ t : Fin 2048, share X b h s t.val * X b t (cx (of64 2 h) l) : ℝ) : EReal) := by
    rw [val_main_v29_apply, coe_sum]
    refine Finset.sum_congr rfl fun t _ => ?_
    rw [EReal.coe_mul, ← share_at x X hx, ← v_at x X hx]
    refine congrArg₂ (· * ·) (congrArg _ ?_) (congrArg _ ?_)
    · exact eq_ix4 _
    · exact eq_ix4 _
  rw [val_main_v34_apply, val_main_v33_apply, val_main_v32_apply, val_main_call5_v5_apply, val_main_call5_v3_apply, val_main_call5_v1_apply, val_main_call5_v0_apply, val_main_call5_v2_apply, val_main_call5_v4_apply, ev, z_at x X hx, val_main_call5_cst_apply, val_main_call5_cst_0_apply]
  pointwise
  have hp : (1 : ℝ) + Real.exp (-(X b s (cx (of64 3 h) l))) ≠ 0 := by have := Real.exp_pos (-(X b s (cx (of64 3 h) l))); linarith
  rw [← EReal.coe_neg, Ideal.exp_coe, ← EReal.coe_one, ← EReal.coe_add, Ideal.div_coe hp, ← EReal.coe_mul, ← EReal.coe_mul, ← EReal.coe_mul]
  rfl
end Cert.ReferenceIdeal.Own
end
-- ==== Proof.Value.Same.lean ====
module
public import proofs.«01_k».proof.Proof.Value.Ref
@[expose] public section
set_option maxRecDepth 16384
noncomputable section
/-! The kernel's real number and the reference's are one: powers of two of base-two logarithms against exponentials
of natural ones, the keys before the row against a mask over all keys, and the gate by a hyperbolic tangent against
the gate by a sigmoid. -/
namespace Cert.ReferenceIdeal.Own
open Cert.KernelIdeal.Named Cert.Stick Cert.KernelIdeal.Own
open Idealize.ShloMosaic

theorem two_pow (x : ℝ) : (2 : ℝ) ^ x = Real.exp (Real.log 2 * x) := Real.rpow_def_of_pos (by norm_num) x

/-- Twice the lesser of a number and zero, less the number, is its absolute value negated. -/
theorem min_abs (z : ℝ) : min z 0 + (min z 0 - z) = -|z| := by
  rcases le_total z 0 with h | h
  · rw [min_eq_left h, abs_of_nonpos h]; ring
  · rw [min_eq_right h, abs_of_nonneg h]; ring

/-- The base-two logarithm of what a key takes, in natural units. -/
theorem stop_lsg (z : ℝ) : Real.log 2 * stop (z * (1 / Real.log 2)) = lsg z := by
  have hl := log_two_pos
  have e : Real.log 2 * min (z * (1 / Real.log 2)) 0 = min z 0 := by
    rw [mul_min_of_nonneg _ _ hl.le, mul_zero]
    congr 1
    field_simp
  have e2 : Real.log 2 * -|z * (1 / Real.log 2)| = -|z| := by
    rw [abs_mul, abs_of_pos (by positivity : 0 < 1 / Real.log 2)]
    field_simp
  have e3 : max (-z) 0 = -min z 0 := by
    rw [← neg_zero, max_neg_neg, neg_zero]
  unfold stop soft lsg
  rw [mul_sub, e, min_abs, two_pow, e2, abs_neg, e3]
  field_simp
  ring
/-- The base-two logarithm of what a key lets pass, in natural units. -/
theorem pass_lsg (z : ℝ) : Real.log 2 * pass (z * (1 / Real.log 2)) = lsg (-z) := by
  have hl := log_two_pos
  have h : pass (z * (1 / Real.log 2)) = stop (z * (1 / Real.log 2)) - z * (1 / Real.log 2) := by unfold pass stop; ring
  rw [h, mul_sub, stop_lsg]
  have e3 : max (-z) 0 = max z 0 - z := by
    rcases le_total z 0 with h | h
    · rw [max_eq_left (by linarith), max_eq_right h]; ring
    · rw [max_eq_right (by linarith), max_eq_left h]; ring
  have e4 : Real.log 2 * (z * (1 / Real.log 2)) = z := by field_simp
  unfold lsg
  rw [e3, e4, neg_neg, abs_neg]
  ring

/-- The gate by a hyperbolic tangent is the gate by a sigmoid. -/
theorem gate_silu (g : ℝ) : gate g = silu g := by
  unfold gate silu
  have h1 : Real.exp (-g) = Real.exp (-(1 / 2 * g)) * Real.exp (-(1 / 2 * g)) := by rw [← Real.exp_add]; congr 1; ring
  have h2 : Real.exp (1 / 2 * g) * Real.exp (-(1 / 2 * g)) = 1 := by rw [← Real.exp_add, add_neg_cancel, Real.exp_zero]
  have hp := Real.exp_pos (1 / 2 * g)
  have hn := Real.exp_pos (-(1 / 2 * g))
  rw [Real.tanh_eq_sinh_div_cosh, Real.sinh_eq, Real.cosh_eq, h1]
  generalize Real.exp (1 / 2 * g) = p at *
  generalize Real.exp (-(1 / 2 * g)) = n at *
  have ep : p = 1 / n := by field_simp; linarith
  subst ep
  field_simp
  ring

theorem hd_of64 (o : Fin 4) (h : Fin 16) : hd o (grp h) (inGrp h) = of64 o h := Fin.ext (by rw [hd_val, of64_val]; show 16 * o.val + 8 * (h.val / 8) + h.val % 8 = _; omega)

variable (X : Fin 8 → Fin 2048 → Fin 8192 → ℝ) (b : Fin 8) (h : Fin 16) (s : Fin 2048) (l : Fin 128)

/-- The kernel's score is the reference's over the logarithm of two. -/
theorem score_eq (u : ℕ) (hu : u < 2048) :
    ∑ d, headR X b (of64 0 h) s d * rowsOf (headR X) 1 b (grp h) (inGrp h) u d = score X b h s u * (1 / Real.log 2) := by
  unfold score rowsOf
  simp only [dif_pos hu]
  rw [hd_of64, Finset.sum_mul, Finset.sum_mul]
  refine Finset.sum_congr rfl fun d _ => ?_
  unfold headR
  rw [if_pos (by rw [of64_val]; show 16 * 0 + h.val < 16; omega), if_neg (by rw [of64_val]; show ¬ 16 * 1 + h.val < 16; omega)]
  ring

/-- A key's share: a power of two of base-two logarithms is an exponential of natural ones. -/
theorem share_eq (f : ℕ → ℝ) (hf : ∀ u < 2048, f u = score X b h s u * (1 / Real.log 2)) (t : ℕ) (ht : t < s.val) :
    share X b h s t = (2 : ℝ) ^ (stop (f t) + passed f s.val (t + 1)) := by
  have hs := s.isLt
  unfold share passed
  rw [if_pos ht, two_pow, mul_add, hf t (by omega), stop_lsg, Finset.mul_sum, Finset.sum_eq_sum_Ico_succ_bot (by omega : t < 2048), add_sub_cancel_left]
  congr 2
  rw [← Finset.sum_Ico_consecutive _ (by omega : t + 1 ≤ s.val) hs.le, Finset.sum_eq_zero (s := Finset.Ico s.val 2048), add_zero]
  · refine Finset.sum_congr rfl fun u hu => ?_
    rw [Finset.mem_Ico] at hu
    unfold lpass
    rw [if_pos hu.2, hf u (by omega), pass_lsg]
  · intro u hu
    rw [Finset.mem_Ico] at hu
    unfold lpass
    rw [if_neg (by omega)]

/-- The kernel's entry is the reference's. -/
theorem out_ref : outAt (headR X) b (grp h) (inGrp h) s l = refAt X b h s l := by
  have hs := s.isLt
  unfold outAt refAt taken
  rw [gate_silu, hd_of64, hd_of64]
  have eg : headR X b (of64 3 h) s l = X b s (cx (of64 3 h) l) := by
    unfold headR
    rw [if_neg (by rw [of64_val]; show ¬ 16 * 3 + h.val < 16; omega), mul_one]
  have ev (t : Fin 2048) : rowsOf (headR X) 2 b (grp h) (inGrp h) t.val l = X b t (cx (of64 2 h) l) := by
    unfold rowsOf headR
    rw [dif_pos t.isLt, hd_of64, if_neg (by rw [of64_val]; show ¬ 16 * 2 + h.val < 16; omega), mul_one]
  rw [eg]
  congr 1
  simp only [← ev]
  rw [Finset.sum_range (fun t => share X b h s t * rowsOf (headR X) 2 b (grp h) (inGrp h) t l) |>.symm, Finset.range_eq_Ico, ← Finset.sum_Ico_consecutive _ (Nat.zero_le s.val) hs.le, Finset.sum_eq_zero (s := Finset.Ico s.val 2048), add_zero]
  · refine Finset.sum_congr rfl fun t ht => ?_
    rw [Finset.mem_Ico] at ht
    rw [share_eq X b h s _ (fun u hu => score_eq X b h s u hu) t ht.2]
  · intro t ht
    rw [Finset.mem_Ico] at ht
    unfold share
    rw [if_neg (by omega), zero_mul]
end Cert.ReferenceIdeal.Own
end
-- ==== Proof.Out.Body.lean ====
/- The output projection's body: what one block of rows is left at. -/
module

public import proofs.«01_k».proof.Proof.Gen.KernelOutIdeal.Value
public import Idealize.ShloMosaic.Lib.Pointwise
public import Idealize.ShloMosaic.Lib.Pipeline.ValueKit

@[expose] public section

set_option maxRecDepth 16384

noncomputable section

namespace Cert.KernelOutIdeal.Own

open Cert.KernelOutIdeal Cert.KernelOutIdeal.Gen
open Idealize.ShloMosaic Idealize.ShloMosaic.TcCoe

variable {F : FTy → Type} [FloatOps F] [Named F]

theorem hz : (![0, 0] : Fin 2 → ℕ) = fun _ => 0 := funext fun a => by fin_cases a <;> rfl
theorem hz3 : (![0, 0, 0] : Fin 3 → ℕ) = fun _ => 0 := funext fun a => by fin_cases a <;> rfl

/-- One head's rows of a block, read off the block. -/
def slab (x : Vec F S1x16x1024x128 .bf16) (k : Fin 16) : Vec F S1x1x1024x128 .bf16 := fun j => x (ix4 0 k (j 2) (j 3))

/-- A load of one head's rows reads them. -/
theorem ld_slab (x : Vec F S1x16x1024x128 .bf16) (k : ℕ) (hk : k < 16) (inb) :
    View.ld x (Rect.unit (s := S1x16x1024x128) ![0, k, 0, 0] ![1, 1, 1024, 128] inb) = slab x ⟨k, hk⟩ := by
  funext j
  refine View.ld_unit_apply_of x _ _ inb j _ fun a => ?_
  have h0 : (j 0).val < 1 := (j 0).isLt
  have h1 : (j 1).val < 1 := (j 1).isLt
  fin_cases a <;> simp [ix4] <;> omega

/-- The sixteen heads' rows side by side. -/
def wide (x : Vec F S1x16x1024x128 .bf16) : FVec F S1024x2048 .bf16 := fun j => x (ix4 0 ⟨(j 1).val / 128, by have : (j 1).val < 2048 := (j 1).isLt; omega⟩ (j 0) ⟨(j 1).val % 128, by omega⟩)

/-- The projected rows and the residual. -/
def rows (x : Vec F S1x16x1024x128 .bf16) (w : Vec F S2048x1024 .bf16) (h : Vec F S1024x1024 .f32) : Vec F S1024x1024 .f32 :=
  addf h (matmul dot_S1024x2048_S2048x1024_S1024x1024_1_0_0_1_n_n none (wide x) w (constant S1024x1024 .f32 0x00000000#32))

/-- The body's last payload, of the loads. -/
def last (x : Vec F S1x16x1024x128 .bf16) (w : Vec F S2048x1024 .bf16) (h : Vec F S1024x1024 .f32) : Vec F S1024x1024 .f32 :=
  k0_pay10 (k0_pay2 (slab x 0)) (k0_pay3 (slab x 1)) (k0_pay4 (slab x 2)) (k0_pay5 (slab x 3)) (k0_pay6 (slab x 4)) (k0_pay7 (slab x 5)) (k0_pay8 (slab x 6)) (k0_pay9 (slab x 7))
    (slab x 8) (slab x 9) (slab x 10) (slab x 11) (slab x 12) (slab x 13) (slab x 14) (slab x 15) h w

theorem last_eq (x : Vec F S1x16x1024x128 .bf16) (w : Vec F S2048x1024 .bf16) (h : Vec F S1024x1024 .f32) : last x w h = rows x w h := by
  unfold last rows k0_pay10 k0_pay2 k0_pay3 k0_pay4 k0_pay5 k0_pay6 k0_pay7 k0_pay8 k0_pay9
  simp only [shapeCast_self]
  congr 2
  funext j
  have hj : (j 1).val < 2048 := (j 1).isLt
  refine (concatenate_ofFn_apply (t := S1024x2048) (s₁ := S1024x128) 1 (fun k : Fin 16 => shapeCast S1024x128 (slab x k) shapeCasts_S1x1x1024x128_S1024x128)
    concatenates_S1024x128_S1024x128_S1024x128_S1024x128_S1024x128_S1024x128_S1024x128_S1024x128_S1024x128_S1024x128_S1024x128_S1024x128_S1024x128_S1024x128_S1024x128_S1024x128_S1024x2048_d1
    rfl 128 rfl j ⟨(j 1).val / 128, by omega⟩ rfl (ix2 (j 0) ⟨(j 1).val % 128, by omega⟩) rfl ?_).trans ?_
  · intro b hb; fin_cases b
    · rfl
    · exact absurd rfl hb
  · pointwise [slab, wide]

theorem out_B (c : Dev nD) (i : grid0.Coords) (a2 : Memref sig .tc .vmem S1x16x1024x128 .bf16) (h2 : a2.IsWhole) (a3 : Memref sig .tc .vmem S1x2048x1024 .f32) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S2048x1024 .bf16) (h7 : a7.IsWhole) (hc : ¬cond0_0 i)
    (x0 : Vec F S1x16x1024x128 .bf16) (x1 : Vec F S1x2048x1024 .f32) (x2 : Vec F S1024x1024 .f32) (x3 : Vec F S1x1024 .f32) (xs0 : Vec F S2048x1024 .bf16) :
    out0_B_4 c i a2 h2 a3 h3 a4 h4 a5 h5 a6 h6 a7 h7 hc x0 x1 x2 x3 xs0 = rows x0 xs0 x2 := by
  rw [← last_eq]
  unfold out0_B_4
  rw [View.read_writes_eq_canon _ _ _ (cover0_B_4 c i a2 h2 a3 h3 a4 h4 a5 h5 a6 h6 a7 h7 hc x0 x1 x2 x3 xs0)]
  unfold kernelRun0_B
  dsimp only
  sl_unfold_words
  rw [View.canon_unit_zero (S := S1024x1024) hz]
  simp only [View.readAt_eq_ld, h2.read_unread, h4.read_unread, h7.read_unread, View.ld_unit_zero (S := S1024x1024) hz, View.ld_unit_zero (S := S2048x1024) hz]
  rw [ld_slab x0 0 (by decide), ld_slab x0 1 (by decide), ld_slab x0 2 (by decide), ld_slab x0 3 (by decide), ld_slab x0 4 (by decide), ld_slab x0 5 (by decide), ld_slab x0 6 (by decide), ld_slab x0 7 (by decide),
    ld_slab x0 8 (by decide), ld_slab x0 9 (by decide), ld_slab x0 10 (by decide), ld_slab x0 11 (by decide), ld_slab x0 12 (by decide), ld_slab x0 13 (by decide), ld_slab x0 14 (by decide), ld_slab x0 15 (by decide)]
  rfl

/-- The weights as the first point leaves them for the others. -/
theorem sout_A (c : Dev nD) (i : grid0.Coords) (a2 : Memref sig .tc .vmem S1x16x1024x128 .bf16) (h2 : a2.IsWhole) (a3 : Memref sig .tc .vmem S1x2048x1024 .f32) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S2048x1024 .bf16) (h7 : a7.IsWhole) (hc : cond0_0 i)
    (x0 : Vec F S1x16x1024x128 .bf16) (x1 : Vec F S1x2048x1024 .f32) (x2 : Vec F S1024x1024 .f32) (x3 : Vec F S1x1024 .f32) :
    sout0_A_0 c i a2 h2 a3 h3 a4 h4 a5 h5 a6 h6 a7 h7 hc x0 x1 x2 x3 = k0_pay1 x1 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero (S := S2048x1024) hz]
  simp only [View.readAt_eq_ld, h3.read_unread, View.ld_unit_zero (S := S1x2048x1024) hz3]

theorem out_A (c : Dev nD) (i : grid0.Coords) (a2 : Memref sig .tc .vmem S1x16x1024x128 .bf16) (h2 : a2.IsWhole) (a3 : Memref sig .tc .vmem S1x2048x1024 .f32) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S2048x1024 .bf16) (h7 : a7.IsWhole) (hc : cond0_0 i)
    (x0 : Vec F S1x16x1024x128 .bf16) (x1 : Vec F S1x2048x1024 .f32) (x2 : Vec F S1024x1024 .f32) (x3 : Vec F S1x1024 .f32) :
    out0_A_4 c i a2 h2 a3 h3 a4 h4 a5 h5 a6 h6 a7 h7 hc x0 x1 x2 x3 = rows x0 (k0_pay1 x1) x2 := by
  rw [← last_eq]
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero (S := S1024x1024) hz, View.readCov_unit_zero (S := S2048x1024) _ hz]
  simp only [View.readAt_eq_ld, h2.read_unread, h3.read_unread, h4.read_unread, View.ld_unit_zero (S := S1024x1024) hz, View.ld_unit_zero (S := S1x2048x1024) hz3]
  rw [ld_slab x0 0 (by decide), ld_slab x0 1 (by decide), ld_slab x0 2 (by decide), ld_slab x0 3 (by decide), ld_slab x0 4 (by decide), ld_slab x0 5 (by decide), ld_slab x0 6 (by decide), ld_slab x0 7 (by decide),
    ld_slab x0 8 (by decide), ld_slab x0 9 (by decide), ld_slab x0 10 (by decide), ld_slab x0 11 (by decide), ld_slab x0 12 (by decide), ld_slab x0 13 (by decide), ld_slab x0 14 (by decide), ld_slab x0 15 (by decide)]
  rfl

end Cert.KernelOutIdeal.Own
-- ==== Proof.Out.Launch.lean ====
/- The output projection's launch: the array it leaves, at an index, over the arguments. -/
module

public import proofs.«01_k».proof.Proof.Out.Body
public import Idealize.ShloMosaic.Lib.StableHlo.RunRead
public import Idealize.ShloMosaic.Lib.Pipeline.Covers

@[expose] public section

set_option maxRecDepth 16384

noncomputable section

namespace Cert.KernelOutIdeal.Own

open Cert.KernelOutIdeal Cert.KernelOutIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The arguments on core `c`: the residual, the attention's output, the weights. -/
def hA (c : Dev nD) : Vec Ideal S8x2048x1024 .f32 := m ((c : Thread nD τ).loc main_arg0)
def yA (c : Dev nD) : Vec Ideal S8x2048x2048 .f32 := m ((c : Thread nD τ).loc main_arg1)
def wA (c : Dev nD) : Vec Ideal S2x2048x1024 .f32 := m ((c : Thread nD τ).loc main_arg2)

/-- Batch and position of row `r` of all 16384. -/
def bt (r : Fin 16384) : Fin 8 := ⟨r.val / 2048, by omega⟩
def ps (r : Fin 16384) : Fin 2048 := ⟨r.val % 2048, by omega⟩
theorem bt_val (r : Fin 16384) : (bt r).val = r.val / 2048 := rfl
theorem ps_val (r : Fin 16384) : (ps r).val = r.val % 2048 := rfl

/-- The residual plus the projection, at row `r` and column `d`. -/
def proj (h : Vec Ideal S8x2048x1024 .f32) (y : Vec Ideal S8x2048x2048 .f32) (w : Vec Ideal S2x2048x1024 .f32) (b : Fin 8) (s : Fin 2048) (d : Fin 1024) : EReal :=
  h (ix3 b s d) + ∑ e : Fin 2048, y (ix3 b s e) * w (ix3 (1 : Fin 2) e d)

/-- Head `k` and lane `l` of column `e`. -/
def hdOf (e : Fin 2048) : Fin 16 := ⟨e.val / 128, by omega⟩
def lnOf (e : Fin 2048) : Fin 128 := ⟨e.val % 128, by omega⟩

theorem rows_at (x : Vec Ideal S1x16x1024x128 .bf16) (w : Vec Ideal S2048x1024 .bf16) (h : Vec Ideal S1024x1024 .f32) (r d : Fin 1024) :
    rows (F := Ideal) x w h (ix2 r d) = h (ix2 r d) + ∑ e : Fin 2048, x (ix4 (0 : Fin 1) (hdOf e) r (lnOf e)) * w (ix2 e d) := by
  unfold rows wide
  pointwise
  rfl

theorem idx_0 : ∀ t : Fin cfg0.N, win0_0.index t = ![t.val / 2, 0, t.val % 2, 0] := by decide +kernel
theorem idx_1 : ∀ t : Fin cfg0.N, win0_1.index t = ![1, 0, 0] := by decide +kernel
theorem idx_2 : ∀ t : Fin cfg0.N, win0_2.index t = ![t.val, 0] := by decide +kernel

theorem V_y (c : Dev nD) (b : Fin 8) (h : Fin 16) (s : Fin 2048) (l : Fin 128) :
    (V (F := Ideal) m c main_v2 : Vec Ideal S8x16x2048x128 .bf16) (ix4 b h s l) = yA m c (ix3 b s ⟨h.val * 128 + l.val, by omega⟩) := by
  unfold V yA hostOps0
  after_reads_simp
  pointwise
theorem V_h (c : Dev nD) (r : Fin 16384) (d : Fin 1024) :
    (V (F := Ideal) m c main_v3 : Vec Ideal S16384x1024 .f32) (ix2 r d) = hA m c (ix3 (bt r) (ps r) d) := by
  unfold V hA hostOps0
  after_reads_simp
  pointwise
  rfl
theorem V_w (c : Dev nD) : (V (F := Ideal) m c main_arg2 : Vec Ideal S2x2048x1024 .f32) = wA m c := by
  unfold V wA hostOps0
  after_reads_simp

/-- Row `r` of the block of point `t`. -/
def rowOf (t : Fin cfg0.N) (r : Fin 1024) : Fin 16384 := ⟨t.val * 1024 + r.val, by have := t.isLt; have : cfg0.N = 16 := N_0; omega⟩

theorem blk_y (c : Dev nD) (t : Fin cfg0.N) (k : Fin 16) (r : Fin 1024) (l : Fin 128) :
    iblk (F := Ideal) m c 0 t (ix4 (0 : Fin 1) k r l) = yA m c (ix3 (bt (rowOf t r)) (ps (rowOf t r)) ⟨k.val * 128 + l.val, by omega⟩) := by
  refine Eq.trans ?_ (V_y m c (bt (rowOf t r)) k (ps (rowOf t r)) l)
  blk_ext [iblk, idx_0 t, bt_val, ps_val, rowOf]
theorem blk_w (c : Dev nD) (t : Fin cfg0.N) (e : Fin 2048) (d : Fin 1024) :
    iblk (F := Ideal) m c 1 t (ix3 (0 : Fin 1) e d) = wA m c (ix3 (1 : Fin 2) e d) := by
  rw [← V_w]
  blk_ext [iblk, idx_1 t]
theorem blk_h (c : Dev nD) (t : Fin cfg0.N) (r d : Fin 1024) :
    iblk (F := Ideal) m c 2 t (ix2 r d) = hA m c (ix3 (bt (rowOf t r)) (ps (rowOf t r)) d) := by
  refine Eq.trans ?_ (V_h m c (rowOf t r) d)
  blk_ext [iblk, idx_2 t, rowOf]

/-- The weights in the scratch. -/
def wb (c : Dev nD) : Vec Ideal S2048x1024 .bf16 := fun j => wA m c (ix3 (1 : Fin 2) (j 0) (j 1))
theorem wb_eq (c : Dev nD) (t : Fin cfg0.N) : k0_pay1 (F := Ideal) (iblk m c 1 t) = wb m c := by
  funext j
  obtain ⟨e, d, rfl⟩ : ∃ e d, j = ix2 e d := ⟨j 0, j 1, eq_ix2 j⟩
  unfold wb k0_pay1
  pointwise
  exact blk_w m c t e d

/-- What the points leave: the block's rows, and the weights in the scratch. -/
theorem fold_eq (c : Dev nD) : ∀ (n : ℕ) (h : 0 + n < cfg0.N),
    Pipeline.accAt (fun n h => Value.stAt0 m c n h Value.junk0) (Value.stAt0 m c) 0 n h
      = (rows (iblk (F := Ideal) m c 0 ⟨n, by omega⟩) (wb m c) (iblk (F := Ideal) m c 2 ⟨n, by omega⟩), wb m c) := by
  intro n
  induction n with
  | zero =>
    intro h
    rw [Pipeline.accAt_zero]
    refine (Value.stAt0_A m c ⟨0, h⟩ _ rfl).trans ?_
    rw [out_A, sout_A, wb_eq]
  | succ n ih =>
    intro h
    have hN : cfg0.N = 16 := N_0
    rw [Pipeline.accAt_succ, ih]
    have e : (⟨0 + (n + 1), h⟩ : Fin cfg0.N) = ⟨n + 1, by omega⟩ := Fin.ext (Nat.zero_add _)
    refine (Value.stAt0_B m c ⟨0 + (n + 1), h⟩ _ (by show ¬ (0 + (n + 1)) % 16 = 0; omega)).trans ?_
    refine Prod.ext ?_ rfl
    dsimp only
    rw [out_B, e]

/-- The array the launch leaves. -/
theorem G4_at (c : Dev nD) (r : Fin 16384) (d : Fin 1024) :
    (Value.G4 (F := Ideal) m c : Vec Ideal S16384x1024 .f32) (ix2 r d) = proj (hA m c) (yA m c) (wA m c) (bt r) (ps r) d := by
  have hN : cfg0.N = 16 := N_0
  have hp : Value.pt4Of (ix2 r d) = r.val / 1024 := by
    show 1 * (r.val / 1024 - 0) + 1 * (d.val / 1024 - 0) = r.val / 1024
    omega
  unfold Value.G4
  rw [dif_pos (by rw [hp]; omega)]
  rw [fold_eq]
  have hl : Value.loc4Of (ix2 r d) = ix2 (⟨r.val % 1024, by omega⟩ : Fin 1024) d := by
    funext a; fin_cases a
    · refine Fin.ext ?_; simp [Value.loc4Of, ix2]
    · refine Fin.ext ?_; simp [Value.loc4Of, ix2]
  rw [hl]
  dsimp only
  rw [rows_at, blk_h]
  have hr : rowOf ⟨Value.pt4Of (ix2 r d), by rw [hp]; omega⟩ (⟨r.val % 1024, by omega⟩ : Fin 1024) = r := Fin.ext (by show Value.pt4Of (ix2 r d) * 1024 + r.val % 1024 = r.val; rw [hp]; omega)
  rw [hr]
  unfold proj
  refine congrArg _ (Finset.sum_congr rfl fun e _ => ?_)
  rw [blk_y, hr]
  refine congrArg₂ (· * ·) (congrArg (fun q => yA m c (ix3 (bt r) (ps r) q)) (Fin.ext ?_)) rfl
  show e.val / 128 * 128 + e.val % 128 = e.val
  omega

end Cert.KernelOutIdeal.Own
-- ==== Proof.Out.Ref.lean ====
/- The output projection's reference, at an index, over the arguments. -/
module

public import proofs.«01_k».proof.Proof.Gen.ReferenceOutIdeal.Read
public import Idealize.ShloMosaic.Lib.Pointwise

@[expose] public section

set_option maxRecDepth 16384

noncomputable section

namespace Cert.ReferenceOutIdeal.Own

open Cert.ReferenceOutIdeal Cert.ReferenceOutIdeal.Gen Cert.ReferenceOutIdeal.Read
open Idealize.ShloMosaic Idealize.ShloMosaic.TcCoe

theorem ref_at (h : Vec Ideal S8x2048x1024 .f32) (y : Vec Ideal S8x2048x2048 .f32) (w : Vec Ideal S2x2048x1024 .f32) (r : Fin 16384) (d : Fin 1024) :
    val_main_v4 (F := Ideal) h y w (ix2 r d)
      = h (ix3 (⟨r.val / 2048, by omega⟩ : Fin 8) (⟨r.val % 2048, by omega⟩ : Fin 2048) d)
        + ∑ e : Fin 2048, y (ix3 (⟨r.val / 2048, by omega⟩ : Fin 8) (⟨r.val % 2048, by omega⟩ : Fin 2048) e) * w (ix3 (1 : Fin 2) e d) := by
  unfold val_main_v4 val_main_v3 val_main_v2 val_main_v1 val_main_v0
  pointwise

end Cert.ReferenceOutIdeal.Own
-- ==== Proof.In.Body.lean ====
/- The first layer's input projection: what one block of the body is left at. -/
module

public import proofs.«01_k».proof.Proof.Gen.KernelInIdeal.Value
public import Idealize.ShloMosaic.Lib.Pointwise
public import Idealize.ShloMosaic.Lib.Pipeline.ValueKit

@[expose] public section

set_option maxRecDepth 16384

noncomputable section

namespace Cert.KernelInIdeal.Own

open Cert.KernelInIdeal Cert.KernelInIdeal.Gen
open Idealize.ShloMosaic Idealize.ShloMosaic.TcCoe Idealize.ShloMosaic.Tactic

theorem hz : (![0, 0] : Fin 2 → ℕ) = fun _ => 0 := funext fun a => by fin_cases a <;> rfl
theorem hz3 : (![0, 0, 0] : Fin 3 → ℕ) = fun _ => 0 := funext fun a => by fin_cases a <;> rfl

/-- Column `128 c + d` of a block of 1024. -/
def col (c : Fin 8) (d : Fin 128) : Fin 1024 := ⟨128 * c.val + d.val, by omega⟩
theorem col_val (c : Fin 8) (d : Fin 128) : (col c d).val = 128 * c.val + d.val := rfl

/-- The projected block, its columns scaled, by heads. -/
def blkOf (x : Vec Ideal S2048x1024 .bf16) (w : Vec Ideal S1x1024x1024 .f32) (cs : Vec Ideal S1x1024 .f32) : Vec Ideal S1x8x2048x128 .bf16 :=
  fun y => FloatOps.mulf (F := Ideal) (φ := .f32) (k0_pay4 (F := Ideal) x w (ix2 (y 2) (col (y 1) (y 3)))) (cs (ix2 (0 : Fin 1) (col (y 1) (y 3))))

/-- A store of one head's rows holds the block's values. -/
theorem tile (x : Vec Ideal S2048x1024 .bf16) (w : Vec Ideal S1x1024x1024 .f32) (cs : Vec Ideal S1x1024 .f32) (k : Fin 8) (y : S1x8x2048x128.Idx) (P : Vec Ideal S1x1x2048x128 .bf16)
    (h : ∀ s d, P (ix4 (0 : Fin 1) (0 : Fin 1) s d) = blkOf x w cs (ix4 (0 : Fin 1) k s d)) :
    View.TileAt (Val := Elt Ideal) (e := .bf16) (S := S1x8x2048x128) y ![0, k.val, 0, 0] ![1, 1, 2048, 128] P (blkOf x w cs y) := by
  intro j hj
  have hj1 : (j 1).val < 1 := (j 1).isLt
  have e0 := hj 0
  have e1 := hj 1
  have e2 := hj 2
  have e3 := hj 3
  have ej : j = ix4 (0 : Fin 1) (0 : Fin 1) (j 2) (j 3) := by
    funext a; fin_cases a
    · exact Subsingleton.elim (α := Fin 1) _ _
    · exact Subsingleton.elim (α := Fin 1) _ _
    · rfl
    · rfl
  have ey : y = ix4 (0 : Fin 1) k (j 2) (j 3) := by
    funext a; fin_cases a
    · exact Subsingleton.elim (α := Fin 1) _ _
    · refine Fin.ext (e1.trans ?_); show k.val + (j 1).val = k.val; omega
    · refine Fin.ext (e2.trans ?_); show 0 + (j 2).val = (j 2).val; omega
    · refine Fin.ext (e3.trans ?_); show 0 + (j 3).val = (j 3).val; omega
  rw [ey]
  exact (congrArg P ej).trans (h (j 2) (j 3))

theorem out_B (c : Dev nD) (i : grid0.Coords) (a2 : Memref sig .tc .vmem S2048x1024 .f32) (h2 : a2.IsWhole) (a3 : Memref sig .tc .vmem S1x1024 .f32) (h3 : a3.IsWhole) (a4 : Memref sig .tc .vmem S1x1024x1024 .f32) (h4 : a4.IsWhole) (a5 : Memref sig .tc .vmem S1x1024 .f32) (h5 : a5.IsWhole) (a6 : Memref sig .tc .vmem S2048x128 .f32) (h6 : a6.IsWhole) (a7 : Memref sig .tc .vmem S2048x128 .f32) (h7 : a7.IsWhole) (a8 : Memref sig .tc .vmem S256x256 .bf16) (h8 : a8.IsWhole) (a9 : Memref sig .tc .vmem S1x8x2048x128 .bf16) (h9 : a9.IsWhole) (a10 : Memref sig .tc .vmem S2048x1024 .bf16) (h10 : a10.IsWhole) (hc : ¬cond0_0 i)
    (x0 : Vec Ideal S2048x1024 .f32) (x1 : Vec Ideal S1x1024 .f32) (x2 : Vec Ideal S1x1024x1024 .f32) (x3 : Vec Ideal S1x1024 .f32) (x4 : Vec Ideal S2048x128 .f32) (x5 : Vec Ideal S2048x128 .f32) (x6 : Vec Ideal S256x256 .bf16) (xs0 : Vec Ideal S2048x1024 .bf16) :
    out0_B_7 c i a2 h2 a3 h3 a4 h4 a5 h5 a6 h6 a7 h7 a8 h8 a9 h9 a10 h10 hc x0 x1 x2 x3 x4 x5 x6 xs0 = blkOf xs0 x2 x3 := by
  unfold out0_B_7
  rw [View.read_writes_eq_canon _ _ _ (cover0_B_7 c i a2 h2 a3 h3 a4 h4 a5 h5 a6 h6 a7 h7 a8 h8 a9 h9 a10 h10 hc x0 x1 x2 x3 x4 x5 x6 xs0)]
  funext y
  refine View.canon_eq_of_allAt _ _ _ (cover0_B_7 c i a2 h2 a3 h3 a4 h4 a5 h5 a6 h6 a7 h7 a8 h8 a9 h9 a10 h10 hc x0 x1 x2 x3 x4 x5 x6 xs0 y) ?_
  unfold kernelRun0_B
  dsimp only
  sl_unfold_words
  simp only [View.readAt_eq_ld, h2.read_unread, h3.read_unread, h4.read_unread, h5.read_unread, h10.read_unread, View.ld_unit_zero (S := S2048x1024) hz, View.ld_unit_zero (S := S1x1024x1024) hz3]
  refine View.allAt_cons_unit _ _ _ _ _ (tile _ _ _ 7 y _ fun s d => ?_) ?_
  · unfold blkOf k0_pay2
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 6 y _ fun s d => ?_) ?_
  · unfold blkOf k0_pay1 k0_pay12 k0_pay13
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 5 y _ fun s d => ?_) ?_
  · unfold blkOf k0_pay11
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 4 y _ fun s d => ?_) ?_
  · unfold blkOf k0_pay10
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 3 y _ fun s d => ?_) ?_
  · unfold blkOf k0_pay9
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 2 y _ fun s d => ?_) ?_
  · unfold blkOf k0_pay8 k0_pay7
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 1 y _ fun s d => ?_) ?_
  · unfold blkOf k0_pay6
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 0 y _ fun s d => ?_) ?_
  · unfold blkOf k0_pay5
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  exact View.allAt_nil _ _

/-- The normalised rows the first block of columns leaves for the others. -/
theorem sout_A (c : Dev nD) (i : grid0.Coords) (a2 : Memref sig .tc .vmem S2048x1024 .f32) (h2 : a2.IsWhole) (a3 : Memref sig .tc .vmem S1x1024 .f32) (h3 : a3.IsWhole) (a4 : Memref sig .tc .vmem S1x1024x1024 .f32) (h4 : a4.IsWhole) (a5 : Memref sig .tc .vmem S1x1024 .f32) (h5 : a5.IsWhole) (a6 : Memref sig .tc .vmem S2048x128 .f32) (h6 : a6.IsWhole) (a7 : Memref sig .tc .vmem S2048x128 .f32) (h7 : a7.IsWhole) (a8 : Memref sig .tc .vmem S256x256 .bf16) (h8 : a8.IsWhole) (a9 : Memref sig .tc .vmem S1x8x2048x128 .bf16) (h9 : a9.IsWhole) (a10 : Memref sig .tc .vmem S2048x1024 .bf16) (h10 : a10.IsWhole) (hc : cond0_0 i)
    (x0 : Vec Ideal S2048x1024 .f32) (x1 : Vec Ideal S1x1024 .f32) (x2 : Vec Ideal S1x1024x1024 .f32) (x3 : Vec Ideal S1x1024 .f32) (x4 : Vec Ideal S2048x128 .f32) (x5 : Vec Ideal S2048x128 .f32) (x6 : Vec Ideal S256x256 .bf16) :
    sout0_A_0 c i a2 h2 a3 h3 a4 h4 a5 h5 a6 h6 a7 h7 a8 h8 a9 h9 a10 h10 hc x0 x1 x2 x3 x4 x5 x6 = k0_pay3 x0 x1 := by
  unfold sout0_A_0
  rw [View.read_writes_eq_canon _ _ _ (scover0_A_0 c i a2 h2 a3 h3 a4 h4 a5 h5 a6 h6 a7 h7 a8 h8 a9 h9 a10 h10 hc x0 x1 x2 x3 x4 x5 x6)]
  unfold kernelRun0_A
  dsimp only
  sl_unfold_words
  rw [View.canon_unit_zero (S := S2048x1024) hz]
  simp only [View.readAt_eq_ld, h2.read_unread, h3.read_unread, View.ld_unit_zero (S := S2048x1024) hz, View.ld_unit_zero (S := S1x1024) hz]

theorem out_A (c : Dev nD) (i : grid0.Coords) (a2 : Memref sig .tc .vmem S2048x1024 .f32) (h2 : a2.IsWhole) (a3 : Memref sig .tc .vmem S1x1024 .f32) (h3 : a3.IsWhole) (a4 : Memref sig .tc .vmem S1x1024x1024 .f32) (h4 : a4.IsWhole) (a5 : Memref sig .tc .vmem S1x1024 .f32) (h5 : a5.IsWhole) (a6 : Memref sig .tc .vmem S2048x128 .f32) (h6 : a6.IsWhole) (a7 : Memref sig .tc .vmem S2048x128 .f32) (h7 : a7.IsWhole) (a8 : Memref sig .tc .vmem S256x256 .bf16) (h8 : a8.IsWhole) (a9 : Memref sig .tc .vmem S1x8x2048x128 .bf16) (h9 : a9.IsWhole) (a10 : Memref sig .tc .vmem S2048x1024 .bf16) (h10 : a10.IsWhole) (hc : cond0_0 i)
    (x0 : Vec Ideal S2048x1024 .f32) (x1 : Vec Ideal S1x1024 .f32) (x2 : Vec Ideal S1x1024x1024 .f32) (x3 : Vec Ideal S1x1024 .f32) (x4 : Vec Ideal S2048x128 .f32) (x5 : Vec Ideal S2048x128 .f32) (x6 : Vec Ideal S256x256 .bf16) :
    out0_A_7 c i a2 h2 a3 h3 a4 h4 a5 h5 a6 h6 a7 h7 a8 h8 a9 h9 a10 h10 hc x0 x1 x2 x3 x4 x5 x6 = blkOf (k0_pay3 x0 x1) x2 x3 := by
  unfold out0_A_7
  rw [View.read_writes_eq_canon _ _ _ (cover0_A_7 c i a2 h2 a3 h3 a4 h4 a5 h5 a6 h6 a7 h7 a8 h8 a9 h9 a10 h10 hc x0 x1 x2 x3 x4 x5 x6)]
  funext y
  refine View.canon_eq_of_allAt _ _ _ (cover0_A_7 c i a2 h2 a3 h3 a4 h4 a5 h5 a6 h6 a7 h7 a8 h8 a9 h9 a10 h10 hc x0 x1 x2 x3 x4 x5 x6 y) ?_
  unfold kernelRun0_A
  dsimp only
  sl_unfold_words
  rw [View.readCov_unit_zero (S := S2048x1024) _ hz]
  simp only [View.readAt_eq_ld, h2.read_unread, h3.read_unread, h4.read_unread, h5.read_unread, View.ld_unit_zero (S := S2048x1024) hz, View.ld_unit_zero (S := S1x1024) hz, View.ld_unit_zero (S := S1x1024x1024) hz3]
  refine View.allAt_cons_unit _ _ _ _ _ (tile _ _ _ 7 y _ fun s d => ?_) ?_
  · unfold blkOf k0_pay2
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 6 y _ fun s d => ?_) ?_
  · unfold blkOf k0_pay1 k0_pay12 k0_pay13
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 5 y _ fun s d => ?_) ?_
  · unfold blkOf k0_pay11
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 4 y _ fun s d => ?_) ?_
  · unfold blkOf k0_pay10
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 3 y _ fun s d => ?_) ?_
  · unfold blkOf k0_pay9
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 2 y _ fun s d => ?_) ?_
  · unfold blkOf k0_pay8 k0_pay7
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 1 y _ fun s d => ?_) ?_
  · unfold blkOf k0_pay6
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 0 y _ fun s d => ?_) ?_
  · unfold blkOf k0_pay5
    generalize k0_pay4 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  exact View.allAt_nil _ _

end Cert.KernelInIdeal.Own
-- ==== Proof.In.Spec.lean ====
/- The input projection in numbers: normalised rows times the weights' columns, the queries' columns scaled. -/
module

public import Idealize.ShloMosaic.Lib.Pointwise

@[expose] public section

noncomputable section

namespace Cert.InProj

open Idealize.ShloMosaic

/-- The queries' scale over the logarithm of two. -/
def kq : EReal := Ideal.div (Ideal.ofBits FTy.f32 1035273459#32) (Ideal.log (Ideal.ofBits FTy.f32 1073741824#32))
/-- An entry of a row over the root of the row's mean square, times its weight. -/
def nrm (row : Fin 1024 → EReal) (g : Fin 1024 → EReal) (e : Fin 1024) : EReal :=
  row e * Ideal.rsqrt (Ideal.div (∑ x, row x * row x) (Ideal.ofBits FTy.f32 1149239296#32) + Ideal.ofBits FTy.f32 897988541#32) * g e
/-- The columns' scale: the first sixteen heads are the queries. -/
def colS (h : Fin 64) : EReal := if h.val < 16 then kq else 1
/-- Column `128 h + d` of the projection. -/
def cx (h : Fin 64) (d : Fin 128) : Fin 8192 := ⟨h.val * 128 + d.val, by omega⟩
theorem cx_val (h : Fin 64) (d : Fin 128) : (cx h d).val = h.val * 128 + d.val := rfl
/-- One entry of one head of the projection. -/
def proj (row : Fin 1024 → EReal) (g : Fin 1024 → EReal) (w : Fin 1024 → Fin 8192 → EReal) (h : Fin 64) (d : Fin 128) : EReal :=
  (∑ e, nrm row g e * w e (cx h d)) * colS h

/-- The same of a row whose norm is taken. -/
def projP (row : Fin 1024 → EReal) (w : Fin 1024 → Fin 8192 → EReal) (h : Fin 64) (d : Fin 128) : EReal :=
  (∑ e, row e * w e (cx h d)) * colS h

end Cert.InProj
-- ==== Proof.In.Launch.lean ====
/- The first layer's input projection's launch: the array it leaves, at an index, over the arguments. -/
module

public import proofs.«01_k».proof.Proof.In.Body
public import proofs.«01_k».proof.Proof.In.Spec
public import Idealize.ShloMosaic.Lib.StableHlo.RunRead

@[expose] public section

set_option maxRecDepth 16384

noncomputable section

namespace Cert.KernelInIdeal.Own

open Cert.KernelInIdeal Cert.KernelInIdeal.Gen Cert.InProj
open Idealize.ShloMosaic Idealize.ShloMosaic.TcCoe Idealize.ShloMosaic.Tactic

variable (m : (ℓ : Loc nD τ sig) → Buf (Elt Ideal) ℓ)

/-- The arguments on core `c`: the rows, the norm's weights, the projection's weights. -/
def xA (c : Dev nD) : Vec Ideal S8x2048x1024 .f32 := m ((c : Thread nD τ).loc main_arg0)
def gA (c : Dev nD) : Vec Ideal S2x1024 .f32 := m ((c : Thread nD τ).loc main_arg1)
def wA (c : Dev nD) : Vec Ideal S2x1024x8192 .f32 := m ((c : Thread nD τ).loc main_arg2)

/-- One row of the batch, and the weights' first layer. -/
def rowA (c : Dev nD) (b : Fin 8) (s : Fin 2048) (e : Fin 1024) : EReal := xA m c (ix3 b s e)
def gnA (c : Dev nD) (e : Fin 1024) : EReal := gA m c (ix2 (0 : Fin 2) e)
def wtA (c : Dev nD) (k : Fin 1024) (e : Fin 8192) : EReal := wA m c (ix3 (0 : Fin 2) k e)

theorem idx_0 : ∀ t : Fin cfg0.N, win0_0.index t = ![t.val / 8, 0] := by decide +kernel
theorem idx_1 : ∀ t : Fin cfg0.N, win0_1.index t = ![0, 0] := by decide +kernel
theorem idx_2 : ∀ t : Fin cfg0.N, win0_2.index t = ![0, 0, t.val % 8] := by decide +kernel
theorem idx_3 : ∀ t : Fin cfg0.N, win0_3.index t = ![0, t.val % 8] := by decide +kernel

/-- Batch and position of row `r` of all 16384. -/
def bt (r : Fin 16384) : Fin 8 := ⟨r.val / 2048, by omega⟩
def ps (r : Fin 16384) : Fin 2048 := ⟨r.val % 2048, by omega⟩

theorem V_x (c : Dev nD) (r : Fin 16384) (e : Fin 1024) :
    (V (F := Ideal) m c main_v29 : Vec Ideal S16384x1024 .f32) (ix2 r e) = xA m c (ix3 (bt r) (ps r) e) := by
  unfold V xA hostOps0
  after_reads_simp
  pointwise
  rfl
theorem V_g (c : Dev nD) (r : Fin 1) (e : Fin 1024) :
    (V (F := Ideal) m c main_v32 : Vec Ideal S1x1024 .f32) (ix2 r e) = gnA m c e := by
  unfold V gnA gA hostOps0
  after_reads_simp
  pointwise
theorem V_w (c : Dev nD) : (V (F := Ideal) m c main_arg2 : Vec Ideal S2x1024x8192 .f32) = wA m c := by
  unfold V wA hostOps0
  after_reads_simp

/-- Ones, 2048 of them. -/
def ones : Vec Ideal S2048 .f32 := broadcastInDim S2048 ![] bcast_S_S2048 (constant (F := Ideal) S_ .f32 0x3F800000#32 : Vec Ideal S_ .f32)
/-- The queries' scale over the logarithm of two, 2048 times. -/
def qscale : Vec Ideal S2048 .f32 := mulf (F := Ideal) (φ := .f32) ones (broadcastInDim S2048 ![] bcast_S_S2048 (Host.divf (F := Ideal) (φ := .f32) (constant (F := Ideal) S_ .f32 0x3DB504F3#32) (Host.log (F := Ideal) (φ := .f32) (constant (F := Ideal) S_ .f32 0x40000000#32))))

theorem V_cs (c : Dev nD) (e : Fin 8192) :
    (V (F := Ideal) m c main_v28 : Vec Ideal S1x8192 .f32) (ix2 (0 : Fin 1) e) = if e.val < 2048 then kq else 1 := by
  have e26 : StableHlo.upto (hostOps0 (F := Ideal)) (fun b => m (c, b)) 35 (Proc.tc.devRef main_v26) = qscale := by unfold hostOps0; after_reads_simp; rfl
  have e22 : StableHlo.upto (hostOps0 (F := Ideal)) (fun b => m (c, b)) 35 (Proc.tc.devRef main_v22) = ones := by unfold hostOps0; after_reads_simp; rfl
  have h1 (k : Fin 2048) : ones (ix1 k) = (1 : EReal) := by unfold ones; pointwise
  have hq (k : Fin 2048) : qscale (ix1 k) = kq := by
    unfold qscale; pointwise; rw [h1]; exact one_mul (M := EReal) _
  unfold V hostOps0
  after_reads_simp
  pointwise
  by_cases h : e.val < 2048
  · simp only [h, dite_true, if_true]
    exact (congrFun e26 _).trans (hq _)
  · simp only [h, dite_false, if_false]
    split_ifs <;> exact (congrFun e22 _).trans (h1 _)

/-- Row `r` of the block of point `t`; its columns' place among all. -/
def bOf (t : Fin cfg0.N) : Fin 8 := ⟨t.val / 8, by have := t.isLt; have : cfg0.N = 64 := N_0; omega⟩
def cOf (t : Fin cfg0.N) (e : Fin 1024) : Fin 8192 := ⟨(t.val % 8) * 1024 + e.val, by omega⟩
theorem bOf_val (t : Fin cfg0.N) : (bOf t).val = t.val / 8 := rfl
theorem cOf_val (t : Fin cfg0.N) (e : Fin 1024) : (cOf t e).val = (t.val % 8) * 1024 + e.val := rfl
def rOf (b : Fin 8) (s : Fin 2048) : Fin 16384 := ⟨b.val * 2048 + s.val, by omega⟩
theorem rOf_val (b : Fin 8) (s : Fin 2048) : (rOf b s).val = b.val * 2048 + s.val := rfl
theorem bt_rOf (b : Fin 8) (s : Fin 2048) : bt (rOf b s) = b := Fin.ext (by show (b.val * 2048 + s.val) / 2048 = b.val; omega)
theorem ps_rOf (b : Fin 8) (s : Fin 2048) : ps (rOf b s) = s := Fin.ext (by show (b.val * 2048 + s.val) % 2048 = s.val; omega)

theorem blk_x (c : Dev nD) (t : Fin cfg0.N) (s : Fin 2048) (e : Fin 1024) :
    iblk (F := Ideal) m c 0 t (ix2 s e) = rowA m c (bOf t) s e := by
  have h := V_x m c (rOf (bOf t) s) e
  rw [bt_rOf, ps_rOf] at h
  refine Eq.trans ?_ h
  blk_ext [iblk, idx_0 t, rOf_val, bOf_val]
theorem blk_g (c : Dev nD) (t : Fin cfg0.N) (e : Fin 1024) : iblk (F := Ideal) m c 1 t (ix2 (0 : Fin 1) e) = gnA m c e := by
  refine Eq.trans ?_ (V_g m c 0 e)
  blk_ext [iblk, idx_1 t]
theorem blk_w (c : Dev nD) (t : Fin cfg0.N) (k : Fin 1024) (e : Fin 1024) :
    iblk (F := Ideal) m c 2 t (ix3 (0 : Fin 1) k e) = wtA m c k (cOf t e) := by
  unfold wtA
  rw [← V_w]
  blk_ext [iblk, idx_2 t, cOf_val]
theorem blk_cs (c : Dev nD) (t : Fin cfg0.N) (e : Fin 1024) :
    iblk (F := Ideal) m c 3 t (ix2 (0 : Fin 1) e) = if (cOf t e).val < 2048 then kq else 1 := by
  refine Eq.trans ?_ (V_cs m c (cOf t e))
  blk_ext [iblk, idx_3 t, cOf_val]

/-- The normalised rows of batch `b`. -/
def xn (c : Dev nD) (b : Fin 8) : Vec Ideal S2048x1024 .bf16 := fun j => nrm (rowA m c b (j 0)) (gnA m c) (j 1)
theorem xn_eq (c : Dev nD) (t : Fin cfg0.N) : k0_pay3 (F := Ideal) (iblk m c 0 t) (iblk m c 1 t) = xn m c (bOf t) := by
  funext j
  obtain ⟨s, e, rfl⟩ : ∃ s e, j = ix2 s e := ⟨j 0, j 1, eq_ix2 j⟩
  have hx := fun e => blk_x m c t s e
  have hg := blk_g m c t e
  unfold k0_pay3
  generalize iblk (F := Ideal) m c 0 t = X at hx ⊢
  generalize iblk (F := Ideal) m c 1 t = G at hg ⊢
  pointwise
  simp only [hx, hg]
  rfl

theorem fold_eq (c : Dev nD) : ∀ (n : ℕ) (h : 0 + n < cfg0.N),
    Pipeline.accAt (fun n h => Value.stAt0 m c n h Value.junk0) (Value.stAt0 m c) 0 n h
      = (blkOf (xn m c (bOf ⟨n, by omega⟩)) (iblk (F := Ideal) m c 2 ⟨n, by omega⟩) (iblk (F := Ideal) m c 3 ⟨n, by omega⟩), xn m c (bOf ⟨n, by omega⟩)) := by
  intro n
  induction n with
  | zero =>
    intro h
    rw [Pipeline.accAt_zero]
    refine (Value.stAt0_A m c ⟨0, h⟩ _ rfl).trans ?_
    rw [out_A, sout_A, xn_eq]
  | succ n ih =>
    intro h
    rw [Pipeline.accAt_succ, ih]
    have e : (⟨0 + (n + 1), h⟩ : Fin cfg0.N) = ⟨n + 1, by omega⟩ := Fin.ext (Nat.zero_add _)
    by_cases h8 : (0 + (n + 1)) % 8 = 0
    · refine (Value.stAt0_A m c ⟨0 + (n + 1), h⟩ _ h8).trans ?_
      rw [out_A, sout_A, xn_eq, e]
    · refine (Value.stAt0_B m c ⟨0 + (n + 1), h⟩ _ h8).trans ?_
      have eb : bOf ⟨n, by omega⟩ = bOf ⟨n + 1, by omega⟩ := Fin.ext (by show n / 8 = (n + 1) / 8; omega)
      refine Prod.ext ?_ ?_
      · dsimp only
        rw [out_B, e, eb]
      · exact congrArg (xn m c) eb

theorem blkOf_at (x : Vec Ideal S2048x1024 .bf16) (w : Vec Ideal S1x1024x1024 .f32) (cs : Vec Ideal S1x1024 .f32) (k : Fin 8) (s : Fin 2048) (d : Fin 128) :
    blkOf x w cs (ix4 (0 : Fin 1) k s d) = (∑ e : Fin 1024, x (ix2 s e) * w (ix3 (0 : Fin 1) e (col k d))) * cs (ix2 (0 : Fin 1) (col k d)) := by
  unfold blkOf k0_pay4
  pointwise

/-- The array the launch leaves. -/
theorem G7_at (c : Dev nD) (b : Fin 8) (h : Fin 64) (s : Fin 2048) (d : Fin 128) :
    (Value.G7 (F := Ideal) m c : Vec Ideal S8x64x2048x128 .bf16) (ix4 b h s d) = proj (rowA m c b s) (gnA m c) (wtA m c) h d := by
  have hN : cfg0.N = 64 := N_0
  have hp : Value.pt7Of (ix4 b h s d) = 8 * b.val + h.val / 8 := by
    show 8 * (b.val / 1 - 0) + 1 * (h.val / 8 - 0) + 1 * (s.val / 2048 - 0) + 1 * (d.val / 128 - 0) = _
    omega
  unfold Value.G7
  rw [dif_pos (by rw [hp]; omega)]
  rw [fold_eq]
  have hl : Value.loc7Of (ix4 b h s d) = ix4 (0 : Fin 1) (⟨h.val % 8, by omega⟩ : Fin 8) s d := by
    funext a; fin_cases a
    · exact Subsingleton.elim (α := Fin 1) _ _
    · refine Fin.ext ?_; simp [Value.loc7Of, ix4]
    · refine Fin.ext ?_; simp [Value.loc7Of, ix4]
    · refine Fin.ext ?_; simp [Value.loc7Of, ix4]
  rw [hl]
  dsimp only
  rw [blkOf_at, blk_cs]
  unfold proj colS
  have hb : bOf ⟨Value.pt7Of (ix4 b h s d), by rw [hp]; omega⟩ = b := Fin.ext (by show Value.pt7Of (ix4 b h s d) / 8 = b.val; rw [hp]; omega)
  have hc : cOf ⟨Value.pt7Of (ix4 b h s d), by rw [hp]; omega⟩ (col (⟨h.val % 8, by omega⟩ : Fin 8) d) = cx h d :=
    Fin.ext (by show (Value.pt7Of (ix4 b h s d) % 8) * 1024 + (128 * (h.val % 8) + d.val) = h.val * 128 + d.val; rw [hp]; omega)
  have hs : ((cx h d).val < 2048) = (h.val < 16) := propext (by rw [cx_val]; omega)
  rw [hc, hb]
  simp only [hs]
  refine congrArg (· * _) (Finset.sum_congr rfl fun e _ => ?_)
  rw [blk_w, hc]
  rfl

end Cert.KernelInIdeal.Own
-- ==== Proof.In.Ref.lean ====
/- The first layer's input projection's reference, at an index. -/
module

public import proofs.«01_k».proof.Proof.Gen.ReferenceInIdeal.Read
public import proofs.«01_k».proof.Proof.In.Spec

@[expose] public section

set_option maxRecDepth 16384

noncomputable section

namespace Cert.ReferenceInIdeal.Own

open Cert.ReferenceInIdeal Cert.ReferenceInIdeal.Gen Cert.ReferenceInIdeal.Read Cert.InProj
open Idealize.ShloMosaic Idealize.ShloMosaic.TcCoe

variable (x : Vec Ideal S8x2048x1024 .f32) (g : Vec Ideal S2x1024 .f32) (w : Vec Ideal S2x1024x8192 .f32)

theorem nrm_at (b : Fin 8) (s : Fin 2048) (e : Fin 1024) : val_main_v14 (F := Ideal) x g (ix3 b s e) = nrm (fun e => x (ix3 b s e)) (fun e => g (ix2 (0 : Fin 2) e)) e := by
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

theorem dot_at (b : Fin 8) (s : Fin 2048) (e : Fin 8192) : val_main_v17 (F := Ideal) x g w (ix3 b s e)
    = ∑ k : Fin 1024, nrm (fun e => x (ix3 b s e)) (fun e => g (ix2 (0 : Fin 2) e)) k * w (ix3 (0 : Fin 2) k e) := by
  have h := fun k => nrm_at x g b s k
  unfold val_main_v17 val_main_v16 val_main_v15
  generalize val_main_v14 (F := Ideal) x g = P at h
  pointwise
  exact Finset.sum_congr rfl fun k _ => congrArg (· * _) (h k)

theorem ref_at (b : Fin 8) (h : Fin 64) (s : Fin 2048) (d : Fin 128) : val_main_v35 (F := Ideal) x g w (ix4 b h s d)
    = proj (fun e => x (ix3 b s e)) (fun e => g (ix2 (0 : Fin 2) e)) (fun k e => w (ix3 (0 : Fin 2) k e)) h d := by
  unfold proj
  rw [← dot_at x g w b s (cx h d)]
  unfold val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_cst_2 val_main_cst_3
  generalize val_main_v17 (F := Ideal) x g w = P
  pointwise
  unfold colS
  by_cases h1 : h.val < 16
  · rw [dif_pos h1, if_pos h1]; rfl
  · rw [dif_neg h1, if_neg h1]
    refine Eq.trans ?_ (mul_one (M := EReal) _).symm
    have key (q : Fin 8192) (hq : q.val = h.val * 128 + d.val) : P (ix3 b s q) = P (ix3 b s (cx h d)) := congrArg (fun q => P (ix3 b s q)) (Fin.ext hq)
    split_ifs <;> exact key _ (by dsimp only; omega)

end Cert.ReferenceInIdeal.Own
-- ==== Proof.DfIn.Body.lean ====
/- The differential layer's input projection: what one block of the body is left at. -/
module

public import proofs.«01_k».proof.Proof.Gen.KernelDfInIdeal.Value
public import Idealize.ShloMosaic.Lib.Pointwise
public import Idealize.ShloMosaic.Lib.Pipeline.ValueKit

@[expose] public section

set_option maxRecDepth 16384

noncomputable section

namespace Cert.KernelDfInIdeal.Own

open Cert.KernelDfInIdeal Cert.KernelDfInIdeal.Gen
open Idealize.ShloMosaic Idealize.ShloMosaic.TcCoe Idealize.ShloMosaic.Tactic

theorem hz : (![0, 0] : Fin 2 → ℕ) = fun _ => 0 := funext fun a => by fin_cases a <;> rfl
theorem hz3 : (![0, 0, 0] : Fin 3 → ℕ) = fun _ => 0 := funext fun a => by fin_cases a <;> rfl

/-- Column `128 c + d` of a block of 1024. -/
def col (c : Fin 8) (d : Fin 128) : Fin 1024 := ⟨128 * c.val + d.val, by omega⟩
theorem col_val (c : Fin 8) (d : Fin 128) : (col c d).val = 128 * c.val + d.val := rfl

/-- The column's place in its two heads, its slab's columns, and the column half a head away. -/
def hcol (k : Fin 8) (d : Fin 128) : Fin 256 := ⟨128 * (k.val % 2) + d.val, by omega⟩
def slab (k : Fin 8) (x : Fin 256) : Fin 1024 := ⟨256 * (k.val / 2) + x.val, by omega⟩
def rot (d : Fin 128) : Fin 128 := ⟨(d.val + 64) % 128, by omega⟩

/-- An entry of a head of the projected block over the root of the head's mean square, times its gain. -/
def yAt (A : Vec Ideal S2048x1024 .f32) (hm : Vec Ideal S256x256 .bf16) (cs : Vec Ideal S1x1024 .f32) (s : Fin 2048) (k : Fin 8) (d : Fin 128) : EReal :=
  A (ix2 s (col k d)) * Ideal.rsqrt (∑ x : Fin 256, A (ix2 s (slab k x)) * A (ix2 s (slab k x)) * hm (ix2 x (hcol k d)) + Ideal.ofBits FTy.f32 897988541#32) * cs (ix2 (0 : Fin 1) (col k d))

theorem yC (A : Vec Ideal S2048x1024 .f32) (hm : Vec Ideal S256x256 .bf16) (cs : Vec Ideal S1x1024 .f32) (s : Fin 2048) (k : Fin 8) (d : Fin 128)
    (q : Fin 1024) (sl : Fin 256 → Fin 1024) (p : Fin 256) (e : Fin 1024) (hq : q.val = 128 * k.val + d.val) (hs : ∀ x, (sl x).val = 256 * (k.val / 2) + x.val)
    (hp : p.val = 128 * (k.val % 2) + d.val) (he : e.val = 128 * k.val + d.val) :
    A (ix2 s q) * Ideal.rsqrt (∑ x : Fin 256, A (ix2 s (sl x)) * A (ix2 s (sl x)) * hm (ix2 x p) + Ideal.ofBits FTy.f32 897988541#32) * cs (ix2 (0 : Fin 1) e) = yAt A hm cs s k d := by
  have e1 : q = col k d := Fin.ext hq
  have e2 : sl = slab k := funext fun x => Fin.ext (hs x)
  have e3 : p = hcol k d := Fin.ext hp
  have e4 : e = col k d := Fin.ext he
  rw [e1, e2, e3, e4]; rfl

/-- A block of queries or keys: by heads, normalised and rotated. -/
def ropeBlk (x : Vec Ideal S2048x1024 .bf16) (w : Vec Ideal S1x1024x1024 .f32) (cs : Vec Ideal S1x1024 .f32) (cos sin : Vec Ideal S2048x128 .f32) (hm : Vec Ideal S256x256 .bf16) : Vec Ideal S1x8x2048x128 .bf16 :=
  fun y => yAt (k0_pay1 (F := Ideal) x w) hm cs (y 2) (y 1) (y 3) * cos (ix2 (y 2) (y 3)) + yAt (k0_pay1 (F := Ideal) x w) hm cs (y 2) (y 1) (rot (y 3)) * sin (ix2 (y 2) (y 3))

/-- A block of values or gates: by heads, its columns scaled. -/
def plainBlk (x : Vec Ideal S2048x1024 .bf16) (w : Vec Ideal S1x1024x1024 .f32) (cs : Vec Ideal S1x1024 .f32) : Vec Ideal S1x8x2048x128 .bf16 :=
  fun y => FloatOps.mulf (F := Ideal) (φ := .f32) (k0_pay1 (F := Ideal) x w (ix2 (y 2) (col (y 1) (y 3)))) (cs (ix2 (0 : Fin 1) (col (y 1) (y 3))))

/-- A store of one head's rows holds the block's values. -/
theorem tile (B : Vec Ideal S1x8x2048x128 .bf16) (k : Fin 8) (y : S1x8x2048x128.Idx) (P : Vec Ideal S1x1x2048x128 .bf16)
    (h : ∀ s d, P (ix4 (0 : Fin 1) (0 : Fin 1) s d) = B (ix4 (0 : Fin 1) k s d)) :
    View.TileAt (Val := Elt Ideal) (e := .bf16) (S := S1x8x2048x128) y ![0, k.val, 0, 0] ![1, 1, 2048, 128] P (B y) := by
  intro j hj
  have hj1 : (j 1).val < 1 := (j 1).isLt
  have e0 := hj 0
  have e1 := hj 1
  have e2 := hj 2
  have e3 := hj 3
  have ej : j = ix4 (0 : Fin 1) (0 : Fin 1) (j 2) (j 3) := by
    funext a; fin_cases a
    · exact Subsingleton.elim (α := Fin 1) _ _
    · exact Subsingleton.elim (α := Fin 1) _ _
    · rfl
    · rfl
  have ey : y = ix4 (0 : Fin 1) k (j 2) (j 3) := by
    funext a; fin_cases a
    · exact Subsingleton.elim (α := Fin 1) _ _
    · refine Fin.ext (e1.trans ?_); show k.val + (j 1).val = k.val; omega
    · refine Fin.ext (e2.trans ?_); show 0 + (j 2).val = (j 2).val; omega
    · refine Fin.ext (e3.trans ?_); show 0 + (j 3).val = (j 3).val; omega
  rw [ey]
  exact (congrArg P ej).trans (h (j 2) (j 3))

theorem out_A (c : Dev nD) (i : grid0.Coords) (a2 : Memref sig .tc .vmem S2048x1024 .bf16) (h2 : a2.IsWhole) (a3 : Memref sig .tc .vmem S1x1024 .f32) (h3 : a3.IsWhole) (a4 : Memref sig .tc .vmem S1x1024x1024 .f32) (h4 : a4.IsWhole) (a5 : Memref sig .tc .vmem S1x1024 .f32) (h5 : a5.IsWhole) (a6 : Memref sig .tc .vmem S2048x128 .f32) (h6 : a6.IsWhole) (a7 : Memref sig .tc .vmem S2048x128 .f32) (h7 : a7.IsWhole) (a8 : Memref sig .tc .vmem S256x256 .bf16) (h8 : a8.IsWhole) (a9 : Memref sig .tc .vmem S1x8x2048x128 .bf16) (h9 : a9.IsWhole) (a10 : Memref sig .tc .vmem S16x128 .bf16) (h10 : a10.IsWhole) (hc0 : cond0_0 i) (hc1 : ¬cond0_1 i)
    (x0 : Vec Ideal S2048x1024 .bf16) (x1 : Vec Ideal S1x1024 .f32) (x2 : Vec Ideal S1x1024x1024 .f32) (x3 : Vec Ideal S1x1024 .f32) (x4 : Vec Ideal S2048x128 .f32) (x5 : Vec Ideal S2048x128 .f32) (x6 : Vec Ideal S256x256 .bf16) :
    out0_A_7 c i a2 h2 a3 h3 a4 h4 a5 h5 a6 h6 a7 h7 a8 h8 a9 h9 a10 h10 hc0 hc1 x0 x1 x2 x3 x4 x5 x6 = ropeBlk x0 x2 x3 x4 x5 x6 := by
  unfold out0_A_7
  rw [View.read_writes_eq_canon _ _ _ (cover0_A_7 c i a2 h2 a3 h3 a4 h4 a5 h5 a6 h6 a7 h7 a8 h8 a9 h9 a10 h10 hc0 hc1 x0 x1 x2 x3 x4 x5 x6)]
  funext y
  refine View.canon_eq_of_allAt _ _ _ (cover0_A_7 c i a2 h2 a3 h3 a4 h4 a5 h5 a6 h6 a7 h7 a8 h8 a9 h9 a10 h10 hc0 hc1 x0 x1 x2 x3 x4 x5 x6 y) ?_
  unfold kernelRun0_A
  dsimp only
  sl_unfold_words
  simp only [View.readAt_eq_ld, h2.read_unread, h3.read_unread, h4.read_unread, h5.read_unread, h6.read_unread, h7.read_unread, h8.read_unread, View.ld_unit_zero (S := S2048x1024) hz, View.ld_unit_zero (S := S1x1024x1024) hz3, View.ld_unit_zero (S := S2048x128) hz, View.ld_unit_zero (S := S256x256) hz]
  refine View.allAt_cons_unit _ _ _ _ _ (tile _ 7 y _ fun s d => ?_) ?_
  · unfold ropeBlk k0_pay3 k0_pay20 k0_pay5 k0_pay6
    generalize k0_pay1 (F := Ideal) _ _ = A
    pointwise
    refine congrArg₂ (· + ·) (congrArg₂ (· * ·) (yC A x6 x3 s 7 d _ _ _ _ ?_ (fun x => ?_) ?_ ?_) rfl) (congrArg₂ (· * ·) (yC A x6 x3 s 7 (rot d) _ _ _ _ ?_ (fun x => ?_) ?_ ?_) rfl) <;> simp [rot] <;> omega
  refine View.allAt_cons_unit _ _ _ _ _ (tile _ 6 y _ fun s d => ?_) ?_
  · unfold ropeBlk k0_pay2 k0_pay22 k0_pay21 k0_pay20 k0_pay5 k0_pay6
    generalize k0_pay1 (F := Ideal) _ _ = A
    pointwise
    refine congrArg₂ (· + ·) (congrArg₂ (· * ·) (yC A x6 x3 s 6 d _ _ _ _ ?_ (fun x => ?_) ?_ ?_) rfl) (congrArg₂ (· * ·) (yC A x6 x3 s 6 (rot d) _ _ _ _ ?_ (fun x => ?_) ?_ ?_) rfl) <;> simp [rot] <;> omega
  refine View.allAt_cons_unit _ _ _ _ _ (tile _ 5 y _ fun s d => ?_) ?_
  · unfold ropeBlk k0_pay19 k0_pay17 k0_pay16 k0_pay15 k0_pay5 k0_pay6
    generalize k0_pay1 (F := Ideal) _ _ = A
    pointwise
    refine congrArg₂ (· + ·) (congrArg₂ (· * ·) (yC A x6 x3 s 5 d _ _ _ _ ?_ (fun x => ?_) ?_ ?_) rfl) (congrArg₂ (· * ·) (yC A x6 x3 s 5 (rot d) _ _ _ _ ?_ (fun x => ?_) ?_ ?_) rfl) <;> simp [rot] <;> omega
  refine View.allAt_cons_unit _ _ _ _ _ (tile _ 4 y _ fun s d => ?_) ?_
  · unfold ropeBlk k0_pay18 k0_pay17 k0_pay16 k0_pay15 k0_pay5 k0_pay6
    generalize k0_pay1 (F := Ideal) _ _ = A
    pointwise
    refine congrArg₂ (· + ·) (congrArg₂ (· * ·) (yC A x6 x3 s 4 d _ _ _ _ ?_ (fun x => ?_) ?_ ?_) rfl) (congrArg₂ (· * ·) (yC A x6 x3 s 4 (rot d) _ _ _ _ ?_ (fun x => ?_) ?_ ?_) rfl) <;> simp [rot] <;> omega
  refine View.allAt_cons_unit _ _ _ _ _ (tile _ 3 y _ fun s d => ?_) ?_
  · unfold ropeBlk k0_pay14 k0_pay12 k0_pay11 k0_pay10 k0_pay5 k0_pay6
    generalize k0_pay1 (F := Ideal) _ _ = A
    pointwise
    refine congrArg₂ (· + ·) (congrArg₂ (· * ·) (yC A x6 x3 s 3 d _ _ _ _ ?_ (fun x => ?_) ?_ ?_) rfl) (congrArg₂ (· * ·) (yC A x6 x3 s 3 (rot d) _ _ _ _ ?_ (fun x => ?_) ?_ ?_) rfl) <;> simp [rot] <;> omega
  refine View.allAt_cons_unit _ _ _ _ _ (tile _ 2 y _ fun s d => ?_) ?_
  · unfold ropeBlk k0_pay13 k0_pay12 k0_pay11 k0_pay10 k0_pay5 k0_pay6
    generalize k0_pay1 (F := Ideal) _ _ = A
    pointwise
    refine congrArg₂ (· + ·) (congrArg₂ (· * ·) (yC A x6 x3 s 2 d _ _ _ _ ?_ (fun x => ?_) ?_ ?_) rfl) (congrArg₂ (· * ·) (yC A x6 x3 s 2 (rot d) _ _ _ _ ?_ (fun x => ?_) ?_ ?_) rfl) <;> simp [rot] <;> omega
  refine View.allAt_cons_unit _ _ _ _ _ (tile _ 1 y _ fun s d => ?_) ?_
  · unfold ropeBlk k0_pay9 k0_pay7 k0_pay5 k0_pay6
    generalize k0_pay1 (F := Ideal) _ _ = A
    pointwise
    refine congrArg₂ (· + ·) (congrArg₂ (· * ·) (yC A x6 x3 s 1 d _ _ _ _ ?_ (fun x => ?_) ?_ ?_) rfl) (congrArg₂ (· * ·) (yC A x6 x3 s 1 (rot d) _ _ _ _ ?_ (fun x => ?_) ?_ ?_) rfl) <;> simp [rot] <;> omega
  refine View.allAt_cons_unit _ _ _ _ _ (tile _ 0 y _ fun s d => ?_) ?_
  · unfold ropeBlk k0_pay8 k0_pay7 k0_pay5 k0_pay6
    generalize k0_pay1 (F := Ideal) _ _ = A
    pointwise
    refine congrArg₂ (· + ·) (congrArg₂ (· * ·) (yC A x6 x3 s 0 d _ _ _ _ ?_ (fun x => ?_) ?_ ?_) rfl) (congrArg₂ (· * ·) (yC A x6 x3 s 0 (rot d) _ _ _ _ ?_ (fun x => ?_) ?_ ?_) rfl) <;> simp [rot] <;> omega
  exact View.allAt_nil _ _

theorem out_B (c : Dev nD) (i : grid0.Coords) (a2 : Memref sig .tc .vmem S2048x1024 .bf16) (h2 : a2.IsWhole) (a3 : Memref sig .tc .vmem S1x1024 .f32) (h3 : a3.IsWhole) (a4 : Memref sig .tc .vmem S1x1024x1024 .f32) (h4 : a4.IsWhole) (a5 : Memref sig .tc .vmem S1x1024 .f32) (h5 : a5.IsWhole) (a6 : Memref sig .tc .vmem S2048x128 .f32) (h6 : a6.IsWhole) (a7 : Memref sig .tc .vmem S2048x128 .f32) (h7 : a7.IsWhole) (a8 : Memref sig .tc .vmem S256x256 .bf16) (h8 : a8.IsWhole) (a9 : Memref sig .tc .vmem S1x8x2048x128 .bf16) (h9 : a9.IsWhole) (a10 : Memref sig .tc .vmem S16x128 .bf16) (h10 : a10.IsWhole) (hc0 : ¬cond0_0 i) (hc1 : cond0_1 i)
    (x0 : Vec Ideal S2048x1024 .bf16) (x1 : Vec Ideal S1x1024 .f32) (x2 : Vec Ideal S1x1024x1024 .f32) (x3 : Vec Ideal S1x1024 .f32) (x4 : Vec Ideal S2048x128 .f32) (x5 : Vec Ideal S2048x128 .f32) (x6 : Vec Ideal S256x256 .bf16) :
    out0_B_7 c i a2 h2 a3 h3 a4 h4 a5 h5 a6 h6 a7 h7 a8 h8 a9 h9 a10 h10 hc0 hc1 x0 x1 x2 x3 x4 x5 x6 = plainBlk x0 x2 x3 := by
  unfold out0_B_7
  rw [View.read_writes_eq_canon _ _ _ (cover0_B_7 c i a2 h2 a3 h3 a4 h4 a5 h5 a6 h6 a7 h7 a8 h8 a9 h9 a10 h10 hc0 hc1 x0 x1 x2 x3 x4 x5 x6)]
  funext y
  refine View.canon_eq_of_allAt _ _ _ (cover0_B_7 c i a2 h2 a3 h3 a4 h4 a5 h5 a6 h6 a7 h7 a8 h8 a9 h9 a10 h10 hc0 hc1 x0 x1 x2 x3 x4 x5 x6 y) ?_
  unfold kernelRun0_B
  dsimp only
  sl_unfold_words
  simp only [View.readAt_eq_ld, h2.read_unread, h3.read_unread, h4.read_unread, h5.read_unread, h6.read_unread, h7.read_unread, h8.read_unread, View.ld_unit_zero (S := S2048x1024) hz, View.ld_unit_zero (S := S1x1024x1024) hz3, View.ld_unit_zero (S := S2048x128) hz, View.ld_unit_zero (S := S256x256) hz]
  refine View.allAt_cons_unit _ _ _ _ _ (tile _ 7 y _ fun s d => ?_) ?_
  · unfold plainBlk k0_pay4 k0_pay31
    generalize k0_pay1 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ 6 y _ fun s d => ?_) ?_
  · unfold plainBlk k0_pay30
    generalize k0_pay1 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ 5 y _ fun s d => ?_) ?_
  · unfold plainBlk k0_pay29
    generalize k0_pay1 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ 4 y _ fun s d => ?_) ?_
  · unfold plainBlk k0_pay28
    generalize k0_pay1 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ 3 y _ fun s d => ?_) ?_
  · unfold plainBlk k0_pay27 k0_pay26
    generalize k0_pay1 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ 2 y _ fun s d => ?_) ?_
  · unfold plainBlk k0_pay25
    generalize k0_pay1 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ 1 y _ fun s d => ?_) ?_
  · unfold plainBlk k0_pay24
    generalize k0_pay1 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ 0 y _ fun s d => ?_) ?_
  · unfold plainBlk k0_pay23
    generalize k0_pay1 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  exact View.allAt_nil _ _

end Cert.KernelDfInIdeal.Own
-- ==== Proof.DfIn.Spec.lean ====
/- The differential layer's input projection in numbers: queries and keys are normalised by heads and rotated. -/
module

public import proofs.«01_k».proof.Proof.In.Spec

@[expose] public section

noncomputable section

namespace Cert.DfInProj

open Idealize.ShloMosaic Cert.InProj

/-- The angle by which pair `d` turns at position `s`. -/
def ang (s : Fin 2048) (d : Fin 64) : EReal :=
  FloatOps.sitofp (F := Ideal) FTy.f32 (BitVec.ofNat 32 s.val) *
    Ideal.div 1 (Ideal.pow (Ideal.ofBits FTy.f32 1176256512#32)
      (Ideal.div (Ideal.ofBits FTy.f32 1073741824#32 * FloatOps.sitofp (F := Ideal) FTy.f32 (BitVec.ofNat 32 d.val)) (Ideal.ofBits FTy.f32 1124073472#32)))
/-- An entry of one head of the projection. -/
def acc (row : Fin 1024 → EReal) (w : Fin 1024 → Fin 8192 → EReal) (h : Fin 64) (d : Fin 128) : EReal := ∑ e, row e * w e (cx h d)
/-- A head's entry over the root of the head's mean square, times its gain. -/
def rn (t : Fin 128 → EReal) (g : Fin 128 → EReal) (d : Fin 128) : EReal :=
  t d * Ideal.rsqrt (Ideal.div (∑ x, t x * t x) (Ideal.ofBits FTy.f32 1124073472#32) + Ideal.ofBits FTy.f32 897988541#32) * g d
/-- A head's entry with its pairs turned: entry `d` goes with entry `d + 64`. -/
def turn (y : Fin 128 → EReal) (s : Fin 2048) (d : Fin 128) : EReal :=
  if h : d.val < 64 then y d * Ideal.cos (ang s ⟨d.val, h⟩) - y ⟨d.val + 64, by omega⟩ * Ideal.sin (ang s ⟨d.val, h⟩)
  else y d * Ideal.cos (ang s ⟨d.val - 64, by omega⟩) + y ⟨d.val - 64, by omega⟩ * Ideal.sin (ang s ⟨d.val - 64, by omega⟩)
/-- One entry of one head: sixteen heads of queries, of keys, of values, of gates. -/
def dproj (row : Fin 1024 → EReal) (w : Fin 1024 → Fin 8192 → EReal) (gq gk : Fin 128 → EReal) (h : Fin 64) (s : Fin 2048) (d : Fin 128) : EReal :=
  if h.val < 16 then turn (rn (acc row w h) gq) s d * kq
  else if h.val < 32 then turn (rn (acc row w h) gk) s d
  else acc row w h d

end Cert.DfInProj
-- ==== Proof.DfIn.Host.lean ====
/- What the host hands the differential layer's input projection, at an index. -/
module

public import proofs.«01_k».proof.Proof.DfIn.Body
public import proofs.«01_k».proof.Proof.DfIn.Spec
public import Idealize.ShloMosaic.Lib.StableHlo.RunRead

@[expose] public section

set_option maxRecDepth 16384

noncomputable section

namespace Cert.KernelDfInIdeal.Own

open Cert.KernelDfInIdeal Cert.KernelDfInIdeal.Gen Cert.InProj Cert.DfInProj
open Idealize.ShloMosaic Idealize.ShloMosaic.TcCoe Idealize.ShloMosaic.Tactic

variable (m : (ℓ : Loc nD τ sig) → Buf (Elt Ideal) ℓ)

/-- The arguments on core `c`: the rows, the projection's weights, the queries' and the keys' gains. -/
def xA (c : Dev nD) : Vec Ideal S8x2048x1024 .f32 := m ((c : Thread nD τ).loc main_arg0)
def wA (c : Dev nD) : Vec Ideal S2x1024x8192 .f32 := m ((c : Thread nD τ).loc main_arg2)
def qA (c : Dev nD) : Vec Ideal S2x128 .f32 := m ((c : Thread nD τ).loc main_arg3)
def kA (c : Dev nD) : Vec Ideal S2x128 .f32 := m ((c : Thread nD τ).loc main_arg4)

/-- Batch and position of row `r` of all 16384. -/
def bt (r : Fin 16384) : Fin 8 := ⟨r.val / 2048, by omega⟩
def ps (r : Fin 16384) : Fin 2048 := ⟨r.val % 2048, by omega⟩

theorem V_x (c : Dev nD) (r : Fin 16384) (e : Fin 1024) :
    (V (F := Ideal) m c main_v40 : Vec Ideal S16384x1024 .bf16) (ix2 r e) = xA m c (ix3 (bt r) (ps r) e) := by
  unfold V
  unfold hostOps0 hostOps0_1 hostOps0_2 hostOps0_3 hostOps0_4
  after_reads_simp
  unfold xA
  pointwise
  rfl
theorem V_w (c : Dev nD) : (V (F := Ideal) m c main_arg2 : Vec Ideal S2x1024x8192 .f32) = wA m c := by
  unfold V
  unfold hostOps0 hostOps0_1 hostOps0_2 hostOps0_3 hostOps0_4
  after_reads_simp
  rfl

/-- The columns' scales: the queries' gains times their scale, the keys' gains, ones. -/
def csAt (gq gk : Vec Ideal S2x128 .f32) (e : Fin 8192) : EReal :=
  if e.val < 2048 then gq (ix2 (0 : Fin 2) (⟨e.val % 128, by omega⟩ : Fin 128)) * kq
  else if e.val < 4096 then gk (ix2 (0 : Fin 2) (⟨e.val % 128, by omega⟩ : Fin 128)) else 1
set_option maxHeartbeats 1000000 in
theorem V_cs (c : Dev nD) (e : Fin 8192) : (V (F := Ideal) m c main_v38 : Vec Ideal S1x8192 .f32) (ix2 (0 : Fin 1) e) = csAt (qA m c) (kA m c) e := by
  unfold V
  unfold hostOps0 hostOps0_1 hostOps0_2 hostOps0_3 hostOps0_4
  after_reads_simp
  pointwise
  unfold csAt qA kA kq
  split_ifs
  all_goals after_reads_simp
  all_goals pointwise
  all_goals first
    | (exfalso; omega)
    | rw [if_neg (show ¬e.val < 4096 by omega)]
    | (rw [if_pos (show e.val < 4096 by omega)]
       exact congrArg (fun z => m (c, Proc.tc.devRef main_arg4) (ix2 (0 : Fin 2) z)) (Fin.ext (show (e.val - 2048) % 128 = e.val % 128 by omega)))

theorem V_cos (c : Dev nD) (s : Fin 2048) (d : Fin 128) : (V (F := Ideal) m c main_v19 : Vec Ideal S2048x128 .f32) (ix2 s d) = Ideal.cos (ang s ⟨d.val % 64, by omega⟩) := by
  unfold V
  unfold hostOps0 hostOps0_1 hostOps0_2 hostOps0_3 hostOps0_4
  after_reads_simp
  pointwise
  split_ifs with h
  · unfold ang; dsimp only; rw [show d.val % 64 = d.val by omega]
  · unfold ang; dsimp only; rw [show d.val % 64 = d.val - 64 by omega]
theorem V_sin (c : Dev nD) (s : Fin 2048) (d : Fin 128) : (V (F := Ideal) m c main_v21 : Vec Ideal S2048x128 .f32) (ix2 s d) = if d.val < 64 then - Ideal.sin (ang s ⟨d.val % 64, by omega⟩) else Ideal.sin (ang s ⟨d.val % 64, by omega⟩) := by
  unfold V
  unfold hostOps0 hostOps0_1 hostOps0_2 hostOps0_3 hostOps0_4
  after_reads_simp
  pointwise
  split_ifs with h
  · unfold ang; dsimp only; rw [show d.val % 64 = d.val by omega]
  · unfold ang; dsimp only; rw [show d.val % 64 = d.val - 64 by omega]

/-- The index's half: its floor quotient by 128. -/
def hI : IVec S256 32 := iotaInDim S256 32 0
def hC : IVec S256 32 := broadcastInDim S256 ![] bcast_S_S256 (constantI S_ 32 128#32)
def hF : IVec S256 32 := select (andi (cmpi .ne (signi hI) (broadcastInDim S256 ![] bcast_S_S256 (signi (constantI S_ 32 128#32))))
    (cmpi .ne (Host.remsi hI hC) (broadcastInDim S256 ![] bcast_S_S256 (constantI S_ 32 0#32))))
  (subi (Host.divsi hI hC) (broadcastInDim S256 ![] bcast_S_S256 (constantI S_ 32 1#32))) (Host.divsi hI hC)
/-- The matrix of the heads' means. -/
def hM : Vec Ideal S256x256 .bf16 := truncf (F := Ideal) (φ := .f32) .bf16 (select
    (cmpi .eq (broadcastInDim S256x256 ![0, 1] bcast_S256x1_S256x256_0_1 (broadcastInDim S256x1 ![0] bcast_S256_S256x1_0 hF))
      (broadcastInDim S256x256 ![0, 1] bcast_S1x256_S256x256_0_1 (broadcastInDim S1x256 ![1] bcast_S256_S1x256_1 hF)))
    (broadcastInDim S256x256 ![] bcast_S_S256x256 (constant (F := Ideal) S_ .f32 0x3C000000#32))
    (broadcastInDim S256x256 ![] bcast_S_S256x256 (constant (F := Ideal) S_ .f32 0x00000000#32))) bitsLt_bf16_f32
theorem V_hm (c : Dev nD) : (V (F := Ideal) m c main_v52 : Vec Ideal S256x256 .bf16) = hM := by
  unfold V
  unfold hostOps0 hostOps0_1 hostOps0_2 hostOps0_3 hostOps0_4
  after_reads_simp
  rfl
theorem hF_at (k : Fin 256) : hF (ix1 k) = BitVec.ofNat 32 (k.val / 128) := by
  revert k
  decide +kernel
theorem hM_at (k p : Fin 256) : hM (ix2 k p) = if k.val / 128 = p.val / 128 then Ideal.ofBits FTy.f32 1006632960#32 else 0 := by
  unfold hM
  pointwise
  rw [hF_at, hF_at]
  have hd : ∀ a b : Fin 2, IntOp.cmpi CmpIPredicate.eq (BitVec.ofNat 32 a.val) (BitVec.ofNat 32 b.val) = if a.val = b.val then 1#1 else 0#1 := by decide
  have e := hd ⟨k.val / 128, by omega⟩ ⟨p.val / 128, by omega⟩
  dsimp only at e
  rw [e]
  split_ifs <;> rfl

end Cert.KernelDfInIdeal.Own
-- ==== Proof.DfIn.Math.lean ====
/- The differential layer's input projection: the kernel's arithmetic of a head against the plain one. -/
module

public import proofs.«01_k».proof.Proof.DfIn.Spec

@[expose] public section

noncomputable section

namespace Cert.DfInProj

open Idealize.ShloMosaic Cert.InProj

theorem c128 : Ideal.ofBits FTy.f32 1124073472#32 = ((128 : ℝ) : EReal) := by
  simp [Ideal.ofBits, Ideal.ieee, -EReal.coe_mul]; norm_num
theorem c1_128 : Ideal.ofBits FTy.f32 1006632960#32 = ((1 / 128 : ℝ) : EReal) := by
  simp [Ideal.ofBits, Ideal.ieee, -EReal.coe_mul]; norm_num
theorem cScale : Ideal.ofBits FTy.f32 1035273459#32 = ((11863283 / 134217728 : ℝ) : EReal) := by
  simp [Ideal.ofBits, Ideal.ieee, -EReal.coe_mul]; norm_num
theorem cTwo : Ideal.ofBits FTy.f32 1073741824#32 = ((2 : ℝ) : EReal) := by
  simp [Ideal.ofBits, Ideal.ieee, -EReal.coe_mul]; norm_num

/-- The queries' scale is a real number, not negative. -/
theorem kq_real : kq = ((11863283 / 134217728 * (1 / Real.log 2) : ℝ) : EReal) := by
  have hl : 0 < Real.log 2 := Real.log_pos (by norm_num)
  unfold kq
  rw [cScale, cTwo, Ideal.log_coe, if_neg (by norm_num), Ideal.div_coe hl.ne', ← EReal.coe_mul]
theorem kq_nonneg : 0 ≤ kq := by
  have hl : 0 < Real.log 2 := Real.log_pos (by norm_num)
  rw [kq_real]
  exact EReal.coe_nonneg.mpr (by positivity)
theorem kq_ne_top : kq ≠ ⊤ := by rw [kq_real]; exact EReal.coe_ne_top _

/-- A finite factor that is not negative goes into a sum. -/
theorem sum_mul_const {ι : Type} (A : Finset ι) (f : ι → EReal) (c : EReal) (h0 : 0 ≤ c) (ht : c ≠ ⊤) :
    ∑ x ∈ A, f x * c = (∑ x ∈ A, f x) * c := by
  classical
  induction A using Finset.induction_on with
  | empty => simp
  | insert a A ha ih => rw [Finset.sum_insert ha, Finset.sum_insert ha, ih, EReal.right_distrib_of_nonneg_of_ne_top h0 ht]

/-- The sum of squares over two heads' columns against the one head's column of the mean matrix is the head's mean square. -/
theorem head_mean (a : Fin 256 → EReal) (T : Fin 128 → EReal) (j : ℕ) (hj : j < 2) (h : ∀ x : Fin 128, a ⟨128 * j + x.val, by omega⟩ = T x * T x) :
    ∑ x : Fin 256, a x * (if x.val / 128 = j then Ideal.ofBits FTy.f32 1006632960#32 else 0) = Ideal.div (∑ x, T x * T x) (Ideal.ofBits FTy.f32 1124073472#32) := by
  have hc0 : (0 : EReal) ≤ ((1 / 128 : ℝ) : EReal) := EReal.coe_nonneg.mpr (by norm_num)
  rw [c128, c1_128, Ideal.div_coe (by norm_num), ← sum_mul_const _ _ _ hc0 (EReal.coe_ne_top _)]
  rw [show (∑ x : Fin 256, a x * (if x.val / 128 = j then ((1 / 128 : ℝ) : EReal) else 0))
    = (∑ x : Fin (128 + 128), a x * (if x.val / 128 = j then ((1 / 128 : ℝ) : EReal) else 0)) from rfl, Fin.sum_univ_add]
  have hj' : j = 0 ∨ j = 1 := by omega
  rcases hj' with rfl | rfl
  · have e2 : ∑ x : Fin 128, a (Fin.natAdd 128 x) * (if (Fin.natAdd 128 x : Fin (128 + 128)).val / 128 = 0 then ((1 / 128 : ℝ) : EReal) else 0) = 0 := by
      refine Finset.sum_eq_zero fun x _ => ?_
      rw [if_neg (by simp only [Fin.val_natAdd]; omega), mul_zero]
    rw [e2, add_zero]
    refine Finset.sum_congr rfl fun x _ => ?_
    rw [if_pos (by simp only [Fin.val_castAdd]; omega), ← h x]
    exact congrArg (fun z => a z * _) (Fin.ext (by simp))
  · have e2 : ∑ x : Fin 128, a (Fin.castAdd 128 x) * (if (Fin.castAdd 128 x : Fin (128 + 128)).val / 128 = 1 then ((1 / 128 : ℝ) : EReal) else 0) = 0 := by
      refine Finset.sum_eq_zero fun x _ => ?_
      rw [if_neg (by simp only [Fin.val_castAdd]; omega), mul_zero]
    rw [e2, zero_add]
    refine Finset.sum_congr rfl fun x _ => ?_
    rw [if_pos (by simp only [Fin.val_natAdd]; omega), ← h x]
    exact congrArg (fun z => a z * _) (Fin.ext (by simp; omega))

/-- A scale of the gain comes out of the norm, and out of the turn. -/
theorem rn_scale (t g : Fin 128 → EReal) (K : EReal) : rn t (fun d => g d * K) = fun d => rn t g d * K :=
  funext fun d => by unfold rn; rw [mul_assoc (_ * _)]
theorem turn_scale (y : Fin 128 → EReal) (K : EReal) (h0 : 0 ≤ K) (ht : K ≠ ⊤) (s : Fin 2048) (d : Fin 128) :
    turn (fun d => y d * K) s d = turn y s d * K := by
  unfold turn
  split_ifs
  · rw [sub_eq_add_neg, sub_eq_add_neg, EReal.right_distrib_of_nonneg_of_ne_top h0 ht, neg_mul, mul_right_comm, mul_right_comm (y ⟨d.val + 64, _⟩)]
  · rw [EReal.right_distrib_of_nonneg_of_ne_top h0 ht, mul_right_comm, mul_right_comm (y ⟨d.val - 64, _⟩)]

/-- The turn as a rotation by half a head, the sines' sign in the table. -/
theorem turn_rot (y : Fin 128 → EReal) (s : Fin 2048) (d r : Fin 128) (hr : r.val = (d.val + 64) % 128) :
    y d * Ideal.cos (ang s ⟨d.val % 64, by omega⟩) + y r * (if d.val < 64 then -Ideal.sin (ang s ⟨d.val % 64, by omega⟩) else Ideal.sin (ang s ⟨d.val % 64, by omega⟩))
      = turn y s d := by
  unfold turn
  by_cases h : d.val < 64
  · have e1 : (⟨d.val % 64, by omega⟩ : Fin 64) = ⟨d.val, h⟩ := Fin.ext (show d.val % 64 = d.val by omega)
    have e2 : r = ⟨d.val + 64, by omega⟩ := Fin.ext (show r.val = d.val + 64 by omega)
    rw [if_pos h, dif_pos h, e1, e2, mul_neg, sub_eq_add_neg]
  · have e1 : (⟨d.val % 64, by omega⟩ : Fin 64) = ⟨d.val - 64, by omega⟩ := Fin.ext (show d.val % 64 = d.val - 64 by omega)
    have e2 : r = ⟨d.val - 64, by omega⟩ := Fin.ext (show r.val = d.val - 64 by omega)
    rw [if_neg h, dif_neg h, e1, e2]

end Cert.DfInProj
-- ==== Proof.DfIn.Launch.lean ====
/- The differential layer's input projection's launch: the array it leaves, at an index, over the arguments. -/
module

public import proofs.«01_k».proof.Proof.DfIn.Host
public import proofs.«01_k».proof.Proof.DfIn.Math
public import Idealize.ShloMosaic.Lib.StableHlo.RunRead

@[expose] public section

set_option maxRecDepth 16384

noncomputable section

namespace Cert.KernelDfInIdeal.Own

open Cert.KernelDfInIdeal Cert.KernelDfInIdeal.Gen Cert.InProj Cert.DfInProj
open Idealize.ShloMosaic Idealize.ShloMosaic.TcCoe Idealize.ShloMosaic.Tactic

variable (m : (ℓ : Loc nD τ sig) → Buf (Elt Ideal) ℓ)

/-- One row of the batch, the weights' first layer, and a gain's. -/
def rowA (c : Dev nD) (b : Fin 8) (s : Fin 2048) (e : Fin 1024) : EReal := xA m c (ix3 b s e)
def wtA (c : Dev nD) (k : Fin 1024) (e : Fin 8192) : EReal := wA m c (ix3 (0 : Fin 2) k e)
def gainA (g : Vec Ideal S2x128 .f32) (d : Fin 128) : EReal := g (ix2 (0 : Fin 2) d)

theorem idx_0 : ∀ t : Fin cfg0.N, win0_0.index t = ![t.val / 8, 0] := by decide +kernel
theorem idx_2 : ∀ t : Fin cfg0.N, win0_2.index t = ![0, 0, t.val % 8] := by decide +kernel
theorem idx_7 : ∀ t : Fin cfg0.N, win0_7.index t = ![t.val / 8, t.val % 8, 0, 0] := by decide +kernel
theorem idx_3 : ∀ t : Fin cfg0.N, win0_3.index t = ![0, t.val % 8] := by decide +kernel

theorem idx_4 : ∀ t : Fin cfg0.N, win0_4.index t = ![0, 0] := by decide +kernel
theorem idx_5 : ∀ t : Fin cfg0.N, win0_5.index t = ![0, 0] := by decide +kernel
theorem idx_6 : ∀ t : Fin cfg0.N, win0_6.index t = ![0, 0] := by decide +kernel

/-- Row `r` of the block of point `t`; its columns' place among all. -/
def bOf (t : Fin cfg0.N) : Fin 8 := ⟨t.val / 8, by have := t.isLt; have : cfg0.N = 64 := N_0; omega⟩
def cOf (t : Fin cfg0.N) (e : Fin 1024) : Fin 8192 := ⟨(t.val % 8) * 1024 + e.val, by omega⟩
theorem bOf_val (t : Fin cfg0.N) : (bOf t).val = t.val / 8 := rfl
theorem cOf_val (t : Fin cfg0.N) (e : Fin 1024) : (cOf t e).val = (t.val % 8) * 1024 + e.val := rfl
def rOf (b : Fin 8) (s : Fin 2048) : Fin 16384 := ⟨b.val * 2048 + s.val, by omega⟩
theorem rOf_val (b : Fin 8) (s : Fin 2048) : (rOf b s).val = b.val * 2048 + s.val := rfl
theorem bt_rOf (b : Fin 8) (s : Fin 2048) : bt (rOf b s) = b := Fin.ext (by show (b.val * 2048 + s.val) / 2048 = b.val; omega)
theorem ps_rOf (b : Fin 8) (s : Fin 2048) : ps (rOf b s) = s := Fin.ext (by show (b.val * 2048 + s.val) % 2048 = s.val; omega)

theorem blk_x (c : Dev nD) (t : Fin cfg0.N) (s : Fin 2048) (e : Fin 1024) :
    iblk (F := Ideal) m c 0 t (ix2 s e) = rowA m c (bOf t) s e := by
  have h := V_x m c (rOf (bOf t) s) e
  rw [bt_rOf, ps_rOf] at h
  refine Eq.trans ?_ h
  blk_ext [iblk, idx_0 t, rOf_val, bOf_val]
theorem blk_w (c : Dev nD) (t : Fin cfg0.N) (k : Fin 1024) (e : Fin 1024) :
    iblk (F := Ideal) m c 2 t (ix3 (0 : Fin 1) k e) = wtA m c k (cOf t e) := by
  unfold wtA
  rw [← V_w]
  blk_ext [iblk, idx_2 t, cOf_val]
theorem blk_cs (c : Dev nD) (t : Fin cfg0.N) (e : Fin 1024) :
    iblk (F := Ideal) m c 3 t (ix2 (0 : Fin 1) e) = csAt (qA m c) (kA m c) (cOf t e) := by
  refine Eq.trans ?_ (V_cs m c (cOf t e))
  blk_ext [iblk, idx_3 t, cOf_val]
theorem blk_cos (c : Dev nD) (t : Fin cfg0.N) (s : Fin 2048) (d : Fin 128) :
    iblk (F := Ideal) m c 4 t (ix2 s d) = Ideal.cos (ang s ⟨d.val % 64, by omega⟩) := by
  refine Eq.trans ?_ (V_cos m c s d)
  blk_ext [iblk, idx_4 t]
theorem blk_sin (c : Dev nD) (t : Fin cfg0.N) (s : Fin 2048) (d : Fin 128) :
    iblk (F := Ideal) m c 5 t (ix2 s d) = if d.val < 64 then - Ideal.sin (ang s ⟨d.val % 64, by omega⟩) else Ideal.sin (ang s ⟨d.val % 64, by omega⟩) := by
  refine Eq.trans ?_ (V_sin m c s d)
  blk_ext [iblk, idx_5 t]
theorem blk_hm (c : Dev nD) (t : Fin cfg0.N) (k p : Fin 256) :
    iblk (F := Ideal) m c 6 t (ix2 k p) = if k.val / 128 = p.val / 128 then Ideal.ofBits FTy.f32 1006632960#32 else 0 := by
  refine Eq.trans ?_ ((congrFun (V_hm m c) (ix2 k p)).trans (hM_at k p))
  blk_ext [iblk, idx_6 t]

/-- The point whose block holds head `h` of batch `b`. -/
def ptOf (b : Fin 8) (h : Fin 64) : Fin cfg0.N := ⟨8 * b.val + h.val / 8, by have : cfg0.N = 64 := N_0; omega⟩
theorem ptOf_val (b : Fin 8) (h : Fin 64) : (ptOf b h).val = 8 * b.val + h.val / 8 := rfl

/-- The projected block at a point, by heads. -/
theorem dot_at (c : Dev nD) (b : Fin 8) (h : Fin 64) (s : Fin 2048) (d : Fin 128) (q : Fin 1024) (hq : q.val = 128 * (h.val % 8) + d.val) :
    k0_pay1 (F := Ideal) (iblk (F := Ideal) m c 0 (ptOf b h)) (iblk (F := Ideal) m c 2 (ptOf b h)) (ix2 s q) = acc (rowA m c b s) (wtA m c) h d := by
  have hb : bOf (ptOf b h) = b := Fin.ext (by show (8 * b.val + h.val / 8) / 8 = b.val; omega)
  have hc : cOf (ptOf b h) q = cx h d :=
    Fin.ext (by show ((8 * b.val + h.val / 8) % 8) * 1024 + q.val = h.val * 128 + d.val; omega)
  unfold k0_pay1
  pointwise
  unfold acc
  refine Finset.sum_congr rfl fun e _ => ?_
  rw [blk_w, blk_x, hc, hb]

theorem cs_at (c : Dev nD) (b : Fin 8) (h : Fin 64) (d : Fin 128) :
    iblk (F := Ideal) m c 3 (ptOf b h) (ix2 (0 : Fin 1) (col (⟨h.val % 8, by omega⟩ : Fin 8) d))
      = if h.val < 16 then gainA (qA m c) d * kq else if h.val < 32 then gainA (kA m c) d else 1 := by
  have hc : cOf (ptOf b h) (col (⟨h.val % 8, by omega⟩ : Fin 8) d) = cx h d :=
    Fin.ext (by show ((8 * b.val + h.val / 8) % 8) * 1024 + (128 * (h.val % 8) + d.val) = h.val * 128 + d.val; omega)
  rw [blk_cs, hc]
  unfold csAt gainA
  have e0 : (⟨(cx h d).val % 128, by omega⟩ : Fin 128) = d := Fin.ext (by show (cx h d).val % 128 = d.val; rw [cx_val]; omega)
  rw [e0]
  have h1 : ((cx h d).val < 2048) = (h.val < 16) := propext (by rw [cx_val]; omega)
  have h2 : ((cx h d).val < 4096) = (h.val < 32) := propext (by rw [cx_val]; omega)
  simp only [h1, h2]

/-- A head's entry of the block, normalised. -/
theorem yAt_at (c : Dev nD) (b : Fin 8) (h : Fin 64) (s : Fin 2048) (d : Fin 128) (G : Fin 128 → EReal)
    (hG : ∀ d, iblk (F := Ideal) m c 3 (ptOf b h) (ix2 (0 : Fin 1) (col (⟨h.val % 8, by omega⟩ : Fin 8) d)) = G d) :
    yAt (k0_pay1 (F := Ideal) (iblk (F := Ideal) m c 0 (ptOf b h)) (iblk (F := Ideal) m c 2 (ptOf b h))) (iblk (F := Ideal) m c 6 (ptOf b h)) (iblk (F := Ideal) m c 3 (ptOf b h)) s (⟨h.val % 8, by omega⟩ : Fin 8) d
      = rn (acc (rowA m c b s) (wtA m c) h) G d := by
  have key := dot_at m c b h s
  have hh := blk_hm m c (ptOf b h)
  unfold yAt rn
  rw [hG, key d _ (col_val _ _)]
  generalize k0_pay1 (F := Ideal) _ _ = A at key ⊢
  refine congrArg (fun z => _ * Ideal.rsqrt (z + _) * _) ?_
  rw [← head_mean (fun x => A (ix2 s (slab (⟨h.val % 8, by omega⟩ : Fin 8) x)) * A (ix2 s (slab (⟨h.val % 8, by omega⟩ : Fin 8) x))) (acc (rowA m c b s) (wtA m c) h) (h.val % 8 % 2) (by omega)
    (fun x => congrArg₂ (· * ·) (key x _ (by show 256 * (h.val % 8 / 2) + (128 * (h.val % 8 % 2) + x.val) = 128 * (h.val % 8) + x.val; omega)) (key x _ (by show 256 * (h.val % 8 / 2) + (128 * (h.val % 8 % 2) + x.val) = 128 * (h.val % 8) + x.val; omega)))]
  refine Finset.sum_congr rfl fun x _ => ?_
  rw [hh]
  have hp : (hcol (⟨h.val % 8, by omega⟩ : Fin 8) d).val / 128 = h.val % 8 % 2 := by show (128 * (h.val % 8 % 2) + d.val) / 128 = h.val % 8 % 2; omega
  rw [hp]

/-- The block of a point of queries or keys. -/
theorem rope_at (c : Dev nD) (b : Fin 8) (h : Fin 64) (s : Fin 2048) (d : Fin 128) (G : Fin 128 → EReal)
    (hG : ∀ d, iblk (F := Ideal) m c 3 (ptOf b h) (ix2 (0 : Fin 1) (col (⟨h.val % 8, by omega⟩ : Fin 8) d)) = G d) :
    ropeBlk (iblk (F := Ideal) m c 0 (ptOf b h)) (iblk (F := Ideal) m c 2 (ptOf b h)) (iblk (F := Ideal) m c 3 (ptOf b h)) (iblk (F := Ideal) m c 4 (ptOf b h)) (iblk (F := Ideal) m c 5 (ptOf b h)) (iblk (F := Ideal) m c 6 (ptOf b h))
        (ix4 (0 : Fin 1) (⟨h.val % 8, by omega⟩ : Fin 8) s d) = turn (rn (acc (rowA m c b s) (wtA m c) h) G) s d := by
  refine Eq.trans ?_ (turn_rot _ s d (rot d) rfl)
  exact congrArg₂ (· + ·) (congrArg₂ (· * ·) (yAt_at m c b h s d G hG) (blk_cos m c _ s d)) (congrArg₂ (· * ·) (yAt_at m c b h s (rot d) G hG) (blk_sin m c _ s d))

/-- The array the launch leaves. -/
theorem arr_at (c : Dev nD) (b : Fin 8) (h : Fin 64) (s : Fin 2048) (d : Fin 128) :
    ((dats (F := Ideal) m 0 c).arrAt 7 cfg0.N : Vec Ideal S8x64x2048x128 .bf16) (ix4 b h s d) = dproj (rowA m c b s) (wtA m c) (gainA (qA m c)) (gainA (kA m c)) h s d := by
  have e := congrFun (Value.blocks7 (F := Ideal) m c (ptOf b h) (flush0_7 _)) (ix4 (0 : Fin 1) (⟨h.val % 8, by omega⟩ : Fin 8) s d)
  have hi : ((cfg0.win 7).blk (ptOf b h)).view.emb (ix4 (0 : Fin 1) (⟨h.val % 8, by omega⟩ : Fin 8) s d) = ix4 b h s d := by
    have e0 : win0_7.index (ptOf b h) = ![(ptOf b h).val / 8, (ptOf b h).val % 8, 0, 0] := idx_7 _
    funext a; apply Fin.ext
    match a with
    | ⟨0, _⟩ => show win0_7.index (ptOf b h) (0 : Fin 4) * 1 + 1 * 0 = b.val; rw [e0]; show (8 * b.val + h.val / 8) / 8 * 1 + 1 * 0 = b.val; omega
    | ⟨1, _⟩ => show win0_7.index (ptOf b h) (1 : Fin 4) * 8 + 1 * (h.val % 8) = h.val; rw [e0]; show (8 * b.val + h.val / 8) % 8 * 8 + 1 * (h.val % 8) = h.val; omega
    | ⟨2, _⟩ => show win0_7.index (ptOf b h) (2 : Fin 4) * 2048 + 1 * s.val = s.val; rw [e0]; show 0 * 2048 + 1 * s.val = s.val; omega
    | ⟨3, _⟩ => show win0_7.index (ptOf b h) (3 : Fin 4) * 128 + 1 * d.val = d.val; rw [e0]; show 0 * 128 + 1 * d.val = d.val; omega
  have hv : (ptOf b h).val % 8 = h.val / 8 := by show (8 * b.val + h.val / 8) % 8 = h.val / 8; omega
  refine ((congrArg ((dats (F := Ideal) m 0 c).arrAt 7 cfg0.N) hi).symm.trans e).trans ?_
  clear e hi
  unfold dproj
  by_cases h1 : h.val < 32
  · rw [Value.flushed7_A m c (ptOf b h) (by omega) (by omega), out_A]
    refine (rope_at m c b h s d _ (cs_at m c b h)).trans ?_
    by_cases h2 : h.val < 16
    · simp only [if_pos h2]
      rw [rn_scale, turn_scale _ _ kq_nonneg kq_ne_top]
    · simp only [if_neg h2, if_pos h1]
  · rw [Value.flushed7_B m c (ptOf b h) (by omega) (by omega), out_B]
    rw [if_neg (show ¬h.val < 16 by omega), if_neg h1]
    refine (congrArg₂ (· * ·) (dot_at m c b h s d _ (col_val _ _)) (cs_at m c b h d)).trans ?_
    rw [if_neg (show ¬h.val < 16 by omega), if_neg h1]
    exact mul_one (M := EReal) _

end Cert.KernelDfInIdeal.Own
-- ==== Proof.DfIn.Ref.lean ====
/- The differential layer's input projection's reference, at an index. -/
module

public import proofs.«01_k».proof.Proof.Gen.ReferenceDfInIdeal.Read
public import proofs.«01_k».proof.Proof.DfIn.Spec

@[expose] public section

set_option maxRecDepth 16384

noncomputable section

namespace Cert.ReferenceDfInIdeal.Own

open Cert.ReferenceDfInIdeal Cert.ReferenceDfInIdeal.Gen Cert.ReferenceDfInIdeal.Read Cert.InProj Cert.DfInProj
open Idealize.ShloMosaic Idealize.ShloMosaic.TcCoe

variable (x : Vec Ideal S8x2048x1024 .f32) (w : Vec Ideal S2x1024x8192 .f32) (gq gk : Vec Ideal S2x128 .f32)

theorem cos_at (s : Fin 2048) (d : Fin 64) : val_main_v17 (F := Ideal) (ix2 s d) = Ideal.cos (ang s d) := by
  unfold val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3 ang
  pointwise
theorem sin_at (s : Fin 2048) (d : Fin 64) : val_main_v18 (F := Ideal) (ix2 s d) = Ideal.sin (ang s d) := by
  unfold val_main_v18 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3 ang
  pointwise

/-- Row `s` of batch `b`, and the weights' first layer. -/
def row (b : Fin 8) (s : Fin 2048) (e : Fin 1024) : EReal := x (ix3 b s e)
def wt (k : Fin 1024) (e : Fin 8192) : EReal := w (ix3 (0 : Fin 2) k e)
/-- A gain's first layer. -/
def gain (g : Vec Ideal S2x128 .f32) (d : Fin 128) : EReal := g (ix2 (0 : Fin 2) d)

theorem dot_at (b : Fin 8) (s : Fin 2048) (h : Fin 64) (d : Fin 128) (q : Fin 8192) (hq : q.val = h.val * 128 + d.val) :
    val_main_v21 (F := Ideal) x w (ix3 b s q) = acc (row x b s) (wt w) h d := by
  have e : q = cx h d := Fin.ext hq
  subst e
  unfold val_main_v21 val_main_v20 val_main_v19 acc row wt
  pointwise

/-- The queries, normalised. -/
theorem q_at (b : Fin 8) (h : Fin 16) (s : Fin 2048) (d : Fin 128) : val_main_v42 (F := Ideal) x w gq (ix4 b h s d)
    = rn (acc (row x b s) (wt w) ⟨h.val, by omega⟩) (gain gq) d := by
  have key (d : Fin 128) (q : Fin 8192) (hq : q.val = (h.val) * 128 + d.val) := dot_at x w b s ⟨h.val, by omega⟩ d q hq
  unfold val_main_v42 val_main_v41 val_main_v40 val_main_v39 val_main_v38 val_main_v37 val_main_v36 val_main_v35 val_main_v34 val_main_v33 val_main_v32 val_main_v31 val_main_v30 val_main_v29 val_main_v28 val_main_v27 val_main_v26 val_main_v22 val_main_cst_4 val_main_cst_5 val_main_cst_6
  generalize val_main_v21 (F := Ideal) x w = P at key ⊢
  pointwise
  unfold rn
  refine congrArg₂ (· * ·) (congrArg₂ (· * ·) (key d _ ?_) (congrArg (fun z => Ideal.rsqrt (Ideal.div z _ + _)) (Finset.sum_congr rfl fun e _ => congrArg₂ (· * ·) (key e _ ?_) (key e _ ?_)))) rfl <;> dsimp only <;> omega

/-- The queries, normalised and turned. -/
theorem qt_at (b : Fin 8) (h : Fin 16) (s : Fin 2048) (d : Fin 128) : val_main_v59 (F := Ideal) x w gq (ix4 b h s d)
    = turn (rn (acc (row x b s) (wt w) ⟨h.val, by omega⟩) (gain gq)) s d := by
  have key (d : Fin 128) := q_at x w gq b h s d
  have hc := cos_at s
  have hs := sin_at s
  unfold val_main_v59 val_main_v58 val_main_v57 val_main_v56 val_main_v55 val_main_v54 val_main_v53 val_main_v52 val_main_v51 val_main_v50 val_main_v49 val_main_v48 val_main_v47 val_main_v46 val_main_v45 val_main_v44 val_main_v43
  generalize val_main_v42 (F := Ideal) x w gq = Y at key ⊢
  generalize val_main_v17 (F := Ideal) = C at hc ⊢
  generalize val_main_v18 (F := Ideal) = D at hs ⊢
  generalize rn _ _ = r at key ⊢
  pointwise
  unfold turn
  by_cases hd : d.val < 64
  · rw [dif_pos hd, dif_pos hd, key, key, hc, hs]
    refine congrArg (fun z => _ - r z * _) (Fin.ext ?_)
    dsimp only; omega
  · rw [dif_neg hd, dif_neg hd, key, key, hc, hs]
    refine congrArg (fun z => r z * _ + _) (Fin.ext ?_)
    dsimp only; omega

/-- The keys, normalised. -/
theorem k_at (b : Fin 8) (h : Fin 16) (s : Fin 2048) (d : Fin 128) : val_main_v80 (F := Ideal) x w gk (ix4 b h s d)
    = rn (acc (row x b s) (wt w) ⟨16 + h.val, by omega⟩) (gain gk) d := by
  have key (d : Fin 128) (q : Fin 8192) (hq : q.val = (16 + h.val) * 128 + d.val) := dot_at x w b s ⟨16 + h.val, by omega⟩ d q hq
  unfold val_main_v80 val_main_v79 val_main_v78 val_main_v77 val_main_v76 val_main_v75 val_main_v74 val_main_v73 val_main_v72 val_main_v71 val_main_v70 val_main_v69 val_main_v68 val_main_v67 val_main_v66 val_main_v65 val_main_v64 val_main_v23 val_main_cst_9 val_main_cst_10 val_main_cst_11
  generalize val_main_v21 (F := Ideal) x w = P at key ⊢
  pointwise
  unfold rn
  refine congrArg₂ (· * ·) (congrArg₂ (· * ·) (key d _ ?_) (congrArg (fun z => Ideal.rsqrt (Ideal.div z _ + _)) (Finset.sum_congr rfl fun e _ => congrArg₂ (· * ·) (key e _ ?_) (key e _ ?_)))) rfl <;> dsimp only <;> omega

/-- The keys, normalised and turned. -/
theorem kt_at (b : Fin 8) (h : Fin 16) (s : Fin 2048) (d : Fin 128) : val_main_v97 (F := Ideal) x w gk (ix4 b h s d)
    = turn (rn (acc (row x b s) (wt w) ⟨16 + h.val, by omega⟩) (gain gk)) s d := by
  have key (d : Fin 128) := k_at x w gk b h s d
  have hc := cos_at s
  have hs := sin_at s
  unfold val_main_v97 val_main_v96 val_main_v95 val_main_v94 val_main_v93 val_main_v92 val_main_v91 val_main_v90 val_main_v89 val_main_v88 val_main_v87 val_main_v86 val_main_v85 val_main_v84 val_main_v83 val_main_v82 val_main_v81
  generalize val_main_v80 (F := Ideal) x w gk = Y at key ⊢
  generalize val_main_v17 (F := Ideal) = C at hc ⊢
  generalize val_main_v18 (F := Ideal) = D at hs ⊢
  generalize rn _ _ = r at key ⊢
  pointwise
  unfold turn
  by_cases hd : d.val < 64
  · rw [dif_pos hd, dif_pos hd, key, key, hc, hs]
    refine congrArg (fun z => _ - r z * _) (Fin.ext ?_)
    dsimp only; omega
  · rw [dif_neg hd, dif_neg hd, key, key, hc, hs]
    refine congrArg (fun z => r z * _ + _) (Fin.ext ?_)
    dsimp only; omega

theorem ref_at (b : Fin 8) (h : Fin 64) (s : Fin 2048) (d : Fin 128) : val_main_v103 (F := Ideal) x w gq gk (ix4 b h s d)
    = dproj (row x b s) (wt w) (gain gq) (gain gk) h s d := by
  have key (q : Fin 8192) (hq : q.val = h.val * 128 + d.val) := dot_at x w b s h d q hq
  have hy (k : Fin 16) := qt_at x w gq b k s d
  have hk (k : Fin 16) := kt_at x w gk b k s d
  unfold val_main_v103 val_main_v102 val_main_v101 val_main_v100 val_main_v99 val_main_v98 val_main_v63 val_main_v62 val_main_v61 val_main_v60 val_main_cst_7 val_main_cst_8 val_main_v24 val_main_v25
  generalize val_main_v59 (F := Ideal) x w gq = Y at hy ⊢
  generalize val_main_v97 (F := Ideal) x w gk = Z at hk ⊢
  generalize val_main_v21 (F := Ideal) x w = P at key ⊢
  pointwise
  unfold dproj
  by_cases h1 : h.val < 16
  · rw [dif_pos h1, if_pos h1, hy]; rfl
  · rw [dif_neg h1, if_neg h1]
    by_cases h2 : h.val < 32
    · rw [dif_pos (show h.val - 16 < 16 by omega), if_pos h2, hk]
      refine congrArg (fun z => turn (rn (acc _ _ z) _) s d) (Fin.ext ?_)
      dsimp only; omega
    · rw [dif_neg (show ¬h.val - 16 < 16 by omega), if_neg h2]
      split_ifs <;> exact key _ (by dsimp only; omega)

end Cert.ReferenceDfInIdeal.Own
-- ==== Proof.OutN.Body.lean ====
/- The output projection that leaves the next norm's body: what one block of rows is left at. -/
module

public import proofs.«01_k».proof.Proof.Gen.KernelOutNIdeal.Value
public import Idealize.ShloMosaic.Lib.Pointwise
public import Idealize.ShloMosaic.Lib.Pipeline.ValueKit

@[expose] public section

set_option maxRecDepth 16384

noncomputable section

namespace Cert.KernelOutNIdeal.Own

open Cert.KernelOutNIdeal Cert.KernelOutNIdeal.Gen
open Idealize.ShloMosaic Idealize.ShloMosaic.TcCoe

variable {F : FTy → Type} [FloatOps F] [Named F]

theorem hz : (![0, 0] : Fin 2 → ℕ) = fun _ => 0 := funext fun a => by fin_cases a <;> rfl
theorem hz3 : (![0, 0, 0] : Fin 3 → ℕ) = fun _ => 0 := funext fun a => by fin_cases a <;> rfl

/-- One head's rows of a block, read off the block. -/
def slab (x : Vec F S1x16x1024x128 .bf16) (k : Fin 16) : Vec F S1x1x1024x128 .bf16 := fun j => x (ix4 0 k (j 2) (j 3))

/-- A load of one head's rows reads them. -/
theorem ld_slab (x : Vec F S1x16x1024x128 .bf16) (k : ℕ) (hk : k < 16) (inb) :
    View.ld x (Rect.unit (s := S1x16x1024x128) ![0, k, 0, 0] ![1, 1, 1024, 128] inb) = slab x ⟨k, hk⟩ := by
  funext j
  refine View.ld_unit_apply_of x _ _ inb j _ fun a => ?_
  have h0 : (j 0).val < 1 := (j 0).isLt
  have h1 : (j 1).val < 1 := (j 1).isLt
  fin_cases a <;> simp [ix4] <;> omega

/-- The sixteen heads' rows side by side. -/
def wide (x : Vec F S1x16x1024x128 .bf16) : FVec F S1024x2048 .bf16 := fun j => x (ix4 0 ⟨(j 1).val / 128, by have : (j 1).val < 2048 := (j 1).isLt; omega⟩ (j 0) ⟨(j 1).val % 128, by omega⟩)

/-- The projected rows and the residual. -/
def rows (x : Vec F S1x16x1024x128 .bf16) (w : Vec F S2048x1024 .bf16) (h : Vec F S1024x1024 .f32) : Vec F S1024x1024 .f32 :=
  addf h (matmul dot_S1024x2048_S2048x1024_S1024x1024_1_0_0_1_n_n none (wide x) w (constant S1024x1024 .f32 0x00000000#32))

/-- The body's last payload, of the loads. -/
def last (x : Vec F S1x16x1024x128 .bf16) (w : Vec F S2048x1024 .bf16) (h : Vec F S1024x1024 .f32) : Vec F S1024x1024 .f32 :=
  k0_pay11 (k0_pay3 (slab x 0)) (k0_pay4 (slab x 1)) (k0_pay5 (slab x 2)) (k0_pay6 (slab x 3)) (k0_pay7 (slab x 4)) (k0_pay8 (slab x 5)) (k0_pay9 (slab x 6)) (k0_pay10 (slab x 7))
    (slab x 8) (slab x 9) (slab x 10) (slab x 11) (slab x 12) (slab x 13) (slab x 14) (slab x 15) h w

theorem last_eq (x : Vec F S1x16x1024x128 .bf16) (w : Vec F S2048x1024 .bf16) (h : Vec F S1024x1024 .f32) : last x w h = rows x w h := by
  unfold last rows k0_pay11 k0_pay3 k0_pay4 k0_pay5 k0_pay6 k0_pay7 k0_pay8 k0_pay9 k0_pay10
  simp only [shapeCast_self]
  congr 2
  funext j
  have hj : (j 1).val < 2048 := (j 1).isLt
  refine (concatenate_ofFn_apply (t := S1024x2048) (s₁ := S1024x128) 1 (fun k : Fin 16 => shapeCast S1024x128 (slab x k) shapeCasts_S1x1x1024x128_S1024x128)
    concatenates_S1024x128_S1024x128_S1024x128_S1024x128_S1024x128_S1024x128_S1024x128_S1024x128_S1024x128_S1024x128_S1024x128_S1024x128_S1024x128_S1024x128_S1024x128_S1024x128_S1024x2048_d1
    rfl 128 rfl j ⟨(j 1).val / 128, by omega⟩ rfl (ix2 (j 0) ⟨(j 1).val % 128, by omega⟩) rfl ?_).trans ?_
  · intro b hb; fin_cases b
    · rfl
    · exact absurd rfl hb
  · pointwise [slab, wide]

theorem out_B (c : Dev nD) (i : grid0.Coords) (a2 : Memref sig .tc .vmem S1x16x1024x128 .bf16) (h2 : a2.IsWhole) (a3 : Memref sig .tc .vmem S1x2048x1024 .f32) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S1024x1024 .bf16) (h7 : a7.IsWhole) (a8 : Memref sig .tc .vmem S2048x1024 .bf16) (h8 : a8.IsWhole) (hc : ¬cond0_0 i)
    (x0 : Vec F S1x16x1024x128 .bf16) (x1 : Vec F S1x2048x1024 .f32) (x2 : Vec F S1024x1024 .f32) (x3 : Vec F S1x1024 .f32) (xs0 : Vec F S2048x1024 .bf16) :
    out0_B_4 c i a2 h2 a3 h3 a4 h4 a5 h5 a6 h6 a7 h7 a8 h8 hc x0 x1 x2 x3 xs0 = rows x0 xs0 x2 := by
  rw [← last_eq]
  unfold out0_B_4
  rw [View.read_writes_eq_canon _ _ _ (cover0_B_4 c i a2 h2 a3 h3 a4 h4 a5 h5 a6 h6 a7 h7 a8 h8 hc x0 x1 x2 x3 xs0)]
  unfold kernelRun0_B
  dsimp only
  sl_unfold_words
  rw [View.canon_unit_zero (S := S1024x1024) hz]
  simp only [View.readAt_eq_ld, h2.read_unread, h4.read_unread, h8.read_unread, View.ld_unit_zero (S := S1024x1024) hz, View.ld_unit_zero (S := S2048x1024) hz]
  rw [ld_slab x0 0 (by decide), ld_slab x0 1 (by decide), ld_slab x0 2 (by decide), ld_slab x0 3 (by decide), ld_slab x0 4 (by decide), ld_slab x0 5 (by decide), ld_slab x0 6 (by decide), ld_slab x0 7 (by decide),
    ld_slab x0 8 (by decide), ld_slab x0 9 (by decide), ld_slab x0 10 (by decide), ld_slab x0 11 (by decide), ld_slab x0 12 (by decide), ld_slab x0 13 (by decide), ld_slab x0 14 (by decide), ld_slab x0 15 (by decide)]
  rfl

/-- The weights as the first point leaves them for the others. -/
theorem sout_A (c : Dev nD) (i : grid0.Coords) (a2 : Memref sig .tc .vmem S1x16x1024x128 .bf16) (h2 : a2.IsWhole) (a3 : Memref sig .tc .vmem S1x2048x1024 .f32) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S1024x1024 .bf16) (h7 : a7.IsWhole) (a8 : Memref sig .tc .vmem S2048x1024 .bf16) (h8 : a8.IsWhole) (hc : cond0_0 i)
    (x0 : Vec F S1x16x1024x128 .bf16) (x1 : Vec F S1x2048x1024 .f32) (x2 : Vec F S1024x1024 .f32) (x3 : Vec F S1x1024 .f32) :
    sout0_A_0 c i a2 h2 a3 h3 a4 h4 a5 h5 a6 h6 a7 h7 a8 h8 hc x0 x1 x2 x3 = k0_pay2 x1 := by
  unfold sout0_A_0
  rw [View.read_writes_eq_canon _ _ _ (scover0_A_0 c i a2 h2 a3 h3 a4 h4 a5 h5 a6 h6 a7 h7 a8 h8 hc x0 x1 x2 x3)]
  unfold kernelRun0_A
  dsimp only
  sl_unfold_words
  rw [View.canon_unit_zero (S := S2048x1024) hz]
  simp only [View.readAt_eq_ld, h3.read_unread, View.ld_unit_zero (S := S1x2048x1024) hz3]

theorem out_A (c : Dev nD) (i : grid0.Coords) (a2 : Memref sig .tc .vmem S1x16x1024x128 .bf16) (h2 : a2.IsWhole) (a3 : Memref sig .tc .vmem S1x2048x1024 .f32) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S1024x1024 .bf16) (h7 : a7.IsWhole) (a8 : Memref sig .tc .vmem S2048x1024 .bf16) (h8 : a8.IsWhole) (hc : cond0_0 i)
    (x0 : Vec F S1x16x1024x128 .bf16) (x1 : Vec F S1x2048x1024 .f32) (x2 : Vec F S1024x1024 .f32) (x3 : Vec F S1x1024 .f32) :
    out0_A_4 c i a2 h2 a3 h3 a4 h4 a5 h5 a6 h6 a7 h7 a8 h8 hc x0 x1 x2 x3 = rows x0 (k0_pay2 x1) x2 := by
  rw [← last_eq]
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [View.canon_unit_zero (S := S1024x1024) hz, View.readCov_unit_zero (S := S2048x1024) _ hz]
  simp only [View.readAt_eq_ld, h2.read_unread, h3.read_unread, h4.read_unread, View.ld_unit_zero (S := S1024x1024) hz, View.ld_unit_zero (S := S1x2048x1024) hz3]
  rw [ld_slab x0 0 (by decide), ld_slab x0 1 (by decide), ld_slab x0 2 (by decide), ld_slab x0 3 (by decide), ld_slab x0 4 (by decide), ld_slab x0 5 (by decide), ld_slab x0 6 (by decide), ld_slab x0 7 (by decide),
    ld_slab x0 8 (by decide), ld_slab x0 9 (by decide), ld_slab x0 10 (by decide), ld_slab x0 11 (by decide), ld_slab x0 12 (by decide), ld_slab x0 13 (by decide), ld_slab x0 14 (by decide), ld_slab x0 15 (by decide)]
  rfl

/-- The rows' norm, of the rows. -/
theorem outn_B (c : Dev nD) (i : grid0.Coords) (a2 : Memref sig .tc .vmem S1x16x1024x128 .bf16) (h2 : a2.IsWhole) (a3 : Memref sig .tc .vmem S1x2048x1024 .f32) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S1024x1024 .bf16) (h7 : a7.IsWhole) (a8 : Memref sig .tc .vmem S2048x1024 .bf16) (h8 : a8.IsWhole) (hc : ¬cond0_0 i)
    (x0 : Vec F S1x16x1024x128 .bf16) (x1 : Vec F S1x2048x1024 .f32) (x2 : Vec F S1024x1024 .f32) (x3 : Vec F S1x1024 .f32) (xs0 : Vec F S2048x1024 .bf16) :
    out0_B_5 c i a2 h2 a3 h3 a4 h4 a5 h5 a6 h6 a7 h7 a8 h8 hc x0 x1 x2 x3 xs0 = k0_pay1 (rows x0 xs0 x2) x3 := by
  rw [← last_eq]
  unfold out0_B_5
  rw [View.read_writes_eq_canon _ _ _ (cover0_B_5 c i a2 h2 a3 h3 a4 h4 a5 h5 a6 h6 a7 h7 a8 h8 hc x0 x1 x2 x3 xs0)]
  unfold kernelRun0_B
  dsimp only
  sl_unfold_words
  rw [View.canon_unit_zero (S := S1024x1024) hz]
  simp only [View.readAt_eq_ld, h2.read_unread, h5.read_unread, View.ld_unit_zero (S := S1x1024) hz, h4.read_unread, h8.read_unread, View.ld_unit_zero (S := S1024x1024) hz, View.ld_unit_zero (S := S2048x1024) hz]
  rw [ld_slab x0 0 (by decide), ld_slab x0 1 (by decide), ld_slab x0 2 (by decide), ld_slab x0 3 (by decide), ld_slab x0 4 (by decide), ld_slab x0 5 (by decide), ld_slab x0 6 (by decide), ld_slab x0 7 (by decide),
    ld_slab x0 8 (by decide), ld_slab x0 9 (by decide), ld_slab x0 10 (by decide), ld_slab x0 11 (by decide), ld_slab x0 12 (by decide), ld_slab x0 13 (by decide), ld_slab x0 14 (by decide), ld_slab x0 15 (by decide)]
  rfl

theorem outn_A (c : Dev nD) (i : grid0.Coords) (a2 : Memref sig .tc .vmem S1x16x1024x128 .bf16) (h2 : a2.IsWhole) (a3 : Memref sig .tc .vmem S1x2048x1024 .f32) (h3 : a3.IsWhole)
    (a4 : Memref sig .tc .vmem S1024x1024 .f32) (h4 : a4.IsWhole) (a5 : Memref sig .tc .vmem S1x1024 .f32) (h5 : a5.IsWhole) (a6 : Memref sig .tc .vmem S1024x1024 .f32) (h6 : a6.IsWhole)
    (a7 : Memref sig .tc .vmem S1024x1024 .bf16) (h7 : a7.IsWhole) (a8 : Memref sig .tc .vmem S2048x1024 .bf16) (h8 : a8.IsWhole) (hc : cond0_0 i)
    (x0 : Vec F S1x16x1024x128 .bf16) (x1 : Vec F S1x2048x1024 .f32) (x2 : Vec F S1024x1024 .f32) (x3 : Vec F S1x1024 .f32) :
    out0_A_5 c i a2 h2 a3 h3 a4 h4 a5 h5 a6 h6 a7 h7 a8 h8 hc x0 x1 x2 x3 = k0_pay1 (rows x0 (k0_pay2 x1) x2) x3 := by
  rw [← last_eq]
  unfold out0_A_5
  rw [View.read_writes_eq_canon _ _ _ (cover0_A_5 c i a2 h2 a3 h3 a4 h4 a5 h5 a6 h6 a7 h7 a8 h8 hc x0 x1 x2 x3)]
  unfold kernelRun0_A
  dsimp only
  sl_unfold_words
  rw [View.canon_unit_zero (S := S1024x1024) hz, View.readCov_unit_zero (S := S2048x1024) _ hz]
  simp only [View.readAt_eq_ld, h2.read_unread, h5.read_unread, View.ld_unit_zero (S := S1x1024) hz, h3.read_unread, h4.read_unread, View.ld_unit_zero (S := S1024x1024) hz, View.ld_unit_zero (S := S1x2048x1024) hz3]
  rw [ld_slab x0 0 (by decide), ld_slab x0 1 (by decide), ld_slab x0 2 (by decide), ld_slab x0 3 (by decide), ld_slab x0 4 (by decide), ld_slab x0 5 (by decide), ld_slab x0 6 (by decide), ld_slab x0 7 (by decide),
    ld_slab x0 8 (by decide), ld_slab x0 9 (by decide), ld_slab x0 10 (by decide), ld_slab x0 11 (by decide), ld_slab x0 12 (by decide), ld_slab x0 13 (by decide), ld_slab x0 14 (by decide), ld_slab x0 15 (by decide)]
  rfl

end Cert.KernelOutNIdeal.Own
-- ==== Proof.OutN.Launch.lean ====
/- The launch of the output projection that leaves the next norm: the arrays it leaves, at an index, over the arguments. -/
module

public import proofs.«01_k».proof.Proof.OutN.Body
public import proofs.«01_k».proof.Proof.In.Spec
public import Idealize.ShloMosaic.Lib.StableHlo.RunRead
public import Idealize.ShloMosaic.Lib.Pipeline.Covers

@[expose] public section

set_option maxRecDepth 16384

noncomputable section

namespace Cert.KernelOutNIdeal.Own

open Cert.KernelOutNIdeal Cert.KernelOutNIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The arguments on core `c`: the residual, the attention's output, the weights, the next norm's weights. -/
def hA (c : Dev nD) : Vec Ideal S8x2048x1024 .f32 := m ((c : Thread nD τ).loc main_arg0)
def yA (c : Dev nD) : Vec Ideal S8x2048x2048 .f32 := m ((c : Thread nD τ).loc main_arg1)
def wA (c : Dev nD) : Vec Ideal S2x2048x1024 .f32 := m ((c : Thread nD τ).loc main_arg2)
def gA (c : Dev nD) : Vec Ideal S2x1024 .f32 := m ((c : Thread nD τ).loc main_arg3)

/-- Batch and position of row `r` of all 16384. -/
def bt (r : Fin 16384) : Fin 8 := ⟨r.val / 2048, by omega⟩
def ps (r : Fin 16384) : Fin 2048 := ⟨r.val % 2048, by omega⟩
theorem bt_val (r : Fin 16384) : (bt r).val = r.val / 2048 := rfl
theorem ps_val (r : Fin 16384) : (ps r).val = r.val % 2048 := rfl

/-- The residual plus the projection, at row `r` and column `d`. -/
def proj (h : Vec Ideal S8x2048x1024 .f32) (y : Vec Ideal S8x2048x2048 .f32) (w : Vec Ideal S2x2048x1024 .f32) (b : Fin 8) (s : Fin 2048) (d : Fin 1024) : EReal :=
  h (ix3 b s d) + ∑ e : Fin 2048, y (ix3 b s e) * w (ix3 (0 : Fin 2) e d)

/-- Head `k` and lane `l` of column `e`. -/
def hdOf (e : Fin 2048) : Fin 16 := ⟨e.val / 128, by omega⟩
def lnOf (e : Fin 2048) : Fin 128 := ⟨e.val % 128, by omega⟩

theorem rows_at (x : Vec Ideal S1x16x1024x128 .bf16) (w : Vec Ideal S2048x1024 .bf16) (h : Vec Ideal S1024x1024 .f32) (r d : Fin 1024) :
    rows (F := Ideal) x w h (ix2 r d) = h (ix2 r d) + ∑ e : Fin 2048, x (ix4 (0 : Fin 1) (hdOf e) r (lnOf e)) * w (ix2 e d) := by
  unfold rows wide
  pointwise
  rfl

theorem idx_0 : ∀ t : Fin cfg0.N, win0_0.index t = ![t.val / 2, 0, t.val % 2, 0] := by decide +kernel
theorem idx_1 : ∀ t : Fin cfg0.N, win0_1.index t = ![0, 0, 0] := by decide +kernel
theorem idx_2 : ∀ t : Fin cfg0.N, win0_2.index t = ![t.val, 0] := by decide +kernel

theorem idx_3 : ∀ t : Fin cfg0.N, win0_3.index t = ![0, 0] := by decide +kernel

theorem V_y (c : Dev nD) (b : Fin 8) (h : Fin 16) (s : Fin 2048) (l : Fin 128) :
    (V (F := Ideal) m c main_v2 : Vec Ideal S8x16x2048x128 .bf16) (ix4 b h s l) = yA m c (ix3 b s ⟨h.val * 128 + l.val, by omega⟩) := by
  unfold V yA hostOps0
  after_reads_simp
  pointwise
theorem V_h (c : Dev nD) (r : Fin 16384) (d : Fin 1024) :
    (V (F := Ideal) m c main_v3 : Vec Ideal S16384x1024 .f32) (ix2 r d) = hA m c (ix3 (bt r) (ps r) d) := by
  unfold V hA hostOps0
  after_reads_simp
  pointwise
  rfl
theorem V_g (c : Dev nD) (r : Fin 1) (e : Fin 1024) :
    (V (F := Ideal) m c main_v6 : Vec Ideal S1x1024 .f32) (ix2 r e) = gA m c (ix2 (0 : Fin 2) e) := by
  unfold V gA hostOps0
  after_reads_simp
  pointwise
theorem V_w (c : Dev nD) : (V (F := Ideal) m c main_arg2 : Vec Ideal S2x2048x1024 .f32) = wA m c := by
  unfold V wA hostOps0
  after_reads_simp

/-- Row `r` of the block of point `t`. -/
def rowOf (t : Fin cfg0.N) (r : Fin 1024) : Fin 16384 := ⟨t.val * 1024 + r.val, by have := t.isLt; have : cfg0.N = 16 := N_0; omega⟩

theorem blk_y (c : Dev nD) (t : Fin cfg0.N) (k : Fin 16) (r : Fin 1024) (l : Fin 128) :
    iblk (F := Ideal) m c 0 t (ix4 (0 : Fin 1) k r l) = yA m c (ix3 (bt (rowOf t r)) (ps (rowOf t r)) ⟨k.val * 128 + l.val, by omega⟩) := by
  refine Eq.trans ?_ (V_y m c (bt (rowOf t r)) k (ps (rowOf t r)) l)
  blk_ext [iblk, idx_0 t, bt_val, ps_val, rowOf]
theorem blk_w (c : Dev nD) (t : Fin cfg0.N) (e : Fin 2048) (d : Fin 1024) :
    iblk (F := Ideal) m c 1 t (ix3 (0 : Fin 1) e d) = wA m c (ix3 (0 : Fin 2) e d) := by
  rw [← V_w]
  blk_ext [iblk, idx_1 t]
theorem blk_h (c : Dev nD) (t : Fin cfg0.N) (r d : Fin 1024) :
    iblk (F := Ideal) m c 2 t (ix2 r d) = hA m c (ix3 (bt (rowOf t r)) (ps (rowOf t r)) d) := by
  refine Eq.trans ?_ (V_h m c (rowOf t r) d)
  blk_ext [iblk, idx_2 t, rowOf]

theorem blk_g (c : Dev nD) (t : Fin cfg0.N) (e : Fin 1024) : iblk (F := Ideal) m c 3 t (ix2 (0 : Fin 1) e) = gA m c (ix2 (0 : Fin 2) e) := by
  refine Eq.trans ?_ (V_g m c 0 e)
  blk_ext [iblk, idx_3 t]
theorem norm_at (t : Vec Ideal S1024x1024 .f32) (g : Vec Ideal S1x1024 .f32) (r d : Fin 1024) :
    k0_pay1 (F := Ideal) t g (ix2 r d) = InProj.nrm (fun e => t (ix2 r e)) (fun e => g (ix2 (0 : Fin 1) e)) d := by
  unfold k0_pay1
  pointwise
  rfl

/-- The weights in the scratch. -/
def wb (c : Dev nD) : Vec Ideal S2048x1024 .bf16 := fun j => wA m c (ix3 (0 : Fin 2) (j 0) (j 1))
theorem wb_eq (c : Dev nD) (t : Fin cfg0.N) : k0_pay2 (F := Ideal) (iblk m c 1 t) = wb m c := by
  funext j
  obtain ⟨e, d, rfl⟩ : ∃ e d, j = ix2 e d := ⟨j 0, j 1, eq_ix2 j⟩
  unfold wb k0_pay2
  pointwise
  exact blk_w m c t e d

/-- What the points leave: the block's rows, and the weights in the scratch. -/
theorem fold_eq (c : Dev nD) : ∀ (n : ℕ) (h : 0 + n < cfg0.N),
    Pipeline.accAt (fun n h => Value.stAt0 m c n h Value.junk0) (Value.stAt0 m c) 0 n h
      = (rows (iblk (F := Ideal) m c 0 ⟨n, by omega⟩) (wb m c) (iblk (F := Ideal) m c 2 ⟨n, by omega⟩), k0_pay1 (rows (iblk (F := Ideal) m c 0 ⟨n, by omega⟩) (wb m c) (iblk (F := Ideal) m c 2 ⟨n, by omega⟩)) (iblk (F := Ideal) m c 3 ⟨n, by omega⟩), wb m c) := by
  intro n
  induction n with
  | zero =>
    intro h
    rw [Pipeline.accAt_zero]
    refine (Value.stAt0_A m c ⟨0, h⟩ _ rfl).trans ?_
    rw [out_A, outn_A, sout_A, wb_eq]
  | succ n ih =>
    intro h
    have hN : cfg0.N = 16 := N_0
    rw [Pipeline.accAt_succ, ih]
    have e : (⟨0 + (n + 1), h⟩ : Fin cfg0.N) = ⟨n + 1, by omega⟩ := Fin.ext (Nat.zero_add _)
    refine (Value.stAt0_B m c ⟨0 + (n + 1), h⟩ _ (by show ¬ (0 + (n + 1)) % 16 = 0; omega)).trans ?_
    refine Prod.ext ?_ (Prod.ext ?_ rfl)
    · dsimp only
      rw [out_B, e]
    · dsimp only
      rw [outn_B, e]

/-- The point whose block holds row `r`, and the row's place in it. -/
def ptOf (r : Fin 16384) : Fin cfg0.N := ⟨r.val / 1024, by have : cfg0.N = 16 := N_0; omega⟩
def inOf (r : Fin 16384) : Fin 1024 := ⟨r.val % 1024, by omega⟩
theorem rowOf_inOf (r : Fin 16384) : rowOf (ptOf r) (inOf r) = r := Fin.ext (by show r.val / 1024 * 1024 + r.val % 1024 = r.val; omega)

theorem rows_row (c : Dev nD) (r : Fin 16384) (d : Fin 1024) :
    rows (iblk (F := Ideal) m c 0 (ptOf r)) (wb m c) (iblk (F := Ideal) m c 2 (ptOf r)) (ix2 (inOf r) d) = proj (hA m c) (yA m c) (wA m c) (bt r) (ps r) d := by
  rw [rows_at, blk_h, rowOf_inOf]
  unfold proj
  refine congrArg _ (Finset.sum_congr rfl fun e _ => ?_)
  rw [blk_y, rowOf_inOf]
  refine congrArg₂ (· * ·) (congrArg (fun q => yA m c (ix3 (bt r) (ps r) q)) (Fin.ext ?_)) rfl
  show e.val / 128 * 128 + e.val % 128 = e.val
  omega

/-- The rows the launch leaves. -/
theorem G4_at (c : Dev nD) (r : Fin 16384) (d : Fin 1024) :
    (Value.G4 (F := Ideal) m c : Vec Ideal S16384x1024 .f32) (ix2 r d) = proj (hA m c) (yA m c) (wA m c) (bt r) (ps r) d := by
  have hN : cfg0.N = 16 := N_0
  have hp : Value.pt4Of (ix2 r d) = r.val / 1024 := by
    show 1 * (r.val / 1024 - 0) + 1 * (d.val / 1024 - 0) = r.val / 1024
    omega
  have hl : Value.loc4Of (ix2 r d) = ix2 (inOf r) d := by
    funext a; fin_cases a
    · refine Fin.ext ?_; simp [Value.loc4Of, ix2, inOf]
    · refine Fin.ext ?_; simp [Value.loc4Of, ix2]
  have ht : (⟨Value.pt4Of (ix2 r d), by rw [hp]; omega⟩ : Fin cfg0.N) = ptOf r := Fin.ext hp
  unfold Value.G4
  rw [dif_pos (by rw [hp]; omega), fold_eq, hl, ht]
  exact rows_row m c r d

/-- The rows' norm the launch leaves. -/
theorem G5_at (c : Dev nD) (r : Fin 16384) (d : Fin 1024) :
    (Value.G5 (F := Ideal) m c : Vec Ideal S16384x1024 .bf16) (ix2 r d) = InProj.nrm (fun e => proj (hA m c) (yA m c) (wA m c) (bt r) (ps r) e) (fun e => gA m c (ix2 (0 : Fin 2) e)) d := by
  have hN : cfg0.N = 16 := N_0
  have hp : Value.pt5Of (ix2 r d) = r.val / 1024 := by
    show 1 * (r.val / 1024 - 0) + 1 * (d.val / 1024 - 0) = r.val / 1024
    omega
  have hl : Value.loc5Of (ix2 r d) = ix2 (inOf r) d := by
    funext a; fin_cases a
    · refine Fin.ext ?_; simp [Value.loc5Of, ix2, inOf]
    · refine Fin.ext ?_; simp [Value.loc5Of, ix2]
  have ht : (⟨Value.pt5Of (ix2 r d), by rw [hp]; omega⟩ : Fin cfg0.N) = ptOf r := Fin.ext hp
  unfold Value.G5
  rw [dif_pos (by rw [hp]; omega), fold_eq, hl, ht]
  refine (norm_at _ _ _ _).trans ?_
  simp only [rows_row, blk_g]

end Cert.KernelOutNIdeal.Own
-- ==== Proof.OutN.Ref.lean ====
/- The reference of the output projection that leaves the next norm, at an index, over the arguments. -/
module

public import proofs.«01_k».proof.Proof.Gen.ReferenceOutNIdeal.Read
public import proofs.«01_k».proof.Proof.In.Spec

@[expose] public section

set_option maxRecDepth 16384

noncomputable section

namespace Cert.ReferenceOutNIdeal.Own

open Cert.ReferenceOutNIdeal Cert.ReferenceOutNIdeal.Gen Cert.ReferenceOutNIdeal.Read
open Idealize.ShloMosaic Idealize.ShloMosaic.TcCoe

variable (h : Vec Ideal S8x2048x1024 .f32) (y : Vec Ideal S8x2048x2048 .f32) (w : Vec Ideal S2x2048x1024 .f32) (g : Vec Ideal S2x1024 .f32)

/-- The residual plus the projection. -/
def row (b : Fin 8) (s : Fin 2048) (d : Fin 1024) : EReal := h (ix3 b s d) + ∑ e : Fin 2048, y (ix3 b s e) * w (ix3 (0 : Fin 2) e d)

theorem row_at (b : Fin 8) (s : Fin 2048) (d : Fin 1024) : val_main_v3 (F := Ideal) h y w (ix3 b s d) = row h y w b s d := by
  unfold val_main_v3 val_main_v2 val_main_v1 val_main_v0
  pointwise
  rfl

theorem nrm_at (b : Fin 8) (s : Fin 2048) (e : Fin 1024) : val_main_v18 (F := Ideal) h y w g (ix3 b s e) = InProj.nrm (row h y w b s) (fun e => g (ix2 (0 : Fin 2) e)) e := by
  have hr := row_at h y w b s
  unfold val_main_v18 val_main_v17 val_main_v16 val_main_v15 val_main_v14 val_main_v13 val_main_v12 val_main_v11 val_main_v10 val_main_v9 val_main_v8 val_main_v7 val_main_v6 val_main_v5 val_main_v4 val_main_cst val_main_cst_0 val_main_cst_1
  generalize val_main_v3 (F := Ideal) h y w = P at hr
  pointwise
  simp only [hr]
  rfl

theorem ref_at (r : Fin 16384) (d : Fin 1024) :
    val_main_v19 (F := Ideal) h y w (ix2 r d) = row h y w (⟨r.val / 2048, by omega⟩ : Fin 8) (⟨r.val % 2048, by omega⟩ : Fin 2048) d := by
  have hr := row_at h y w
  unfold val_main_v19
  generalize val_main_v3 (F := Ideal) h y w = P at hr
  pointwise
  exact hr _ _ _

theorem refn_at (r : Fin 16384) (d : Fin 1024) :
    val_main_v21 (F := Ideal) h y w g (ix2 r d) = InProj.nrm (row h y w (⟨r.val / 2048, by omega⟩ : Fin 8) (⟨r.val % 2048, by omega⟩ : Fin 2048)) (fun e => g (ix2 (0 : Fin 2) e)) d := by
  have hr := nrm_at h y w g
  unfold val_main_v21 val_main_v20
  generalize val_main_v18 (F := Ideal) h y w g = P at hr
  pointwise
  exact hr _ _ _

end Cert.ReferenceOutNIdeal.Own
-- ==== Proof.InP.Body.lean ====
/- The input projection of rows with their norm taken: what one block of the body is left at. -/
module

public import proofs.«01_k».proof.Proof.Gen.KernelInPIdeal.Value
public import Idealize.ShloMosaic.Lib.Pointwise
public import Idealize.ShloMosaic.Lib.Pipeline.ValueKit

@[expose] public section

set_option maxRecDepth 16384

noncomputable section

namespace Cert.KernelInPIdeal.Own

open Cert.KernelInPIdeal Cert.KernelInPIdeal.Gen
open Idealize.ShloMosaic Idealize.ShloMosaic.TcCoe Idealize.ShloMosaic.Tactic

theorem hz : (![0, 0] : Fin 2 → ℕ) = fun _ => 0 := funext fun a => by fin_cases a <;> rfl
theorem hz3 : (![0, 0, 0] : Fin 3 → ℕ) = fun _ => 0 := funext fun a => by fin_cases a <;> rfl

/-- Column `128 c + d` of a block of 1024. -/
def col (c : Fin 8) (d : Fin 128) : Fin 1024 := ⟨128 * c.val + d.val, by omega⟩
theorem col_val (c : Fin 8) (d : Fin 128) : (col c d).val = 128 * c.val + d.val := rfl

/-- The projected block, its columns scaled, by heads. -/
def blkOf (x : Vec Ideal S2048x1024 .bf16) (w : Vec Ideal S1x1024x1024 .f32) (cs : Vec Ideal S1x1024 .f32) : Vec Ideal S1x8x2048x128 .bf16 :=
  fun y => FloatOps.mulf (F := Ideal) (φ := .f32) (k0_pay3 (F := Ideal) x w (ix2 (y 2) (col (y 1) (y 3)))) (cs (ix2 (0 : Fin 1) (col (y 1) (y 3))))

/-- A store of one head's rows holds the block's values. -/
theorem tile (x : Vec Ideal S2048x1024 .bf16) (w : Vec Ideal S1x1024x1024 .f32) (cs : Vec Ideal S1x1024 .f32) (k : Fin 8) (y : S1x8x2048x128.Idx) (P : Vec Ideal S1x1x2048x128 .bf16)
    (h : ∀ s d, P (ix4 (0 : Fin 1) (0 : Fin 1) s d) = blkOf x w cs (ix4 (0 : Fin 1) k s d)) :
    View.TileAt (Val := Elt Ideal) (e := .bf16) (S := S1x8x2048x128) y ![0, k.val, 0, 0] ![1, 1, 2048, 128] P (blkOf x w cs y) := by
  intro j hj
  have hj1 : (j 1).val < 1 := (j 1).isLt
  have e0 := hj 0
  have e1 := hj 1
  have e2 := hj 2
  have e3 := hj 3
  have ej : j = ix4 (0 : Fin 1) (0 : Fin 1) (j 2) (j 3) := by
    funext a; fin_cases a
    · exact Subsingleton.elim (α := Fin 1) _ _
    · exact Subsingleton.elim (α := Fin 1) _ _
    · rfl
    · rfl
  have ey : y = ix4 (0 : Fin 1) k (j 2) (j 3) := by
    funext a; fin_cases a
    · exact Subsingleton.elim (α := Fin 1) _ _
    · refine Fin.ext (e1.trans ?_); show k.val + (j 1).val = k.val; omega
    · refine Fin.ext (e2.trans ?_); show 0 + (j 2).val = (j 2).val; omega
    · refine Fin.ext (e3.trans ?_); show 0 + (j 3).val = (j 3).val; omega
  rw [ey]
  exact (congrArg P ej).trans (h (j 2) (j 3))

theorem out_A (c : Dev nD) (i : grid0.Coords) (a2 : Memref sig .tc .vmem S2048x1024 .bf16) (h2 : a2.IsWhole) (a3 : Memref sig .tc .vmem S1x1024 .f32) (h3 : a3.IsWhole) (a4 : Memref sig .tc .vmem S1x1024x1024 .f32) (h4 : a4.IsWhole) (a5 : Memref sig .tc .vmem S1x1024 .f32) (h5 : a5.IsWhole) (a6 : Memref sig .tc .vmem S2048x128 .f32) (h6 : a6.IsWhole) (a7 : Memref sig .tc .vmem S2048x128 .f32) (h7 : a7.IsWhole) (a8 : Memref sig .tc .vmem S256x256 .bf16) (h8 : a8.IsWhole) (a9 : Memref sig .tc .vmem S1x8x2048x128 .bf16) (h9 : a9.IsWhole) (a10 : Memref sig .tc .vmem S16x128 .bf16) (h10 : a10.IsWhole)
    (x0 : Vec Ideal S2048x1024 .bf16) (x1 : Vec Ideal S1x1024 .f32) (x2 : Vec Ideal S1x1024x1024 .f32) (x3 : Vec Ideal S1x1024 .f32) (x4 : Vec Ideal S2048x128 .f32) (x5 : Vec Ideal S2048x128 .f32) (x6 : Vec Ideal S256x256 .bf16) :
    out0_A_7 c i a2 h2 a3 h3 a4 h4 a5 h5 a6 h6 a7 h7 a8 h8 a9 h9 a10 h10 x0 x1 x2 x3 x4 x5 x6 = blkOf x0 x2 x3 := by
  unfold out0_A_7
  rw [View.read_writes_eq_canon _ _ _ (cover0_A_7 c i a2 h2 a3 h3 a4 h4 a5 h5 a6 h6 a7 h7 a8 h8 a9 h9 a10 h10 x0 x1 x2 x3 x4 x5 x6)]
  funext y
  refine View.canon_eq_of_allAt _ _ _ (cover0_A_7 c i a2 h2 a3 h3 a4 h4 a5 h5 a6 h6 a7 h7 a8 h8 a9 h9 a10 h10 x0 x1 x2 x3 x4 x5 x6 y) ?_
  unfold kernelRun0_A
  dsimp only
  sl_unfold_words
  simp only [View.readAt_eq_ld, h2.read_unread, h3.read_unread, h4.read_unread, h5.read_unread, View.ld_unit_zero (S := S2048x1024) hz, View.ld_unit_zero (S := S1x1024x1024) hz3]
  refine View.allAt_cons_unit _ _ _ _ _ (tile _ _ _ 7 y _ fun s d => ?_) ?_
  · unfold blkOf k0_pay2
    generalize k0_pay3 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 6 y _ fun s d => ?_) ?_
  · unfold blkOf k0_pay1 k0_pay11
    generalize k0_pay3 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 5 y _ fun s d => ?_) ?_
  · unfold blkOf k0_pay10
    generalize k0_pay3 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 4 y _ fun s d => ?_) ?_
  · unfold blkOf k0_pay9
    generalize k0_pay3 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 3 y _ fun s d => ?_) ?_
  · unfold blkOf k0_pay8
    generalize k0_pay3 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 2 y _ fun s d => ?_) ?_
  · unfold blkOf k0_pay7 k0_pay6
    generalize k0_pay3 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 1 y _ fun s d => ?_) ?_
  · unfold blkOf k0_pay5
    generalize k0_pay3 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  refine View.allAt_cons_unit _ _ _ _ _ (tile _ _ _ 0 y _ fun s d => ?_) ?_
  · unfold blkOf k0_pay4
    generalize k0_pay3 (F := Ideal) _ _ = A
    pointwise
    refine congrArg₂ (FloatOps.mulf (F := Ideal) (φ := .f32)) (congrArg (fun q => A (ix2 s q)) (Fin.ext ?_)) (congrArg (fun q => x3 (ix2 (0 : Fin 1) q)) (Fin.ext ?_)) <;> simp [col_val]
  exact View.allAt_nil _ _

end Cert.KernelInPIdeal.Own
-- ==== Proof.InP.Launch.lean ====
/- The input projection of rows with their norm taken's launch: the array it leaves, at an index, over the arguments. -/
module

public import proofs.«01_k».proof.Proof.InP.Body
public import proofs.«01_k».proof.Proof.In.Spec
public import Idealize.ShloMosaic.Lib.StableHlo.RunRead

@[expose] public section

set_option maxRecDepth 16384

noncomputable section

namespace Cert.KernelInPIdeal.Own

open Cert.KernelInPIdeal Cert.KernelInPIdeal.Gen Cert.InProj
open Idealize.ShloMosaic Idealize.ShloMosaic.TcCoe Idealize.ShloMosaic.Tactic

variable (m : (ℓ : Loc nD τ sig) → Buf (Elt Ideal) ℓ)

/-- The arguments on core `c`: the rows, the projection's weights. -/
def xA (c : Dev nD) : Vec Ideal S8x2048x1024 .f32 := m ((c : Thread nD τ).loc main_arg0)
def wA (c : Dev nD) : Vec Ideal S2x1024x8192 .f32 := m ((c : Thread nD τ).loc main_arg2)

/-- One row of the batch, and the weights' second layer. -/
def rowA (c : Dev nD) (b : Fin 8) (s : Fin 2048) (e : Fin 1024) : EReal := xA m c (ix3 b s e)
def wtA (c : Dev nD) (k : Fin 1024) (e : Fin 8192) : EReal := wA m c (ix3 (1 : Fin 2) k e)

theorem idx_0 : ∀ t : Fin cfg0.N, win0_0.index t = ![t.val / 8, 0] := by decide +kernel
theorem idx_2 : ∀ t : Fin cfg0.N, win0_2.index t = ![1, 0, t.val % 8] := by decide +kernel
theorem idx_7 : ∀ t : Fin cfg0.N, win0_7.index t = ![t.val / 8, t.val % 8, 0, 0] := by decide +kernel
theorem idx_3 : ∀ t : Fin cfg0.N, win0_3.index t = ![0, t.val % 8] := by decide +kernel

/-- Batch and position of row `r` of all 16384. -/
def bt (r : Fin 16384) : Fin 8 := ⟨r.val / 2048, by omega⟩
def ps (r : Fin 16384) : Fin 2048 := ⟨r.val % 2048, by omega⟩

theorem V_x (c : Dev nD) (r : Fin 16384) (e : Fin 1024) :
    (V (F := Ideal) m c main_v30 : Vec Ideal S16384x1024 .f32) (ix2 r e) = xA m c (ix3 (bt r) (ps r) e) := by
  unfold V xA hostOps0
  after_reads_simp
  pointwise
  rfl
theorem V_w (c : Dev nD) : (V (F := Ideal) m c main_arg2 : Vec Ideal S2x1024x8192 .f32) = wA m c := by
  unfold V wA hostOps0
  after_reads_simp

/-- Ones, 2048 of them. -/
def ones : Vec Ideal S2048 .f32 := broadcastInDim S2048 ![] bcast_S_S2048 (constant (F := Ideal) S_ .f32 0x3F800000#32 : Vec Ideal S_ .f32)
/-- The queries' scale over the logarithm of two, 2048 times. -/
def qscale : Vec Ideal S2048 .f32 := mulf (F := Ideal) (φ := .f32) ones (broadcastInDim S2048 ![] bcast_S_S2048 (Host.divf (F := Ideal) (φ := .f32) (constant (F := Ideal) S_ .f32 0x3DB504F3#32) (Host.log (F := Ideal) (φ := .f32) (constant (F := Ideal) S_ .f32 0x40000000#32))))

theorem V_cs (c : Dev nD) (e : Fin 8192) :
    (V (F := Ideal) m c main_v28 : Vec Ideal S1x8192 .f32) (ix2 (0 : Fin 1) e) = if e.val < 2048 then kq else 1 := by
  have e26 : StableHlo.upto (hostOps0 (F := Ideal)) (fun b => m (c, b)) 35 (Proc.tc.devRef main_v26) = qscale := by unfold hostOps0; after_reads_simp; rfl
  have e22 : StableHlo.upto (hostOps0 (F := Ideal)) (fun b => m (c, b)) 35 (Proc.tc.devRef main_v22) = ones := by unfold hostOps0; after_reads_simp; rfl
  have h1 (k : Fin 2048) : ones (ix1 k) = (1 : EReal) := by unfold ones; pointwise
  have hq (k : Fin 2048) : qscale (ix1 k) = kq := by
    unfold qscale; pointwise; rw [h1]; exact one_mul (M := EReal) _
  unfold V hostOps0
  after_reads_simp
  pointwise
  by_cases h : e.val < 2048
  · simp only [h, dite_true, if_true]
    exact (congrFun e26 _).trans (hq _)
  · simp only [h, dite_false, if_false]
    split_ifs <;> exact (congrFun e22 _).trans (h1 _)

/-- Row `r` of the block of point `t`; its columns' place among all. -/
def bOf (t : Fin cfg0.N) : Fin 8 := ⟨t.val / 8, by have := t.isLt; have : cfg0.N = 64 := N_0; omega⟩
def cOf (t : Fin cfg0.N) (e : Fin 1024) : Fin 8192 := ⟨(t.val % 8) * 1024 + e.val, by omega⟩
theorem bOf_val (t : Fin cfg0.N) : (bOf t).val = t.val / 8 := rfl
theorem cOf_val (t : Fin cfg0.N) (e : Fin 1024) : (cOf t e).val = (t.val % 8) * 1024 + e.val := rfl
def rOf (b : Fin 8) (s : Fin 2048) : Fin 16384 := ⟨b.val * 2048 + s.val, by omega⟩
theorem rOf_val (b : Fin 8) (s : Fin 2048) : (rOf b s).val = b.val * 2048 + s.val := rfl
theorem bt_rOf (b : Fin 8) (s : Fin 2048) : bt (rOf b s) = b := Fin.ext (by show (b.val * 2048 + s.val) / 2048 = b.val; omega)
theorem ps_rOf (b : Fin 8) (s : Fin 2048) : ps (rOf b s) = s := Fin.ext (by show (b.val * 2048 + s.val) % 2048 = s.val; omega)

theorem blk_x (c : Dev nD) (t : Fin cfg0.N) (s : Fin 2048) (e : Fin 1024) :
    iblk (F := Ideal) m c 0 t (ix2 s e) = rowA m c (bOf t) s e := by
  have h := V_x m c (rOf (bOf t) s) e
  rw [bt_rOf, ps_rOf] at h
  refine Eq.trans ?_ h
  blk_ext [iblk, idx_0 t, rOf_val, bOf_val]
theorem blk_w (c : Dev nD) (t : Fin cfg0.N) (k : Fin 1024) (e : Fin 1024) :
    iblk (F := Ideal) m c 2 t (ix3 (0 : Fin 1) k e) = wtA m c k (cOf t e) := by
  unfold wtA
  rw [← V_w]
  blk_ext [iblk, idx_2 t, cOf_val]
theorem blk_cs (c : Dev nD) (t : Fin cfg0.N) (e : Fin 1024) :
    iblk (F := Ideal) m c 3 t (ix2 (0 : Fin 1) e) = if (cOf t e).val < 2048 then kq else 1 := by
  refine Eq.trans ?_ (V_cs m c (cOf t e))
  blk_ext [iblk, idx_3 t, cOf_val]

theorem blkOf_at (x : Vec Ideal S2048x1024 .bf16) (w : Vec Ideal S1x1024x1024 .f32) (cs : Vec Ideal S1x1024 .f32) (k : Fin 8) (s : Fin 2048) (d : Fin 128) :
    blkOf x w cs (ix4 (0 : Fin 1) k s d) = (∑ e : Fin 1024, x (ix2 s e) * w (ix3 (0 : Fin 1) e (col k d))) * cs (ix2 (0 : Fin 1) (col k d)) := by
  unfold blkOf k0_pay3
  pointwise

/-- The point whose block holds head `h` of batch `b`. -/
def ptOf (b : Fin 8) (h : Fin 64) : Fin cfg0.N := ⟨8 * b.val + h.val / 8, by have : cfg0.N = 64 := N_0; omega⟩
theorem ptOf_val (b : Fin 8) (h : Fin 64) : (ptOf b h).val = 8 * b.val + h.val / 8 := rfl

/-- The array the launch leaves. -/
theorem arr_at (c : Dev nD) (b : Fin 8) (h : Fin 64) (s : Fin 2048) (d : Fin 128) :
    ((dats (F := Ideal) m 0 c).arrAt 7 cfg0.N : Vec Ideal S8x64x2048x128 .bf16) (ix4 b h s d) = projP (rowA m c b s) (wtA m c) h d := by
  have e := congrFun (Value.blocks7 (F := Ideal) m c (ptOf b h) (flush0_7 _)) (ix4 (0 : Fin 1) (⟨h.val % 8, by omega⟩ : Fin 8) s d)
  rw [Value.flushed7_A, out_A] at e
  have hi : ((cfg0.win 7).blk (ptOf b h)).view.emb (ix4 (0 : Fin 1) (⟨h.val % 8, by omega⟩ : Fin 8) s d) = ix4 b h s d := by
    have e0 : win0_7.index (ptOf b h) = ![(ptOf b h).val / 8, (ptOf b h).val % 8, 0, 0] := idx_7 _
    funext a; apply Fin.ext
    match a with
    | ⟨0, _⟩ => show win0_7.index (ptOf b h) (0 : Fin 4) * 1 + 1 * 0 = b.val; rw [e0]; show (8 * b.val + h.val / 8) / 8 * 1 + 1 * 0 = b.val; omega
    | ⟨1, _⟩ => show win0_7.index (ptOf b h) (1 : Fin 4) * 8 + 1 * (h.val % 8) = h.val; rw [e0]; show (8 * b.val + h.val / 8) % 8 * 8 + 1 * (h.val % 8) = h.val; omega
    | ⟨2, _⟩ => show win0_7.index (ptOf b h) (2 : Fin 4) * 2048 + 1 * s.val = s.val; rw [e0]; show 0 * 2048 + 1 * s.val = s.val; omega
    | ⟨3, _⟩ => show win0_7.index (ptOf b h) (3 : Fin 4) * 128 + 1 * d.val = d.val; rw [e0]; show 0 * 128 + 1 * d.val = d.val; omega
  refine ((congrArg ((dats (F := Ideal) m 0 c).arrAt 7 cfg0.N) hi).symm.trans e).trans ?_
  refine (blkOf_at _ _ _ _ _ _).trans ?_
  rw [blk_cs]
  have hb : bOf (ptOf b h) = b := Fin.ext (by show (8 * b.val + h.val / 8) / 8 = b.val; omega)
  have hc : cOf (ptOf b h) (col (⟨h.val % 8, by omega⟩ : Fin 8) d) = cx h d :=
    Fin.ext (by show ((8 * b.val + h.val / 8) % 8) * 1024 + (128 * (h.val % 8) + d.val) = h.val * 128 + d.val; omega)
  have hs : ((cx h d).val < 2048) = (h.val < 16) := propext (by rw [cx_val]; omega)
  unfold projP colS
  rw [hc]
  simp only [hs]
  refine congrArg (· * _) (Finset.sum_congr rfl fun e _ => ?_)
  rw [blk_w, blk_x, hc, hb]

end Cert.KernelInPIdeal.Own
-- ==== Proof.InP.Ref.lean ====
/- The input projection of rows with their norm taken's reference, at an index. -/
module

public import proofs.«01_k».proof.Proof.Gen.ReferenceInPIdeal.Read
public import proofs.«01_k».proof.Proof.In.Spec

@[expose] public section

set_option maxRecDepth 16384

noncomputable section

namespace Cert.ReferenceInPIdeal.Own

open Cert.ReferenceInPIdeal Cert.ReferenceInPIdeal.Gen Cert.ReferenceInPIdeal.Read Cert.InProj
open Idealize.ShloMosaic Idealize.ShloMosaic.TcCoe

variable (x : Vec Ideal S8x2048x1024 .f32) (w : Vec Ideal S2x1024x8192 .f32)

theorem dot_at (b : Fin 8) (s : Fin 2048) (e : Fin 8192) : val_main_v2 (F := Ideal) x w (ix3 b s e)
    = ∑ k : Fin 1024, x (ix3 b s k) * w (ix3 (1 : Fin 2) k e) := by
  unfold val_main_v2 val_main_v1 val_main_v0
  pointwise

theorem ref_at (b : Fin 8) (h : Fin 64) (s : Fin 2048) (d : Fin 128) : val_main_v20 (F := Ideal) x w (ix4 b h s d)
    = projP (fun e => x (ix3 b s e)) (fun k e => w (ix3 (1 : Fin 2) k e)) h d := by
  unfold projP
  rw [← dot_at x w b s (cx h d)]
  unfold val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_cst val_main_cst_0
  generalize val_main_v2 (F := Ideal) x w = P
  pointwise
  unfold colS
  by_cases h1 : h.val < 16
  · rw [dif_pos h1, if_pos h1]; rfl
  · rw [dif_neg h1, if_neg h1]
    refine Eq.trans ?_ (mul_one (M := EReal) _).symm
    have key (q : Fin 8192) (hq : q.val = h.val * 128 + d.val) : P (ix3 b s q) = P (ix3 b s (cx h d)) := congrArg (fun q => P (ix3 b s q)) (Fin.ext hq)
    split_ifs <;> exact key _ (by dsimp only; omega)

end Cert.ReferenceInPIdeal.Own
-- ==== Proof.lean ====
/- The proof of the claim: both programs' frames, the named constants, and the value of the attention. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.KernelDf
public import proofs.«01_k».proof.Proof.Gen.KernelDf.Skeleton
public import proofs.«01_k».proof.Proof.Gen.KernelDf.Launch
public import proofs.«01_k».proof.Proof.Gen.KernelDf.Points
public import proofs.«01_k».proof.Proof.Gen.KernelDfIdeal
public import proofs.«01_k».proof.Proof.Gen.KernelDfIdeal.Skeleton
public import proofs.«01_k».proof.Proof.Gen.KernelDfIdeal.Launch
public import proofs.«01_k».proof.Proof.Gen.KernelDfIdeal.Points
public import proofs.«01_k».proof.Proof.Gen.ReferenceDfIdeal
public import proofs.«01_k».proof.Proof.Gen.ReferenceDfIdeal.Run
public import proofs.«01_k».proof.Proof.Gen.ReferenceDfIdeal.Read
public import proofs.«01_k».proof.Proof.DfBits.Frame
public import proofs.«01_k».proof.Proof.DfIdeal.Frame
public import proofs.«01_k».proof.Proof.Bits.Frame
public import proofs.«01_k».proof.Proof.Ideal.Frame
public import proofs.«01_k».proof.Proof.Value.Same
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Out.Launch
public import proofs.«01_k».proof.Proof.Out.Ref
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.In.Launch
public import proofs.«01_k».proof.Proof.In.Ref
public import proofs.«01_k».proof.Proof.Gen.KernelDfIn
public import proofs.«01_k».proof.Proof.Gen.KernelDfIn.Skeleton
public import proofs.«01_k».proof.Proof.Gen.KernelDfIn.Launch
public import proofs.«01_k».proof.Proof.Gen.KernelDfIn.Points
public import proofs.«01_k».proof.Proof.Gen.KernelDfIn.Frame
public import proofs.«01_k».proof.Proof.Gen.KernelDfInIdeal
public import proofs.«01_k».proof.Proof.Gen.KernelDfInIdeal.Skeleton
public import proofs.«01_k».proof.Proof.Gen.KernelDfInIdeal.Launch
public import proofs.«01_k».proof.Proof.Gen.KernelDfInIdeal.Points
public import proofs.«01_k».proof.Proof.Gen.KernelDfInIdeal.Frame
public import proofs.«01_k».proof.Proof.Gen.KernelDfInIdeal.Value
public import proofs.«01_k».proof.Proof.Gen.ReferenceDfInIdeal
public import proofs.«01_k».proof.Proof.Gen.ReferenceDfInIdeal.Run
public import proofs.«01_k».proof.Proof.Gen.ReferenceDfInIdeal.Read
public import proofs.«01_k».proof.Proof.DfIn.Launch
public import proofs.«01_k».proof.Proof.DfIn.Ref
public import proofs.«01_k».proof.Proof.Gen.KernelOutN
public import proofs.«01_k».proof.Proof.Gen.KernelOutN.Skeleton
public import proofs.«01_k».proof.Proof.Gen.KernelOutN.Launch
public import proofs.«01_k».proof.Proof.Gen.KernelOutN.Points
public import proofs.«01_k».proof.Proof.Gen.KernelOutN.Frame
public import proofs.«01_k».proof.Proof.Gen.KernelOutNIdeal
public import proofs.«01_k».proof.Proof.Gen.KernelOutNIdeal.Skeleton
public import proofs.«01_k».proof.Proof.Gen.KernelOutNIdeal.Launch
public import proofs.«01_k».proof.Proof.Gen.KernelOutNIdeal.Points
public import proofs.«01_k».proof.Proof.Gen.KernelOutNIdeal.Frame
public import proofs.«01_k».proof.Proof.Gen.KernelOutNIdeal.Value
public import proofs.«01_k».proof.Proof.Gen.ReferenceOutNIdeal
public import proofs.«01_k».proof.Proof.Gen.ReferenceOutNIdeal.Run
public import proofs.«01_k».proof.Proof.Gen.ReferenceOutNIdeal.Read
public import proofs.«01_k».proof.Proof.OutN.Launch
public import proofs.«01_k».proof.Proof.OutN.Ref
public import proofs.«01_k».proof.Proof.Gen.KernelInP
public import proofs.«01_k».proof.Proof.Gen.KernelInP.Skeleton
public import proofs.«01_k».proof.Proof.Gen.KernelInP.Launch
public import proofs.«01_k».proof.Proof.Gen.KernelInP.Points
public import proofs.«01_k».proof.Proof.Gen.KernelInP.Frame
public import proofs.«01_k».proof.Proof.Gen.KernelInPIdeal
public import proofs.«01_k».proof.Proof.Gen.KernelInPIdeal.Skeleton
public import proofs.«01_k».proof.Proof.Gen.KernelInPIdeal.Launch
public import proofs.«01_k».proof.Proof.Gen.KernelInPIdeal.Points
public import proofs.«01_k».proof.Proof.Gen.KernelInPIdeal.Frame
public import proofs.«01_k».proof.Proof.Gen.KernelInPIdeal.Value
public import proofs.«01_k».proof.Proof.Gen.ReferenceInPIdeal
public import proofs.«01_k».proof.Proof.Gen.ReferenceInPIdeal.Run
public import proofs.«01_k».proof.Proof.Gen.ReferenceInPIdeal.Read
public import proofs.«01_k».proof.Proof.InP.Launch
public import proofs.«01_k».proof.Proof.InP.Ref
public import Idealize.ShloMosaic.Lib.Quiescent
public import Idealize.ShloMosaic.Adequacy
public import Idealize.ShloMosaic.Init

@[expose] public section

noncomputable section

namespace Cert.Proof

open Idealize.ShloMosaic Idealize.SL.Sem

/-- The reference, which has host operations only and declares no semaphore, ends with its argument as it was and every
    counter at zero. -/
theorem quiet_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m g)

/-- The two constants named in the kernel: the reciprocal of the logarithm of two, and the bound below which the early
    exit of the sweep stops, which is minus infinity. -/
theorem named : Cert.preserves_Kernel_KernelIdeal :=
  ⟨IdealRules.named_const.statement Cert.KernelIdeal.κ "rln2" .f32 0x3FB8AA3B#32 _ rfl,
    IdealRules.named_const.statement Cert.KernelIdeal.κ "vanish" .f32 0xC3200000#32 _ rfl⟩

/-- The attention of the kernel is the attention of the reference: from a projection of real numbers, equal on both
    sides, both programs end with one result, and leave the projection as it was. -/
theorem same [Cert.Pre_finite.Facts] : Cert.algebraic_KernelIdeal_ReferenceIdeal_pre_finite := by
  intro m g m' g' hpre hin
  let X : Dev Cert.KernelIdeal.nD → Fin 8 → Fin 2048 → Fin 8192 → ℝ := fun c b s e =>
    ((m ((c.tc : Thread Cert.KernelIdeal.nD Cert.KernelIdeal.τ).loc Cert.KernelIdeal.main_arg0) : Vec Ideal Cert.KernelIdeal.S8x2048x8192 .f32) (ix3 b s e)).toReal
  have hX (c : Dev Cert.KernelIdeal.nD) (b : Fin 8) (s : Fin 2048) (e : Fin 8192) :
      (m ((c.tc : Thread Cert.KernelIdeal.nD Cert.KernelIdeal.τ).loc Cert.KernelIdeal.main_arg0) : Vec Ideal Cert.KernelIdeal.S8x2048x8192 .f32) (ix3 b s e) = ((X c b s e : ℝ) : EReal) :=
    Cert.KernelIdeal.Named.fin_at _ (hpre c) (ix3 b s e)
  refine ⟨fun c => Cert.KernelIdeal.Named.outArr (Cert.KernelIdeal.Named.headR (X c)),
    Cert.KernelIdeal.Named.run_named m g (fun c => Cert.KernelIdeal.Named.headR (X c)) (fun c => Cert.KernelIdeal.Named.found m X c (hX c)), ?_⟩
  refine (θ_run Cert.ReferenceIdeal.defs _ _).mono (fun r h c => ⟨((h c).1).trans ?_, (h c).2⟩) (Cert.ReferenceIdeal.Value.run (F := Ideal) m' g')
  rw [Cert.ReferenceIdeal.Read.val_main_v34_eq, hin c]
  funext i
  refine (congrArg _ (eq_ix4 i)).trans ((Cert.ReferenceIdeal.Own.ref_at _ (X c) (hX c) _ _ _ _).trans ?_)
  exact congrArg (fun r : ℝ => (r : EReal)) (Cert.ReferenceIdeal.Own.out_ref (X c) _ _ _ _).symm

/-- The output projection's reference ends with its arguments as they were and every counter at zero. -/
theorem quiet_reference_out (m : (ℓ : Loc Cert.ReferenceOutIdeal.nD Cert.ReferenceOutIdeal.τ Cert.ReferenceOutIdeal.sig) → Buf (Elt Ideal) ℓ)
    (g : Dev Cert.ReferenceOutIdeal.nD → PrngReg) :
    θ_run (Cert.ReferenceOutIdeal.defs (F := Ideal)) (onTc (τ := Cert.ReferenceOutIdeal.τ) (Cert.ReferenceOutIdeal.main (F := Ideal)))
      ⟨m, fun _ => 0, g⟩ (fun r => (∀ c : Dev Cert.ReferenceOutIdeal.nD,
        r.2.mem ((c.tc : Thread Cert.ReferenceOutIdeal.nD Cert.ReferenceOutIdeal.τ).loc Cert.ReferenceOutIdeal.main_arg0)
          = m ((c.tc : Thread Cert.ReferenceOutIdeal.nD Cert.ReferenceOutIdeal.τ).loc Cert.ReferenceOutIdeal.main_arg0)
        ∧ r.2.mem ((c.tc : Thread Cert.ReferenceOutIdeal.nD Cert.ReferenceOutIdeal.τ).loc Cert.ReferenceOutIdeal.main_arg1)
          = m ((c.tc : Thread Cert.ReferenceOutIdeal.nD Cert.ReferenceOutIdeal.τ).loc Cert.ReferenceOutIdeal.main_arg1)
        ∧ r.2.mem ((c.tc : Thread Cert.ReferenceOutIdeal.nD Cert.ReferenceOutIdeal.τ).loc Cert.ReferenceOutIdeal.main_arg2)
          = m ((c.tc : Thread Cert.ReferenceOutIdeal.nD Cert.ReferenceOutIdeal.τ).loc Cert.ReferenceOutIdeal.main_arg2)
        ∧ r.2.mem ((c.tc : Thread Cert.ReferenceOutIdeal.nD Cert.ReferenceOutIdeal.τ).loc Cert.ReferenceOutIdeal.main_arg3)
          = m ((c.tc : Thread Cert.ReferenceOutIdeal.nD Cert.ReferenceOutIdeal.τ).loc Cert.ReferenceOutIdeal.main_arg3))
        ∧ r.2.sem = fun _ => 0) :=
  (θ_run Cert.ReferenceOutIdeal.defs _ _).mono
    (fun r h => ⟨fun c => (h c).2, sem_eq_zero_of_no_sems (by decide) r.2⟩)
    (Cert.ReferenceOutIdeal.Value.run (F := Ideal) m g)

/-- The output projection of the kernel is the reference's: from equal arguments both end with one result, and leave the arguments
    as they were. -/
theorem same_out : Cert.algebraic_KernelOutIdeal_ReferenceOutIdeal := by
  intro m g m' g' _ hin
  refine ⟨fun c => Cert.KernelOutIdeal.Value.G4 (F := Ideal) m c, (Cert.KernelOutIdeal.Value.run (F := Ideal) m g), ?_⟩
  refine (θ_run Cert.ReferenceOutIdeal.defs _ _).mono (fun r h c => ⟨((h c).1).trans ?_, (h c).2⟩) (Cert.ReferenceOutIdeal.Value.run (F := Ideal) m' g')
  have hc := hin c
  rw [Cert.ReferenceOutIdeal.Read.val_main_v4_eq, hc.1, hc.2.1, hc.2.2.1]
  funext i
  refine (congrArg _ (eq_ix2 i)).trans ((Cert.ReferenceOutIdeal.Own.ref_at _ _ _ _ _).trans ?_)
  exact ((congrArg (Cert.KernelOutIdeal.Value.G4 (F := Ideal) m c) (eq_ix2 i)).trans (Cert.KernelOutIdeal.Own.G4_at m c _ _)).symm

/-- The first layer's input projection's reference ends with its arguments as they were and every counter at zero. -/
theorem quiet_reference_in (m : (ℓ : Loc Cert.ReferenceInIdeal.nD Cert.ReferenceInIdeal.τ Cert.ReferenceInIdeal.sig) → Buf (Elt Ideal) ℓ)
    (g : Dev Cert.ReferenceInIdeal.nD → PrngReg) :
    θ_run (Cert.ReferenceInIdeal.defs (F := Ideal)) (onTc (τ := Cert.ReferenceInIdeal.τ) (Cert.ReferenceInIdeal.main (F := Ideal)))
      ⟨m, fun _ => 0, g⟩ (fun r => (∀ c : Dev Cert.ReferenceInIdeal.nD,
        r.2.mem ((c.tc : Thread Cert.ReferenceInIdeal.nD Cert.ReferenceInIdeal.τ).loc Cert.ReferenceInIdeal.main_arg0)
          = m ((c.tc : Thread Cert.ReferenceInIdeal.nD Cert.ReferenceInIdeal.τ).loc Cert.ReferenceInIdeal.main_arg0)
        ∧ r.2.mem ((c.tc : Thread Cert.ReferenceInIdeal.nD Cert.ReferenceInIdeal.τ).loc Cert.ReferenceInIdeal.main_arg1)
          = m ((c.tc : Thread Cert.ReferenceInIdeal.nD Cert.ReferenceInIdeal.τ).loc Cert.ReferenceInIdeal.main_arg1)
        ∧ r.2.mem ((c.tc : Thread Cert.ReferenceInIdeal.nD Cert.ReferenceInIdeal.τ).loc Cert.ReferenceInIdeal.main_arg2)
          = m ((c.tc : Thread Cert.ReferenceInIdeal.nD Cert.ReferenceInIdeal.τ).loc Cert.ReferenceInIdeal.main_arg2))
        ∧ r.2.sem = fun _ => 0) :=
  (θ_run Cert.ReferenceInIdeal.defs _ _).mono
    (fun r h => ⟨fun c => (h c).2, sem_eq_zero_of_no_sems (by decide) r.2⟩)
    (Cert.ReferenceInIdeal.Value.run (F := Ideal) m g)

/-- The first layer's input projection of the kernel is the reference's: from equal arguments both end with one result, and leave the arguments
    as they were. -/
theorem same_in : Cert.algebraic_KernelInIdeal_ReferenceInIdeal := by
  intro m g m' g' _ hin
  refine ⟨fun c => Cert.KernelInIdeal.Value.G7 (F := Ideal) m c, (Cert.KernelInIdeal.Value.run (F := Ideal) m g), ?_⟩
  refine (θ_run Cert.ReferenceInIdeal.defs _ _).mono (fun r h c => ⟨((h c).1).trans ?_, (h c).2⟩) (Cert.ReferenceInIdeal.Value.run (F := Ideal) m' g')
  have hc := hin c
  rw [Cert.ReferenceInIdeal.Read.val_main_v35_eq, hc.1, hc.2.1, hc.2.2]
  funext i
  refine (congrArg _ (eq_ix4 i)).trans ((Cert.ReferenceInIdeal.Own.ref_at _ _ _ _ _ _ _).trans ?_)
  exact ((congrArg (Cert.KernelInIdeal.Value.G7 (F := Ideal) m c) (eq_ix4 i)).trans (Cert.KernelInIdeal.Own.G7_at m c _ _ _ _)).symm

/-- The differential layer's input projection's reference ends with its arguments as they were and every counter at zero. -/
theorem quiet_reference_dfin (m : (ℓ : Loc Cert.ReferenceDfInIdeal.nD Cert.ReferenceDfInIdeal.τ Cert.ReferenceDfInIdeal.sig) → Buf (Elt Ideal) ℓ)
    (g : Dev Cert.ReferenceDfInIdeal.nD → PrngReg) :
    θ_run (Cert.ReferenceDfInIdeal.defs (F := Ideal)) (onTc (τ := Cert.ReferenceDfInIdeal.τ) (Cert.ReferenceDfInIdeal.main (F := Ideal)))
      ⟨m, fun _ => 0, g⟩ (fun r => (∀ c : Dev Cert.ReferenceDfInIdeal.nD,
        r.2.mem ((c.tc : Thread Cert.ReferenceDfInIdeal.nD Cert.ReferenceDfInIdeal.τ).loc Cert.ReferenceDfInIdeal.main_arg0)
          = m ((c.tc : Thread Cert.ReferenceDfInIdeal.nD Cert.ReferenceDfInIdeal.τ).loc Cert.ReferenceDfInIdeal.main_arg0)
        ∧ r.2.mem ((c.tc : Thread Cert.ReferenceDfInIdeal.nD Cert.ReferenceDfInIdeal.τ).loc Cert.ReferenceDfInIdeal.main_arg1)
          = m ((c.tc : Thread Cert.ReferenceDfInIdeal.nD Cert.ReferenceDfInIdeal.τ).loc Cert.ReferenceDfInIdeal.main_arg1)
        ∧ r.2.mem ((c.tc : Thread Cert.ReferenceDfInIdeal.nD Cert.ReferenceDfInIdeal.τ).loc Cert.ReferenceDfInIdeal.main_arg2)
          = m ((c.tc : Thread Cert.ReferenceDfInIdeal.nD Cert.ReferenceDfInIdeal.τ).loc Cert.ReferenceDfInIdeal.main_arg2)
        ∧ r.2.mem ((c.tc : Thread Cert.ReferenceDfInIdeal.nD Cert.ReferenceDfInIdeal.τ).loc Cert.ReferenceDfInIdeal.main_arg3)
          = m ((c.tc : Thread Cert.ReferenceDfInIdeal.nD Cert.ReferenceDfInIdeal.τ).loc Cert.ReferenceDfInIdeal.main_arg3)
        ∧ r.2.mem ((c.tc : Thread Cert.ReferenceDfInIdeal.nD Cert.ReferenceDfInIdeal.τ).loc Cert.ReferenceDfInIdeal.main_arg4)
          = m ((c.tc : Thread Cert.ReferenceDfInIdeal.nD Cert.ReferenceDfInIdeal.τ).loc Cert.ReferenceDfInIdeal.main_arg4))
        ∧ r.2.sem = fun _ => 0) :=
  (θ_run Cert.ReferenceDfInIdeal.defs _ _).mono
    (fun r h => ⟨fun c => (h c).2, sem_eq_zero_of_no_sems (by decide) r.2⟩)
    (Cert.ReferenceDfInIdeal.Value.run (F := Ideal) m g)

/-- The differential layer's input projection of the kernel is the reference's: from equal arguments both end with one result, and leave the arguments
    as they were. -/
theorem same_dfin : Cert.algebraic_KernelDfInIdeal_ReferenceDfInIdeal := by
  intro m g m' g' _ hin
  refine ⟨fun c => (Cert.KernelDfInIdeal.Gen.dats (F := Ideal) m 0 c).arrAt 7 Cert.KernelDfInIdeal.cfg0.N, (Cert.KernelDfInIdeal.Value.run_blocks (F := Ideal) m g), ?_⟩
  refine (θ_run Cert.ReferenceDfInIdeal.defs _ _).mono (fun r h c => ⟨((h c).1).trans ?_, (h c).2⟩) (Cert.ReferenceDfInIdeal.Value.run (F := Ideal) m' g')
  have hc := hin c
  rw [Cert.ReferenceDfInIdeal.Read.val_main_v103_eq, hc.1, hc.2.2.1, hc.2.2.2.1, hc.2.2.2.2]
  funext i
  refine (congrArg _ (eq_ix4 i)).trans ((Cert.ReferenceDfInIdeal.Own.ref_at _ _ _ _ _ _ _ _).trans ?_)
  exact ((congrArg ((Cert.KernelDfInIdeal.Gen.dats (F := Ideal) m 0 c).arrAt 7 Cert.KernelDfInIdeal.cfg0.N) (eq_ix4 i)).trans (Cert.KernelDfInIdeal.Own.arr_at m c _ _ _ _)).symm

/-- The output projection that leaves the next norm's reference ends with its arguments as they were and every counter at zero. -/
theorem quiet_reference_outn (m : (ℓ : Loc Cert.ReferenceOutNIdeal.nD Cert.ReferenceOutNIdeal.τ Cert.ReferenceOutNIdeal.sig) → Buf (Elt Ideal) ℓ)
    (g : Dev Cert.ReferenceOutNIdeal.nD → PrngReg) :
    θ_run (Cert.ReferenceOutNIdeal.defs (F := Ideal)) (onTc (τ := Cert.ReferenceOutNIdeal.τ) (Cert.ReferenceOutNIdeal.main (F := Ideal)))
      ⟨m, fun _ => 0, g⟩ (fun r => (∀ c : Dev Cert.ReferenceOutNIdeal.nD,
        r.2.mem ((c.tc : Thread Cert.ReferenceOutNIdeal.nD Cert.ReferenceOutNIdeal.τ).loc Cert.ReferenceOutNIdeal.main_arg0)
          = m ((c.tc : Thread Cert.ReferenceOutNIdeal.nD Cert.ReferenceOutNIdeal.τ).loc Cert.ReferenceOutNIdeal.main_arg0)
        ∧ r.2.mem ((c.tc : Thread Cert.ReferenceOutNIdeal.nD Cert.ReferenceOutNIdeal.τ).loc Cert.ReferenceOutNIdeal.main_arg1)
          = m ((c.tc : Thread Cert.ReferenceOutNIdeal.nD Cert.ReferenceOutNIdeal.τ).loc Cert.ReferenceOutNIdeal.main_arg1)
        ∧ r.2.mem ((c.tc : Thread Cert.ReferenceOutNIdeal.nD Cert.ReferenceOutNIdeal.τ).loc Cert.ReferenceOutNIdeal.main_arg2)
          = m ((c.tc : Thread Cert.ReferenceOutNIdeal.nD Cert.ReferenceOutNIdeal.τ).loc Cert.ReferenceOutNIdeal.main_arg2)
        ∧ r.2.mem ((c.tc : Thread Cert.ReferenceOutNIdeal.nD Cert.ReferenceOutNIdeal.τ).loc Cert.ReferenceOutNIdeal.main_arg3)
          = m ((c.tc : Thread Cert.ReferenceOutNIdeal.nD Cert.ReferenceOutNIdeal.τ).loc Cert.ReferenceOutNIdeal.main_arg3))
        ∧ r.2.sem = fun _ => 0) :=
  (θ_run Cert.ReferenceOutNIdeal.defs _ _).mono
    (fun r h => ⟨fun c => (h c).2.2, sem_eq_zero_of_no_sems (by decide) r.2⟩)
    (Cert.ReferenceOutNIdeal.Value.run (F := Ideal) m g)

/-- The output projection that leaves the next norm of the kernel is the reference's: from equal arguments both end with one result, and leave the arguments
    as they were. -/
theorem same_outn : Cert.algebraic_KernelOutNIdeal_ReferenceOutNIdeal := by
  intro m g m' g' _ hin
  refine ⟨fun c => Cert.KernelOutNIdeal.Value.G4 (F := Ideal) m c, fun c => Cert.KernelOutNIdeal.Value.G5 (F := Ideal) m c,
    (Cert.KernelOutNIdeal.Value.run (F := Ideal) m g), ?_⟩
  refine (θ_run Cert.ReferenceOutNIdeal.defs _ _).mono (fun r h c => ⟨((h c).1).trans ?_, ((h c).2.1).trans ?_, (h c).2.2⟩) (Cert.ReferenceOutNIdeal.Value.run (F := Ideal) m' g')
  · have hc := hin c
    rw [Cert.ReferenceOutNIdeal.Read.val_main_v19_eq, hc.1, hc.2.1, hc.2.2.1]
    funext i
    refine (congrArg _ (eq_ix2 i)).trans ((Cert.ReferenceOutNIdeal.Own.ref_at _ _ _ _ _).trans ?_)
    exact ((congrArg (Cert.KernelOutNIdeal.Value.G4 (F := Ideal) m c) (eq_ix2 i)).trans (Cert.KernelOutNIdeal.Own.G4_at m c _ _)).symm
  · have hc := hin c
    rw [Cert.ReferenceOutNIdeal.Read.val_main_v21_eq, hc.1, hc.2.1, hc.2.2.1, hc.2.2.2]
    funext i
    refine (congrArg _ (eq_ix2 i)).trans ((Cert.ReferenceOutNIdeal.Own.refn_at _ _ _ _ _ _).trans ?_)
    exact ((congrArg (Cert.KernelOutNIdeal.Value.G5 (F := Ideal) m c) (eq_ix2 i)).trans (Cert.KernelOutNIdeal.Own.G5_at m c _ _)).symm

/-- The input projection of rows with their norm taken's reference ends with its arguments as they were and every counter at zero. -/
theorem quiet_reference_inp (m : (ℓ : Loc Cert.ReferenceInPIdeal.nD Cert.ReferenceInPIdeal.τ Cert.ReferenceInPIdeal.sig) → Buf (Elt Ideal) ℓ)
    (g : Dev Cert.ReferenceInPIdeal.nD → PrngReg) :
    θ_run (Cert.ReferenceInPIdeal.defs (F := Ideal)) (onTc (τ := Cert.ReferenceInPIdeal.τ) (Cert.ReferenceInPIdeal.main (F := Ideal)))
      ⟨m, fun _ => 0, g⟩ (fun r => (∀ c : Dev Cert.ReferenceInPIdeal.nD,
        r.2.mem ((c.tc : Thread Cert.ReferenceInPIdeal.nD Cert.ReferenceInPIdeal.τ).loc Cert.ReferenceInPIdeal.main_arg0)
          = m ((c.tc : Thread Cert.ReferenceInPIdeal.nD Cert.ReferenceInPIdeal.τ).loc Cert.ReferenceInPIdeal.main_arg0)
        ∧ r.2.mem ((c.tc : Thread Cert.ReferenceInPIdeal.nD Cert.ReferenceInPIdeal.τ).loc Cert.ReferenceInPIdeal.main_arg1)
          = m ((c.tc : Thread Cert.ReferenceInPIdeal.nD Cert.ReferenceInPIdeal.τ).loc Cert.ReferenceInPIdeal.main_arg1)
        ∧ r.2.mem ((c.tc : Thread Cert.ReferenceInPIdeal.nD Cert.ReferenceInPIdeal.τ).loc Cert.ReferenceInPIdeal.main_arg2)
          = m ((c.tc : Thread Cert.ReferenceInPIdeal.nD Cert.ReferenceInPIdeal.τ).loc Cert.ReferenceInPIdeal.main_arg2))
        ∧ r.2.sem = fun _ => 0) :=
  (θ_run Cert.ReferenceInPIdeal.defs _ _).mono
    (fun r h => ⟨fun c => (h c).2, sem_eq_zero_of_no_sems (by decide) r.2⟩)
    (Cert.ReferenceInPIdeal.Value.run (F := Ideal) m g)

/-- The input projection of rows with their norm taken of the kernel is the reference's: from equal arguments both end with one result, and leave the arguments
    as they were. -/
theorem same_inp : Cert.algebraic_KernelInPIdeal_ReferenceInPIdeal := by
  intro m g m' g' _ hin
  refine ⟨fun c => (Cert.KernelInPIdeal.Gen.dats (F := Ideal) m 0 c).arrAt 7 Cert.KernelInPIdeal.cfg0.N, (Cert.KernelInPIdeal.Value.run_blocks (F := Ideal) m g), ?_⟩
  refine (θ_run Cert.ReferenceInPIdeal.defs _ _).mono (fun r h c => ⟨((h c).1).trans ?_, (h c).2⟩) (Cert.ReferenceInPIdeal.Value.run (F := Ideal) m' g')
  have hc := hin c
  rw [Cert.ReferenceInPIdeal.Read.val_main_v20_eq, hc.1, hc.2.2]
  funext i
  refine (congrArg _ (eq_ix4 i)).trans ((Cert.ReferenceInPIdeal.Own.ref_at _ _ _ _ _ _).trans ?_)
  exact ((congrArg ((Cert.KernelInPIdeal.Gen.dats (F := Ideal) m 0 c).arrAt 7 Cert.KernelInPIdeal.cfg0.N) (eq_ix4 i)).trans (Cert.KernelInPIdeal.Own.arr_at m c _ _ _ _)).symm

/-- The differential attention's reference ends with its arguments as they were and every counter at zero. -/
theorem quiet_reference_df (m : (ℓ : Loc Cert.ReferenceDfIdeal.nD Cert.ReferenceDfIdeal.τ Cert.ReferenceDfIdeal.sig) → Buf (Elt Ideal) ℓ)
    (g : Dev Cert.ReferenceDfIdeal.nD → PrngReg) :
    θ_run (Cert.ReferenceDfIdeal.defs (F := Ideal)) (onTc (τ := Cert.ReferenceDfIdeal.τ) (Cert.ReferenceDfIdeal.main (F := Ideal)))
      ⟨m, fun _ => 0, g⟩ (fun r => (∀ c : Dev Cert.ReferenceDfIdeal.nD,
        r.2.mem ((c.tc : Thread Cert.ReferenceDfIdeal.nD Cert.ReferenceDfIdeal.τ).loc Cert.ReferenceDfIdeal.main_arg0)
          = m ((c.tc : Thread Cert.ReferenceDfIdeal.nD Cert.ReferenceDfIdeal.τ).loc Cert.ReferenceDfIdeal.main_arg0)
        ∧ r.2.mem ((c.tc : Thread Cert.ReferenceDfIdeal.nD Cert.ReferenceDfIdeal.τ).loc Cert.ReferenceDfIdeal.main_arg1)
          = m ((c.tc : Thread Cert.ReferenceDfIdeal.nD Cert.ReferenceDfIdeal.τ).loc Cert.ReferenceDfIdeal.main_arg1)
        ∧ r.2.mem ((c.tc : Thread Cert.ReferenceDfIdeal.nD Cert.ReferenceDfIdeal.τ).loc Cert.ReferenceDfIdeal.main_arg2)
          = m ((c.tc : Thread Cert.ReferenceDfIdeal.nD Cert.ReferenceDfIdeal.τ).loc Cert.ReferenceDfIdeal.main_arg2)
        ∧ r.2.mem ((c.tc : Thread Cert.ReferenceDfIdeal.nD Cert.ReferenceDfIdeal.τ).loc Cert.ReferenceDfIdeal.main_arg3)
          = m ((c.tc : Thread Cert.ReferenceDfIdeal.nD Cert.ReferenceDfIdeal.τ).loc Cert.ReferenceDfIdeal.main_arg3)
        ∧ r.2.mem ((c.tc : Thread Cert.ReferenceDfIdeal.nD Cert.ReferenceDfIdeal.τ).loc Cert.ReferenceDfIdeal.main_arg4)
          = m ((c.tc : Thread Cert.ReferenceDfIdeal.nD Cert.ReferenceDfIdeal.τ).loc Cert.ReferenceDfIdeal.main_arg4)
        ∧ r.2.mem ((c.tc : Thread Cert.ReferenceDfIdeal.nD Cert.ReferenceDfIdeal.τ).loc Cert.ReferenceDfIdeal.main_arg5)
          = m ((c.tc : Thread Cert.ReferenceDfIdeal.nD Cert.ReferenceDfIdeal.τ).loc Cert.ReferenceDfIdeal.main_arg5)
        ∧ r.2.mem ((c.tc : Thread Cert.ReferenceDfIdeal.nD Cert.ReferenceDfIdeal.τ).loc Cert.ReferenceDfIdeal.main_arg6)
          = m ((c.tc : Thread Cert.ReferenceDfIdeal.nD Cert.ReferenceDfIdeal.τ).loc Cert.ReferenceDfIdeal.main_arg6)
        ∧ r.2.mem ((c.tc : Thread Cert.ReferenceDfIdeal.nD Cert.ReferenceDfIdeal.τ).loc Cert.ReferenceDfIdeal.main_arg7)
          = m ((c.tc : Thread Cert.ReferenceDfIdeal.nD Cert.ReferenceDfIdeal.τ).loc Cert.ReferenceDfIdeal.main_arg7))
        ∧ r.2.sem = fun _ => 0) :=
  (θ_run Cert.ReferenceDfIdeal.defs _ _).mono
    (fun r h => ⟨fun c => (h c).2, sem_eq_zero_of_no_sems (by decide) r.2⟩)
    (Cert.ReferenceDfIdeal.Value.run (F := Ideal) m g)

/-- Everything claimed. -/
theorem claim : Cert.Claim :=
  ⟨Cert.Kernel.Gen.facts, Cert.KernelIdeal.Gen.facts, Cert.ReferenceIdeal.Gen.facts, Cert.KernelOut.Gen.facts, Cert.KernelOutIdeal.Gen.facts, Cert.ReferenceOutIdeal.Gen.facts, Cert.KernelIn.Gen.facts, Cert.KernelInIdeal.Gen.facts, Cert.ReferenceInIdeal.Gen.facts, Cert.KernelDfIn.Gen.facts, Cert.KernelDfInIdeal.Gen.facts, Cert.ReferenceDfInIdeal.Gen.facts, Cert.KernelOutN.Gen.facts, Cert.KernelOutNIdeal.Gen.facts, Cert.ReferenceOutNIdeal.Gen.facts, Cert.KernelInP.Gen.facts, Cert.KernelInPIdeal.Gen.facts, Cert.ReferenceInPIdeal.Gen.facts, Cert.KernelDf.Gen.facts, Cert.KernelDfIdeal.Gen.facts, Cert.ReferenceDfIdeal.Gen.facts,
    Cert.Pre_finite.Gen.facts,
    fun m g _ => Cert.Kernel.Own.quiet m g, fun m g _ => Cert.KernelIdeal.Own.quiet m g,
    fun m g _ => Cert.KernelIdeal.Own.quiet m g, fun m g _ => quiet_reference m g, fun m g _ => quiet_reference m g,
    fun m g _ => Cert.KernelOut.Gen.frame m g, fun m g _ => Cert.KernelOutIdeal.Gen.frame m g, fun m g _ => quiet_reference_out m g,
    fun m g _ => Cert.KernelIn.Gen.frame m g, fun m g _ => Cert.KernelInIdeal.Gen.frame m g, fun m g _ => quiet_reference_in m g,
    fun m g _ => Cert.KernelDfIn.Gen.frame m g, fun m g _ => Cert.KernelDfInIdeal.Gen.frame m g, fun m g _ => quiet_reference_dfin m g,
    fun m g _ => Cert.KernelOutN.Gen.frame m g, fun m g _ => Cert.KernelOutNIdeal.Gen.frame m g, fun m g _ => quiet_reference_outn m g,
    fun m g _ => Cert.KernelInP.Gen.frame m g, fun m g _ => Cert.KernelInPIdeal.Gen.frame m g, fun m g _ => quiet_reference_inp m g,
    fun m g _ => Cert.KernelDf.Own.quiet m g, fun m g _ => Cert.KernelDfIdeal.Own.quiet m g, fun m g _ => quiet_reference_df m g,
    named, same, trivial, same_out, trivial, same_in, trivial, same_dfin, trivial, same_outn, trivial, same_inp, IdealRules.named_const.statement Cert.KernelDfIdeal.κ "vanish" .f32 0xF149F2CA#32 _ rfl⟩

end Cert.Proof

end
